-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_fox [hPre_finite_fox : Cert.Pre_finite_fox.Facts] (m : (ℓ : Loc Cert.FoxIdeal.nD Cert.FoxIdeal.τ Cert.FoxIdeal.sig) → Buf (Elt Ideal) ℓ) : Prop :=
  ∀ c : Dev Cert.FoxIdeal.nD,
    (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))).1 = (fun _ => 1#1)
    ∧ (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))).2.1 = (fun _ => 1#1)
    ∧ (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))).2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_fox [hPre_finite_fox : Cert.Pre_finite_fox.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))).1 = (fun _ => 1#1)
    ∧ (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))).2.1 = (fun _ => 1#1)
    ∧ (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))).2.2 = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_finite_dact [hPre_finite_dact : Cert.Pre_finite_dact.Facts] (m : (ℓ : Loc Cert.DactIdeal.nD Cert.DactIdeal.τ Cert.DactIdeal.sig) → Buf (Elt Ideal) ℓ) : Prop :=
  ∀ c : Dev Cert.DactIdeal.nD,
    (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).1 = (fun _ => 1#1)
    ∧ (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.1 = (fun _ => 1#1)
    ∧ (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.2.1 = (fun _ => 1#1)
    ∧ (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.2.2 = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_finite_dact [hPre_finite_dact : Cert.Pre_finite_dact.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_finite_dact.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).1 = (fun _ => 1#1)
    ∧ (Cert.Pre_finite_dact.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.1 = (fun _ => 1#1)
    ∧ (Cert.Pre_finite_dact.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.2.1 = (fun _ => 1#1)
    ∧ (Cert.Pre_finite_dact.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.2.2 = (fun _ => 1#1)

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackRefIdeal (m : (ℓ : Loc Cert.BackRefIdeal.nD Cert.BackRefIdeal.τ Cert.BackRefIdeal.sig) → Buf (Elt Ideal) ℓ) : Prop :=
  True

def Pre_BackFull (m : (ℓ : Loc Cert.BackFull.nD Cert.BackFull.τ Cert.BackFull.sig) → Buf (Elt Bits) ℓ) : Prop :=
  True

def Pre_BackFullIdeal (m : (ℓ : Loc Cert.BackFullIdeal.nD Cert.BackFullIdeal.τ Cert.BackFullIdeal.sig) → Buf (Elt Ideal) ℓ) : Prop :=
  True

def Pre_BackFullRefIdeal (m : (ℓ : Loc Cert.BackFullRefIdeal.nD Cert.BackFullRefIdeal.τ Cert.BackFullRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_QkvWgrad (m : (ℓ : Loc Cert.QkvWgrad.nD Cert.QkvWgrad.τ Cert.QkvWgrad.sig) → Buf (Elt Bits) ℓ) : Prop :=
  True

def Pre_QkvWgradIdeal (m : (ℓ : Loc Cert.QkvWgradIdeal.nD Cert.QkvWgradIdeal.τ Cert.QkvWgradIdeal.sig) → Buf (Elt Ideal) ℓ) : Prop :=
  True

def Pre_QkvWgradRefIdeal (m : (ℓ : Loc Cert.QkvWgradRefIdeal.nD Cert.QkvWgradRefIdeal.τ Cert.QkvWgradRefIdeal.sig) → Buf (Elt Ideal) ℓ) : Prop :=
  True

def Pre_QkvBack (m : (ℓ : Loc Cert.QkvBack.nD Cert.QkvBack.τ Cert.QkvBack.sig) → Buf (Elt Bits) ℓ) : Prop :=
  True

def Pre_QkvBackIdeal (m : (ℓ : Loc Cert.QkvBackIdeal.nD Cert.QkvBackIdeal.τ Cert.QkvBackIdeal.sig) → Buf (Elt Ideal) ℓ) : Prop :=
  True

def Pre_QkvBackRefIdeal (m : (ℓ : Loc Cert.QkvBackRefIdeal.nD Cert.QkvBackRefIdeal.τ Cert.QkvBackRefIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def Pre_EvenWgrad (m : (ℓ : Loc Cert.EvenWgrad.nD Cert.EvenWgrad.τ Cert.EvenWgrad.sig) → Buf (Elt Bits) ℓ) : Prop :=
  True

def Pre_EvenWgradIdeal (m : (ℓ : Loc Cert.EvenWgradIdeal.nD Cert.EvenWgradIdeal.τ Cert.EvenWgradIdeal.sig) → Buf (Elt Ideal) ℓ) : Prop :=
  True

def Pre_EvenWgradRefIdeal (m : (ℓ : Loc Cert.EvenWgradRefIdeal.nD Cert.EvenWgradRefIdeal.τ Cert.EvenWgradRefIdeal.sig) → Buf (Elt Ideal) ℓ) : Prop :=
  True

def Pre_EvenBack (m : (ℓ : Loc Cert.EvenBack.nD Cert.EvenBack.τ Cert.EvenBack.sig) → Buf (Elt Bits) ℓ) : Prop :=
  True

def Pre_EvenBackIdeal (m : (ℓ : Loc Cert.EvenBackIdeal.nD Cert.EvenBackIdeal.τ Cert.EvenBackIdeal.sig) → Buf (Elt Ideal) ℓ) : Prop :=
  True

def Pre_EvenBackRefIdeal (m : (ℓ : Loc Cert.EvenBackRefIdeal.nD Cert.EvenBackRefIdeal.τ Cert.EvenBackRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_MemoryWgrad (m : (ℓ : Loc Cert.MemoryWgrad.nD Cert.MemoryWgrad.τ Cert.MemoryWgrad.sig) → Buf (Elt Bits) ℓ) : Prop :=
  True

def Pre_MemoryWgradIdeal (m : (ℓ : Loc Cert.MemoryWgradIdeal.nD Cert.MemoryWgradIdeal.τ Cert.MemoryWgradIdeal.sig) → Buf (Elt Ideal) ℓ) : Prop :=
  True

def Pre_MemoryWgradRefIdeal (m : (ℓ : Loc Cert.MemoryWgradRefIdeal.nD Cert.MemoryWgradRefIdeal.τ Cert.MemoryWgradRefIdeal.sig) → Buf (Elt Ideal) ℓ) : Prop :=
  True

def Pre_MemoryBack (m : (ℓ : Loc Cert.MemoryBack.nD Cert.MemoryBack.τ Cert.MemoryBack.sig) → Buf (Elt Bits) ℓ) : Prop :=
  True

def Pre_MemoryBackIdeal (m : (ℓ : Loc Cert.MemoryBackIdeal.nD Cert.MemoryBackIdeal.τ Cert.MemoryBackIdeal.sig) → Buf (Elt Ideal) ℓ) : Prop :=
  True

def Pre_MemoryBackRefIdeal (m : (ℓ : Loc Cert.MemoryBackRefIdeal.nD Cert.MemoryBackRefIdeal.τ Cert.MemoryBackRefIdeal.sig) → Buf (Elt Ideal) ℓ) : Prop :=
  True

def Pre_Decay (m : (ℓ : Loc Cert.Decay.nD Cert.Decay.τ Cert.Decay.sig) → Buf (Elt Bits) ℓ) : Prop :=
  True

def Pre_DecayIdeal (m : (ℓ : Loc Cert.DecayIdeal.nD Cert.DecayIdeal.τ Cert.DecayIdeal.sig) → Buf (Elt Ideal) ℓ) : Prop :=
  True

def Pre_DecayRefIdeal (m : (ℓ : Loc Cert.DecayRefIdeal.nD Cert.DecayRefIdeal.τ Cert.DecayRefIdeal.sig) → Buf (Elt Ideal) ℓ) : Prop :=
  True

def Pre_DecayWgrad (m : (ℓ : Loc Cert.DecayWgrad.nD Cert.DecayWgrad.τ Cert.DecayWgrad.sig) → Buf (Elt Bits) ℓ) : Prop :=
  True

def Pre_DecayWgradIdeal (m : (ℓ : Loc Cert.DecayWgradIdeal.nD Cert.DecayWgradIdeal.τ Cert.DecayWgradIdeal.sig) → Buf (Elt Ideal) ℓ) : Prop :=
  True

def Pre_DecayWgradRefIdeal (m : (ℓ : Loc Cert.DecayWgradRefIdeal.nD Cert.DecayWgradRefIdeal.τ Cert.DecayWgradRefIdeal.sig) → Buf (Elt Ideal) ℓ) : Prop :=
  True

def Pre_DecayBack (m : (ℓ : Loc Cert.DecayBack.nD Cert.DecayBack.τ Cert.DecayBack.sig) → Buf (Elt Bits) ℓ) : Prop :=
  True

def Pre_DecayBackIdeal (m : (ℓ : Loc Cert.DecayBackIdeal.nD Cert.DecayBackIdeal.τ Cert.DecayBackIdeal.sig) → Buf (Elt Ideal) ℓ) : Prop :=
  True

def Pre_DecayBackRefIdeal (m : (ℓ : Loc Cert.DecayBackRefIdeal.nD Cert.DecayBackRefIdeal.τ Cert.DecayBackRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxIdeal_pre_finite_fox [hFoxIdeal : Cert.FoxIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_fox m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_FoxRefIdeal_pre_finite_fox [hFoxRefIdeal : Cert.FoxRefIdeal.Facts] [hPre_finite_fox : Cert.Pre_finite_fox.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_fox m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactIdeal_pre_finite_dact [hDactIdeal : Cert.DactIdeal.Facts] [hPre_finite_dact : Cert.Pre_finite_dact.Facts] : Prop :=
  ∀ (m : (ℓ : Loc Cert.DactIdeal.nD Cert.DactIdeal.τ Cert.DactIdeal.sig) → Buf (Elt Ideal) ℓ) (g : Dev Cert.DactIdeal.nD → PrngReg), Pre_DactIdeal_finite_dact m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_DactRefIdeal_pre_finite_dact [hDactRefIdeal : Cert.DactRefIdeal.Facts] [hPre_finite_dact : Cert.Pre_finite_dact.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_finite_dact m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1))
      ∧ r.2.sem = fun _ => 0)

def quiescent_BackFull [hBackFull : Cert.BackFull.Facts] : Prop :=
  ∀ (m : (ℓ : Loc Cert.BackFull.nD Cert.BackFull.τ Cert.BackFull.sig) → Buf (Elt Bits) ℓ) (g : Dev Cert.BackFull.nD → PrngReg), Pre_BackFull m →
    θ_run (Cert.BackFull.defs (F := Bits)) (onTc (τ := Cert.BackFull.τ) (Cert.BackFull.main (F := Bits))) ⟨m, fun _ => 0, g⟩ (fun r => (∀ c : Dev Cert.BackFull.nD,
      r.2.mem ((c.tc : Thread Cert.BackFull.nD Cert.BackFull.τ).loc Cert.BackFull.main_arg0) = m ((c.tc : Thread Cert.BackFull.nD Cert.BackFull.τ).loc Cert.BackFull.main_arg0)
      ∧ r.2.mem ((c.tc : Thread Cert.BackFull.nD Cert.BackFull.τ).loc Cert.BackFull.main_arg1) = m ((c.tc : Thread Cert.BackFull.nD Cert.BackFull.τ).loc Cert.BackFull.main_arg1))
      ∧ r.2.sem = fun _ => 0)

def quiescent_BackFullIdeal [hBackFullIdeal : Cert.BackFullIdeal.Facts] : Prop :=
  ∀ (m : (ℓ : Loc Cert.BackFullIdeal.nD Cert.BackFullIdeal.τ Cert.BackFullIdeal.sig) → Buf (Elt Ideal) ℓ) (g : Dev Cert.BackFullIdeal.nD → PrngReg), Pre_BackFullIdeal m →
    θ_run (Cert.BackFullIdeal.defs (F := Ideal)) (onTc (τ := Cert.BackFullIdeal.τ) (Cert.BackFullIdeal.main (F := Ideal))) ⟨m, fun _ => 0, g⟩ (fun r => (∀ c : Dev Cert.BackFullIdeal.nD,
      r.2.mem ((c.tc : Thread Cert.BackFullIdeal.nD Cert.BackFullIdeal.τ).loc Cert.BackFullIdeal.main_arg0) = m ((c.tc : Thread Cert.BackFullIdeal.nD Cert.BackFullIdeal.τ).loc Cert.BackFullIdeal.main_arg0)
      ∧ r.2.mem ((c.tc : Thread Cert.BackFullIdeal.nD Cert.BackFullIdeal.τ).loc Cert.BackFullIdeal.main_arg1) = m ((c.tc : Thread Cert.BackFullIdeal.nD Cert.BackFullIdeal.τ).loc Cert.BackFullIdeal.main_arg1))
      ∧ r.2.sem = fun _ => 0)

def quiescent_BackFullRefIdeal [hBackFullRefIdeal : Cert.BackFullRefIdeal.Facts] : Prop :=
  ∀ (m : (ℓ : Loc Cert.BackFullRefIdeal.nD Cert.BackFullRefIdeal.τ Cert.BackFullRefIdeal.sig) → Buf (Elt Ideal) ℓ) (g : Dev Cert.BackFullRefIdeal.nD → PrngReg), Pre_BackFullRefIdeal m →
    θ_run (Cert.BackFullRefIdeal.defs (F := Ideal)) (onTc (τ := Cert.BackFullRefIdeal.τ) (Cert.BackFullRefIdeal.main (F := Ideal))) ⟨m, fun _ => 0, g⟩ (fun r => (∀ c : Dev Cert.BackFullRefIdeal.nD,
      r.2.mem ((c.tc : Thread Cert.BackFullRefIdeal.nD Cert.BackFullRefIdeal.τ).loc Cert.BackFullRefIdeal.main_arg0) = m ((c.tc : Thread Cert.BackFullRefIdeal.nD Cert.BackFullRefIdeal.τ).loc Cert.BackFullRefIdeal.main_arg0)
      ∧ r.2.mem ((c.tc : Thread Cert.BackFullRefIdeal.nD Cert.BackFullRefIdeal.τ).loc Cert.BackFullRefIdeal.main_arg1) = m ((c.tc : Thread Cert.BackFullRefIdeal.nD Cert.BackFullRefIdeal.τ).loc Cert.BackFullRefIdeal.main_arg1))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_QkvWgrad [hQkvWgrad : Cert.QkvWgrad.Facts] : Prop :=
  ∀ (m : (ℓ : Loc Cert.QkvWgrad.nD Cert.QkvWgrad.τ Cert.QkvWgrad.sig) → Buf (Elt Bits) ℓ) (g : Dev Cert.QkvWgrad.nD → PrngReg), Pre_QkvWgrad m →
    θ_run (Cert.QkvWgrad.defs (F := Bits)) (onTc (τ := Cert.QkvWgrad.τ) (Cert.QkvWgrad.main (F := Bits))) ⟨m, fun _ => 0, g⟩ (fun r => (∀ c : Dev Cert.QkvWgrad.nD,
      r.2.mem ((c.tc : Thread Cert.QkvWgrad.nD Cert.QkvWgrad.τ).loc Cert.QkvWgrad.main_arg0) = m ((c.tc : Thread Cert.QkvWgrad.nD Cert.QkvWgrad.τ).loc Cert.QkvWgrad.main_arg0)
      ∧ r.2.mem ((c.tc : Thread Cert.QkvWgrad.nD Cert.QkvWgrad.τ).loc Cert.QkvWgrad.main_arg1) = m ((c.tc : Thread Cert.QkvWgrad.nD Cert.QkvWgrad.τ).loc Cert.QkvWgrad.main_arg1))
      ∧ r.2.sem = fun _ => 0)

def quiescent_QkvWgradIdeal [hQkvWgradIdeal : Cert.QkvWgradIdeal.Facts] : Prop :=
  ∀ (m : (ℓ : Loc Cert.QkvWgradIdeal.nD Cert.QkvWgradIdeal.τ Cert.QkvWgradIdeal.sig) → Buf (Elt Ideal) ℓ) (g : Dev Cert.QkvWgradIdeal.nD → PrngReg), Pre_QkvWgradIdeal m →
    θ_run (Cert.QkvWgradIdeal.defs (F := Ideal)) (onTc (τ := Cert.QkvWgradIdeal.τ) (Cert.QkvWgradIdeal.main (F := Ideal))) ⟨m, fun _ => 0, g⟩ (fun r => (∀ c : Dev Cert.QkvWgradIdeal.nD,
      r.2.mem ((c.tc : Thread Cert.QkvWgradIdeal.nD Cert.QkvWgradIdeal.τ).loc Cert.QkvWgradIdeal.main_arg0) = m ((c.tc : Thread Cert.QkvWgradIdeal.nD Cert.QkvWgradIdeal.τ).loc Cert.QkvWgradIdeal.main_arg0)
      ∧ r.2.mem ((c.tc : Thread Cert.QkvWgradIdeal.nD Cert.QkvWgradIdeal.τ).loc Cert.QkvWgradIdeal.main_arg1) = m ((c.tc : Thread Cert.QkvWgradIdeal.nD Cert.QkvWgradIdeal.τ).loc Cert.QkvWgradIdeal.main_arg1))
      ∧ r.2.sem = fun _ => 0)

def quiescent_QkvWgradRefIdeal [hQkvWgradRefIdeal : Cert.QkvWgradRefIdeal.Facts] : Prop :=
  ∀ (m : (ℓ : Loc Cert.QkvWgradRefIdeal.nD Cert.QkvWgradRefIdeal.τ Cert.QkvWgradRefIdeal.sig) → Buf (Elt Ideal) ℓ) (g : Dev Cert.QkvWgradRefIdeal.nD → PrngReg), Pre_QkvWgradRefIdeal m →
    θ_run (Cert.QkvWgradRefIdeal.defs (F := Ideal)) (onTc (τ := Cert.QkvWgradRefIdeal.τ) (Cert.QkvWgradRefIdeal.main (F := Ideal))) ⟨m, fun _ => 0, g⟩ (fun r => (∀ c : Dev Cert.QkvWgradRefIdeal.nD,
      r.2.mem ((c.tc : Thread Cert.QkvWgradRefIdeal.nD Cert.QkvWgradRefIdeal.τ).loc Cert.QkvWgradRefIdeal.main_arg0) = m ((c.tc : Thread Cert.QkvWgradRefIdeal.nD Cert.QkvWgradRefIdeal.τ).loc Cert.QkvWgradRefIdeal.main_arg0)
      ∧ r.2.mem ((c.tc : Thread Cert.QkvWgradRefIdeal.nD Cert.QkvWgradRefIdeal.τ).loc Cert.QkvWgradRefIdeal.main_arg1) = m ((c.tc : Thread Cert.QkvWgradRefIdeal.nD Cert.QkvWgradRefIdeal.τ).loc Cert.QkvWgradRefIdeal.main_arg1))
      ∧ r.2.sem = fun _ => 0)

def quiescent_QkvBack [hQkvBack : Cert.QkvBack.Facts] : Prop :=
  ∀ (m : (ℓ : Loc Cert.QkvBack.nD Cert.QkvBack.τ Cert.QkvBack.sig) → Buf (Elt Bits) ℓ) (g : Dev Cert.QkvBack.nD → PrngReg), Pre_QkvBack m →
    θ_run (Cert.QkvBack.defs (F := Bits)) (onTc (τ := Cert.QkvBack.τ) (Cert.QkvBack.main (F := Bits))) ⟨m, fun _ => 0, g⟩ (fun r => (∀ c : Dev Cert.QkvBack.nD,
      r.2.mem ((c.tc : Thread Cert.QkvBack.nD Cert.QkvBack.τ).loc Cert.QkvBack.main_arg0) = m ((c.tc : Thread Cert.QkvBack.nD Cert.QkvBack.τ).loc Cert.QkvBack.main_arg0)
      ∧ r.2.mem ((c.tc : Thread Cert.QkvBack.nD Cert.QkvBack.τ).loc Cert.QkvBack.main_arg1) = m ((c.tc : Thread Cert.QkvBack.nD Cert.QkvBack.τ).loc Cert.QkvBack.main_arg1))
      ∧ r.2.sem = fun _ => 0)

def quiescent_QkvBackIdeal [hQkvBackIdeal : Cert.QkvBackIdeal.Facts] : Prop :=
  ∀ (m : (ℓ : Loc Cert.QkvBackIdeal.nD Cert.QkvBackIdeal.τ Cert.QkvBackIdeal.sig) → Buf (Elt Ideal) ℓ) (g : Dev Cert.QkvBackIdeal.nD → PrngReg), Pre_QkvBackIdeal m →
    θ_run (Cert.QkvBackIdeal.defs (F := Ideal)) (onTc (τ := Cert.QkvBackIdeal.τ) (Cert.QkvBackIdeal.main (F := Ideal))) ⟨m, fun _ => 0, g⟩ (fun r => (∀ c : Dev Cert.QkvBackIdeal.nD,
      r.2.mem ((c.tc : Thread Cert.QkvBackIdeal.nD Cert.QkvBackIdeal.τ).loc Cert.QkvBackIdeal.main_arg0) = m ((c.tc : Thread Cert.QkvBackIdeal.nD Cert.QkvBackIdeal.τ).loc Cert.QkvBackIdeal.main_arg0)
      ∧ r.2.mem ((c.tc : Thread Cert.QkvBackIdeal.nD Cert.QkvBackIdeal.τ).loc Cert.QkvBackIdeal.main_arg1) = m ((c.tc : Thread Cert.QkvBackIdeal.nD Cert.QkvBackIdeal.τ).loc Cert.QkvBackIdeal.main_arg1))
      ∧ r.2.sem = fun _ => 0)

def quiescent_QkvBackRefIdeal [hQkvBackRefIdeal : Cert.QkvBackRefIdeal.Facts] : Prop :=
  ∀ (m : (ℓ : Loc Cert.QkvBackRefIdeal.nD Cert.QkvBackRefIdeal.τ Cert.QkvBackRefIdeal.sig) → Buf (Elt Ideal) ℓ) (g : Dev Cert.QkvBackRefIdeal.nD → PrngReg), Pre_QkvBackRefIdeal m →
    θ_run (Cert.QkvBackRefIdeal.defs (F := Ideal)) (onTc (τ := Cert.QkvBackRefIdeal.τ) (Cert.QkvBackRefIdeal.main (F := Ideal))) ⟨m, fun _ => 0, g⟩ (fun r => (∀ c : Dev Cert.QkvBackRefIdeal.nD,
      r.2.mem ((c.tc : Thread Cert.QkvBackRefIdeal.nD Cert.QkvBackRefIdeal.τ).loc Cert.QkvBackRefIdeal.main_arg0) = m ((c.tc : Thread Cert.QkvBackRefIdeal.nD Cert.QkvBackRefIdeal.τ).loc Cert.QkvBackRefIdeal.main_arg0)
      ∧ r.2.mem ((c.tc : Thread Cert.QkvBackRefIdeal.nD Cert.QkvBackRefIdeal.τ).loc Cert.QkvBackRefIdeal.main_arg1) = m ((c.tc : Thread Cert.QkvBackRefIdeal.nD Cert.QkvBackRefIdeal.τ).loc Cert.QkvBackRefIdeal.main_arg1))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1))
      ∧ r.2.sem = fun _ => 0)

def quiescent_EvenWgrad [hEvenWgrad : Cert.EvenWgrad.Facts] : Prop :=
  ∀ (m : (ℓ : Loc Cert.EvenWgrad.nD Cert.EvenWgrad.τ Cert.EvenWgrad.sig) → Buf (Elt Bits) ℓ) (g : Dev Cert.EvenWgrad.nD → PrngReg), Pre_EvenWgrad m →
    θ_run (Cert.EvenWgrad.defs (F := Bits)) (onTc (τ := Cert.EvenWgrad.τ) (Cert.EvenWgrad.main (F := Bits))) ⟨m, fun _ => 0, g⟩ (fun r => (∀ c : Dev Cert.EvenWgrad.nD,
      r.2.mem ((c.tc : Thread Cert.EvenWgrad.nD Cert.EvenWgrad.τ).loc Cert.EvenWgrad.main_arg0) = m ((c.tc : Thread Cert.EvenWgrad.nD Cert.EvenWgrad.τ).loc Cert.EvenWgrad.main_arg0)
      ∧ r.2.mem ((c.tc : Thread Cert.EvenWgrad.nD Cert.EvenWgrad.τ).loc Cert.EvenWgrad.main_arg1) = m ((c.tc : Thread Cert.EvenWgrad.nD Cert.EvenWgrad.τ).loc Cert.EvenWgrad.main_arg1))
      ∧ r.2.sem = fun _ => 0)

def quiescent_EvenWgradIdeal [hEvenWgradIdeal : Cert.EvenWgradIdeal.Facts] : Prop :=
  ∀ (m : (ℓ : Loc Cert.EvenWgradIdeal.nD Cert.EvenWgradIdeal.τ Cert.EvenWgradIdeal.sig) → Buf (Elt Ideal) ℓ) (g : Dev Cert.EvenWgradIdeal.nD → PrngReg), Pre_EvenWgradIdeal m →
    θ_run (Cert.EvenWgradIdeal.defs (F := Ideal)) (onTc (τ := Cert.EvenWgradIdeal.τ) (Cert.EvenWgradIdeal.main (F := Ideal))) ⟨m, fun _ => 0, g⟩ (fun r => (∀ c : Dev Cert.EvenWgradIdeal.nD,
      r.2.mem ((c.tc : Thread Cert.EvenWgradIdeal.nD Cert.EvenWgradIdeal.τ).loc Cert.EvenWgradIdeal.main_arg0) = m ((c.tc : Thread Cert.EvenWgradIdeal.nD Cert.EvenWgradIdeal.τ).loc Cert.EvenWgradIdeal.main_arg0)
      ∧ r.2.mem ((c.tc : Thread Cert.EvenWgradIdeal.nD Cert.EvenWgradIdeal.τ).loc Cert.EvenWgradIdeal.main_arg1) = m ((c.tc : Thread Cert.EvenWgradIdeal.nD Cert.EvenWgradIdeal.τ).loc Cert.EvenWgradIdeal.main_arg1))
      ∧ r.2.sem = fun _ => 0)

def quiescent_EvenWgradRefIdeal [hEvenWgradRefIdeal : Cert.EvenWgradRefIdeal.Facts] : Prop :=
  ∀ (m : (ℓ : Loc Cert.EvenWgradRefIdeal.nD Cert.EvenWgradRefIdeal.τ Cert.EvenWgradRefIdeal.sig) → Buf (Elt Ideal) ℓ) (g : Dev Cert.EvenWgradRefIdeal.nD → PrngReg), Pre_EvenWgradRefIdeal m →
    θ_run (Cert.EvenWgradRefIdeal.defs (F := Ideal)) (onTc (τ := Cert.EvenWgradRefIdeal.τ) (Cert.EvenWgradRefIdeal.main (F := Ideal))) ⟨m, fun _ => 0, g⟩ (fun r => (∀ c : Dev Cert.EvenWgradRefIdeal.nD,
      r.2.mem ((c.tc : Thread Cert.EvenWgradRefIdeal.nD Cert.EvenWgradRefIdeal.τ).loc Cert.EvenWgradRefIdeal.main_arg0) = m ((c.tc : Thread Cert.EvenWgradRefIdeal.nD Cert.EvenWgradRefIdeal.τ).loc Cert.EvenWgradRefIdeal.main_arg0)
      ∧ r.2.mem ((c.tc : Thread Cert.EvenWgradRefIdeal.nD Cert.EvenWgradRefIdeal.τ).loc Cert.EvenWgradRefIdeal.main_arg1) = m ((c.tc : Thread Cert.EvenWgradRefIdeal.nD Cert.EvenWgradRefIdeal.τ).loc Cert.EvenWgradRefIdeal.main_arg1))
      ∧ r.2.sem = fun _ => 0)

def quiescent_EvenBack [hEvenBack : Cert.EvenBack.Facts] : Prop :=
  ∀ (m : (ℓ : Loc Cert.EvenBack.nD Cert.EvenBack.τ Cert.EvenBack.sig) → Buf (Elt Bits) ℓ) (g : Dev Cert.EvenBack.nD → PrngReg), Pre_EvenBack m →
    θ_run (Cert.EvenBack.defs (F := Bits)) (onTc (τ := Cert.EvenBack.τ) (Cert.EvenBack.main (F := Bits))) ⟨m, fun _ => 0, g⟩ (fun r => (∀ c : Dev Cert.EvenBack.nD,
      r.2.mem ((c.tc : Thread Cert.EvenBack.nD Cert.EvenBack.τ).loc Cert.EvenBack.main_arg0) = m ((c.tc : Thread Cert.EvenBack.nD Cert.EvenBack.τ).loc Cert.EvenBack.main_arg0)
      ∧ r.2.mem ((c.tc : Thread Cert.EvenBack.nD Cert.EvenBack.τ).loc Cert.EvenBack.main_arg1) = m ((c.tc : Thread Cert.EvenBack.nD Cert.EvenBack.τ).loc Cert.EvenBack.main_arg1))
      ∧ r.2.sem = fun _ => 0)

def quiescent_EvenBackIdeal [hEvenBackIdeal : Cert.EvenBackIdeal.Facts] : Prop :=
  ∀ (m : (ℓ : Loc Cert.EvenBackIdeal.nD Cert.EvenBackIdeal.τ Cert.EvenBackIdeal.sig) → Buf (Elt Ideal) ℓ) (g : Dev Cert.EvenBackIdeal.nD → PrngReg), Pre_EvenBackIdeal m →
    θ_run (Cert.EvenBackIdeal.defs (F := Ideal)) (onTc (τ := Cert.EvenBackIdeal.τ) (Cert.EvenBackIdeal.main (F := Ideal))) ⟨m, fun _ => 0, g⟩ (fun r => (∀ c : Dev Cert.EvenBackIdeal.nD,
      r.2.mem ((c.tc : Thread Cert.EvenBackIdeal.nD Cert.EvenBackIdeal.τ).loc Cert.EvenBackIdeal.main_arg0) = m ((c.tc : Thread Cert.EvenBackIdeal.nD Cert.EvenBackIdeal.τ).loc Cert.EvenBackIdeal.main_arg0)
      ∧ r.2.mem ((c.tc : Thread Cert.EvenBackIdeal.nD Cert.EvenBackIdeal.τ).loc Cert.EvenBackIdeal.main_arg1) = m ((c.tc : Thread Cert.EvenBackIdeal.nD Cert.EvenBackIdeal.τ).loc Cert.EvenBackIdeal.main_arg1))
      ∧ r.2.sem = fun _ => 0)

def quiescent_EvenBackRefIdeal [hEvenBackRefIdeal : Cert.EvenBackRefIdeal.Facts] : Prop :=
  ∀ (m : (ℓ : Loc Cert.EvenBackRefIdeal.nD Cert.EvenBackRefIdeal.τ Cert.EvenBackRefIdeal.sig) → Buf (Elt Ideal) ℓ) (g : Dev Cert.EvenBackRefIdeal.nD → PrngReg), Pre_EvenBackRefIdeal m →
    θ_run (Cert.EvenBackRefIdeal.defs (F := Ideal)) (onTc (τ := Cert.EvenBackRefIdeal.τ) (Cert.EvenBackRefIdeal.main (F := Ideal))) ⟨m, fun _ => 0, g⟩ (fun r => (∀ c : Dev Cert.EvenBackRefIdeal.nD,
      r.2.mem ((c.tc : Thread Cert.EvenBackRefIdeal.nD Cert.EvenBackRefIdeal.τ).loc Cert.EvenBackRefIdeal.main_arg0) = m ((c.tc : Thread Cert.EvenBackRefIdeal.nD Cert.EvenBackRefIdeal.τ).loc Cert.EvenBackRefIdeal.main_arg0)
      ∧ r.2.mem ((c.tc : Thread Cert.EvenBackRefIdeal.nD Cert.EvenBackRefIdeal.τ).loc Cert.EvenBackRefIdeal.main_arg1) = m ((c.tc : Thread Cert.EvenBackRefIdeal.nD Cert.EvenBackRefIdeal.τ).loc Cert.EvenBackRefIdeal.main_arg1))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1))
      ∧ r.2.sem = fun _ => 0)

def quiescent_MemoryWgrad [hMemoryWgrad : Cert.MemoryWgrad.Facts] : Prop :=
  ∀ (m : (ℓ : Loc Cert.MemoryWgrad.nD Cert.MemoryWgrad.τ Cert.MemoryWgrad.sig) → Buf (Elt Bits) ℓ) (g : Dev Cert.MemoryWgrad.nD → PrngReg), Pre_MemoryWgrad m →
    θ_run (Cert.MemoryWgrad.defs (F := Bits)) (onTc (τ := Cert.MemoryWgrad.τ) (Cert.MemoryWgrad.main (F := Bits))) ⟨m, fun _ => 0, g⟩ (fun r => (∀ c : Dev Cert.MemoryWgrad.nD,
      r.2.mem ((c.tc : Thread Cert.MemoryWgrad.nD Cert.MemoryWgrad.τ).loc Cert.MemoryWgrad.main_arg0) = m ((c.tc : Thread Cert.MemoryWgrad.nD Cert.MemoryWgrad.τ).loc Cert.MemoryWgrad.main_arg0)
      ∧ r.2.mem ((c.tc : Thread Cert.MemoryWgrad.nD Cert.MemoryWgrad.τ).loc Cert.MemoryWgrad.main_arg1) = m ((c.tc : Thread Cert.MemoryWgrad.nD Cert.MemoryWgrad.τ).loc Cert.MemoryWgrad.main_arg1))
      ∧ r.2.sem = fun _ => 0)

def quiescent_MemoryWgradIdeal [hMemoryWgradIdeal : Cert.MemoryWgradIdeal.Facts] : Prop :=
  ∀ (m : (ℓ : Loc Cert.MemoryWgradIdeal.nD Cert.MemoryWgradIdeal.τ Cert.MemoryWgradIdeal.sig) → Buf (Elt Ideal) ℓ) (g : Dev Cert.MemoryWgradIdeal.nD → PrngReg), Pre_MemoryWgradIdeal m →
    θ_run (Cert.MemoryWgradIdeal.defs (F := Ideal)) (onTc (τ := Cert.MemoryWgradIdeal.τ) (Cert.MemoryWgradIdeal.main (F := Ideal))) ⟨m, fun _ => 0, g⟩ (fun r => (∀ c : Dev Cert.MemoryWgradIdeal.nD,
      r.2.mem ((c.tc : Thread Cert.MemoryWgradIdeal.nD Cert.MemoryWgradIdeal.τ).loc Cert.MemoryWgradIdeal.main_arg0) = m ((c.tc : Thread Cert.MemoryWgradIdeal.nD Cert.MemoryWgradIdeal.τ).loc Cert.MemoryWgradIdeal.main_arg0)
      ∧ r.2.mem ((c.tc : Thread Cert.MemoryWgradIdeal.nD Cert.MemoryWgradIdeal.τ).loc Cert.MemoryWgradIdeal.main_arg1) = m ((c.tc : Thread Cert.MemoryWgradIdeal.nD Cert.MemoryWgradIdeal.τ).loc Cert.MemoryWgradIdeal.main_arg1))
      ∧ r.2.sem = fun _ => 0)

def quiescent_MemoryWgradRefIdeal [hMemoryWgradRefIdeal : Cert.MemoryWgradRefIdeal.Facts] : Prop :=
  ∀ (m : (ℓ : Loc Cert.MemoryWgradRefIdeal.nD Cert.MemoryWgradRefIdeal.τ Cert.MemoryWgradRefIdeal.sig) → Buf (Elt Ideal) ℓ) (g : Dev Cert.MemoryWgradRefIdeal.nD → PrngReg), Pre_MemoryWgradRefIdeal m →
    θ_run (Cert.MemoryWgradRefIdeal.defs (F := Ideal)) (onTc (τ := Cert.MemoryWgradRefIdeal.τ) (Cert.MemoryWgradRefIdeal.main (F := Ideal))) ⟨m, fun _ => 0, g⟩ (fun r => (∀ c : Dev Cert.MemoryWgradRefIdeal.nD,
      r.2.mem ((c.tc : Thread Cert.MemoryWgradRefIdeal.nD Cert.MemoryWgradRefIdeal.τ).loc Cert.MemoryWgradRefIdeal.main_arg0) = m ((c.tc : Thread Cert.MemoryWgradRefIdeal.nD Cert.MemoryWgradRefIdeal.τ).loc Cert.MemoryWgradRefIdeal.main_arg0)
      ∧ r.2.mem ((c.tc : Thread Cert.MemoryWgradRefIdeal.nD Cert.MemoryWgradRefIdeal.τ).loc Cert.MemoryWgradRefIdeal.main_arg1) = m ((c.tc : Thread Cert.MemoryWgradRefIdeal.nD Cert.MemoryWgradRefIdeal.τ).loc Cert.MemoryWgradRefIdeal.main_arg1))
      ∧ r.2.sem = fun _ => 0)

def quiescent_MemoryBack [hMemoryBack : Cert.MemoryBack.Facts] : Prop :=
  ∀ (m : (ℓ : Loc Cert.MemoryBack.nD Cert.MemoryBack.τ Cert.MemoryBack.sig) → Buf (Elt Bits) ℓ) (g : Dev Cert.MemoryBack.nD → PrngReg), Pre_MemoryBack m →
    θ_run (Cert.MemoryBack.defs (F := Bits)) (onTc (τ := Cert.MemoryBack.τ) (Cert.MemoryBack.main (F := Bits))) ⟨m, fun _ => 0, g⟩ (fun r => (∀ c : Dev Cert.MemoryBack.nD,
      r.2.mem ((c.tc : Thread Cert.MemoryBack.nD Cert.MemoryBack.τ).loc Cert.MemoryBack.main_arg0) = m ((c.tc : Thread Cert.MemoryBack.nD Cert.MemoryBack.τ).loc Cert.MemoryBack.main_arg0)
      ∧ r.2.mem ((c.tc : Thread Cert.MemoryBack.nD Cert.MemoryBack.τ).loc Cert.MemoryBack.main_arg1) = m ((c.tc : Thread Cert.MemoryBack.nD Cert.MemoryBack.τ).loc Cert.MemoryBack.main_arg1))
      ∧ r.2.sem = fun _ => 0)

def quiescent_MemoryBackIdeal [hMemoryBackIdeal : Cert.MemoryBackIdeal.Facts] : Prop :=
  ∀ (m : (ℓ : Loc Cert.MemoryBackIdeal.nD Cert.MemoryBackIdeal.τ Cert.MemoryBackIdeal.sig) → Buf (Elt Ideal) ℓ) (g : Dev Cert.MemoryBackIdeal.nD → PrngReg), Pre_MemoryBackIdeal m →
    θ_run (Cert.MemoryBackIdeal.defs (F := Ideal)) (onTc (τ := Cert.MemoryBackIdeal.τ) (Cert.MemoryBackIdeal.main (F := Ideal))) ⟨m, fun _ => 0, g⟩ (fun r => (∀ c : Dev Cert.MemoryBackIdeal.nD,
      r.2.mem ((c.tc : Thread Cert.MemoryBackIdeal.nD Cert.MemoryBackIdeal.τ).loc Cert.MemoryBackIdeal.main_arg0) = m ((c.tc : Thread Cert.MemoryBackIdeal.nD Cert.MemoryBackIdeal.τ).loc Cert.MemoryBackIdeal.main_arg0)
      ∧ r.2.mem ((c.tc : Thread Cert.MemoryBackIdeal.nD Cert.MemoryBackIdeal.τ).loc Cert.MemoryBackIdeal.main_arg1) = m ((c.tc : Thread Cert.MemoryBackIdeal.nD Cert.MemoryBackIdeal.τ).loc Cert.MemoryBackIdeal.main_arg1))
      ∧ r.2.sem = fun _ => 0)

def quiescent_MemoryBackRefIdeal [hMemoryBackRefIdeal : Cert.MemoryBackRefIdeal.Facts] : Prop :=
  ∀ (m : (ℓ : Loc Cert.MemoryBackRefIdeal.nD Cert.MemoryBackRefIdeal.τ Cert.MemoryBackRefIdeal.sig) → Buf (Elt Ideal) ℓ) (g : Dev Cert.MemoryBackRefIdeal.nD → PrngReg), Pre_MemoryBackRefIdeal m →
    θ_run (Cert.MemoryBackRefIdeal.defs (F := Ideal)) (onTc (τ := Cert.MemoryBackRefIdeal.τ) (Cert.MemoryBackRefIdeal.main (F := Ideal))) ⟨m, fun _ => 0, g⟩ (fun r => (∀ c : Dev Cert.MemoryBackRefIdeal.nD,
      r.2.mem ((c.tc : Thread Cert.MemoryBackRefIdeal.nD Cert.MemoryBackRefIdeal.τ).loc Cert.MemoryBackRefIdeal.main_arg0) = m ((c.tc : Thread Cert.MemoryBackRefIdeal.nD Cert.MemoryBackRefIdeal.τ).loc Cert.MemoryBackRefIdeal.main_arg0)
      ∧ r.2.mem ((c.tc : Thread Cert.MemoryBackRefIdeal.nD Cert.MemoryBackRefIdeal.τ).loc Cert.MemoryBackRefIdeal.main_arg1) = m ((c.tc : Thread Cert.MemoryBackRefIdeal.nD Cert.MemoryBackRefIdeal.τ).loc Cert.MemoryBackRefIdeal.main_arg1))
      ∧ r.2.sem = fun _ => 0)

def quiescent_Decay [hDecay : Cert.Decay.Facts] : Prop :=
  ∀ (m : (ℓ : Loc Cert.Decay.nD Cert.Decay.τ Cert.Decay.sig) → Buf (Elt Bits) ℓ) (g : Dev Cert.Decay.nD → PrngReg), Pre_Decay m →
    θ_run (Cert.Decay.defs (F := Bits)) (onTc (τ := Cert.Decay.τ) (Cert.Decay.main (F := Bits))) ⟨m, fun _ => 0, g⟩ (fun r => (∀ c : Dev Cert.Decay.nD,
      r.2.mem ((c.tc : Thread Cert.Decay.nD Cert.Decay.τ).loc Cert.Decay.main_arg0) = m ((c.tc : Thread Cert.Decay.nD Cert.Decay.τ).loc Cert.Decay.main_arg0)
      ∧ r.2.mem ((c.tc : Thread Cert.Decay.nD Cert.Decay.τ).loc Cert.Decay.main_arg1) = m ((c.tc : Thread Cert.Decay.nD Cert.Decay.τ).loc Cert.Decay.main_arg1))
      ∧ r.2.sem = fun _ => 0)

def quiescent_DecayIdeal [hDecayIdeal : Cert.DecayIdeal.Facts] : Prop :=
  ∀ (m : (ℓ : Loc Cert.DecayIdeal.nD Cert.DecayIdeal.τ Cert.DecayIdeal.sig) → Buf (Elt Ideal) ℓ) (g : Dev Cert.DecayIdeal.nD → PrngReg), Pre_DecayIdeal m →
    θ_run (Cert.DecayIdeal.defs (F := Ideal)) (onTc (τ := Cert.DecayIdeal.τ) (Cert.DecayIdeal.main (F := Ideal))) ⟨m, fun _ => 0, g⟩ (fun r => (∀ c : Dev Cert.DecayIdeal.nD,
      r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
      ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1))
      ∧ r.2.sem = fun _ => 0)

def quiescent_DecayRefIdeal [hDecayRefIdeal : Cert.DecayRefIdeal.Facts] : Prop :=
  ∀ (m : (ℓ : Loc Cert.DecayRefIdeal.nD Cert.DecayRefIdeal.τ Cert.DecayRefIdeal.sig) → Buf (Elt Ideal) ℓ) (g : Dev Cert.DecayRefIdeal.nD → PrngReg), Pre_DecayRefIdeal m →
    θ_run (Cert.DecayRefIdeal.defs (F := Ideal)) (onTc (τ := Cert.DecayRefIdeal.τ) (Cert.DecayRefIdeal.main (F := Ideal))) ⟨m, fun _ => 0, g⟩ (fun r => (∀ c : Dev Cert.DecayRefIdeal.nD,
      r.2.mem ((c.tc : Thread Cert.DecayRefIdeal.nD Cert.DecayRefIdeal.τ).loc Cert.DecayRefIdeal.main_arg0) = m ((c.tc : Thread Cert.DecayRefIdeal.nD Cert.DecayRefIdeal.τ).loc Cert.DecayRefIdeal.main_arg0)
      ∧ r.2.mem ((c.tc : Thread Cert.DecayRefIdeal.nD Cert.DecayRefIdeal.τ).loc Cert.DecayRefIdeal.main_arg1) = m ((c.tc : Thread Cert.DecayRefIdeal.nD Cert.DecayRefIdeal.τ).loc Cert.DecayRefIdeal.main_arg1))
      ∧ r.2.sem = fun _ => 0)

def quiescent_DecayWgrad [hDecayWgrad : Cert.DecayWgrad.Facts] : Prop :=
  ∀ (m : (ℓ : Loc Cert.DecayWgrad.nD Cert.DecayWgrad.τ Cert.DecayWgrad.sig) → Buf (Elt Bits) ℓ) (g : Dev Cert.DecayWgrad.nD → PrngReg), Pre_DecayWgrad m →
    θ_run (Cert.DecayWgrad.defs (F := Bits)) (onTc (τ := Cert.DecayWgrad.τ) (Cert.DecayWgrad.main (F := Bits))) ⟨m, fun _ => 0, g⟩ (fun r => (∀ c : Dev Cert.DecayWgrad.nD,
      r.2.mem ((c.tc : Thread Cert.DecayWgrad.nD Cert.DecayWgrad.τ).loc Cert.DecayWgrad.main_arg0) = m ((c.tc : Thread Cert.DecayWgrad.nD Cert.DecayWgrad.τ).loc Cert.DecayWgrad.main_arg0)
      ∧ r.2.mem ((c.tc : Thread Cert.DecayWgrad.nD Cert.DecayWgrad.τ).loc Cert.DecayWgrad.main_arg1) = m ((c.tc : Thread Cert.DecayWgrad.nD Cert.DecayWgrad.τ).loc Cert.DecayWgrad.main_arg1))
      ∧ r.2.sem = fun _ => 0)

def quiescent_DecayWgradIdeal [hDecayWgradIdeal : Cert.DecayWgradIdeal.Facts] : Prop :=
  ∀ (m : (ℓ : Loc Cert.DecayWgradIdeal.nD Cert.DecayWgradIdeal.τ Cert.DecayWgradIdeal.sig) → Buf (Elt Ideal) ℓ) (g : Dev Cert.DecayWgradIdeal.nD → PrngReg), Pre_DecayWgradIdeal m →
    θ_run (Cert.DecayWgradIdeal.defs (F := Ideal)) (onTc (τ := Cert.DecayWgradIdeal.τ) (Cert.DecayWgradIdeal.main (F := Ideal))) ⟨m, fun _ => 0, g⟩ (fun r => (∀ c : Dev Cert.DecayWgradIdeal.nD,
      r.2.mem ((c.tc : Thread Cert.DecayWgradIdeal.nD Cert.DecayWgradIdeal.τ).loc Cert.DecayWgradIdeal.main_arg0) = m ((c.tc : Thread Cert.DecayWgradIdeal.nD Cert.DecayWgradIdeal.τ).loc Cert.DecayWgradIdeal.main_arg0)
      ∧ r.2.mem ((c.tc : Thread Cert.DecayWgradIdeal.nD Cert.DecayWgradIdeal.τ).loc Cert.DecayWgradIdeal.main_arg1) = m ((c.tc : Thread Cert.DecayWgradIdeal.nD Cert.DecayWgradIdeal.τ).loc Cert.DecayWgradIdeal.main_arg1))
      ∧ r.2.sem = fun _ => 0)

def quiescent_DecayWgradRefIdeal [hDecayWgradRefIdeal : Cert.DecayWgradRefIdeal.Facts] : Prop :=
  ∀ (m : (ℓ : Loc Cert.DecayWgradRefIdeal.nD Cert.DecayWgradRefIdeal.τ Cert.DecayWgradRefIdeal.sig) → Buf (Elt Ideal) ℓ) (g : Dev Cert.DecayWgradRefIdeal.nD → PrngReg), Pre_DecayWgradRefIdeal m →
    θ_run (Cert.DecayWgradRefIdeal.defs (F := Ideal)) (onTc (τ := Cert.DecayWgradRefIdeal.τ) (Cert.DecayWgradRefIdeal.main (F := Ideal))) ⟨m, fun _ => 0, g⟩ (fun r => (∀ c : Dev Cert.DecayWgradRefIdeal.nD,
      r.2.mem ((c.tc : Thread Cert.DecayWgradRefIdeal.nD Cert.DecayWgradRefIdeal.τ).loc Cert.DecayWgradRefIdeal.main_arg0) = m ((c.tc : Thread Cert.DecayWgradRefIdeal.nD Cert.DecayWgradRefIdeal.τ).loc Cert.DecayWgradRefIdeal.main_arg0)
      ∧ r.2.mem ((c.tc : Thread Cert.DecayWgradRefIdeal.nD Cert.DecayWgradRefIdeal.τ).loc Cert.DecayWgradRefIdeal.main_arg1) = m ((c.tc : Thread Cert.DecayWgradRefIdeal.nD Cert.DecayWgradRefIdeal.τ).loc Cert.DecayWgradRefIdeal.main_arg1))
      ∧ r.2.sem = fun _ => 0)

def quiescent_DecayBack [hDecayBack : Cert.DecayBack.Facts] : Prop :=
  ∀ (m : (ℓ : Loc Cert.DecayBack.nD Cert.DecayBack.τ Cert.DecayBack.sig) → Buf (Elt Bits) ℓ) (g : Dev Cert.DecayBack.nD → PrngReg), Pre_DecayBack m →
    θ_run (Cert.DecayBack.defs (F := Bits)) (onTc (τ := Cert.DecayBack.τ) (Cert.DecayBack.main (F := Bits))) ⟨m, fun _ => 0, g⟩ (fun r => (∀ c : Dev Cert.DecayBack.nD,
      r.2.mem ((c.tc : Thread Cert.DecayBack.nD Cert.DecayBack.τ).loc Cert.DecayBack.main_arg0) = m ((c.tc : Thread Cert.DecayBack.nD Cert.DecayBack.τ).loc Cert.DecayBack.main_arg0)
      ∧ r.2.mem ((c.tc : Thread Cert.DecayBack.nD Cert.DecayBack.τ).loc Cert.DecayBack.main_arg1) = m ((c.tc : Thread Cert.DecayBack.nD Cert.DecayBack.τ).loc Cert.DecayBack.main_arg1)
      ∧ r.2.mem ((c.tc : Thread Cert.DecayBack.nD Cert.DecayBack.τ).loc Cert.DecayBack.main_arg2) = m ((c.tc : Thread Cert.DecayBack.nD Cert.DecayBack.τ).loc Cert.DecayBack.main_arg2))
      ∧ r.2.sem = fun _ => 0)

def quiescent_DecayBackIdeal [hDecayBackIdeal : Cert.DecayBackIdeal.Facts] : Prop :=
  ∀ (m : (ℓ : Loc Cert.DecayBackIdeal.nD Cert.DecayBackIdeal.τ Cert.DecayBackIdeal.sig) → Buf (Elt Ideal) ℓ) (g : Dev Cert.DecayBackIdeal.nD → PrngReg), Pre_DecayBackIdeal m →
    θ_run (Cert.DecayBackIdeal.defs (F := Ideal)) (onTc (τ := Cert.DecayBackIdeal.τ) (Cert.DecayBackIdeal.main (F := Ideal))) ⟨m, fun _ => 0, g⟩ (fun r => (∀ c : Dev Cert.DecayBackIdeal.nD,
      r.2.mem ((c.tc : Thread Cert.DecayBackIdeal.nD Cert.DecayBackIdeal.τ).loc Cert.DecayBackIdeal.main_arg0) = m ((c.tc : Thread Cert.DecayBackIdeal.nD Cert.DecayBackIdeal.τ).loc Cert.DecayBackIdeal.main_arg0)
      ∧ r.2.mem ((c.tc : Thread Cert.DecayBackIdeal.nD Cert.DecayBackIdeal.τ).loc Cert.DecayBackIdeal.main_arg1) = m ((c.tc : Thread Cert.DecayBackIdeal.nD Cert.DecayBackIdeal.τ).loc Cert.DecayBackIdeal.main_arg1)
      ∧ r.2.mem ((c.tc : Thread Cert.DecayBackIdeal.nD Cert.DecayBackIdeal.τ).loc Cert.DecayBackIdeal.main_arg2) = m ((c.tc : Thread Cert.DecayBackIdeal.nD Cert.DecayBackIdeal.τ).loc Cert.DecayBackIdeal.main_arg2))
      ∧ r.2.sem = fun _ => 0)

def quiescent_DecayBackRefIdeal [hDecayBackRefIdeal : Cert.DecayBackRefIdeal.Facts] : Prop :=
  ∀ (m : (ℓ : Loc Cert.DecayBackRefIdeal.nD Cert.DecayBackRefIdeal.τ Cert.DecayBackRefIdeal.sig) → Buf (Elt Ideal) ℓ) (g : Dev Cert.DecayBackRefIdeal.nD → PrngReg), Pre_DecayBackRefIdeal m →
    θ_run (Cert.DecayBackRefIdeal.defs (F := Ideal)) (onTc (τ := Cert.DecayBackRefIdeal.τ) (Cert.DecayBackRefIdeal.main (F := Ideal))) ⟨m, fun _ => 0, g⟩ (fun r => (∀ c : Dev Cert.DecayBackRefIdeal.nD,
      r.2.mem ((c.tc : Thread Cert.DecayBackRefIdeal.nD Cert.DecayBackRefIdeal.τ).loc Cert.DecayBackRefIdeal.main_arg0) = m ((c.tc : Thread Cert.DecayBackRefIdeal.nD Cert.DecayBackRefIdeal.τ).loc Cert.DecayBackRefIdeal.main_arg0)
      ∧ r.2.mem ((c.tc : Thread Cert.DecayBackRefIdeal.nD Cert.DecayBackRefIdeal.τ).loc Cert.DecayBackRefIdeal.main_arg1) = m ((c.tc : Thread Cert.DecayBackRefIdeal.nD Cert.DecayBackRefIdeal.τ).loc Cert.DecayBackRefIdeal.main_arg1)
      ∧ r.2.mem ((c.tc : Thread Cert.DecayBackRefIdeal.nD Cert.DecayBackRefIdeal.τ).loc Cert.DecayBackRefIdeal.main_arg2) = m ((c.tc : Thread Cert.DecayBackRefIdeal.nD Cert.DecayBackRefIdeal.τ).loc Cert.DecayBackRefIdeal.main_arg2))
      ∧ r.2.sem = fun _ => 0)

def preserves_Fox_FoxIdeal : Prop :=
  True

def algebraic_FoxIdeal_FoxRefIdeal_pre_finite_fox [hFoxIdeal : Cert.FoxIdeal.Facts] [hFoxRefIdeal : Cert.FoxRefIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_fox m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)) →
    ∃ (v0 : (c : Dev Cert.FoxIdeal.nD) → Buf (Elt Ideal) ((c.tc : Thread Cert.FoxIdeal.nD Cert.FoxIdeal.τ).loc Cert.FoxIdeal.main_v45_0)) (v1 : (c : Dev Cert.FoxIdeal.nD) → Buf (Elt Ideal) ((c.tc : Thread Cert.FoxIdeal.nD Cert.FoxIdeal.τ).loc Cert.FoxIdeal.main_v45_1)) (v2 : (c : Dev Cert.FoxIdeal.nD) → Buf (Elt Ideal) ((c.tc : Thread Cert.FoxIdeal.nD Cert.FoxIdeal.τ).loc Cert.FoxIdeal.main_v45_2)) (v3 : (c : Dev Cert.FoxIdeal.nD) → Buf (Elt Ideal) ((c.tc : Thread Cert.FoxIdeal.nD Cert.FoxIdeal.τ).loc Cert.FoxIdeal.main_v45_3)) (v4 : (c : Dev Cert.FoxIdeal.nD) → Buf (Elt Ideal) ((c.tc : Thread Cert.FoxIdeal.nD Cert.FoxIdeal.τ).loc Cert.FoxIdeal.main_v45_4)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v45_0) = v0 c
          ∧ r.2.mem ((c.tc : Thread Cert.FoxIdeal.nD Cert.FoxIdeal.τ).loc Cert.FoxIdeal.main_v45_1) = v1 c
          ∧ r.2.mem ((c.tc : Thread Cert.FoxIdeal.nD Cert.FoxIdeal.τ).loc Cert.FoxIdeal.main_v45_2) = v2 c
          ∧ r.2.mem ((c.tc : Thread Cert.FoxIdeal.nD Cert.FoxIdeal.τ).loc Cert.FoxIdeal.main_v45_3) = v3 c
          ∧ r.2.mem ((c.tc : Thread Cert.FoxIdeal.nD Cert.FoxIdeal.τ).loc Cert.FoxIdeal.main_v45_4) = v4 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v100) = v0 c
          ∧ r.2.mem ((c.tc : Thread Cert.FoxRefIdeal.nD Cert.FoxRefIdeal.τ).loc Cert.FoxRefIdeal.main_v102) = v1 c
          ∧ r.2.mem ((c.tc : Thread Cert.FoxRefIdeal.nD Cert.FoxRefIdeal.τ).loc Cert.FoxRefIdeal.main_v104) = v2 c
          ∧ r.2.mem ((c.tc : Thread Cert.FoxRefIdeal.nD Cert.FoxRefIdeal.τ).loc Cert.FoxRefIdeal.main_v106) = v3 c
          ∧ r.2.mem ((c.tc : Thread Cert.FoxRefIdeal.nD Cert.FoxRefIdeal.τ).loc Cert.FoxRefIdeal.main_v109) = v4 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2))

def preserves_Dact_DactIdeal : Prop :=
  True

def algebraic_DactIdeal_DactRefIdeal_pre_finite_dact [hDactIdeal : Cert.DactIdeal.Facts] [hDactRefIdeal : Cert.DactRefIdeal.Facts] [hPre_finite_dact : Cert.Pre_finite_dact.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_finite_dact m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v0_0)) (v1 : (c : Dev Cert.DactIdeal.nD) → Buf (Elt Ideal) ((c.tc : Thread Cert.DactIdeal.nD Cert.DactIdeal.τ).loc Cert.DactIdeal.main_v0_1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0_0) = v0 c
          ∧ r.2.mem ((c.tc : Thread Cert.DactIdeal.nD Cert.DactIdeal.τ).loc Cert.DactIdeal.main_v0_1) = v1 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v12) = v0 c
          ∧ r.2.mem ((c.tc : Thread Cert.DactRefIdeal.nD Cert.DactRefIdeal.τ).loc Cert.DactRefIdeal.main_v13) = v1 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v1)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v1) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v6) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def algebraic_DwIdeal_DwGateRefIdeal [hDwIdeal : Cert.DwIdeal.Facts] [hDwGateRefIdeal : Cert.DwGateRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwIdeal m →
    (∀ c : Dev Cert.DwIdeal.nD,
      m' ((c.tc : Thread Cert.DwGateRefIdeal.nD Cert.DwGateRefIdeal.τ).loc Cert.DwGateRefIdeal.main_arg0) = m ((c.tc : Thread Cert.DwIdeal.nD Cert.DwIdeal.τ).loc Cert.DwIdeal.main_arg0)
      ∧ m' ((c.tc : Thread Cert.DwGateRefIdeal.nD Cert.DwGateRefIdeal.τ).loc Cert.DwGateRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v1)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v1) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v7) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v13) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v9) = v0 c
          ∧ r.2.mem ((c.tc : Thread Cert.UpRefIdeal.nD Cert.UpRefIdeal.τ).loc Cert.UpRefIdeal.main_v10) = v1 c
          ∧ r.2.mem ((c.tc : Thread Cert.UpRefIdeal.nD Cert.UpRefIdeal.τ).loc Cert.UpRefIdeal.main_v11) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Back_BackIdeal : Prop :=
  True

def algebraic_BackIdeal_BackRefIdeal [hBackIdeal : Cert.BackIdeal.Facts] [hBackRefIdeal : Cert.BackRefIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)) →
    ∃ (v0 : (c : Dev Cert.BackIdeal.nD) → Buf (Elt Ideal) ((c.tc : Thread Cert.BackIdeal.nD Cert.BackIdeal.τ).loc Cert.BackIdeal.main_v0)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v6) = v0 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1))

def preserves_BackFull_BackFullIdeal : Prop :=
  True

def algebraic_BackFullIdeal_BackFullRefIdeal [hBackFullIdeal : Cert.BackFullIdeal.Facts] [hBackFullRefIdeal : Cert.BackFullRefIdeal.Facts] : Prop :=
  ∀ (m : (ℓ : Loc Cert.BackFullIdeal.nD Cert.BackFullIdeal.τ Cert.BackFullIdeal.sig) → Buf (Elt Ideal) ℓ) (g : Dev Cert.BackFullIdeal.nD → PrngReg)
    (m' : (ℓ : Loc Cert.BackFullRefIdeal.nD Cert.BackFullRefIdeal.τ Cert.BackFullRefIdeal.sig) → Buf (Elt Ideal) ℓ) (g' : Dev Cert.BackFullRefIdeal.nD → PrngReg), Pre_BackFullIdeal m →
    (∀ c : Dev Cert.BackFullIdeal.nD,
      m' ((c.tc : Thread Cert.BackFullRefIdeal.nD Cert.BackFullRefIdeal.τ).loc Cert.BackFullRefIdeal.main_arg0) = m ((c.tc : Thread Cert.BackFullIdeal.nD Cert.BackFullIdeal.τ).loc Cert.BackFullIdeal.main_arg0)
      ∧ m' ((c.tc : Thread Cert.BackFullRefIdeal.nD Cert.BackFullRefIdeal.τ).loc Cert.BackFullRefIdeal.main_arg1) = m ((c.tc : Thread Cert.BackFullIdeal.nD Cert.BackFullIdeal.τ).loc Cert.BackFullIdeal.main_arg1)) →
    ∃ (v0 : (c : Dev Cert.BackFullIdeal.nD) → Buf (Elt Ideal) ((c.tc : Thread Cert.BackFullIdeal.nD Cert.BackFullIdeal.τ).loc Cert.BackFullIdeal.main_v0)),
      θ_run (Cert.BackFullIdeal.defs (F := Ideal)) (onTc (τ := Cert.BackFullIdeal.τ) (Cert.BackFullIdeal.main (F := Ideal))) ⟨m, fun _ => 0, g⟩ (fun r => ∀ c : Dev Cert.BackFullIdeal.nD,
          r.2.mem ((c.tc : Thread Cert.BackFullIdeal.nD Cert.BackFullIdeal.τ).loc Cert.BackFullIdeal.main_v0) = v0 c
          ∧ r.2.mem ((c.tc : Thread Cert.BackFullIdeal.nD Cert.BackFullIdeal.τ).loc Cert.BackFullIdeal.main_arg0) = m ((c.tc : Thread Cert.BackFullIdeal.nD Cert.BackFullIdeal.τ).loc Cert.BackFullIdeal.main_arg0)
          ∧ r.2.mem ((c.tc : Thread Cert.BackFullIdeal.nD Cert.BackFullIdeal.τ).loc Cert.BackFullIdeal.main_arg1) = m ((c.tc : Thread Cert.BackFullIdeal.nD Cert.BackFullIdeal.τ).loc Cert.BackFullIdeal.main_arg1))
      ∧ θ_run (Cert.BackFullRefIdeal.defs (F := Ideal)) (onTc (τ := Cert.BackFullRefIdeal.τ) (Cert.BackFullRefIdeal.main (F := Ideal))) ⟨m', fun _ => 0, g'⟩ (fun r => ∀ c : Dev Cert.BackFullRefIdeal.nD,
          r.2.mem ((c.tc : Thread Cert.BackFullRefIdeal.nD Cert.BackFullRefIdeal.τ).loc Cert.BackFullRefIdeal.main_v5) = v0 c
          ∧ r.2.mem ((c.tc : Thread Cert.BackFullRefIdeal.nD Cert.BackFullRefIdeal.τ).loc Cert.BackFullRefIdeal.main_arg0) = m' ((c.tc : Thread Cert.BackFullRefIdeal.nD Cert.BackFullRefIdeal.τ).loc Cert.BackFullRefIdeal.main_arg0)
          ∧ r.2.mem ((c.tc : Thread Cert.BackFullRefIdeal.nD Cert.BackFullRefIdeal.τ).loc Cert.BackFullRefIdeal.main_arg1) = m' ((c.tc : Thread Cert.BackFullRefIdeal.nD Cert.BackFullRefIdeal.τ).loc Cert.BackFullRefIdeal.main_arg1))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v0)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v8) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v4) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v6) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_QkvWgrad_QkvWgradIdeal : Prop :=
  True

def algebraic_QkvWgradIdeal_QkvWgradRefIdeal [hQkvWgradIdeal : Cert.QkvWgradIdeal.Facts] [hQkvWgradRefIdeal : Cert.QkvWgradRefIdeal.Facts] : Prop :=
  ∀ (m : (ℓ : Loc Cert.QkvWgradIdeal.nD Cert.QkvWgradIdeal.τ Cert.QkvWgradIdeal.sig) → Buf (Elt Ideal) ℓ) (g : Dev Cert.QkvWgradIdeal.nD → PrngReg)
    (m' : (ℓ : Loc Cert.QkvWgradRefIdeal.nD Cert.QkvWgradRefIdeal.τ Cert.QkvWgradRefIdeal.sig) → Buf (Elt Ideal) ℓ) (g' : Dev Cert.QkvWgradRefIdeal.nD → PrngReg), Pre_QkvWgradIdeal m →
    (∀ c : Dev Cert.QkvWgradIdeal.nD,
      m' ((c.tc : Thread Cert.QkvWgradRefIdeal.nD Cert.QkvWgradRefIdeal.τ).loc Cert.QkvWgradRefIdeal.main_arg0) = m ((c.tc : Thread Cert.QkvWgradIdeal.nD Cert.QkvWgradIdeal.τ).loc Cert.QkvWgradIdeal.main_arg0)
      ∧ m' ((c.tc : Thread Cert.QkvWgradRefIdeal.nD Cert.QkvWgradRefIdeal.τ).loc Cert.QkvWgradRefIdeal.main_arg1) = m ((c.tc : Thread Cert.QkvWgradIdeal.nD Cert.QkvWgradIdeal.τ).loc Cert.QkvWgradIdeal.main_arg1)) →
    ∃ (v0 : (c : Dev Cert.QkvWgradIdeal.nD) → Buf (Elt Ideal) ((c.tc : Thread Cert.QkvWgradIdeal.nD Cert.QkvWgradIdeal.τ).loc Cert.QkvWgradIdeal.main_v0)),
      θ_run (Cert.QkvWgradIdeal.defs (F := Ideal)) (onTc (τ := Cert.QkvWgradIdeal.τ) (Cert.QkvWgradIdeal.main (F := Ideal))) ⟨m, fun _ => 0, g⟩ (fun r => ∀ c : Dev Cert.QkvWgradIdeal.nD,
          r.2.mem ((c.tc : Thread Cert.QkvWgradIdeal.nD Cert.QkvWgradIdeal.τ).loc Cert.QkvWgradIdeal.main_v0) = v0 c
          ∧ r.2.mem ((c.tc : Thread Cert.QkvWgradIdeal.nD Cert.QkvWgradIdeal.τ).loc Cert.QkvWgradIdeal.main_arg0) = m ((c.tc : Thread Cert.QkvWgradIdeal.nD Cert.QkvWgradIdeal.τ).loc Cert.QkvWgradIdeal.main_arg0)
          ∧ r.2.mem ((c.tc : Thread Cert.QkvWgradIdeal.nD Cert.QkvWgradIdeal.τ).loc Cert.QkvWgradIdeal.main_arg1) = m ((c.tc : Thread Cert.QkvWgradIdeal.nD Cert.QkvWgradIdeal.τ).loc Cert.QkvWgradIdeal.main_arg1))
      ∧ θ_run (Cert.QkvWgradRefIdeal.defs (F := Ideal)) (onTc (τ := Cert.QkvWgradRefIdeal.τ) (Cert.QkvWgradRefIdeal.main (F := Ideal))) ⟨m', fun _ => 0, g'⟩ (fun r => ∀ c : Dev Cert.QkvWgradRefIdeal.nD,
          r.2.mem ((c.tc : Thread Cert.QkvWgradRefIdeal.nD Cert.QkvWgradRefIdeal.τ).loc Cert.QkvWgradRefIdeal.main_v10) = v0 c
          ∧ r.2.mem ((c.tc : Thread Cert.QkvWgradRefIdeal.nD Cert.QkvWgradRefIdeal.τ).loc Cert.QkvWgradRefIdeal.main_arg0) = m' ((c.tc : Thread Cert.QkvWgradRefIdeal.nD Cert.QkvWgradRefIdeal.τ).loc Cert.QkvWgradRefIdeal.main_arg0)
          ∧ r.2.mem ((c.tc : Thread Cert.QkvWgradRefIdeal.nD Cert.QkvWgradRefIdeal.τ).loc Cert.QkvWgradRefIdeal.main_arg1) = m' ((c.tc : Thread Cert.QkvWgradRefIdeal.nD Cert.QkvWgradRefIdeal.τ).loc Cert.QkvWgradRefIdeal.main_arg1))

def preserves_QkvBack_QkvBackIdeal : Prop :=
  True

def algebraic_QkvBackIdeal_QkvBackRefIdeal [hQkvBackIdeal : Cert.QkvBackIdeal.Facts] [hQkvBackRefIdeal : Cert.QkvBackRefIdeal.Facts] : Prop :=
  ∀ (m : (ℓ : Loc Cert.QkvBackIdeal.nD Cert.QkvBackIdeal.τ Cert.QkvBackIdeal.sig) → Buf (Elt Ideal) ℓ) (g : Dev Cert.QkvBackIdeal.nD → PrngReg)
    (m' : (ℓ : Loc Cert.QkvBackRefIdeal.nD Cert.QkvBackRefIdeal.τ Cert.QkvBackRefIdeal.sig) → Buf (Elt Ideal) ℓ) (g' : Dev Cert.QkvBackRefIdeal.nD → PrngReg), Pre_QkvBackIdeal m →
    (∀ c : Dev Cert.QkvBackIdeal.nD,
      m' ((c.tc : Thread Cert.QkvBackRefIdeal.nD Cert.QkvBackRefIdeal.τ).loc Cert.QkvBackRefIdeal.main_arg0) = m ((c.tc : Thread Cert.QkvBackIdeal.nD Cert.QkvBackIdeal.τ).loc Cert.QkvBackIdeal.main_arg0)
      ∧ m' ((c.tc : Thread Cert.QkvBackRefIdeal.nD Cert.QkvBackRefIdeal.τ).loc Cert.QkvBackRefIdeal.main_arg1) = m ((c.tc : Thread Cert.QkvBackIdeal.nD Cert.QkvBackIdeal.τ).loc Cert.QkvBackIdeal.main_arg1)) →
    ∃ (v0 : (c : Dev Cert.QkvBackIdeal.nD) → Buf (Elt Ideal) ((c.tc : Thread Cert.QkvBackIdeal.nD Cert.QkvBackIdeal.τ).loc Cert.QkvBackIdeal.main_v0)),
      θ_run (Cert.QkvBackIdeal.defs (F := Ideal)) (onTc (τ := Cert.QkvBackIdeal.τ) (Cert.QkvBackIdeal.main (F := Ideal))) ⟨m, fun _ => 0, g⟩ (fun r => ∀ c : Dev Cert.QkvBackIdeal.nD,
          r.2.mem ((c.tc : Thread Cert.QkvBackIdeal.nD Cert.QkvBackIdeal.τ).loc Cert.QkvBackIdeal.main_v0) = v0 c
          ∧ r.2.mem ((c.tc : Thread Cert.QkvBackIdeal.nD Cert.QkvBackIdeal.τ).loc Cert.QkvBackIdeal.main_arg0) = m ((c.tc : Thread Cert.QkvBackIdeal.nD Cert.QkvBackIdeal.τ).loc Cert.QkvBackIdeal.main_arg0)
          ∧ r.2.mem ((c.tc : Thread Cert.QkvBackIdeal.nD Cert.QkvBackIdeal.τ).loc Cert.QkvBackIdeal.main_arg1) = m ((c.tc : Thread Cert.QkvBackIdeal.nD Cert.QkvBackIdeal.τ).loc Cert.QkvBackIdeal.main_arg1))
      ∧ θ_run (Cert.QkvBackRefIdeal.defs (F := Ideal)) (onTc (τ := Cert.QkvBackRefIdeal.τ) (Cert.QkvBackRefIdeal.main (F := Ideal))) ⟨m', fun _ => 0, g'⟩ (fun r => ∀ c : Dev Cert.QkvBackRefIdeal.nD,
          r.2.mem ((c.tc : Thread Cert.QkvBackRefIdeal.nD Cert.QkvBackRefIdeal.τ).loc Cert.QkvBackRefIdeal.main_v7) = v0 c
          ∧ r.2.mem ((c.tc : Thread Cert.QkvBackRefIdeal.nD Cert.QkvBackRefIdeal.τ).loc Cert.QkvBackRefIdeal.main_arg0) = m' ((c.tc : Thread Cert.QkvBackRefIdeal.nD Cert.QkvBackRefIdeal.τ).loc Cert.QkvBackRefIdeal.main_arg0)
          ∧ r.2.mem ((c.tc : Thread Cert.QkvBackRefIdeal.nD Cert.QkvBackRefIdeal.τ).loc Cert.QkvBackRefIdeal.main_arg1) = m' ((c.tc : Thread Cert.QkvBackRefIdeal.nD Cert.QkvBackRefIdeal.τ).loc Cert.QkvBackRefIdeal.main_arg1))

def preserves_Even_EvenIdeal : Prop :=
  True

def algebraic_EvenIdeal_EvenRefIdeal [hEvenIdeal : Cert.EvenIdeal.Facts] [hEvenRefIdeal : Cert.EvenRefIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)) →
    ∃ (v0 : (c : Dev Cert.EvenIdeal.nD) → Buf (Elt Ideal) ((c.tc : Thread Cert.EvenIdeal.nD Cert.EvenIdeal.τ).loc Cert.EvenIdeal.main_v0)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v0) = v0 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v4) = v0 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1))

def preserves_EvenWgrad_EvenWgradIdeal : Prop :=
  True

def algebraic_EvenWgradIdeal_EvenWgradRefIdeal [hEvenWgradIdeal : Cert.EvenWgradIdeal.Facts] [hEvenWgradRefIdeal : Cert.EvenWgradRefIdeal.Facts] : Prop :=
  ∀ (m : (ℓ : Loc Cert.EvenWgradIdeal.nD Cert.EvenWgradIdeal.τ Cert.EvenWgradIdeal.sig) → Buf (Elt Ideal) ℓ) (g : Dev Cert.EvenWgradIdeal.nD → PrngReg)
    (m' : (ℓ : Loc Cert.EvenWgradRefIdeal.nD Cert.EvenWgradRefIdeal.τ Cert.EvenWgradRefIdeal.sig) → Buf (Elt Ideal) ℓ) (g' : Dev Cert.EvenWgradRefIdeal.nD → PrngReg), Pre_EvenWgradIdeal m →
    (∀ c : Dev Cert.EvenWgradIdeal.nD,
      m' ((c.tc : Thread Cert.EvenWgradRefIdeal.nD Cert.EvenWgradRefIdeal.τ).loc Cert.EvenWgradRefIdeal.main_arg0) = m ((c.tc : Thread Cert.EvenWgradIdeal.nD Cert.EvenWgradIdeal.τ).loc Cert.EvenWgradIdeal.main_arg0)
      ∧ m' ((c.tc : Thread Cert.EvenWgradRefIdeal.nD Cert.EvenWgradRefIdeal.τ).loc Cert.EvenWgradRefIdeal.main_arg1) = m ((c.tc : Thread Cert.EvenWgradIdeal.nD Cert.EvenWgradIdeal.τ).loc Cert.EvenWgradIdeal.main_arg1)) →
    ∃ (v0 : (c : Dev Cert.EvenWgradIdeal.nD) → Buf (Elt Ideal) ((c.tc : Thread Cert.EvenWgradIdeal.nD Cert.EvenWgradIdeal.τ).loc Cert.EvenWgradIdeal.main_v0)),
      θ_run (Cert.EvenWgradIdeal.defs (F := Ideal)) (onTc (τ := Cert.EvenWgradIdeal.τ) (Cert.EvenWgradIdeal.main (F := Ideal))) ⟨m, fun _ => 0, g⟩ (fun r => ∀ c : Dev Cert.EvenWgradIdeal.nD,
          r.2.mem ((c.tc : Thread Cert.EvenWgradIdeal.nD Cert.EvenWgradIdeal.τ).loc Cert.EvenWgradIdeal.main_v0) = v0 c
          ∧ r.2.mem ((c.tc : Thread Cert.EvenWgradIdeal.nD Cert.EvenWgradIdeal.τ).loc Cert.EvenWgradIdeal.main_arg0) = m ((c.tc : Thread Cert.EvenWgradIdeal.nD Cert.EvenWgradIdeal.τ).loc Cert.EvenWgradIdeal.main_arg0)
          ∧ r.2.mem ((c.tc : Thread Cert.EvenWgradIdeal.nD Cert.EvenWgradIdeal.τ).loc Cert.EvenWgradIdeal.main_arg1) = m ((c.tc : Thread Cert.EvenWgradIdeal.nD Cert.EvenWgradIdeal.τ).loc Cert.EvenWgradIdeal.main_arg1))
      ∧ θ_run (Cert.EvenWgradRefIdeal.defs (F := Ideal)) (onTc (τ := Cert.EvenWgradRefIdeal.τ) (Cert.EvenWgradRefIdeal.main (F := Ideal))) ⟨m', fun _ => 0, g'⟩ (fun r => ∀ c : Dev Cert.EvenWgradRefIdeal.nD,
          r.2.mem ((c.tc : Thread Cert.EvenWgradRefIdeal.nD Cert.EvenWgradRefIdeal.τ).loc Cert.EvenWgradRefIdeal.main_v10) = v0 c
          ∧ r.2.mem ((c.tc : Thread Cert.EvenWgradRefIdeal.nD Cert.EvenWgradRefIdeal.τ).loc Cert.EvenWgradRefIdeal.main_arg0) = m' ((c.tc : Thread Cert.EvenWgradRefIdeal.nD Cert.EvenWgradRefIdeal.τ).loc Cert.EvenWgradRefIdeal.main_arg0)
          ∧ r.2.mem ((c.tc : Thread Cert.EvenWgradRefIdeal.nD Cert.EvenWgradRefIdeal.τ).loc Cert.EvenWgradRefIdeal.main_arg1) = m' ((c.tc : Thread Cert.EvenWgradRefIdeal.nD Cert.EvenWgradRefIdeal.τ).loc Cert.EvenWgradRefIdeal.main_arg1))

def preserves_EvenBack_EvenBackIdeal : Prop :=
  True

def algebraic_EvenBackIdeal_EvenBackRefIdeal [hEvenBackIdeal : Cert.EvenBackIdeal.Facts] [hEvenBackRefIdeal : Cert.EvenBackRefIdeal.Facts] : Prop :=
  ∀ (m : (ℓ : Loc Cert.EvenBackIdeal.nD Cert.EvenBackIdeal.τ Cert.EvenBackIdeal.sig) → Buf (Elt Ideal) ℓ) (g : Dev Cert.EvenBackIdeal.nD → PrngReg)
    (m' : (ℓ : Loc Cert.EvenBackRefIdeal.nD Cert.EvenBackRefIdeal.τ Cert.EvenBackRefIdeal.sig) → Buf (Elt Ideal) ℓ) (g' : Dev Cert.EvenBackRefIdeal.nD → PrngReg), Pre_EvenBackIdeal m →
    (∀ c : Dev Cert.EvenBackIdeal.nD,
      m' ((c.tc : Thread Cert.EvenBackRefIdeal.nD Cert.EvenBackRefIdeal.τ).loc Cert.EvenBackRefIdeal.main_arg0) = m ((c.tc : Thread Cert.EvenBackIdeal.nD Cert.EvenBackIdeal.τ).loc Cert.EvenBackIdeal.main_arg0)
      ∧ m' ((c.tc : Thread Cert.EvenBackRefIdeal.nD Cert.EvenBackRefIdeal.τ).loc Cert.EvenBackRefIdeal.main_arg1) = m ((c.tc : Thread Cert.EvenBackIdeal.nD Cert.EvenBackIdeal.τ).loc Cert.EvenBackIdeal.main_arg1)) →
    ∃ (v0 : (c : Dev Cert.EvenBackIdeal.nD) → Buf (Elt Ideal) ((c.tc : Thread Cert.EvenBackIdeal.nD Cert.EvenBackIdeal.τ).loc Cert.EvenBackIdeal.main_v0)),
      θ_run (Cert.EvenBackIdeal.defs (F := Ideal)) (onTc (τ := Cert.EvenBackIdeal.τ) (Cert.EvenBackIdeal.main (F := Ideal))) ⟨m, fun _ => 0, g⟩ (fun r => ∀ c : Dev Cert.EvenBackIdeal.nD,
          r.2.mem ((c.tc : Thread Cert.EvenBackIdeal.nD Cert.EvenBackIdeal.τ).loc Cert.EvenBackIdeal.main_v0) = v0 c
          ∧ r.2.mem ((c.tc : Thread Cert.EvenBackIdeal.nD Cert.EvenBackIdeal.τ).loc Cert.EvenBackIdeal.main_arg0) = m ((c.tc : Thread Cert.EvenBackIdeal.nD Cert.EvenBackIdeal.τ).loc Cert.EvenBackIdeal.main_arg0)
          ∧ r.2.mem ((c.tc : Thread Cert.EvenBackIdeal.nD Cert.EvenBackIdeal.τ).loc Cert.EvenBackIdeal.main_arg1) = m ((c.tc : Thread Cert.EvenBackIdeal.nD Cert.EvenBackIdeal.τ).loc Cert.EvenBackIdeal.main_arg1))
      ∧ θ_run (Cert.EvenBackRefIdeal.defs (F := Ideal)) (onTc (τ := Cert.EvenBackRefIdeal.τ) (Cert.EvenBackRefIdeal.main (F := Ideal))) ⟨m', fun _ => 0, g'⟩ (fun r => ∀ c : Dev Cert.EvenBackRefIdeal.nD,
          r.2.mem ((c.tc : Thread Cert.EvenBackRefIdeal.nD Cert.EvenBackRefIdeal.τ).loc Cert.EvenBackRefIdeal.main_v6) = v0 c
          ∧ r.2.mem ((c.tc : Thread Cert.EvenBackRefIdeal.nD Cert.EvenBackRefIdeal.τ).loc Cert.EvenBackRefIdeal.main_arg0) = m' ((c.tc : Thread Cert.EvenBackRefIdeal.nD Cert.EvenBackRefIdeal.τ).loc Cert.EvenBackRefIdeal.main_arg0)
          ∧ r.2.mem ((c.tc : Thread Cert.EvenBackRefIdeal.nD Cert.EvenBackRefIdeal.τ).loc Cert.EvenBackRefIdeal.main_arg1) = m' ((c.tc : Thread Cert.EvenBackRefIdeal.nD Cert.EvenBackRefIdeal.τ).loc Cert.EvenBackRefIdeal.main_arg1))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)) →
    ∃ (v0 : (c : Dev Cert.MemoryIdeal.nD) → Buf (Elt Ideal) ((c.tc : Thread Cert.MemoryIdeal.nD Cert.MemoryIdeal.τ).loc Cert.MemoryIdeal.main_v0)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v0) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v5) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1))

def preserves_MemoryWgrad_MemoryWgradIdeal : Prop :=
  True

def algebraic_MemoryWgradIdeal_MemoryWgradRefIdeal [hMemoryWgradIdeal : Cert.MemoryWgradIdeal.Facts] [hMemoryWgradRefIdeal : Cert.MemoryWgradRefIdeal.Facts] : Prop :=
  ∀ (m : (ℓ : Loc Cert.MemoryWgradIdeal.nD Cert.MemoryWgradIdeal.τ Cert.MemoryWgradIdeal.sig) → Buf (Elt Ideal) ℓ) (g : Dev Cert.MemoryWgradIdeal.nD → PrngReg)
    (m' : (ℓ : Loc Cert.MemoryWgradRefIdeal.nD Cert.MemoryWgradRefIdeal.τ Cert.MemoryWgradRefIdeal.sig) → Buf (Elt Ideal) ℓ) (g' : Dev Cert.MemoryWgradRefIdeal.nD → PrngReg), Pre_MemoryWgradIdeal m →
    (∀ c : Dev Cert.MemoryWgradIdeal.nD,
      m' ((c.tc : Thread Cert.MemoryWgradRefIdeal.nD Cert.MemoryWgradRefIdeal.τ).loc Cert.MemoryWgradRefIdeal.main_arg0) = m ((c.tc : Thread Cert.MemoryWgradIdeal.nD Cert.MemoryWgradIdeal.τ).loc Cert.MemoryWgradIdeal.main_arg0)
      ∧ m' ((c.tc : Thread Cert.MemoryWgradRefIdeal.nD Cert.MemoryWgradRefIdeal.τ).loc Cert.MemoryWgradRefIdeal.main_arg1) = m ((c.tc : Thread Cert.MemoryWgradIdeal.nD Cert.MemoryWgradIdeal.τ).loc Cert.MemoryWgradIdeal.main_arg1)) →
    ∃ (v0 : (c : Dev Cert.MemoryWgradIdeal.nD) → Buf (Elt Ideal) ((c.tc : Thread Cert.MemoryWgradIdeal.nD Cert.MemoryWgradIdeal.τ).loc Cert.MemoryWgradIdeal.main_v0)),
      θ_run (Cert.MemoryWgradIdeal.defs (F := Ideal)) (onTc (τ := Cert.MemoryWgradIdeal.τ) (Cert.MemoryWgradIdeal.main (F := Ideal))) ⟨m, fun _ => 0, g⟩ (fun r => ∀ c : Dev Cert.MemoryWgradIdeal.nD,
          r.2.mem ((c.tc : Thread Cert.MemoryWgradIdeal.nD Cert.MemoryWgradIdeal.τ).loc Cert.MemoryWgradIdeal.main_v0) = v0 c
          ∧ r.2.mem ((c.tc : Thread Cert.MemoryWgradIdeal.nD Cert.MemoryWgradIdeal.τ).loc Cert.MemoryWgradIdeal.main_arg0) = m ((c.tc : Thread Cert.MemoryWgradIdeal.nD Cert.MemoryWgradIdeal.τ).loc Cert.MemoryWgradIdeal.main_arg0)
          ∧ r.2.mem ((c.tc : Thread Cert.MemoryWgradIdeal.nD Cert.MemoryWgradIdeal.τ).loc Cert.MemoryWgradIdeal.main_arg1) = m ((c.tc : Thread Cert.MemoryWgradIdeal.nD Cert.MemoryWgradIdeal.τ).loc Cert.MemoryWgradIdeal.main_arg1))
      ∧ θ_run (Cert.MemoryWgradRefIdeal.defs (F := Ideal)) (onTc (τ := Cert.MemoryWgradRefIdeal.τ) (Cert.MemoryWgradRefIdeal.main (F := Ideal))) ⟨m', fun _ => 0, g'⟩ (fun r => ∀ c : Dev Cert.MemoryWgradRefIdeal.nD,
          r.2.mem ((c.tc : Thread Cert.MemoryWgradRefIdeal.nD Cert.MemoryWgradRefIdeal.τ).loc Cert.MemoryWgradRefIdeal.main_v10) = v0 c
          ∧ r.2.mem ((c.tc : Thread Cert.MemoryWgradRefIdeal.nD Cert.MemoryWgradRefIdeal.τ).loc Cert.MemoryWgradRefIdeal.main_arg0) = m' ((c.tc : Thread Cert.MemoryWgradRefIdeal.nD Cert.MemoryWgradRefIdeal.τ).loc Cert.MemoryWgradRefIdeal.main_arg0)
          ∧ r.2.mem ((c.tc : Thread Cert.MemoryWgradRefIdeal.nD Cert.MemoryWgradRefIdeal.τ).loc Cert.MemoryWgradRefIdeal.main_arg1) = m' ((c.tc : Thread Cert.MemoryWgradRefIdeal.nD Cert.MemoryWgradRefIdeal.τ).loc Cert.MemoryWgradRefIdeal.main_arg1))

def preserves_MemoryBack_MemoryBackIdeal : Prop :=
  True

def algebraic_MemoryBackIdeal_MemoryBackRefIdeal [hMemoryBackIdeal : Cert.MemoryBackIdeal.Facts] [hMemoryBackRefIdeal : Cert.MemoryBackRefIdeal.Facts] : Prop :=
  ∀ (m : (ℓ : Loc Cert.MemoryBackIdeal.nD Cert.MemoryBackIdeal.τ Cert.MemoryBackIdeal.sig) → Buf (Elt Ideal) ℓ) (g : Dev Cert.MemoryBackIdeal.nD → PrngReg)
    (m' : (ℓ : Loc Cert.MemoryBackRefIdeal.nD Cert.MemoryBackRefIdeal.τ Cert.MemoryBackRefIdeal.sig) → Buf (Elt Ideal) ℓ) (g' : Dev Cert.MemoryBackRefIdeal.nD → PrngReg), Pre_MemoryBackIdeal m →
    (∀ c : Dev Cert.MemoryBackIdeal.nD,
      m' ((c.tc : Thread Cert.MemoryBackRefIdeal.nD Cert.MemoryBackRefIdeal.τ).loc Cert.MemoryBackRefIdeal.main_arg0) = m ((c.tc : Thread Cert.MemoryBackIdeal.nD Cert.MemoryBackIdeal.τ).loc Cert.MemoryBackIdeal.main_arg0)
      ∧ m' ((c.tc : Thread Cert.MemoryBackRefIdeal.nD Cert.MemoryBackRefIdeal.τ).loc Cert.MemoryBackRefIdeal.main_arg1) = m ((c.tc : Thread Cert.MemoryBackIdeal.nD Cert.MemoryBackIdeal.τ).loc Cert.MemoryBackIdeal.main_arg1)) →
    ∃ (v0 : (c : Dev Cert.MemoryBackIdeal.nD) → Buf (Elt Ideal) ((c.tc : Thread Cert.MemoryBackIdeal.nD Cert.MemoryBackIdeal.τ).loc Cert.MemoryBackIdeal.main_v0)),
      θ_run (Cert.MemoryBackIdeal.defs (F := Ideal)) (onTc (τ := Cert.MemoryBackIdeal.τ) (Cert.MemoryBackIdeal.main (F := Ideal))) ⟨m, fun _ => 0, g⟩ (fun r => ∀ c : Dev Cert.MemoryBackIdeal.nD,
          r.2.mem ((c.tc : Thread Cert.MemoryBackIdeal.nD Cert.MemoryBackIdeal.τ).loc Cert.MemoryBackIdeal.main_v0) = v0 c
          ∧ r.2.mem ((c.tc : Thread Cert.MemoryBackIdeal.nD Cert.MemoryBackIdeal.τ).loc Cert.MemoryBackIdeal.main_arg0) = m ((c.tc : Thread Cert.MemoryBackIdeal.nD Cert.MemoryBackIdeal.τ).loc Cert.MemoryBackIdeal.main_arg0)
          ∧ r.2.mem ((c.tc : Thread Cert.MemoryBackIdeal.nD Cert.MemoryBackIdeal.τ).loc Cert.MemoryBackIdeal.main_arg1) = m ((c.tc : Thread Cert.MemoryBackIdeal.nD Cert.MemoryBackIdeal.τ).loc Cert.MemoryBackIdeal.main_arg1))
      ∧ θ_run (Cert.MemoryBackRefIdeal.defs (F := Ideal)) (onTc (τ := Cert.MemoryBackRefIdeal.τ) (Cert.MemoryBackRefIdeal.main (F := Ideal))) ⟨m', fun _ => 0, g'⟩ (fun r => ∀ c : Dev Cert.MemoryBackRefIdeal.nD,
          r.2.mem ((c.tc : Thread Cert.MemoryBackRefIdeal.nD Cert.MemoryBackRefIdeal.τ).loc Cert.MemoryBackRefIdeal.main_v6) = v0 c
          ∧ r.2.mem ((c.tc : Thread Cert.MemoryBackRefIdeal.nD Cert.MemoryBackRefIdeal.τ).loc Cert.MemoryBackRefIdeal.main_arg0) = m' ((c.tc : Thread Cert.MemoryBackRefIdeal.nD Cert.MemoryBackRefIdeal.τ).loc Cert.MemoryBackRefIdeal.main_arg0)
          ∧ r.2.mem ((c.tc : Thread Cert.MemoryBackRefIdeal.nD Cert.MemoryBackRefIdeal.τ).loc Cert.MemoryBackRefIdeal.main_arg1) = m' ((c.tc : Thread Cert.MemoryBackRefIdeal.nD Cert.MemoryBackRefIdeal.τ).loc Cert.MemoryBackRefIdeal.main_arg1))

def preserves_Decay_DecayIdeal : Prop :=
  True

def algebraic_DecayIdeal_DecayRefIdeal [hDecayIdeal : Cert.DecayIdeal.Facts] [hDecayRefIdeal : Cert.DecayRefIdeal.Facts] : Prop :=
  ∀ (m : (ℓ : Loc Cert.DecayIdeal.nD Cert.DecayIdeal.τ Cert.DecayIdeal.sig) → Buf (Elt Ideal) ℓ) (g : Dev Cert.DecayIdeal.nD → PrngReg)
    (m' : (ℓ : Loc Cert.DecayRefIdeal.nD Cert.DecayRefIdeal.τ Cert.DecayRefIdeal.sig) → Buf (Elt Ideal) ℓ) (g' : Dev Cert.DecayRefIdeal.nD → PrngReg), Pre_DecayIdeal m →
    (∀ c : Dev Cert.DecayIdeal.nD,
      m' ((c.tc : Thread Cert.DecayRefIdeal.nD Cert.DecayRefIdeal.τ).loc Cert.DecayRefIdeal.main_arg0) = m ((c.tc : Thread Cert.DecayIdeal.nD Cert.DecayIdeal.τ).loc Cert.DecayIdeal.main_arg0)
      ∧ m' ((c.tc : Thread Cert.DecayRefIdeal.nD Cert.DecayRefIdeal.τ).loc Cert.DecayRefIdeal.main_arg1) = m ((c.tc : Thread Cert.DecayIdeal.nD Cert.DecayIdeal.τ).loc Cert.DecayIdeal.main_arg1)) →
    ∃ (v0 : (c : Dev Cert.DecayIdeal.nD) → Buf (Elt Ideal) ((c.tc : Thread Cert.DecayIdeal.nD Cert.DecayIdeal.τ).loc Cert.DecayIdeal.main_v0)),
      θ_run (Cert.DecayIdeal.defs (F := Ideal)) (onTc (τ := Cert.DecayIdeal.τ) (Cert.DecayIdeal.main (F := Ideal))) ⟨m, fun _ => 0, g⟩ (fun r => ∀ c : Dev Cert.DecayIdeal.nD,
          r.2.mem ((c.tc : Thread Cert.DecayIdeal.nD Cert.DecayIdeal.τ).loc Cert.DecayIdeal.main_v0) = v0 c
          ∧ r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
          ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1))
      ∧ θ_run (Cert.DecayRefIdeal.defs (F := Ideal)) (onTc (τ := Cert.DecayRefIdeal.τ) (Cert.DecayRefIdeal.main (F := Ideal))) ⟨m', fun _ => 0, g'⟩ (fun r => ∀ c : Dev Cert.DecayRefIdeal.nD,
          r.2.mem ((c.tc : Thread Cert.DecayRefIdeal.nD Cert.DecayRefIdeal.τ).loc Cert.DecayRefIdeal.main_v4) = v0 c
          ∧ r.2.mem ((c.tc : Thread Cert.DecayRefIdeal.nD Cert.DecayRefIdeal.τ).loc Cert.DecayRefIdeal.main_arg0) = m' ((c.tc : Thread Cert.DecayRefIdeal.nD Cert.DecayRefIdeal.τ).loc Cert.DecayRefIdeal.main_arg0)
          ∧ r.2.mem ((c.tc : Thread Cert.DecayRefIdeal.nD Cert.DecayRefIdeal.τ).loc Cert.DecayRefIdeal.main_arg1) = m' ((c.tc : Thread Cert.DecayRefIdeal.nD Cert.DecayRefIdeal.τ).loc Cert.DecayRefIdeal.main_arg1))

def preserves_DecayWgrad_DecayWgradIdeal : Prop :=
  True

def algebraic_DecayWgradIdeal_DecayWgradRefIdeal [hDecayWgradIdeal : Cert.DecayWgradIdeal.Facts] [hDecayWgradRefIdeal : Cert.DecayWgradRefIdeal.Facts] : Prop :=
  ∀ (m : (ℓ : Loc Cert.DecayWgradIdeal.nD Cert.DecayWgradIdeal.τ Cert.DecayWgradIdeal.sig) → Buf (Elt Ideal) ℓ) (g : Dev Cert.DecayWgradIdeal.nD → PrngReg)
    (m' : (ℓ : Loc Cert.DecayWgradRefIdeal.nD Cert.DecayWgradRefIdeal.τ Cert.DecayWgradRefIdeal.sig) → Buf (Elt Ideal) ℓ) (g' : Dev Cert.DecayWgradRefIdeal.nD → PrngReg), Pre_DecayWgradIdeal m →
    (∀ c : Dev Cert.DecayWgradIdeal.nD,
      m' ((c.tc : Thread Cert.DecayWgradRefIdeal.nD Cert.DecayWgradRefIdeal.τ).loc Cert.DecayWgradRefIdeal.main_arg0) = m ((c.tc : Thread Cert.DecayWgradIdeal.nD Cert.DecayWgradIdeal.τ).loc Cert.DecayWgradIdeal.main_arg0)
      ∧ m' ((c.tc : Thread Cert.DecayWgradRefIdeal.nD Cert.DecayWgradRefIdeal.τ).loc Cert.DecayWgradRefIdeal.main_arg1) = m ((c.tc : Thread Cert.DecayWgradIdeal.nD Cert.DecayWgradIdeal.τ).loc Cert.DecayWgradIdeal.main_arg1)) →
    ∃ (v0 : (c : Dev Cert.DecayWgradIdeal.nD) → Buf (Elt Ideal) ((c.tc : Thread Cert.DecayWgradIdeal.nD Cert.DecayWgradIdeal.τ).loc Cert.DecayWgradIdeal.main_v0)),
      θ_run (Cert.DecayWgradIdeal.defs (F := Ideal)) (onTc (τ := Cert.DecayWgradIdeal.τ) (Cert.DecayWgradIdeal.main (F := Ideal))) ⟨m, fun _ => 0, g⟩ (fun r => ∀ c : Dev Cert.DecayWgradIdeal.nD,
          r.2.mem ((c.tc : Thread Cert.DecayWgradIdeal.nD Cert.DecayWgradIdeal.τ).loc Cert.DecayWgradIdeal.main_v0) = v0 c
          ∧ r.2.mem ((c.tc : Thread Cert.DecayWgradIdeal.nD Cert.DecayWgradIdeal.τ).loc Cert.DecayWgradIdeal.main_arg0) = m ((c.tc : Thread Cert.DecayWgradIdeal.nD Cert.DecayWgradIdeal.τ).loc Cert.DecayWgradIdeal.main_arg0)
          ∧ r.2.mem ((c.tc : Thread Cert.DecayWgradIdeal.nD Cert.DecayWgradIdeal.τ).loc Cert.DecayWgradIdeal.main_arg1) = m ((c.tc : Thread Cert.DecayWgradIdeal.nD Cert.DecayWgradIdeal.τ).loc Cert.DecayWgradIdeal.main_arg1))
      ∧ θ_run (Cert.DecayWgradRefIdeal.defs (F := Ideal)) (onTc (τ := Cert.DecayWgradRefIdeal.τ) (Cert.DecayWgradRefIdeal.main (F := Ideal))) ⟨m', fun _ => 0, g'⟩ (fun r => ∀ c : Dev Cert.DecayWgradRefIdeal.nD,
          r.2.mem ((c.tc : Thread Cert.DecayWgradRefIdeal.nD Cert.DecayWgradRefIdeal.τ).loc Cert.DecayWgradRefIdeal.main_v10) = v0 c
          ∧ r.2.mem ((c.tc : Thread Cert.DecayWgradRefIdeal.nD Cert.DecayWgradRefIdeal.τ).loc Cert.DecayWgradRefIdeal.main_arg0) = m' ((c.tc : Thread Cert.DecayWgradRefIdeal.nD Cert.DecayWgradRefIdeal.τ).loc Cert.DecayWgradRefIdeal.main_arg0)
          ∧ r.2.mem ((c.tc : Thread Cert.DecayWgradRefIdeal.nD Cert.DecayWgradRefIdeal.τ).loc Cert.DecayWgradRefIdeal.main_arg1) = m' ((c.tc : Thread Cert.DecayWgradRefIdeal.nD Cert.DecayWgradRefIdeal.τ).loc Cert.DecayWgradRefIdeal.main_arg1))

def preserves_DecayBack_DecayBackIdeal : Prop :=
  True

def algebraic_DecayBackIdeal_DecayBackRefIdeal [hDecayBackIdeal : Cert.DecayBackIdeal.Facts] [hDecayBackRefIdeal : Cert.DecayBackRefIdeal.Facts] : Prop :=
  ∀ (m : (ℓ : Loc Cert.DecayBackIdeal.nD Cert.DecayBackIdeal.τ Cert.DecayBackIdeal.sig) → Buf (Elt Ideal) ℓ) (g : Dev Cert.DecayBackIdeal.nD → PrngReg)
    (m' : (ℓ : Loc Cert.DecayBackRefIdeal.nD Cert.DecayBackRefIdeal.τ Cert.DecayBackRefIdeal.sig) → Buf (Elt Ideal) ℓ) (g' : Dev Cert.DecayBackRefIdeal.nD → PrngReg), Pre_DecayBackIdeal m →
    (∀ c : Dev Cert.DecayBackIdeal.nD,
      m' ((c.tc : Thread Cert.DecayBackRefIdeal.nD Cert.DecayBackRefIdeal.τ).loc Cert.DecayBackRefIdeal.main_arg0) = m ((c.tc : Thread Cert.DecayBackIdeal.nD Cert.DecayBackIdeal.τ).loc Cert.DecayBackIdeal.main_arg0)
      ∧ m' ((c.tc : Thread Cert.DecayBackRefIdeal.nD Cert.DecayBackRefIdeal.τ).loc Cert.DecayBackRefIdeal.main_arg1) = m ((c.tc : Thread Cert.DecayBackIdeal.nD Cert.DecayBackIdeal.τ).loc Cert.DecayBackIdeal.main_arg1)
      ∧ m' ((c.tc : Thread Cert.DecayBackRefIdeal.nD Cert.DecayBackRefIdeal.τ).loc Cert.DecayBackRefIdeal.main_arg2) = m ((c.tc : Thread Cert.DecayBackIdeal.nD Cert.DecayBackIdeal.τ).loc Cert.DecayBackIdeal.main_arg2)) →
    ∃ (v0 : (c : Dev Cert.DecayBackIdeal.nD) → Buf (Elt Ideal) ((c.tc : Thread Cert.DecayBackIdeal.nD Cert.DecayBackIdeal.τ).loc Cert.DecayBackIdeal.main_v0)),
      θ_run (Cert.DecayBackIdeal.defs (F := Ideal)) (onTc (τ := Cert.DecayBackIdeal.τ) (Cert.DecayBackIdeal.main (F := Ideal))) ⟨m, fun _ => 0, g⟩ (fun r => ∀ c : Dev Cert.DecayBackIdeal.nD,
          r.2.mem ((c.tc : Thread Cert.DecayBackIdeal.nD Cert.DecayBackIdeal.τ).loc Cert.DecayBackIdeal.main_v0) = v0 c
          ∧ r.2.mem ((c.tc : Thread Cert.DecayBackIdeal.nD Cert.DecayBackIdeal.τ).loc Cert.DecayBackIdeal.main_arg0) = m ((c.tc : Thread Cert.DecayBackIdeal.nD Cert.DecayBackIdeal.τ).loc Cert.DecayBackIdeal.main_arg0)
          ∧ r.2.mem ((c.tc : Thread Cert.DecayBackIdeal.nD Cert.DecayBackIdeal.τ).loc Cert.DecayBackIdeal.main_arg1) = m ((c.tc : Thread Cert.DecayBackIdeal.nD Cert.DecayBackIdeal.τ).loc Cert.DecayBackIdeal.main_arg1)
          ∧ r.2.mem ((c.tc : Thread Cert.DecayBackIdeal.nD Cert.DecayBackIdeal.τ).loc Cert.DecayBackIdeal.main_arg2) = m ((c.tc : Thread Cert.DecayBackIdeal.nD Cert.DecayBackIdeal.τ).loc Cert.DecayBackIdeal.main_arg2))
      ∧ θ_run (Cert.DecayBackRefIdeal.defs (F := Ideal)) (onTc (τ := Cert.DecayBackRefIdeal.τ) (Cert.DecayBackRefIdeal.main (F := Ideal))) ⟨m', fun _ => 0, g'⟩ (fun r => ∀ c : Dev Cert.DecayBackRefIdeal.nD,
          r.2.mem ((c.tc : Thread Cert.DecayBackRefIdeal.nD Cert.DecayBackRefIdeal.τ).loc Cert.DecayBackRefIdeal.main_v7) = v0 c
          ∧ r.2.mem ((c.tc : Thread Cert.DecayBackRefIdeal.nD Cert.DecayBackRefIdeal.τ).loc Cert.DecayBackRefIdeal.main_arg0) = m' ((c.tc : Thread Cert.DecayBackRefIdeal.nD Cert.DecayBackRefIdeal.τ).loc Cert.DecayBackRefIdeal.main_arg0)
          ∧ r.2.mem ((c.tc : Thread Cert.DecayBackRefIdeal.nD Cert.DecayBackRefIdeal.τ).loc Cert.DecayBackRefIdeal.main_arg1) = m' ((c.tc : Thread Cert.DecayBackRefIdeal.nD Cert.DecayBackRefIdeal.τ).loc Cert.DecayBackRefIdeal.main_arg1)
          ∧ r.2.mem ((c.tc : Thread Cert.DecayBackRefIdeal.nD Cert.DecayBackRefIdeal.τ).loc Cert.DecayBackRefIdeal.main_arg2) = m' ((c.tc : Thread Cert.DecayBackRefIdeal.nD Cert.DecayBackRefIdeal.τ).loc Cert.DecayBackRefIdeal.main_arg2))

def Claim : Prop :=
  ∃ (hFox : Cert.Fox.Facts) (hFoxIdeal : Cert.FoxIdeal.Facts) (hFoxRefIdeal : Cert.FoxRefIdeal.Facts) (hDact : Cert.Dact.Facts) (hDactIdeal : Cert.DactIdeal.Facts) (hDactRefIdeal : Cert.DactRefIdeal.Facts) (hDw : Cert.Dw.Facts) (hDwIdeal : Cert.DwIdeal.Facts) (hDwRefIdeal : Cert.DwRefIdeal.Facts) (hDwGateRefIdeal : Cert.DwGateRefIdeal.Facts) (hDh : Cert.Dh.Facts) (hDhIdeal : Cert.DhIdeal.Facts) (hDhRefIdeal : Cert.DhRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hBack : Cert.Back.Facts) (hBackIdeal : Cert.BackIdeal.Facts) (hBackRefIdeal : Cert.BackRefIdeal.Facts) (hBackFull : Cert.BackFull.Facts) (hBackFullIdeal : Cert.BackFullIdeal.Facts) (hBackFullRefIdeal : Cert.BackFullRefIdeal.Facts) (hWgrad : Cert.Wgrad.Facts) (hWgradIdeal : Cert.WgradIdeal.Facts) (hWgradRefIdeal : Cert.WgradRefIdeal.Facts) (hProj : Cert.Proj.Facts) (hProjIdeal : Cert.ProjIdeal.Facts) (hProjRefIdeal : Cert.ProjRefIdeal.Facts) (hQuery : Cert.Query.Facts) (hQueryIdeal : Cert.QueryIdeal.Facts) (hQueryRefIdeal : Cert.QueryRefIdeal.Facts) (hQkv : Cert.Qkv.Facts) (hQkvIdeal : Cert.QkvIdeal.Facts) (hQkvRefIdeal : Cert.QkvRefIdeal.Facts) (hQkvWgrad : Cert.QkvWgrad.Facts) (hQkvWgradIdeal : Cert.QkvWgradIdeal.Facts) (hQkvWgradRefIdeal : Cert.QkvWgradRefIdeal.Facts) (hQkvBack : Cert.QkvBack.Facts) (hQkvBackIdeal : Cert.QkvBackIdeal.Facts) (hQkvBackRefIdeal : Cert.QkvBackRefIdeal.Facts) (hEven : Cert.Even.Facts) (hEvenIdeal : Cert.EvenIdeal.Facts) (hEvenRefIdeal : Cert.EvenRefIdeal.Facts) (hEvenWgrad : Cert.EvenWgrad.Facts) (hEvenWgradIdeal : Cert.EvenWgradIdeal.Facts) (hEvenWgradRefIdeal : Cert.EvenWgradRefIdeal.Facts) (hEvenBack : Cert.EvenBack.Facts) (hEvenBackIdeal : Cert.EvenBackIdeal.Facts) (hEvenBackRefIdeal : Cert.EvenBackRefIdeal.Facts) (hMemory : Cert.Memory.Facts) (hMemoryIdeal : Cert.MemoryIdeal.Facts) (hMemoryRefIdeal : Cert.MemoryRefIdeal.Facts) (hMemoryWgrad : Cert.MemoryWgrad.Facts) (hMemoryWgradIdeal : Cert.MemoryWgradIdeal.Facts) (hMemoryWgradRefIdeal : Cert.MemoryWgradRefIdeal.Facts) (hMemoryBack : Cert.MemoryBack.Facts) (hMemoryBackIdeal : Cert.MemoryBackIdeal.Facts) (hMemoryBackRefIdeal : Cert.MemoryBackRefIdeal.Facts) (hDecay : Cert.Decay.Facts) (hDecayIdeal : Cert.DecayIdeal.Facts) (hDecayRefIdeal : Cert.DecayRefIdeal.Facts) (hDecayWgrad : Cert.DecayWgrad.Facts) (hDecayWgradIdeal : Cert.DecayWgradIdeal.Facts) (hDecayWgradRefIdeal : Cert.DecayWgradRefIdeal.Facts) (hDecayBack : Cert.DecayBack.Facts) (hDecayBackIdeal : Cert.DecayBackIdeal.Facts) (hDecayBackRefIdeal : Cert.DecayBackRefIdeal.Facts) (hPre_finite_fox : Cert.Pre_finite_fox.Facts) (hPre_finite_dact : Cert.Pre_finite_dact.Facts),
    quiescent_Fox (hFox := hFox)
    ∧ quiescent_FoxIdeal (hFoxIdeal := hFoxIdeal)
    ∧ quiescent_FoxIdeal_pre_finite_fox (hFoxIdeal := hFoxIdeal) (hPre_finite_fox := hPre_finite_fox)
    ∧ quiescent_FoxRefIdeal (hFoxRefIdeal := hFoxRefIdeal)
    ∧ quiescent_FoxRefIdeal_pre_finite_fox (hFoxRefIdeal := hFoxRefIdeal) (hPre_finite_fox := hPre_finite_fox)
    ∧ quiescent_Dact (hDact := hDact)
    ∧ quiescent_DactIdeal (hDactIdeal := hDactIdeal)
    ∧ quiescent_DactIdeal_pre_finite_dact (hDactIdeal := hDactIdeal) (hPre_finite_dact := hPre_finite_dact)
    ∧ quiescent_DactRefIdeal (hDactRefIdeal := hDactRefIdeal)
    ∧ quiescent_DactRefIdeal_pre_finite_dact (hDactRefIdeal := hDactRefIdeal) (hPre_finite_dact := hPre_finite_dact)
    ∧ quiescent_Dw (hDw := hDw)
    ∧ quiescent_DwIdeal (hDwIdeal := hDwIdeal)
    ∧ quiescent_DwRefIdeal (hDwRefIdeal := hDwRefIdeal)
    ∧ quiescent_DwGateRefIdeal (hDwGateRefIdeal := hDwGateRefIdeal)
    ∧ quiescent_Dh (hDh := hDh)
    ∧ quiescent_DhIdeal (hDhIdeal := hDhIdeal)
    ∧ quiescent_DhRefIdeal (hDhRefIdeal := hDhRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Back (hBack := hBack)
    ∧ quiescent_BackIdeal (hBackIdeal := hBackIdeal)
    ∧ quiescent_BackRefIdeal (hBackRefIdeal := hBackRefIdeal)
    ∧ quiescent_BackFull (hBackFull := hBackFull)
    ∧ quiescent_BackFullIdeal (hBackFullIdeal := hBackFullIdeal)
    ∧ quiescent_BackFullRefIdeal (hBackFullRefIdeal := hBackFullRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Proj (hProj := hProj)
    ∧ quiescent_ProjIdeal (hProjIdeal := hProjIdeal)
    ∧ quiescent_ProjRefIdeal (hProjRefIdeal := hProjRefIdeal)
    ∧ quiescent_Query (hQuery := hQuery)
    ∧ quiescent_QueryIdeal (hQueryIdeal := hQueryIdeal)
    ∧ quiescent_QueryRefIdeal (hQueryRefIdeal := hQueryRefIdeal)
    ∧ quiescent_Qkv (hQkv := hQkv)
    ∧ quiescent_QkvIdeal (hQkvIdeal := hQkvIdeal)
    ∧ quiescent_QkvRefIdeal (hQkvRefIdeal := hQkvRefIdeal)
    ∧ quiescent_QkvWgrad (hQkvWgrad := hQkvWgrad)
    ∧ quiescent_QkvWgradIdeal (hQkvWgradIdeal := hQkvWgradIdeal)
    ∧ quiescent_QkvWgradRefIdeal (hQkvWgradRefIdeal := hQkvWgradRefIdeal)
    ∧ quiescent_QkvBack (hQkvBack := hQkvBack)
    ∧ quiescent_QkvBackIdeal (hQkvBackIdeal := hQkvBackIdeal)
    ∧ quiescent_QkvBackRefIdeal (hQkvBackRefIdeal := hQkvBackRefIdeal)
    ∧ quiescent_Even (hEven := hEven)
    ∧ quiescent_EvenIdeal (hEvenIdeal := hEvenIdeal)
    ∧ quiescent_EvenRefIdeal (hEvenRefIdeal := hEvenRefIdeal)
    ∧ quiescent_EvenWgrad (hEvenWgrad := hEvenWgrad)
    ∧ quiescent_EvenWgradIdeal (hEvenWgradIdeal := hEvenWgradIdeal)
    ∧ quiescent_EvenWgradRefIdeal (hEvenWgradRefIdeal := hEvenWgradRefIdeal)
    ∧ quiescent_EvenBack (hEvenBack := hEvenBack)
    ∧ quiescent_EvenBackIdeal (hEvenBackIdeal := hEvenBackIdeal)
    ∧ quiescent_EvenBackRefIdeal (hEvenBackRefIdeal := hEvenBackRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_MemoryWgrad (hMemoryWgrad := hMemoryWgrad)
    ∧ quiescent_MemoryWgradIdeal (hMemoryWgradIdeal := hMemoryWgradIdeal)
    ∧ quiescent_MemoryWgradRefIdeal (hMemoryWgradRefIdeal := hMemoryWgradRefIdeal)
    ∧ quiescent_MemoryBack (hMemoryBack := hMemoryBack)
    ∧ quiescent_MemoryBackIdeal (hMemoryBackIdeal := hMemoryBackIdeal)
    ∧ quiescent_MemoryBackRefIdeal (hMemoryBackRefIdeal := hMemoryBackRefIdeal)
    ∧ quiescent_Decay (hDecay := hDecay)
    ∧ quiescent_DecayIdeal (hDecayIdeal := hDecayIdeal)
    ∧ quiescent_DecayRefIdeal (hDecayRefIdeal := hDecayRefIdeal)
    ∧ quiescent_DecayWgrad (hDecayWgrad := hDecayWgrad)
    ∧ quiescent_DecayWgradIdeal (hDecayWgradIdeal := hDecayWgradIdeal)
    ∧ quiescent_DecayWgradRefIdeal (hDecayWgradRefIdeal := hDecayWgradRefIdeal)
    ∧ quiescent_DecayBack (hDecayBack := hDecayBack)
    ∧ quiescent_DecayBackIdeal (hDecayBackIdeal := hDecayBackIdeal)
    ∧ quiescent_DecayBackRefIdeal (hDecayBackRefIdeal := hDecayBackRefIdeal)
    ∧ preserves_Fox_FoxIdeal
    ∧ algebraic_FoxIdeal_FoxRefIdeal_pre_finite_fox (hFoxIdeal := hFoxIdeal) (hFoxRefIdeal := hFoxRefIdeal) (hPre_finite_fox := hPre_finite_fox)
    ∧ preserves_Dact_DactIdeal
    ∧ algebraic_DactIdeal_DactRefIdeal_pre_finite_dact (hDactIdeal := hDactIdeal) (hDactRefIdeal := hDactRefIdeal) (hPre_finite_dact := hPre_finite_dact)
    ∧ preserves_Dw_DwIdeal
    ∧ algebraic_DwIdeal_DwRefIdeal (hDwIdeal := hDwIdeal) (hDwRefIdeal := hDwRefIdeal)
    ∧ algebraic_DwIdeal_DwGateRefIdeal (hDwIdeal := hDwIdeal) (hDwGateRefIdeal := hDwGateRefIdeal)
    ∧ preserves_Dh_DhIdeal
    ∧ algebraic_DhIdeal_DhRefIdeal (hDhIdeal := hDhIdeal) (hDhRefIdeal := hDhRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Back_BackIdeal
    ∧ algebraic_BackIdeal_BackRefIdeal (hBackIdeal := hBackIdeal) (hBackRefIdeal := hBackRefIdeal)
    ∧ preserves_BackFull_BackFullIdeal
    ∧ algebraic_BackFullIdeal_BackFullRefIdeal (hBackFullIdeal := hBackFullIdeal) (hBackFullRefIdeal := hBackFullRefIdeal)
    ∧ preserves_Wgrad_WgradIdeal
    ∧ algebraic_WgradIdeal_WgradRefIdeal (hWgradIdeal := hWgradIdeal) (hWgradRefIdeal := hWgradRefIdeal)
    ∧ preserves_Proj_ProjIdeal
    ∧ algebraic_ProjIdeal_ProjRefIdeal (hProjIdeal := hProjIdeal) (hProjRefIdeal := hProjRefIdeal)
    ∧ preserves_Query_QueryIdeal
    ∧ algebraic_QueryIdeal_QueryRefIdeal (hQueryIdeal := hQueryIdeal) (hQueryRefIdeal := hQueryRefIdeal)
    ∧ preserves_Qkv_QkvIdeal
    ∧ algebraic_QkvIdeal_QkvRefIdeal (hQkvIdeal := hQkvIdeal) (hQkvRefIdeal := hQkvRefIdeal)
    ∧ preserves_QkvWgrad_QkvWgradIdeal
    ∧ algebraic_QkvWgradIdeal_QkvWgradRefIdeal (hQkvWgradIdeal := hQkvWgradIdeal) (hQkvWgradRefIdeal := hQkvWgradRefIdeal)
    ∧ preserves_QkvBack_QkvBackIdeal
    ∧ algebraic_QkvBackIdeal_QkvBackRefIdeal (hQkvBackIdeal := hQkvBackIdeal) (hQkvBackRefIdeal := hQkvBackRefIdeal)
    ∧ preserves_Even_EvenIdeal
    ∧ algebraic_EvenIdeal_EvenRefIdeal (hEvenIdeal := hEvenIdeal) (hEvenRefIdeal := hEvenRefIdeal)
    ∧ preserves_EvenWgrad_EvenWgradIdeal
    ∧ algebraic_EvenWgradIdeal_EvenWgradRefIdeal (hEvenWgradIdeal := hEvenWgradIdeal) (hEvenWgradRefIdeal := hEvenWgradRefIdeal)
    ∧ preserves_EvenBack_EvenBackIdeal
    ∧ algebraic_EvenBackIdeal_EvenBackRefIdeal (hEvenBackIdeal := hEvenBackIdeal) (hEvenBackRefIdeal := hEvenBackRefIdeal)
    ∧ preserves_Memory_MemoryIdeal
    ∧ algebraic_MemoryIdeal_MemoryRefIdeal (hMemoryIdeal := hMemoryIdeal) (hMemoryRefIdeal := hMemoryRefIdeal)
    ∧ preserves_MemoryWgrad_MemoryWgradIdeal
    ∧ algebraic_MemoryWgradIdeal_MemoryWgradRefIdeal (hMemoryWgradIdeal := hMemoryWgradIdeal) (hMemoryWgradRefIdeal := hMemoryWgradRefIdeal)
    ∧ preserves_MemoryBack_MemoryBackIdeal
    ∧ algebraic_MemoryBackIdeal_MemoryBackRefIdeal (hMemoryBackIdeal := hMemoryBackIdeal) (hMemoryBackRefIdeal := hMemoryBackRefIdeal)
    ∧ preserves_Decay_DecayIdeal
    ∧ algebraic_DecayIdeal_DecayRefIdeal (hDecayIdeal := hDecayIdeal) (hDecayRefIdeal := hDecayRefIdeal)
    ∧ preserves_DecayWgrad_DecayWgradIdeal
    ∧ algebraic_DecayWgradIdeal_DecayWgradRefIdeal (hDecayWgradIdeal := hDecayWgradIdeal) (hDecayWgradRefIdeal := hDecayWgradRefIdeal)
    ∧ preserves_DecayBack_DecayBackIdeal
    ∧ algebraic_DecayBackIdeal_DecayBackRefIdeal (hDecayBackIdeal := hDecayBackIdeal) (hDecayBackRefIdeal := hDecayBackRefIdeal)
-- ==== Pre_finite_dact.lean ====
abbrev S4096x2048 : Shape := ⟨2, ![4096, 2048]⟩
abbrev S8x704x2048 : Shape := ⟨3, ![8, 704, 2048]⟩
abbrev S8x4096x704 : Shape := ⟨3, ![8, 4096, 704]⟩
abbrev S_ : Shape := ⟨0, ![]⟩

class Facts : Prop where
  bcast_S_S4096x2048 : S_.BroadcastsInDim S4096x2048 (![] : Fin 0 → Fin S4096x2048.rank)
  bcast_S_S8x704x2048 : S_.BroadcastsInDim S8x704x2048 (![] : Fin 0 → Fin S8x704x2048.rank)
  bcast_S_S8x4096x704 : S_.BroadcastsInDim S8x4096x704 (![] : Fin 0 → Fin S8x4096x704.rank)

variable [Facts]

def fn {F : FTy → Type} [FloatOps F] (main_arg0 : FVec F S4096x2048 .bf16) (main_arg1 : FVec F S8x704x2048 .bf16) (main_arg2 : FVec F S8x4096x704 .bf16) (main_arg3 : FVec F S8x4096x704 .bf16) : IVec S4096x2048 1 × IVec S8x704x2048 1 × IVec S8x4096x704 1 × IVec S8x4096x704 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_v3 : FVec F S8x704x2048 .bf16 := Host.absf main_arg1
  let main_cst_0 : FVec F S_ .bf16 := constant S_ .bf16 0x7F80#16
  let main_v4 : FVec F S8x704x2048 .bf16 := broadcastInDim S8x704x2048 ![] bcast_S_S8x704x2048 main_cst_0
  let main_v5 : IVec S8x704x2048 1 := cmpf .olt main_v3 main_v4
  let main_v6 : FVec F S8x4096x704 .bf16 := Host.absf main_arg2
  let main_cst_1 : FVec F S_ .bf16 := constant S_ .bf16 0x7F80#16
  let main_v7 : FVec F S8x4096x704 .bf16 := broadcastInDim S8x4096x704 ![] bcast_S_S8x4096x704 main_cst_1
  let main_v8 : IVec S8x4096x704 1 := cmpf .olt main_v6 main_v7
  let main_v9 : FVec F S8x4096x704 .bf16 := Host.absf main_arg3
  let main_cst_2 : FVec F S_ .bf16 := constant S_ .bf16 0x7F80#16
  let main_v10 : FVec F S8x4096x704 .bf16 := broadcastInDim S8x4096x704 ![] bcast_S_S8x4096x704 main_cst_2
  let main_v11 : IVec S8x4096x704 1 := cmpf .olt main_v9 main_v10
  (main_v2, main_v5, main_v8, main_v11)
-- ==== Pre_finite_fox.lean ====
abbrev S4096x6144 : Shape := ⟨2, ![4096, 6144]⟩
abbrev S4096x16 : Shape := ⟨2, ![4096, 16]⟩
abbrev S4096x2048 : Shape := ⟨2, ![4096, 2048]⟩
abbrev S_ : Shape := ⟨0, ![]⟩

class Facts : Prop where
  bcast_S_S4096x6144 : S_.BroadcastsInDim S4096x6144 (![] : Fin 0 → Fin S4096x6144.rank)
  bcast_S_S4096x16 : S_.BroadcastsInDim S4096x16 (![] : Fin 0 → Fin S4096x16.rank)
  bcast_S_S4096x2048 : S_.BroadcastsInDim S4096x2048 (![] : Fin 0 → Fin S4096x2048.rank)

variable [Facts]

def fn {F : FTy → Type} [FloatOps F] (main_arg0 : FVec F S4096x6144 .bf16) (main_arg1 : FVec F S4096x16 .f32) (main_arg2 : FVec F S4096x2048 .bf16) : IVec S4096x6144 1 × IVec S4096x16 1 × IVec S4096x2048 1 :=
  let main_v0 : FVec F S4096x6144 .bf16 := Host.absf main_arg0
  let main_cst : FVec F S_ .bf16 := constant S_ .bf16 0x7F80#16
  let main_v1 : FVec F S4096x6144 .bf16 := broadcastInDim S4096x6144 ![] bcast_S_S4096x6144 main_cst
  let main_v2 : IVec S4096x6144 1 := cmpf .olt main_v0 main_v1
  let main_v3 : FVec F S4096x16 .f32 := Host.absf main_arg1
  let main_cst_0 : FVec F S_ .f32 := constant S_ .f32 0x7F800000#32
  let main_v4 : FVec F S4096x16 .f32 := broadcastInDim S4096x16 ![] bcast_S_S4096x16 main_cst_0
  let main_v5 : IVec S4096x16 1 := cmpf .olt main_v3 main_v4
  let main_v6 : FVec F S4096x2048 .bf16 := Host.absf main_arg2
  let main_cst_1 : FVec F S_ .bf16 := constant S_ .bf16 0x7F80#16
  let main_v7 : FVec F S4096x2048 .bf16 := broadcastInDim S4096x2048 ![] bcast_S_S4096x2048 main_cst_1
  let main_v8 : IVec S4096x2048 1 := cmpf .olt main_v6 main_v7
  (main_v2, main_v5, main_v8)
-- ==== Fox.lean ====
abbrev S4096x6144 : Shape := ⟨2, ![4096, 6144]⟩
abbrev S4096x16 : Shape := ⟨2, ![4096, 16]⟩
abbrev S4096x2048 : Shape := ⟨2, ![4096, 2048]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096 : Shape := ⟨2, ![16, 4096]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x4096x1 : Shape := ⟨3, ![16, 4096, 1]⟩
abbrev S4096x128 : Shape := ⟨2, ![4096, 128]⟩
abbrev S1x1x4096 : Shape := ⟨3, ![1, 1, 4096]⟩
abbrev S8x4096 : Shape := ⟨2, ![8, 4096]⟩
abbrev S2x1024x128 : Shape := ⟨3, ![2, 1024, 128]⟩
abbrev S1024x1 : Shape := ⟨2, ![1024, 1]⟩
abbrev S8x128 : Shape := ⟨2, ![8, 128]⟩
abbrev S1024x128 : Shape := ⟨2, ![1024, 128]⟩
abbrev S8x1024 : Shape := ⟨2, ![8, 1024]⟩
abbrev S256x128 : Shape := ⟨2, ![256, 128]⟩
abbrev S256x1 : Shape := ⟨2, ![256, 1]⟩
abbrev S256x1024 : Shape := ⟨2, ![256, 1024]⟩
abbrev S1x1x1024 : Shape := ⟨3, ![1, 1, 1024]⟩
abbrev S1x1024 : Shape := ⟨2, ![1, 1024]⟩
abbrev S1x256x128 : Shape := ⟨3, ![1, 256, 128]⟩
abbrev S1024 : Shape := ⟨1, ![1024]⟩
abbrev S256 : Shape := ⟨1, ![256]⟩
abbrev S768x128 : Shape := ⟨2, ![768, 128]⟩
abbrev S256x768 : Shape := ⟨2, ![256, 768]⟩
abbrev S1x1x768 : Shape := ⟨3, ![1, 1, 768]⟩
abbrev S1x768 : Shape := ⟨2, ![1, 768]⟩
abbrev S768 : Shape := ⟨1, ![768]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩
abbrev S512 : Shape := ⟨1, ![512]⟩
abbrev S256x256 : Shape := ⟨2, ![256, 256]⟩
abbrev S1x1x256 : Shape := ⟨3, ![1, 1, 256]⟩
abbrev S1x256 : Shape := ⟨2, ![1, 256]⟩
abbrev S1024x1024 : Shape := ⟨2, ![1024, 1024]⟩
abbrev S1x1024x128 : Shape := ⟨3, ![1, 1024, 128]⟩
abbrev S128x1024 : Shape := ⟨2, ![128, 1024]⟩

abbrev nBuf : Space → Nat
  | .hbm => 62
  | .vmem => 28
  | .smem => 0
  | _ => 0

abbrev bufTy : (tb : Table) → Fin (tcTables nBuf tb) → BufTy
  | .hbm, ⟨0, _⟩ => ⟨S4096x6144, .bf16⟩
  | .hbm, ⟨1, _⟩ => ⟨S4096x16, .f32⟩
  | .hbm, ⟨2, _⟩ => ⟨S4096x2048, .bf16⟩
  | .hbm, ⟨3, _⟩ => ⟨S4096x6144, .f32⟩
  | .hbm, ⟨4, _⟩ => ⟨S4096x2048, .f32⟩
  | .hbm, ⟨5, _⟩ => ⟨S4096x16x128, .f32⟩
  | .hbm, ⟨6, _⟩ => ⟨S16x4096x128, .f32⟩
  | .hbm, ⟨7, _⟩ => ⟨S4096x2048, .f32⟩
  | .hbm, ⟨8, _⟩ => ⟨S4096x16x128, .f32⟩
  | .hbm, ⟨9, _⟩ => ⟨S16x4096x128, .f32⟩
  | .hbm, ⟨10, _⟩ => ⟨S4096x2048, .f32⟩
  | .hbm, ⟨11, _⟩ => ⟨S4096x16x128, .f32⟩
  | .hbm, ⟨12, _⟩ => ⟨S16x4096x128, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096, .f32⟩
  | .hbm, ⟨18, _⟩ => ⟨S16x1x4096, .f32⟩
  | .hbm, ⟨19, _⟩ => ⟨S16x4096x4096, .f32⟩
  | .hbm, ⟨20, _⟩ => ⟨S16x4096x4096, .f32⟩
  | .hbm, ⟨21, _⟩ => ⟨S4096, .i32⟩
  | .hbm, ⟨22, _⟩ => ⟨S4096x1, .i32⟩
  | .hbm, ⟨23, _⟩ => ⟨S4096, .i32⟩
  | .hbm, ⟨24, _⟩ => ⟨S1x4096, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S16x4096x4096, .i1⟩
  | .hbm, ⟨31, _⟩ => ⟨S16x4096x4096, .f32⟩
  | .hbm, ⟨32, _⟩ => ⟨S16x4096x4096, .f32⟩
  | .hbm, ⟨33, _⟩ => ⟨S_, .f32⟩
  | .hbm, ⟨34, _⟩ => ⟨S16x4096, .f32⟩
  | .hbm, ⟨35, _⟩ => ⟨S16x4096x1, .f32⟩
  | .hbm, ⟨36, _⟩ => ⟨S16x4096x4096, .f32⟩
  | .hbm, ⟨37, _⟩ => ⟨S16x4096x4096, .f32⟩
  | .hbm, ⟨38, _⟩ => ⟨S16x4096x4096, .f32⟩
  | .hbm, ⟨39, _⟩ => ⟨S_, .f32⟩
  | .hbm, ⟨40, _⟩ => ⟨S16x4096, .f32⟩
  | .hbm, ⟨41, _⟩ => ⟨S16x4096x1, .f32⟩
  | .hbm, ⟨42, _⟩ => ⟨S16x4096x1, .f32⟩
  | .hbm, ⟨43, _⟩ => ⟨S16x4096x1, .f32⟩
  | .hbm, ⟨44, _⟩ => ⟨S16x1x4096, .f32⟩
  | .hbm, ⟨45, _⟩ => ⟨S16x4096x4096, .f32⟩
  | .hbm, ⟨46, _⟩ => ⟨S16x4096x4096, .f32⟩
  | .hbm, ⟨47, _⟩ => ⟨S16x4096x4096, .f32⟩
  | .hbm, ⟨48, _⟩ => ⟨S16x4096x4096, .f32⟩
  | .hbm, ⟨49, _⟩ => ⟨S16x4096x4096, .f32⟩
  | .hbm, ⟨50, _⟩ => ⟨S16x4096x128, .f32⟩
  | .hbm, ⟨51, _⟩ => ⟨S4096x16x128, .f32⟩
  | .hbm, ⟨52, _⟩ => ⟨S4096x2048, .f32⟩
  | .hbm, ⟨53, _⟩ => ⟨S4096x2048, .bf16⟩
  | .hbm, ⟨54, _⟩ => ⟨S_, .i32⟩
  | .hbm, ⟨55, _⟩ => ⟨S_, .f32⟩
  | .hbm, ⟨56, _⟩ => ⟨S4096x128, .f32⟩
  | .hbm, ⟨57, _⟩ => ⟨S4096x2048, .bf16⟩
  | .hbm, ⟨58, _⟩ => ⟨S4096x2048, .bf16⟩
  | .hbm, ⟨59, _⟩ => ⟨S4096x2048, .bf16⟩
  | .hbm, ⟨60, _⟩ => ⟨S16x1x4096, .f32⟩
  | .hbm, ⟨61, _⟩ => ⟨S16x1x4096, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .f32⟩
  | .local _ .vmem, ⟨7, _⟩ => ⟨S1x1x4096, .f32⟩
  | .local _ .vmem, ⟨8, _⟩ => ⟨S1x1x4096, .f32⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S1x1x4096, .f32⟩
  | .local _ .vmem, ⟨20, _⟩ => ⟨S1x1x4096, .f32⟩
  | .local _ .vmem, ⟨21, _⟩ => ⟨S1x1x4096, .f32⟩
  | .local _ .vmem, ⟨22, _⟩ => ⟨S1x1x4096, .f32⟩
  | .local _ .vmem, ⟨23, _⟩ => ⟨S4096x128, .f32⟩
  | .local _ .vmem, ⟨24, _⟩ => ⟨S8x4096, .f32⟩
  | .local _ .vmem, ⟨25, _⟩ => ⟨S4096x1, .f32⟩
  | .local _ .vmem, ⟨26, _⟩ => ⟨S2x1024x128, .f32⟩
  | .local _ .vmem, ⟨27, _⟩ => ⟨S1024x1, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c : Ref sig .tc := ⟨.hbm, 54, rfl⟩
abbrev main_call1_v0 : Ref sig .tc := ⟨.hbm, 55, rfl⟩
abbrev main_v44 : Ref sig .tc := ⟨.hbm, 56, rfl⟩
abbrev main_v45_0 : Ref sig .tc := ⟨.hbm, 57, rfl⟩
abbrev main_v45_1 : Ref sig .tc := ⟨.hbm, 58, rfl⟩
abbrev main_v45_2 : Ref sig .tc := ⟨.hbm, 59, rfl⟩
abbrev main_v45_3 : Ref sig .tc := ⟨.hbm, 60, rfl⟩
abbrev main_v45_4 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v59 : BitVec 32 := Scalar.addi c0_i32 c4_i32
  let c1_i32 : BitVec 32 := 1#32
  ⟨c0_i32, v59, c1_i32⟩
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c1024_i32 : BitVec 32 := 1024#32
  let v65 : BitVec 32 := Scalar.muli arg18 c1024_i32
  v65
def k0_off1 (k0_t1 : Fin k0_t1_loop.trips) : Fin 2 → Nat :=
  let c0_i32 : BitVec 32 := 0#32
  let c1_i32 : BitVec 32 := 1#32
  let arg18 : BitVec 32 := Scf.iv c0_i32 c1_i32 k0_t1
  let c1024_i32 : BitVec 32 := 1024#32
  let v65 : BitVec 32 := Scalar.muli arg18 c1024_i32
  let v66 : BitVec 32 := v65
  let v67 : Index := Scalar.indexCast v66
  let c0_43 : Index := 0#32
  ![v67.toNat, 0]
def k0_off2 (k0_t1 : Fin k0_t1_loop.trips) : Fin 2 → Nat :=
  let c0_i32 : BitVec 32 := 0#32
  let c1_i32 : BitVec 32 := 1#32
  let arg18 : BitVec 32 := Scf.iv c0_i32 c1_i32 k0_t1
  let c1024_i32 : BitVec 32 := 1024#32
  let v65 : BitVec 32 := Scalar.muli arg18 c1024_i32
  let v66 : BitVec 32 := v65
  let v71 : Index := Scalar.indexCast v66
  let c0_45 : Index := 0#32
  ![v71.toNat, 0]
def k0_mult2 (k0_t1 : Fin k0_t1_loop.trips) : BitVec 32 :=
  let c0_i32 : BitVec 32 := 0#32
  let c1_i32 : BitVec 32 := 1#32
  let arg18 : BitVec 32 := Scf.iv c0_i32 c1_i32 k0_t1
  let c1024_i32_53 : BitVec 32 := 1024#32
  let v81 : BitVec 32 := Scalar.muli arg18 c1024_i32_53
  let c0_i32_54 : BitVec 32 := 0#32
  let v82 : BitVec 32 := Scalar.addi v81 c0_i32_54
  v82
def k0_off3 (k0_t1 : Fin k0_t1_loop.trips) : Fin 2 → Nat :=
  let c0_i32 : BitVec 32 := 0#32
  let c1_i32 : BitVec 32 := 1#32
  let arg18 : BitVec 32 := Scf.iv c0_i32 c1_i32 k0_t1
  let c1024_i32_53 : BitVec 32 := 1024#32
  let v81 : BitVec 32 := Scalar.muli arg18 c1024_i32_53
  let c0_i32_54 : BitVec 32 := 0#32
  let v82 : BitVec 32 := Scalar.addi v81 c0_i32_54
  let v83 : BitVec 32 := v82
  let v84 : Index := Scalar.indexCast v83
  let c0_55 : Index := 0#32
  ![v84.toNat, 0]
def k0_off4 (k0_t1 : Fin k0_t1_loop.trips) : Fin 3 → Nat :=
  let c0_60 : Index := 0#32
  let c0_61 : Index := 0#32
  let c0_i32 : BitVec 32 := 0#32
  let c1_i32 : BitVec 32 := 1#32
  let arg18 : BitVec 32 := Scf.iv c0_i32 c1_i32 k0_t1
  let c1024_i32_53 : BitVec 32 := 1024#32
  let v81 : BitVec 32 := Scalar.muli arg18 c1024_i32_53
  let c0_i32_54 : BitVec 32 := 0#32
  let v82 : BitVec 32 := Scalar.addi v81 c0_i32_54
  let v83 : BitVec 32 := v82
  let v100 : Index := Scalar.indexCast v83
  ![0, 0, v100.toNat]
def k0_off5 (k0_t1 : Fin k0_t1_loop.trips) : Fin 2 → Nat :=
  let c0_69 : Index := 0#32
  let c0_i32 : BitVec 32 := 0#32
  let c1_i32 : BitVec 32 := 1#32
  let arg18 : BitVec 32 := Scf.iv c0_i32 c1_i32 k0_t1
  let c1024_i32_53 : BitVec 32 := 1024#32
  let v81 : BitVec 32 := Scalar.muli arg18 c1024_i32_53
  let c0_i32_54 : BitVec 32 := 0#32
  let v82 : BitVec 32 := Scalar.addi v81 c0_i32_54
  let v83 : BitVec 32 := v82
  let v116 : Index := Scalar.indexCast v83
  ![0, v116.toNat]
def k0_mult3 (k0_t1 : Fin k0_t1_loop.trips) : BitVec 32 :=
  let c0_i32 : BitVec 32 := 0#32
  let c1_i32 : BitVec 32 := 1#32
  let arg18 : BitVec 32 := Scf.iv c0_i32 c1_i32 k0_t1
  let c1024_i32_90 : BitVec 32 := 1024#32
  let v156 : BitVec 32 := Scalar.muli arg18 c1024_i32_90
  let c256_i32 : BitVec 32 := 256#32
  let v157 : BitVec 32 := Scalar.addi v156 c256_i32
  v157
def k0_off6 (k0_t1 : Fin k0_t1_loop.trips) : Fin 2 → Nat :=
  let c0_i32 : BitVec 32 := 0#32
  let c1_i32 : BitVec 32 := 1#32
  let arg18 : BitVec 32 := Scf.iv c0_i32 c1_i32 k0_t1
  let c1024_i32_90 : BitVec 32 := 1024#32
  let v156 : BitVec 32 := Scalar.muli arg18 c1024_i32_90
  let c256_i32 : BitVec 32 := 256#32
  let v157 : BitVec 32 := Scalar.addi v156 c256_i32
  let v158 : BitVec 32 := v157
  let v159 : Index := Scalar.indexCast v158
  let c0_91 : Index := 0#32
  ![v159.toNat, 0]
def k0_off7 (k0_t1 : Fin k0_t1_loop.trips) : Fin 3 → Nat :=
  let c0_96 : Index := 0#32
  let c0_97 : Index := 0#32
  let c0_i32 : BitVec 32 := 0#32
  let c1_i32 : BitVec 32 := 1#32
  let arg18 : BitVec 32 := Scf.iv c0_i32 c1_i32 k0_t1
  let c1024_i32_90 : BitVec 32 := 1024#32
  let v156 : BitVec 32 := Scalar.muli arg18 c1024_i32_90
  let c256_i32 : BitVec 32 := 256#32
  let v157 : BitVec 32 := Scalar.addi v156 c256_i32
  let v158 : BitVec 32 := v157
  let v175 : Index := Scalar.indexCast v158
  ![0, 0, v175.toNat]
def k0_off8 (k0_t1 : Fin k0_t1_loop.trips) : Fin 2 → Nat :=
  let c0_105 : Index := 0#32
  let c0_i32 : BitVec 32 := 0#32
  let c1_i32 : BitVec 32 := 1#32
  let arg18 : BitVec 32 := Scf.iv c0_i32 c1_i32 k0_t1
  let c1024_i32_90 : BitVec 32 := 1024#32
  let v156 : BitVec 32 := Scalar.muli arg18 c1024_i32_90
  let c256_i32 : BitVec 32 := 256#32
  let v157 : BitVec 32 := Scalar.addi v156 c256_i32
  let v158 : BitVec 32 := v157
  let v191 : Index := Scalar.indexCast v158
  ![0, v191.toNat]
def k0_mult4 (k0_t1 : Fin k0_t1_loop.trips) : BitVec 32 :=
  let c0_i32 : BitVec 32 := 0#32
  let c1_i32 : BitVec 32 := 1#32
  let arg18 : BitVec 32 := Scf.iv c0_i32 c1_i32 k0_t1
  let c1024_i32_126 : BitVec 32 := 1024#32
  let v231 : BitVec 32 := Scalar.muli arg18 c1024_i32_126
  let c512_i32 : BitVec 32 := 512#32
  let v232 : BitVec 32 := Scalar.addi v231 c512_i32
  v232
def k0_off9 (k0_t1 : Fin k0_t1_loop.trips) : Fin 2 → Nat :=
  let c0_i32 : BitVec 32 := 0#32
  let c1_i32 : BitVec 32 := 1#32
  let arg18 : BitVec 32 := Scf.iv c0_i32 c1_i32 k0_t1
  let c1024_i32_126 : BitVec 32 := 1024#32
  let v231 : BitVec 32 := Scalar.muli arg18 c1024_i32_126
  let c512_i32 : BitVec 32 := 512#32
  let v232 : BitVec 32 := Scalar.addi v231 c512_i32
  let v233 : BitVec 32 := v232
  let v234 : Index := Scalar.indexCast v233
  let c0_127 : Index := 0#32
  ![v234.toNat, 0]
def k0_off10 (k0_t1 : Fin k0_t1_loop.trips) : Fin 3 → Nat :=
  let c0_132 : Index := 0#32
  let c0_133 : Index := 0#32
  let c0_i32 : BitVec 32 := 0#32
  let c1_i32 : BitVec 32 := 1#32
  let arg18 : BitVec 32 := Scf.iv c0_i32 c1_i32 k0_t1
  let c1024_i32_126 : BitVec 32 := 1024#32
  let v231 : BitVec 32 := Scalar.muli arg18 c1024_i32_126
  let c512_i32 : BitVec 32 := 512#32
  let v232 : BitVec 32 := Scalar.addi v231 c512_i32
  let v233 : BitVec 32 := v232
  let v250 : Index := Scalar.indexCast v233
  ![0, 0, v250.toNat]
def k0_off11 (k0_t1 : Fin k0_t1_loop.trips) : Fin 2 → Nat :=
  let c0_141 : Index := 0#32
  let c0_i32 : BitVec 32 := 0#32
  let c1_i32 : BitVec 32 := 1#32
  let arg18 : BitVec 32 := Scf.iv c0_i32 c1_i32 k0_t1
  let c1024_i32_126 : BitVec 32 := 1024#32
  let v231 : BitVec 32 := Scalar.muli arg18 c1024_i32_126
  let c512_i32 : BitVec 32 := 512#32
  let v232 : BitVec 32 := Scalar.addi v231 c512_i32
  let v233 : BitVec 32 := v232
  let v266 : Index := Scalar.indexCast v233
  ![0, v266.toNat]
def k0_mult5 (k0_t1 : Fin k0_t1_loop.trips) : BitVec 32 :=
  let c0_i32 : BitVec 32 := 0#32
  let c1_i32 : BitVec 32 := 1#32
  let arg18 : BitVec 32 := Scf.iv c0_i32 c1_i32 k0_t1
  let c1024_i32_162 : BitVec 32 := 1024#32
  let v306 : BitVec 32 := Scalar.muli arg18 c1024_i32_162
  let c768_i32 : BitVec 32 := 768#32
  let v307 : BitVec 32 := Scalar.addi v306 c768_i32
  v307
def k0_off12 (k0_t1 : Fin k0_t1_loop.trips) : Fin 2 → Nat :=
  let c0_i32 : BitVec 32 := 0#32
  let c1_i32 : BitVec 32 := 1#32
  let arg18 : BitVec 32 := Scf.iv c0_i32 c1_i32 k0_t1
  let c1024_i32_162 : BitVec 32 := 1024#32
  let v306 : BitVec 32 := Scalar.muli arg18 c1024_i32_162
  let c768_i32 : BitVec 32 := 768#32
  let v307 : BitVec 32 := Scalar.addi v306 c768_i32
  let v308 : BitVec 32 := v307
  let v309 : Index := Scalar.indexCast v308
  let c0_163 : Index := 0#32
  ![v309.toNat, 0]
def k0_off13 (k0_t1 : Fin k0_t1_loop.trips) : Fin 3 → Nat :=
  let c0_168 : Index := 0#32
  let c0_169 : Index := 0#32
  let c0_i32 : BitVec 32 := 0#32
  let c1_i32 : BitVec 32 := 1#32
  let arg18 : BitVec 32 := Scf.iv c0_i32 c1_i32 k0_t1
  let c1024_i32_162 : BitVec 32 := 1024#32
  let v306 : BitVec 32 := Scalar.muli arg18 c1024_i32_162
  let c768_i32 : BitVec 32 := 768#32
  let v307 : BitVec 32 := Scalar.addi v306 c768_i32
  let v308 : BitVec 32 := v307
  let v325 : Index := Scalar.indexCast v308
  ![0, 0, v325.toNat]
def k0_off14 (k0_t1 : Fin k0_t1_loop.trips) : Fin 2 → Nat :=
  let c0_177 : Index := 0#32
  let c0_i32 : BitVec 32 := 0#32
  let c1_i32 : BitVec 32 := 1#32
  let arg18 : BitVec 32 := Scf.iv c0_i32 c1_i32 k0_t1
  let c1024_i32_162 : BitVec 32 := 1024#32
  let v306 : BitVec 32 := Scalar.muli arg18 c1024_i32_162
  let c768_i32 : BitVec 32 := 768#32
  let v307 : BitVec 32 := Scalar.addi v306 c768_i32
  let v308 : BitVec 32 := v307
  let v341 : Index := Scalar.indexCast v308
  ![0, v341.toNat]
@[reducible] def k0_t2_loop (k0_t1 : Fin k0_t1_loop.trips) : Scf.Loop 32 :=
  let c0_i32 : BitVec 32 := 0#32
  let c1_i32 : BitVec 32 := 1#32
  let arg18 : BitVec 32 := Scf.iv c0_i32 c1_i32 k0_t1
  let c1_i32_198 : BitVec 32 := 1#32
  let v381 : BitVec 32 := Scalar.addi arg18 c1_i32_198
  let c4_i32_200 : BitVec 32 := 4#32
  let v382 : BitVec 32 := Scalar.subi c4_i32_200 v381
  let c1_i32_201 : BitVec 32 := 1#32
  let v384 : BitVec 32 := Scalar.divsi v382 c1_i32_201
  let v385 : BitVec 32 := Scalar.muli v384 c1_i32_201
  let v386 : BitVec 32 := Scalar.addi v381 v385
  let c1_i32_202 : BitVec 32 := 1#32
  ⟨v381, v386, c1_i32_202⟩
def k0_mult6 (k0_t1 : Fin k0_t1_loop.trips) (k0_t2 : Fin (k0_t2_loop k0_t1).trips) : BitVec 32 :=
  let c0_i32 : BitVec 32 := 0#32
  let c1_i32 : BitVec 32 := 1#32
  let arg18 : BitVec 32 := Scf.iv c0_i32 c1_i32 k0_t1
  let c1_i32_198 : BitVec 32 := 1#32
  let v381 : BitVec 32 := Scalar.addi arg18 c1_i32_198
  let c1_i32_202 : BitVec 32 := 1#32
  let arg19 : BitVec 32 := Scf.iv v381 c1_i32_202 k0_t2
  let c1024_i32_217 : BitVec 32 := 1024#32
  let v408 : BitVec 32 := Scalar.muli arg19 c1024_i32_217
  v408
def k0_off15 (k0_t1 : Fin k0_t1_loop.trips) (k0_t2 : Fin (k0_t2_loop k0_t1).trips) : Fin 2 → Nat :=
  let c0_i32 : BitVec 32 := 0#32
  let c1_i32 : BitVec 32 := 1#32
  let arg18 : BitVec 32 := Scf.iv c0_i32 c1_i32 k0_t1
  let c1_i32_198 : BitVec 32 := 1#32
  let v381 : BitVec 32 := Scalar.addi arg18 c1_i32_198
  let c1_i32_202 : BitVec 32 := 1#32
  let arg19 : BitVec 32 := Scf.iv v381 c1_i32_202 k0_t2
  let c1024_i32_217 : BitVec 32 := 1024#32
  let v408 : BitVec 32 := Scalar.muli arg19 c1024_i32_217
  let v409 : BitVec 32 := v408
  let v410 : Index := Scalar.indexCast v409
  let c0_218 : Index := 0#32
  ![v410.toNat, 0]
def k0_off16 (k0_t1 : Fin k0_t1_loop.trips) (k0_t2 : Fin (k0_t2_loop k0_t1).trips) : Fin 3 → Nat :=
  let c0_222 : Index := 0#32
  let c0_223 : Index := 0#32
  let c0_i32 : BitVec 32 := 0#32
  let c1_i32 : BitVec 32 := 1#32
  let arg18 : BitVec 32 := Scf.iv c0_i32 c1_i32 k0_t1
  let c1_i32_198 : BitVec 32 := 1#32
  let v381 : BitVec 32 := Scalar.addi arg18 c1_i32_198
  let c1_i32_202 : BitVec 32 := 1#32
  let arg19 : BitVec 32 := Scf.iv v381 c1_i32_202 k0_t2
  let c1024_i32_217 : BitVec 32 := 1024#32
  let v408 : BitVec 32 := Scalar.muli arg19 c1024_i32_217
  let v409 : BitVec 32 := v408
  let v419 : Index := Scalar.indexCast v409
  ![0, 0, v419.toNat]
def k0_off17 (k0_t1 : Fin k0_t1_loop.trips) (k0_t2 : Fin (k0_t2_loop k0_t1).trips) : Fin 2 → Nat :=
  let c0_232 : Index := 0#32
  let c0_i32 : BitVec 32 := 0#32
  let c1_i32 : BitVec 32 := 1#32
  let arg18 : BitVec 32 := Scf.iv c0_i32 c1_i32 k0_t1
  let c1_i32_198 : BitVec 32 := 1#32
  let v381 : BitVec 32 := Scalar.addi arg18 c1_i32_198
  let c1_i32_202 : BitVec 32 := 1#32
  let arg19 : BitVec 32 := Scf.iv v381 c1_i32_202 k0_t2
  let c1024_i32_217 : BitVec 32 := 1024#32
  let v408 : BitVec 32 := Scalar.muli arg19 c1024_i32_217
  let v409 : BitVec 32 := v408
  let v434 : Index := Scalar.indexCast v409
  ![0, v434.toNat]
@[reducible] def k0_t3_loop (k0_t1 : Fin k0_t1_loop.trips) : Scf.Loop 32 :=
  let c0_i32 : BitVec 32 := 0#32
  let c1_i32 : BitVec 32 := 1#32
  let arg18 : BitVec 32 := Scf.iv c0_i32 c1_i32 k0_t1
  let c1_i32_198 : BitVec 32 := 1#32
  let v381 : BitVec 32 := Scalar.addi arg18 c1_i32_198
  let c4_i32_200 : BitVec 32 := 4#32
  let v382 : BitVec 32 := Scalar.subi c4_i32_200 v381
  let c1_i32_201 : BitVec 32 := 1#32
  let v384 : BitVec 32 := Scalar.divsi v382 c1_i32_201
  let v385 : BitVec 32 := Scalar.muli v384 c1_i32_201
  let v386 : BitVec 32 := Scalar.addi v381 v385
  let v383 : BitVec 32 := Scalar.addi v381 v382
  let c1_i32_203 : BitVec 32 := 1#32
  ⟨v386, v383, c1_i32_203⟩
def k0_mult7 (k0_t1 : Fin k0_t1_loop.trips) (k0_t3 : Fin (k0_t3_loop k0_t1).trips) : BitVec 32 :=
  let c0_i32 : BitVec 32 := 0#32
  let c1_i32 : BitVec 32 := 1#32
  let arg18 : BitVec 32 := Scf.iv c0_i32 c1_i32 k0_t1
  let c1_i32_198 : BitVec 32 := 1#32
  let v381 : BitVec 32 := Scalar.addi arg18 c1_i32_198
  let c4_i32_200 : BitVec 32 := 4#32
  let v382 : BitVec 32 := Scalar.subi c4_i32_200 v381
  let c1_i32_201 : BitVec 32 := 1#32
  let v384 : BitVec 32 := Scalar.divsi v382 c1_i32_201
  let v385 : BitVec 32 := Scalar.muli v384 c1_i32_201
  let v386 : BitVec 32 := Scalar.addi v381 v385
  let c1_i32_203 : BitVec 32 := 1#32
  let arg19 : BitVec 32 := Scf.iv v386 c1_i32_203 k0_t3
  let c1024_i32_217 : BitVec 32 := 1024#32
  let v408 : BitVec 32 := Scalar.muli arg19 c1024_i32_217
  v408
def k0_off18 (k0_t1 : Fin k0_t1_loop.trips) (k0_t3 : Fin (k0_t3_loop k0_t1).trips) : Fin 2 → Nat :=
  let c0_i32 : BitVec 32 := 0#32
  let c1_i32 : BitVec 32 := 1#32
  let arg18 : BitVec 32 := Scf.iv c0_i32 c1_i32 k0_t1
  let c1_i32_198 : BitVec 32 := 1#32
  let v381 : BitVec 32 := Scalar.addi arg18 c1_i32_198
  let c4_i32_200 : BitVec 32 := 4#32
  let v382 : BitVec 32 := Scalar.subi c4_i32_200 v381
  let c1_i32_201 : BitVec 32 := 1#32
  let v384 : BitVec 32 := Scalar.divsi v382 c1_i32_201
  let v385 : BitVec 32 := Scalar.muli v384 c1_i32_201
  let v386 : BitVec 32 := Scalar.addi v381 v385
  let c1_i32_203 : BitVec 32 := 1#32
  let arg19 : BitVec 32 := Scf.iv v386 c1_i32_203 k0_t3
  let c1024_i32_217 : BitVec 32 := 1024#32
  let v408 : BitVec 32 := Scalar.muli arg19 c1024_i32_217
  let v409 : BitVec 32 := v408
  let v410 : Index := Scalar.indexCast v409
  let c0_218 : Index := 0#32
  ![v410.toNat, 0]
def k0_off19 (k0_t1 : Fin k0_t1_loop.trips) (k0_t3 : Fin (k0_t3_loop k0_t1).trips) : Fin 3 → Nat :=
  let c0_222 : Index := 0#32
  let c0_223 : Index := 0#32
  let c0_i32 : BitVec 32 := 0#32
  let c1_i32 : BitVec 32 := 1#32
  let arg18 : BitVec 32 := Scf.iv c0_i32 c1_i32 k0_t1
  let c1_i32_198 : BitVec 32 := 1#32
  let v381 : BitVec 32 := Scalar.addi arg18 c1_i32_198
  let c4_i32_200 : BitVec 32 := 4#32
  let v382 : BitVec 32 := Scalar.subi c4_i32_200 v381
  let c1_i32_201 : BitVec 32 := 1#32
  let v384 : BitVec 32 := Scalar.divsi v382 c1_i32_201
  let v385 : BitVec 32 := Scalar.muli v384 c1_i32_201
  let v386 : BitVec 32 := Scalar.addi v381 v385
  let c1_i32_203 : BitVec 32 := 1#32
  let arg19 : BitVec 32 := Scf.iv v386 c1_i32_203 k0_t3
  let c1024_i32_217 : BitVec 32 := 1024#32
  let v408 : BitVec 32 := Scalar.muli arg19 c1024_i32_217
  let v409 : BitVec 32 := v408
  let v419 : Index := Scalar.indexCast v409
  ![0, 0, v419.toNat]
def k0_off20 (k0_t1 : Fin k0_t1_loop.trips) (k0_t3 : Fin (k0_t3_loop k0_t1).trips) : Fin 2 → Nat :=
  let c0_232 : Index := 0#32
  let c0_i32 : BitVec 32 := 0#32
  let c1_i32 : BitVec 32 := 1#32
  let arg18 : BitVec 32 := Scf.iv c0_i32 c1_i32 k0_t1
  let c1_i32_198 : BitVec 32 := 1#32
  let v381 : BitVec 32 := Scalar.addi arg18 c1_i32_198
  let c4_i32_200 : BitVec 32 := 4#32
  let v382 : BitVec 32 := Scalar.subi c4_i32_200 v381
  let c1_i32_201 : BitVec 32 := 1#32
  let v384 : BitVec 32 := Scalar.divsi v382 c1_i32_201
  let v385 : BitVec 32 := Scalar.muli v384 c1_i32_201
  let v386 : BitVec 32 := Scalar.addi v381 v385
  let c1_i32_203 : BitVec 32 := 1#32
  let arg19 : BitVec 32 := Scf.iv v386 c1_i32_203 k0_t3
  let c1024_i32_217 : BitVec 32 := 1024#32
  let v408 : BitVec 32 := Scalar.muli arg19 c1024_i32_217
  let v409 : BitVec 32 := v408
  let v434 : Index := Scalar.indexCast v409
  ![0, v434.toNat]
def k0_off21 (k0_t1 : Fin k0_t1_loop.trips) : Fin 3 → Nat :=
  let c0_215 : Index := 0#32
  let c0_216 : Index := 0#32
  let c0_i32 : BitVec 32 := 0#32
  let c1_i32 : BitVec 32 := 1#32
  let arg18 : BitVec 32 := Scf.iv c0_i32 c1_i32 k0_t1
  let c1024_i32 : BitVec 32 := 1024#32
  let v65 : BitVec 32 := Scalar.muli arg18 c1024_i32
  let v66 : BitVec 32 := v65
  let v404 : Index := Scalar.indexCast v66
  ![0, 0, v404.toNat]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FoxRefIdeal.lean ====
abbrev S4096x6144 : Shape := ⟨2, ![4096, 6144]⟩
abbrev S4096x16 : Shape := ⟨2, ![4096, 16]⟩
abbrev S4096x2048 : Shape := ⟨2, ![4096, 2048]⟩
abbrev S4096x16x128 : Shape := ⟨3, ![4096, 16, 128]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x128x4096 : Shape := ⟨3, ![16, 128, 4096]⟩
abbrev S16x4096x128 : Shape := ⟨3, ![16, 4096, 128]⟩

abbrev nBuf : Space → Nat
  | .hbm => 142
  | .vmem => 0
  | .smem => 0
  | _ => 0

abbrev hbmTy0_0 (i : Nat) : BufTy := match i % 128 with
  | 0 => ⟨S4096x6144, .bf16⟩
  | 1 => ⟨S4096x16, .f32⟩
  | 2 => ⟨S4096x2048, .bf16⟩
  | 3 => ⟨S4096x6144, .f32⟩
  | 4 => ⟨S4096x2048, .f32⟩
  | 5 => ⟨S4096x16x128, .f32⟩
  | 6 => ⟨S4096x2048, .f32⟩
  | 7 => ⟨S4096x16x128, .f32⟩
  | 8 => ⟨S4096x2048, .f32⟩
  | 9 => ⟨S4096x16x128, .f32⟩
  | 10 => ⟨S16x4096x4096, .f32⟩
  | 11 => ⟨S_, .f32⟩
  | 12 => ⟨S16x4096x4096, .f32⟩
  | 13 => ⟨S16x4096x4096, .f32⟩
  | 14 => ⟨S16x4096, .f32⟩
  | 15 => ⟨S16x4096x1, .f32⟩
  | 16 => ⟨S16x4096, .f32⟩
  | 17 => ⟨S16x1x4096, .f32⟩
  | 18 => ⟨S16x4096x4096, .f32⟩
  | 19 => ⟨S16x4096x4096, .f32⟩
  | 20 => ⟨S16x4096x4096, .f32⟩
  | 21 => ⟨S16x4096x4096, .f32⟩
  | 22 => ⟨S4096, .i32⟩
  | 23 => ⟨S4096x1, .i32⟩
  | 24 => ⟨S4096, .i32⟩
  | 25 => ⟨S1x4096, .i32⟩
  | 26 => ⟨S4096x4096, .i32⟩
  | 27 => ⟨S4096x4096, .i32⟩
  | 28 => ⟨S4096x4096, .i1⟩
  | 29 => ⟨S_, .f32⟩
  | 30 => ⟨S_, .f32⟩
  | 31 => ⟨S16x4096x4096, .i1⟩
  | 32 => ⟨S16x4096x4096, .f32⟩
  | 33 => ⟨S16x4096x4096, .f32⟩
  | 34 => ⟨S_, .f32⟩
  | 35 => ⟨S16x4096x4096, .f32⟩
  | 36 => ⟨S_, .f32⟩
  | 37 => ⟨S16x4096, .f32⟩
  | 38 => ⟨S16x4096x1, .f32⟩
  | 39 => ⟨S16x4096x4096, .f32⟩
  | 40 => ⟨S16x4096x4096, .i1⟩
  | 41 => ⟨S16x4096x4096, .f32⟩
  | 42 => ⟨S_, .f32⟩
  | 43 => ⟨S16x4096, .f32⟩
  | 44 => ⟨S_, .f32⟩
  | 45 => ⟨S16x4096, .f32⟩
  | 46 => ⟨S16x4096, .f32⟩
  | 47 => ⟨S_, .f32⟩
  | 48 => ⟨S16x4096, .f32⟩
  | 49 => ⟨S16x4096, .i1⟩
  | 50 => ⟨S_, .f32⟩
  | 51 => ⟨S16x4096, .f32⟩
  | 52 => ⟨S16x4096, .i1⟩
  | 53 => ⟨S_, .f32⟩
  | 54 => ⟨S16x4096, .f32⟩
  | 55 => ⟨S_, .f32⟩
  | 56 => ⟨S16x4096, .f32⟩
  | 57 => ⟨S_, .f32⟩
  | 58 => ⟨S16x4096, .f32⟩
  | 59 => ⟨S16x4096, .f32⟩
  | 60 => ⟨S16x4096, .f32⟩
  | 61 => ⟨S16x4096x1, .f32⟩
  | 62 => ⟨S16x4096x4096, .f32⟩
  | 63 => ⟨S16x4096x4096, .f32⟩
  | 64 => ⟨S16x4096x4096, .f32⟩
  | 65 => ⟨S_, .f32⟩
  | 66 => ⟨S16x4096, .f32⟩
  | 67 => ⟨S16x4096x1, .f32⟩
  | 68 => ⟨S16x4096x4096, .f32⟩
  | 69 => ⟨S16x4096x4096, .f32⟩
  | 70 => ⟨S16x4096x1, .f32⟩
  | 71 => ⟨S_, .f32⟩
  | 72 => ⟨S16x4096x1, .f32⟩
  | 73 => ⟨S16x4096x1, .f32⟩
  | 74 => ⟨S16x128x4096, .f32⟩
  | 75 => ⟨S4096x16x128, .f32⟩
  | 76 => ⟨S4096x2048, .f32⟩
  | 77 => ⟨S4096x2048, .f32⟩
  | 78 => ⟨S4096x16x128, .f32⟩
  | 79 => ⟨S16x128x4096, .f32⟩
  | 80 => ⟨S16x4096x4096, .f32⟩
  | 81 => ⟨S16x128x4096, .f32⟩
  | 82 => ⟨S4096x16x128, .f32⟩
  | 83 => ⟨S16x4096x4096, .f32⟩
  | 84 => ⟨S16x4096x4096, .f32⟩
  | 85 => ⟨S16x4096x4096, .f32⟩
  | 86 => ⟨S_, .f32⟩
  | 87 => ⟨S16x4096, .f32⟩
  | 88 => ⟨S16x4096x1, .f32⟩
  | 89 => ⟨S16x4096x1, .f32⟩
  | 90 => ⟨S16x4096x4096, .f32⟩
  | 91 => ⟨S16x4096x4096, .f32⟩
  | 92 => ⟨S_, .f32⟩
  | 93 => ⟨S16x4096, .f32⟩
  | 94 => ⟨S16x4096x4096, .f32⟩
  | 95 => ⟨S16x4096x4096, .f32⟩
  | 96 => ⟨S16x4096x4096, .f32⟩
  | 97 => ⟨S_, .f32⟩
  | 98 => ⟨S16x4096x4096, .f32⟩
  | 99 => ⟨S16x4096x4096, .f32⟩
  | 100 => ⟨S_, .f32⟩
  | 101 => ⟨S16x4096, .f32⟩
  | 102 => ⟨S16x4096x1, .f32⟩
  | 103 => ⟨S16x4096x4096, .f32⟩
  | 104 => ⟨S_, .f32⟩
  | 105 => ⟨S16x4096, .f32⟩
  | 106 => ⟨S16x1x4096, .f32⟩
  | 107 => ⟨S_, .f32⟩
  | 108 => ⟨S16x4096, .f32⟩
  | 109 => ⟨S4096x16, .f32⟩
  | 110 => ⟨S_, .f32⟩
  | 111 => ⟨S16x4096, .f32⟩
  | 112 => ⟨S4096x16, .f32⟩
  | 113 => ⟨S_, .f32⟩
  | 114 => ⟨S16x4096x4096, .f32⟩
  | 115 => ⟨S16x4096x4096, .f32⟩
  | 116 => ⟨S16x4096x128, .f32⟩
  | 117 => ⟨S4096x16x128, .f32⟩
  | 118 => ⟨S16x4096x128, .f32⟩
  | 119 => ⟨S4096x16x128, .f32⟩
  | 120 => ⟨S4096x2048, .f32⟩
  | 121 => ⟨S_, .f32⟩
  | 122 => ⟨S4096x6144, .f32⟩
  | 123 => ⟨S4096x2048, .f32⟩
  | 124 => ⟨S_, .f32⟩
  | 125 => ⟨S4096x6144, .f32⟩
  | 126 => ⟨S4096x6144, .f32⟩
  | 127 => ⟨S4096x2048, .f32⟩
  | _ => ⟨S4096x6144, .bf16⟩

abbrev hbmTy0_1 (i : Nat) : BufTy := match i % 128 with
  | 0 => ⟨S_, .f32⟩
  | 1 => ⟨S4096x6144, .f32⟩
  | 2 => ⟨S4096x6144, .f32⟩
  | 3 => ⟨S4096x2048, .f32⟩
  | 4 => ⟨S4096x2048, .bf16⟩
  | 5 => ⟨S4096x2048, .f32⟩
  | 6 => ⟨S4096x2048, .bf16⟩
  | 7 => ⟨S4096x2048, .f32⟩
  | 8 => ⟨S4096x2048, .bf16⟩
  | 9 => ⟨S16x4096, .f32⟩
  | 10 => ⟨S16x1x4096, .f32⟩
  | 11 => ⟨S4096x16, .f32⟩
  | 12 => ⟨S16x4096, .f32⟩
  | 13 => ⟨S16x1x4096, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_v25_1 : Ref sig .tc := ⟨.hbm, 31, rfl⟩
abbrev main_call0_v2 : Ref sig .tc := ⟨.hbm, 32, rfl⟩
abbrev main_v25_0 : Ref sig .tc := ⟨.hbm, 33, rfl⟩
abbrev main_call0_cst : Ref sig .tc := ⟨.hbm, 34, rfl⟩
abbrev main_v25_2 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call1_cst : Ref sig .tc := ⟨.hbm, 97, rfl⟩
abbrev main_call1_v0 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_18 : Ref sig .tc := ⟨.hbm, 121, rfl⟩
abbrev main_v92 : Ref sig .tc := ⟨.hbm, 122, rfl⟩
abbrev main_v93 : Ref sig .tc := ⟨.hbm, 123, rfl⟩
abbrev main_cst_19 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_20 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩

abbrev nD : Nat := 1
abbrev τ : Topo := Topo.v7x

variable {F : FTy → Type} [FloatOps F]
-- ==== Dact.lean ====
abbrev S4096x2048 : Shape := ⟨2, ![4096, 2048]⟩
abbrev S8x704x2048 : Shape := ⟨3, ![8, 704, 2048]⟩
abbrev S8x4096x704 : Shape := ⟨3, ![8, 4096, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x4096x704, .bf16⟩
  | .hbm, ⟨3, _⟩ => ⟨S8x4096x704, .bf16⟩
  | .hbm, ⟨4, _⟩ => ⟨S8x4096x704, .bf16⟩
  | .hbm, ⟨5, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DactRefIdeal.lean ====
abbrev S4096x2048 : Shape := ⟨2, ![4096, 2048]⟩
abbrev S8x704x2048 : Shape := ⟨3, ![8, 704, 2048]⟩
abbrev S8x4096x704 : Shape := ⟨3, ![8, 4096, 704]⟩
abbrev S_ : Shape := ⟨0, ![]⟩
abbrev S4096x8x704 : Shape := ⟨3, ![4096, 8, 704]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x4096x704, .bf16⟩
  | .hbm, ⟨3, _⟩ => ⟨S8x4096x704, .bf16⟩
  | .hbm, ⟨4, _⟩ => ⟨S8x704x2048, .f32⟩
  | .hbm, ⟨5, _⟩ => ⟨S8x4096x704, .f32⟩
  | .hbm, ⟨6, _⟩ => ⟨S8x4096x704, .f32⟩
  | .hbm, ⟨7, _⟩ => ⟨S8x4096x704, .f32⟩
  | .hbm, ⟨8, _⟩ => ⟨S8x4096x704, .f32⟩
  | .hbm, ⟨9, _⟩ => ⟨S_, .f32⟩
  | .hbm, ⟨10, _⟩ => ⟨S8x4096x704, .f32⟩
  | .hbm, ⟨11, _⟩ => ⟨S8x4096x704, .f32⟩
  | .hbm, ⟨12, _⟩ => ⟨S_, .f32⟩
  | .hbm, ⟨13, _⟩ => ⟨S8x4096x704, .f32⟩
  | .hbm, ⟨14, _⟩ => ⟨S8x4096x704, .f32⟩
  | .hbm, ⟨15, _⟩ => ⟨S_, .f32⟩
  | .hbm, ⟨16, _⟩ => ⟨S8x4096x704, .f32⟩
  | .hbm, ⟨17, _⟩ => ⟨S8x4096x704, .f32⟩
  | .hbm, ⟨18, _⟩ => ⟨S8x4096x704, .f32⟩
  | .hbm, ⟨19, _⟩ => ⟨S8x4096x704, .f32⟩
  | .hbm, ⟨20, _⟩ => ⟨S8x4096x704, .f32⟩
  | .hbm, ⟨21, _⟩ => ⟨S4096x2048, .f32⟩
  | .hbm, ⟨22, _⟩ => ⟨S4096x2048, .f32⟩
  | .hbm, ⟨23, _⟩ => ⟨S4096x8x704, .f32⟩
  | .hbm, ⟨24, _⟩ => ⟨S8x4096x704, .f32⟩
  | .hbm, ⟨25, _⟩ => ⟨S8x4096x704, .f32⟩
  | .hbm, ⟨26, _⟩ => ⟨S8x4096x704, .f32⟩
  | .hbm, ⟨27, _⟩ => ⟨S8x4096x704, .f32⟩
  | .hbm, ⟨28, _⟩ => ⟨S8x4096x704, .f32⟩
  | .hbm, ⟨29, _⟩ => ⟨S8x4096x704, .f32⟩
  | .hbm, ⟨30, _⟩ => ⟨S8x4096x704, .f32⟩
  | .hbm, ⟨31, _⟩ => ⟨S8x4096x704, .bf16⟩
  | .hbm, ⟨32, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Dw.lean ====
abbrev S8x4096x704 : Shape := ⟨3, ![8, 4096, 704]⟩
abbrev S4096x2048 : Shape := ⟨2, ![4096, 2048]⟩
abbrev S1x4096x2048 : Shape := ⟨3, ![1, 4096, 2048]⟩
abbrev S8x704x2048 : Shape := ⟨3, ![8, 704, 2048]⟩
abbrev S1x4096x704 : Shape := ⟨3, ![1, 4096, 704]⟩
abbrev S1x4096x1024 : Shape := ⟨3, ![1, 4096, 1024]⟩
abbrev S1x704x1024 : Shape := ⟨3, ![1, 704, 1024]⟩
abbrev S4096x704 : Shape := ⟨2, ![4096, 704]⟩
abbrev S4096x1024 : Shape := ⟨2, ![4096, 1024]⟩
abbrev S704x1024 : Shape := ⟨2, ![704, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S1x4096x2048, .bf16⟩
  | .hbm, ⟨3, _⟩ => ⟨S8x704x2048, .bf16⟩
  | .local _ .vmem, ⟨0, _⟩ => ⟨S1x4096x704, .bf16⟩
  | .local _ .vmem, ⟨1, _⟩ => ⟨S1x4096x704, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x704x1024, .bf16⟩
  | .local _ .vmem, ⟨5, _⟩ => ⟨S1x704x1024, .bf16⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 1, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwRefIdeal.lean ====
abbrev S8x4096x704 : Shape := ⟨3, ![8, 4096, 704]⟩
abbrev S4096x2048 : Shape := ⟨2, ![4096, 2048]⟩
abbrev S_ : Shape := ⟨0, ![]⟩
abbrev S8x704x2048 : Shape := ⟨3, ![8, 704, 2048]⟩
abbrev S2048x8x704 : Shape := ⟨3, ![2048, 8, 704]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S_, .f32⟩
  | .hbm, ⟨3, _⟩ => ⟨S8x704x2048, .f32⟩
  | .hbm, ⟨4, _⟩ => ⟨S8x4096x704, .f32⟩
  | .hbm, ⟨5, _⟩ => ⟨S4096x2048, .f32⟩
  | .hbm, ⟨6, _⟩ => ⟨S4096x2048, .f32⟩
  | .hbm, ⟨7, _⟩ => ⟨S2048x8x704, .f32⟩
  | .hbm, ⟨8, _⟩ => ⟨S8x704x2048, .f32⟩
  | .hbm, ⟨9, _⟩ => ⟨S8x704x2048, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwGateRefIdeal.lean ====
abbrev S8x4096x704 : Shape := ⟨3, ![8, 4096, 704]⟩
abbrev S4096x2048 : Shape := ⟨2, ![4096, 2048]⟩
abbrev S_ : Shape := ⟨0, ![]⟩
abbrev S8x704x2048 : Shape := ⟨3, ![8, 704, 2048]⟩
abbrev S8x704x4096 : Shape := ⟨3, ![8, 704, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S_, .f32⟩
  | .hbm, ⟨3, _⟩ => ⟨S8x704x2048, .f32⟩
  | .hbm, ⟨4, _⟩ => ⟨S4096x2048, .f32⟩
  | .hbm, ⟨5, _⟩ => ⟨S8x704x4096, .f32⟩
  | .hbm, ⟨6, _⟩ => ⟨S8x4096x704, .f32⟩
  | .hbm, ⟨7, _⟩ => ⟨S8x4096x704, .f32⟩
  | .hbm, ⟨8, _⟩ => ⟨S8x704x4096, .f32⟩
  | .hbm, ⟨9, _⟩ => ⟨S8x704x2048, .f32⟩
  | .hbm, ⟨10, _⟩ => ⟨S8x704x2048, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dh.lean ====
abbrev S8x4096x704 : Shape := ⟨3, ![8, 4096, 704]⟩
abbrev S8x704x2048 : Shape := ⟨3, ![8, 704, 2048]⟩
abbrev S4096x2048 : Shape := ⟨2, ![4096, 2048]⟩
abbrev S2x512x704 : Shape := ⟨3, ![2, 512, 704]⟩
abbrev S2x704x2048 : Shape := ⟨3, ![2, 704, 2048]⟩
abbrev S512x2048 : Shape := ⟨2, ![512, 2048]⟩
abbrev S1x512x704 : Shape := ⟨3, ![1, 512, 704]⟩
abbrev S512x704 : Shape := ⟨2, ![512, 704]⟩
abbrev S1x704x2048 : Shape := ⟨3, ![1, 704, 2048]⟩
abbrev S704x2048 : Shape := ⟨2, ![704, 2048]⟩

abbrev nBuf : Space → Nat
  | .hbm => 5
  | .vmem => 11
  | .smem => 0
  | _ => 0

abbrev bufTy : (tb : Table) → Fin (tcTables nBuf tb) → BufTy
  | .hbm, ⟨0, _⟩ => ⟨S8x4096x704, .bf16⟩
  | .hbm, ⟨1, _⟩ => ⟨S8x4096x704, .bf16⟩
  | .hbm, ⟨2, _⟩ => ⟨S8x704x2048, .bf16⟩
  | .hbm, ⟨3, _⟩ => ⟨S8x704x2048, .bf16⟩
  | .hbm, ⟨4, _⟩ => ⟨S4096x2048, .f32⟩
  | .local _ .vmem, ⟨0, _⟩ => ⟨S2x512x704, .bf16⟩
  | .local _ .vmem, ⟨1, _⟩ => ⟨S2x512x704, .bf16⟩
  | .local _ .vmem, ⟨2, _⟩ => ⟨S2x512x704, .bf16⟩
  | .local _ .vmem, ⟨3, _⟩ => ⟨S2x512x704, .bf16⟩
  | .local _ .vmem, ⟨4, _⟩ => ⟨S2x704x2048, .bf16⟩
  | .local _ .vmem, ⟨5, _⟩ => ⟨S2x704x2048, .bf16⟩
  | .local _ .vmem, ⟨6, _⟩ => ⟨S2x704x2048, .bf16⟩
  | .local _ .vmem, ⟨7, _⟩ => ⟨S2x704x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_28 : BitVec 32 := 0#32
  let v31 : BitVec 1 := Scalar.cmpi .ne v30 c0_i32_28
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DhRefIdeal.lean ====
abbrev S8x4096x704 : Shape := ⟨3, ![8, 4096, 704]⟩
abbrev S8x704x2048 : Shape := ⟨3, ![8, 704, 2048]⟩
abbrev S_ : Shape := ⟨0, ![]⟩
abbrev S4096x2048 : Shape := ⟨2, ![4096, 2048]⟩
abbrev S8x704x4096 : Shape := ⟨3, ![8, 704, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x4096x704, .bf16⟩
  | .hbm, ⟨2, _⟩ => ⟨S8x704x2048, .bf16⟩
  | .hbm, ⟨3, _⟩ => ⟨S8x704x2048, .bf16⟩
  | .hbm, ⟨4, _⟩ => ⟨S_, .f32⟩
  | .hbm, ⟨5, _⟩ => ⟨S4096x2048, .f32⟩
  | .hbm, ⟨6, _⟩ => ⟨S8x704x2048, .f32⟩
  | .hbm, ⟨7, _⟩ => ⟨S8x704x4096, .f32⟩
  | .hbm, ⟨8, _⟩ => ⟨S8x4096x704, .f32⟩
  | .hbm, ⟨9, _⟩ => ⟨S8x704x2048, .f32⟩
  | .hbm, ⟨10, _⟩ => ⟨S8x704x4096, .f32⟩
  | .hbm, ⟨11, _⟩ => ⟨S8x4096x704, .f32⟩
  | .hbm, ⟨12, _⟩ => ⟨S8x4096x704, .f32⟩
  | .hbm, ⟨13, _⟩ => ⟨S8x4096x704, .f32⟩
  | .hbm, ⟨14, _⟩ => ⟨S8x704x4096, .f32⟩
  | .hbm, ⟨15, _⟩ => ⟨S4096x2048, .f32⟩
  | .hbm, ⟨16, _⟩ => ⟨S8x704x4096, .f32⟩
  | .hbm, ⟨17, _⟩ => ⟨S4096x2048, .f32⟩
  | .hbm, ⟨18, _⟩ => ⟨S4096x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Up.lean ====
abbrev S4096x2048 : Shape := ⟨2, ![4096, 2048]⟩
abbrev S8x704x2048 : Shape := ⟨3, ![8, 704, 2048]⟩
abbrev S8x4096x704 : Shape := ⟨3, ![8, 4096, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x704x2048, .bf16⟩
  | .hbm, ⟨3, _⟩ => ⟨S8x4096x704, .bf16⟩
  | .hbm, ⟨4, _⟩ => ⟨S8x4096x704, .bf16⟩
  | .hbm, ⟨5, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S4096x2048 : Shape := ⟨2, ![4096, 2048]⟩
abbrev S8x704x2048 : Shape := ⟨3, ![8, 704, 2048]⟩
abbrev S8x704x4096 : Shape := ⟨3, ![8, 704, 4096]⟩
abbrev S8x4096x704 : Shape := ⟨3, ![8, 4096, 704]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x704x2048, .bf16⟩
  | .hbm, ⟨3, _⟩ => ⟨S4096x2048, .f32⟩
  | .hbm, ⟨4, _⟩ => ⟨S8x704x2048, .f32⟩
  | .hbm, ⟨5, _⟩ => ⟨S8x704x4096, .f32⟩
  | .hbm, ⟨6, _⟩ => ⟨S8x4096x704, .f32⟩
  | .hbm, ⟨7, _⟩ => ⟨S8x704x2048, .f32⟩
  | .hbm, ⟨8, _⟩ => ⟨S8x704x4096, .f32⟩
  | .hbm, ⟨9, _⟩ => ⟨S8x4096x704, .f32⟩
  | .hbm, ⟨10, _⟩ => ⟨S8x4096x704, .f32⟩
  | .hbm, ⟨11, _⟩ => ⟨S8x4096x704, .f32⟩
  | .hbm, ⟨12, _⟩ => ⟨S_, .f32⟩
  | .hbm, ⟨13, _⟩ => ⟨S8x4096x704, .f32⟩
  | .hbm, ⟨14, _⟩ => ⟨S8x4096x704, .f32⟩
  | .hbm, ⟨15, _⟩ => ⟨S_, .f32⟩
  | .hbm, ⟨16, _⟩ => ⟨S8x4096x704, .f32⟩
  | .hbm, ⟨17, _⟩ => ⟨S8x4096x704, .f32⟩
  | .hbm, ⟨18, _⟩ => ⟨S8x4096x704, .f32⟩
  | .hbm, ⟨19, _⟩ => ⟨S8x4096x704, .f32⟩
  | .hbm, ⟨20, _⟩ => ⟨S8x4096x704, .bf16⟩
  | .hbm, ⟨21, _⟩ => ⟨S8x4096x704, .bf16⟩
  | .hbm, ⟨22, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Down.lean ====
abbrev S8x4096x704 : Shape := ⟨3, ![8, 4096, 704]⟩
abbrev S8x704x2048 : Shape := ⟨3, ![8, 704, 2048]⟩
abbrev S4096x2048 : Shape := ⟨2, ![4096, 2048]⟩
abbrev S8x512x704 : Shape := ⟨3, ![8, 512, 704]⟩
abbrev S8x704x1024 : Shape := ⟨3, ![8, 704, 1024]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S4096x2048, .f32⟩
  | .hbm, ⟨3, _⟩ => ⟨S4096x2048, .f32⟩
  | .local _ .vmem, ⟨0, _⟩ => ⟨S8x512x704, .bf16⟩
  | .local _ .vmem, ⟨1, _⟩ => ⟨S8x512x704, .bf16⟩
  | .local _ .vmem, ⟨2, _⟩ => ⟨S8x704x1024, .bf16⟩
  | .local _ .vmem, ⟨3, _⟩ => ⟨S8x704x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S8x4096x704 : Shape := ⟨3, ![8, 4096, 704]⟩
abbrev S8x704x2048 : Shape := ⟨3, ![8, 704, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S4096x2048, .f32⟩
  | .hbm, ⟨3, _⟩ => ⟨S8x4096x704, .f32⟩
  | .hbm, ⟨4, _⟩ => ⟨S8x704x2048, .f32⟩
  | .hbm, ⟨5, _⟩ => ⟨S4096x2048, .f32⟩
  | .hbm, ⟨6, _⟩ => ⟨S4096x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Back.lean ====
abbrev S1x4096x2048 : Shape := ⟨3, ![1, 4096, 2048]⟩
abbrev S1x2048x2048 : Shape := ⟨3, ![1, 2048, 2048]⟩
abbrev S1x1024x2048 : Shape := ⟨3, ![1, 1024, 2048]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S1x2048x2048, .bf16⟩
  | .hbm, ⟨2, _⟩ => ⟨S1x4096x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x1024, .bf16⟩
  | .local _ .vmem, ⟨5, _⟩ => ⟨S1x1024x1024, .bf16⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== BackRefIdeal.lean ====
abbrev S1x4096x2048 : Shape := ⟨3, ![1, 4096, 2048]⟩
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S1x2048x2048, .bf16⟩
  | .hbm, ⟨2, _⟩ => ⟨S_, .f32⟩
  | .hbm, ⟨3, _⟩ => ⟨S1x4096x2048, .f32⟩
  | .hbm, ⟨4, _⟩ => ⟨S1x2048x2048, .f32⟩
  | .hbm, ⟨5, _⟩ => ⟨S2048x2048, .f32⟩
  | .hbm, ⟨6, _⟩ => ⟨S1x4096x2048, .f32⟩
  | .hbm, ⟨7, _⟩ => ⟨S1x4096x2048, .f32⟩
  | .hbm, ⟨8, _⟩ => ⟨S1x4096x2048, .f32⟩
  | .hbm, ⟨9, _⟩ => ⟨S1x4096x2048, .bf16⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BackFull.lean ====
abbrev S1x4096x2048 : Shape := ⟨3, ![1, 4096, 2048]⟩
abbrev S1x2048x2048 : Shape := ⟨3, ![1, 2048, 2048]⟩
abbrev S1x1024x2048 : Shape := ⟨3, ![1, 1024, 2048]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S1x2048x2048, .bf16⟩
  | .hbm, ⟨2, _⟩ => ⟨S1x4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x1024, .f32⟩
  | .local _ .vmem, ⟨5, _⟩ => ⟨S1x1024x1024, .f32⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== BackFullRefIdeal.lean ====
abbrev S1x4096x2048 : Shape := ⟨3, ![1, 4096, 2048]⟩
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S1x2048x2048, .bf16⟩
  | .hbm, ⟨2, _⟩ => ⟨S_, .f32⟩
  | .hbm, ⟨3, _⟩ => ⟨S1x4096x2048, .f32⟩
  | .hbm, ⟨4, _⟩ => ⟨S1x2048x2048, .f32⟩
  | .hbm, ⟨5, _⟩ => ⟨S2048x2048, .f32⟩
  | .hbm, ⟨6, _⟩ => ⟨S1x4096x2048, .f32⟩
  | .hbm, ⟨7, _⟩ => ⟨S1x4096x2048, .f32⟩
  | .hbm, ⟨8, _⟩ => ⟨S1x4096x2048, .f32⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Wgrad.lean ====
abbrev S1x4096x2048 : Shape := ⟨3, ![1, 4096, 2048]⟩
abbrev S1x2048x2048 : Shape := ⟨3, ![1, 2048, 2048]⟩
abbrev S1x4096x1024 : Shape := ⟨3, ![1, 4096, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S1x4096x2048, .bf16⟩
  | .hbm, ⟨2, _⟩ => ⟨S1x2048x2048, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .bf16⟩
  | .local _ .vmem, ⟨5, _⟩ => ⟨S1x1024x1024, .bf16⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== WgradRefIdeal.lean ====
abbrev S1x4096x2048 : Shape := ⟨3, ![1, 4096, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S1x4096x2048, .bf16⟩
  | .hbm, ⟨2, _⟩ => ⟨S_, .f32⟩
  | .hbm, ⟨3, _⟩ => ⟨S1x2048x2048, .f32⟩
  | .hbm, ⟨4, _⟩ => ⟨S1x4096x2048, .f32⟩
  | .hbm, ⟨5, _⟩ => ⟨S2048x2048, .f32⟩
  | .hbm, ⟨6, _⟩ => ⟨S1x4096x2048, .f32⟩
  | .hbm, ⟨7, _⟩ => ⟨S1x4096x2048, .f32⟩
  | .hbm, ⟨8, _⟩ => ⟨S2048x2048, .f32⟩
  | .hbm, ⟨9, _⟩ => ⟨S2048x2048, .f32⟩
  | .hbm, ⟨10, _⟩ => ⟨S1x2048x2048, .f32⟩
  | .hbm, ⟨11, _⟩ => ⟨S1x2048x2048, .bf16⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proj.lean ====
abbrev S1x4096x2048 : Shape := ⟨3, ![1, 4096, 2048]⟩
abbrev S1x2048x2048 : Shape := ⟨3, ![1, 2048, 2048]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S1x4096x2048, .bf16⟩
  | .hbm, ⟨1, _⟩ => ⟨S1x2048x2048, .bf16⟩
  | .hbm, ⟨2, _⟩ => ⟨S1x4096x2048, .f32⟩
  | .hbm, ⟨3, _⟩ => ⟨S1x4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 4, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ProjRefIdeal.lean ====
abbrev S1x4096x2048 : Shape := ⟨3, ![1, 4096, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S1x2048x2048, .bf16⟩
  | .hbm, ⟨2, _⟩ => ⟨S1x4096x2048, .f32⟩
  | .hbm, ⟨3, _⟩ => ⟨S1x4096x2048, .f32⟩
  | .hbm, ⟨4, _⟩ => ⟨S1x2048x2048, .f32⟩
  | .hbm, ⟨5, _⟩ => ⟨S2048x2048, .f32⟩
  | .hbm, ⟨6, _⟩ => ⟨S1x4096x2048, .f32⟩
  | .hbm, ⟨7, _⟩ => ⟨S1x4096x2048, .f32⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Query.lean ====
abbrev S1x4096x2048 : Shape := ⟨3, ![1, 4096, 2048]⟩
abbrev S1x2048x2048 : Shape := ⟨3, ![1, 2048, 2048]⟩
abbrev S1x2048x1024 : Shape := ⟨3, ![1, 2048, 1024]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S1x2048x2048, .bf16⟩
  | .hbm, ⟨2, _⟩ => ⟨S1x4096x2048, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== QueryRefIdeal.lean ====
abbrev S1x4096x2048 : Shape := ⟨3, ![1, 4096, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S1x2048x2048, .bf16⟩
  | .hbm, ⟨2, _⟩ => ⟨S1x4096x2048, .f32⟩
  | .hbm, ⟨3, _⟩ => ⟨S1x2048x2048, .f32⟩
  | .hbm, ⟨4, _⟩ => ⟨S2048x2048, .f32⟩
  | .hbm, ⟨5, _⟩ => ⟨S1x4096x2048, .f32⟩
  | .hbm, ⟨6, _⟩ => ⟨S1x4096x2048, .bf16⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Qkv.lean ====
abbrev S1x4096x2048 : Shape := ⟨3, ![1, 4096, 2048]⟩
abbrev S1x6160x2048 : Shape := ⟨3, ![1, 6160, 2048]⟩
abbrev S1x4096x6144 : Shape := ⟨3, ![1, 4096, 6144]⟩
abbrev S1x1024x2048 : Shape := ⟨3, ![1, 1024, 2048]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S1x6160x2048, .bf16⟩
  | .hbm, ⟨2, _⟩ => ⟨S1x4096x6144, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x1024, .bf16⟩
  | .local _ .vmem, ⟨5, _⟩ => ⟨S1x1024x1024, .bf16⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 6, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== QkvRefIdeal.lean ====
abbrev S1x4096x2048 : Shape := ⟨3, ![1, 4096, 2048]⟩
abbrev S1x6160x2048 : Shape := ⟨3, ![1, 6160, 2048]⟩
abbrev S6160x2048 : Shape := ⟨2, ![6160, 2048]⟩
abbrev S6144x2048 : Shape := ⟨2, ![6144, 2048]⟩
abbrev S2048x6144 : Shape := ⟨2, ![2048, 6144]⟩
abbrev S1x4096x6144 : Shape := ⟨3, ![1, 4096, 6144]⟩

abbrev nBuf : Space → Nat
  | .hbm => 9
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S1x6160x2048, .bf16⟩
  | .hbm, ⟨2, _⟩ => ⟨S1x4096x2048, .f32⟩
  | .hbm, ⟨3, _⟩ => ⟨S1x6160x2048, .f32⟩
  | .hbm, ⟨4, _⟩ => ⟨S6160x2048, .f32⟩
  | .hbm, ⟨5, _⟩ => ⟨S6144x2048, .f32⟩
  | .hbm, ⟨6, _⟩ => ⟨S2048x6144, .f32⟩
  | .hbm, ⟨7, _⟩ => ⟨S1x4096x6144, .f32⟩
  | .hbm, ⟨8, _⟩ => ⟨S1x4096x6144, .bf16⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== QkvWgrad.lean ====
abbrev S1x4096x6144 : Shape := ⟨3, ![1, 4096, 6144]⟩
abbrev S1x4096x2048 : Shape := ⟨3, ![1, 4096, 2048]⟩
abbrev S1x6144x2048 : Shape := ⟨3, ![1, 6144, 2048]⟩
abbrev S1x4096x1024 : Shape := ⟨3, ![1, 4096, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x6144, .bf16⟩
  | .hbm, ⟨1, _⟩ => ⟨S1x4096x2048, .bf16⟩
  | .hbm, ⟨2, _⟩ => ⟨S1x6144x2048, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .bf16⟩
  | .local _ .vmem, ⟨5, _⟩ => ⟨S1x1024x1024, .bf16⟩
  | _, _ => ⟨S1x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 6, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== QkvWgradRefIdeal.lean ====
abbrev S1x4096x6144 : Shape := ⟨3, ![1, 4096, 6144]⟩
abbrev S1x4096x2048 : Shape := ⟨3, ![1, 4096, 2048]⟩
abbrev S_ : Shape := ⟨0, ![]⟩
abbrev S1x6144x2048 : Shape := ⟨3, ![1, 6144, 2048]⟩
abbrev S6144x2048 : Shape := ⟨2, ![6144, 2048]⟩
abbrev S2048x6144 : Shape := ⟨2, ![2048, 6144]⟩

abbrev nBuf : Space → Nat
  | .hbm => 14
  | .vmem => 0
  | .smem => 0
  | _ => 0

abbrev bufTy : (tb : Table) → Fin (tcTables nBuf tb) → BufTy
  | .hbm, ⟨0, _⟩ => ⟨S1x4096x6144, .bf16⟩
  | .hbm, ⟨1, _⟩ => ⟨S1x4096x2048, .bf16⟩
  | .hbm, ⟨2, _⟩ => ⟨S_, .f32⟩
  | .hbm, ⟨3, _⟩ => ⟨S1x6144x2048, .f32⟩
  | .hbm, ⟨4, _⟩ => ⟨S1x4096x2048, .f32⟩
  | .hbm, ⟨5, _⟩ => ⟨S6144x2048, .f32⟩
  | .hbm, ⟨6, _⟩ => ⟨S2048x6144, .f32⟩
  | .hbm, ⟨7, _⟩ => ⟨S1x4096x6144, .f32⟩
  | .hbm, ⟨8, _⟩ => ⟨S1x4096x6144, .f32⟩
  | .hbm, ⟨9, _⟩ => ⟨S6144x2048, .f32⟩
  | .hbm, ⟨10, _⟩ => ⟨S2048x6144, .f32⟩
  | .hbm, ⟨11, _⟩ => ⟨S6144x2048, .f32⟩
  | .hbm, ⟨12, _⟩ => ⟨S1x6144x2048, .f32⟩
  | .hbm, ⟨13, _⟩ => ⟨S1x6144x2048, .bf16⟩
  | _, _ => ⟨S1x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== QkvBack.lean ====
abbrev S1x4096x6144 : Shape := ⟨3, ![1, 4096, 6144]⟩
abbrev S1x6160x2048 : Shape := ⟨3, ![1, 6160, 2048]⟩
abbrev S1x4096x2048 : Shape := ⟨3, ![1, 4096, 2048]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1x4096x6144, .bf16⟩
  | .hbm, ⟨1, _⟩ => ⟨S1x6160x2048, .bf16⟩
  | .hbm, ⟨2, _⟩ => ⟨S1x4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S1x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 2, 3], ![false, false, false, false]⟩

def k0_cond3 (i : grid0.Coords) : BitVec 1 :=
  let arg3 : BitVec 32 := BitVec.ofNat 32 (i 3).val
  let c2_i32 : BitVec 32 := 2#32
  let v6 : BitVec 1 := Scalar.cmpi .eq arg3 c2_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== QkvBackRefIdeal.lean ====
abbrev S1x4096x6144 : Shape := ⟨3, ![1, 4096, 6144]⟩
abbrev S1x6160x2048 : Shape := ⟨3, ![1, 6160, 2048]⟩
abbrev S_ : Shape := ⟨0, ![]⟩
abbrev S1x4096x2048 : Shape := ⟨3, ![1, 4096, 2048]⟩
abbrev S6160x2048 : Shape := ⟨2, ![6160, 2048]⟩
abbrev S6144x2048 : Shape := ⟨2, ![6144, 2048]⟩
abbrev S2048x6144 : Shape := ⟨2, ![2048, 6144]⟩

abbrev nBuf : Space → Nat
  | .hbm => 11
  | .vmem => 0
  | .smem => 0
  | _ => 0

abbrev bufTy : (tb : Table) → Fin (tcTables nBuf tb) → BufTy
  | .hbm, ⟨0, _⟩ => ⟨S1x4096x6144, .bf16⟩
  | .hbm, ⟨1, _⟩ => ⟨S1x6160x2048, .bf16⟩
  | .hbm, ⟨2, _⟩ => ⟨S_, .f32⟩
  | .hbm, ⟨3, _⟩ => ⟨S1x4096x2048, .f32⟩
  | .hbm, ⟨4, _⟩ => ⟨S1x6160x2048, .f32⟩
  | .hbm, ⟨5, _⟩ => ⟨S6160x2048, .f32⟩
  | .hbm, ⟨6, _⟩ => ⟨S6144x2048, .f32⟩
  | .hbm, ⟨7, _⟩ => ⟨S2048x6144, .f32⟩
  | .hbm, ⟨8, _⟩ => ⟨S1x4096x6144, .f32⟩
  | .hbm, ⟨9, _⟩ => ⟨S1x4096x6144, .f32⟩
  | .hbm, ⟨10, _⟩ => ⟨S1x4096x2048, .f32⟩
  | _, _ => ⟨S1x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Even.lean ====
abbrev S1x4096x2048 : Shape := ⟨3, ![1, 4096, 2048]⟩
abbrev S8x2048x640 : Shape := ⟨3, ![8, 2048, 640]⟩
abbrev S1x4096x5120 : Shape := ⟨3, ![1, 4096, 5120]⟩
abbrev S1x1024x2048 : Shape := ⟨3, ![1, 1024, 2048]⟩
abbrev S1x2048x640 : Shape := ⟨3, ![1, 2048, 640]⟩
abbrev S1x1024x640 : Shape := ⟨3, ![1, 1024, 640]⟩
abbrev S1024x2048 : Shape := ⟨2, ![1024, 2048]⟩
abbrev S2048x640 : Shape := ⟨2, ![2048, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S8x2048x640, .bf16⟩
  | .hbm, ⟨2, _⟩ => ⟨S1x4096x5120, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x640, .bf16⟩
  | .local _ .vmem, ⟨3, _⟩ => ⟨S1x2048x640, .bf16⟩
  | .local _ .vmem, ⟨4, _⟩ => ⟨S1x1024x640, .f32⟩
  | .local _ .vmem, ⟨5, _⟩ => ⟨S1x1024x640, .f32⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 8, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg3.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== EvenRefIdeal.lean ====
abbrev S1x4096x2048 : Shape := ⟨3, ![1, 4096, 2048]⟩
abbrev S8x2048x640 : Shape := ⟨3, ![8, 2048, 640]⟩
abbrev S2048x8x640 : Shape := ⟨3, ![2048, 8, 640]⟩
abbrev S2048x5120 : Shape := ⟨2, ![2048, 5120]⟩
abbrev S1x4096x5120 : Shape := ⟨3, ![1, 4096, 5120]⟩

abbrev nBuf : Space → Nat
  | .hbm => 7
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S8x2048x640, .bf16⟩
  | .hbm, ⟨2, _⟩ => ⟨S1x4096x2048, .f32⟩
  | .hbm, ⟨3, _⟩ => ⟨S8x2048x640, .f32⟩
  | .hbm, ⟨4, _⟩ => ⟨S2048x8x640, .f32⟩
  | .hbm, ⟨5, _⟩ => ⟨S2048x5120, .f32⟩
  | .hbm, ⟨6, _⟩ => ⟨S1x4096x5120, .f32⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== EvenWgrad.lean ====
abbrev S1x4096x2048 : Shape := ⟨3, ![1, 4096, 2048]⟩
abbrev S1x4096x5120 : Shape := ⟨3, ![1, 4096, 5120]⟩
abbrev S8x2048x640 : Shape := ⟨3, ![8, 2048, 640]⟩
abbrev S1x4096x1024 : Shape := ⟨3, ![1, 4096, 1024]⟩
abbrev S1x4096x640 : Shape := ⟨3, ![1, 4096, 640]⟩
abbrev S1x1024x640 : Shape := ⟨3, ![1, 1024, 640]⟩
abbrev S4096x1024 : Shape := ⟨2, ![4096, 1024]⟩
abbrev S4096x640 : Shape := ⟨2, ![4096, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S1x4096x5120, .bf16⟩
  | .hbm, ⟨2, _⟩ => ⟨S8x2048x640, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x640, .bf16⟩
  | .local _ .vmem, ⟨3, _⟩ => ⟨S1x4096x640, .bf16⟩
  | .local _ .vmem, ⟨4, _⟩ => ⟨S1x1024x640, .bf16⟩
  | .local _ .vmem, ⟨5, _⟩ => ⟨S1x1024x640, .bf16⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 8, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg1.toNat, c0_i32.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== EvenWgradRefIdeal.lean ====
abbrev S1x4096x2048 : Shape := ⟨3, ![1, 4096, 2048]⟩
abbrev S1x4096x5120 : Shape := ⟨3, ![1, 4096, 5120]⟩
abbrev S_ : Shape := ⟨0, ![]⟩
abbrev S8x2048x640 : Shape := ⟨3, ![8, 2048, 640]⟩
abbrev S2048x8x640 : Shape := ⟨3, ![2048, 8, 640]⟩
abbrev S2048x5120 : Shape := ⟨2, ![2048, 5120]⟩
abbrev S5120x2048 : Shape := ⟨2, ![5120, 2048]⟩

abbrev nBuf : Space → Nat
  | .hbm => 14
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S1x4096x5120, .bf16⟩
  | .hbm, ⟨2, _⟩ => ⟨S_, .f32⟩
  | .hbm, ⟨3, _⟩ => ⟨S8x2048x640, .f32⟩
  | .hbm, ⟨4, _⟩ => ⟨S1x4096x2048, .f32⟩
  | .hbm, ⟨5, _⟩ => ⟨S2048x8x640, .f32⟩
  | .hbm, ⟨6, _⟩ => ⟨S2048x5120, .f32⟩
  | .hbm, ⟨7, _⟩ => ⟨S1x4096x5120, .f32⟩
  | .hbm, ⟨8, _⟩ => ⟨S1x4096x5120, .f32⟩
  | .hbm, ⟨9, _⟩ => ⟨S5120x2048, .f32⟩
  | .hbm, ⟨10, _⟩ => ⟨S2048x5120, .f32⟩
  | .hbm, ⟨11, _⟩ => ⟨S2048x8x640, .f32⟩
  | .hbm, ⟨12, _⟩ => ⟨S8x2048x640, .f32⟩
  | .hbm, ⟨13, _⟩ => ⟨S8x2048x640, .bf16⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== EvenBack.lean ====
abbrev S4096x5120 : Shape := ⟨2, ![4096, 5120]⟩
abbrev S8x2048x640 : Shape := ⟨3, ![8, 2048, 640]⟩
abbrev S4096x2048 : Shape := ⟨2, ![4096, 2048]⟩
abbrev S512x5120 : Shape := ⟨2, ![512, 5120]⟩
abbrev S8x1024x640 : Shape := ⟨3, ![8, 1024, 640]⟩
abbrev S512x1024 : Shape := ⟨2, ![512, 1024]⟩
abbrev S512x640 : Shape := ⟨2, ![512, 640]⟩
abbrev S1x1024x640 : Shape := ⟨3, ![1, 1024, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x5120, .bf16⟩
  | .hbm, ⟨1, _⟩ => ⟨S8x2048x640, .bf16⟩
  | .hbm, ⟨2, _⟩ => ⟨S4096x2048, .f32⟩
  | .local _ .vmem, ⟨0, _⟩ => ⟨S512x5120, .bf16⟩
  | .local _ .vmem, ⟨1, _⟩ => ⟨S512x5120, .bf16⟩
  | .local _ .vmem, ⟨2, _⟩ => ⟨S8x1024x640, .bf16⟩
  | .local _ .vmem, ⟨3, _⟩ => ⟨S8x1024x640, .bf16⟩
  | .local _ .vmem, ⟨4, _⟩ => ⟨S512x1024, .f32⟩
  | .local _ .vmem, ⟨5, _⟩ => ⟨S512x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenBackRefIdeal.lean ====
abbrev S4096x5120 : Shape := ⟨2, ![4096, 5120]⟩
abbrev S8x2048x640 : Shape := ⟨3, ![8, 2048, 640]⟩
abbrev S_ : Shape := ⟨0, ![]⟩
abbrev S4096x2048 : Shape := ⟨2, ![4096, 2048]⟩
abbrev S2048x8x640 : Shape := ⟨3, ![2048, 8, 640]⟩
abbrev S2048x5120 : Shape := ⟨2, ![2048, 5120]⟩

abbrev nBuf : Space → Nat
  | .hbm => 10
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S8x2048x640, .bf16⟩
  | .hbm, ⟨2, _⟩ => ⟨S_, .f32⟩
  | .hbm, ⟨3, _⟩ => ⟨S4096x2048, .f32⟩
  | .hbm, ⟨4, _⟩ => ⟨S8x2048x640, .f32⟩
  | .hbm, ⟨5, _⟩ => ⟨S2048x8x640, .f32⟩
  | .hbm, ⟨6, _⟩ => ⟨S2048x5120, .f32⟩
  | .hbm, ⟨7, _⟩ => ⟨S4096x5120, .f32⟩
  | .hbm, ⟨8, _⟩ => ⟨S4096x5120, .f32⟩
  | .hbm, ⟨9, _⟩ => ⟨S4096x2048, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Memory.lean ====
abbrev S1x256x2048 : Shape := ⟨3, ![1, 256, 2048]⟩
abbrev S8x2048x512 : Shape := ⟨3, ![8, 2048, 512]⟩
abbrev S1x256x4096 : Shape := ⟨3, ![1, 256, 4096]⟩
abbrev S1x2048x512 : Shape := ⟨3, ![1, 2048, 512]⟩
abbrev S1x256x512 : Shape := ⟨3, ![1, 256, 512]⟩
abbrev S256x2048 : Shape := ⟨2, ![256, 2048]⟩
abbrev S2048x512 : Shape := ⟨2, ![2048, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S1x256x2048, .bf16⟩
  | .hbm, ⟨1, _⟩ => ⟨S8x2048x512, .bf16⟩
  | .hbm, ⟨2, _⟩ => ⟨S1x256x4096, .bf16⟩
  | .local _ .vmem, ⟨0, _⟩ => ⟨S1x256x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x256x512, .bf16⟩
  | .local _ .vmem, ⟨4, _⟩ => ⟨S1x256x512, .bf16⟩
  | _, _ => ⟨S1x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 8, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg3.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== MemoryRefIdeal.lean ====
abbrev S1x256x2048 : Shape := ⟨3, ![1, 256, 2048]⟩
abbrev S8x2048x512 : Shape := ⟨3, ![8, 2048, 512]⟩
abbrev S2048x8x512 : Shape := ⟨3, ![2048, 8, 512]⟩
abbrev S2048x4096 : Shape := ⟨2, ![2048, 4096]⟩
abbrev S1x256x4096 : Shape := ⟨3, ![1, 256, 4096]⟩

abbrev nBuf : Space → Nat
  | .hbm => 8
  | .vmem => 0
  | .smem => 0
  | _ => 0

abbrev bufTy : (tb : Table) → Fin (tcTables nBuf tb) → BufTy
  | .hbm, ⟨0, _⟩ => ⟨S1x256x2048, .bf16⟩
  | .hbm, ⟨1, _⟩ => ⟨S8x2048x512, .bf16⟩
  | .hbm, ⟨2, _⟩ => ⟨S1x256x2048, .f32⟩
  | .hbm, ⟨3, _⟩ => ⟨S8x2048x512, .f32⟩
  | .hbm, ⟨4, _⟩ => ⟨S2048x8x512, .f32⟩
  | .hbm, ⟨5, _⟩ => ⟨S2048x4096, .f32⟩
  | .hbm, ⟨6, _⟩ => ⟨S1x256x4096, .f32⟩
  | .hbm, ⟨7, _⟩ => ⟨S1x256x4096, .bf16⟩
  | _, _ => ⟨S1x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MemoryWgrad.lean ====
abbrev S1x256x2048 : Shape := ⟨3, ![1, 256, 2048]⟩
abbrev S1x256x4096 : Shape := ⟨3, ![1, 256, 4096]⟩
abbrev S8x2048x512 : Shape := ⟨3, ![8, 2048, 512]⟩
abbrev S1x256x1024 : Shape := ⟨3, ![1, 256, 1024]⟩
abbrev S1x256x512 : Shape := ⟨3, ![1, 256, 512]⟩
abbrev S1x1024x512 : Shape := ⟨3, ![1, 1024, 512]⟩
abbrev S256x1024 : Shape := ⟨2, ![256, 1024]⟩
abbrev S256x512 : Shape := ⟨2, ![256, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S1x256x2048, .bf16⟩
  | .hbm, ⟨1, _⟩ => ⟨S1x256x4096, .bf16⟩
  | .hbm, ⟨2, _⟩ => ⟨S8x2048x512, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x512, .bf16⟩
  | .local _ .vmem, ⟨3, _⟩ => ⟨S1x256x512, .bf16⟩
  | .local _ .vmem, ⟨4, _⟩ => ⟨S1x1024x512, .bf16⟩
  | .local _ .vmem, ⟨5, _⟩ => ⟨S1x1024x512, .bf16⟩
  | _, _ => ⟨S1x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 8, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== MemoryWgradRefIdeal.lean ====
abbrev S1x256x2048 : Shape := ⟨3, ![1, 256, 2048]⟩
abbrev S1x256x4096 : Shape := ⟨3, ![1, 256, 4096]⟩
abbrev S_ : Shape := ⟨0, ![]⟩
abbrev S8x2048x512 : Shape := ⟨3, ![8, 2048, 512]⟩
abbrev S2048x8x512 : Shape := ⟨3, ![2048, 8, 512]⟩
abbrev S2048x4096 : Shape := ⟨2, ![2048, 4096]⟩
abbrev S4096x2048 : Shape := ⟨2, ![4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S1x256x2048, .bf16⟩
  | .hbm, ⟨1, _⟩ => ⟨S1x256x4096, .bf16⟩
  | .hbm, ⟨2, _⟩ => ⟨S_, .f32⟩
  | .hbm, ⟨3, _⟩ => ⟨S8x2048x512, .f32⟩
  | .hbm, ⟨4, _⟩ => ⟨S1x256x2048, .f32⟩
  | .hbm, ⟨5, _⟩ => ⟨S2048x8x512, .f32⟩
  | .hbm, ⟨6, _⟩ => ⟨S2048x4096, .f32⟩
  | .hbm, ⟨7, _⟩ => ⟨S1x256x4096, .f32⟩
  | .hbm, ⟨8, _⟩ => ⟨S1x256x4096, .f32⟩
  | .hbm, ⟨9, _⟩ => ⟨S4096x2048, .f32⟩
  | .hbm, ⟨10, _⟩ => ⟨S2048x4096, .f32⟩
  | .hbm, ⟨11, _⟩ => ⟨S2048x8x512, .f32⟩
  | .hbm, ⟨12, _⟩ => ⟨S8x2048x512, .f32⟩
  | .hbm, ⟨13, _⟩ => ⟨S8x2048x512, .bf16⟩
  | _, _ => ⟨S1x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== MemoryBack.lean ====
abbrev S1x256x4096 : Shape := ⟨3, ![1, 256, 4096]⟩
abbrev S8x2048x512 : Shape := ⟨3, ![8, 2048, 512]⟩
abbrev S1x256x2048 : Shape := ⟨3, ![1, 256, 2048]⟩
abbrev S1x256x512 : Shape := ⟨3, ![1, 256, 512]⟩
abbrev S1x1024x512 : Shape := ⟨3, ![1, 1024, 512]⟩
abbrev S1x256x1024 : Shape := ⟨3, ![1, 256, 1024]⟩
abbrev S256x1024 : Shape := ⟨2, ![256, 1024]⟩
abbrev S256x512 : Shape := ⟨2, ![256, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S1x256x4096, .bf16⟩
  | .hbm, ⟨1, _⟩ => ⟨S8x2048x512, .bf16⟩
  | .hbm, ⟨2, _⟩ => ⟨S1x256x2048, .f32⟩
  | .local _ .vmem, ⟨0, _⟩ => ⟨S1x256x512, .bf16⟩
  | .local _ .vmem, ⟨1, _⟩ => ⟨S1x256x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | _, _ => ⟨S1x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 2, 8], ![false, false, false, false]⟩

def k0_cond3 (i : grid0.Coords) : BitVec 1 :=
  let arg3 : BitVec 32 := BitVec.ofNat 32 (i 3).val
  let c7_i32 : BitVec 32 := 7#32
  let v6 : BitVec 1 := Scalar.cmpi .eq arg3 c7_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== MemoryBackRefIdeal.lean ====
abbrev S1x256x4096 : Shape := ⟨3, ![1, 256, 4096]⟩
abbrev S8x2048x512 : Shape := ⟨3, ![8, 2048, 512]⟩
abbrev S_ : Shape := ⟨0, ![]⟩
abbrev S1x256x2048 : Shape := ⟨3, ![1, 256, 2048]⟩
abbrev S2048x8x512 : Shape := ⟨3, ![2048, 8, 512]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S1x256x4096, .bf16⟩
  | .hbm, ⟨1, _⟩ => ⟨S8x2048x512, .bf16⟩
  | .hbm, ⟨2, _⟩ => ⟨S_, .f32⟩
  | .hbm, ⟨3, _⟩ => ⟨S1x256x2048, .f32⟩
  | .hbm, ⟨4, _⟩ => ⟨S8x2048x512, .f32⟩
  | .hbm, ⟨5, _⟩ => ⟨S2048x8x512, .f32⟩
  | .hbm, ⟨6, _⟩ => ⟨S2048x4096, .f32⟩
  | .hbm, ⟨7, _⟩ => ⟨S1x256x4096, .f32⟩
  | .hbm, ⟨8, _⟩ => ⟨S1x256x4096, .f32⟩
  | .hbm, ⟨9, _⟩ => ⟨S1x256x2048, .f32⟩
  | _, _ => ⟨S1x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Decay.lean ====
abbrev S1x4096x2048 : Shape := ⟨3, ![1, 4096, 2048]⟩
abbrev S1x128x2048 : Shape := ⟨3, ![1, 128, 2048]⟩
abbrev S1x4096x128 : Shape := ⟨3, ![1, 4096, 128]⟩
abbrev S1x1024x2048 : Shape := ⟨3, ![1, 1024, 2048]⟩
abbrev S1x1024x128 : Shape := ⟨3, ![1, 1024, 128]⟩
abbrev S1024x2048 : Shape := ⟨2, ![1024, 2048]⟩
abbrev S128x2048 : Shape := ⟨2, ![128, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S1x4096x2048, .bf16⟩
  | .hbm, ⟨1, _⟩ => ⟨S1x128x2048, .bf16⟩
  | .hbm, ⟨2, _⟩ => ⟨S1x4096x128, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x128x2048, .bf16⟩
  | .local _ .vmem, ⟨3, _⟩ => ⟨S1x1024x128, .f32⟩
  | .local _ .vmem, ⟨4, _⟩ => ⟨S1x1024x128, .f32⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S1x128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DecayRefIdeal.lean ====
abbrev S1x4096x2048 : Shape := ⟨3, ![1, 4096, 2048]⟩
abbrev S1x128x2048 : Shape := ⟨3, ![1, 128, 2048]⟩
abbrev S128x2048 : Shape := ⟨2, ![128, 2048]⟩
abbrev S2048x128 : Shape := ⟨2, ![2048, 128]⟩
abbrev S1x4096x128 : Shape := ⟨3, ![1, 4096, 128]⟩

abbrev nBuf : Space → Nat
  | .hbm => 7
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S1x128x2048, .bf16⟩
  | .hbm, ⟨2, _⟩ => ⟨S1x4096x2048, .f32⟩
  | .hbm, ⟨3, _⟩ => ⟨S1x128x2048, .f32⟩
  | .hbm, ⟨4, _⟩ => ⟨S128x2048, .f32⟩
  | .hbm, ⟨5, _⟩ => ⟨S2048x128, .f32⟩
  | .hbm, ⟨6, _⟩ => ⟨S1x4096x128, .f32⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DecayWgrad.lean ====
abbrev S1x4096x128 : Shape := ⟨3, ![1, 4096, 128]⟩
abbrev S1x4096x2048 : Shape := ⟨3, ![1, 4096, 2048]⟩
abbrev S1x128x2048 : Shape := ⟨3, ![1, 128, 2048]⟩
abbrev S1x4096x1024 : Shape := ⟨3, ![1, 4096, 1024]⟩
abbrev S1x128x1024 : Shape := ⟨3, ![1, 128, 1024]⟩
abbrev S4096x128 : Shape := ⟨2, ![4096, 128]⟩
abbrev S4096x1024 : Shape := ⟨2, ![4096, 1024]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x4096x128, .bf16⟩
  | .hbm, ⟨1, _⟩ => ⟨S1x4096x2048, .bf16⟩
  | .hbm, ⟨2, _⟩ => ⟨S1x128x2048, .bf16⟩
  | .local _ .vmem, ⟨0, _⟩ => ⟨S1x4096x128, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x128x1024, .bf16⟩
  | .local _ .vmem, ⟨4, _⟩ => ⟨S1x128x1024, .bf16⟩
  | _, _ => ⟨S1x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DecayWgradRefIdeal.lean ====
abbrev S1x4096x128 : Shape := ⟨3, ![1, 4096, 128]⟩
abbrev S1x4096x2048 : Shape := ⟨3, ![1, 4096, 2048]⟩
abbrev S_ : Shape := ⟨0, ![]⟩
abbrev S1x128x2048 : Shape := ⟨3, ![1, 128, 2048]⟩
abbrev S128x2048 : Shape := ⟨2, ![128, 2048]⟩
abbrev S2048x128 : Shape := ⟨2, ![2048, 128]⟩

abbrev nBuf : Space → Nat
  | .hbm => 14
  | .vmem => 0
  | .smem => 0
  | _ => 0

abbrev bufTy : (tb : Table) → Fin (tcTables nBuf tb) → BufTy
  | .hbm, ⟨0, _⟩ => ⟨S1x4096x128, .bf16⟩
  | .hbm, ⟨1, _⟩ => ⟨S1x4096x2048, .bf16⟩
  | .hbm, ⟨2, _⟩ => ⟨S_, .f32⟩
  | .hbm, ⟨3, _⟩ => ⟨S1x128x2048, .f32⟩
  | .hbm, ⟨4, _⟩ => ⟨S1x4096x2048, .f32⟩
  | .hbm, ⟨5, _⟩ => ⟨S128x2048, .f32⟩
  | .hbm, ⟨6, _⟩ => ⟨S2048x128, .f32⟩
  | .hbm, ⟨7, _⟩ => ⟨S1x4096x128, .f32⟩
  | .hbm, ⟨8, _⟩ => ⟨S1x4096x128, .f32⟩
  | .hbm, ⟨9, _⟩ => ⟨S128x2048, .f32⟩
  | .hbm, ⟨10, _⟩ => ⟨S2048x128, .f32⟩
  | .hbm, ⟨11, _⟩ => ⟨S128x2048, .f32⟩
  | .hbm, ⟨12, _⟩ => ⟨S1x128x2048, .f32⟩
  | .hbm, ⟨13, _⟩ => ⟨S1x128x2048, .bf16⟩
  | _, _ => ⟨S1x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DecayBack.lean ====
abbrev S1x4096x128 : Shape := ⟨3, ![1, 4096, 128]⟩
abbrev S1x128x2048 : Shape := ⟨3, ![1, 128, 2048]⟩
abbrev S1x4096x2048 : Shape := ⟨3, ![1, 4096, 2048]⟩
abbrev S1x1024x128 : Shape := ⟨3, ![1, 1024, 128]⟩
abbrev S1x128x1024 : Shape := ⟨3, ![1, 128, 1024]⟩
abbrev S1x1024x1024 : Shape := ⟨3, ![1, 1024, 1024]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S1x4096x128, .bf16⟩
  | .hbm, ⟨1, _⟩ => ⟨S1x128x2048, .bf16⟩
  | .hbm, ⟨2, _⟩ => ⟨S1x4096x2048, .f32⟩
  | .hbm, ⟨3, _⟩ => ⟨S1x4096x2048, .f32⟩
  | .local _ .vmem, ⟨0, _⟩ => ⟨S1x1024x128, .bf16⟩
  | .local _ .vmem, ⟨1, _⟩ => ⟨S1x1024x128, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | _, _ => ⟨S1x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 4, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== DecayBackRefIdeal.lean ====
abbrev S1x4096x128 : Shape := ⟨3, ![1, 4096, 128]⟩
abbrev S1x128x2048 : Shape := ⟨3, ![1, 128, 2048]⟩
abbrev S1x4096x2048 : Shape := ⟨3, ![1, 4096, 2048]⟩
abbrev S_ : Shape := ⟨0, ![]⟩
abbrev S128x2048 : Shape := ⟨2, ![128, 2048]⟩
abbrev S2048x128 : Shape := ⟨2, ![2048, 128]⟩

abbrev nBuf : Space → Nat
  | .hbm => 12
  | .vmem => 0
  | .smem => 0
  | _ => 0

abbrev bufTy : (tb : Table) → Fin (tcTables nBuf tb) → BufTy
  | .hbm, ⟨0, _⟩ => ⟨S1x4096x128, .bf16⟩
  | .hbm, ⟨1, _⟩ => ⟨S1x128x2048, .bf16⟩
  | .hbm, ⟨2, _⟩ => ⟨S1x4096x2048, .f32⟩
  | .hbm, ⟨3, _⟩ => ⟨S_, .f32⟩
  | .hbm, ⟨4, _⟩ => ⟨S1x4096x2048, .f32⟩
  | .hbm, ⟨5, _⟩ => ⟨S1x128x2048, .f32⟩
  | .hbm, ⟨6, _⟩ => ⟨S128x2048, .f32⟩
  | .hbm, ⟨7, _⟩ => ⟨S2048x128, .f32⟩
  | .hbm, ⟨8, _⟩ => ⟨S1x4096x128, .f32⟩
  | .hbm, ⟨9, _⟩ => ⟨S1x4096x128, .f32⟩
  | .hbm, ⟨10, _⟩ => ⟨S1x4096x2048, .f32⟩
  | .hbm, ⟨11, _⟩ => ⟨S1x4096x2048, .f32⟩
  | _, _ => ⟨S1x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Reals.lean ====
/- Extended reals that are real numbers: sums, products and the finiteness predicate read back. -/
module

public import Idealize.ShloMosaic.PureOps
public import Idealize.ShloMosaic.PureOps.Ideal.Laws
public import Idealize.ShloMosaic.Lib.IdealHost
public import Idealize.ShloMosaic.Lib.ValueIdx
public import Idealize.ShloMosaic.Lib.Pipeline.Value

@[expose] public section

noncomputable section

namespace Cert.Reals

open Idealize.ShloMosaic

theorem ofBits_inf_bf16 : Ideal.ofBits .bf16 0x7F80#16 = ⊤ := by simp [Ideal.ofBits, Ideal.ieee]
theorem ofBits_inf_f32 : Ideal.ofBits .f32 0x7F800000#32 = ⊤ := by simp [Ideal.ofBits, Ideal.ieee]
theorem ofBits_neg_inf_f32 : Ideal.ofBits .f32 0xFF800000#32 = ⊥ := by simp [Ideal.ofBits, Ideal.ieee]

/-- A value whose absolute value is below infinity is a real number. -/
theorem real_of_abs_lt {x : EReal} (h : Ideal.cmp .olt (max x (-x)) ⊤ = 1#1) : ∃ r : ℝ, x = (r : EReal) := by
  have h' : max x (-x) < ⊤ := by
    by_contra hn
    have : Ideal.cmp .olt (max x (-x)) ⊤ = 0#1 := by simp [Ideal.cmp, hn]
    rw [this] at h; exact absurd h (by decide)
  induction x using EReal.rec with
  | bot => simp at h'
  | coe r => exact ⟨r, rfl⟩
  | top => simp at h'

/-- An array of values below infinity in absolute value is an array of real numbers. -/
theorem real_array {ι : Type} {x : ι → EReal} (h : ∀ i, Ideal.cmp .olt (max (x i) (-(x i))) ⊤ = 1#1) :
    ∃ r : ι → ℝ, x = fun i => (r i : EReal) := by
  choose r hr using fun i => real_of_abs_lt (h i)
  exact ⟨r, funext hr⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_coe {ι : Type} [Fintype ι] (f g : ι → ℝ) :
    ∑ i, (f i : EReal) * (g i : EReal) = ((∑ i, f i * g i : ℝ) : EReal) := by
  rw [coe_sum]; exact Finset.sum_congr rfl fun i _ => (EReal.coe_mul _ _).symm

end Cert.Reals

end
-- ==== Proof.DactValue.lean ====
/- The gate's gradient: both results of the kernel as whole arrays, and their equality with the reference. -/
module

public import proofs.«01_k».proof.Defs
public import proofs.«01_k».proof.Proof.Reals
public import proofs.«01_k».proof.Proof.Gen.Dact.Frame
public import proofs.«01_k».proof.Proof.Gen.DactIdeal.Value
public import proofs.«01_k».proof.Proof.Gen.DactRefIdeal.Read
public import proofs.«01_k».proof.Proof.Gen.Pre_finite_dact
public import Idealize.ShloMosaic.Lib.MatmulPlain
public import Idealize.ShloMosaic.Lib.Quiescent

@[expose] public section

noncomputable section

open Idealize.ShloMosaic Idealize.ShloMosaic.TcCoe Idealize.SL.Sem
open Idealize.ShloMosaic.Pipeline (Dat)

namespace Cert.DactIdeal.Whole

open Cert.DactIdeal Cert.DactIdeal.Gen Idealize.ShloMosaic.ValueIdx

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

abbrev DY (c : Dev nD) : S4096x2048.Idx → EReal := m ((c : Thread nD τ).loc main_arg0)
abbrev WD (c : Dev nD) : S8x704x2048.Idx → EReal := m ((c : Thread nD τ).loc main_arg1)
abbrev GT (c : Dev nD) : S8x4096x704.Idx → EReal := m ((c : Thread nD τ).loc main_arg2)
abbrev UP (c : Dev nD) : S8x4096x704.Idx → EReal := m ((c : Thread nD τ).loc main_arg3)

/-- The gradient of the activation at row `r` of shard `s`, column `f`. -/
def da (c : Dev nD) (s : Fin 8) (r : Fin 4096) (f : Fin 704) : EReal := ∑ k : Fin 2048, DY m c (ix2 r k) * WD m c (ix3 s f k)

def G5 (c : Dev nD) : Buf (Elt Ideal) ((c : Thread nD τ).loc main_v0_1) := fun i : S8x4096x704.Idx =>
  da m c (i 0) (i 1) (i 2) * GT m c i * Ideal.logistic (GT m c i)
def G4 (c : Dev nD) : Buf (Elt Ideal) ((c : Thread nD τ).loc main_v0_0) := fun i : S8x4096x704.Idx =>
  da m c (i 0) (i 1) (i 2) * UP m c i * (Ideal.logistic (GT m c i) * (1 + GT m c i * (1 - Ideal.logistic (GT m c i))))

/-- Which block of each window grid point `t` works on. -/
theorem idx_facts : ∀ t : Fin cfg0.N, win0_0.index t (0 : Fin 2) = t.val / 8 ∧ win0_0.index t (1 : Fin 2) = 0
    ∧ win0_1.index t (0 : Fin 3) = t.val % 8 ∧ win0_1.index t (1 : Fin 3) = 0 ∧ win0_1.index t (2 : Fin 3) = 0
    ∧ win0_2.index t (0 : Fin 3) = t.val % 8 ∧ win0_2.index t (1 : Fin 3) = t.val / 8 ∧ win0_2.index t (2 : Fin 3) = 0
    ∧ win0_3.index t (0 : Fin 3) = t.val % 8 ∧ win0_3.index t (1 : Fin 3) = t.val / 8 ∧ win0_3.index t (2 : Fin 3) = 0
    ∧ win0_4.index t (0 : Fin 3) = t.val % 8 ∧ win0_4.index t (1 : Fin 3) = t.val / 8 ∧ win0_4.index t (2 : Fin 3) = 0
    ∧ win0_5.index t (0 : Fin 3) = t.val % 8 ∧ win0_5.index t (1 : Fin 3) = t.val / 8 ∧ win0_5.index t (2 : Fin 3) = 0 :=
  (by decide +kernel : ∀ t : Fin grid0.N, _)

/-- The product of a block of rows with a block of the weights. -/
theorem pay1_apply (P0 : Vec Ideal S1024x2048 .bf16) (P1 : Vec Ideal S1x704x2048 .bf16) (r : Fin 1024) (f : Fin 704) :
    k0_pay1 P0 P1 (ix2 r f) = ∑ k : Fin 2048, P0 (ix2 r k) * P1 (ix3 0 f k) := by
  show FloatOps.matmul (F := Ideal) (DotDims.transposedRhs 1024 2048 704) none P0
    (shapeCast S704x2048 P1 shapeCasts_S1x704x2048_S704x2048) (constant S1024x704 .f32 0x00000000#32) (ix2 r f) = _
  rw [Ideal.matmul_transposedRhs_apply, constant_apply, Ideal.ofBits_zero_f32, zero_add]
  refine Finset.sum_congr rfl fun k _ => ?_
  congr 1
  refine shapeCast_apply P1 _ (ix2 f k) (ix3 0 f k) ?_
  rw [Shape.rowMajor_val_two, Shape.rowMajor_val_three]
  show (0 * 704 + f.val) * 2048 + k.val = f.val * 2048 + k.val
  omega

/-- Where an index of grid point `t`'s result block lies in the whole array. -/
def gix (t : Fin cfg0.N) (y : S1x1024x704.Idx) : S8x4096x704.Idx :=
  ix3 ⟨t.val % 8, by omega⟩ ⟨t.val / 8 * 1024 + (y 1).val, by
    have h : (y 1).val < 1024 := (y 1).isLt
    have hN : cfg0.N = 32 := N_0
    have := t.isLt
    omega⟩ (y 2)

theorem iblk0_apply (c : Dev nD) (t : Fin cfg0.N) (r : Fin 1024) (k : Fin 2048) (y : S1x1024x704.Idx) (hy : (y 1).val = r.val) :
    iblk m c 0 t (ix2 r k : S1024x2048.Idx) = DY m c (ix2 ((gix t y) 1) k) := by
  have h := idx_facts t
  unfold iblk; rw [View.read_apply]; show V m c main_arg0 _ = m ((c : Thread nD τ).loc main_arg0) _
  rw [V_main_arg0]
  congr 1; funext a; apply Fin.ext
  match a with
  | ⟨0, _⟩ => show win0_0.index t 0 * 1024 + 1 * r.val = t.val / 8 * 1024 + (y 1).val; rw [h.1]; omega
  | ⟨1, _⟩ => show win0_0.index t 1 * 2048 + 1 * k.val = k.val; rw [h.2.1]; omega

theorem iblk1_apply (c : Dev nD) (t : Fin cfg0.N) (f : Fin 704) (k : Fin 2048) (y : S1x1024x704.Idx) (hy : (y 2).val = f.val) :
    iblk m c 1 t (ix3 0 f k : S1x704x2048.Idx) = WD m c (ix3 ((gix t y) 0) ((gix t y) 2) k) := by
  have h := idx_facts t
  unfold iblk; rw [View.read_apply]; show V m c main_arg1 _ = m ((c : Thread nD τ).loc main_arg1) _
  rw [V_main_arg1]
  congr 1; funext a; apply Fin.ext
  match a with
  | ⟨0, _⟩ => show win0_1.index t 0 * 1 + 1 * 0 = t.val % 8; rw [h.2.2.1]; omega
  | ⟨1, _⟩ => show win0_1.index t 1 * 704 + 1 * f.val = (y 2).val; rw [h.2.2.2.1]; omega
  | ⟨2, _⟩ => show win0_1.index t 2 * 2048 + 1 * k.val = k.val; rw [h.2.2.2.2.1]; omega

theorem iblk2_apply (c : Dev nD) (t : Fin cfg0.N) (y : S1x1024x704.Idx) :
    iblk m c 2 t (y : S1x1024x704.Idx) = GT m c (gix t y) := by
  have h := (idx_facts t).2.2.2.2.2
  have h0 : (y 0).val < 1 := (y 0).isLt
  unfold iblk; rw [View.read_apply]; show V m c main_arg2 _ = m ((c : Thread nD τ).loc main_arg2) _
  rw [V_main_arg2]
  congr 1; funext a; apply Fin.ext
  match a with
  | ⟨0, _⟩ => show win0_2.index t 0 * 1 + 1 * (y 0).val = t.val % 8; rw [h.1]; omega
  | ⟨1, _⟩ => show win0_2.index t 1 * 1024 + 1 * (y 1).val = t.val / 8 * 1024 + (y 1).val; rw [h.2.1]; omega
  | ⟨2, _⟩ => show win0_2.index t 2 * 704 + 1 * (y 2).val = (y 2).val; rw [h.2.2.1]; omega

theorem iblk3_apply (c : Dev nD) (t : Fin cfg0.N) (y : S1x1024x704.Idx) :
    iblk m c 3 t (y : S1x1024x704.Idx) = UP m c (gix t y) := by
  have h := (idx_facts t).2.2.2.2.2.2.2.2
  have h0 : (y 0).val < 1 := (y 0).isLt
  unfold iblk; rw [View.read_apply]; show V m c main_arg3 _ = m ((c : Thread nD τ).loc main_arg3) _
  rw [V_main_arg3]
  congr 1; funext a; apply Fin.ext
  match a with
  | ⟨0, _⟩ => show win0_3.index t 0 * 1 + 1 * (y 0).val = t.val % 8; rw [h.1]; omega
  | ⟨1, _⟩ => show win0_3.index t 1 * 1024 + 1 * (y 1).val = t.val / 8 * 1024 + (y 1).val; rw [h.2.1]; omega
  | ⟨2, _⟩ => show win0_3.index t 2 * 704 + 1 * (y 2).val = (y 2).val; rw [h.2.2.1]; omega

theorem pay1_block (c : Dev nD) (t : Fin cfg0.N) (y : S1x1024x704.Idx) :
    k0_pay1 (F := Ideal) (iblk m c 0 t) (iblk m c 1 t) (ix2 (y 1) (y 2)) = da m c ((gix t y) 0) ((gix t y) 1) ((gix t y) 2) := by
  refine (pay1_apply _ _ (y 1) (y 2)).trans ?_
  unfold da
  refine Finset.sum_congr rfl fun k _ => ?_
  rw [iblk0_apply m c t (y 1) k y rfl, iblk1_apply m c t (y 2) k y rfl]

theorem emb5 (t : Fin cfg0.N) (y : S1x1024x704.Idx) : (win0_5.blk t).view.emb y = gix t y := by
  have h := (idx_facts t).2.2.2.2.2.2.2.2.2.2.2.2.2.2
  have h0 : (y 0).val < 1 := (y 0).isLt
  funext a; apply Fin.ext
  match a with
  | ⟨0, _⟩ => show win0_5.index t 0 * 1 + 1 * (y 0).val = t.val % 8; rw [h.1]; omega
  | ⟨1, _⟩ => show win0_5.index t 1 * 1024 + 1 * (y 1).val = t.val / 8 * 1024 + (y 1).val; rw [h.2.1]; omega
  | ⟨2, _⟩ => show win0_5.index t 2 * 704 + 1 * (y 2).val = (y 2).val; rw [h.2.2]; omega

theorem emb4 (t : Fin cfg0.N) (y : S1x1024x704.Idx) : (win0_4.blk t).view.emb y = gix t y := by
  have h := (idx_facts t).2.2.2.2.2.2.2.2.2.2.2
  have h0 : (y 0).val < 1 := (y 0).isLt
  funext a; apply Fin.ext
  match a with
  | ⟨0, _⟩ => show win0_4.index t 0 * 1 + 1 * (y 0).val = t.val % 8; rw [h.1]; omega
  | ⟨1, _⟩ => show win0_4.index t 1 * 1024 + 1 * (y 1).val = t.val / 8 * 1024 + (y 1).val; rw [h.2.1]; omega
  | ⟨2, _⟩ => show win0_4.index t 2 * 704 + 1 * (y 2).val = (y 2).val; rw [h.2.2.1]; omega

theorem mid_eq (y : S1x1024x704.Idx) : Cert.DactIdeal.Value.ix5_0 y = ix2 (y 1) (y 2) := by
  funext a; match a with
  | ⟨0, _⟩ => rfl
  | ⟨1, _⟩ => rfl
theorem unit_eq (y : S1x1024x704.Idx) : Cert.DactIdeal.Value.ix5_1 y = y := by
  have h0 : (y 0).val < 1 := (y 0).isLt
  funext a; apply Fin.ext
  match a with
  | ⟨0, _⟩ => show 0 = (y 0).val; omega
  | ⟨1, _⟩ => rfl
  | ⟨2, _⟩ => rfl

theorem E5_apply (P0 : Vec Ideal S1024x2048 .bf16) (P1 : Vec Ideal S1x704x2048 .bf16) (P2 : Vec Ideal S1x1024x704 .bf16) (y : S1x1024x704.Idx) :
    (View.canon (Val := Elt Ideal) (s := S1x1024x704) (e := .bf16) [⟨r0_2, k0_pay4 P0 P1 P2⟩] y : EReal)
      = (k0_pay1 P0 P1 (ix2 (y 1) (y 2)) * P2 y * Ideal.logistic (P2 y) : EReal) := by
  refine (Cert.DactIdeal.Value.canon5_eq (F := Ideal) _ _ _ y).trans ?_
  show (k0_pay1 P0 P1 (Cert.DactIdeal.Value.ix5_0 y) * P2 (Cert.DactIdeal.Value.ix5_1 y) * Ideal.logistic (P2 (Cert.DactIdeal.Value.ix5_1 y)) : EReal) = _
  rw [unit_eq, mid_eq]; rfl

theorem E4_apply (P0 : Vec Ideal S1024x2048 .bf16) (P1 : Vec Ideal S1x704x2048 .bf16) (P2 P3 : Vec Ideal S1x1024x704 .bf16) (y : S1x1024x704.Idx) :
    (View.canon (Val := Elt Ideal) (s := S1x1024x704) (e := .bf16) [⟨r0_2, k0_pay5 P0 P1 P3 P2⟩] y : EReal)
      = (k0_pay1 P0 P1 (ix2 (y 1) (y 2)) * P2 y * (Ideal.logistic (P3 y) * (1 + P3 y * (1 - Ideal.logistic (P3 y)))) : EReal) := by
  refine (Cert.DactIdeal.Value.canon4_eq (F := Ideal) _ _ _ _ y).trans ?_
  show (k0_pay1 P0 P1 (Cert.DactIdeal.Value.ix5_0 y) * P2 (Cert.DactIdeal.Value.ix5_1 y) * (Ideal.logistic (P3 (Cert.DactIdeal.Value.ix5_1 y))
    * (Ideal.ofBits .f32 0x3F800000#32 + P3 (Cert.DactIdeal.Value.ix5_1 y) * (Ideal.ofBits .f32 0x3F800000#32
      - Ideal.logistic (P3 (Cert.DactIdeal.Value.ix5_1 y))))) : EReal) = _
  rw [unit_eq, mid_eq, Ideal.ofBits_one_f32]; rfl

theorem flushed_eq5 (c : Dev nD) (t : Fin cfg0.N) :
    (dats m 0 c).flushed 5 t = (win0_5.blk t).view.read (Elt Ideal) (G5 m c) := by
  rw [Cert.DactIdeal.Value.flushed5]
  unfold out0_5
  rw [View.ld_unit_zero hz2, View.ld_unit_zero hz3, View.ld_unit_zero hz3]
  funext y
  rw [View.read_apply]
  refine (E5_apply _ _ _ y).trans ?_
  rw [pay1_block, iblk2_apply]
  refine Eq.trans ?_ (congrArg (G5 m c) (emb5 t y)).symm
  rfl

theorem flushed_eq4 (c : Dev nD) (t : Fin cfg0.N) :
    (dats m 0 c).flushed 4 t = (win0_4.blk t).view.read (Elt Ideal) (G4 m c) := by
  rw [Cert.DactIdeal.Value.flushed4]
  unfold out0_4
  rw [View.ld_unit_zero hz2, View.ld_unit_zero hz3, View.ld_unit_zero hz3, View.ld_unit_zero hz3]
  funext y
  rw [View.read_apply]
  refine (E4_apply _ _ _ _ y).trans ?_
  rw [pay1_block, iblk2_apply, iblk3_apply]
  refine Eq.trans ?_ (congrArg (G4 m c) (emb4 t y)).symm
  rfl

/-- Every index of a result lies in the block of the grid point of its shard and row block. -/
theorem cover5 (i : S8x4096x704.Idx) : ∃ t : Fin cfg0.N, (cfg0.win 5).flush t = true ∧ i ∈ ((cfg0.win 5).blk t).view.set := by
  have h0 : (i 0).val < 8 := (i 0).isLt
  have h1 : (i 1).val < 4096 := (i 1).isLt
  have hN : cfg0.N = 32 := N_0
  refine ⟨⟨(i 1).val / 1024 * 8 + (i 0).val, by omega⟩, flush0_5 _, ?_⟩
  refine Finset.mem_map.2 ⟨(ix3 0 ⟨(i 1).val % 1024, by omega⟩ (i 2) : S1x1024x704.Idx), Finset.mem_univ _, ?_⟩
  refine (emb5 _ _).trans ?_
  funext a; apply Fin.ext
  match a with
  | ⟨0, _⟩ => show ((i 1).val / 1024 * 8 + (i 0).val) % 8 = (i 0).val; omega
  | ⟨1, _⟩ => show ((i 1).val / 1024 * 8 + (i 0).val) / 8 * 1024 + (i 1).val % 1024 = (i 1).val; omega
  | ⟨2, _⟩ => rfl

theorem cover4 (i : S8x4096x704.Idx) : ∃ t : Fin cfg0.N, (cfg0.win 4).flush t = true ∧ i ∈ ((cfg0.win 4).blk t).view.set := by
  have h0 : (i 0).val < 8 := (i 0).isLt
  have h1 : (i 1).val < 4096 := (i 1).isLt
  have hN : cfg0.N = 32 := N_0
  refine ⟨⟨(i 1).val / 1024 * 8 + (i 0).val, by omega⟩, flush0_4 _, ?_⟩
  refine Finset.mem_map.2 ⟨(ix3 0 ⟨(i 1).val % 1024, by omega⟩ (i 2) : S1x1024x704.Idx), Finset.mem_univ _, ?_⟩
  refine (emb4 _ _).trans ?_
  funext a; apply Fin.ext
  match a with
  | ⟨0, _⟩ => show ((i 1).val / 1024 * 8 + (i 0).val) % 8 = (i 0).val; omega
  | ⟨1, _⟩ => show ((i 1).val / 1024 * 8 + (i 0).val) / 8 * 1024 + (i 1).val % 1024 = (i 1).val; omega
  | ⟨2, _⟩ => rfl

theorem final4 (c : Dev nD) : (dats m 0 c).arrAt 4 cfg0.N = G4 m c :=
  (dats m 0 c).arrAt_eq_of_cover 4 (G4 m c) (fun t _ => flushed_eq4 m c t) cover4
theorem final5 (c : Dev nD) : (dats m 0 c).arrAt 5 cfg0.N = G5 m c :=
  (dats m 0 c).arrAt_eq_of_cover 5 (G5 m c) (fun t _ => flushed_eq5 m c t) cover5

/-! ## The reference -/

section
open Cert.DactRefIdeal.Read

/-- The reference's logistic of the gate. -/
theorem ref_sig (g : S8x4096x704.Idx → EReal) (i : S8x4096x704.Idx) :
    val_main_v3_2 (F := Ideal) g i = Ideal.logistic (g i) := by
  rw [val_main_v3_2_apply, val_main_call0_v4_apply, val_main_call0_cst_0_apply, val_main_call0_v3_apply, val_main_call0_v2_apply,
    val_main_call0_cst_apply, val_main_call0_v1_apply, val_main_call0_v0_apply, val_main_v1_apply]
  show Ideal.div (Ideal.ofBits .f32 0x3F800000#32) (Ideal.ofBits .f32 0x3F800000#32 + Ideal.exp (-(g i))) = _
  rw [Ideal.ofBits_one_f32]; rfl

/-- The reference's gradient of the activation. -/
theorem ref_da (c : Dev nD) (i : S8x4096x704.Idx) :
    val_main_v8 (F := Ideal) (DY m c) (WD m c) i = da m c (i 0) (i 1) (i 2) := by
  rw [val_main_v8_apply, val_main_v7_apply]
  unfold da
  refine Finset.sum_congr rfl fun k _ => ?_
  rw [val_main_v6_apply, val_main_v0_apply]
  show DY m c _ * WD m c _ = _
  congr 2
  · funext a; match a with
    | ⟨0, _⟩ => rfl
    | ⟨1, _⟩ => rfl
  · funext a; match a with
    | ⟨0, _⟩ => rfl
    | ⟨1, _⟩ => rfl
    | ⟨2, _⟩ => rfl

/-- The reference's second result is the kernel's, in any extended reals. -/
theorem ref5 (c : Dev nD) : val_main_v13 (F := Ideal) (DY m c) (WD m c) (GT m c) = G5 m c := by
  funext i
  rw [val_main_v13_apply, val_main_v9_apply, val_main_v3_0_apply, val_main_v1_apply, ref_sig, ref_da]
  show GT m c i * Ideal.logistic (GT m c i) * da m c (i 0) (i 1) (i 2) = da m c (i 0) (i 1) (i 2) * GT m c i * Ideal.logistic (GT m c i)
  rw [mul_comm, mul_assoc]

/-- The two forms of the gate's gradient agree on real numbers. -/
theorem gate_ring (d u g : ℝ) : ((d : EReal) * u * Ideal.logistic g + (g : EReal) * (d * u) * (Ideal.logistic g * (1 - Ideal.logistic g)) : EReal)
    = d * u * (Ideal.logistic g * (1 + g * (1 - Ideal.logistic g))) := by
  rw [Ideal.logistic_coe, ← EReal.coe_one]
  generalize (1 + Real.exp (-g))⁻¹ = s
  norm_cast
  ring

/-- The reference's first result is the kernel's, where the arguments are real numbers. -/
theorem ref4 (c : Dev nD) (hdy : ∃ r : S4096x2048.Idx → ℝ, DY m c = fun i => (r i : EReal)) (hwd : ∃ r : S8x704x2048.Idx → ℝ, WD m c = fun i => (r i : EReal))
    (hg : ∃ r : S8x4096x704.Idx → ℝ, GT m c = fun i => (r i : EReal)) (hu : ∃ r : S8x4096x704.Idx → ℝ, UP m c = fun i => (r i : EReal)) :
    val_main_v12 (F := Ideal) (DY m c) (WD m c) (GT m c) (UP m c) = G4 m c := by
  funext i
  have hd : ∃ d : ℝ, da m c (i 0) (i 1) (i 2) = (d : EReal) := by
    obtain ⟨a, ha⟩ := hdy
    obtain ⟨b, hb⟩ := hwd
    unfold da
    rw [ha, hb]
    exact ⟨_, Cert.Reals.sum_mul_coe (fun k : Fin 2048 => a (ix2 (i 1) k)) (fun k => b (ix3 (i 0) (i 2) k))⟩
  obtain ⟨d, hd⟩ := hd
  obtain ⟨g, hg⟩ := hg
  obtain ⟨u, hu⟩ := hu
  rw [val_main_v12_apply, val_main_v11_apply, val_main_call1_v1_apply, val_main_call1_v2_apply, val_main_call1_v0_apply, val_main_v3_1_apply,
    val_main_call0_v7_apply, val_main_call0_v6_apply, val_main_call0_cst_1_apply, val_main_v10_apply, val_main_v1_apply, val_main_v2_apply, ref_sig, ref_da]
  unfold G4
  have e := gate_ring d (u i) (g i)
  rw [← hd] at e
  have eg : GT m c i = (g i : EReal) := congrFun hg i
  have eu : UP m c i = (u i : EReal) := congrFun hu i
  rw [← eg, ← eu] at e
  refine Eq.trans ?_ e
  show da m c (i 0) (i 1) (i 2) * UP m c i * Ideal.logistic (GT m c i) + GT m c i * (da m c (i 0) (i 1) (i 2) * UP m c i) *
    (Ideal.logistic (GT m c i) * (Ideal.ofBits .f32 0x3F800000#32 - Ideal.logistic (GT m c i))) = _
  rw [Ideal.ofBits_one_f32]
end

/-- The kernel's run with both results named. -/
theorem run : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.DactIdeal.Value.run_blocks (F := Ideal) m ρ)

/-- Under the precondition the four arguments are arrays of real numbers. -/
theorem reals (h : Pre_DactIdeal_finite_dact m) (c : Dev nD) :
    (∃ r : S4096x2048.Idx → ℝ, DY m c = fun i => (r i : EReal)) ∧ (∃ r : S8x704x2048.Idx → ℝ, WD m c = fun i => (r i : EReal))
    ∧ (∃ r : S8x4096x704.Idx → ℝ, GT m c = fun i => (r i : EReal)) ∧ (∃ r : S8x4096x704.Idx → ℝ, UP m c = fun i => (r i : EReal)) := by
  obtain ⟨h0, h1, h2, h3⟩ := h c
  refine ⟨Cert.Reals.real_array fun i => ?_, Cert.Reals.real_array fun i => ?_, Cert.Reals.real_array fun i => ?_, Cert.Reals.real_array fun i => ?_⟩
  · rw [← Cert.Reals.ofBits_inf_bf16]; exact congrFun h0 i
  · rw [← Cert.Reals.ofBits_inf_bf16]; exact congrFun h1 i
  · rw [← Cert.Reals.ofBits_inf_bf16]; exact congrFun h2 i
  · rw [← Cert.Reals.ofBits_inf_bf16]; exact congrFun h3 i

theorem algebraic : Cert.algebraic_DactIdeal_DactRefIdeal_pre_finite_dact := by
  intro m g m' g' hpre hargs
  refine ⟨fun c => G4 m c, fun c => G5 m c, run m g, ?_⟩
  refine (θ_run Cert.DactRefIdeal.defs _ _).mono (fun r h c => ?_) (Cert.DactRefIdeal.Value.run (F := Ideal) m' g')
  obtain ⟨e0, e1, e2, e3⟩ := hargs c
  obtain ⟨r0, r1, r2, r3⟩ := reals m hpre c
  refine ⟨(h c).1.trans ?_, (h c).2.1.trans ?_, (h c).2.2⟩
  · refine (Cert.DactRefIdeal.Read.val_main_v12_eq _ _ _ _).trans ?_
    rw [e0, e1, e2, e3]
    exact ref4 m c r0 r1 r2 r3
  · refine (Cert.DactRefIdeal.Read.val_main_v13_eq _ _ _).trans ?_
    rw [e0, e1, e2]
    exact ref5 m c

theorem frame_ref : Cert.quiescent_DactRefIdeal := fun m ρ _ =>
  (θ_run Cert.DactRefIdeal.defs _ _).mono (fun r h => ⟨fun c => (h c).2.2, sem_eq_zero_of_no_sems (by decide) r.2⟩)
    (Cert.DactRefIdeal.Value.run (F := Ideal) m ρ)

theorem frame_ref_pre : Cert.quiescent_DactRefIdeal_pre_finite_dact := fun m ρ _ => frame_ref m ρ trivial

end Cert.DactIdeal.Whole

end
-- ==== Proof.FoxTrip.lean ====
/- One trip of the outer loop of the attention's gradient, over any float values: what it writes, as lists of pieces. -/
module

public import proofs.«01_k».proof.Proof.Gen.FoxIdeal.Loops
public import proofs.«01_k».proof.Proof.Gen.FoxIdeal.Frame

@[expose] public section

set_option maxRecDepth 16384

noncomputable section

namespace Cert.FoxIdeal.Trip

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FoxIdeal Cert.FoxIdeal.Gen

variable {F : FTy → Type} [FloatOps F]

local notation "𝕄" => MT nD τ sig Unit (Elt F) ℕ (UR sig nD τ) ℕ

variable (c : Dev nD) (i : grid0.Coords)
  (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S4096x128 .f32) (harg4 : arg4.IsWhole)
  (arg5 : Memref sig .tc .vmem S1x1x4096 .f32) (harg5 : arg5.IsWhole) (arg6 : Memref sig .tc .vmem S4096x128 .bf16) (harg6 : arg6.IsWhole)
  (arg7 : Memref sig .tc .vmem S4096x128 .bf16) (harg7 : arg7.IsWhole) (arg8 : Memref sig .tc .vmem S4096x128 .bf16) (harg8 : arg8.IsWhole)
  (arg9 : Memref sig .tc .vmem S4096x128 .bf16) (harg9 : arg9.IsWhole) (arg10 : Memref sig .tc .vmem S4096x128 .bf16) (harg10 : arg10.IsWhole)
  (arg11 : Memref sig .tc .vmem S1x1x4096 .f32) (harg11 : arg11.IsWhole) (arg12 : Memref sig .tc .vmem S1x1x4096 .f32) (harg12 : arg12.IsWhole)
  (arg13 : Memref sig .tc .vmem S4096x128 .f32) (harg13 : arg13.IsWhole) (arg14 : Memref sig .tc .vmem S8x4096 .f32) (harg14 : arg14.IsWhole)
  (arg15 : Memref sig .tc .vmem S4096x1 .f32) (harg15 : arg15.IsWhole) (arg16 : Memref sig .tc .vmem S2x1024x128 .f32) (harg16 : arg16.IsWhole)
  (arg17 : Memref sig .tc .vmem S1024x1 .f32) (harg17 : arg17.IsWhole) (v18 : FVec F S8x128 .f32) (v30 : FVec F S1024x128 .f32)
  (X1 : BufTy.Contents (Elt F) arg1.view.ty) (X2 : BufTy.Contents (Elt F) arg2.view.ty) (X3 : BufTy.Contents (Elt F) arg3.view.ty)
  (X5 : BufTy.Contents (Elt F) arg5.view.ty) (X7 : BufTy.Contents (Elt F) arg7.view.ty) (X14 : BufTy.Contents (Elt F) arg14.view.ty)
  (X15 : BufTy.Contents (Elt F) arg15.view.ty)

/-- What one trip reads. -/
abbrev Reads : sProp 𝕄 :=
  iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3) ∗ (arg5.view.loc (c : Thread nD τ) ↦[arg5.view.set]{fullShare} X5)
    ∗ (arg7.view.loc (c : Thread nD τ) ↦[arg7.view.set]{fullShare} X7) ∗ (arg14.view.loc (c : Thread nD τ) ↦[arg14.view.set]{fullShare} X14)
    ∗ (arg15.view.loc (c : Thread nD τ) ↦[arg15.view.set]{fullShare} X15))

/-- What one trip writes. -/
abbrev Writes (f9 : BufTy.Contents (Elt F) arg9.view.ty) (f10 : BufTy.Contents (Elt F) arg10.view.ty) (f11 : BufTy.Contents (Elt F) arg11.view.ty)
    (f12 : BufTy.Contents (Elt F) arg12.view.ty) (f13 : BufTy.Contents (Elt F) arg13.view.ty) : sProp 𝕄 :=
  iprop((arg9.view.loc (c : Thread nD τ) ↦[arg9.view.set]{fullShare} f9) ∗ (arg10.view.loc (c : Thread nD τ) ↦[arg10.view.set]{fullShare} f10)
    ∗ (arg11.view.loc (c : Thread nD τ) ↦[arg11.view.set]{fullShare} f11) ∗ (arg12.view.loc (c : Thread nD τ) ↦[arg12.view.set]{fullShare} f12)
    ∗ (arg13.view.loc (c : Thread nD τ) ↦[arg13.view.set]{fullShare} f13))

/-- The accumulators a trip fills with zero before it uses them: any contents. -/
abbrev Scratch : sProp 𝕄 :=
  iprop((∃ f, (arg16.view.loc (c : Thread nD τ) ↦[arg16.view.set]{fullShare} f)) ∗ (∃ f, (arg17.view.loc (c : Thread nD τ) ↦[arg17.view.set]{fullShare} f)))

set_option maxHeartbeats 8000000 in
/-- One trip at a symbolic number `k`: the pieces it writes, as functions of the two arrays it adds to. -/
@[irreducible] def trip (k : Fin k0_t1_loop.trips) :
    Σ' (L9 : BufTy.Contents (Elt F) arg11.view.ty → BufTy.Contents (Elt F) arg13.view.ty → List (View.Piece (Elt F) S4096x128 .bf16))
      (L10 : BufTy.Contents (Elt F) arg11.view.ty → BufTy.Contents (Elt F) arg13.view.ty → List (View.Piece (Elt F) S4096x128 .bf16))
      (L11 : BufTy.Contents (Elt F) arg11.view.ty → BufTy.Contents (Elt F) arg13.view.ty → List (View.Piece (Elt F) S1x1x4096 .f32))
      (L12 : BufTy.Contents (Elt F) arg11.view.ty → BufTy.Contents (Elt F) arg13.view.ty → List (View.Piece (Elt F) S1x1x4096 .f32)),
      { L13 : BufTy.Contents (Elt F) arg11.view.ty → BufTy.Contents (Elt F) arg13.view.ty → List (View.Piece (Elt F) S4096x128 .f32) //
        ∀ (E : Set ℕ) (f9 : BufTy.Contents (Elt F) arg9.view.ty) (f10 : BufTy.Contents (Elt F) arg10.view.ty) (f11 : BufTy.Contents (Elt F) arg11.view.ty)
          (f12 : BufTy.Contents (Elt F) arg12.view.ty) (f13 : BufTy.Contents (Elt F) arg13.view.ty) (f16 : BufTy.Contents (Elt F) arg16.view.ty)
          (f17 : BufTy.Contents (Elt F) arg17.view.ty),
          iprop(Reads (F := F) c arg1 arg2 arg3 arg5 arg7 arg14 arg15 X1 X2 X3 X5 X7 X14 X15 ∗ Writes (F := F) c arg9 arg10 arg11 arg12 arg13 f9 f10 f11 f12 f13
            ∗ (arg16.view.loc (c : Thread nD τ) ↦[arg16.view.set]{fullShare} f16) ∗ (arg17.view.loc (c : Thread nD τ) ↦[arg17.view.set]{fullShare} f17))
          ⊢ wp frame (wpE (defs₀ (F := F)) Variants.none (c : Thread nD τ) none) E
              (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 k PUnit.unit)
              (fun _ => iprop(Reads (F := F) c arg1 arg2 arg3 arg5 arg7 arg14 arg15 X1 X2 X3 X5 X7 X14 X15
                ∗ Writes (F := F) c arg9 arg10 arg11 arg12 arg13 (arg9.view.writes (Elt F) f9 (L9 f11 f13)) (arg10.view.writes (Elt F) f10 (L10 f11 f13))
                  (arg11.view.writes (Elt F) f11 (L11 f11 f13)) (arg12.view.writes (Elt F) f12 (L12 f11 f13)) (arg13.view.writes (Elt F) f13 (L13 f11 f13))
                ∗ Scratch (F := F) c arg16 arg17)) } := by
  refine ⟨?_, ?_, ?_, ?_, ?_, fun E f9 f10 f11 f12 f13 f16 f17 => ?run⟩
  case run =>
    unfold k0_t1_body
    iintro ⟨⟨H1, H2, H3, H5, H7, H14, H15⟩, ⟨H9, H10, H11, H12, H13⟩, H16, H17⟩
    sl_exec
    sl_step
    isplitl [H1 H2 H3 H5 H7 H14 H15]
    · isplitl [H1]; · iexact H1
      isplitl [H2]; · iexact H2
      isplitl [H3]; · iexact H3
      isplitl [H5]; · iexact H5
      isplitl [H7]; · iexact H7
      isplitl [H14]; · iexact H14
      iexact H15
    isplitl [H9 H10 H11 H12 H13]
    · isplitl [H9]; · iexact H9
      isplitl [H10]; · iexact H10
      isplitl [H11]; · iexact H11
      isplitl [H12]; · iexact H12
      iexact H13
    isplitl [H16]
    · iexists _; iexact H16
    iexists _; iexact H17

/-- The pieces written so far into the five arrays. -/
abbrev Pieces (F : FTy → Type) : Type :=
  List (View.Piece (Elt F) S4096x128 .bf16) × List (View.Piece (Elt F) S4096x128 .bf16) × List (View.Piece (Elt F) S1x1x4096 .f32) × List (View.Piece (Elt F) S1x1x4096 .f32) × List (View.Piece (Elt F) S4096x128 .f32)

/-- A trip's pieces, at the contents it finds in the two arrays it adds to. -/
def tripL (k : Fin k0_t1_loop.trips) (f11 : BufTy.Contents (Elt F) arg11.view.ty) (f13 : BufTy.Contents (Elt F) arg13.view.ty) : Pieces F :=
  ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 k).1 f11 f13, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 k).2.1 f11 f13, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 k).2.2.1 f11 f13,
    (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 k).2.2.2.1 f11 f13, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 k).2.2.2.2.1 f11 f13)

variable (G11 : BufTy.Contents (Elt F) arg11.view.ty) (G13 : BufTy.Contents (Elt F) arg13.view.ty)

/-- The pieces after trip `k`, from those before it. -/
@[irreducible] def pbStep (k : ℕ) (prev : Pieces F) : Pieces F :=
  if h : k < k0_t1_loop.trips then
    let n := tripL (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 ⟨k, h⟩ (arg11.view.writes (Elt F) G11 prev.2.2.1) (arg13.view.writes (Elt F) G13 prev.2.2.2.2)
    (n.1 ++ prev.1, n.2.1 ++ prev.2.1, n.2.2.1 ++ prev.2.2.1, n.2.2.2.1 ++ prev.2.2.2.1, n.2.2.2.2 ++ prev.2.2.2.2)
  else prev

/-- The pieces of the trips before `k`. -/
def pb : ℕ → Pieces F
  | 0 => ([], [], [], [], [])
  | k + 1 => pbStep (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 k (pb k)

theorem pb_succ (k : Fin k0_t1_loop.trips) :
    pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 (k.val + 1)
      = (let prev := pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 k.val
         let n := tripL (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 k (arg11.view.writes (Elt F) G11 prev.2.2.1) (arg13.view.writes (Elt F) G13 prev.2.2.2.2)
         (n.1 ++ prev.1, n.2.1 ++ prev.2.1, n.2.2.1 ++ prev.2.2.1, n.2.2.2.1 ++ prev.2.2.2.1, n.2.2.2.2 ++ prev.2.2.2.2)) := by
  rw [pb.eq_2]; unfold pbStep; exact dif_pos k.isLt

variable (G9 : BufTy.Contents (Elt F) arg9.view.ty) (G10 : BufTy.Contents (Elt F) arg10.view.ty) (G12 : BufTy.Contents (Elt F) arg12.view.ty)

/-- What holds before trip `k`. -/
abbrev inv (k : ℕ) (_ : Unit) : sProp 𝕄 :=
  iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3) ∗ (arg5.view.loc (c : Thread nD τ) ↦[arg5.view.set]{fullShare} X5)
    ∗ (arg7.view.loc (c : Thread nD τ) ↦[arg7.view.set]{fullShare} X7) ∗ (arg14.view.loc (c : Thread nD τ) ↦[arg14.view.set]{fullShare} X14)
    ∗ (arg15.view.loc (c : Thread nD τ) ↦[arg15.view.set]{fullShare} X15)
    ∗ (∃ f, (arg9.view.loc (c : Thread nD τ) ↦[arg9.view.set]{fullShare} f) ∗ ⌜f = arg9.view.writes (Elt F) G9 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 k).1⌝)
    ∗ (∃ f, (arg10.view.loc (c : Thread nD τ) ↦[arg10.view.set]{fullShare} f) ∗ ⌜f = arg10.view.writes (Elt F) G10 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 k).2.1⌝)
    ∗ (∃ f, (arg11.view.loc (c : Thread nD τ) ↦[arg11.view.set]{fullShare} f) ∗ ⌜f = arg11.view.writes (Elt F) G11 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 k).2.2.1⌝)
    ∗ (∃ f, (arg12.view.loc (c : Thread nD τ) ↦[arg12.view.set]{fullShare} f) ∗ ⌜f = arg12.view.writes (Elt F) G12 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 k).2.2.2.1⌝)
    ∗ (∃ f, (arg13.view.loc (c : Thread nD τ) ↦[arg13.view.set]{fullShare} f) ∗ ⌜f = arg13.view.writes (Elt F) G13 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 k).2.2.2.2⌝)
    ∗ (∃ f, (arg16.view.loc (c : Thread nD τ) ↦[arg16.view.set]{fullShare} f))
    ∗ (∃ f, (arg17.view.loc (c : Thread nD τ) ↦[arg17.view.set]{fullShare} f)))

set_option maxHeartbeats 2000000 in
set_option warn.classDefReducibility false in
/-- The outer loop by its invariant. -/
@[sl_loop] def loopInv_k0_t1 (E : Set ℕ) :
    Gen.LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 where
  inv := inv (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 G9 G10 G12
  step k acc := by
    iintro ⟨H1, H2, H3, H5, H7, H14, H15, ⟨%f9, H9, %h9⟩, ⟨%f10, H10, %h10⟩, ⟨%f11, H11, %h11⟩, ⟨%f12, H12, %h12⟩, ⟨%f13, H13, %h13⟩, ⟨%f16, H16⟩, ⟨%f17, H17⟩⟩
    iapply (wp_wand_r Idealize.ShloMosaic.frame (wpE (defs₀ (F := F)) Variants.none (c : Thread nD τ) none) E)
    isplitl [H1 H2 H3 H5 H7 H14 H15 H9 H10 H11 H12 H13 H16 H17]
    · iapply ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 k).2.2.2.2.2 E f9 f10 f11 f12 f13 f16 f17)
      isplitl [H1 H2 H3 H5 H7 H14 H15]
      · isplitl [H1]; · iexact H1
        isplitl [H2]; · iexact H2
        isplitl [H3]; · iexact H3
        isplitl [H5]; · iexact H5
        isplitl [H7]; · iexact H7
        isplitl [H14]; · iexact H14
        iexact H15
      isplitl [H9 H10 H11 H12 H13]
      · isplitl [H9]; · iexact H9
        isplitl [H10]; · iexact H10
        isplitl [H11]; · iexact H11
        isplitl [H12]; · iexact H12
        iexact H13
      isplitl [H16]; · iexact H16
      iexact H17
    · iintro %_ ⟨⟨H1, H2, H3, H5, H7, H14, H15⟩, ⟨H9, H10, H11, H12, H13⟩, ⟨%g16, H16⟩, ⟨%g17, H17⟩⟩
      isplitl [H1]; · iexact H1
      isplitl [H2]; · iexact H2
      isplitl [H3]; · iexact H3
      isplitl [H5]; · iexact H5
      isplitl [H7]; · iexact H7
      isplitl [H14]; · iexact H14
      isplitl [H15]; · iexact H15
      rw [pb_succ]
      isplitl [H9]
      · iexists _; isplitl [H9]; · iexact H9
        ipureintro; dsimp only [tripL]; rw [h9, h11, h13, ← View.writes_append]
      isplitl [H10]
      · iexists _; isplitl [H10]; · iexact H10
        ipureintro; dsimp only [tripL]; rw [h10, h11, h13, ← View.writes_append]
      isplitl [H11]
      · iexists _; isplitl [H11]; · iexact H11
        ipureintro; dsimp only [tripL]; rw [h11, h13, ← View.writes_append]
      isplitl [H12]
      · iexists _; isplitl [H12]; · iexact H12
        ipureintro; dsimp only [tripL]; rw [h12, h11, h13, ← View.writes_append]
      isplitl [H13]
      · iexists _; isplitl [H13]; · iexact H13
        ipureintro; dsimp only [tripL]; rw [h11, h13, ← View.writes_append]
      isplitl [H16]
      · iexists _; iexact H16
      iexists _; iexact H17

end Cert.FoxIdeal.Trip

end
-- ==== Proof.FoxCover.lean ====
/- Which pieces one trip of the outer loop of the attention's gradient writes into the arrays it only stores to, and that
   the trips together cover these arrays. -/
module

public import proofs.«01_k».proof.Proof.FoxTrip

@[expose] public section

set_option maxRecDepth 16384

noncomputable section

namespace Cert.FoxIdeal.Trip

open Idealize.ShloMosaic Idealize.ShloMosaic.TcCoe Idealize.ShloMosaic.Tactic
open Cert.FoxIdeal Cert.FoxIdeal.Gen

variable {F : FTy → Type} [FloatOps F]

theorem trips_eq : k0_t1_loop.trips = 4 := by decide

theorem off1_0 (k : Fin k0_t1_loop.trips) : k0_off1 k 0 = 1024 * k.val := by
  revert k; decide
theorem off1_1 (k : Fin k0_t1_loop.trips) : k0_off1 k 1 = 0 := rfl
theorem off21_2 (k : Fin k0_t1_loop.trips) : k0_off21 k 2 = 1024 * k.val := by
  revert k; decide
theorem off21_0 (k : Fin k0_t1_loop.trips) : k0_off21 k 0 = 0 := rfl
theorem off21_1 (k : Fin k0_t1_loop.trips) : k0_off21 k 1 = 0 := rfl

variable (c : Dev nD) (i : grid0.Coords)
  (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S4096x128 .f32) (harg4 : arg4.IsWhole)
  (arg5 : Memref sig .tc .vmem S1x1x4096 .f32) (harg5 : arg5.IsWhole) (arg6 : Memref sig .tc .vmem S4096x128 .bf16) (harg6 : arg6.IsWhole)
  (arg7 : Memref sig .tc .vmem S4096x128 .bf16) (harg7 : arg7.IsWhole) (arg8 : Memref sig .tc .vmem S4096x128 .bf16) (harg8 : arg8.IsWhole)
  (arg9 : Memref sig .tc .vmem S4096x128 .bf16) (harg9 : arg9.IsWhole) (arg10 : Memref sig .tc .vmem S4096x128 .bf16) (harg10 : arg10.IsWhole)
  (arg11 : Memref sig .tc .vmem S1x1x4096 .f32) (harg11 : arg11.IsWhole) (arg12 : Memref sig .tc .vmem S1x1x4096 .f32) (harg12 : arg12.IsWhole)
  (arg13 : Memref sig .tc .vmem S4096x128 .f32) (harg13 : arg13.IsWhole) (arg14 : Memref sig .tc .vmem S8x4096 .f32) (harg14 : arg14.IsWhole)
  (arg15 : Memref sig .tc .vmem S4096x1 .f32) (harg15 : arg15.IsWhole) (arg16 : Memref sig .tc .vmem S2x1024x128 .f32) (harg16 : arg16.IsWhole)
  (arg17 : Memref sig .tc .vmem S1024x1 .f32) (harg17 : arg17.IsWhole) (v18 : FVec F S8x128 .f32) (v30 : FVec F S1024x128 .f32)
  (X1 : BufTy.Contents (Elt F) arg1.view.ty) (X2 : BufTy.Contents (Elt F) arg2.view.ty) (X3 : BufTy.Contents (Elt F) arg3.view.ty)
  (X5 : BufTy.Contents (Elt F) arg5.view.ty) (X7 : BufTy.Contents (Elt F) arg7.view.ty) (X14 : BufTy.Contents (Elt F) arg14.view.ty)
  (X15 : BufTy.Contents (Elt F) arg15.view.ty)

theorem trip_9 (k : Fin k0_t1_loop.trips) (f11 : BufTy.Contents (Elt F) arg11.view.ty) (f13 : BufTy.Contents (Elt F) arg13.view.ty) :
    ∃ h p, (tripL (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 k f11 f13).1 = [(⟨Rect.unit (s := S4096x128) (k0_off1 k) S1024x128.size h, p⟩ : View.Piece (Elt F) S4096x128 .bf16)] := by
  unfold tripL trip; exact ⟨_, _, rfl⟩

theorem trip_10 (k : Fin k0_t1_loop.trips) (f11 : BufTy.Contents (Elt F) arg11.view.ty) (f13 : BufTy.Contents (Elt F) arg13.view.ty) :
    ∃ h p, (tripL (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 k f11 f13).2.1 = [(⟨Rect.unit (s := S4096x128) (k0_off1 k) S1024x128.size h, p⟩ : View.Piece (Elt F) S4096x128 .bf16)] := by
  unfold tripL trip; exact ⟨_, _, rfl⟩

theorem trip_12 (k : Fin k0_t1_loop.trips) (f11 : BufTy.Contents (Elt F) arg11.view.ty) (f13 : BufTy.Contents (Elt F) arg13.view.ty) :
    ∃ h p, (tripL (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 k f11 f13).2.2.2.1 = [(⟨Rect.unit (s := S1x1x4096) (k0_off21 k) S1x1x1024.size h, p⟩ : View.Piece (Elt F) S1x1x4096 .f32)] := by
  unfold tripL trip; exact ⟨_, _, rfl⟩

variable (G11 : BufTy.Contents (Elt F) arg11.view.ty) (G13 : BufTy.Contents (Elt F) arg13.view.ty)

theorem mem_9 (n : ℕ) (hn : n < k0_t1_loop.trips) (K : ℕ) (hK : K ≤ k0_t1_loop.trips) (h : n < K) :
    ∃ pc ∈ (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).1, ∃ h, pc.1 = Rect.unit (s := S4096x128) (k0_off1 ⟨n, hn⟩) S1024x128.size h := by
  induction K with
  | zero => omega
  | succ K ih =>
    have e := pb_succ (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 ⟨K, hK⟩
    dsimp only at e
    obtain ⟨h1, p, e1⟩ := trip_9 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 ⟨K, hK⟩ (arg11.view.writes (Elt F) G11 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.1) (arg13.view.writes (Elt F) G13 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.2.2)
    rw [e]
    rcases Nat.lt_or_ge n K with hlt | hge
    · obtain ⟨pc, hm, e2⟩ := ih (by omega) hlt
      exact ⟨pc, List.mem_append_right _ hm, e2⟩
    · obtain rfl : n = K := by omega
      refine ⟨_, List.mem_append_left _ (e1 ▸ List.mem_singleton_self _), h1, rfl⟩

theorem cover_9 (y : S4096x128.Idx) : ∃ pc ∈ (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 k0_t1_loop.trips).1, y ∈ pc.1.set := by
  have hy : (y 0).val < 4096 := (y 0).isLt
  obtain ⟨pc, hm, h, e⟩ := mem_9 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 ((y 0).val / 1024) (by rw [trips_eq]; omega) k0_t1_loop.trips le_rfl (by rw [trips_eq]; omega)
  refine ⟨pc, hm, ?_⟩
  rw [e, Rect.mem_set_unit]
  refine Fin.forall_fin_two.2 ⟨?_, ?_⟩
  · simp only [off1_0]; exact ⟨by omega, by show _ < 1024 * ((y 0).val / 1024) + 1024; omega⟩
  · have := (y 1).isLt; exact ⟨by rw [off1_1]; omega, by rw [off1_1]; show (y 1).val < 0 + 128; exact (Nat.zero_add 128).symm ▸ this⟩

theorem mem_10 (n : ℕ) (hn : n < k0_t1_loop.trips) (K : ℕ) (hK : K ≤ k0_t1_loop.trips) (h : n < K) :
    ∃ pc ∈ (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.1, ∃ h, pc.1 = Rect.unit (s := S4096x128) (k0_off1 ⟨n, hn⟩) S1024x128.size h := by
  induction K with
  | zero => omega
  | succ K ih =>
    have e := pb_succ (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 ⟨K, hK⟩
    dsimp only at e
    obtain ⟨h1, p, e1⟩ := trip_10 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 ⟨K, hK⟩ (arg11.view.writes (Elt F) G11 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.1) (arg13.view.writes (Elt F) G13 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.2.2)
    rw [e]
    rcases Nat.lt_or_ge n K with hlt | hge
    · obtain ⟨pc, hm, e2⟩ := ih (by omega) hlt
      exact ⟨pc, List.mem_append_right _ hm, e2⟩
    · obtain rfl : n = K := by omega
      refine ⟨_, List.mem_append_left _ (e1 ▸ List.mem_singleton_self _), h1, rfl⟩

theorem cover_10 (y : S4096x128.Idx) : ∃ pc ∈ (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 k0_t1_loop.trips).2.1, y ∈ pc.1.set := by
  have hy : (y 0).val < 4096 := (y 0).isLt
  obtain ⟨pc, hm, h, e⟩ := mem_10 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 ((y 0).val / 1024) (by rw [trips_eq]; omega) k0_t1_loop.trips le_rfl (by rw [trips_eq]; omega)
  refine ⟨pc, hm, ?_⟩
  rw [e, Rect.mem_set_unit]
  refine Fin.forall_fin_two.2 ⟨?_, ?_⟩
  · simp only [off1_0]; exact ⟨by omega, by show _ < 1024 * ((y 0).val / 1024) + 1024; omega⟩
  · have := (y 1).isLt; exact ⟨by rw [off1_1]; omega, by rw [off1_1]; show (y 1).val < 0 + 128; exact (Nat.zero_add 128).symm ▸ this⟩

theorem mem_12 (n : ℕ) (hn : n < k0_t1_loop.trips) (K : ℕ) (hK : K ≤ k0_t1_loop.trips) (h : n < K) :
    ∃ pc ∈ (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.2.1, ∃ h, pc.1 = Rect.unit (s := S1x1x4096) (k0_off21 ⟨n, hn⟩) S1x1x1024.size h := by
  induction K with
  | zero => omega
  | succ K ih =>
    have e := pb_succ (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 ⟨K, hK⟩
    dsimp only at e
    obtain ⟨h1, p, e1⟩ := trip_12 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 ⟨K, hK⟩ (arg11.view.writes (Elt F) G11 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.1) (arg13.view.writes (Elt F) G13 (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.2.2)
    rw [e]
    rcases Nat.lt_or_ge n K with hlt | hge
    · obtain ⟨pc, hm, e2⟩ := ih (by omega) hlt
      exact ⟨pc, List.mem_append_right _ hm, e2⟩
    · obtain rfl : n = K := by omega
      refine ⟨_, List.mem_append_left _ (e1 ▸ List.mem_singleton_self _), h1, rfl⟩

theorem cover_12 (y : S1x1x4096.Idx) : ∃ pc ∈ (pb (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 k0_t1_loop.trips).2.2.2.1, y ∈ pc.1.set := by
  have hy : (y 2).val < 4096 := (y 2).isLt
  obtain ⟨pc, hm, h, e⟩ := mem_12 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 ((y 2).val / 1024) (by rw [trips_eq]; omega) k0_t1_loop.trips le_rfl (by rw [trips_eq]; omega)
  refine ⟨pc, hm, ?_⟩
  rw [e, Rect.mem_set_unit]
  intro a
  have h0 := (y 0).isLt; have h1 := (y 1).isLt
  fin_cases a
  · exact ⟨by show k0_off21 _ 0 ≤ _; rw [off21_0]; omega, by show _ < k0_off21 _ 0 + 1; rw [off21_0]; exact (Nat.zero_add 1).symm ▸ h0⟩
  · exact ⟨by show k0_off21 _ 1 ≤ _; rw [off21_1]; omega, by show _ < k0_off21 _ 1 + 1; rw [off21_1]; exact (Nat.zero_add 1).symm ▸ h1⟩
  · exact ⟨by show k0_off21 _ 2 ≤ (y 2).val; rw [off21_2]; show 1024 * ((y 2).val / 1024) ≤ _; omega, by show (y 2).val < k0_off21 _ 2 + 1024; rw [off21_2]; show _ < 1024 * ((y 2).val / 1024) + 1024; omega⟩

end Cert.FoxIdeal.Trip

end
-- ==== Proof.FoxRun.lean ====
/- The body of the attention's gradient run over any float values: what it leaves in its five results' buffers. -/
module

public import proofs.«01_k».proof.Proof.FoxCover

@[expose] public section

set_option maxRecDepth 16384

noncomputable section

namespace Cert.FoxIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FoxIdeal Cert.FoxIdeal.Gen Cert.FoxIdeal.Trip

variable {F : FTy → Type} [FloatOps F]

local notation "𝕄" => MT nD τ sig Unit (Elt F) ℕ (UR sig nD τ) ℕ

/-- One whole store covers the first result. -/
theorem cover_8 (p : Vec F S4096x128 .bf16) (y : S4096x128.Idx) :
    ∃ pc ∈ ([⟨Rect.unit (s := S4096x128) ![0, 0] S4096x128.size inb_S4096x128_S4096x128_0_0, p⟩] : List (View.Piece (Elt F) S4096x128 .bf16)), y ∈ pc.1.set :=
  View.cover_of_tiled [⟨Rect.unit (s := S4096x128) ![0, 0] S4096x128.size inb_S4096x128_S4096x128_0_0, p⟩] S4096x128.size (by rfl) y

set_option maxHeartbeats 8000000 in
/-- What the body leaves in the five results' buffers, each a value the run finds, with the run: the inputs are kept, the
    scratch ends at something. -/
@[irreducible] def kernelRun (c : Dev nD) (i : grid0.Coords)
  (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S4096x128 .f32) (harg4 : arg4.IsWhole)
  (arg5 : Memref sig .tc .vmem S1x1x4096 .f32) (harg5 : arg5.IsWhole) (arg6 : Memref sig .tc .vmem S4096x128 .bf16) (harg6 : arg6.IsWhole)
  (arg7 : Memref sig .tc .vmem S4096x128 .bf16) (harg7 : arg7.IsWhole) (arg8 : Memref sig .tc .vmem S4096x128 .bf16) (harg8 : arg8.IsWhole)
  (arg9 : Memref sig .tc .vmem S4096x128 .bf16) (harg9 : arg9.IsWhole) (arg10 : Memref sig .tc .vmem S4096x128 .bf16) (harg10 : arg10.IsWhole)
  (arg11 : Memref sig .tc .vmem S1x1x4096 .f32) (harg11 : arg11.IsWhole) (arg12 : Memref sig .tc .vmem S1x1x4096 .f32) (harg12 : arg12.IsWhole)
  (arg13 : Memref sig .tc .vmem S4096x128 .f32) (harg13 : arg13.IsWhole) (arg14 : Memref sig .tc .vmem S8x4096 .f32) (harg14 : arg14.IsWhole)
  (arg15 : Memref sig .tc .vmem S4096x1 .f32) (harg15 : arg15.IsWhole) (arg16 : Memref sig .tc .vmem S2x1024x128 .f32) (harg16 : arg16.IsWhole)
  (arg17 : Memref sig .tc .vmem S1024x1 .f32) (harg17 : arg17.IsWhole) (x1 : Vec F S4096x128 .bf16) (x2 : Vec F S4096x128 .bf16) (x3 : Vec F S4096x128 .bf16) (x4 : Vec F S4096x128 .f32) (x5 : Vec F S1x1x4096 .f32) (x6 : Vec F S4096x128 .bf16) (x7 : Vec F S4096x128 .bf16) :
    Σ' (Y8 : Vec F S4096x128 .bf16) (Y9 : Vec F S4096x128 .bf16) (Y10 : Vec F S4096x128 .bf16) (Y11 : Vec F S1x1x4096 .f32),
      { Y12 : Vec F S1x1x4096 .f32 //
        ∀ (E : Set ℕ) (K : PUnit → sProp 𝕄),
          iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
                ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12
                ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))) -∗ K ⟨⟩))
          ⊢ wp frame (wpE (defs₀ (F := F)) Variants.none (c : Thread nD τ) none) E (cc0_od_fox_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, H13⟩, ⟨%f14, H14⟩, ⟨%f15, H15⟩, ⟨%f16, H16⟩, ⟨%f17, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    rw [cc0_od_fox_bwd_eq_skeleton]; unfold cc0_od_fox_bwd_skel
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; exact View.read_writes_eq_canon (Val := Elt F) arg8.view f8 _ (cover_8 _)
    isplitl [H9]
    · iexists _; isplitr; swap; · iexact H9
      ipureintro; exact View.read_writes_eq_canon (Val := Elt F) arg9.view f9 _ (fun y => cover_9 (F := F) _ _ _ _ _ _ _ _ _ _ _ _ _ _ _ _ _ _ _ _ _ _ _ _ _ _ _ _ _ _ _ _ _ _ _ _ _ _ _ _ _ _ _ _ _ _ _ y)
    isplitl [H10]
    · iexists _; isplitr; swap; · iexact H10
      ipureintro; exact View.read_writes_eq_canon (Val := Elt F) arg10.view f10 _ (fun y => cover_10 (F := F) _ _ _ _ _ _ _ _ _ _ _ _ _ _ _ _ _ _ _ _ _ _ _ _ _ _ _ _ _ _ _ _ _ _ _ _ _ _ _ _ _ _ _ _ _ _ _ y)
    isplitl [H11]
    · iexists _; isplitr; swap; · iexact H11
      ipureintro; rfl
    isplitl [H12]
    · iexists _; isplitr; swap; · iexact H12
      ipureintro; exact View.read_writes_eq_canon (Val := Elt F) arg12.view f12 _ (fun y => cover_12 (F := F) _ _ _ _ _ _ _ _ _ _ _ _ _ _ _ _ _ _ _ _ _ _ _ _ _ _ _ _ _ _ _ _ _ _ _ _ _ _ _ _ _ _ _ _ _ _ _ y)
    isplitl [H13]; · iexists _; iexact H13
    isplitl [H14]; · iexists _; iexact H14
    isplitl [H15]; · iexists _; iexact H15
    isplitl [H16]; · iexists _; iexact H16
    iexists _; iexact H17

end Cert.FoxIdeal.Run

end
-- ==== Proof.FoxFrame.lean ====
/- The pipeline's proof data of the attention's gradient, the body obligation, the run of the whole program and its frame,
   over any float values. -/
module

public import proofs.«01_k».proof.Proof.FoxRun

@[expose] public section

set_option maxRecDepth 16384

noncomputable section

namespace Cert.FoxIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FoxIdeal Cert.FoxIdeal.Gen Cert.FoxIdeal.Trip

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at point `t`: at the point's buffers and its input blocks. -/
abbrev runAt (c : Dev nD) (t : Fin cfg0.N) :=
  kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t)

/-- What the body leaves in each result's buffer at point `t`. -/
def out7 (c : Dev nD) (t : Fin cfg0.N) : Vec F S4096x128 .bf16 := (runAt m c t).1
def out8 (c : Dev nD) (t : Fin cfg0.N) : Vec F S4096x128 .bf16 := (runAt m c t).2.1
def out9 (c : Dev nD) (t : Fin cfg0.N) : Vec F S4096x128 .bf16 := (runAt m c t).2.2.1
def out10 (c : Dev nD) (t : Fin cfg0.N) : Vec F S1x1x4096 .f32 := (runAt m c t).2.2.2.1
def out11 (c : Dev nD) (t : Fin cfg0.N) : Vec F S1x1x4096 .f32 := (runAt m c t).2.2.2.2.1

/-- The proof data: the arrays as the program enters the call; each input's buffer kept, each result's at what the run
    leaves; three inputs are parts of one array, so an input is held at its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c t
    | ⟨9, _⟩ => out9 m c t
    | ⟨10, _⟩ => out10 m c t
    | ⟨11, _⟩ => out11 m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out7 m c t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]
theorem after0_10 (c : Dev nD) (t : Fin cfg0.N) : (dats m 0 c).after 10 t = out10 m c t := by dsimp only [dats]
theorem after0_11 (c : Dev nD) (t : Fin cfg0.N) : (dats m 0 c).after 11 t = out11 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The scratch arrays, each at something, as the run speaks of them. -/
theorem scratch_eq (c : Dev nD) :
    (Pipeline.scopedRest (Ix := Unit) (Name := ℕ) (U := UR sig nD τ) (Lvl := ℕ) (Val := Elt F) spec0 c : sProp 𝕄)
      = iprop((∃ f, ((Memref.whole cc0_scratch0).view.loc (c : Thread nD τ) ↦[(Memref.whole cc0_scratch0).view.set]{fullShare} f)) ∗ (∃ f, ((Memref.whole cc0_scratch1).view.loc (c : Thread nD τ) ↦[(Memref.whole cc0_scratch1).view.set]{fullShare} f)) ∗ (∃ f, ((Memref.whole cc0_scratch2).view.loc (c : Thread nD τ) ↦[(Memref.whole cc0_scratch2).view.set]{fullShare} f)) ∗ (∃ f, ((Memref.whole cc0_scratch3).view.loc (c : Thread nD τ) ↦[(Memref.whole cc0_scratch3).view.set]{fullShare} f)) ∗ (∃ f, ((Memref.whole cc0_scratch4).view.loc (c : Thread nD τ) ↦[(Memref.whole cc0_scratch4).view.set]{fullShare} f))) := by
  rw [scopedRest0_eq]; simp only [Memref.view_whole, View.set_whole]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.castSucc = iprop(Pipeline.scopedRest spec0 c ∗ ∃ r, prngReg c r) from rfl,
    show (dats m 0 c).Φ t.succ = iprop(Pipeline.scopedRest spec0 c ∗ ∃ r, prngReg c r) from rfl,
    show (dats m 0 c).owesAt () t.succ = (dats m 0 c).owesAt () t.castSucc from rfl,
    after0_0, after0_1, after0_2, after0_3, after0_4, after0_5, after0_6, after0_7, after0_8, after0_9, after0_10, after0_11, scratch_eq]
  unfold out7 out8 out9 out10 out11
  iintro ⟨⟨⟨S0, S1, S2, S3, S4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runAt m c t).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, S0, S1, S2, S3, S4⟩
  isplitl [S0 S1 S2 S3 S4 Hr]
  · isplitr [Hr]
    · isplitl [S0]; · iexact S0
      isplitl [S1]; · iexact S1
      isplitl [S2]; · iexact S2
      isplitl [S3]; · iexact S3
      iexact S4
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every fair execution ends, with every array of the call at what the proof data says and every counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hΦ := fun _ _ => rfl)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) (A_eq m)) (run_main m ρ)

end Cert.FoxIdeal.Run

end
-- ==== Proof.FoxClaims.lean ====
/- The frames of the attention's gradient, from the one run. -/
module

public import proofs.«01_k».proof.Defs
public import proofs.«01_k».proof.Proof.FoxFrame
public import proofs.«01_k».proof.Proof.Gen.Fox.Launch
public import proofs.«01_k».proof.Proof.Gen.FoxRefIdeal.Read
public import proofs.«01_k».proof.Proof.Gen.Pre_finite_fox
public import Idealize.ShloMosaic.Lib.Quiescent

@[expose] public section

set_option maxRecDepth 16384

noncomputable section

open Idealize.ShloMosaic Idealize.ShloMosaic.TcCoe Idealize.SL.Sem

namespace Cert.FoxIdeal.Whole

section Same
variable {F : FTy → Type} [FloatOps F]

/-- The two programs have the same kernel body. -/
theorem same_body : @Cert.Fox.cc0_od_fox_bwd F _ _ = @Cert.FoxIdeal.cc0_od_fox_bwd F _ _ := by
  set_option maxHeartbeats 0 in rfl

set_option maxHeartbeats 0 in
theorem same_labels : @Cert.Fox.defs₀ F _ _ = @Cert.FoxIdeal.defs₀ F _ _ := by
  unfold Cert.Fox.defs₀ Cert.FoxIdeal.defs₀
  refine congrArg Defs.onTc ?_
  funext l a
  match l, a with
  | 0, (t, s) => exact (same_body (F := F)) ▸ rfl

theorem same_defs : @Cert.Fox.defs F _ _ = @Cert.FoxIdeal.defs F _ _ :=
  (congrArg (Pipeline.defs Cert.Fox.pcfgs) same_labels).trans rfl

set_option maxHeartbeats 0 in
theorem same_main : @Cert.Fox.main F _ _ = @Cert.FoxIdeal.main F _ _ := by
  unfold Cert.Fox.main Cert.FoxIdeal.main Cert.Fox.fn_where.body Cert.FoxIdeal.fn_where.body Cert.Fox.fn_pad.body Cert.FoxIdeal.fn_pad.body
  funext d
  rfl
end Same

/-- The version's own program, at the machine's words. -/
theorem frame_kernel : Cert.quiescent_Fox := fun m ρ _ => by
  have h := Cert.FoxIdeal.Run.frame (F := Bits) m ρ
  rw [← same_defs, ← same_main] at h
  exact h

/-- The same program over the reals. -/
theorem frame_ideal : Cert.quiescent_FoxIdeal := fun m ρ _ => Cert.FoxIdeal.Run.frame (F := Ideal) m ρ

theorem frame_ideal_pre : Cert.quiescent_FoxIdeal_pre_finite_fox :=
  fun m ρ _ => Cert.FoxIdeal.Run.frame (F := Ideal) m ρ

end Cert.FoxIdeal.Whole

end
-- ==== Proof.FoxOps.lean ====
/- Arrays whose entries are real numbers given by a function of the coordinates: how the operations of the
   attention's gradient act on them, and what reads and writes of a buffer make of them. -/
module

public import proofs.«01_k».proof.Proof.Reals
public import Idealize.ShloMosaic.Lib.MatmulPlain
public import Idealize.ShloMosaic.Lib.WritesUnit
public import Idealize.ShloMosaic.Lib.VecWindow
public import Idealize.ShloMosaic.Lib.Pipeline.FrameBody

@[expose] public section

noncomputable section

namespace Cert.FoxOps

open Idealize.ShloMosaic Idealize.ShloMosaic.ValueIdx
open scoped BigOperators

/-- The array of two axes holds the real numbers `f r c`. -/
def At2 {m n : ℕ} (x : (⟨2, ![m, n]⟩ : Shape).Idx → EReal) (f : ℕ → ℕ → ℝ) : Prop :=
  ∀ (r : Fin m) (c : Fin n), x (ix2 r c) = ((f r.val c.val : ℝ) : EReal)

/-- The array of three axes holds the real numbers `f s r c`. -/
def At3 {l m n : ℕ} (x : (⟨3, ![l, m, n]⟩ : Shape).Idx → EReal) (f : ℕ → ℕ → ℕ → ℝ) : Prop :=
  ∀ (s : Fin l) (r : Fin m) (c : Fin n), x (ix3 s r c) = ((f s.val r.val c.val : ℝ) : EReal)

/-- The array of one axis holds the real numbers `f r`. -/
def At1 {n : ℕ} (x : (⟨1, ![n]⟩ : Shape).Idx → EReal) (f : ℕ → ℝ) : Prop :=
  ∀ (r : Fin n), x (ix1 r) = ((f r.val : ℝ) : EReal)

theorem At2.congr {m n : ℕ} {x : (⟨2, ![m, n]⟩ : Shape).Idx → EReal} {f g : ℕ → ℕ → ℝ} (h : At2 x f)
    (e : ∀ r c, r < m → c < n → f r c = g r c) : At2 x g := fun r c => by rw [h r c, e _ _ r.isLt c.isLt]
theorem At3.congr {l m n : ℕ} {x : (⟨3, ![l, m, n]⟩ : Shape).Idx → EReal} {f g : ℕ → ℕ → ℕ → ℝ} (h : At3 x f)
    (e : ∀ s r c, s < l → r < m → c < n → f s r c = g s r c) : At3 x g :=
  fun s r c => by rw [h s r c, e _ _ _ s.isLt r.isLt c.isLt]

theorem coe_range (k : ℕ) (f : ℕ → ℝ) : ((∑ t ∈ Finset.range k, f t : ℝ) : EReal) = ∑ t : Fin k, (f t.val : EReal) := by
  rw [Finset.sum_range, Cert.Reals.coe_sum]

section Ops
variable {m n k : ℕ} {φ ψ : FTy}

theorem mm_t {φ₁ φ₂ : FTy} {d : DotDims ⟨2, ![m, k]⟩ ⟨2, ![n, k]⟩ ⟨2, ![m, n]⟩} (hd : d = DotDims.transposedRhs m k n)
    {prec : Option ContractPrecision} {x : FVec Ideal ⟨2, ![m, k]⟩ φ₁} {y : FVec Ideal ⟨2, ![n, k]⟩ φ₂} {f g : ℕ → ℕ → ℝ}
    (hx : At2 x f) (hy : At2 y g) :
    At2 (matmul d prec x y (constant (F := Ideal) ⟨2, ![m, n]⟩ .f32 0x00000000#32)) (fun r c => ∑ t ∈ Finset.range k, f r t * g c t) := by
  subst hd; intro r c
  refine (Ideal.matmul_transposedRhs_apply prec x y _ r c).trans ?_
  rw [constant_apply, Ideal.ofBits_zero_f32, zero_add]
  refine Eq.trans ?_ (coe_range k _).symm
  exact Finset.sum_congr rfl fun t _ => by rw [hx r t, hy c t, EReal.coe_mul]

theorem mm_p {φ₁ φ₂ : FTy} {d : DotDims ⟨2, ![m, k]⟩ ⟨2, ![k, n]⟩ ⟨2, ![m, n]⟩} (hd : d = DotDims.plain m k n)
    {prec : Option ContractPrecision} {x : FVec Ideal ⟨2, ![m, k]⟩ φ₁} {y : FVec Ideal ⟨2, ![k, n]⟩ φ₂} {f g : ℕ → ℕ → ℝ}
    (hx : At2 x f) (hy : At2 y g) :
    At2 (matmul d prec x y (constant (F := Ideal) ⟨2, ![m, n]⟩ .f32 0x00000000#32)) (fun r c => ∑ t ∈ Finset.range k, f r t * g t c) := by
  subst hd; intro r c
  refine (Ideal.matmul_plain_apply prec x y _ r c).trans ?_
  rw [constant_apply, Ideal.ofBits_zero_f32, zero_add]
  refine Eq.trans ?_ (coe_range k _).symm
  exact Finset.sum_congr rfl fun t _ => by rw [hx r t, hy t c, EReal.coe_mul]

/-- The product that contracts the first axis of both operands. -/
theorem mm_l {φ₁ φ₂ : FTy} {d : DotDims ⟨2, ![k, m]⟩ ⟨2, ![k, n]⟩ ⟨2, ![m, n]⟩}
    (hr : d.contr.rank = 1) (hs : d.contr.size ⟨0, by rw [hr]; exact Nat.one_pos⟩ = k)
    (hl : ∀ (r : Fin m) (c : Fin n) (q : d.contr.Idx), d.lhsIdx (ix2 r c) q = ix2 (contrEquiv1 _ k hr hs q) r)
    (hrr : ∀ (r : Fin m) (c : Fin n) (q : d.contr.Idx), d.rhsIdx (ix2 r c) q = ix2 (contrEquiv1 _ k hr hs q) c)
    {prec : Option ContractPrecision} {x : FVec Ideal ⟨2, ![k, m]⟩ φ₁} {y : FVec Ideal ⟨2, ![k, n]⟩ φ₂} {f g : ℕ → ℕ → ℝ}
    (hx : At2 x f) (hy : At2 y g) :
    At2 (matmul d prec x y (constant (F := Ideal) ⟨2, ![m, n]⟩ .f32 0x00000000#32)) (fun r c => ∑ t ∈ Finset.range k, f t r * g t c) := by
  intro r c
  refine (Ideal.matmul_apply d prec x y _ (ix2 r c)).trans ?_
  rw [constant_apply, Ideal.ofBits_zero_f32, zero_add]
  refine Eq.trans ?_ (coe_range k _).symm
  rw [← Equiv.sum_comp (contrEquiv1 _ k hr hs)]
  exact Finset.sum_congr rfl fun q _ => by rw [hl, hrr, hx _ r, hy _ c, EReal.coe_mul]

theorem mulf_at {x y : FVec Ideal ⟨2, ![m, n]⟩ φ} {f g : ℕ → ℕ → ℝ} (hx : At2 x f) (hy : At2 y g) :
    At2 (mulf x y) (fun r c => f r c * g r c) := fun r c => by
  show x _ * y _ = _; rw [hx r c, hy r c, EReal.coe_mul]
theorem addf_at {x y : FVec Ideal ⟨2, ![m, n]⟩ φ} {f g : ℕ → ℕ → ℝ} (hx : At2 x f) (hy : At2 y g) :
    At2 (addf x y) (fun r c => f r c + g r c) := fun r c => by
  show x _ + y _ = _; rw [hx r c, hy r c, EReal.coe_add]
theorem subf_at {x y : FVec Ideal ⟨2, ![m, n]⟩ φ} {f g : ℕ → ℕ → ℝ} (hx : At2 x f) (hy : At2 y g) :
    At2 (subf x y) (fun r c => f r c - g r c) := fun r c => by
  show x _ - y _ = _; rw [hx r c, hy r c, EReal.coe_sub]
theorem exp_at {x : FVec Ideal ⟨2, ![m, n]⟩ φ} {f : ℕ → ℕ → ℝ} (hx : At2 x f) :
    At2 (exp x) (fun r c => Real.exp (f r c)) := fun r c => by
  show Ideal.exp (x _) = _; rw [hx r c, Ideal.exp_coe]
theorem truncf_at {x : FVec Ideal ⟨2, ![m, n]⟩ φ} {f : ℕ → ℕ → ℝ} {h : ψ.bits < φ.bits} (hx : At2 x f) :
    At2 (truncf ψ x h : FVec Ideal ⟨2, ![m, n]⟩ ψ) f := hx
theorem extf_at {x : FVec Ideal ⟨2, ![m, n]⟩ φ} {f : ℕ → ℕ → ℝ} {h : φ.bits < ψ.bits} (hx : At2 x f) :
    At2 (extf ψ x h : FVec Ideal ⟨2, ![m, n]⟩ ψ) f := hx
theorem bc_at {x : EReal} {a : ℝ} (hx : x = (a : EReal)) : At2 (broadcast ⟨2, ![m, n]⟩ x) (fun _ _ => a) := fun _ _ => hx

/-- A column repeated along the rows. -/
theorem bcol_at {x : FVec Ideal ⟨2, ![m, 1]⟩ φ} {f : ℕ → ℕ → ℝ} {h} (hx : At2 x f) :
    At2 (broadcastTo ⟨2, ![m, n]⟩ x h) (fun r _ => f r 0) := fun r c => by
  refine (broadcastTo_apply x h (ix2 r c) (ix2 r 0) fun a => ?_).trans (hx r 0)
  match a with
  | ⟨0, _⟩ => show r.val = if m = 1 then 0 else r.val; have := r.isLt; split <;> omega
  | ⟨1, _⟩ => rfl
/-- A row repeated along the columns. -/
theorem brow_at {x : FVec Ideal ⟨2, ![1, n]⟩ φ} {f : ℕ → ℕ → ℝ} {h} (hx : At2 x f) :
    At2 (broadcastTo ⟨2, ![m, n]⟩ x h) (fun _ c => f 0 c) := fun r c => by
  refine (broadcastTo_apply x h (ix2 r c) (ix2 0 c) fun a => ?_).trans (hx 0 c)
  match a with
  | ⟨0, _⟩ => rfl
  | ⟨1, _⟩ => show c.val = if n = 1 then 0 else c.val; have := c.isLt; split <;> omega

theorem cast22 {x : FVec Ideal ⟨2, ![m, n]⟩ φ} {f : ℕ → ℕ → ℝ} {h} (hx : At2 x f) : At2 (shapeCast ⟨2, ![m, n]⟩ x h) f := fun r c =>
  (shapeCast_apply x h (ix2 r c) (ix2 r c) rfl).trans (hx r c)
theorem cast32 {x : FVec Ideal ⟨3, ![1, m, n]⟩ φ} {f : ℕ → ℕ → ℕ → ℝ} {h} (hx : At3 x f) :
    At2 (shapeCast ⟨2, ![m, n]⟩ x h) (fun r c => f 0 r c) := fun r c => by
  refine (shapeCast_apply x h (ix2 r c) (ix3 0 r c) ?_).trans (hx 0 r c)
  rw [Shape.rowMajor_val_two, Shape.rowMajor_val_three]
  show (0 * m + r.val) * n + c.val = r.val * n + c.val
  rw [Nat.zero_mul, Nat.zero_add]
theorem cast23 {x : FVec Ideal ⟨2, ![m, n]⟩ φ} {f : ℕ → ℕ → ℝ} {h} (hx : At2 x f) :
    At3 (shapeCast ⟨3, ![1, m, n]⟩ x h) (fun _ r c => f r c) := fun s r c => by
  refine (shapeCast_apply x h (ix3 s r c) (ix2 r c) ?_).trans (hx r c)
  rw [Shape.rowMajor_val_two, Shape.rowMajor_val_three]
  show r.val * n + c.val = (s.val * m + r.val) * n + c.val
  have : s.val = 0 := by omega
  rw [this, Nat.zero_mul, Nat.zero_add]
theorem cast1row {x : FVec Ideal ⟨1, ![n]⟩ φ} {f : ℕ → ℝ} {h} (hx : At1 x f) :
    At2 (shapeCast ⟨2, ![1, n]⟩ x h) (fun _ c => f c) := fun r c => by
  refine (shapeCast_apply x h (ix2 r c) (ix1 c) ?_).trans (hx c)
  rw [Shape.rowMajor_val_one, Shape.rowMajor_val_two]
  show c.val = r.val * n + c.val
  have : r.val = 0 := by omega
  rw [this, Nat.zero_mul, Nat.zero_add]
theorem cast1col {x : FVec Ideal ⟨1, ![m]⟩ φ} {f : ℕ → ℝ} {h} (hx : At1 x f) :
    At2 (shapeCast ⟨2, ![m, 1]⟩ x h) (fun r _ => f r) := fun r c => by
  refine (shapeCast_apply x h (ix2 r c) (ix1 r) ?_).trans (hx r)
  rw [Shape.rowMajor_val_one, Shape.rowMajor_val_two]
  show r.val = r.val * 1 + c.val
  omega

theorem slice_at {M N o₀ o₁ : ℕ} {x : FVec Ideal ⟨2, ![M, N]⟩ φ} {f : ℕ → ℕ → ℝ} {h} (hx : At2 x f) :
    At2 (extractStridedSlice ⟨2, ![m, n]⟩ ![o₀, o₁] x h) (fun r c => f (o₀ + r) (o₁ + c)) := fun r c => by
  have h0 := h.2 0
  have h1 := h.2 1
  have h0 : o₀ + m ≤ M := h0
  have h1 : o₁ + n ≤ N := h1
  refine (extractStridedSlice_apply _ x h (ix2 r c) (ix2 ⟨o₀ + r.val, by omega⟩ ⟨o₁ + c.val, by omega⟩) fun a => ?_).trans (hx _ _)
  match a with
  | ⟨0, _⟩ => rfl
  | ⟨1, _⟩ => rfl

theorem red0 {x : FVec Ideal ⟨2, ![m, n]⟩ .f32} {f : ℕ → ℕ → ℝ} {h} {hφ} {ha} (hx : At2 x f) :
    At1 (multiReduction .add [0] ⟨1, ![n]⟩ x 0x00000000#32 h hφ ha) (fun c => ∑ t ∈ Finset.range m, f t c) := fun c => by
  refine (Ideal.multiReduction_add_single x _ h hφ ha (ix1 c)).trans ?_
  refine Eq.trans ?_ (coe_range m _).symm
  refine Finset.sum_congr rfl fun t _ => ?_
  rw [← hx t c]
  congr 1; funext a
  match a with
  | ⟨0, _⟩ => rfl
  | ⟨1, _⟩ => rfl
theorem red1 {x : FVec Ideal ⟨2, ![m, n]⟩ .f32} {f : ℕ → ℕ → ℝ} {h} {hφ} {ha} (hx : At2 x f) :
    At1 (multiReduction .add [1] ⟨1, ![m]⟩ x 0x00000000#32 h hφ ha) (fun r => ∑ t ∈ Finset.range n, f r t) := fun r => by
  refine (Ideal.multiReduction_add_single x _ h hφ ha (ix1 r)).trans ?_
  refine Eq.trans ?_ (coe_range n _).symm
  refine Finset.sum_congr rfl fun t _ => ?_
  rw [← hx r t]
  congr 1; funext a
  match a with
  | ⟨0, _⟩ => rfl
  | ⟨1, _⟩ => rfl

/-- The exponential of masked scores: zero where the key's row comes after the query's column. -/
theorem maskexp_at {x y : FVec Ideal ⟨2, ![m, n]⟩ .f32} {f g : ℕ → ℕ → ℝ} {h0 h1} (hm : m < 2 ^ 31) (hn : n < 2 ^ 31)
    (hx : At2 x f) (hy : At2 y g) :
    At2 (exp (subf (select (cmpi .sle (iota .tc ⟨2, ![m, n]⟩ 32 [0] h0) (iota .tc ⟨2, ![m, n]⟩ 32 [1] h1)) x
        (broadcast ⟨2, ![m, n]⟩ (Scalar.ofBits (F := Ideal) .f32 0xFF800000#32))) y))
      (fun r c => if r ≤ c then Real.exp (f r c - g r c) else 0) := fun r c => by
  show Ideal.exp (Scalar.select _ (x (ix2 r c)) (Ideal.ofBits .f32 0xFF800000#32) - y (ix2 r c))
    = ((if r.val ≤ c.val then Real.exp (f r.val c.val - g r.val c.val) else 0 : ℝ) : EReal)
  have hc : (cmpi .sle (iota .tc ⟨2, ![m, n]⟩ 32 [0] h0) (iota .tc ⟨2, ![m, n]⟩ 32 [1] h1)) (ix2 r c) = 1#1 ↔ r.val ≤ c.val := by
    show IntOp.cmpi .sle (BitVec.ofNat 32 (0 * m + r.val)) (BitVec.ofNat 32 (0 * n + c.val)) = 1#1 ↔ _
    have hr := r.isLt
    have hc := c.isLt
    rw [Nat.zero_mul, Nat.zero_mul, Nat.zero_add, Nat.zero_add]
    have e1 : (BitVec.ofNat 32 r.val).toInt = r.val := by rw [BitVec.toInt_eq_toNat_of_lt] <;> simp <;> omega
    have e2 : (BitVec.ofNat 32 c.val).toInt = c.val := by rw [BitVec.toInt_eq_toNat_of_lt] <;> simp <;> omega
    simp only [IntOp.cmpi, BitVec.sle, e1, e2, Nat.cast_le]
    by_cases h : r.val ≤ c.val <;> simp [h]
  rw [hx r c, hy r c, Cert.Reals.ofBits_neg_inf_f32]
  by_cases h : r.val ≤ c.val
  · rw [if_pos h]
    unfold Scalar.select
    refine (congrArg (fun z => Ideal.exp (z - (g r.val c.val : EReal))) (if_pos (hc.2 h))).trans ?_
    show Ideal.exp ((f r.val c.val : EReal) - (g r.val c.val : EReal)) = _
    rw [← EReal.coe_sub, Ideal.exp_coe]
  · rw [if_neg h]
    unfold Scalar.select
    refine (congrArg (fun z => Ideal.exp (z - (g r.val c.val : EReal))) (if_neg (fun h' => h (hc.1 h')))).trans ?_
    show Ideal.exp (⊥ - (g r.val c.val : EReal)) = _
    simp
end Ops

section Buffers
variable {sig : RefSig} {κ : Kind} {sp : Space}

/-- A load of a rectangle of a buffer of two axes. -/
theorem rd2 {M N m n : ℕ} {e : EltTy} (v : View sig κ sp ⟨2, ![M, N]⟩ e) {off : Fin 2 → ℕ}
    (inb : ∀ a : Fin 2, off a + (⟨2, ![m, n]⟩ : Shape).size a ≤ (⟨2, ![M, N]⟩ : Shape).size a) (f : v.ty.Contents (Elt Ideal)) (r : Fin m) (c : Fin n)
    (a : Fin M) (b : Fin N) (h0 : off 0 + r.val = a.val) (h1 : off 1 + c.val = b.val) :
    v.readAt (Elt Ideal) (Rect.unit (s := ⟨2, ![M, N]⟩) off (⟨2, ![m, n]⟩ : Shape).size inb).toLoadRect f (ix2 r c) = v.read (Elt Ideal) f (ix2 a b) := by
  rw [View.readAt_apply]
  congr 1; funext x; apply Fin.ext
  match x with
  | ⟨0, _⟩ => show off 0 + 1 * r.val = a.val; omega
  | ⟨1, _⟩ => show off 1 + 1 * c.val = b.val; omega

theorem rd3 {L M N l m n : ℕ} {e : EltTy} (v : View sig κ sp ⟨3, ![L, M, N]⟩ e) {off : Fin 3 → ℕ}
    (inb : ∀ a : Fin 3, off a + (⟨3, ![l, m, n]⟩ : Shape).size a ≤ (⟨3, ![L, M, N]⟩ : Shape).size a) (f : v.ty.Contents (Elt Ideal))
    (s : Fin l) (r : Fin m) (c : Fin n)
    (z : Fin L) (a : Fin M) (b : Fin N) (h0 : off 0 + s.val = z.val) (h1 : off 1 + r.val = a.val) (h2 : off 2 + c.val = b.val) :
    v.readAt (Elt Ideal) (Rect.unit (s := ⟨3, ![L, M, N]⟩) off (⟨3, ![l, m, n]⟩ : Shape).size inb).toLoadRect f (ix3 s r c)
      = v.read (Elt Ideal) f (ix3 z a b) := by
  rw [View.readAt_apply]
  congr 1; funext x; apply Fin.ext
  match x with
  | ⟨0, _⟩ => show off 0 + 1 * s.val = z.val; omega
  | ⟨1, _⟩ => show off 1 + 1 * r.val = a.val; omega
  | ⟨2, _⟩ => show off 2 + 1 * c.val = b.val; omega

/-- A load from a buffer that holds real numbers (bf16). -/
theorem rd2b {M N m n : ℕ} {v : View sig κ sp ⟨2, ![M, N]⟩ .bf16} {off : Fin 2 → ℕ} {inb} {f : v.ty.Contents (Elt Ideal)} {g : ℕ → ℕ → ℝ}
    (h : At2 (m := M) (n := N) (v.read (Elt Ideal) f) g) :
    At2 (m := m) (n := n) (v.readAt (Elt Ideal) (Rect.unit (s := ⟨2, ![M, N]⟩) off (⟨2, ![m, n]⟩ : Shape).size inb).toLoadRect f)
      (fun r c => g (off 0 + r) (off 1 + c)) := fun r c => by
  have i0 : off 0 + m ≤ M := inb 0
  have i1 : off 1 + n ≤ N := inb 1
  exact (rd2 v inb f r c ⟨off 0 + r.val, by omega⟩ ⟨off 1 + c.val, by omega⟩ rfl rfl).trans (h _ _)
/-- The same for f32. -/
theorem rd2f {M N m n : ℕ} {v : View sig κ sp ⟨2, ![M, N]⟩ .f32} {off : Fin 2 → ℕ} {inb} {f : v.ty.Contents (Elt Ideal)} {g : ℕ → ℕ → ℝ}
    (h : At2 (m := M) (n := N) (v.read (Elt Ideal) f) g) :
    At2 (m := m) (n := n) (v.readAt (Elt Ideal) (Rect.unit (s := ⟨2, ![M, N]⟩) off (⟨2, ![m, n]⟩ : Shape).size inb).toLoadRect f)
      (fun r c => g (off 0 + r) (off 1 + c)) := fun r c => by
  have i0 : off 0 + m ≤ M := inb 0
  have i1 : off 1 + n ≤ N := inb 1
  exact (rd2 v inb f r c ⟨off 0 + r.val, by omega⟩ ⟨off 1 + c.val, by omega⟩ rfl rfl).trans (h _ _)
theorem rd3f {L M N l m n : ℕ} {v : View sig κ sp ⟨3, ![L, M, N]⟩ .f32} {off : Fin 3 → ℕ} {inb} {f : v.ty.Contents (Elt Ideal)} {g : ℕ → ℕ → ℕ → ℝ}
    (h : At3 (l := L) (m := M) (n := N) (v.read (Elt Ideal) f) g) :
    At3 (l := l) (m := m) (n := n) (v.readAt (Elt Ideal) (Rect.unit (s := ⟨3, ![L, M, N]⟩) off (⟨3, ![l, m, n]⟩ : Shape).size inb).toLoadRect f)
      (fun s r c => g (off 0 + s) (off 1 + r) (off 2 + c)) := fun s r c => by
  have i0 : off 0 + l ≤ L := inb 0
  have i1 : off 1 + m ≤ M := inb 1
  have i2 : off 2 + n ≤ N := inb 2
  exact (rd3 v inb f s r c ⟨off 0 + s.val, by omega⟩ ⟨off 1 + r.val, by omega⟩ ⟨off 2 + c.val, by omega⟩ rfl rfl rfl).trans (h _ _ _)

/-- Inside the written rectangle. -/
def In2 (off : Fin 2 → ℕ) (m n r c : ℕ) : Prop := (off 0 ≤ r ∧ r < off 0 + m) ∧ (off 1 ≤ c ∧ c < off 1 + n)
instance (off : Fin 2 → ℕ) (m n r c : ℕ) : Decidable (In2 off m n r c) := by unfold In2; infer_instance
def In3 (off : Fin 3 → ℕ) (l m n s r c : ℕ) : Prop :=
  (off 0 ≤ s ∧ s < off 0 + l) ∧ (off 1 ≤ r ∧ r < off 1 + m) ∧ (off 2 ≤ c ∧ c < off 2 + n)
instance (off : Fin 3 → ℕ) (l m n s r c : ℕ) : Decidable (In3 off l m n s r c) := by unfold In3; infer_instance

/-- A store into a buffer of two axes that holds real numbers outside the stored rectangle. -/
theorem wr2 {M N m n : ℕ} {v : View sig κ sp ⟨2, ![M, N]⟩ .f32} {off : Fin 2 → ℕ} {inb} {f : v.ty.Contents (Elt Ideal)}
    {L : List (View.Piece (Elt Ideal) ⟨2, ![M, N]⟩ .f32)} {g p : ℕ → ℕ → ℝ}
    {w : (Rect.unit (s := ⟨2, ![M, N]⟩) off (⟨2, ![m, n]⟩ : Shape).size inb).shape.Idx → Elt Ideal .f32}
    (hw : At2 (m := m) (n := n) w p)
    (h : ∀ (r : Fin M) (c : Fin N), ¬ In2 off m n r.val c.val → v.read (Elt Ideal) (v.writes (Elt Ideal) f L) (ix2 r c) = ((g r.val c.val : ℝ) : EReal)) :
    At2 (m := M) (n := N) (v.read (Elt Ideal) (v.writes (Elt Ideal) f (⟨Rect.unit (s := ⟨2, ![M, N]⟩) off (⟨2, ![m, n]⟩ : Shape).size inb, w⟩ :: L)))
      (fun r c => if In2 off m n r c then p (r - off 0) (c - off 1) else g r c) := fun r c => by
  show _ = ((if In2 off m n r.val c.val then p (r.val - off 0) (c.val - off 1) else g r.val c.val : ℝ) : EReal)
  by_cases hi : In2 off m n r.val c.val
  · have hi' := hi
    obtain ⟨⟨a1, a2⟩, b1, b2⟩ := hi'
    rw [View.read_writes_cons_unit_of_mem v f inb w L (ix2 r c) (ix2 ⟨r.val - off 0, by omega⟩ ⟨c.val - off 1, by omega⟩ : (⟨2, ![m, n]⟩ : Shape).Idx) rfl
      (fun a => by
        match a with
        | ⟨0, _⟩ => show r.val = off 0 + (r.val - off 0); omega
        | ⟨1, _⟩ => show c.val = off 1 + (c.val - off 1); omega), if_pos hi]
    exact hw _ _
  · rw [if_neg hi, ← h r c hi]
    by_cases h0 : off 0 ≤ r.val ∧ r.val < off 0 + m
    · refine View.read_writes_cons_unit_of_not_mem v f inb w L (ix2 r c) rfl 1 ?_
      show c.val < off 1 ∨ off 1 + n ≤ c.val
      have : ¬ (off 1 ≤ c.val ∧ c.val < off 1 + n) := fun h1 => hi ⟨h0, h1⟩
      omega
    · refine View.read_writes_cons_unit_of_not_mem v f inb w L (ix2 r c) rfl 0 ?_
      show r.val < off 0 ∨ off 0 + m ≤ r.val
      omega

theorem wr3 {L M N l m n : ℕ} {v : View sig κ sp ⟨3, ![L, M, N]⟩ .f32} {off : Fin 3 → ℕ} {inb} {f : v.ty.Contents (Elt Ideal)}
    {Ls : List (View.Piece (Elt Ideal) ⟨3, ![L, M, N]⟩ .f32)} {g p : ℕ → ℕ → ℕ → ℝ}
    {w : (Rect.unit (s := ⟨3, ![L, M, N]⟩) off (⟨3, ![l, m, n]⟩ : Shape).size inb).shape.Idx → Elt Ideal .f32}
    (hw : At3 (l := l) (m := m) (n := n) w p)
    (h : ∀ (s : Fin L) (r : Fin M) (c : Fin N), ¬ In3 off l m n s.val r.val c.val →
      v.read (Elt Ideal) (v.writes (Elt Ideal) f Ls) (ix3 s r c) = ((g s.val r.val c.val : ℝ) : EReal)) :
    At3 (l := L) (m := M) (n := N) (v.read (Elt Ideal) (v.writes (Elt Ideal) f (⟨Rect.unit (s := ⟨3, ![L, M, N]⟩) off (⟨3, ![l, m, n]⟩ : Shape).size inb, w⟩ :: Ls)))
      (fun s r c => if In3 off l m n s r c then p (s - off 0) (r - off 1) (c - off 2) else g s r c) := fun s r c => by
  show _ = ((if In3 off l m n s.val r.val c.val then p (s.val - off 0) (r.val - off 1) (c.val - off 2) else g s.val r.val c.val : ℝ) : EReal)
  by_cases hi : In3 off l m n s.val r.val c.val
  · have hi' := hi
    obtain ⟨⟨z1, z2⟩, ⟨a1, a2⟩, b1, b2⟩ := hi'
    rw [View.read_writes_cons_unit_of_mem v f inb w Ls (ix3 s r c)
      (ix3 ⟨s.val - off 0, by omega⟩ ⟨r.val - off 1, by omega⟩ ⟨c.val - off 2, by omega⟩ : (⟨3, ![l, m, n]⟩ : Shape).Idx) rfl
      (fun a => by
        match a with
        | ⟨0, _⟩ => show s.val = off 0 + (s.val - off 0); omega
        | ⟨1, _⟩ => show r.val = off 1 + (r.val - off 1); omega
        | ⟨2, _⟩ => show c.val = off 2 + (c.val - off 2); omega), if_pos hi]
    exact hw _ _ _
  · rw [if_neg hi, ← h s r c hi]
    by_cases hz : off 0 ≤ s.val ∧ s.val < off 0 + l
    · by_cases h0 : off 1 ≤ r.val ∧ r.val < off 1 + m
      · refine View.read_writes_cons_unit_of_not_mem v f inb w Ls (ix3 s r c) rfl 2 ?_
        show c.val < off 2 ∨ off 2 + n ≤ c.val
        have : ¬ (off 2 ≤ c.val ∧ c.val < off 2 + n) := fun h1 => hi ⟨hz, h0, h1⟩
        omega
      · refine View.read_writes_cons_unit_of_not_mem v f inb w Ls (ix3 s r c) rfl 1 ?_
        show r.val < off 1 ∨ off 1 + m ≤ r.val
        omega
    · refine View.read_writes_cons_unit_of_not_mem v f inb w Ls (ix3 s r c) rfl 0 ?_
      show s.val < off 0 ∨ off 0 + l ≤ s.val
      omega
end Buffers

end Cert.FoxOps

end
-- ==== Proof.FoxPay.lean ====
module

public import Idealize.ShloMosaic.PureOps.Ideal
public import proofs.«01_k».proof.Proof.Gen.FoxIdeal.Skeleton
public import proofs.«01_k».proof.Proof.FoxOps

@[expose] public section

open Idealize.ShloMosaic
open Idealize.ShloMosaic.ValueIdx
open Cert.FoxOps Cert.FoxIdeal.Gen

/-! The blocks of the gradient of the forget-gated attention of one head, over the real numbers: what each
    value the kernel stores is, given what the loaded blocks hold. -/

namespace Cert.FoxIdeal.Pay

/-- What one head reads: queries, keys, values, output cotangents, the gates of the keys, the logarithms of
    the softmax sums and the sums of output times cotangent. -/
structure Hd where
  Q : ℕ → ℕ → ℝ
  K : ℕ → ℕ → ℝ
  V : ℕ → ℕ → ℝ
  DO : ℕ → ℕ → ℝ
  FC : ℕ → ℝ
  LSE : ℕ → ℝ
  DR : ℕ → ℝ

/-- The scale of the scores. -/
noncomputable def sg : ℝ := 11863283 / 134217728
theorem sg_eq : Scalar.ofBits (F := Ideal) .f32 0x3DB504F3#32 = (sg : EReal) := by
  show Ideal.ofBits .f32 0x3DB504F3#32 = (sg : EReal)
  unfold sg
  simp [Ideal.ofBits, Ideal.ieee, -EReal.coe_mul]; norm_num

variable (h : Hd)
/-- The score of query `q` and key `k` without the gate of the query. -/
noncomputable def Hd.SC (q k : ℕ) : ℝ := (∑ d ∈ Finset.range 128, h.K k d * h.Q q d) * sg - h.FC k
/-- The attention weight. -/
noncomputable def Hd.P (q k : ℕ) : ℝ := if k ≤ q then Real.exp (h.SC q k - h.LSE q) else 0
/-- The cotangent of the attention weight. -/
noncomputable def Hd.DP (q k : ℕ) : ℝ := ∑ d ∈ Finset.range 128, h.V k d * h.DO q d
/-- The cotangent of the score. -/
noncomputable def Hd.DS (q k : ℕ) : ℝ := h.P q k * (h.DP q k - h.DR q)

theorem Hd.DS_zero {q k : ℕ} (e : ¬ k ≤ q) : h.DS q k = 0 := by unfold Hd.DS Hd.P; rw [if_neg e, zero_mul]
theorem Hd.P_zero {q k : ℕ} (e : ¬ k ≤ q) : h.P q k = 0 := by unfold Hd.P; rw [if_neg e]

section Blocks
variable {h} {w z a b : ℕ}

theorem rows {M N m n o : ℕ} {φ : FTy} {x : FVec Ideal ⟨2, ![M, N]⟩ φ} {f : ℕ → ℕ → ℝ} {hs} (hx : At2 x (fun r d => f (a + r) d)) :
    At2 (extractStridedSlice ⟨2, ![m, n]⟩ ![o, 0] x hs) (fun r d => f (a + o + r) d) :=
  (slice_at hx).congr fun r c _ _ => by simp only [Nat.add_assoc, Nat.zero_add]

/-- The scores of a block. -/
theorem score {d : DotDims ⟨2, ![w, 128]⟩ ⟨2, ![z, 128]⟩ ⟨2, ![w, z]⟩} (hd : d = DotDims.transposedRhs w 128 z)
    {xk : FVec Ideal ⟨2, ![w, 128]⟩ .bf16} {xf : FVec Ideal ⟨2, ![w, 1]⟩ .f32} {xq : FVec Ideal ⟨2, ![z, 128]⟩ .bf16} {hb}
    (hK : At2 xk (fun r d => h.K (a + r) d)) (hF : At2 xf (fun r _ => h.FC (a + r))) (hQ : At2 xq (fun r d => h.Q (b + r) d)) :
    At2 (subf (mulf (matmul d none xk xq (constant (F := Ideal) ⟨2, ![w, z]⟩ .f32 0x00000000#32))
      (broadcast ⟨2, ![w, z]⟩ (Scalar.ofBits (F := Ideal) .f32 0x3DB504F3#32))) (broadcastTo ⟨2, ![w, z]⟩ xf hb)) (fun r c => h.SC (b + c) (a + r)) :=
  subf_at (mulf_at (mm_t hd hK hQ) (bc_at sg_eq)) (bcol_at hF)

/-- The weights of a block on the diagonal. -/
theorem weightD (hw : w < 2 ^ 31) (hz : z < 2 ^ 31) {x y : FVec Ideal ⟨2, ![w, z]⟩ .f32} {h0 h1} (hS : At2 x (fun r c => h.SC (a + c) (a + r)))
    (hL : At2 y (fun _ c => h.LSE (a + c))) :
    At2 (exp (subf (select (cmpi .sle (iota .tc ⟨2, ![w, z]⟩ 32 [0] h0) (iota .tc ⟨2, ![w, z]⟩ 32 [1] h1)) x
        (broadcast ⟨2, ![w, z]⟩ (Scalar.ofBits (F := Ideal) .f32 0xFF800000#32))) y)) (fun r c => h.P (a + c) (a + r)) :=
  (maskexp_at hw hz hS hL).congr fun r c _ _ => by unfold Hd.P; simp only [Nat.add_le_add_iff_left]

/-- The weights of a block below the diagonal. -/
theorem weightF (hab : a + w ≤ b) {x y : FVec Ideal ⟨2, ![w, z]⟩ .f32} (hS : At2 x (fun r c => h.SC (b + c) (a + r)))
    (hL : At2 y (fun _ c => h.LSE (b + c))) : At2 (exp (subf x y)) (fun r c => h.P (b + c) (a + r)) :=
  (exp_at (subf_at hS hL)).congr fun r c hr _ => by unfold Hd.P; rw [if_pos (by omega)]

/-- A row of numbers repeated down a block. -/
theorem lrow {x : FVec Ideal ⟨3, ![1, 1, z]⟩ .f32} {hc hb} {f : ℕ → ℝ} (hL : At3 x (fun _ _ c => f (b + c))) :
    At2 (broadcastTo ⟨2, ![w, z]⟩ (shapeCast ⟨2, ![1, z]⟩ x hc) hb) (fun _ c => f (b + c)) := brow_at (φ := .f32) (cast32 hL)

/-- The cotangents of the scores of a block. -/
theorem cot {d : DotDims ⟨2, ![w, 128]⟩ ⟨2, ![z, 128]⟩ ⟨2, ![w, z]⟩} (hd : d = DotDims.transposedRhs w 128 z)
    {p : FVec Ideal ⟨2, ![w, z]⟩ .f32} {xv : FVec Ideal ⟨2, ![w, 128]⟩ .bf16} {xd : FVec Ideal ⟨2, ![z, 128]⟩ .bf16}
    {xr : FVec Ideal ⟨2, ![1, z]⟩ .f32} {hb hbt} (hP : At2 p (fun r c => h.P (b + c) (a + r)))
    (hV : At2 xv (fun r d => h.V (a + r) d)) (hD : At2 xd (fun r d => h.DO (b + r) d)) (hR : At2 xr (fun _ c => h.DR (b + c))) :
    At2 (truncf .bf16 (mulf p (subf (matmul d none xv xd (constant (F := Ideal) ⟨2, ![w, z]⟩ .f32 0x00000000#32)) (broadcastTo ⟨2, ![w, z]⟩ xr hb))) hbt :
      FVec Ideal ⟨2, ![w, z]⟩ .bf16) (fun r c => h.DS (b + c) (a + r)) :=
  truncf_at (mulf_at hP (subf_at (mm_t hd hV hD) (brow_at hR)))

/-- A block of keys gathers over a block of queries. -/
theorem gather {d : DotDims ⟨2, ![w, z]⟩ ⟨2, ![z, 128]⟩ ⟨2, ![w, 128]⟩} (hd : d = DotDims.plain w z 128)
    {p : FVec Ideal ⟨2, ![w, z]⟩ .bf16} {y : FVec Ideal ⟨2, ![z, 128]⟩ .bf16} {x : FVec Ideal ⟨3, ![1, w, 128]⟩ .f32} {hc}
    {W Y : ℕ → ℕ → ℝ} {g : ℕ → ℕ → ℕ → ℝ} (hP : At2 p (fun r c => W (b + c) (a + r))) (hY : At2 y (fun r d => Y (b + r) d)) (hx : At3 x g) :
    At2 (addf (shapeCast ⟨2, ![w, 128]⟩ x hc) (matmul d none p y (constant (F := Ideal) ⟨2, ![w, 128]⟩ .f32 0x00000000#32)))
      (fun r d => g 0 r d + ∑ t ∈ Finset.range z, W (b + t) (a + r) * Y (b + t) d) := addf_at (cast32 hx) (mm_p hd hP hY)

/-- A block of queries gathers over a block of keys. -/
theorem spread {d : DotDims ⟨2, ![w, z]⟩ ⟨2, ![w, 128]⟩ ⟨2, ![z, 128]⟩}
    (hr : d.contr.rank = 1) (hs : d.contr.size ⟨0, by rw [hr]; exact Nat.one_pos⟩ = w)
    (hl : ∀ (r : Fin z) (c : Fin 128) (q : d.contr.Idx), d.lhsIdx (ix2 r c) q = ix2 (contrEquiv1 _ w hr hs q) r)
    (hrr : ∀ (r : Fin z) (c : Fin 128) (q : d.contr.Idx), d.rhsIdx (ix2 r c) q = ix2 (contrEquiv1 _ w hr hs q) c)
    {s : FVec Ideal ⟨2, ![w, z]⟩ .bf16} {y : FVec Ideal ⟨2, ![w, 128]⟩ .bf16} {x : FVec Ideal ⟨2, ![z, 128]⟩ .f32} {hc}
    {W Y : ℕ → ℕ → ℝ} {g : ℕ → ℕ → ℝ} (hP : At2 s (fun r c => W (b + c) (a + r))) (hY : At2 y (fun r d => Y (a + r) d)) (hx : At2 x g) :
    At2 (shapeCast ⟨2, ![z, 128]⟩ (addf x (matmul d none s y (constant (F := Ideal) ⟨2, ![z, 128]⟩ .f32 0x00000000#32))) hc)
      (fun r d => g r d + ∑ t ∈ Finset.range w, W (b + r) (a + t) * Y (a + t) d) := cast22 (addf_at hx (mm_l hr hs hl hrr hP hY))

/-- A row adds the sums of the columns of a block. -/
theorem colsum {s : FVec Ideal ⟨2, ![w, z]⟩ .f32} {x : FVec Ideal ⟨3, ![1, 1, z]⟩ .f32} {hc h1 h2 h3 h4 h5} {W : ℕ → ℕ → ℝ} {g : ℕ → ℕ → ℕ → ℝ}
    (hP : At2 s (fun r c => W (b + c) (a + r))) (hx : At3 x g) :
    At3 (shapeCast ⟨3, ![1, 1, z]⟩ (addf (shapeCast ⟨2, ![1, z]⟩ x hc) (shapeCast ⟨2, ![1, z]⟩
      (multiReduction .add [0] ⟨1, ![z]⟩ s 0x00000000#32 h1 h2 h3) h4)) h5)
      (fun _ _ c => g 0 0 c + ∑ t ∈ Finset.range w, W (b + c) (a + t)) :=
  At3.congr (cast23 (addf_at (cast32 hx) (cast1row (red0 hP)))) fun s r c hs hr hc => by
    have : r = 0 := by omega
    subst this; rfl

/-- A column adds the sums of the rows of a block. -/
theorem rowsum {s : FVec Ideal ⟨2, ![w, z]⟩ .f32} {x : FVec Ideal ⟨2, ![w, 1]⟩ .f32} {h1 h2 h3 h4 h5} {W : ℕ → ℕ → ℝ} {g : ℕ → ℕ → ℝ}
    (hP : At2 s (fun r c => W (b + c) (a + r))) (hx : At2 x g) :
    At2 (shapeCast ⟨2, ![w, 1]⟩ (addf x (shapeCast ⟨2, ![w, 1]⟩
      (multiReduction .add [1] ⟨1, ![w]⟩ s 0x00000000#32 h1 h2 h3) h4)) h5)
      (fun r c => g r c + ∑ t ∈ Finset.range z, W (b + t) (a + r)) := cast22 (addf_at hx (cast1col (red1 hP)))
end Blocks

variable {h} {n b : ℕ}

section Strip0
variable {v68 v70 : Vec Ideal S1024x128 .bf16} {v72 : Vec Ideal S1024x1 .f32} {q d : Vec Ideal S1024x128 .bf16} {l : Vec Ideal S1x1x1024 .f32} {dr : Vec Ideal S1x1024 .f32}
theorem p0 (hK : At2 (m := 1024) (n := 128) v68 (fun r d => h.K (n + r) d)) (hF : At2 (m := 1024) (n := 1) v72 (fun r _ => h.FC (n + r))) (hQ : At2 (m := 1024) (n := 128) q (fun r d => h.Q (n + 0 + r) d)) (hL : At3 (l := 1) (m := 1) (n := 1024) l (fun _ _ c => h.LSE (n + 0 + c))) : At2 (m := 256) (n := 1024) (k0_pay13 (F := Ideal) (k0_pay12 v68 v72 q) l) (fun r c => h.P (n + 0 + c) (n + 0 + r)) := by
  unfold k0_pay13 k0_pay12
  exact weightD (by norm_num) (by norm_num) (score rfl (rows (φ := .bf16) hK) (rows (φ := .f32) (f := fun r _ => h.FC r) hF) hQ) (lrow hL)
theorem acc1_0 (hK : At2 (m := 1024) (n := 128) v68 (fun r d => h.K (n + r) d)) (hF : At2 (m := 1024) (n := 1) v72 (fun r _ => h.FC (n + r))) (hQ : At2 (m := 1024) (n := 128) q (fun r d => h.Q (n + 0 + r) d)) (hD : At2 (m := 1024) (n := 128) d (fun r d => h.DO (n + 0 + r) d)) (hL : At3 (l := 1) (m := 1) (n := 1024) l (fun _ _ c => h.LSE (n + 0 + c))) {x : Vec Ideal S1x256x128 .f32} {g : ℕ → ℕ → ℕ → ℝ} (hx : At3 (l := 1) (m := 256) (n := 128) x g) :
    At3 (l := 1) (m := 256) (n := 128) (k0_pay14 (F := Ideal) d (k0_pay12 v68 v72 q) l x) (fun _ r e => g 0 r e + ∑ t ∈ Finset.range 1024, h.P (n + 0 + t) (n + 0 + r) * h.DO (n + 0 + t) e) := by
  unfold k0_pay14
  exact cast23 (gather rfl (truncf_at (p0 hK hF hQ hL)) hD hx)
theorem ds0 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 1024) (n := 128) q (fun r d => h.Q (n + 0 + r) d)) (hD : At2 (m := 1024) (n := 128) d (fun r d => h.DO (n + 0 + r) d)) (hL : At3 (l := 1) (m := 1) (n := 1024) l (fun _ _ c => h.LSE (n + 0 + c))) (hR : At2 (m := 1) (n := 1024) dr (fun _ c => h.DR (n + 0 + c))) : At2 (m := 256) (n := 1024) (k0_pay15 (F := Ideal) v70 d (k0_pay12 v68 v72 q) l dr) (fun r c => h.DS (n + 0 + c) (n + 0 + r)) := by
  unfold k0_pay15
  exact cot rfl (p0 hK hF hQ hL) (rows (φ := .bf16) hV) hD hR
theorem acc0_0 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 1024) (n := 128) q (fun r d => h.Q (n + 0 + r) d)) (hD : At2 (m := 1024) (n := 128) d (fun r d => h.DO (n + 0 + r) d)) (hL : At3 (l := 1) (m := 1) (n := 1024) l (fun _ _ c => h.LSE (n + 0 + c))) (hR : At2 (m := 1) (n := 1024) dr (fun _ c => h.DR (n + 0 + c))) {x : Vec Ideal S1x256x128 .f32} {g : ℕ → ℕ → ℕ → ℝ} (hx : At3 (l := 1) (m := 256) (n := 128) x g) :
    At3 (l := 1) (m := 256) (n := 128) (k0_pay16 (F := Ideal) v70 q d (k0_pay12 v68 v72 q) l dr x) (fun _ r e => g 0 r e + ∑ t ∈ Finset.range 1024, h.DS (n + 0 + t) (n + 0 + r) * h.Q (n + 0 + t) e) := by
  unfold k0_pay16
  exact cast23 (gather rfl (ds0 hK hV hF hQ hD hL hR) hQ hx)
theorem dq0 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 1024) (n := 128) q (fun r d => h.Q (n + 0 + r) d)) (hD : At2 (m := 1024) (n := 128) d (fun r d => h.DO (n + 0 + r) d)) (hL : At3 (l := 1) (m := 1) (n := 1024) l (fun _ _ c => h.LSE (n + 0 + c))) (hR : At2 (m := 1) (n := 1024) dr (fun _ c => h.DR (n + 0 + c))) {x : Vec Ideal S1024x128 .f32} {g : ℕ → ℕ → ℝ} (hx : At2 (m := 1024) (n := 128) x g) :
    At2 (m := 1024) (n := 128) (k0_pay17 (F := Ideal) v68 v70 d (k0_pay12 v68 v72 q) l dr x) (fun r e => g r e + ∑ t ∈ Finset.range 256, h.DS (n + 0 + r) (n + 0 + t) * h.K (n + 0 + t) e) := by
  unfold k0_pay17
  exact spread rfl rfl (fun r c q => funext fun e => match e with | ⟨0, _⟩ => rfl | ⟨1, _⟩ => rfl)
    (fun r c q => funext fun e => match e with | ⟨0, _⟩ => rfl | ⟨1, _⟩ => rfl) (ds0 hK hV hF hQ hD hL hR) (rows (φ := .bf16) hK) hx
theorem rq0 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 1024) (n := 128) q (fun r d => h.Q (n + 0 + r) d)) (hD : At2 (m := 1024) (n := 128) d (fun r d => h.DO (n + 0 + r) d)) (hL : At3 (l := 1) (m := 1) (n := 1024) l (fun _ _ c => h.LSE (n + 0 + c))) (hR : At2 (m := 1) (n := 1024) dr (fun _ c => h.DR (n + 0 + c))) {x : Vec Ideal S1x1x1024 .f32} {g : ℕ → ℕ → ℕ → ℝ} (hx : At3 (l := 1) (m := 1) (n := 1024) x g) :
    At3 (l := 1) (m := 1) (n := 1024) (k0_pay19 (F := Ideal) (k0_pay18 (F := Ideal) v70 d (k0_pay12 v68 v72 q) l dr) x) (fun _ _ c => g 0 0 c + ∑ t ∈ Finset.range 256, h.DS (n + 0 + c) (n + 0 + t)) := by
  unfold k0_pay19 k0_pay18
  exact colsum (extf_at (ds0 hK hV hF hQ hD hL hR)) hx
theorem rk0 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 1024) (n := 128) q (fun r d => h.Q (n + 0 + r) d)) (hD : At2 (m := 1024) (n := 128) d (fun r d => h.DO (n + 0 + r) d)) (hL : At3 (l := 1) (m := 1) (n := 1024) l (fun _ _ c => h.LSE (n + 0 + c))) (hR : At2 (m := 1) (n := 1024) dr (fun _ c => h.DR (n + 0 + c))) {x : Vec Ideal S256x1 .f32} {g : ℕ → ℕ → ℝ} (hx : At2 (m := 256) (n := 1) x g) :
    At2 (m := 256) (n := 1) (k0_pay20 (F := Ideal) (k0_pay18 (F := Ideal) v70 d (k0_pay12 v68 v72 q) l dr) x) (fun r c => g r c + ∑ t ∈ Finset.range 1024, h.DS (n + 0 + t) (n + 0 + r)) := by
  unfold k0_pay20 k0_pay18
  exact rowsum (extf_at (ds0 hK hV hF hQ hD hL hR)) hx
end Strip0

section Strip1
variable {v68 v70 : Vec Ideal S1024x128 .bf16} {v72 : Vec Ideal S1024x1 .f32} {q d : Vec Ideal S768x128 .bf16} {l : Vec Ideal S1x1x768 .f32} {dr : Vec Ideal S1x768 .f32}
theorem p1 (hK : At2 (m := 1024) (n := 128) v68 (fun r d => h.K (n + r) d)) (hF : At2 (m := 1024) (n := 1) v72 (fun r _ => h.FC (n + r))) (hQ : At2 (m := 768) (n := 128) q (fun r d => h.Q (n + 256 + r) d)) (hL : At3 (l := 1) (m := 1) (n := 768) l (fun _ _ c => h.LSE (n + 256 + c))) : At2 (m := 256) (n := 768) (k0_pay23 (F := Ideal) (k0_pay21 v68 v72 q) (k0_pay22 l)) (fun r c => h.P (n + 256 + c) (n + 256 + r)) := by
  unfold k0_pay23 k0_pay21 k0_pay22
  exact weightD (by norm_num) (by norm_num) (score rfl (rows (φ := .bf16) hK) (rows (φ := .f32) (f := fun r _ => h.FC r) hF) hQ) (lrow hL)
theorem acc1_1 (hK : At2 (m := 1024) (n := 128) v68 (fun r d => h.K (n + r) d)) (hF : At2 (m := 1024) (n := 1) v72 (fun r _ => h.FC (n + r))) (hQ : At2 (m := 768) (n := 128) q (fun r d => h.Q (n + 256 + r) d)) (hD : At2 (m := 768) (n := 128) d (fun r d => h.DO (n + 256 + r) d)) (hL : At3 (l := 1) (m := 1) (n := 768) l (fun _ _ c => h.LSE (n + 256 + c))) {x : Vec Ideal S1x256x128 .f32} {g : ℕ → ℕ → ℕ → ℝ} (hx : At3 (l := 1) (m := 256) (n := 128) x g) :
    At3 (l := 1) (m := 256) (n := 128) (k0_pay24 (F := Ideal) d (k0_pay21 v68 v72 q) (k0_pay22 l) x) (fun _ r e => g 0 r e + ∑ t ∈ Finset.range 768, h.P (n + 256 + t) (n + 256 + r) * h.DO (n + 256 + t) e) := by
  unfold k0_pay24
  exact cast23 (gather rfl (truncf_at (p1 hK hF hQ hL)) hD hx)
theorem ds1 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 768) (n := 128) q (fun r d => h.Q (n + 256 + r) d)) (hD : At2 (m := 768) (n := 128) d (fun r d => h.DO (n + 256 + r) d)) (hL : At3 (l := 1) (m := 1) (n := 768) l (fun _ _ c => h.LSE (n + 256 + c))) (hR : At2 (m := 1) (n := 768) dr (fun _ c => h.DR (n + 256 + c))) : At2 (m := 256) (n := 768) (k0_pay25 (F := Ideal) v70 d (k0_pay21 v68 v72 q) (k0_pay22 l) dr) (fun r c => h.DS (n + 256 + c) (n + 256 + r)) := by
  unfold k0_pay25
  exact cot rfl (p1 hK hF hQ hL) (rows (φ := .bf16) hV) hD hR
theorem acc0_1 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 768) (n := 128) q (fun r d => h.Q (n + 256 + r) d)) (hD : At2 (m := 768) (n := 128) d (fun r d => h.DO (n + 256 + r) d)) (hL : At3 (l := 1) (m := 1) (n := 768) l (fun _ _ c => h.LSE (n + 256 + c))) (hR : At2 (m := 1) (n := 768) dr (fun _ c => h.DR (n + 256 + c))) {x : Vec Ideal S1x256x128 .f32} {g : ℕ → ℕ → ℕ → ℝ} (hx : At3 (l := 1) (m := 256) (n := 128) x g) :
    At3 (l := 1) (m := 256) (n := 128) (k0_pay26 (F := Ideal) v70 q d (k0_pay21 v68 v72 q) (k0_pay22 l) dr x) (fun _ r e => g 0 r e + ∑ t ∈ Finset.range 768, h.DS (n + 256 + t) (n + 256 + r) * h.Q (n + 256 + t) e) := by
  unfold k0_pay26
  exact cast23 (gather rfl (ds1 hK hV hF hQ hD hL hR) hQ hx)
theorem dq1 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 768) (n := 128) q (fun r d => h.Q (n + 256 + r) d)) (hD : At2 (m := 768) (n := 128) d (fun r d => h.DO (n + 256 + r) d)) (hL : At3 (l := 1) (m := 1) (n := 768) l (fun _ _ c => h.LSE (n + 256 + c))) (hR : At2 (m := 1) (n := 768) dr (fun _ c => h.DR (n + 256 + c))) {x : Vec Ideal S768x128 .f32} {g : ℕ → ℕ → ℝ} (hx : At2 (m := 768) (n := 128) x g) :
    At2 (m := 768) (n := 128) (k0_pay27 (F := Ideal) v68 v70 d (k0_pay21 v68 v72 q) (k0_pay22 l) dr x) (fun r e => g r e + ∑ t ∈ Finset.range 256, h.DS (n + 256 + r) (n + 256 + t) * h.K (n + 256 + t) e) := by
  unfold k0_pay27
  exact spread rfl rfl (fun r c q => funext fun e => match e with | ⟨0, _⟩ => rfl | ⟨1, _⟩ => rfl)
    (fun r c q => funext fun e => match e with | ⟨0, _⟩ => rfl | ⟨1, _⟩ => rfl) (ds1 hK hV hF hQ hD hL hR) (rows (φ := .bf16) hK) hx
theorem rq1 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 768) (n := 128) q (fun r d => h.Q (n + 256 + r) d)) (hD : At2 (m := 768) (n := 128) d (fun r d => h.DO (n + 256 + r) d)) (hL : At3 (l := 1) (m := 1) (n := 768) l (fun _ _ c => h.LSE (n + 256 + c))) (hR : At2 (m := 1) (n := 768) dr (fun _ c => h.DR (n + 256 + c))) {x : Vec Ideal S1x1x768 .f32} {g : ℕ → ℕ → ℕ → ℝ} (hx : At3 (l := 1) (m := 1) (n := 768) x g) :
    At3 (l := 1) (m := 1) (n := 768) (k0_pay29 (F := Ideal) (k0_pay28 (F := Ideal) v70 d (k0_pay21 v68 v72 q) (k0_pay22 l) dr) x) (fun _ _ c => g 0 0 c + ∑ t ∈ Finset.range 256, h.DS (n + 256 + c) (n + 256 + t)) := by
  unfold k0_pay29 k0_pay28
  exact colsum (extf_at (ds1 hK hV hF hQ hD hL hR)) hx
theorem rk1 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 768) (n := 128) q (fun r d => h.Q (n + 256 + r) d)) (hD : At2 (m := 768) (n := 128) d (fun r d => h.DO (n + 256 + r) d)) (hL : At3 (l := 1) (m := 1) (n := 768) l (fun _ _ c => h.LSE (n + 256 + c))) (hR : At2 (m := 1) (n := 768) dr (fun _ c => h.DR (n + 256 + c))) {x : Vec Ideal S256x1 .f32} {g : ℕ → ℕ → ℝ} (hx : At2 (m := 256) (n := 1) x g) :
    At2 (m := 256) (n := 1) (k0_pay30 (F := Ideal) (k0_pay28 (F := Ideal) v70 d (k0_pay21 v68 v72 q) (k0_pay22 l) dr) x) (fun r c => g r c + ∑ t ∈ Finset.range 768, h.DS (n + 256 + t) (n + 256 + r)) := by
  unfold k0_pay30 k0_pay28
  exact rowsum (extf_at (ds1 hK hV hF hQ hD hL hR)) hx
end Strip1

section Strip2
variable {v68 v70 : Vec Ideal S1024x128 .bf16} {v72 : Vec Ideal S1024x1 .f32} {q d : Vec Ideal S512x128 .bf16} {l : Vec Ideal S1x1x512 .f32} {dr : Vec Ideal S1x512 .f32}
theorem p2 (hK : At2 (m := 1024) (n := 128) v68 (fun r d => h.K (n + r) d)) (hF : At2 (m := 1024) (n := 1) v72 (fun r _ => h.FC (n + r))) (hQ : At2 (m := 512) (n := 128) q (fun r d => h.Q (n + 512 + r) d)) (hL : At3 (l := 1) (m := 1) (n := 512) l (fun _ _ c => h.LSE (n + 512 + c))) : At2 (m := 256) (n := 512) (k0_pay31 (F := Ideal) v68 v72 q l) (fun r c => h.P (n + 512 + c) (n + 512 + r)) := by
  unfold k0_pay31
  exact weightD (by norm_num) (by norm_num) (score rfl (rows (φ := .bf16) hK) (rows (φ := .f32) (f := fun r _ => h.FC r) hF) hQ) (lrow hL)
theorem acc1_2 (hK : At2 (m := 1024) (n := 128) v68 (fun r d => h.K (n + r) d)) (hF : At2 (m := 1024) (n := 1) v72 (fun r _ => h.FC (n + r))) (hQ : At2 (m := 512) (n := 128) q (fun r d => h.Q (n + 512 + r) d)) (hD : At2 (m := 512) (n := 128) d (fun r d => h.DO (n + 512 + r) d)) (hL : At3 (l := 1) (m := 1) (n := 512) l (fun _ _ c => h.LSE (n + 512 + c))) {x : Vec Ideal S1x256x128 .f32} {g : ℕ → ℕ → ℕ → ℝ} (hx : At3 (l := 1) (m := 256) (n := 128) x g) :
    At3 (l := 1) (m := 256) (n := 128) (k0_pay32 (F := Ideal) d (k0_pay31 v68 v72 q l) x) (fun _ r e => g 0 r e + ∑ t ∈ Finset.range 512, h.P (n + 512 + t) (n + 512 + r) * h.DO (n + 512 + t) e) := by
  unfold k0_pay32
  exact cast23 (gather rfl (truncf_at (p2 hK hF hQ hL)) hD hx)
theorem ds2 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 512) (n := 128) q (fun r d => h.Q (n + 512 + r) d)) (hD : At2 (m := 512) (n := 128) d (fun r d => h.DO (n + 512 + r) d)) (hL : At3 (l := 1) (m := 1) (n := 512) l (fun _ _ c => h.LSE (n + 512 + c))) (hR : At2 (m := 1) (n := 512) dr (fun _ c => h.DR (n + 512 + c))) : At2 (m := 256) (n := 512) (k0_pay33 (F := Ideal) v70 d (k0_pay31 v68 v72 q l) dr) (fun r c => h.DS (n + 512 + c) (n + 512 + r)) := by
  unfold k0_pay33
  exact cot rfl (p2 hK hF hQ hL) (rows (φ := .bf16) hV) hD hR
theorem acc0_2 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 512) (n := 128) q (fun r d => h.Q (n + 512 + r) d)) (hD : At2 (m := 512) (n := 128) d (fun r d => h.DO (n + 512 + r) d)) (hL : At3 (l := 1) (m := 1) (n := 512) l (fun _ _ c => h.LSE (n + 512 + c))) (hR : At2 (m := 1) (n := 512) dr (fun _ c => h.DR (n + 512 + c))) {x : Vec Ideal S1x256x128 .f32} {g : ℕ → ℕ → ℕ → ℝ} (hx : At3 (l := 1) (m := 256) (n := 128) x g) :
    At3 (l := 1) (m := 256) (n := 128) (k0_pay34 (F := Ideal) v70 q d (k0_pay31 v68 v72 q l) dr x) (fun _ r e => g 0 r e + ∑ t ∈ Finset.range 512, h.DS (n + 512 + t) (n + 512 + r) * h.Q (n + 512 + t) e) := by
  unfold k0_pay34
  exact cast23 (gather rfl (ds2 hK hV hF hQ hD hL hR) hQ hx)
theorem dq2 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 512) (n := 128) q (fun r d => h.Q (n + 512 + r) d)) (hD : At2 (m := 512) (n := 128) d (fun r d => h.DO (n + 512 + r) d)) (hL : At3 (l := 1) (m := 1) (n := 512) l (fun _ _ c => h.LSE (n + 512 + c))) (hR : At2 (m := 1) (n := 512) dr (fun _ c => h.DR (n + 512 + c))) {x : Vec Ideal S512x128 .f32} {g : ℕ → ℕ → ℝ} (hx : At2 (m := 512) (n := 128) x g) :
    At2 (m := 512) (n := 128) (k0_pay35 (F := Ideal) v68 v70 d (k0_pay31 v68 v72 q l) dr x) (fun r e => g r e + ∑ t ∈ Finset.range 256, h.DS (n + 512 + r) (n + 512 + t) * h.K (n + 512 + t) e) := by
  unfold k0_pay35
  exact spread rfl rfl (fun r c q => funext fun e => match e with | ⟨0, _⟩ => rfl | ⟨1, _⟩ => rfl)
    (fun r c q => funext fun e => match e with | ⟨0, _⟩ => rfl | ⟨1, _⟩ => rfl) (ds2 hK hV hF hQ hD hL hR) (rows (φ := .bf16) hK) hx
theorem rq2 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 512) (n := 128) q (fun r d => h.Q (n + 512 + r) d)) (hD : At2 (m := 512) (n := 128) d (fun r d => h.DO (n + 512 + r) d)) (hL : At3 (l := 1) (m := 1) (n := 512) l (fun _ _ c => h.LSE (n + 512 + c))) (hR : At2 (m := 1) (n := 512) dr (fun _ c => h.DR (n + 512 + c))) {x : Vec Ideal S1x1x512 .f32} {g : ℕ → ℕ → ℕ → ℝ} (hx : At3 (l := 1) (m := 1) (n := 512) x g) :
    At3 (l := 1) (m := 1) (n := 512) (k0_pay38 (F := Ideal) (k0_pay36 (F := Ideal) v70 d (k0_pay31 v68 v72 q l) dr) (k0_pay37 x)) (fun _ _ c => g 0 0 c + ∑ t ∈ Finset.range 256, h.DS (n + 512 + c) (n + 512 + t)) := by
  unfold k0_pay38 k0_pay37 k0_pay36
  exact colsum (extf_at (ds2 hK hV hF hQ hD hL hR)) hx
theorem rk2 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 512) (n := 128) q (fun r d => h.Q (n + 512 + r) d)) (hD : At2 (m := 512) (n := 128) d (fun r d => h.DO (n + 512 + r) d)) (hL : At3 (l := 1) (m := 1) (n := 512) l (fun _ _ c => h.LSE (n + 512 + c))) (hR : At2 (m := 1) (n := 512) dr (fun _ c => h.DR (n + 512 + c))) {x : Vec Ideal S256x1 .f32} {g : ℕ → ℕ → ℝ} (hx : At2 (m := 256) (n := 1) x g) :
    At2 (m := 256) (n := 1) (k0_pay39 (F := Ideal) (k0_pay36 (F := Ideal) v70 d (k0_pay31 v68 v72 q l) dr) x) (fun r c => g r c + ∑ t ∈ Finset.range 512, h.DS (n + 512 + t) (n + 512 + r)) := by
  unfold k0_pay39 k0_pay36
  exact rowsum (extf_at (ds2 hK hV hF hQ hD hL hR)) hx
end Strip2

section Strip3
variable {v68 v70 : Vec Ideal S1024x128 .bf16} {v72 : Vec Ideal S1024x1 .f32} {q d : Vec Ideal S256x128 .bf16} {l : Vec Ideal S1x1x256 .f32} {dr : Vec Ideal S1x256 .f32}
theorem p3 (hK : At2 (m := 1024) (n := 128) v68 (fun r d => h.K (n + r) d)) (hF : At2 (m := 1024) (n := 1) v72 (fun r _ => h.FC (n + r))) (hQ : At2 (m := 256) (n := 128) q (fun r d => h.Q (n + 768 + r) d)) (hL : At3 (l := 1) (m := 1) (n := 256) l (fun _ _ c => h.LSE (n + 768 + c))) : At2 (m := 256) (n := 256) (k0_pay40 (F := Ideal) v68 v72 q l) (fun r c => h.P (n + 768 + c) (n + 768 + r)) := by
  unfold k0_pay40
  exact weightD (by norm_num) (by norm_num) (score rfl (rows (φ := .bf16) hK) (rows (φ := .f32) (f := fun r _ => h.FC r) hF) hQ) (lrow hL)
theorem acc1_3 (hK : At2 (m := 1024) (n := 128) v68 (fun r d => h.K (n + r) d)) (hF : At2 (m := 1024) (n := 1) v72 (fun r _ => h.FC (n + r))) (hQ : At2 (m := 256) (n := 128) q (fun r d => h.Q (n + 768 + r) d)) (hD : At2 (m := 256) (n := 128) d (fun r d => h.DO (n + 768 + r) d)) (hL : At3 (l := 1) (m := 1) (n := 256) l (fun _ _ c => h.LSE (n + 768 + c))) {x : Vec Ideal S1x256x128 .f32} {g : ℕ → ℕ → ℕ → ℝ} (hx : At3 (l := 1) (m := 256) (n := 128) x g) :
    At3 (l := 1) (m := 256) (n := 128) (k0_pay41 (F := Ideal) d (k0_pay40 v68 v72 q l) x) (fun _ r e => g 0 r e + ∑ t ∈ Finset.range 256, h.P (n + 768 + t) (n + 768 + r) * h.DO (n + 768 + t) e) := by
  unfold k0_pay41
  exact cast23 (gather rfl (truncf_at (p3 hK hF hQ hL)) hD hx)
theorem ds3 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 256) (n := 128) q (fun r d => h.Q (n + 768 + r) d)) (hD : At2 (m := 256) (n := 128) d (fun r d => h.DO (n + 768 + r) d)) (hL : At3 (l := 1) (m := 1) (n := 256) l (fun _ _ c => h.LSE (n + 768 + c))) (hR : At2 (m := 1) (n := 256) dr (fun _ c => h.DR (n + 768 + c))) : At2 (m := 256) (n := 256) (k0_pay42 (F := Ideal) v70 d (k0_pay40 v68 v72 q l) dr) (fun r c => h.DS (n + 768 + c) (n + 768 + r)) := by
  unfold k0_pay42
  exact cot rfl (p3 hK hF hQ hL) (rows (φ := .bf16) hV) hD hR
theorem acc0_3 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 256) (n := 128) q (fun r d => h.Q (n + 768 + r) d)) (hD : At2 (m := 256) (n := 128) d (fun r d => h.DO (n + 768 + r) d)) (hL : At3 (l := 1) (m := 1) (n := 256) l (fun _ _ c => h.LSE (n + 768 + c))) (hR : At2 (m := 1) (n := 256) dr (fun _ c => h.DR (n + 768 + c))) {x : Vec Ideal S1x256x128 .f32} {g : ℕ → ℕ → ℕ → ℝ} (hx : At3 (l := 1) (m := 256) (n := 128) x g) :
    At3 (l := 1) (m := 256) (n := 128) (k0_pay43 (F := Ideal) v70 q d (k0_pay40 v68 v72 q l) dr x) (fun _ r e => g 0 r e + ∑ t ∈ Finset.range 256, h.DS (n + 768 + t) (n + 768 + r) * h.Q (n + 768 + t) e) := by
  unfold k0_pay43
  exact cast23 (gather rfl (ds3 hK hV hF hQ hD hL hR) hQ hx)
theorem dq3 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 256) (n := 128) q (fun r d => h.Q (n + 768 + r) d)) (hD : At2 (m := 256) (n := 128) d (fun r d => h.DO (n + 768 + r) d)) (hL : At3 (l := 1) (m := 1) (n := 256) l (fun _ _ c => h.LSE (n + 768 + c))) (hR : At2 (m := 1) (n := 256) dr (fun _ c => h.DR (n + 768 + c))) {x : Vec Ideal S256x128 .f32} {g : ℕ → ℕ → ℝ} (hx : At2 (m := 256) (n := 128) x g) :
    At2 (m := 256) (n := 128) (k0_pay44 (F := Ideal) v68 v70 d (k0_pay40 v68 v72 q l) dr x) (fun r e => g r e + ∑ t ∈ Finset.range 256, h.DS (n + 768 + r) (n + 768 + t) * h.K (n + 768 + t) e) := by
  unfold k0_pay44
  exact spread rfl rfl (fun r c q => funext fun e => match e with | ⟨0, _⟩ => rfl | ⟨1, _⟩ => rfl)
    (fun r c q => funext fun e => match e with | ⟨0, _⟩ => rfl | ⟨1, _⟩ => rfl) (ds3 hK hV hF hQ hD hL hR) (rows (φ := .bf16) hK) hx
theorem rq3 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 256) (n := 128) q (fun r d => h.Q (n + 768 + r) d)) (hD : At2 (m := 256) (n := 128) d (fun r d => h.DO (n + 768 + r) d)) (hL : At3 (l := 1) (m := 1) (n := 256) l (fun _ _ c => h.LSE (n + 768 + c))) (hR : At2 (m := 1) (n := 256) dr (fun _ c => h.DR (n + 768 + c))) {x : Vec Ideal S1x1x256 .f32} {g : ℕ → ℕ → ℕ → ℝ} (hx : At3 (l := 1) (m := 1) (n := 256) x g) :
    At3 (l := 1) (m := 1) (n := 256) (k0_pay48 (F := Ideal) (k0_pay46 x) (k0_pay47 v70 d (k0_pay40 v68 v72 q l) dr)) (fun _ _ c => g 0 0 c + ∑ t ∈ Finset.range 256, h.DS (n + 768 + c) (n + 768 + t)) := by
  unfold k0_pay48 k0_pay46 k0_pay47 k0_pay45
  exact colsum (extf_at (ds3 hK hV hF hQ hD hL hR)) hx
theorem rk3 (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 256) (n := 128) q (fun r d => h.Q (n + 768 + r) d)) (hD : At2 (m := 256) (n := 128) d (fun r d => h.DO (n + 768 + r) d)) (hL : At3 (l := 1) (m := 1) (n := 256) l (fun _ _ c => h.LSE (n + 768 + c))) (hR : At2 (m := 1) (n := 256) dr (fun _ c => h.DR (n + 768 + c))) {x : Vec Ideal S256x1 .f32} {g : ℕ → ℕ → ℝ} (hx : At2 (m := 256) (n := 1) x g) :
    At2 (m := 256) (n := 1) (k0_pay49 (F := Ideal) (k0_pay45 (F := Ideal) v70 d (k0_pay40 v68 v72 q l) dr) x) (fun r c => g r c + ∑ t ∈ Finset.range 256, h.DS (n + 768 + t) (n + 768 + r)) := by
  unfold k0_pay49 k0_pay45
  exact rowsum (extf_at (ds3 hK hV hF hQ hD hL hR)) hx
end Strip3

section Full
variable {v68 v70 : Vec Ideal S1024x128 .bf16} {v72 : Vec Ideal S1024x1 .f32} {q d : Vec Ideal S1024x128 .bf16} {l : Vec Ideal S1x1x1024 .f32} {dr : Vec Ideal S1x1024 .f32}
theorem p4 (hnb : n + 1024 ≤ b) (hK : At2 (m := 1024) (n := 128) v68 (fun r d => h.K (n + r) d)) (hF : At2 (m := 1024) (n := 1) v72 (fun r _ => h.FC (n + r))) (hQ : At2 (m := 1024) (n := 128) q (fun r d => h.Q (b + r) d)) (hL : At3 (l := 1) (m := 1) (n := 1024) l (fun _ _ c => h.LSE (b + c))) : At2 (m := 1024) (n := 1024) (k0_pay2 (F := Ideal) v68 v72 q l) (fun r c => h.P (b + c) (n + r)) := by
  unfold k0_pay2
  exact weightF hnb (score rfl hK hF hQ) (lrow hL)
theorem acc1_4 (hnb : n + 1024 ≤ b) (hK : At2 (m := 1024) (n := 128) v68 (fun r d => h.K (n + r) d)) (hF : At2 (m := 1024) (n := 1) v72 (fun r _ => h.FC (n + r))) (hQ : At2 (m := 1024) (n := 128) q (fun r d => h.Q (b + r) d)) (hD : At2 (m := 1024) (n := 128) d (fun r d => h.DO (b + r) d)) (hL : At3 (l := 1) (m := 1) (n := 1024) l (fun _ _ c => h.LSE (b + c))) {x : Vec Ideal S1x1024x128 .f32} {g : ℕ → ℕ → ℕ → ℝ} (hx : At3 (l := 1) (m := 1024) (n := 128) x g) :
    At3 (l := 1) (m := 1024) (n := 128) (k0_pay3 (F := Ideal) v68 v72 q d l x) (fun _ r e => g 0 r e + ∑ t ∈ Finset.range 1024, h.P (b + t) (n + r) * h.DO (b + t) e) := by
  unfold k0_pay3
  exact cast23 (gather rfl (truncf_at (p4 hnb hK hF hQ hL)) hD hx)
theorem ds4 (hnb : n + 1024 ≤ b) (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 1024) (n := 128) q (fun r d => h.Q (b + r) d)) (hD : At2 (m := 1024) (n := 128) d (fun r d => h.DO (b + r) d)) (hL : At3 (l := 1) (m := 1) (n := 1024) l (fun _ _ c => h.LSE (b + c))) (hR : At2 (m := 1) (n := 1024) dr (fun _ c => h.DR (b + c))) : At2 (m := 1024) (n := 1024) (k0_pay4 (F := Ideal) v68 v70 v72 q d l dr) (fun r c => h.DS (b + c) (n + r)) := by
  unfold k0_pay4
  exact cot rfl (p4 hnb hK hF hQ hL) hV hD hR
theorem acc0_4 (hnb : n + 1024 ≤ b) (hK : At2 (m := 1024) (n := 128) v68 (fun r d => h.K (n + r) d)) (hV : At2 (m := 1024) (n := 128) v70 (fun r d => h.V (n + r) d)) (hF : At2 (m := 1024) (n := 1) v72 (fun r _ => h.FC (n + r))) (hQ : At2 (m := 1024) (n := 128) q (fun r d => h.Q (b + r) d)) (hD : At2 (m := 1024) (n := 128) d (fun r d => h.DO (b + r) d)) (hL : At3 (l := 1) (m := 1) (n := 1024) l (fun _ _ c => h.LSE (b + c))) (hR : At2 (m := 1) (n := 1024) dr (fun _ c => h.DR (b + c))) {x : Vec Ideal S1x1024x128 .f32} {g : ℕ → ℕ → ℕ → ℝ} (hx : At3 (l := 1) (m := 1024) (n := 128) x g) :
    At3 (l := 1) (m := 1024) (n := 128) (k0_pay50 (F := Ideal) (k0_pay5 v68 v70 v72 q d l dr x)) (fun _ r e => g 0 r e + ∑ t ∈ Finset.range 1024, h.DS (b + t) (n + r) * h.Q (b + t) e) := by
  unfold k0_pay50 k0_pay5
  exact cast23 (gather rfl (ds4 hnb hK hV hF hQ hD hL hR) hQ hx)
variable {s : FVec Ideal S1024x1024 .bf16} (hS : At2 (m := 1024) (n := 1024) s (fun r c => h.DS (b + c) (n + r)))
include hS
theorem dq4 (hK : At2 (m := 1024) (n := 128) v68 (fun r d => h.K (n + r) d)) {x : Vec Ideal S1024x128 .f32} {g : ℕ → ℕ → ℝ} (hx : At2 (m := 1024) (n := 128) x g) :
    At2 (m := 1024) (n := 128) (k0_pay51 (F := Ideal) v68 s x) (fun r e => g r e + ∑ t ∈ Finset.range 1024, h.DS (b + r) (n + t) * h.K (n + t) e) := by
  unfold k0_pay51
  exact spread rfl rfl (fun r c q => funext fun e => match e with | ⟨0, _⟩ => rfl | ⟨1, _⟩ => rfl)
    (fun r c q => funext fun e => match e with | ⟨0, _⟩ => rfl | ⟨1, _⟩ => rfl) hS hK hx
theorem rq4 {x : Vec Ideal S1x1x1024 .f32} {g : ℕ → ℕ → ℕ → ℝ} (hx : At3 (l := 1) (m := 1) (n := 1024) x g) :
    At3 (l := 1) (m := 1) (n := 1024) (k0_pay53 (F := Ideal) s x) (fun _ _ c => g 0 0 c + ∑ t ∈ Finset.range 1024, h.DS (b + c) (n + t)) := by
  unfold k0_pay53 k0_pay52
  exact colsum (extf_at hS) hx
theorem rk4 {x : Vec Ideal S1024x1 .f32} {g : ℕ → ℕ → ℝ} (hx : At2 (m := 1024) (n := 1) x g) :
    At2 (m := 1024) (n := 1) (k0_pay54 (F := Ideal) s x) (fun r c => g r c + ∑ t ∈ Finset.range 1024, h.DS (b + t) (n + r)) := by
  unfold k0_pay54 k0_pay52
  exact rowsum (extf_at hS) hx
end Full

end Cert.FoxIdeal.Pay
-- ==== Proof.FoxSteps.lean ====
/- Stores that add to a rectangle of a buffer of real numbers, and loads from what a store has just covered. -/
module

public import proofs.«01_k».proof.Proof.FoxOps
public import Idealize.ShloMosaic.Lib.HeldBySlice

@[expose] public section

noncomputable section

namespace Cert.FoxOps

open Idealize.ShloMosaic Idealize.ShloMosaic.ValueIdx
open scoped BigOperators

variable {sig : RefSig} {κ : Kind} {sp : Space}

/-- A store over all columns of some rows that adds `W` to what the rows held. -/
theorem step2 {M N z b : ℕ} {v : View sig κ sp ⟨2, ![M, N]⟩ .f32} {off : Fin 2 → ℕ} {inb} {f : v.ty.Contents (Elt Ideal)}
    {L : List (View.Piece (Elt Ideal) ⟨2, ![M, N]⟩ .f32)} {g W : ℕ → ℕ → ℝ}
    {w : (Rect.unit (s := ⟨2, ![M, N]⟩) off (⟨2, ![z, N]⟩ : Shape).size inb).shape.Idx → Elt Ideal .f32}
    (h0 : off 0 = b) (h1 : off 1 = 0) (h : At2 (m := M) (n := N) (v.read (Elt Ideal) (v.writes (Elt Ideal) f L)) g)
    (hw : At2 (m := z) (n := N) w (fun r e => g (off 0 + r) (off 1 + e) + W r e)) :
    At2 (m := M) (n := N) (v.read (Elt Ideal) (v.writes (Elt Ideal) f (⟨Rect.unit (s := ⟨2, ![M, N]⟩) off (⟨2, ![z, N]⟩ : Shape).size inb, w⟩ :: L)))
      (fun q e => g q e + if b ≤ q ∧ q < b + z then W (q - b) e else 0) :=
  (wr2 hw (fun r c _ => h r c)).congr fun r c hr hc => by
    have hi : In2 off z N r c ↔ (b ≤ r ∧ r < b + z) := by unfold In2; rw [h0, h1]; omega
    by_cases hq : b ≤ r ∧ r < b + z
    · rw [if_pos (hi.2 hq), if_pos hq, h0, h1]
      have e0 : b + (r - b) = r := by omega
      have e1 : 0 + (c - 0) = c := by omega
      rw [e0, e1, Nat.sub_zero]
    · rw [if_neg (fun hh => hq (hi.1 hh)), if_neg hq, add_zero]

/-- The same for a row of numbers. -/
theorem step3r {M z b : ℕ} {v : View sig κ sp ⟨3, ![1, 1, M]⟩ .f32} {off : Fin 3 → ℕ} {inb} {f : v.ty.Contents (Elt Ideal)}
    {L : List (View.Piece (Elt Ideal) ⟨3, ![1, 1, M]⟩ .f32)} {g W : ℕ → ℝ}
    {w : (Rect.unit (s := ⟨3, ![1, 1, M]⟩) off (⟨3, ![1, 1, z]⟩ : Shape).size inb).shape.Idx → Elt Ideal .f32}
    (h0 : off 0 = 0) (h1 : off 1 = 0) (h2 : off 2 = b)
    (h : At3 (l := 1) (m := 1) (n := M) (v.read (Elt Ideal) (v.writes (Elt Ideal) f L)) (fun _ _ q => g q))
    (hw : At3 (l := 1) (m := 1) (n := z) w (fun _ _ c => g (off 2 + c) + W c)) :
    At3 (l := 1) (m := 1) (n := M) (v.read (Elt Ideal) (v.writes (Elt Ideal) f (⟨Rect.unit (s := ⟨3, ![1, 1, M]⟩) off (⟨3, ![1, 1, z]⟩ : Shape).size inb, w⟩ :: L)))
      (fun _ _ q => g q + if b ≤ q ∧ q < b + z then W (q - b) else 0) :=
  (wr3 (g := fun _ _ q => g q) hw (fun s r c _ => h s r c)).congr fun s r c hs hr hc => by
    have hi : In3 off 1 1 z s r c ↔ (b ≤ c ∧ c < b + z) := by unfold In3; rw [h0, h1, h2]; omega
    by_cases hq : b ≤ c ∧ c < b + z
    · rw [if_pos (hi.2 hq), if_pos hq, h2]
      have e0 : b + (c - b) = c := by omega
      rw [e0]
    · rw [if_neg (fun hh => hq (hi.1 hh)), if_neg hq, add_zero]

/-- The same for some rows of one plane. -/
theorem step3p {S M N z o s₀ : ℕ} {v : View sig κ sp ⟨3, ![S, M, N]⟩ .f32} {off : Fin 3 → ℕ} {inb} {f : v.ty.Contents (Elt Ideal)}
    {L : List (View.Piece (Elt Ideal) ⟨3, ![S, M, N]⟩ .f32)} {g : ℕ → ℕ → ℕ → ℝ} {W : ℕ → ℕ → ℝ}
    {w : (Rect.unit (s := ⟨3, ![S, M, N]⟩) off (⟨3, ![1, z, N]⟩ : Shape).size inb).shape.Idx → Elt Ideal .f32}
    (h0 : off 0 = s₀) (h1 : off 1 = o) (h2 : off 2 = 0)
    (h : At3 (l := S) (m := M) (n := N) (v.read (Elt Ideal) (v.writes (Elt Ideal) f L)) g)
    (hw : At3 (l := 1) (m := z) (n := N) w (fun _ r e => g (off 0 + 0) (off 1 + r) (off 2 + e) + W r e)) :
    At3 (l := S) (m := M) (n := N) (v.read (Elt Ideal) (v.writes (Elt Ideal) f (⟨Rect.unit (s := ⟨3, ![S, M, N]⟩) off (⟨3, ![1, z, N]⟩ : Shape).size inb, w⟩ :: L)))
      (fun s r e => g s r e + if s = s₀ ∧ o ≤ r ∧ r < o + z then W (r - o) e else 0) :=
  (wr3 hw (fun s r c _ => h s r c)).congr fun s r c hs hr hc => by
    have hi : In3 off 1 z N s r c ↔ (s = s₀ ∧ o ≤ r ∧ r < o + z) := by unfold In3; rw [h0, h1, h2]; omega
    by_cases hq : s = s₀ ∧ o ≤ r ∧ r < o + z
    · rw [if_pos (hi.2 hq), if_pos hq, h0, h1, h2]
      have e0 : o + (r - o) = r := by omega
      have e1 : 0 + (c - 0) = c := by omega
      rw [e0, e1, Nat.sub_zero, Nat.add_zero, hq.1]
    · rw [if_neg (fun hh => hq (hi.1 hh)), if_neg hq, add_zero]

/-- A load inside what the last store covered, over any earlier contents. -/
theorem cov2 {M N m n m' n' : ℕ} {v : View sig κ sp ⟨2, ![M, N]⟩ .f32} {off off' : Fin 2 → ℕ} {inb inb'} {f : v.ty.Contents (Elt Ideal)}
    {L : List (View.Piece (Elt Ideal) ⟨2, ![M, N]⟩ .f32)} {g : ℕ → ℕ → ℝ}
    {w : (Rect.unit (s := ⟨2, ![M, N]⟩) off (⟨2, ![m, n]⟩ : Shape).size inb).shape.Idx → Elt Ideal .f32}
    (h : At2 (m := M) (n := N) (v.read (Elt Ideal) (v.writes (Elt Ideal) f (⟨Rect.unit (s := ⟨2, ![M, N]⟩) off (⟨2, ![m, n]⟩ : Shape).size inb, w⟩ :: L))) g)
    (hin : ∀ a : Fin 2, off a ≤ off' a ∧ off' a + (⟨2, ![m', n']⟩ : Shape).size a ≤ off a + (⟨2, ![m, n]⟩ : Shape).size a) :
    At2 (m := m') (n := n') (v.readCov (⟨Rect.unit (s := ⟨2, ![M, N]⟩) off (⟨2, ![m, n]⟩ : Shape).size inb, w⟩ :: L)
      (Rect.unit (s := ⟨2, ![M, N]⟩) off' (⟨2, ![m', n']⟩ : Shape).size inb').toLoadRect) (fun r c => g (off' 0 + r) (off' 1 + c)) := by
  refine fun r c => Eq.trans (congrFun (View.readAt_writes_eq_of_cover v v.junk f _ _ fun j => ⟨_, List.mem_cons_self .., ?_⟩) _) (rd2f h r c)
  refine (Rect.mem_set_unit (inb := inb)).2 fun a => ?_
  have hj : (j a).val < (⟨2, ![m', n']⟩ : Shape).size a := (j a).isLt
  have := hin a
  show off a ≤ off' a + 1 * (j a).val ∧ off' a + 1 * (j a).val < off a + (⟨2, ![m, n]⟩ : Shape).size a
  omega
theorem cov3 {S M N l m n l' m' n' : ℕ} {v : View sig κ sp ⟨3, ![S, M, N]⟩ .f32} {off off' : Fin 3 → ℕ} {inb inb'} {f : v.ty.Contents (Elt Ideal)}
    {L : List (View.Piece (Elt Ideal) ⟨3, ![S, M, N]⟩ .f32)} {g : ℕ → ℕ → ℕ → ℝ}
    {w : (Rect.unit (s := ⟨3, ![S, M, N]⟩) off (⟨3, ![l, m, n]⟩ : Shape).size inb).shape.Idx → Elt Ideal .f32}
    (h : At3 (l := S) (m := M) (n := N) (v.read (Elt Ideal) (v.writes (Elt Ideal) f (⟨Rect.unit (s := ⟨3, ![S, M, N]⟩) off (⟨3, ![l, m, n]⟩ : Shape).size inb, w⟩ :: L))) g)
    (hin : ∀ a : Fin 3, off a ≤ off' a ∧ off' a + (⟨3, ![l', m', n']⟩ : Shape).size a ≤ off a + (⟨3, ![l, m, n]⟩ : Shape).size a) :
    At3 (l := l') (m := m') (n := n') (v.readCov (⟨Rect.unit (s := ⟨3, ![S, M, N]⟩) off (⟨3, ![l, m, n]⟩ : Shape).size inb, w⟩ :: L)
      (Rect.unit (s := ⟨3, ![S, M, N]⟩) off' (⟨3, ![l', m', n']⟩ : Shape).size inb').toLoadRect) (fun s r c => g (off' 0 + s) (off' 1 + r) (off' 2 + c)) := by
  refine fun s r c => Eq.trans (congrFun (View.readAt_writes_eq_of_cover v v.junk f _ _ fun j => ⟨_, List.mem_cons_self .., ?_⟩) _) (rd3f h s r c)
  refine (Rect.mem_set_unit (inb := inb)).2 fun a => ?_
  have hj : (j a).val < (⟨3, ![l', m', n']⟩ : Shape).size a := (j a).isLt
  have := hin a
  show off a ≤ off' a + 1 * (j a).val ∧ off' a + 1 * (j a).val < off a + (⟨3, ![l, m, n]⟩ : Shape).size a
  omega

end Cert.FoxOps

end
-- ==== Proof.FoxInner.lean ====
/- The inner loop of the attention's gradient: the full blocks below the diagonal, over the real numbers. -/
module

public import proofs.«01_k».proof.Proof.FoxTrip
public import proofs.«01_k».proof.Proof.FoxPay
public import proofs.«01_k».proof.Proof.FoxSteps

@[expose] public section

set_option maxRecDepth 16384

noncomputable section

namespace Cert.FoxIdeal.Inner

open Idealize.ShloMosaic Idealize.ShloMosaic.TcCoe Idealize.ShloMosaic.ValueIdx
open Cert.FoxIdeal Cert.FoxIdeal.Gen Cert.FoxIdeal.Pay Cert.FoxOps
open scoped BigOperators

theorem off15_0 (a : Fin k0_t1_loop.trips) (k : Fin (k0_t2_loop a).trips) : k0_off15 a k 0 = 1024 * a.val + 1024 + 1024 * k.val := by revert a k; decide
theorem off15_1 (a : Fin k0_t1_loop.trips) (k : Fin (k0_t2_loop a).trips) : k0_off15 a k 1 = 0 := by revert a k; decide
theorem off16_0 (a : Fin k0_t1_loop.trips) (k : Fin (k0_t2_loop a).trips) : k0_off16 a k 0 = 0 := by revert a k; decide
theorem off16_1 (a : Fin k0_t1_loop.trips) (k : Fin (k0_t2_loop a).trips) : k0_off16 a k 1 = 0 := by revert a k; decide
theorem off16_2 (a : Fin k0_t1_loop.trips) (k : Fin (k0_t2_loop a).trips) : k0_off16 a k 2 = 1024 * a.val + 1024 + 1024 * k.val := by revert a k; decide
theorem off17_0 (a : Fin k0_t1_loop.trips) (k : Fin (k0_t2_loop a).trips) : k0_off17 a k 0 = 0 := by revert a k; decide
theorem off17_1 (a : Fin k0_t1_loop.trips) (k : Fin (k0_t2_loop a).trips) : k0_off17 a k 1 = 1024 * a.val + 1024 + 1024 * k.val := by revert a k; decide
theorem inner_trips (a : Fin k0_t1_loop.trips) : (k0_t2_loop a).trips = 3 - a.val := by revert a; decide

variable (𝒱 : Variants) (c : Dev nD) (bd : Option 𝒱.V) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S1x1x4096 .f32) (harg5 : arg5.IsWhole)
  (arg6 : Memref sig .tc .vmem S4096x128 .bf16) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .bf16) (harg10 : arg10.IsWhole)
  (arg11 : Memref sig .tc .vmem S1x1x4096 .f32) (harg11 : arg11.IsWhole)
  (arg12 : Memref sig .tc .vmem S1x1x4096 .f32) (harg12 : arg12.IsWhole)
  (arg13 : Memref sig .tc .vmem S4096x128 .f32) (harg13 : arg13.IsWhole)
  (arg14 : Memref sig .tc .vmem S8x4096 .f32) (harg14 : arg14.IsWhole)
  (arg15 : Memref sig .tc .vmem S4096x1 .f32) (harg15 : arg15.IsWhole)
  (arg16 : Memref sig .tc .vmem S2x1024x128 .f32) (harg16 : arg16.IsWhole)
  (arg17 : Memref sig .tc .vmem S1024x1 .f32) (harg17 : arg17.IsWhole)
  (a : Fin k0_t1_loop.trips) (arg18 v66 : BitVec 32) (v68 v70 : Vec Ideal S1024x128 .bf16) (v72 : Vec Ideal S1024x1 .f32) (v308 : BitVec 32)
  (v363 : FVec Ideal S256x256 .f32) (v366 : FVec Ideal S1x256 .f32) (v367 : FVec Ideal S256 .f32) (v381 : BitVec 32)
  (X1 : BufTy.Contents (Elt Ideal) arg1.view.ty) (X5 : BufTy.Contents (Elt Ideal) arg5.view.ty) (X7 : BufTy.Contents (Elt Ideal) arg7.view.ty) (X14 : BufTy.Contents (Elt Ideal) arg14.view.ty)

/-- The block loaded at a row offset. -/
theorem ld {sig : RefSig} {κ : Kind} {sp : Space} {M N m b : ℕ} {v : View sig κ sp ⟨2, ![M, N]⟩ .bf16} {off : Fin 2 → ℕ} {inb} {f : v.ty.Contents (Elt Ideal)} {g : ℕ → ℕ → ℝ}
    (h0 : off 0 = b) (h1 : off 1 = 0) (h : At2 (m := M) (n := N) (v.read (Elt Ideal) f) g) :
    At2 (m := m) (n := N) (v.readAt (Elt Ideal) (Rect.unit (s := ⟨2, ![M, N]⟩) off (⟨2, ![m, N]⟩ : Shape).size inb).toLoadRect f) (fun r d => g (b + r) d) :=
  (rd2b h).congr fun r d _ _ => by rw [h0, h1, Nat.zero_add]
theorem ldf {sig : RefSig} {κ : Kind} {sp : Space} {M N m b : ℕ} {v : View sig κ sp ⟨2, ![M, N]⟩ .f32} {off : Fin 2 → ℕ} {inb} {f : v.ty.Contents (Elt Ideal)} {g : ℕ → ℕ → ℝ}
    (h0 : off 0 = b) (h1 : off 1 = 0) (h : At2 (m := M) (n := N) (v.read (Elt Ideal) f) g) :
    At2 (m := m) (n := N) (v.readAt (Elt Ideal) (Rect.unit (s := ⟨2, ![M, N]⟩) off (⟨2, ![m, N]⟩ : Shape).size inb).toLoadRect f) (fun r d => g (b + r) d) :=
  (rd2f h).congr fun r d _ _ => by rw [h0, h1, Nat.zero_add]
theorem ldc {sig : RefSig} {κ : Kind} {sp : Space} {M N m n b : ℕ} {v : View sig κ sp ⟨2, ![M, N]⟩ .f32} {off : Fin 2 → ℕ} {inb} {f : v.ty.Contents (Elt Ideal)} {g : ℕ → ℝ}
    (h1 : off 1 = b) (h : At2 (m := M) (n := N) (v.read (Elt Ideal) f) (fun _ q => g q)) :
    At2 (m := m) (n := n) (v.readAt (Elt Ideal) (Rect.unit (s := ⟨2, ![M, N]⟩) off (⟨2, ![m, n]⟩ : Shape).size inb).toLoadRect f) (fun _ q => g (b + q)) :=
  (rd2f h).congr fun r d _ _ => by rw [h1]
theorem ldr {sig : RefSig} {κ : Kind} {sp : Space} {L M N l m n b : ℕ} {v : View sig κ sp ⟨3, ![L, M, N]⟩ .f32} {off : Fin 3 → ℕ} {inb} {f : v.ty.Contents (Elt Ideal)} {g : ℕ → ℝ}
    (h2 : off 2 = b) (h : At3 (l := L) (m := M) (n := N) (v.read (Elt Ideal) f) (fun _ _ q => g q)) :
    At3 (l := l) (m := m) (n := n) (v.readAt (Elt Ideal) (Rect.unit (s := ⟨3, ![L, M, N]⟩) off (⟨3, ![l, m, n]⟩ : Shape).size inb).toLoadRect f) (fun _ _ q => g (b + q)) :=
  (rd3f h).congr fun s r d _ _ _ => by rw [h2]

variable {h : Hd} {DQ : ℕ → ℕ → ℝ} {RQ : ℕ → ℝ} {A : ℕ → ℕ → ℕ → ℝ} {B : ℕ → ℕ → ℝ}
  (hX1 : At2 (m := 4096) (n := 128) (arg1.view.read (Elt Ideal) X1) h.Q) (hX5 : At3 (l := 1) (m := 1) (n := 4096) (arg5.view.read (Elt Ideal) X5) (fun _ _ q => h.LSE q))
  (hX7 : At2 (m := 4096) (n := 128) (arg7.view.read (Elt Ideal) X7) h.DO) (hX14 : At2 (m := 8) (n := 4096) (arg14.view.read (Elt Ideal) X14) (fun _ q => h.DR q))
  (hK : At2 (m := 1024) (n := 128) v68 (fun r d => h.K (1024 * a.val + r) d)) (hV : At2 (m := 1024) (n := 128) v70 (fun r d => h.V (1024 * a.val + r) d))
  (hF : At2 (m := 1024) (n := 1) v72 (fun r _ => h.FC (1024 * a.val + r)))
include hX1 hX5 hX7 hX14 hK hV hF

/-- The inner trip `k` adds to the row sums of its block of queries. -/
theorem trip_rq (k : Fin (k0_t2_loop a).trips) (f11 : BufTy.Contents (Elt Ideal) arg11.view.ty) (f13 : BufTy.Contents (Elt Ideal) arg13.view.ty) (f16 : BufTy.Contents (Elt Ideal) arg16.view.ty) (f17 : BufTy.Contents (Elt Ideal) arg17.view.ty) (h11 : At3 (l := 1) (m := 1) (n := 4096) (arg11.view.read (Elt Ideal) f11) (fun _ _ q => RQ q)) :
    At3 (l := 1) (m := 1) (n := 4096) (arg11.view.read (Elt Ideal) (arg11.view.writes (Elt Ideal) f11 (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a arg18 v66 v68 v70 v72 v308 v363 v366 v367 v381 X1 X5 X7 X14 k f11 f13 f16 f17).1))
      (fun _ _ q => RQ q + if 1024 * a.val + 1024 + 1024 * k.val ≤ q ∧ q < 1024 * a.val + 1024 + 1024 * k.val + 1024 then ∑ t ∈ Finset.range 1024, h.DS (1024 * a.val + 1024 + 1024 * k.val + (q - (1024 * a.val + 1024 + 1024 * k.val))) (1024 * a.val + t) else 0) := by
  unfold tripL_k0_t2 trip_k0_t2
  exact step3r (L := []) (W := fun c => ∑ t ∈ Finset.range 1024, h.DS (1024 * a.val + 1024 + 1024 * k.val + c) (1024 * a.val + t)) (off16_0 a k) (off16_1 a k) (off16_2 a k) h11
    (rq4 (ds4 (b := 1024 * a.val + 1024 + 1024 * k.val) (by omega) hK hV hF (ld (off15_0 a k) (off15_1 a k) hX1) (ld (off15_0 a k) (off15_1 a k) hX7) (ldr (off16_2 a k) hX5) (ldc (off17_1 a k) hX14)) (rd3f h11))

/-- It adds to the gradient of its block of queries. -/
theorem trip_dq (k : Fin (k0_t2_loop a).trips) (f11 : BufTy.Contents (Elt Ideal) arg11.view.ty) (f13 : BufTy.Contents (Elt Ideal) arg13.view.ty) (f16 : BufTy.Contents (Elt Ideal) arg16.view.ty) (f17 : BufTy.Contents (Elt Ideal) arg17.view.ty) (h13 : At2 (m := 4096) (n := 128) (arg13.view.read (Elt Ideal) f13) DQ) :
    At2 (m := 4096) (n := 128) (arg13.view.read (Elt Ideal) (arg13.view.writes (Elt Ideal) f13 (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a arg18 v66 v68 v70 v72 v308 v363 v366 v367 v381 X1 X5 X7 X14 k f11 f13 f16 f17).2.1))
      (fun q e => DQ q e + if 1024 * a.val + 1024 + 1024 * k.val ≤ q ∧ q < 1024 * a.val + 1024 + 1024 * k.val + 1024 then ∑ t ∈ Finset.range 1024, h.DS (1024 * a.val + 1024 + 1024 * k.val + (q - (1024 * a.val + 1024 + 1024 * k.val))) (1024 * a.val + t) * h.K (1024 * a.val + t) e else 0) := by
  unfold tripL_k0_t2 trip_k0_t2
  exact step2 (L := []) (W := fun r e => ∑ t ∈ Finset.range 1024, h.DS (1024 * a.val + 1024 + 1024 * k.val + r) (1024 * a.val + t) * h.K (1024 * a.val + t) e) (off15_0 a k) (off15_1 a k) h13
    (dq4 (ds4 (b := 1024 * a.val + 1024 + 1024 * k.val) (by omega) hK hV hF (ld (off15_0 a k) (off15_1 a k) hX1) (ld (off15_0 a k) (off15_1 a k) hX7) (ldr (off16_2 a k) hX5) (ldc (off17_1 a k) hX14)) hK (rd2f h13))

/-- It adds to the gradients of the block of keys and values. -/
theorem trip_acc (k : Fin (k0_t2_loop a).trips) (f11 : BufTy.Contents (Elt Ideal) arg11.view.ty) (f13 : BufTy.Contents (Elt Ideal) arg13.view.ty) (f16 : BufTy.Contents (Elt Ideal) arg16.view.ty) (f17 : BufTy.Contents (Elt Ideal) arg17.view.ty) (h16 : At3 (l := 2) (m := 1024) (n := 128) (arg16.view.read (Elt Ideal) f16) A) :
    At3 (l := 2) (m := 1024) (n := 128) (arg16.view.read (Elt Ideal) (arg16.view.writes (Elt Ideal) f16 (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a arg18 v66 v68 v70 v72 v308 v363 v366 v367 v381 X1 X5 X7 X14 k f11 f13 f16 f17).2.2.1))
      (fun s r e => (A s r e + if s = 1 ∧ 0 ≤ r ∧ r < 0 + 1024 then ∑ t ∈ Finset.range 1024, h.P (1024 * a.val + 1024 + 1024 * k.val + t) (1024 * a.val + (r - 0)) * h.DO (1024 * a.val + 1024 + 1024 * k.val + t) e else 0)
        + if s = 0 ∧ 0 ≤ r ∧ r < 0 + 1024 then ∑ t ∈ Finset.range 1024, h.DS (1024 * a.val + 1024 + 1024 * k.val + t) (1024 * a.val + (r - 0)) * h.Q (1024 * a.val + 1024 + 1024 * k.val + t) e else 0) := by
  unfold tripL_k0_t2 trip_k0_t2
  refine step3p (W := fun r e => ∑ t ∈ Finset.range 1024, h.DS (1024 * a.val + 1024 + 1024 * k.val + t) (1024 * a.val + r) * h.Q (1024 * a.val + 1024 + 1024 * k.val + t) e) rfl rfl rfl
    (step3p (L := []) (W := fun r e => ∑ t ∈ Finset.range 1024, h.P (1024 * a.val + 1024 + 1024 * k.val + t) (1024 * a.val + r) * h.DO (1024 * a.val + 1024 + 1024 * k.val + t) e) rfl rfl rfl h16
      (acc1_4 (b := 1024 * a.val + 1024 + 1024 * k.val) (by omega) hK hF (ld (off15_0 a k) (off15_1 a k) hX1) (ld (off15_0 a k) (off15_1 a k) hX7) (ldr (off16_2 a k) hX5) (rd3f h16)))
    ((acc0_4 (b := 1024 * a.val + 1024 + 1024 * k.val) (by omega) hK hV hF (ld (off15_0 a k) (off15_1 a k) hX1) (ld (off15_0 a k) (off15_1 a k) hX7) (ldr (off16_2 a k) hX5) (ldc (off17_1 a k) hX14) (rd3f h16)).congr fun s r e _ _ _ => ?_)
  exact congrArg (· + _) ((add_zero _).symm.trans (congrArg (_ + ·) (if_neg (by simp)).symm))

/-- It adds to the column sums of the block of keys. -/
theorem trip_rk (k : Fin (k0_t2_loop a).trips) (f11 : BufTy.Contents (Elt Ideal) arg11.view.ty) (f13 : BufTy.Contents (Elt Ideal) arg13.view.ty) (f16 : BufTy.Contents (Elt Ideal) arg16.view.ty) (f17 : BufTy.Contents (Elt Ideal) arg17.view.ty) (h17 : At2 (m := 1024) (n := 1) (arg17.view.read (Elt Ideal) f17) B) :
    At2 (m := 1024) (n := 1) (arg17.view.read (Elt Ideal) (arg17.view.writes (Elt Ideal) f17 (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a arg18 v66 v68 v70 v72 v308 v363 v366 v367 v381 X1 X5 X7 X14 k f11 f13 f16 f17).2.2.2))
      (fun r e => B r e + if 0 ≤ r ∧ r < 0 + 1024 then ∑ t ∈ Finset.range 1024, h.DS (1024 * a.val + 1024 + 1024 * k.val + t) (1024 * a.val + (r - 0)) else 0) := by
  unfold tripL_k0_t2 trip_k0_t2
  exact step2 (L := []) (W := fun r e => ∑ t ∈ Finset.range 1024, h.DS (1024 * a.val + 1024 + 1024 * k.val + t) (1024 * a.val + r)) rfl rfl h17
    (rk4 (ds4 (b := 1024 * a.val + 1024 + 1024 * k.val) (by omega) hK hV hF (ld (off15_0 a k) (off15_1 a k) hX1) (ld (off15_0 a k) (off15_1 a k) hX7) (ldr (off16_2 a k) hX5) (ldc (off17_1 a k) hX14)) (rd2f h17))

end Cert.FoxIdeal.Inner

end
-- ==== Proof.FoxStrip.lean ====
/- The blocks on the diagonal in the attention's gradient: what the four strips leave in the arrays they add to. -/
module

public import proofs.«01_k».proof.Proof.FoxInner
public import proofs.«01_k».proof.Proof.FoxCover

@[expose] public section

set_option maxRecDepth 16384

noncomputable section

namespace Cert.FoxIdeal.Strip

open Idealize.ShloMosaic Idealize.ShloMosaic.TcCoe Idealize.ShloMosaic.ValueIdx
open Cert.FoxIdeal Cert.FoxIdeal.Gen Cert.FoxIdeal.Pay Cert.FoxOps Cert.FoxIdeal.Trip Cert.FoxIdeal.Inner
open scoped BigOperators

theorem off3_0 (k : Fin k0_t1_loop.trips) : k0_off3 k 0 = 1024 * k.val + 0 := by revert k; decide
theorem off3_1 (k : Fin k0_t1_loop.trips) : k0_off3 k 1 = 0 := by revert k; decide
theorem off4_0 (k : Fin k0_t1_loop.trips) : k0_off4 k 0 = 0 := by revert k; decide
theorem off4_1 (k : Fin k0_t1_loop.trips) : k0_off4 k 1 = 0 := by revert k; decide
theorem off4_2 (k : Fin k0_t1_loop.trips) : k0_off4 k 2 = 1024 * k.val + 0 := by revert k; decide
theorem off5_1 (k : Fin k0_t1_loop.trips) : k0_off5 k 1 = 1024 * k.val + 0 := by revert k; decide
theorem off6_0 (k : Fin k0_t1_loop.trips) : k0_off6 k 0 = 1024 * k.val + 256 := by revert k; decide
theorem off6_1 (k : Fin k0_t1_loop.trips) : k0_off6 k 1 = 0 := by revert k; decide
theorem off7_0 (k : Fin k0_t1_loop.trips) : k0_off7 k 0 = 0 := by revert k; decide
theorem off7_1 (k : Fin k0_t1_loop.trips) : k0_off7 k 1 = 0 := by revert k; decide
theorem off7_2 (k : Fin k0_t1_loop.trips) : k0_off7 k 2 = 1024 * k.val + 256 := by revert k; decide
theorem off8_1 (k : Fin k0_t1_loop.trips) : k0_off8 k 1 = 1024 * k.val + 256 := by revert k; decide
theorem off9_0 (k : Fin k0_t1_loop.trips) : k0_off9 k 0 = 1024 * k.val + 512 := by revert k; decide
theorem off9_1 (k : Fin k0_t1_loop.trips) : k0_off9 k 1 = 0 := by revert k; decide
theorem off10_0 (k : Fin k0_t1_loop.trips) : k0_off10 k 0 = 0 := by revert k; decide
theorem off10_1 (k : Fin k0_t1_loop.trips) : k0_off10 k 1 = 0 := by revert k; decide
theorem off10_2 (k : Fin k0_t1_loop.trips) : k0_off10 k 2 = 1024 * k.val + 512 := by revert k; decide
theorem off11_1 (k : Fin k0_t1_loop.trips) : k0_off11 k 1 = 1024 * k.val + 512 := by revert k; decide
theorem off12_0 (k : Fin k0_t1_loop.trips) : k0_off12 k 0 = 1024 * k.val + 768 := by revert k; decide
theorem off12_1 (k : Fin k0_t1_loop.trips) : k0_off12 k 1 = 0 := by revert k; decide
theorem off13_0 (k : Fin k0_t1_loop.trips) : k0_off13 k 0 = 0 := by revert k; decide
theorem off13_1 (k : Fin k0_t1_loop.trips) : k0_off13 k 1 = 0 := by revert k; decide
theorem off13_2 (k : Fin k0_t1_loop.trips) : k0_off13 k 2 = 1024 * k.val + 768 := by revert k; decide
theorem off14_1 (k : Fin k0_t1_loop.trips) : k0_off14 k 1 = 1024 * k.val + 768 := by revert k; decide
theorem hin13_1 (k : Fin k0_t1_loop.trips) : ∀ a : Fin 2, k0_off3 k a ≤ k0_off6 k a ∧ k0_off6 k a + S768x128.size a ≤ k0_off3 k a + S1024x128.size a := by revert k; decide
theorem hin11_1 (k : Fin k0_t1_loop.trips) : ∀ a : Fin 3, k0_off4 k a ≤ k0_off7 k a ∧ k0_off7 k a + S1x1x768.size a ≤ k0_off4 k a + S1x1x1024.size a := by revert k; decide
theorem hin13_2 (k : Fin k0_t1_loop.trips) : ∀ a : Fin 2, k0_off6 k a ≤ k0_off9 k a ∧ k0_off9 k a + S512x128.size a ≤ k0_off6 k a + S768x128.size a := by revert k; decide
theorem hin11_2 (k : Fin k0_t1_loop.trips) : ∀ a : Fin 3, k0_off7 k a ≤ k0_off10 k a ∧ k0_off10 k a + S1x1x512.size a ≤ k0_off7 k a + S1x1x768.size a := by revert k; decide
theorem hin13_3 (k : Fin k0_t1_loop.trips) : ∀ a : Fin 2, k0_off9 k a ≤ k0_off12 k a ∧ k0_off12 k a + S256x128.size a ≤ k0_off9 k a + S512x128.size a := by revert k; decide
theorem hin11_3 (k : Fin k0_t1_loop.trips) : ∀ a : Fin 3, k0_off10 k a ≤ k0_off13 k a ∧ k0_off13 k a + S1x1x256.size a ≤ k0_off10 k a + S1x1x512.size a := by revert k; decide
theorem off2_0 (k : Fin k0_t1_loop.trips) : k0_off2 k 0 = 1024 * k.val := by revert k; decide
theorem off2_1 (k : Fin k0_t1_loop.trips) : k0_off2 k 1 = 0 := by revert k; decide

/-- What a strip adds to the gradient of the queries. -/
def dqs (h : Hd) (n o z q e : ℕ) : ℝ := if n + o ≤ q ∧ q < n + o + z then ∑ t ∈ Finset.range 256, h.DS (n + o + (q - (n + o))) (n + o + t) * h.K (n + o + t) e else 0
/-- What it adds to the row sums. -/
def rqs (h : Hd) (n o z q : ℕ) : ℝ := if n + o ≤ q ∧ q < n + o + z then ∑ t ∈ Finset.range 256, h.DS (n + o + (q - (n + o))) (n + o + t) else 0
/-- What it adds to the gradient of the values. -/
def dvs (h : Hd) (n o z s r e : ℕ) : ℝ := if s = 1 ∧ o ≤ r ∧ r < o + 256 then ∑ t ∈ Finset.range z, h.P (n + o + t) (n + o + (r - o)) * h.DO (n + o + t) e else 0
/-- What it adds to the gradient of the keys. -/
def dks (h : Hd) (n o z s r e : ℕ) : ℝ := if s = 0 ∧ o ≤ r ∧ r < o + 256 then ∑ t ∈ Finset.range z, h.DS (n + o + t) (n + o + (r - o)) * h.Q (n + o + t) e else 0
/-- What it adds to the column sums. -/
def rks (h : Hd) (n o z r : ℕ) : ℝ := if o ≤ r ∧ r < o + 256 then ∑ t ∈ Finset.range z, h.DS (n + o + t) (n + o + (r - o)) else 0

/-- A store of the whole array. -/
theorem whole2 {sig : RefSig} {κ : Kind} {sp : Space} {M N : ℕ} {v : View sig κ sp ⟨2, ![M, N]⟩ .f32} {off : Fin 2 → ℕ} {inb} {f : v.ty.Contents (Elt Ideal)}
    {L : List (View.Piece (Elt Ideal) ⟨2, ![M, N]⟩ .f32)} {p : ℕ → ℕ → ℝ}
    {w : (Rect.unit (s := ⟨2, ![M, N]⟩) off (⟨2, ![M, N]⟩ : Shape).size inb).shape.Idx → Elt Ideal .f32}
    (h0 : off 0 = 0) (h1 : off 1 = 0) (hw : At2 (m := M) (n := N) w p) :
    At2 (m := M) (n := N) (v.read (Elt Ideal) (v.writes (Elt Ideal) f (⟨Rect.unit (s := ⟨2, ![M, N]⟩) off (⟨2, ![M, N]⟩ : Shape).size inb, w⟩ :: L))) p := by
  have hi : ∀ r c, r < M → c < N → In2 off M N r c := fun r c _ _ => by unfold In2; rw [h0, h1]; omega
  exact (wr2 (g := fun _ _ => 0) hw (fun r c hn => absurd (hi _ _ r.isLt c.isLt) hn)).congr fun r c hr hc => by
    rw [if_pos (hi r c hr hc), h0, h1, Nat.sub_zero, Nat.sub_zero]
theorem whole3 {sig : RefSig} {κ : Kind} {sp : Space} {L M N : ℕ} {v : View sig κ sp ⟨3, ![L, M, N]⟩ .f32} {off : Fin 3 → ℕ} {inb} {f : v.ty.Contents (Elt Ideal)}
    {Ls : List (View.Piece (Elt Ideal) ⟨3, ![L, M, N]⟩ .f32)} {p : ℕ → ℕ → ℕ → ℝ}
    {w : (Rect.unit (s := ⟨3, ![L, M, N]⟩) off (⟨3, ![L, M, N]⟩ : Shape).size inb).shape.Idx → Elt Ideal .f32}
    (h0 : off 0 = 0) (h1 : off 1 = 0) (h2 : off 2 = 0) (hw : At3 (l := L) (m := M) (n := N) w p) :
    At3 (l := L) (m := M) (n := N) (v.read (Elt Ideal) (v.writes (Elt Ideal) f (⟨Rect.unit (s := ⟨3, ![L, M, N]⟩) off (⟨3, ![L, M, N]⟩ : Shape).size inb, w⟩ :: Ls))) p := by
  have hi : ∀ s r c, s < L → r < M → c < N → In3 off L M N s r c := fun s r c _ _ _ => by unfold In3; rw [h0, h1, h2]; omega
  exact (wr3 (g := fun _ _ _ => 0) hw (fun s r c hn => absurd (hi _ _ _ s.isLt r.isLt c.isLt) hn)).congr fun s r c hs hr hc => by
    rw [if_pos (hi s r c hs hr hc), h0, h1, h2, Nat.sub_zero, Nat.sub_zero, Nat.sub_zero]

theorem acc_fill (arg16 : Memref sig .tc .vmem S2x1024x128 .f32) :
    At3 (l := 2) (m := 1024) (n := 128) (arg16.view.read (Elt Ideal) (arg16.view.writes (Elt Ideal) arg16.view.junk (trip.sl.H16_1 (F := Ideal)))) (fun _ _ _ => 0) := by
  unfold trip.sl.H16_1
  exact whole3 rfl rfl rfl fun s r c => Ideal.ofBits_zero_f32.trans EReal.coe_zero.symm
theorem rk_fill (arg17 : Memref sig .tc .vmem S1024x1 .f32) :
    At2 (m := 1024) (n := 1) (arg17.view.read (Elt Ideal) (arg17.view.writes (Elt Ideal) arg17.view.junk (trip.sl.H17_1 (F := Ideal)))) (fun _ _ => 0) := by
  unfold trip.sl.H17_1
  exact whole2 rfl rfl fun r c => Ideal.ofBits_zero_f32.trans EReal.coe_zero.symm

variable {arg1 : Memref sig .tc .vmem S4096x128 .bf16}
  {arg2 : Memref sig .tc .vmem S4096x128 .bf16}
  {arg3 : Memref sig .tc .vmem S4096x128 .bf16}
  {arg5 : Memref sig .tc .vmem S1x1x4096 .f32}
  {arg7 : Memref sig .tc .vmem S4096x128 .bf16}
  {arg11 : Memref sig .tc .vmem S1x1x4096 .f32}
  {arg13 : Memref sig .tc .vmem S4096x128 .f32}
  {arg14 : Memref sig .tc .vmem S8x4096 .f32}
  {arg15 : Memref sig .tc .vmem S4096x1 .f32}
  {arg16 : Memref sig .tc .vmem S2x1024x128 .f32}
  {arg17 : Memref sig .tc .vmem S1024x1 .f32}
  {k : Fin k0_t1_loop.trips} {X1 : BufTy.Contents (Elt Ideal) arg1.view.ty} {X2 : BufTy.Contents (Elt Ideal) arg2.view.ty} {X3 : BufTy.Contents (Elt Ideal) arg3.view.ty} {X5 : BufTy.Contents (Elt Ideal) arg5.view.ty} {X7 : BufTy.Contents (Elt Ideal) arg7.view.ty} {X14 : BufTy.Contents (Elt Ideal) arg14.view.ty} {X15 : BufTy.Contents (Elt Ideal) arg15.view.ty}
variable {h : Hd} {DQ : ℕ → ℕ → ℝ} {RQ : ℕ → ℝ}
  (hX1 : At2 (m := 4096) (n := 128) (arg1.view.read (Elt Ideal) X1) h.Q) (hX2 : At2 (m := 4096) (n := 128) (arg2.view.read (Elt Ideal) X2) h.K)
  (hX3 : At2 (m := 4096) (n := 128) (arg3.view.read (Elt Ideal) X3) h.V) (hX5 : At3 (l := 1) (m := 1) (n := 4096) (arg5.view.read (Elt Ideal) X5) (fun _ _ q => h.LSE q))
  (hX7 : At2 (m := 4096) (n := 128) (arg7.view.read (Elt Ideal) X7) h.DO) (hX14 : At2 (m := 8) (n := 4096) (arg14.view.read (Elt Ideal) X14) (fun _ q => h.DR q))
  (hX15 : At2 (m := 4096) (n := 1) (arg15.view.read (Elt Ideal) X15) (fun q _ => h.FC q))
include hX1 hX2 hX3 hX5 hX7 hX14 hX15

theorem dq_0 {f13 : BufTy.Contents (Elt Ideal) arg13.view.ty} (h13 : At2 (m := 4096) (n := 128) (arg13.view.read (Elt Ideal) f13) DQ) :
    At2 (m := 4096) (n := 128) (arg13.view.read (Elt Ideal) (arg13.view.writes (Elt Ideal) f13 (trip.sl.H13_1 arg1 arg2 arg3 arg5 arg7 arg13 arg14 arg15 X1 X2 X3 X5 X7 X14 X15 k f13))) (fun q e => DQ q e + dqs h (1024 * k.val) 0 1024 q e) := by
  unfold trip.sl.H13_1 trip.sl.r_5
  exact step2 (L := []) (b := 1024 * k.val + 0) (z := 1024) (W := fun r e => ∑ t ∈ Finset.range 256, h.DS (1024 * k.val + 0 + r) (1024 * k.val + 0 + t) * h.K (1024 * k.val + 0 + t) e) (off3_0 k) (off3_1 k) h13
    (dq0 (n := 1024 * k.val) (ld (off1_0 k) (off1_1 k) hX2) (ld (off1_0 k) (off1_1 k) hX3) (ldf (off2_0 k) (off2_1 k) hX15) (ld (off3_0 k) (off3_1 k) hX1) (ld (off3_0 k) (off3_1 k) hX7) (ldr (off4_2 k) hX5) (ldc (off5_1 k) hX14) (rd2f h13))

theorem dq_1 {f13 : BufTy.Contents (Elt Ideal) arg13.view.ty} (h13 : At2 (m := 4096) (n := 128) (arg13.view.read (Elt Ideal) f13) DQ) :
    At2 (m := 4096) (n := 128) (arg13.view.read (Elt Ideal) (arg13.view.writes (Elt Ideal) f13 (trip.sl.H13_2 arg1 arg2 arg3 arg5 arg7 arg13 arg14 arg15 X1 X2 X3 X5 X7 X14 X15 k f13))) (fun q e => DQ q e + dqs h (1024 * k.val) 0 1024 q e + dqs h (1024 * k.val) 256 768 q e) := by
  unfold trip.sl.H13_2 trip.sl.v205 trip.sl.r_10 trip.sl.r_11
  exact step2 (b := 1024 * k.val + 256) (z := 768) (W := fun r e => ∑ t ∈ Finset.range 256, h.DS (1024 * k.val + 256 + r) (1024 * k.val + 256 + t) * h.K (1024 * k.val + 256 + t) e) (off6_0 k) (off6_1 k) (dq_0 hX1 hX2 hX3 hX5 hX7 hX14 hX15 h13)
    (dq1 (n := 1024 * k.val) (ld (off1_0 k) (off1_1 k) hX2) (ld (off1_0 k) (off1_1 k) hX3) (ldf (off2_0 k) (off2_1 k) hX15) (ld (off6_0 k) (off6_1 k) hX1) (ld (off6_0 k) (off6_1 k) hX7) (ldr (off7_2 k) hX5) (ldc (off8_1 k) hX14) (cov2 (dq_0 hX1 hX2 hX3 hX5 hX7 hX14 hX15 h13) (hin13_1 k)))

theorem dq_2 {f13 : BufTy.Contents (Elt Ideal) arg13.view.ty} (h13 : At2 (m := 4096) (n := 128) (arg13.view.read (Elt Ideal) f13) DQ) :
    At2 (m := 4096) (n := 128) (arg13.view.read (Elt Ideal) (arg13.view.writes (Elt Ideal) f13 (trip.sl.H13_3 arg1 arg2 arg3 arg5 arg7 arg13 arg14 arg15 X1 X2 X3 X5 X7 X14 X15 k f13))) (fun q e => DQ q e + dqs h (1024 * k.val) 0 1024 q e + dqs h (1024 * k.val) 256 768 q e + dqs h (1024 * k.val) 512 512 q e) := by
  unfold trip.sl.H13_3 trip.sl.v280 trip.sl.r_15
  exact step2 (b := 1024 * k.val + 512) (z := 512) (W := fun r e => ∑ t ∈ Finset.range 256, h.DS (1024 * k.val + 512 + r) (1024 * k.val + 512 + t) * h.K (1024 * k.val + 512 + t) e) (off9_0 k) (off9_1 k) (dq_1 hX1 hX2 hX3 hX5 hX7 hX14 hX15 h13)
    (dq2 (n := 1024 * k.val) (ld (off1_0 k) (off1_1 k) hX2) (ld (off1_0 k) (off1_1 k) hX3) (ldf (off2_0 k) (off2_1 k) hX15) (ld (off9_0 k) (off9_1 k) hX1) (ld (off9_0 k) (off9_1 k) hX7) (ldr (off10_2 k) hX5) (ldc (off11_1 k) hX14) (cov2 (dq_1 hX1 hX2 hX3 hX5 hX7 hX14 hX15 h13) (hin13_2 k)))

theorem dq_3 {f13 : BufTy.Contents (Elt Ideal) arg13.view.ty} (h13 : At2 (m := 4096) (n := 128) (arg13.view.read (Elt Ideal) f13) DQ) {HB13 : ∀ a, k0_off12 k a + S256x128.size a ≤ S4096x128.size a} {HB14 : ∀ a, k0_off14 k a + S1x256.size a ≤ S8x4096.size a} :
    At2 (m := 4096) (n := 128) (arg13.view.read (Elt Ideal) (arg13.view.writes (Elt Ideal) f13 (⟨Rect.unit (s := S4096x128) (k0_off12 k) S256x128.size HB13, k0_pay44 (F := Ideal) (trip.sl.r arg2 X2 k) (trip.sl.r_1 arg3 X3 k) (trip.sl.r_19 arg7 X7 k) (trip.sl.r_20 arg1 arg2 arg5 arg15 X1 X2 X5 X15 k) (arg14.view.readAt (Elt Ideal) (Rect.unit (s := S8x4096) (k0_off14 k) S1x256.size HB14).toLoadRect X14) (trip.sl.v355 arg1 arg2 arg3 arg5 arg7 arg13 arg14 arg15 X1 X2 X3 X5 X7 X14 X15 k f13)⟩ :: (trip.sl.H13_3 arg1 arg2 arg3 arg5 arg7 arg13 arg14 arg15 X1 X2 X3 X5 X7 X14 X15 k f13) : List (View.Piece (Elt Ideal) S4096x128 .f32)))) (fun q e => DQ q e + dqs h (1024 * k.val) 0 1024 q e + dqs h (1024 * k.val) 256 768 q e + dqs h (1024 * k.val) 512 512 q e + dqs h (1024 * k.val) 768 256 q e) := by
  unfold trip.sl.v355 trip.sl.r_20
  exact step2 (b := 1024 * k.val + 768) (z := 256) (W := fun r e => ∑ t ∈ Finset.range 256, h.DS (1024 * k.val + 768 + r) (1024 * k.val + 768 + t) * h.K (1024 * k.val + 768 + t) e) (off12_0 k) (off12_1 k) (dq_2 hX1 hX2 hX3 hX5 hX7 hX14 hX15 h13)
    (dq3 (n := 1024 * k.val) (ld (off1_0 k) (off1_1 k) hX2) (ld (off1_0 k) (off1_1 k) hX3) (ldf (off2_0 k) (off2_1 k) hX15) (ld (off12_0 k) (off12_1 k) hX1) (ld (off12_0 k) (off12_1 k) hX7) (ldr (off13_2 k) hX5) (ldc (off14_1 k) hX14) (cov2 (dq_2 hX1 hX2 hX3 hX5 hX7 hX14 hX15 h13) (hin13_3 k)))

theorem rq_0 {f11 : BufTy.Contents (Elt Ideal) arg11.view.ty} (h11 : At3 (l := 1) (m := 1) (n := 4096) (arg11.view.read (Elt Ideal) f11) (fun _ _ q => RQ q)) :
    At3 (l := 1) (m := 1) (n := 4096) (arg11.view.read (Elt Ideal) (arg11.view.writes (Elt Ideal) f11 (trip.sl.H11_1 arg1 arg2 arg3 arg5 arg7 arg11 arg14 arg15 X1 X2 X3 X5 X7 X14 X15 k f11))) (fun _ _ q => RQ q + rqs h (1024 * k.val) 0 1024 q) := by
  unfold trip.sl.H11_1 trip.sl.r_7 trip.sl.r_5
  exact step3r (L := []) (b := 1024 * k.val + 0) (z := 1024) (W := fun c => ∑ t ∈ Finset.range 256, h.DS (1024 * k.val + 0 + c) (1024 * k.val + 0 + t)) (off4_0 k) (off4_1 k) (off4_2 k) h11
    (rq0 (n := 1024 * k.val) (ld (off1_0 k) (off1_1 k) hX2) (ld (off1_0 k) (off1_1 k) hX3) (ldf (off2_0 k) (off2_1 k) hX15) (ld (off3_0 k) (off3_1 k) hX1) (ld (off3_0 k) (off3_1 k) hX7) (ldr (off4_2 k) hX5) (ldc (off5_1 k) hX14) (rd3f h11))

theorem rq_1 {f11 : BufTy.Contents (Elt Ideal) arg11.view.ty} (h11 : At3 (l := 1) (m := 1) (n := 4096) (arg11.view.read (Elt Ideal) f11) (fun _ _ q => RQ q)) :
    At3 (l := 1) (m := 1) (n := 4096) (arg11.view.read (Elt Ideal) (arg11.view.writes (Elt Ideal) f11 (trip.sl.H11_2 arg1 arg2 arg3 arg5 arg7 arg11 arg14 arg15 X1 X2 X3 X5 X7 X14 X15 k f11))) (fun _ _ q => RQ q + rqs h (1024 * k.val) 0 1024 q + rqs h (1024 * k.val) 256 768 q) := by
  unfold trip.sl.H11_2 trip.sl.r_12 trip.sl.r_10 trip.sl.r_11 trip.sl.v215
  exact step3r (b := 1024 * k.val + 256) (z := 768) (W := fun c => ∑ t ∈ Finset.range 256, h.DS (1024 * k.val + 256 + c) (1024 * k.val + 256 + t)) (off7_0 k) (off7_1 k) (off7_2 k) (rq_0 hX1 hX2 hX3 hX5 hX7 hX14 hX15 h11)
    (rq1 (n := 1024 * k.val) (ld (off1_0 k) (off1_1 k) hX2) (ld (off1_0 k) (off1_1 k) hX3) (ldf (off2_0 k) (off2_1 k) hX15) (ld (off6_0 k) (off6_1 k) hX1) (ld (off6_0 k) (off6_1 k) hX7) (ldr (off7_2 k) hX5) (ldc (off8_1 k) hX14) (cov3 (rq_0 hX1 hX2 hX3 hX5 hX7 hX14 hX15 h11) (hin11_1 k)))

theorem rq_2 {f11 : BufTy.Contents (Elt Ideal) arg11.view.ty} (h11 : At3 (l := 1) (m := 1) (n := 4096) (arg11.view.read (Elt Ideal) f11) (fun _ _ q => RQ q)) :
    At3 (l := 1) (m := 1) (n := 4096) (arg11.view.read (Elt Ideal) (arg11.view.writes (Elt Ideal) f11 (trip.sl.H11_3 arg1 arg2 arg3 arg5 arg7 arg11 arg14 arg15 X1 X2 X3 X5 X7 X14 X15 k f11))) (fun _ _ q => RQ q + rqs h (1024 * k.val) 0 1024 q + rqs h (1024 * k.val) 256 768 q + rqs h (1024 * k.val) 512 512 q) := by
  unfold trip.sl.H11_3 trip.sl.r_16 trip.sl.r_17 trip.sl.r_15 trip.sl.v290
  exact step3r (b := 1024 * k.val + 512) (z := 512) (W := fun c => ∑ t ∈ Finset.range 256, h.DS (1024 * k.val + 512 + c) (1024 * k.val + 512 + t)) (off10_0 k) (off10_1 k) (off10_2 k) (rq_1 hX1 hX2 hX3 hX5 hX7 hX14 hX15 h11)
    (rq2 (n := 1024 * k.val) (ld (off1_0 k) (off1_1 k) hX2) (ld (off1_0 k) (off1_1 k) hX3) (ldf (off2_0 k) (off2_1 k) hX15) (ld (off9_0 k) (off9_1 k) hX1) (ld (off9_0 k) (off9_1 k) hX7) (ldr (off10_2 k) hX5) (ldc (off11_1 k) hX14) (cov3 (rq_1 hX1 hX2 hX3 hX5 hX7 hX14 hX15 h11) (hin11_2 k)))

theorem rq_3 {f11 : BufTy.Contents (Elt Ideal) arg11.view.ty} (h11 : At3 (l := 1) (m := 1) (n := 4096) (arg11.view.read (Elt Ideal) f11) (fun _ _ q => RQ q)) {HB11 : ∀ a, k0_off13 k a + S1x1x256.size a ≤ S1x1x4096.size a} :
    At3 (l := 1) (m := 1) (n := 4096) (arg11.view.read (Elt Ideal) (arg11.view.writes (Elt Ideal) f11 (⟨Rect.unit (s := S1x1x4096) (k0_off13 k) S1x1x256.size HB11, k0_pay48 (F := Ideal) (trip.sl.r_22 arg1 arg2 arg3 arg5 arg7 arg11 arg14 arg15 X1 X2 X3 X5 X7 X14 X15 k f11) (trip.sl.r_23 arg1 arg2 arg3 arg5 arg7 arg14 arg15 X1 X2 X3 X5 X7 X14 X15 k)⟩ :: (trip.sl.H11_3 arg1 arg2 arg3 arg5 arg7 arg11 arg14 arg15 X1 X2 X3 X5 X7 X14 X15 k f11) : List (View.Piece (Elt Ideal) S1x1x4096 .f32)))) (fun _ _ q => RQ q + rqs h (1024 * k.val) 0 1024 q + rqs h (1024 * k.val) 256 768 q + rqs h (1024 * k.val) 512 512 q + rqs h (1024 * k.val) 768 256 q) := by
  unfold trip.sl.r_22 trip.sl.r_23 trip.sl.r_20 trip.sl.v365
  exact step3r (b := 1024 * k.val + 768) (z := 256) (W := fun c => ∑ t ∈ Finset.range 256, h.DS (1024 * k.val + 768 + c) (1024 * k.val + 768 + t)) (off13_0 k) (off13_1 k) (off13_2 k) (rq_2 hX1 hX2 hX3 hX5 hX7 hX14 hX15 h11)
    (rq3 (n := 1024 * k.val) (ld (off1_0 k) (off1_1 k) hX2) (ld (off1_0 k) (off1_1 k) hX3) (ldf (off2_0 k) (off2_1 k) hX15) (ld (off12_0 k) (off12_1 k) hX1) (ld (off12_0 k) (off12_1 k) hX7) (ldr (off13_2 k) hX5) (ldc (off14_1 k) hX14) (cov3 (rq_2 hX1 hX2 hX3 hX5 hX7 hX14 hX15 h11) (hin11_3 k)))

theorem acc_2 : At3 (l := 2) (m := 1024) (n := 128) (arg16.view.read (Elt Ideal) (arg16.view.writes (Elt Ideal) arg16.view.junk (trip.sl.H16_2 arg1 arg2 arg5 arg7 arg15 arg16 X1 X2 X5 X7 X15 k))) (fun s r e => (0 : ℝ) + dvs h (1024 * k.val) 0 1024 s r e) := by
  unfold trip.sl.H16_2 trip.sl.v106 trip.sl.r_5
  exact step3p (s₀ := 1) (o := 0) (z := 256) (W := fun r e => ∑ t ∈ Finset.range 1024, h.P (1024 * k.val + 0 + t) (1024 * k.val + 0 + r) * h.DO (1024 * k.val + 0 + t) e) rfl rfl rfl (acc_fill arg16)
    (acc1_0 (n := 1024 * k.val) (ld (off1_0 k) (off1_1 k) hX2) (ldf (off2_0 k) (off2_1 k) hX15) (ld (off3_0 k) (off3_1 k) hX1) (ld (off3_0 k) (off3_1 k) hX7) (ldr (off4_2 k) hX5) (rd3f (acc_fill arg16)))

theorem acc_3 : At3 (l := 2) (m := 1024) (n := 128) (arg16.view.read (Elt Ideal) (arg16.view.writes (Elt Ideal) arg16.view.junk (trip.sl.H16_3 arg1 arg2 arg3 arg5 arg7 arg14 arg15 arg16 X1 X2 X3 X5 X7 X14 X15 k))) (fun s r e => (0 : ℝ) + dvs h (1024 * k.val) 0 1024 s r e + dks h (1024 * k.val) 0 1024 s r e) := by
  unfold trip.sl.H16_3 trip.sl.v122 trip.sl.r_5
  exact step3p (s₀ := 0) (o := 0) (z := 256) (W := fun r e => ∑ t ∈ Finset.range 1024, h.DS (1024 * k.val + 0 + t) (1024 * k.val + 0 + r) * h.Q (1024 * k.val + 0 + t) e) rfl rfl rfl (acc_2 hX1 hX2 hX3 hX5 hX7 hX14 hX15)
    (acc0_0 (n := 1024 * k.val) (ld (off1_0 k) (off1_1 k) hX2) (ld (off1_0 k) (off1_1 k) hX3) (ldf (off2_0 k) (off2_1 k) hX15) (ld (off3_0 k) (off3_1 k) hX1) (ld (off3_0 k) (off3_1 k) hX7) (ldr (off4_2 k) hX5) (ldc (off5_1 k) hX14) (rd3f (acc_2 hX1 hX2 hX3 hX5 hX7 hX14 hX15)))

theorem acc_4 : At3 (l := 2) (m := 1024) (n := 128) (arg16.view.read (Elt Ideal) (arg16.view.writes (Elt Ideal) arg16.view.junk (trip.sl.H16_4 arg1 arg2 arg3 arg5 arg7 arg14 arg15 arg16 X1 X2 X3 X5 X7 X14 X15 k))) (fun s r e => (0 : ℝ) + dvs h (1024 * k.val) 0 1024 s r e + dks h (1024 * k.val) 0 1024 s r e + dvs h (1024 * k.val) 256 768 s r e) := by
  unfold trip.sl.H16_4 trip.sl.v181 trip.sl.r_10 trip.sl.r_11
  exact step3p (s₀ := 1) (o := 256) (z := 256) (W := fun r e => ∑ t ∈ Finset.range 768, h.P (1024 * k.val + 256 + t) (1024 * k.val + 256 + r) * h.DO (1024 * k.val + 256 + t) e) rfl rfl rfl (acc_3 hX1 hX2 hX3 hX5 hX7 hX14 hX15)
    (acc1_1 (n := 1024 * k.val) (ld (off1_0 k) (off1_1 k) hX2) (ldf (off2_0 k) (off2_1 k) hX15) (ld (off6_0 k) (off6_1 k) hX1) (ld (off6_0 k) (off6_1 k) hX7) (ldr (off7_2 k) hX5) (rd3f (acc_3 hX1 hX2 hX3 hX5 hX7 hX14 hX15)))

theorem acc_5 : At3 (l := 2) (m := 1024) (n := 128) (arg16.view.read (Elt Ideal) (arg16.view.writes (Elt Ideal) arg16.view.junk (trip.sl.H16_5 arg1 arg2 arg3 arg5 arg7 arg14 arg15 arg16 X1 X2 X3 X5 X7 X14 X15 k))) (fun s r e => (0 : ℝ) + dvs h (1024 * k.val) 0 1024 s r e + dks h (1024 * k.val) 0 1024 s r e + dvs h (1024 * k.val) 256 768 s r e + dks h (1024 * k.val) 256 768 s r e) := by
  unfold trip.sl.H16_5 trip.sl.v197 trip.sl.r_10 trip.sl.r_11
  exact step3p (s₀ := 0) (o := 256) (z := 256) (W := fun r e => ∑ t ∈ Finset.range 768, h.DS (1024 * k.val + 256 + t) (1024 * k.val + 256 + r) * h.Q (1024 * k.val + 256 + t) e) rfl rfl rfl (acc_4 hX1 hX2 hX3 hX5 hX7 hX14 hX15)
    (acc0_1 (n := 1024 * k.val) (ld (off1_0 k) (off1_1 k) hX2) (ld (off1_0 k) (off1_1 k) hX3) (ldf (off2_0 k) (off2_1 k) hX15) (ld (off6_0 k) (off6_1 k) hX1) (ld (off6_0 k) (off6_1 k) hX7) (ldr (off7_2 k) hX5) (ldc (off8_1 k) hX14) (rd3f (acc_4 hX1 hX2 hX3 hX5 hX7 hX14 hX15)))

theorem acc_6 : At3 (l := 2) (m := 1024) (n := 128) (arg16.view.read (Elt Ideal) (arg16.view.writes (Elt Ideal) arg16.view.junk (trip.sl.H16_6 arg1 arg2 arg3 arg5 arg7 arg14 arg15 arg16 X1 X2 X3 X5 X7 X14 X15 k))) (fun s r e => (0 : ℝ) + dvs h (1024 * k.val) 0 1024 s r e + dks h (1024 * k.val) 0 1024 s r e + dvs h (1024 * k.val) 256 768 s r e + dks h (1024 * k.val) 256 768 s r e + dvs h (1024 * k.val) 512 512 s r e) := by
  unfold trip.sl.H16_6 trip.sl.v256 trip.sl.r_15
  exact step3p (s₀ := 1) (o := 512) (z := 256) (W := fun r e => ∑ t ∈ Finset.range 512, h.P (1024 * k.val + 512 + t) (1024 * k.val + 512 + r) * h.DO (1024 * k.val + 512 + t) e) rfl rfl rfl (acc_5 hX1 hX2 hX3 hX5 hX7 hX14 hX15)
    (acc1_2 (n := 1024 * k.val) (ld (off1_0 k) (off1_1 k) hX2) (ldf (off2_0 k) (off2_1 k) hX15) (ld (off9_0 k) (off9_1 k) hX1) (ld (off9_0 k) (off9_1 k) hX7) (ldr (off10_2 k) hX5) (rd3f (acc_5 hX1 hX2 hX3 hX5 hX7 hX14 hX15)))

theorem acc_7 : At3 (l := 2) (m := 1024) (n := 128) (arg16.view.read (Elt Ideal) (arg16.view.writes (Elt Ideal) arg16.view.junk (trip.sl.H16_7 arg1 arg2 arg3 arg5 arg7 arg14 arg15 arg16 X1 X2 X3 X5 X7 X14 X15 k))) (fun s r e => (0 : ℝ) + dvs h (1024 * k.val) 0 1024 s r e + dks h (1024 * k.val) 0 1024 s r e + dvs h (1024 * k.val) 256 768 s r e + dks h (1024 * k.val) 256 768 s r e + dvs h (1024 * k.val) 512 512 s r e + dks h (1024 * k.val) 512 512 s r e) := by
  unfold trip.sl.H16_7 trip.sl.v272 trip.sl.r_15
  exact step3p (s₀ := 0) (o := 512) (z := 256) (W := fun r e => ∑ t ∈ Finset.range 512, h.DS (1024 * k.val + 512 + t) (1024 * k.val + 512 + r) * h.Q (1024 * k.val + 512 + t) e) rfl rfl rfl (acc_6 hX1 hX2 hX3 hX5 hX7 hX14 hX15)
    (acc0_2 (n := 1024 * k.val) (ld (off1_0 k) (off1_1 k) hX2) (ld (off1_0 k) (off1_1 k) hX3) (ldf (off2_0 k) (off2_1 k) hX15) (ld (off9_0 k) (off9_1 k) hX1) (ld (off9_0 k) (off9_1 k) hX7) (ldr (off10_2 k) hX5) (ldc (off11_1 k) hX14) (rd3f (acc_6 hX1 hX2 hX3 hX5 hX7 hX14 hX15)))

theorem acc_8 : At3 (l := 2) (m := 1024) (n := 128) (arg16.view.read (Elt Ideal) (arg16.view.writes (Elt Ideal) arg16.view.junk (trip.sl.H16_8 arg1 arg2 arg3 arg5 arg7 arg14 arg15 arg16 X1 X2 X3 X5 X7 X14 X15 k))) (fun s r e => (0 : ℝ) + dvs h (1024 * k.val) 0 1024 s r e + dks h (1024 * k.val) 0 1024 s r e + dvs h (1024 * k.val) 256 768 s r e + dks h (1024 * k.val) 256 768 s r e + dvs h (1024 * k.val) 512 512 s r e + dks h (1024 * k.val) 512 512 s r e + dvs h (1024 * k.val) 768 256 s r e) := by
  unfold trip.sl.H16_8 trip.sl.v331 trip.sl.r_20
  exact step3p (s₀ := 1) (o := 768) (z := 256) (W := fun r e => ∑ t ∈ Finset.range 256, h.P (1024 * k.val + 768 + t) (1024 * k.val + 768 + r) * h.DO (1024 * k.val + 768 + t) e) rfl rfl rfl (acc_7 hX1 hX2 hX3 hX5 hX7 hX14 hX15)
    (acc1_3 (n := 1024 * k.val) (ld (off1_0 k) (off1_1 k) hX2) (ldf (off2_0 k) (off2_1 k) hX15) (ld (off12_0 k) (off12_1 k) hX1) (ld (off12_0 k) (off12_1 k) hX7) (ldr (off13_2 k) hX5) (rd3f (acc_7 hX1 hX2 hX3 hX5 hX7 hX14 hX15)))

theorem acc_9 : At3 (l := 2) (m := 1024) (n := 128) (arg16.view.read (Elt Ideal) (arg16.view.writes (Elt Ideal) arg16.view.junk (trip.sl.H16_9 arg1 arg2 arg3 arg5 arg7 arg14 arg15 arg16 X1 X2 X3 X5 X7 X14 X15 k))) (fun s r e => (0 : ℝ) + dvs h (1024 * k.val) 0 1024 s r e + dks h (1024 * k.val) 0 1024 s r e + dvs h (1024 * k.val) 256 768 s r e + dks h (1024 * k.val) 256 768 s r e + dvs h (1024 * k.val) 512 512 s r e + dks h (1024 * k.val) 512 512 s r e + dvs h (1024 * k.val) 768 256 s r e + dks h (1024 * k.val) 768 256 s r e) := by
  unfold trip.sl.H16_9 trip.sl.v347 trip.sl.r_20
  exact step3p (s₀ := 0) (o := 768) (z := 256) (W := fun r e => ∑ t ∈ Finset.range 256, h.DS (1024 * k.val + 768 + t) (1024 * k.val + 768 + r) * h.Q (1024 * k.val + 768 + t) e) rfl rfl rfl (acc_8 hX1 hX2 hX3 hX5 hX7 hX14 hX15)
    (acc0_3 (n := 1024 * k.val) (ld (off1_0 k) (off1_1 k) hX2) (ld (off1_0 k) (off1_1 k) hX3) (ldf (off2_0 k) (off2_1 k) hX15) (ld (off12_0 k) (off12_1 k) hX1) (ld (off12_0 k) (off12_1 k) hX7) (ldr (off13_2 k) hX5) (ldc (off14_1 k) hX14) (rd3f (acc_8 hX1 hX2 hX3 hX5 hX7 hX14 hX15)))

theorem rk_2 : At2 (m := 1024) (n := 1) (arg17.view.read (Elt Ideal) (arg17.view.writes (Elt Ideal) arg17.view.junk (trip.sl.H17_2 arg1 arg2 arg3 arg5 arg7 arg14 arg15 arg17 X1 X2 X3 X5 X7 X14 X15 k))) (fun r e => (0 : ℝ) + rks h (1024 * k.val) 0 1024 r) := by
  unfold trip.sl.H17_2 trip.sl.v149 trip.sl.r_7 trip.sl.r_5
  exact step2 (b := 0) (z := 256) (W := fun r e => ∑ t ∈ Finset.range 1024, h.DS (1024 * k.val + 0 + t) (1024 * k.val + 0 + r)) rfl rfl (rk_fill arg17)
    (rk0 (n := 1024 * k.val) (ld (off1_0 k) (off1_1 k) hX2) (ld (off1_0 k) (off1_1 k) hX3) (ldf (off2_0 k) (off2_1 k) hX15) (ld (off3_0 k) (off3_1 k) hX1) (ld (off3_0 k) (off3_1 k) hX7) (ldr (off4_2 k) hX5) (ldc (off5_1 k) hX14) (rd2f (rk_fill arg17)))

theorem rk_3 : At2 (m := 1024) (n := 1) (arg17.view.read (Elt Ideal) (arg17.view.writes (Elt Ideal) arg17.view.junk (trip.sl.H17_3 arg1 arg2 arg3 arg5 arg7 arg14 arg15 arg17 X1 X2 X3 X5 X7 X14 X15 k))) (fun r e => (0 : ℝ) + rks h (1024 * k.val) 0 1024 r + rks h (1024 * k.val) 256 768 r) := by
  unfold trip.sl.H17_3 trip.sl.v224 trip.sl.r_12 trip.sl.r_10 trip.sl.r_11
  exact step2 (b := 256) (z := 256) (W := fun r e => ∑ t ∈ Finset.range 768, h.DS (1024 * k.val + 256 + t) (1024 * k.val + 256 + r)) rfl rfl (rk_2 hX1 hX2 hX3 hX5 hX7 hX14 hX15)
    (rk1 (n := 1024 * k.val) (ld (off1_0 k) (off1_1 k) hX2) (ld (off1_0 k) (off1_1 k) hX3) (ldf (off2_0 k) (off2_1 k) hX15) (ld (off6_0 k) (off6_1 k) hX1) (ld (off6_0 k) (off6_1 k) hX7) (ldr (off7_2 k) hX5) (ldc (off8_1 k) hX14) (rd2f (rk_2 hX1 hX2 hX3 hX5 hX7 hX14 hX15)))

theorem rk_4 : At2 (m := 1024) (n := 1) (arg17.view.read (Elt Ideal) (arg17.view.writes (Elt Ideal) arg17.view.junk (trip.sl.H17_4 arg1 arg2 arg3 arg5 arg7 arg14 arg15 arg17 X1 X2 X3 X5 X7 X14 X15 k))) (fun r e => (0 : ℝ) + rks h (1024 * k.val) 0 1024 r + rks h (1024 * k.val) 256 768 r + rks h (1024 * k.val) 512 512 r) := by
  unfold trip.sl.H17_4 trip.sl.v299 trip.sl.r_16 trip.sl.r_15
  exact step2 (b := 512) (z := 256) (W := fun r e => ∑ t ∈ Finset.range 512, h.DS (1024 * k.val + 512 + t) (1024 * k.val + 512 + r)) rfl rfl (rk_3 hX1 hX2 hX3 hX5 hX7 hX14 hX15)
    (rk2 (n := 1024 * k.val) (ld (off1_0 k) (off1_1 k) hX2) (ld (off1_0 k) (off1_1 k) hX3) (ldf (off2_0 k) (off2_1 k) hX15) (ld (off9_0 k) (off9_1 k) hX1) (ld (off9_0 k) (off9_1 k) hX7) (ldr (off10_2 k) hX5) (ldc (off11_1 k) hX14) (rd2f (rk_3 hX1 hX2 hX3 hX5 hX7 hX14 hX15)))

theorem rk_5 : At2 (m := 1024) (n := 1) (arg17.view.read (Elt Ideal) (arg17.view.writes (Elt Ideal) arg17.view.junk (trip.sl.H17_5 arg1 arg2 arg3 arg5 arg7 arg14 arg15 arg17 X1 X2 X3 X5 X7 X14 X15 k))) (fun r e => (0 : ℝ) + rks h (1024 * k.val) 0 1024 r + rks h (1024 * k.val) 256 768 r + rks h (1024 * k.val) 512 512 r + rks h (1024 * k.val) 768 256 r) := by
  unfold trip.sl.H17_5 trip.sl.v374 trip.sl.r_21 trip.sl.r_20
  exact step2 (b := 768) (z := 256) (W := fun r e => ∑ t ∈ Finset.range 256, h.DS (1024 * k.val + 768 + t) (1024 * k.val + 768 + r)) rfl rfl (rk_4 hX1 hX2 hX3 hX5 hX7 hX14 hX15)
    (rk3 (n := 1024 * k.val) (ld (off1_0 k) (off1_1 k) hX2) (ld (off1_0 k) (off1_1 k) hX3) (ldf (off2_0 k) (off2_1 k) hX15) (ld (off12_0 k) (off12_1 k) hX1) (ld (off12_0 k) (off12_1 k) hX7) (ldr (off13_2 k) hX5) (ldc (off14_1 k) hX14) (rd2f (rk_4 hX1 hX2 hX3 hX5 hX7 hX14 hX15)))

end Cert.FoxIdeal.Strip

end
-- ==== Proof.FoxInnerLoop.lean ====
/- The inner loop of the attention's gradient: all its trips together. -/
module

public import proofs.«01_k».proof.Proof.FoxInner

@[expose] public section

set_option maxRecDepth 16384

noncomputable section

namespace Cert.FoxIdeal.Inner

open Idealize.ShloMosaic Idealize.ShloMosaic.TcCoe Idealize.ShloMosaic.ValueIdx
open Cert.FoxIdeal Cert.FoxIdeal.Gen Cert.FoxIdeal.Pay Cert.FoxOps
open scoped BigOperators

theorem ite_join (x : ℝ) (S : ℕ → ℝ) (b u w q : ℕ) :
    (x + if b ≤ q ∧ q < b + u then S q else 0) + (if b + u ≤ q ∧ q < b + u + w then S (b + u + (q - (b + u))) else 0)
      = x + if b ≤ q ∧ q < b + (u + w) then S q else 0 := by
  by_cases h1 : q < b
  · rw [if_neg (by omega), if_neg (by omega), if_neg (by omega), add_zero, add_zero]
  by_cases h2 : q < b + u
  · rw [if_pos (by omega), if_neg (by omega), if_pos (by omega), add_zero]
  by_cases h3 : q < b + u + w
  · have e : b + u + (q - (b + u)) = q := by omega
    rw [if_neg (by omega), if_pos (by omega), if_pos (by omega), add_zero, e]
  · rw [if_neg (by omega), if_neg (by omega), if_neg (by omega), add_zero]

theorem sum_join (f : ℕ → ℝ) (b u w : ℕ) :
    (∑ t ∈ Finset.range u, f (b + t)) + ∑ t ∈ Finset.range w, f (b + u + t) = ∑ t ∈ Finset.range (u + w), f (b + t) := by
  rw [Finset.sum_range_add]
  simp only [Nat.add_assoc]

variable (𝒱 : Variants) (c : Dev nD) (bd : Option 𝒱.V) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S1x1x4096 .f32) (harg5 : arg5.IsWhole)
  (arg6 : Memref sig .tc .vmem S4096x128 .bf16) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .bf16) (harg10 : arg10.IsWhole)
  (arg11 : Memref sig .tc .vmem S1x1x4096 .f32) (harg11 : arg11.IsWhole)
  (arg12 : Memref sig .tc .vmem S1x1x4096 .f32) (harg12 : arg12.IsWhole)
  (arg13 : Memref sig .tc .vmem S4096x128 .f32) (harg13 : arg13.IsWhole)
  (arg14 : Memref sig .tc .vmem S8x4096 .f32) (harg14 : arg14.IsWhole)
  (arg15 : Memref sig .tc .vmem S4096x1 .f32) (harg15 : arg15.IsWhole)
  (arg16 : Memref sig .tc .vmem S2x1024x128 .f32) (harg16 : arg16.IsWhole)
  (arg17 : Memref sig .tc .vmem S1024x1 .f32) (harg17 : arg17.IsWhole)
  (a : Fin k0_t1_loop.trips) (arg18 v66 : BitVec 32) (v68 v70 : Vec Ideal S1024x128 .bf16) (v72 : Vec Ideal S1024x1 .f32) (v308 : BitVec 32)
  (v363 : FVec Ideal S256x256 .f32) (v366 : FVec Ideal S1x256 .f32) (v367 : FVec Ideal S256 .f32) (v381 : BitVec 32)
  (X1 : BufTy.Contents (Elt Ideal) arg1.view.ty) (X5 : BufTy.Contents (Elt Ideal) arg5.view.ty) (X7 : BufTy.Contents (Elt Ideal) arg7.view.ty) (X14 : BufTy.Contents (Elt Ideal) arg14.view.ty)

variable {h : Hd} {DQ : ℕ → ℕ → ℝ} {RQ : ℕ → ℝ} {A : ℕ → ℕ → ℕ → ℝ} {B : ℕ → ℕ → ℝ}
  (hX1 : At2 (m := 4096) (n := 128) (arg1.view.read (Elt Ideal) X1) h.Q) (hX5 : At3 (l := 1) (m := 1) (n := 4096) (arg5.view.read (Elt Ideal) X5) (fun _ _ q => h.LSE q))
  (hX7 : At2 (m := 4096) (n := 128) (arg7.view.read (Elt Ideal) X7) h.DO) (hX14 : At2 (m := 8) (n := 4096) (arg14.view.read (Elt Ideal) X14) (fun _ q => h.DR q))
  (hK : At2 (m := 1024) (n := 128) v68 (fun r d => h.K (1024 * a.val + r) d)) (hV : At2 (m := 1024) (n := 128) v70 (fun r d => h.V (1024 * a.val + r) d))
  (hF : At2 (m := 1024) (n := 1) v72 (fun r _ => h.FC (1024 * a.val + r)))
  {G11 : BufTy.Contents (Elt Ideal) arg11.view.ty} {G13 : BufTy.Contents (Elt Ideal) arg13.view.ty} {G16 : BufTy.Contents (Elt Ideal) arg16.view.ty} {G17 : BufTy.Contents (Elt Ideal) arg17.view.ty}
  (h11 : At3 (l := 1) (m := 1) (n := 4096) (arg11.view.read (Elt Ideal) G11) (fun _ _ q => RQ q))
  (h13 : At2 (m := 4096) (n := 128) (arg13.view.read (Elt Ideal) G13) DQ)
  (h16 : At3 (l := 2) (m := 1024) (n := 128) (arg16.view.read (Elt Ideal) G16) A)
  (h17 : At2 (m := 1024) (n := 1) (arg17.view.read (Elt Ideal) G17) B)
include hX1 hX5 hX7 hX14 hK hV hF h11 h13 h16 h17

theorem state (m : ℕ) (hm : m ≤ (k0_t2_loop a).trips) :
    At3 (l := 1) (m := 1) (n := 4096) (arg11.view.read (Elt Ideal) (arg11.view.writes (Elt Ideal) G11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a arg18 v66 v68 v70 v72 v308 v363 v366 v367 v381 X1 X5 X7 X14 G11 G13 G16 G17 m).1))
      (fun _ _ q => RQ q + if 1024 * a.val + 1024 ≤ q ∧ q < 1024 * a.val + 1024 + 1024 * m then ∑ t ∈ Finset.range 1024, h.DS q (1024 * a.val + t) else 0)
    ∧ At2 (m := 4096) (n := 128) (arg13.view.read (Elt Ideal) (arg13.view.writes (Elt Ideal) G13 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a arg18 v66 v68 v70 v72 v308 v363 v366 v367 v381 X1 X5 X7 X14 G11 G13 G16 G17 m).2.1))
      (fun q e => DQ q e + if 1024 * a.val + 1024 ≤ q ∧ q < 1024 * a.val + 1024 + 1024 * m then ∑ t ∈ Finset.range 1024, h.DS q (1024 * a.val + t) * h.K (1024 * a.val + t) e else 0)
    ∧ At3 (l := 2) (m := 1024) (n := 128) (arg16.view.read (Elt Ideal) (arg16.view.writes (Elt Ideal) G16 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a arg18 v66 v68 v70 v72 v308 v363 v366 v367 v381 X1 X5 X7 X14 G11 G13 G16 G17 m).2.2.1))
      (fun s r e => A s r e + ((if s = 1 then ∑ t ∈ Finset.range (1024 * m), h.P (1024 * a.val + 1024 + t) (1024 * a.val + r) * h.DO (1024 * a.val + 1024 + t) e else 0)
        + if s = 0 then ∑ t ∈ Finset.range (1024 * m), h.DS (1024 * a.val + 1024 + t) (1024 * a.val + r) * h.Q (1024 * a.val + 1024 + t) e else 0))
    ∧ At2 (m := 1024) (n := 1) (arg17.view.read (Elt Ideal) (arg17.view.writes (Elt Ideal) G17 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a arg18 v66 v68 v70 v72 v308 v363 v366 v367 v381 X1 X5 X7 X14 G11 G13 G16 G17 m).2.2.2))
      (fun r e => B r e + ∑ t ∈ Finset.range (1024 * m), h.DS (1024 * a.val + 1024 + t) (1024 * a.val + r)) := by
  induction m with
  | zero =>
    refine ⟨h11.congr fun s r q _ _ _ => ?_, h13.congr fun q e _ _ => ?_, h16.congr fun s r e _ _ _ => ?_, h17.congr fun r e _ _ => ?_⟩
    · rw [if_neg (by omega), add_zero]
    · rw [if_neg (by omega), add_zero]
    · simp
    · simp
  | succ m ih =>
    obtain ⟨i1, i2, i3, i4⟩ := ih (by omega)
    have e := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a arg18 v66 v68 v70 v72 v308 v363 v366 v367 v381 X1 X5 X7 X14 G11 G13 G16 G17 ⟨m, hm⟩
    dsimp only at e
    rw [e]
    dsimp only
    rw [View.writes_append, View.writes_append, View.writes_append, View.writes_append]
    refine ⟨(trip_rq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a arg18 v66 v68 v70 v72 v308 v363 v366 v367 v381 X1 X5 X7 X14 hX1 hX5 hX7 hX14 hK hV hF ⟨m, hm⟩ _ _ _ _ (RQ := fun q => RQ q + if 1024 * a.val + 1024 ≤ q ∧ q < 1024 * a.val + 1024 + 1024 * m then ∑ t ∈ Finset.range 1024, h.DS q (1024 * a.val + t) else 0) i1).congr fun s r q _ _ _ => ?_,
      (trip_dq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a arg18 v66 v68 v70 v72 v308 v363 v366 v367 v381 X1 X5 X7 X14 hX1 hX5 hX7 hX14 hK hV hF ⟨m, hm⟩ _ _ _ _ i2).congr fun q e _ _ => ?_,
      (trip_acc 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a arg18 v66 v68 v70 v72 v308 v363 v366 v367 v381 X1 X5 X7 X14 hX1 hX5 hX7 hX14 hK hV hF ⟨m, hm⟩ _ _ _ _ i3).congr fun s r e hs hr _ => ?_,
      (trip_rk 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a arg18 v66 v68 v70 v72 v308 v363 v366 v367 v381 X1 X5 X7 X14 hX1 hX5 hX7 hX14 hK hV hF ⟨m, hm⟩ _ _ _ _ i4).congr fun r e hr _ => ?_⟩
    · exact ite_join (RQ q) (fun q => ∑ t ∈ Finset.range 1024, h.DS q (1024 * a.val + t)) (1024 * a.val + 1024) (1024 * m) 1024 q
    · exact ite_join (DQ q e) (fun q => ∑ t ∈ Finset.range 1024, h.DS q (1024 * a.val + t) * h.K (1024 * a.val + t) e) (1024 * a.val + 1024) (1024 * m) 1024 q
    · have j1 := sum_join (fun q => h.P q (1024 * a.val + r) * h.DO q e) (1024 * a.val + 1024) (1024 * m) 1024
      have j0 := sum_join (fun q => h.DS q (1024 * a.val + r) * h.Q q e) (1024 * a.val + 1024) (1024 * m) 1024
      rw [Nat.mul_succ, ← j1, ← j0]
      obtain rfl | rfl : s = 0 ∨ s = 1 := by omega
      · rw [if_neg (by omega), if_pos rfl, if_neg (by omega), if_pos (by omega), if_neg (by omega), if_pos rfl]
        simp only [Nat.sub_zero]; ring
      · rw [if_pos rfl, if_neg (by omega), if_pos (by omega), if_neg (by omega), if_pos rfl, if_neg (by omega)]
        simp only [Nat.sub_zero]; ring
    · have j0 := sum_join (fun q => h.DS q (1024 * a.val + r)) (1024 * a.val + 1024) (1024 * m) 1024
      rw [Nat.mul_succ, ← j0, if_pos (by omega)]
      simp only [Nat.sub_zero]; ring

end Cert.FoxIdeal.Inner

end
-- ==== Proof.FoxTripValue.lean ====
/- One trip of the attention's gradient over the real numbers: a block of keys against all the queries that attend to it. -/
module

public import proofs.«01_k».proof.Proof.FoxStrip
public import proofs.«01_k».proof.Proof.FoxInnerLoop

@[expose] public section

set_option maxRecDepth 16384

noncomputable section

namespace Cert.FoxIdeal.TripValue

open Idealize.ShloMosaic Idealize.ShloMosaic.TcCoe Idealize.ShloMosaic.ValueIdx
open Cert.FoxIdeal Cert.FoxIdeal.Gen Cert.FoxIdeal.Pay Cert.FoxOps Cert.FoxIdeal.Trip Cert.FoxIdeal.Inner Cert.FoxIdeal.Strip
open scoped BigOperators

/-- A sum over a block whose later terms vanish, from its four quarters and the blocks after. -/
theorem tri (F : ℕ → ℝ) (n m q : ℕ) (hF : ∀ t, q < n + t → F t = 0) (hq : q < n + 1024 + 1024 * m) :
    (if n + 0 ≤ q ∧ q < n + 0 + 1024 then ∑ t ∈ Finset.range 256, F (0 + t) else 0) + (if n + 256 ≤ q ∧ q < n + 256 + 768 then ∑ t ∈ Finset.range 256, F (256 + t) else 0)
      + (if n + 512 ≤ q ∧ q < n + 512 + 512 then ∑ t ∈ Finset.range 256, F (512 + t) else 0) + (if n + 768 ≤ q ∧ q < n + 768 + 256 then ∑ t ∈ Finset.range 256, F (768 + t) else 0)
      + (if n + 1024 ≤ q ∧ q < n + 1024 + 1024 * m then ∑ t ∈ Finset.range 1024, F t else 0) = ∑ t ∈ Finset.range 1024, F t := by
  have e : ∑ t ∈ Finset.range 1024, F t = (∑ t ∈ Finset.range 256, F (0 + t)) + (∑ t ∈ Finset.range 256, F (256 + t)) + (∑ t ∈ Finset.range 256, F (512 + t)) + ∑ t ∈ Finset.range 256, F (768 + t) := by
    rw [show 1024 = 256 + 256 + 256 + 256 from rfl, Finset.sum_range_add, Finset.sum_range_add, Finset.sum_range_add]
    simp only [Nat.zero_add]
  have z : ∀ o, ¬ n + o ≤ q → ∑ t ∈ Finset.range 256, F (o + t) = 0 := fun o h => Finset.sum_eq_zero fun t _ => hF _ (by omega)
  by_cases hb : n + 1024 ≤ q
  · rw [if_neg (by omega), if_neg (by omega), if_neg (by omega), if_neg (by omega), if_pos ⟨hb, hq⟩]; ring
  · have s : ∀ o w, o + w = 1024 → (if n + o ≤ q ∧ q < n + o + w then ∑ t ∈ Finset.range 256, F (o + t) else 0) = ∑ t ∈ Finset.range 256, F (o + t) := fun o w h => by
      by_cases ho : n + o ≤ q
      · rw [if_pos (by omega)]
      · rw [if_neg (by omega), z o ho]
    rw [s 0 1024 rfl, s 256 768 rfl, s 512 512 rfl, s 768 256 rfl, if_neg (by omega), e]; ring

/-- A sum whose earlier terms vanish, from the strip the place lies in and the blocks after. -/
theorem col (F : ℕ → ℝ) (n m r : ℕ) (hr : r < 1024) (hF : ∀ q, q < n + r → F q = 0) (hn : n + 1024 + 1024 * m = 4096) :
    (if 0 ≤ r ∧ r < 0 + 256 then ∑ t ∈ Finset.range 1024, F (n + 0 + t) else 0) + (if 256 ≤ r ∧ r < 256 + 256 then ∑ t ∈ Finset.range 768, F (n + 256 + t) else 0)
      + (if 512 ≤ r ∧ r < 512 + 256 then ∑ t ∈ Finset.range 512, F (n + 512 + t) else 0) + (if 768 ≤ r ∧ r < 768 + 256 then ∑ t ∈ Finset.range 256, F (n + 768 + t) else 0)
      + ∑ t ∈ Finset.range (1024 * m), F (n + 1024 + t) = ∑ q ∈ Finset.range 4096, F q := by
  have e : ∑ q ∈ Finset.range 4096, F q = (∑ q ∈ Finset.range (n + 1024), F q) + ∑ t ∈ Finset.range (1024 * m), F (n + 1024 + t) := by
    rw [← hn, Finset.sum_range_add]
  have s : ∀ o w, o + w = 1024 → o ≤ r → ∑ q ∈ Finset.range (n + 1024), F q = ∑ t ∈ Finset.range w, F (n + o + t) := fun o w h ho => by
    rw [show n + 1024 = n + o + w by omega, Finset.sum_range_add, Finset.sum_eq_zero fun t ht => hF t (by have := Finset.mem_range.1 ht; omega), zero_add]
  rw [e]
  by_cases h1 : r < 256
  · rw [if_pos (by omega), if_neg (by omega), if_neg (by omega), if_neg (by omega), s 0 1024 rfl (by omega)]; ring
  by_cases h2 : r < 512
  · rw [if_neg (by omega), if_pos (by omega), if_neg (by omega), if_neg (by omega), s 256 768 rfl (by omega)]; ring
  by_cases h3 : r < 768
  · rw [if_neg (by omega), if_neg (by omega), if_pos (by omega), if_neg (by omega), s 512 512 rfl (by omega)]; ring
  · rw [if_neg (by omega), if_neg (by omega), if_neg (by omega), if_pos (by omega), s 768 256 rfl (by omega)]; ring

theorem dqs_eq (h : Hd) (n o z q e : ℕ) : dqs h n o z q e = if n + o ≤ q ∧ q < n + o + z then ∑ t ∈ Finset.range 256, (fun t => h.DS q (n + t) * h.K (n + t) e) (o + t) else 0 := by
  unfold dqs
  by_cases hq : n + o ≤ q ∧ q < n + o + z
  · rw [if_pos hq, if_pos hq, show n + o + (q - (n + o)) = q by omega]; simp only [Nat.add_assoc]
  · rw [if_neg hq, if_neg hq]
theorem rqs_eq (h : Hd) (n o z q : ℕ) : rqs h n o z q = if n + o ≤ q ∧ q < n + o + z then ∑ t ∈ Finset.range 256, (fun t => h.DS q (n + t)) (o + t) else 0 := by
  unfold rqs
  by_cases hq : n + o ≤ q ∧ q < n + o + z
  · rw [if_pos hq, if_pos hq, show n + o + (q - (n + o)) = q by omega]; simp only [Nat.add_assoc]
  · rw [if_neg hq, if_neg hq]
theorem dks_eq (h : Hd) (n o z r e : ℕ) : dks h n o z 0 r e = if o ≤ r ∧ r < o + 256 then ∑ t ∈ Finset.range z, (fun q => h.DS q (n + r) * h.Q q e) (n + o + t) else 0 := by
  unfold dks
  by_cases hq : o ≤ r ∧ r < o + 256
  · rw [if_pos ⟨rfl, hq⟩, if_pos hq, show n + o + (r - o) = n + r by omega]
  · rw [if_neg (fun hh => hq hh.2), if_neg hq]
theorem dvs_eq (h : Hd) (n o z r e : ℕ) : dvs h n o z 1 r e = if o ≤ r ∧ r < o + 256 then ∑ t ∈ Finset.range z, (fun q => h.P q (n + r) * h.DO q e) (n + o + t) else 0 := by
  unfold dvs
  by_cases hq : o ≤ r ∧ r < o + 256
  · rw [if_pos ⟨rfl, hq⟩, if_pos hq, show n + o + (r - o) = n + r by omega]
  · rw [if_neg (fun hh => hq hh.2), if_neg hq]
theorem dks_ne (h : Hd) (n o z r e : ℕ) : dks h n o z 1 r e = 0 := if_neg (by simp)
theorem dvs_ne (h : Hd) (n o z r e : ℕ) : dvs h n o z 0 r e = 0 := if_neg (by simp)
theorem rks_eq (h : Hd) (n o z r : ℕ) : rks h n o z r = if o ≤ r ∧ r < o + 256 then ∑ t ∈ Finset.range z, (fun q => h.DS q (n + r)) (n + o + t) else 0 := by
  unfold rks
  by_cases hq : o ≤ r ∧ r < o + 256
  · rw [if_pos hq, if_pos hq, show n + o + (r - o) = n + r by omega]
  · rw [if_neg hq, if_neg hq]

theorem trans_at {m n : ℕ} {φ : FTy} {x : FVec Ideal ⟨2, ![m, n]⟩ φ} {f : ℕ → ℕ → ℝ} {h} (hx : At2 x f) :
    At2 (transpose ⟨2, ![n, m]⟩ [1, 0] x h) (fun r c => f c r) := fun r c => by
  refine (transpose_apply [1, 0] x h (ix2 r c) (ix2 c r) fun a => ?_).trans (hx c r)
  match a with
  | ⟨0, _⟩ => rfl
  | ⟨1, _⟩ => rfl
theorem outk {x : Vec Ideal S1x1024x128 .f32} {g : ℕ → ℕ → ℕ → ℝ} (hx : At3 (l := 1) (m := 1024) (n := 128) x g) :
    At2 (m := 1024) (n := 128) (k0_pay60 (F := Ideal) x) (fun r e => g 0 r e * sg) := by
  unfold k0_pay60
  exact truncf_at (φ := .f32) (mulf_at (cast32 (φ := .f32) hx) (bc_at sg_eq))
theorem outv {x : Vec Ideal S1x1024x128 .f32} {g : ℕ → ℕ → ℕ → ℝ} (hx : At3 (l := 1) (m := 1024) (n := 128) x g) :
    At2 (m := 1024) (n := 128) (k0_pay61 (F := Ideal) x) (fun r e => g 0 r e) := by
  unfold k0_pay61
  exact truncf_at (φ := .f32) (cast32 (φ := .f32) hx)
theorem outr {x : Vec Ideal S1024x1 .f32} {g : ℕ → ℕ → ℝ} (hx : At2 (m := 1024) (n := 1) x g) :
    At3 (l := 1) (m := 1) (n := 1024) (k0_pay71 (F := Ideal) x) (fun _ _ r => g (0 + r) 0) := by
  unfold k0_pay71
  exact cast23 (φ := .f32) (slice_at (φ := .f32) (trans_at (φ := .f32) (bcol_at (φ := .f32) (cast22 (φ := .f32) hx))))

theorem t3_trips (k : Fin k0_t1_loop.trips) : Scf.trips (k0_t3_loop k).lb (k0_t3_loop k).ub (k0_t3_loop k).st = 0 := by revert k; decide
theorem k_lt (k : Fin k0_t1_loop.trips) : k.val < 4 := lt_of_lt_of_eq k.isLt trips_eq

variable (c : Dev nD) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S1x1x4096 .f32) (harg5 : arg5.IsWhole)
  (arg6 : Memref sig .tc .vmem S4096x128 .bf16) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .bf16) (harg10 : arg10.IsWhole)
  (arg11 : Memref sig .tc .vmem S1x1x4096 .f32) (harg11 : arg11.IsWhole)
  (arg12 : Memref sig .tc .vmem S1x1x4096 .f32) (harg12 : arg12.IsWhole)
  (arg13 : Memref sig .tc .vmem S4096x128 .f32) (harg13 : arg13.IsWhole)
  (arg14 : Memref sig .tc .vmem S8x4096 .f32) (harg14 : arg14.IsWhole)
  (arg15 : Memref sig .tc .vmem S4096x1 .f32) (harg15 : arg15.IsWhole)
  (arg16 : Memref sig .tc .vmem S2x1024x128 .f32) (harg16 : arg16.IsWhole)
  (arg17 : Memref sig .tc .vmem S1024x1 .f32) (harg17 : arg17.IsWhole)
  (v18 : FVec Ideal S8x128 .f32) (v30 : FVec Ideal S1024x128 .f32)
  (k : Fin k0_t1_loop.trips) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X7 : BufTy.Contents (Elt Ideal) arg7.view.ty) (X14 : BufTy.Contents (Elt Ideal) arg14.view.ty) (X15 : BufTy.Contents (Elt Ideal) arg15.view.ty) (f11 : BufTy.Contents (Elt Ideal) arg11.view.ty) (f13 : BufTy.Contents (Elt Ideal) arg13.view.ty)
variable {h : Hd} {DQ : ℕ → ℕ → ℝ} {RQ : ℕ → ℝ}
  (hX1 : At2 (m := 4096) (n := 128) (arg1.view.read (Elt Ideal) X1) h.Q) (hX2 : At2 (m := 4096) (n := 128) (arg2.view.read (Elt Ideal) X2) h.K)
  (hX3 : At2 (m := 4096) (n := 128) (arg3.view.read (Elt Ideal) X3) h.V) (hX5 : At3 (l := 1) (m := 1) (n := 4096) (arg5.view.read (Elt Ideal) X5) (fun _ _ q => h.LSE q))
  (hX7 : At2 (m := 4096) (n := 128) (arg7.view.read (Elt Ideal) X7) h.DO) (hX14 : At2 (m := 8) (n := 4096) (arg14.view.read (Elt Ideal) X14) (fun _ q => h.DR q))
  (hX15 : At2 (m := 4096) (n := 1) (arg15.view.read (Elt Ideal) X15) (fun q _ => h.FC q))
  (h11 : At3 (l := 1) (m := 1) (n := 4096) (arg11.view.read (Elt Ideal) f11) (fun _ _ q => RQ q))
  (h13 : At2 (m := 4096) (n := 128) (arg13.view.read (Elt Ideal) f13) DQ)
include hX1 hX2 hX3 hX5 hX7 hX14 hX15 h11 h13

/-- After the inner loop. -/
theorem after {HB13 : ∀ a, k0_off12 k a + S256x128.size a ≤ S4096x128.size a} {HB14 : ∀ a, k0_off14 k a + S1x256.size a ≤ S8x4096.size a} {HB11 : ∀ a, k0_off13 k a + S1x1x256.size a ≤ S1x1x4096.size a} :
    At3 (l := 1) (m := 1) (n := 4096) (arg11.view.read (Elt Ideal) (arg11.view.writes (Elt Ideal) f11 ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k (trip.sl.arg18 k) (trip.sl.v65 k) (trip.sl.r arg2 X2 k) (trip.sl.r_1 arg3 X3 k) (trip.sl.r_2 arg15 X15 k) (trip.sl.v307 k) (trip.sl.r_21 arg1 arg2 arg3 arg5 arg7 arg14 arg15 X1 X2 X3 X5 X7 X14 X15 k) (trip.sl.r_22 arg1 arg2 arg3 arg5 arg7 arg11 arg14 arg15 X1 X2 X3 X5 X7 X14 X15 k f11) (trip.sl.r_23 arg1 arg2 arg3 arg5 arg7 arg14 arg15 X1 X2 X3 X5 X7 X14 X15 k) (trip.sl.v381 k) X1 X5 X7 X14 (arg11.view.writes (Elt Ideal) f11 (⟨Rect.unit (s := S1x1x4096) (k0_off13 k) S1x1x256.size HB11, k0_pay48 (F := Ideal) (trip.sl.r_22 arg1 arg2 arg3 arg5 arg7 arg11 arg14 arg15 X1 X2 X3 X5 X7 X14 X15 k f11) (trip.sl.r_23 arg1 arg2 arg3 arg5 arg7 arg14 arg15 X1 X2 X3 X5 X7 X14 X15 k)⟩ :: (trip.sl.H11_3 arg1 arg2 arg3 arg5 arg7 arg11 arg14 arg15 X1 X2 X3 X5 X7 X14 X15 k f11) : List (View.Piece (Elt Ideal) S1x1x4096 .f32))) (arg13.view.writes (Elt Ideal) f13 (⟨Rect.unit (s := S4096x128) (k0_off12 k) S256x128.size HB13, k0_pay44 (F := Ideal) (trip.sl.r arg2 X2 k) (trip.sl.r_1 arg3 X3 k) (trip.sl.r_19 arg7 X7 k) (trip.sl.r_20 arg1 arg2 arg5 arg15 X1 X2 X5 X15 k) (arg14.view.readAt (Elt Ideal) (Rect.unit (s := S8x4096) (k0_off14 k) S1x256.size HB14).toLoadRect X14) (trip.sl.v355 arg1 arg2 arg3 arg5 arg7 arg13 arg14 arg15 X1 X2 X3 X5 X7 X14 X15 k f13)⟩ :: (trip.sl.H13_3 arg1 arg2 arg3 arg5 arg7 arg13 arg14 arg15 X1 X2 X3 X5 X7 X14 X15 k f13) : List (View.Piece (Elt Ideal) S4096x128 .f32))) (arg16.view.writes (Elt Ideal) arg16.view.junk (trip.sl.H16_9 arg1 arg2 arg3 arg5 arg7 arg14 arg15 arg16 X1 X2 X3 X5 X7 X14 X15 k)) (arg17.view.writes (Elt Ideal) arg17.view.junk (trip.sl.H17_5 arg1 arg2 arg3 arg5 arg7 arg14 arg15 arg17 X1 X2 X3 X5 X7 X14 X15 k)) (k0_t2_loop k).trips).1 ++ (⟨Rect.unit (s := S1x1x4096) (k0_off13 k) S1x1x256.size HB11, k0_pay48 (F := Ideal) (trip.sl.r_22 arg1 arg2 arg3 arg5 arg7 arg11 arg14 arg15 X1 X2 X3 X5 X7 X14 X15 k f11) (trip.sl.r_23 arg1 arg2 arg3 arg5 arg7 arg14 arg15 X1 X2 X3 X5 X7 X14 X15 k)⟩ :: (trip.sl.H11_3 arg1 arg2 arg3 arg5 arg7 arg11 arg14 arg15 X1 X2 X3 X5 X7 X14 X15 k f11) : List (View.Piece (Elt Ideal) S1x1x4096 .f32)))))
      (fun _ _ q => RQ q + ∑ t ∈ Finset.range 1024, h.DS q (1024 * k.val + t))
    ∧ At2 (m := 4096) (n := 128) (arg13.view.read (Elt Ideal) (arg13.view.writes (Elt Ideal) f13 ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k (trip.sl.arg18 k) (trip.sl.v65 k) (trip.sl.r arg2 X2 k) (trip.sl.r_1 arg3 X3 k) (trip.sl.r_2 arg15 X15 k) (trip.sl.v307 k) (trip.sl.r_21 arg1 arg2 arg3 arg5 arg7 arg14 arg15 X1 X2 X3 X5 X7 X14 X15 k) (trip.sl.r_22 arg1 arg2 arg3 arg5 arg7 arg11 arg14 arg15 X1 X2 X3 X5 X7 X14 X15 k f11) (trip.sl.r_23 arg1 arg2 arg3 arg5 arg7 arg14 arg15 X1 X2 X3 X5 X7 X14 X15 k) (trip.sl.v381 k) X1 X5 X7 X14 (arg11.view.writes (Elt Ideal) f11 (⟨Rect.unit (s := S1x1x4096) (k0_off13 k) S1x1x256.size HB11, k0_pay48 (F := Ideal) (trip.sl.r_22 arg1 arg2 arg3 arg5 arg7 arg11 arg14 arg15 X1 X2 X3 X5 X7 X14 X15 k f11) (trip.sl.r_23 arg1 arg2 arg3 arg5 arg7 arg14 arg15 X1 X2 X3 X5 X7 X14 X15 k)⟩ :: (trip.sl.H11_3 arg1 arg2 arg3 arg5 arg7 arg11 arg14 arg15 X1 X2 X3 X5 X7 X14 X15 k f11) : List (View.Piece (Elt Ideal) S1x1x4096 .f32))) (arg13.view.writes (Elt Ideal) f13 (⟨Rect.unit (s := S4096x128) (k0_off12 k) S256x128.size HB13, k0_pay44 (F := Ideal) (trip.sl.r arg2 X2 k) (trip.sl.r_1 arg3 X3 k) (trip.sl.r_19 arg7 X7 k) (trip.sl.r_20 arg1 arg2 arg5 arg15 X1 X2 X5 X15 k) (arg14.view.readAt (Elt Ideal) (Rect.unit (s := S8x4096) (k0_off14 k) S1x256.size HB14).toLoadRect X14) (trip.sl.v355 arg1 arg2 arg3 arg5 arg7 arg13 arg14 arg15 X1 X2 X3 X5 X7 X14 X15 k f13)⟩ :: (trip.sl.H13_3 arg1 arg2 arg3 arg5 arg7 arg13 arg14 arg15 X1 X2 X3 X5 X7 X14 X15 k f13) : List (View.Piece (Elt Ideal) S4096x128 .f32))) (arg16.view.writes (Elt Ideal) arg16.view.junk (trip.sl.H16_9 arg1 arg2 arg3 arg5 arg7 arg14 arg15 arg16 X1 X2 X3 X5 X7 X14 X15 k)) (arg17.view.writes (Elt Ideal) arg17.view.junk (trip.sl.H17_5 arg1 arg2 arg3 arg5 arg7 arg14 arg15 arg17 X1 X2 X3 X5 X7 X14 X15 k)) (k0_t2_loop k).trips).2.1 ++ (⟨Rect.unit (s := S4096x128) (k0_off12 k) S256x128.size HB13, k0_pay44 (F := Ideal) (trip.sl.r arg2 X2 k) (trip.sl.r_1 arg3 X3 k) (trip.sl.r_19 arg7 X7 k) (trip.sl.r_20 arg1 arg2 arg5 arg15 X1 X2 X5 X15 k) (arg14.view.readAt (Elt Ideal) (Rect.unit (s := S8x4096) (k0_off14 k) S1x256.size HB14).toLoadRect X14) (trip.sl.v355 arg1 arg2 arg3 arg5 arg7 arg13 arg14 arg15 X1 X2 X3 X5 X7 X14 X15 k f13)⟩ :: (trip.sl.H13_3 arg1 arg2 arg3 arg5 arg7 arg13 arg14 arg15 X1 X2 X3 X5 X7 X14 X15 k f13) : List (View.Piece (Elt Ideal) S4096x128 .f32)))))
      (fun q e => DQ q e + ∑ t ∈ Finset.range 1024, h.DS q (1024 * k.val + t) * h.K (1024 * k.val + t) e)
    ∧ At3 (l := 2) (m := 1024) (n := 128) (arg16.view.read (Elt Ideal) (arg16.view.writes (Elt Ideal) arg16.view.junk ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k (trip.sl.arg18 k) (trip.sl.v65 k) (trip.sl.r arg2 X2 k) (trip.sl.r_1 arg3 X3 k) (trip.sl.r_2 arg15 X15 k) (trip.sl.v307 k) (trip.sl.r_21 arg1 arg2 arg3 arg5 arg7 arg14 arg15 X1 X2 X3 X5 X7 X14 X15 k) (trip.sl.r_22 arg1 arg2 arg3 arg5 arg7 arg11 arg14 arg15 X1 X2 X3 X5 X7 X14 X15 k f11) (trip.sl.r_23 arg1 arg2 arg3 arg5 arg7 arg14 arg15 X1 X2 X3 X5 X7 X14 X15 k) (trip.sl.v381 k) X1 X5 X7 X14 (arg11.view.writes (Elt Ideal) f11 (⟨Rect.unit (s := S1x1x4096) (k0_off13 k) S1x1x256.size HB11, k0_pay48 (F := Ideal) (trip.sl.r_22 arg1 arg2 arg3 arg5 arg7 arg11 arg14 arg15 X1 X2 X3 X5 X7 X14 X15 k f11) (trip.sl.r_23 arg1 arg2 arg3 arg5 arg7 arg14 arg15 X1 X2 X3 X5 X7 X14 X15 k)⟩ :: (trip.sl.H11_3 arg1 arg2 arg3 arg5 arg7 arg11 arg14 arg15 X1 X2 X3 X5 X7 X14 X15 k f11) : List (View.Piece (Elt Ideal) S1x1x4096 .f32))) (arg13.view.writes (Elt Ideal) f13 (⟨Rect.unit (s := S4096x128) (k0_off12 k) S256x128.size HB13, k0_pay44 (F := Ideal) (trip.sl.r arg2 X2 k) (trip.sl.r_1 arg3 X3 k) (trip.sl.r_19 arg7 X7 k) (trip.sl.r_20 arg1 arg2 arg5 arg15 X1 X2 X5 X15 k) (arg14.view.readAt (Elt Ideal) (Rect.unit (s := S8x4096) (k0_off14 k) S1x256.size HB14).toLoadRect X14) (trip.sl.v355 arg1 arg2 arg3 arg5 arg7 arg13 arg14 arg15 X1 X2 X3 X5 X7 X14 X15 k f13)⟩ :: (trip.sl.H13_3 arg1 arg2 arg3 arg5 arg7 arg13 arg14 arg15 X1 X2 X3 X5 X7 X14 X15 k f13) : List (View.Piece (Elt Ideal) S4096x128 .f32))) (arg16.view.writes (Elt Ideal) arg16.view.junk (trip.sl.H16_9 arg1 arg2 arg3 arg5 arg7 arg14 arg15 arg16 X1 X2 X3 X5 X7 X14 X15 k)) (arg17.view.writes (Elt Ideal) arg17.view.junk (trip.sl.H17_5 arg1 arg2 arg3 arg5 arg7 arg14 arg15 arg17 X1 X2 X3 X5 X7 X14 X15 k)) (k0_t2_loop k).trips).2.2.1 ++ (trip.sl.H16_9 arg1 arg2 arg3 arg5 arg7 arg14 arg15 arg16 X1 X2 X3 X5 X7 X14 X15 k))))
      (fun s r e => if s = 0 then ∑ q ∈ Finset.range 4096, h.DS q (1024 * k.val + r) * h.Q q e else ∑ q ∈ Finset.range 4096, h.P q (1024 * k.val + r) * h.DO q e)
    ∧ At2 (m := 1024) (n := 1) (arg17.view.read (Elt Ideal) (arg17.view.writes (Elt Ideal) arg17.view.junk ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k (trip.sl.arg18 k) (trip.sl.v65 k) (trip.sl.r arg2 X2 k) (trip.sl.r_1 arg3 X3 k) (trip.sl.r_2 arg15 X15 k) (trip.sl.v307 k) (trip.sl.r_21 arg1 arg2 arg3 arg5 arg7 arg14 arg15 X1 X2 X3 X5 X7 X14 X15 k) (trip.sl.r_22 arg1 arg2 arg3 arg5 arg7 arg11 arg14 arg15 X1 X2 X3 X5 X7 X14 X15 k f11) (trip.sl.r_23 arg1 arg2 arg3 arg5 arg7 arg14 arg15 X1 X2 X3 X5 X7 X14 X15 k) (trip.sl.v381 k) X1 X5 X7 X14 (arg11.view.writes (Elt Ideal) f11 (⟨Rect.unit (s := S1x1x4096) (k0_off13 k) S1x1x256.size HB11, k0_pay48 (F := Ideal) (trip.sl.r_22 arg1 arg2 arg3 arg5 arg7 arg11 arg14 arg15 X1 X2 X3 X5 X7 X14 X15 k f11) (trip.sl.r_23 arg1 arg2 arg3 arg5 arg7 arg14 arg15 X1 X2 X3 X5 X7 X14 X15 k)⟩ :: (trip.sl.H11_3 arg1 arg2 arg3 arg5 arg7 arg11 arg14 arg15 X1 X2 X3 X5 X7 X14 X15 k f11) : List (View.Piece (Elt Ideal) S1x1x4096 .f32))) (arg13.view.writes (Elt Ideal) f13 (⟨Rect.unit (s := S4096x128) (k0_off12 k) S256x128.size HB13, k0_pay44 (F := Ideal) (trip.sl.r arg2 X2 k) (trip.sl.r_1 arg3 X3 k) (trip.sl.r_19 arg7 X7 k) (trip.sl.r_20 arg1 arg2 arg5 arg15 X1 X2 X5 X15 k) (arg14.view.readAt (Elt Ideal) (Rect.unit (s := S8x4096) (k0_off14 k) S1x256.size HB14).toLoadRect X14) (trip.sl.v355 arg1 arg2 arg3 arg5 arg7 arg13 arg14 arg15 X1 X2 X3 X5 X7 X14 X15 k f13)⟩ :: (trip.sl.H13_3 arg1 arg2 arg3 arg5 arg7 arg13 arg14 arg15 X1 X2 X3 X5 X7 X14 X15 k f13) : List (View.Piece (Elt Ideal) S4096x128 .f32))) (arg16.view.writes (Elt Ideal) arg16.view.junk (trip.sl.H16_9 arg1 arg2 arg3 arg5 arg7 arg14 arg15 arg16 X1 X2 X3 X5 X7 X14 X15 k)) (arg17.view.writes (Elt Ideal) arg17.view.junk (trip.sl.H17_5 arg1 arg2 arg3 arg5 arg7 arg14 arg15 arg17 X1 X2 X3 X5 X7 X14 X15 k)) (k0_t2_loop k).trips).2.2.2 ++ (trip.sl.H17_5 arg1 arg2 arg3 arg5 arg7 arg14 arg15 arg17 X1 X2 X3 X5 X7 X14 X15 k))))
      (fun r e => ∑ q ∈ Finset.range 4096, h.DS q (1024 * k.val + r)) := by
  obtain ⟨s1, s2, s3, s4⟩ := Inner.state Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k (trip.sl.arg18 k) (trip.sl.v65 k) (trip.sl.r arg2 X2 k) (trip.sl.r_1 arg3 X3 k) (trip.sl.r_2 arg15 X15 k) (trip.sl.v307 k) (trip.sl.r_21 arg1 arg2 arg3 arg5 arg7 arg14 arg15 X1 X2 X3 X5 X7 X14 X15 k) (trip.sl.r_22 arg1 arg2 arg3 arg5 arg7 arg11 arg14 arg15 X1 X2 X3 X5 X7 X14 X15 k f11) (trip.sl.r_23 arg1 arg2 arg3 arg5 arg7 arg14 arg15 X1 X2 X3 X5 X7 X14 X15 k) (trip.sl.v381 k) X1 X5 X7 X14
    hX1 hX5 hX7 hX14 (ld (off1_0 k) (off1_1 k) hX2) (ld (off1_0 k) (off1_1 k) hX3) (ldf (off2_0 k) (off2_1 k) hX15)
    (RQ := fun q => RQ q + rqs h (1024 * k.val) 0 1024 q + rqs h (1024 * k.val) 256 768 q + rqs h (1024 * k.val) 512 512 q + rqs h (1024 * k.val) 768 256 q)
    (rq_3 hX1 hX2 hX3 hX5 hX7 hX14 hX15 h11 (HB11 := HB11)) (dq_3 hX1 hX2 hX3 hX5 hX7 hX14 hX15 h13 (HB13 := HB13) (HB14 := HB14)) (acc_9 hX1 hX2 hX3 hX5 hX7 hX14 hX15) (rk_5 hX1 hX2 hX3 hX5 hX7 hX14 hX15) (k0_t2_loop k).trips le_rfl
  have hk := k_lt k
  have hm : (k0_t2_loop k).trips = 3 - k.val := inner_trips k
  rw [View.writes_append, View.writes_append, View.writes_append, View.writes_append]
  refine ⟨s1.congr fun _ _ q _ _ hq => ?_, s2.congr fun q e hq _ => ?_, s3.congr fun s r e hs hr _ => ?_, s4.congr fun r e hr _ => ?_⟩
  · have := tri (fun t => h.DS q (1024 * k.val + t)) (1024 * k.val) (k0_t2_loop k).trips q (fun t ht => h.DS_zero (by omega)) (by rw [hm]; omega)
    refine Eq.trans ?_ (congrArg (RQ q + ·) this)
    simp only [rqs_eq]; ring
  · have := tri (fun t => h.DS q (1024 * k.val + t) * h.K (1024 * k.val + t) e) (1024 * k.val) (k0_t2_loop k).trips q (fun t ht => by rw [h.DS_zero (by omega), zero_mul]) (by rw [hm]; omega)
    refine Eq.trans ?_ (congrArg (DQ q e + ·) this)
    simp only [dqs_eq]; ring
  · obtain rfl | rfl : s = 0 ∨ s = 1 := by omega
    · have := col (fun q => h.DS q (1024 * k.val + r) * h.Q q e) (1024 * k.val) (k0_t2_loop k).trips r hr (fun q hq => by rw [h.DS_zero (by omega), zero_mul]) (by rw [hm]; omega)
      rw [if_pos rfl, if_pos rfl, if_neg (by omega), ← this]
      simp only [dks_eq, dvs_ne]; ring
    · have := col (fun q => h.P q (1024 * k.val + r) * h.DO q e) (1024 * k.val) (k0_t2_loop k).trips r hr (fun q hq => by rw [h.P_zero (by omega), zero_mul]) (by rw [hm]; omega)
      rw [if_pos rfl, if_neg (by omega), if_neg (by omega), ← this]
      simp only [dvs_eq, dks_ne]; ring
  · have := col (fun q => h.DS q (1024 * k.val + r)) (1024 * k.val) (k0_t2_loop k).trips r hr (fun q hq => h.DS_zero (by omega)) (by rw [hm]; omega)
    rw [← this]
    simp only [rks_eq]; ring

end Cert.FoxIdeal.TripValue

end
-- ==== Proof.FoxTripOut.lean ====
/- What one trip of the attention's gradient leaves in the arrays it writes. -/
module

public import proofs.«01_k».proof.Proof.FoxTripValue

@[expose] public section

set_option maxRecDepth 16384

noncomputable section

namespace Cert.FoxIdeal.TripValue

open Idealize.ShloMosaic Idealize.ShloMosaic.TcCoe Idealize.ShloMosaic.ValueIdx
open Cert.FoxIdeal Cert.FoxIdeal.Gen Cert.FoxIdeal.Pay Cert.FoxOps Cert.FoxIdeal.Trip Cert.FoxIdeal.Inner Cert.FoxIdeal.Strip
open scoped BigOperators

theorem pb3_zero (𝒱 : Variants) (c : Dev nD) (bd : Option 𝒱.V) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S1x1x4096 .f32) (harg5 : arg5.IsWhole)
  (arg6 : Memref sig .tc .vmem S4096x128 .bf16) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .bf16) (harg10 : arg10.IsWhole)
  (arg11 : Memref sig .tc .vmem S1x1x4096 .f32) (harg11 : arg11.IsWhole)
  (arg12 : Memref sig .tc .vmem S1x1x4096 .f32) (harg12 : arg12.IsWhole)
  (arg13 : Memref sig .tc .vmem S4096x128 .f32) (harg13 : arg13.IsWhole)
  (arg14 : Memref sig .tc .vmem S8x4096 .f32) (harg14 : arg14.IsWhole)
  (arg15 : Memref sig .tc .vmem S4096x1 .f32) (harg15 : arg15.IsWhole)
  (arg16 : Memref sig .tc .vmem S2x1024x128 .f32) (harg16 : arg16.IsWhole)
  (arg17 : Memref sig .tc .vmem S1024x1 .f32) (harg17 : arg17.IsWhole)
  (a : Fin k0_t1_loop.trips) (arg18 v66 : BitVec 32) (v68 v70 : Vec Ideal S1024x128 .bf16) (v72 : Vec Ideal S1024x1 .f32) (v308 : BitVec 32)
  (v363 : FVec Ideal S256x256 .f32) (v366 : FVec Ideal S1x256 .f32) (v367 : FVec Ideal S256 .f32) (v381 : BitVec 32) X1 X5 X7 X14 G11 G13 G16 G17 :
  pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a arg18 v66 v68 v70 v72 v308 v363 v366 v367 v381 X1 X5 X7 X14 G11 G13 G16 G17 0 = ([], [], [], []) := rfl

variable (c : Dev nD) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S1x1x4096 .f32) (harg5 : arg5.IsWhole)
  (arg6 : Memref sig .tc .vmem S4096x128 .bf16) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .bf16) (harg10 : arg10.IsWhole)
  (arg11 : Memref sig .tc .vmem S1x1x4096 .f32) (harg11 : arg11.IsWhole)
  (arg12 : Memref sig .tc .vmem S1x1x4096 .f32) (harg12 : arg12.IsWhole)
  (arg13 : Memref sig .tc .vmem S4096x128 .f32) (harg13 : arg13.IsWhole)
  (arg14 : Memref sig .tc .vmem S8x4096 .f32) (harg14 : arg14.IsWhole)
  (arg15 : Memref sig .tc .vmem S4096x1 .f32) (harg15 : arg15.IsWhole)
  (arg16 : Memref sig .tc .vmem S2x1024x128 .f32) (harg16 : arg16.IsWhole)
  (arg17 : Memref sig .tc .vmem S1024x1 .f32) (harg17 : arg17.IsWhole)
  (v18 : FVec Ideal S8x128 .f32) (v30 : FVec Ideal S1024x128 .f32)
  (k : Fin k0_t1_loop.trips) (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X7 : BufTy.Contents (Elt Ideal) arg7.view.ty) (X14 : BufTy.Contents (Elt Ideal) arg14.view.ty) (X15 : BufTy.Contents (Elt Ideal) arg15.view.ty) (f11 : BufTy.Contents (Elt Ideal) arg11.view.ty) (f13 : BufTy.Contents (Elt Ideal) arg13.view.ty)
variable {h : Hd} {DQ : ℕ → ℕ → ℝ} {RQ : ℕ → ℝ}
  (hX1 : At2 (m := 4096) (n := 128) (arg1.view.read (Elt Ideal) X1) h.Q) (hX2 : At2 (m := 4096) (n := 128) (arg2.view.read (Elt Ideal) X2) h.K)
  (hX3 : At2 (m := 4096) (n := 128) (arg3.view.read (Elt Ideal) X3) h.V) (hX5 : At3 (l := 1) (m := 1) (n := 4096) (arg5.view.read (Elt Ideal) X5) (fun _ _ q => h.LSE q))
  (hX7 : At2 (m := 4096) (n := 128) (arg7.view.read (Elt Ideal) X7) h.DO) (hX14 : At2 (m := 8) (n := 4096) (arg14.view.read (Elt Ideal) X14) (fun _ q => h.DR q))
  (hX15 : At2 (m := 4096) (n := 1) (arg15.view.read (Elt Ideal) X15) (fun q _ => h.FC q))
  (h11 : At3 (l := 1) (m := 1) (n := 4096) (arg11.view.read (Elt Ideal) f11) (fun _ _ q => RQ q))
  (h13 : At2 (m := 4096) (n := 128) (arg13.view.read (Elt Ideal) f13) DQ)
include hX1 hX2 hX3 hX5 hX7 hX14 hX15 h11 h13

/-- The row sums after the trip. -/
theorem trip_rq : At3 (l := 1) (m := 1) (n := 4096) (arg11.view.read (Elt Ideal) (arg11.view.writes (Elt Ideal) f11 (tripL (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 k f11 f13).2.2.1))
      (fun _ _ q => RQ q + ∑ t ∈ Finset.range 1024, h.DS q (1024 * k.val + t)) := by
  unfold tripL trip
  dsimp only
  rw [t3_trips k, pb3_zero, List.nil_append]
  exact (after c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k X1 X2 X3 X5 X7 X14 X15 f11 f13 hX1 hX2 hX3 hX5 hX7 hX14 hX15 h11 h13).1

/-- The gradient of the queries after the trip. -/
theorem trip_dq : At2 (m := 4096) (n := 128) (arg13.view.read (Elt Ideal) (arg13.view.writes (Elt Ideal) f13 (tripL (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 k f11 f13).2.2.2.2))
      (fun q e => DQ q e + ∑ t ∈ Finset.range 1024, h.DS q (1024 * k.val + t) * h.K (1024 * k.val + t) e) := by
  unfold tripL trip
  dsimp only
  rw [t3_trips k, pb3_zero, List.nil_append]
  exact (after c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k X1 X2 X3 X5 X7 X14 X15 f11 f13 hX1 hX2 hX3 hX5 hX7 hX14 hX15 h11 h13).2.1

/-- The gradient of the block of keys. -/
theorem trip_dk : ∃ hh p, (tripL (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 k f11 f13).1 = [(⟨Rect.unit (s := S4096x128) (k0_off1 k) S1024x128.size hh, p⟩ : View.Piece (Elt Ideal) S4096x128 .bf16)]
      ∧ At2 (m := 1024) (n := 128) p (fun r e => (∑ q ∈ Finset.range 4096, h.DS q (1024 * k.val + r) * h.Q q e) * sg) := by
  unfold tripL trip
  refine ⟨_, _, rfl, ?_⟩
  unfold trip.sl.v387
  rw [t3_trips k, pb3_zero, List.nil_append]
  refine At2.congr (outk (rd3f (after c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k X1 X2 X3 X5 X7 X14 X15 f11 f13 hX1 hX2 hX3 hX5 hX7 hX14 hX15 h11 h13).2.2.1)) fun r e _ _ => ?_
  simp

/-- The gradient of the block of values. -/
theorem trip_dv : ∃ hh p, (tripL (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 k f11 f13).2.1 = [(⟨Rect.unit (s := S4096x128) (k0_off1 k) S1024x128.size hh, p⟩ : View.Piece (Elt Ideal) S4096x128 .bf16)]
      ∧ At2 (m := 1024) (n := 128) p (fun r e => ∑ q ∈ Finset.range 4096, h.P q (1024 * k.val + r) * h.DO q e) := by
  unfold tripL trip
  refine ⟨_, _, rfl, ?_⟩
  unfold trip.sl.v394
  rw [t3_trips k, pb3_zero, List.nil_append]
  refine At2.congr (outv (rd3f (after c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k X1 X2 X3 X5 X7 X14 X15 f11 f13 hX1 hX2 hX3 hX5 hX7 hX14 hX15 h11 h13).2.2.1)) fun r e _ _ => ?_
  simp

/-- The column sums of the block of keys. -/
theorem trip_rk : ∃ hh p, (tripL (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 k f11 f13).2.2.2.1 = [(⟨Rect.unit (s := S1x1x4096) (k0_off21 k) S1x1x1024.size hh, p⟩ : View.Piece (Elt Ideal) S1x1x4096 .f32)]
      ∧ At3 (l := 1) (m := 1) (n := 1024) p (fun _ _ r => ∑ q ∈ Finset.range 4096, h.DS q (1024 * k.val + r)) := by
  unfold tripL trip
  refine ⟨_, _, rfl, ?_⟩
  unfold trip.sl.v399
  rw [t3_trips k, pb3_zero, List.nil_append]
  refine At3.congr (outr (rd2f (after c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k X1 X2 X3 X5 X7 X14 X15 f11 f13 hX1 hX2 hX3 hX5 hX7 hX14 hX15 h11 h13).2.2.2)) fun _ _ r _ _ _ => ?_
  simp

end Cert.FoxIdeal.TripValue

end
-- ==== Proof.FoxLoop.lean ====
/- The loop over the blocks of keys in the attention's gradient: what all trips together leave in the arrays. -/
module

public import proofs.«01_k».proof.Proof.FoxTripOut
public import Idealize.ShloMosaic.Lib.Pipeline.ValueKit.Tiles

@[expose] public section

set_option maxRecDepth 16384

noncomputable section

namespace Cert.FoxIdeal.Loop

open Idealize.ShloMosaic Idealize.ShloMosaic.TcCoe Idealize.ShloMosaic.ValueIdx
open Cert.FoxIdeal Cert.FoxIdeal.Gen Cert.FoxIdeal.Pay Cert.FoxOps Cert.FoxIdeal.Trip Cert.FoxIdeal.TripValue
open scoped BigOperators

/-- A stored block of rows holds the values of a function of the whole array's rows. -/
theorem block2 {M N m b : ℕ} {off : Fin 2 → ℕ} {hh} {p : (Rect.unit (s := ⟨2, ![M, N]⟩) off (⟨2, ![m, N]⟩ : Shape).size hh).shape.Idx → Elt Ideal .bf16} {f g : ℕ → ℕ → ℝ}
    (h0 : off 0 = b) (h1 : off 1 = 0) (hp : At2 (m := m) (n := N) p f) (e : ∀ r c, f r c = g (b + r) c) (y : (⟨2, ![M, N]⟩ : Shape).Idx) :
    View.AllAt [(⟨Rect.unit (s := ⟨2, ![M, N]⟩) off (⟨2, ![m, N]⟩ : Shape).size hh, p⟩ : View.Piece (Elt Ideal) ⟨2, ![M, N]⟩ .bf16)] y
      ((g (y 0).val (y 1).val : ℝ) : EReal) := by
  refine View.allAt_cons_unit off _ hh p [] (fun x hx => ?_) (View.allAt_nil _ _)
  have e0 : (y 0).val = off 0 + (x 0).val := hx 0
  have e1 : (y 1).val = off 1 + (x 1).val := hx 1
  have ex : x = (ix2 (x 0) (x 1) : (⟨2, ![m, N]⟩ : Shape).Idx) := eq_ix2 x
  rw [ex, e0, e1, h0, h1, Nat.zero_add, ← e]
  exact hp (x 0) (x 1)

/-- The same of a stored part of one row. -/
theorem block3 {M m b : ℕ} {off : Fin 3 → ℕ} {hh} {p : (Rect.unit (s := ⟨3, ![1, 1, M]⟩) off (⟨3, ![1, 1, m]⟩ : Shape).size hh).shape.Idx → Elt Ideal .f32} {f g : ℕ → ℝ}
    (h2 : off 2 = b) (hp : At3 (l := 1) (m := 1) (n := m) p (fun _ _ r => f r)) (e : ∀ r, f r = g (b + r)) (y : (⟨3, ![1, 1, M]⟩ : Shape).Idx) :
    View.AllAt [(⟨Rect.unit (s := ⟨3, ![1, 1, M]⟩) off (⟨3, ![1, 1, m]⟩ : Shape).size hh, p⟩ : View.Piece (Elt Ideal) ⟨3, ![1, 1, M]⟩ .f32)] y
      ((g (y 2).val : ℝ) : EReal) := by
  refine View.allAt_cons_unit off _ hh p [] (fun x hx => ?_) (View.allAt_nil _ _)
  have e2 : (y 2).val = off 2 + (x 2).val := hx 2
  have ex : x = (ix3 (x 0) (x 1) (x 2) : (⟨3, ![1, 1, m]⟩ : Shape).Idx) := eq_ix3 x
  rw [ex, e2, h2, ← e]
  exact hp (x 0) (x 1) (x 2)

theorem allAt_append {S : Shape} {e : EltTy} {A B : List (View.Piece (Elt Ideal) S e)} {y : S.Idx} {v : Elt Ideal e}
    (h1 : View.AllAt A y v) (h2 : View.AllAt B y v) : View.AllAt (A ++ B) y v := fun p hp =>
  (List.mem_append.mp hp).elim (h1 p) (h2 p)

/-- The gradient of the keys: row `r`, lane `e`. -/
def dk (h : Hd) (r e : ℕ) : ℝ := (∑ q ∈ Finset.range 4096, h.DS q r * h.Q q e) * sg
/-- The gradient of the values. -/
def dv (h : Hd) (r e : ℕ) : ℝ := ∑ q ∈ Finset.range 4096, h.P q r * h.DO q e
/-- The column sums. -/
def rk (h : Hd) (r : ℕ) : ℝ := ∑ q ∈ Finset.range 4096, h.DS q r

variable (c : Dev nD) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S1x1x4096 .f32) (harg5 : arg5.IsWhole)
  (arg6 : Memref sig .tc .vmem S4096x128 .bf16) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .bf16) (harg10 : arg10.IsWhole)
  (arg11 : Memref sig .tc .vmem S1x1x4096 .f32) (harg11 : arg11.IsWhole)
  (arg12 : Memref sig .tc .vmem S1x1x4096 .f32) (harg12 : arg12.IsWhole)
  (arg13 : Memref sig .tc .vmem S4096x128 .f32) (harg13 : arg13.IsWhole)
  (arg14 : Memref sig .tc .vmem S8x4096 .f32) (harg14 : arg14.IsWhole)
  (arg15 : Memref sig .tc .vmem S4096x1 .f32) (harg15 : arg15.IsWhole)
  (arg16 : Memref sig .tc .vmem S2x1024x128 .f32) (harg16 : arg16.IsWhole)
  (arg17 : Memref sig .tc .vmem S1024x1 .f32) (harg17 : arg17.IsWhole)
  (v18 : FVec Ideal S8x128 .f32) (v30 : FVec Ideal S1024x128 .f32)
  (X1 : BufTy.Contents (Elt Ideal) arg1.view.ty) (X2 : BufTy.Contents (Elt Ideal) arg2.view.ty) (X3 : BufTy.Contents (Elt Ideal) arg3.view.ty) (X5 : BufTy.Contents (Elt Ideal) arg5.view.ty) (X7 : BufTy.Contents (Elt Ideal) arg7.view.ty) (X14 : BufTy.Contents (Elt Ideal) arg14.view.ty) (X15 : BufTy.Contents (Elt Ideal) arg15.view.ty) (G11 : BufTy.Contents (Elt Ideal) arg11.view.ty) (G13 : BufTy.Contents (Elt Ideal) arg13.view.ty)
variable {h : Hd} {DQ : ℕ → ℕ → ℝ} {RQ : ℕ → ℝ}
  (hX1 : At2 (m := 4096) (n := 128) (arg1.view.read (Elt Ideal) X1) h.Q) (hX2 : At2 (m := 4096) (n := 128) (arg2.view.read (Elt Ideal) X2) h.K)
  (hX3 : At2 (m := 4096) (n := 128) (arg3.view.read (Elt Ideal) X3) h.V) (hX5 : At3 (l := 1) (m := 1) (n := 4096) (arg5.view.read (Elt Ideal) X5) (fun _ _ q => h.LSE q))
  (hX7 : At2 (m := 4096) (n := 128) (arg7.view.read (Elt Ideal) X7) h.DO) (hX14 : At2 (m := 8) (n := 4096) (arg14.view.read (Elt Ideal) X14) (fun _ q => h.DR q))
  (hX15 : At2 (m := 4096) (n := 1) (arg15.view.read (Elt Ideal) X15) (fun q _ => h.FC q))
  (h11 : At3 (l := 1) (m := 1) (n := 4096) (arg11.view.read (Elt Ideal) G11) (fun _ _ q => RQ q))
  (h13 : At2 (m := 4096) (n := 128) (arg13.view.read (Elt Ideal) G13) DQ)
include hX1 hX2 hX3 hX5 hX7 hX14 hX15 h11 h13

/-- After `K` trips: the row sums and the gradient of the queries over the keys seen so far, and every stored block of
    the other results at its values. -/
theorem loop (K : ℕ) (hK : K ≤ k0_t1_loop.trips) :
    At3 (l := 1) (m := 1) (n := 4096) (arg11.view.read (Elt Ideal) (arg11.view.writes (Elt Ideal) G11 (pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.1)) (fun _ _ q => RQ q + ∑ t ∈ Finset.range (1024 * K), h.DS q t)
    ∧ At2 (m := 4096) (n := 128) (arg13.view.read (Elt Ideal) (arg13.view.writes (Elt Ideal) G13 (pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.2.2)) (fun q e => DQ q e + ∑ t ∈ Finset.range (1024 * K), h.DS q t * h.K t e)
    ∧ (∀ y : S4096x128.Idx, View.AllAt (pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).1 y ((dk h (y 0).val (y 1).val : ℝ) : EReal))
    ∧ (∀ y : S4096x128.Idx, View.AllAt (pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.1 y ((dv h (y 0).val (y 1).val : ℝ) : EReal))
    ∧ (∀ y : S1x1x4096.Idx, View.AllAt (pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.2.1 y ((rk h (y 2).val : ℝ) : EReal)) := by
  induction K with
  | zero =>
    refine ⟨At3.congr h11 fun _ _ q _ _ _ => ?_, At2.congr h13 fun q e _ _ => ?_, fun y => View.allAt_nil _ _, fun y => View.allAt_nil _ _, fun y => View.allAt_nil _ _⟩
    · show RQ q = RQ q + ∑ t ∈ Finset.range 0, h.DS q t
      rw [Finset.sum_range_zero, add_zero]
    · show DQ q e = DQ q e + ∑ t ∈ Finset.range 0, h.DS q t * h.K t e
      rw [Finset.sum_range_zero, add_zero]
  | succ K ih =>
    obtain ⟨i1, i2, i3, i4, i5⟩ := ih (by omega)
    have e := pb_succ (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 ⟨K, hK⟩
    dsimp only at e
    rw [e]
    dsimp only
    have a1 := trip_rq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 ⟨K, hK⟩ X1 X2 X3 X5 X7 X14 X15 (arg11.view.writes (Elt Ideal) G11 (pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.1) (arg13.view.writes (Elt Ideal) G13 (pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.2.2) hX1 hX2 hX3 hX5 hX7 hX14 hX15 i1 i2
    have a2 := trip_dq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 ⟨K, hK⟩ X1 X2 X3 X5 X7 X14 X15 (arg11.view.writes (Elt Ideal) G11 (pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.1) (arg13.view.writes (Elt Ideal) G13 (pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.2.2) hX1 hX2 hX3 hX5 hX7 hX14 hX15 i1 i2
    obtain ⟨g3, p3, q3, a3⟩ := trip_dk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 ⟨K, hK⟩ X1 X2 X3 X5 X7 X14 X15 (arg11.view.writes (Elt Ideal) G11 (pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.1) (arg13.view.writes (Elt Ideal) G13 (pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.2.2) hX1 hX2 hX3 hX5 hX7 hX14 hX15 i1 i2
    obtain ⟨g4, p4, q4, a4⟩ := trip_dv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 ⟨K, hK⟩ X1 X2 X3 X5 X7 X14 X15 (arg11.view.writes (Elt Ideal) G11 (pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.1) (arg13.view.writes (Elt Ideal) G13 (pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.2.2) hX1 hX2 hX3 hX5 hX7 hX14 hX15 i1 i2
    obtain ⟨g5, p5, q5, a5⟩ := trip_rk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 ⟨K, hK⟩ X1 X2 X3 X5 X7 X14 X15 (arg11.view.writes (Elt Ideal) G11 (pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.1) (arg13.view.writes (Elt Ideal) G13 (pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 K).2.2.2.2) hX1 hX2 hX3 hX5 hX7 hX14 hX15 i1 i2
    refine ⟨?_, ?_, fun y => allAt_append ?_ (i3 y), fun y => allAt_append ?_ (i4 y), fun y => allAt_append ?_ (i5 y)⟩
    · rw [View.writes_append]
      refine At3.congr a1 fun _ _ q _ _ _ => ?_
      rw [Nat.mul_succ, Finset.sum_range_add, add_assoc]
    · rw [View.writes_append]
      refine At2.congr a2 fun q e _ _ => ?_
      rw [Nat.mul_succ, Finset.sum_range_add, add_assoc]
    · rw [q3]; exact block2 (off1_0 ⟨K, hK⟩) (off1_1 ⟨K, hK⟩) a3 (g := dk h) (fun _ _ => rfl) y
    · rw [q4]; exact block2 (off1_0 ⟨K, hK⟩) (off1_1 ⟨K, hK⟩) a4 (g := dv h) (fun _ _ => rfl) y
    · rw [q5]; exact block3 (off21_2 ⟨K, hK⟩) a5 (g := rk h) (fun _ => rfl) y

/-- The gradient of the keys after the loop. -/
theorem out_dk : At2 (m := 4096) (n := 128) (View.canon (Val := Elt Ideal) (e := .bf16) (pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 k0_t1_loop.trips).1) (dk h) := fun r e =>
  View.canon_eq_of_allAt _ _ _ (cover_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 _) ((loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 hX1 hX2 hX3 hX5 hX7 hX14 hX15 h11 h13 _ le_rfl).2.2.1 (ix2 r e))

/-- The gradient of the values after the loop. -/
theorem out_dv : At2 (m := 4096) (n := 128) (View.canon (Val := Elt Ideal) (e := .bf16) (pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 k0_t1_loop.trips).2.1) (dv h) := fun r e =>
  View.canon_eq_of_allAt _ _ _ (cover_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 _) ((loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 hX1 hX2 hX3 hX5 hX7 hX14 hX15 h11 h13 _ le_rfl).2.2.2.1 (ix2 r e))

/-- The column sums after the loop. -/
theorem out_rk : At3 (l := 1) (m := 1) (n := 4096) (View.canon (Val := Elt Ideal) (e := .f32) (pb (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 k0_t1_loop.trips).2.2.2.1) (fun _ _ r => rk h r) := fun s u r =>
  View.canon_eq_of_allAt _ _ _ (cover_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 _) ((loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v30 X1 X2 X3 X5 X7 X14 X15 G11 G13 hX1 hX2 hX3 hX5 hX7 hX14 hX15 h11 h13 _ le_rfl).2.2.2.2 (ix3 s u r))

end Cert.FoxIdeal.Loop

end
-- ==== Proof.FoxOut.lean ====
/- What the body of the attention's gradient leaves in its five results, as real numbers. -/
module

public import proofs.«01_k».proof.Proof.FoxLoop
public import proofs.«01_k».proof.Proof.FoxRun

@[expose] public section

set_option maxRecDepth 16384

noncomputable section

namespace Cert.FoxIdeal.Out

open Idealize.ShloMosaic Idealize.ShloMosaic.TcCoe Idealize.ShloMosaic.ValueIdx
open Cert.FoxIdeal Cert.FoxIdeal.Gen Cert.FoxIdeal.Pay Cert.FoxOps Cert.FoxIdeal.Trip Cert.FoxIdeal.Inner Cert.FoxIdeal.Strip Cert.FoxIdeal.Loop
open scoped BigOperators

/-- A stored block holds the values of a function of the whole array. -/
theorem tile2 {M N m n : ℕ} {off : Fin 2 → ℕ} {w : (⟨2, ![m, n]⟩ : Shape).Idx → EReal} {f g : ℕ → ℕ → ℝ}
    (hw : At2 w f) (e : ∀ r c, r < m → c < n → f r c = g (off 0 + r) (off 1 + c)) (y : (⟨2, ![M, N]⟩ : Shape).Idx) :
    View.TileAt (Val := Elt Ideal) (e := .f32) y off (⟨2, ![m, n]⟩ : Shape).size w ((g (y 0).val (y 1).val : ℝ) : EReal) := fun x hx => by
  have e0 : (y 0).val = off 0 + (x 0).val := hx 0
  have e1 : (y 1).val = off 1 + (x 1).val := hx 1
  have ex : x = (ix2 (x 0) (x 1) : (⟨2, ![m, n]⟩ : Shape).Idx) := eq_ix2 x
  rw [ex, e0, e1, ← e _ _ (x 0).isLt (x 1).isLt]
  exact hw (x 0) (x 1)

theorem one_at : At2 (m := 8) (n := 128) (k0_pay65 (F := Ideal)) (fun _ _ => 1) := by
  unfold k0_pay65
  exact bc_at (by rw [EReal.coe_one]; exact Ideal.ofBits_one_f32)

/-- The sums of a block of rows of products, once in each of eight rows. -/
theorem drow {x y : FVec Ideal S1024x128 .f32} {f g : ℕ → ℕ → ℝ} {h} (hx : At2 (m := 1024) (n := 128) x f) (hy : At2 (m := 1024) (n := 128) y g) :
    At2 (m := 8) (n := 1024) (shapeCast S8x1024 (matmul dot_S8x128_S1024x128_S8x1024_1_1_0_0_n_n (some .fp32) (k0_pay65 (F := Ideal)) (mulf x y) (constant S8x1024 .f32 0x00000000#32)) h)
      (fun _ q => ∑ d ∈ Finset.range 128, f q d * g q d) :=
  (cast22 (mm_t rfl one_at (mulf_at hx hy))).congr fun _ _ _ _ => by simp only [one_mul]

/-- The lane of one head, as a column. -/
theorem lane {i : grid0.Coords} {x : Vec Ideal S4096x128 .f32} {f : ℕ → ℕ → ℝ} (hx : At2 (m := 4096) (n := 128) x f) :
    At2 (m := 4096) (n := 1) (k0_pay62 (F := Ideal) i x) (fun q _ => f q (i 0).val) := by
  unfold k0_pay62
  dsimp only
  refine At2.congr (f := fun r _ => ∑ t ∈ Finset.range 128, if t = (i 0).val then f r t else 0) (cast22 (cast1col (red1 (f := fun r t => if t = (i 0).val then f r t else 0) fun r t => ?_))) fun r _ _ _ => ?_
  · have hi : (i 0).val < 16 := (i 0).isLt
    have hc : (cmpi .eq (iota .tc S4096x128 32 [1] iota_S4096x128_d1_w32) (broadcast S4096x128 (BitVec.ofNat 32 (i 0).val))) (ix2 r t) = 1#1 ↔ t.val = (i 0).val := by
      show IntOp.cmpi .eq (BitVec.ofNat 32 (0 * 128 + t.val)) (BitVec.ofNat 32 (i 0).val) = 1#1 ↔ _
      have ht := t.isLt
      rw [Nat.zero_mul, Nat.zero_add]
      have e : BitVec.ofNat 32 t.val = BitVec.ofNat 32 (i 0).val ↔ t.val = (i 0).val := by
        constructor
        · intro e
          have := congrArg BitVec.toNat e
          simp only [BitVec.toNat_ofNat] at this
          omega
        · intro e; rw [e]
      simp only [IntOp.cmpi, ← e]
      by_cases h : BitVec.ofNat 32 t.val = BitVec.ofNat 32 (i 0).val
      · simp [h]
      · simp only [h, iff_false, beq_eq_false_iff_ne.2 h]; decide
    show Scalar.select _ (shapeCast S4096x128 x _ (ix2 r t)) (Ideal.ofBits .f32 0x00000000#32) = ((if t.val = (i 0).val then f r.val t.val else 0 : ℝ) : EReal)
    by_cases h : t.val = (i 0).val
    · rw [if_pos h]
      unfold Scalar.select
      exact (if_pos (hc.2 h)).trans ((cast22 (φ := .f32) hx) r t)
    · rw [if_neg h]
      unfold Scalar.select
      exact (if_neg (fun h' => h (hc.1 h'))).trans Ideal.ofBits_zero_f32
  · rw [Finset.sum_ite_eq', if_pos]
    have hi : (i 0).val < 16 := (i 0).isLt
    exact Finset.mem_range.2 (by omega)

theorem h11 (arg11 : Memref sig .tc .vmem S1x1x4096 .f32) : At3 (l := 1) (m := 1) (n := 4096) (arg11.view.read (Elt Ideal) (arg11.view.writes (Elt Ideal) arg11.view.junk (Run.kernelRun.sl.H11_1 (F := Ideal)))) (fun _ _ _ => 0) :=
  whole3 rfl rfl rfl (by unfold k0_pay64; exact fun _ _ _ => Ideal.ofBits_zero_f32)

theorem h13 (arg13 : Memref sig .tc .vmem S4096x128 .f32) : At2 (m := 4096) (n := 128) (arg13.view.read (Elt Ideal) (arg13.view.writes (Elt Ideal) arg13.view.junk (Run.kernelRun.sl.H13_1 (F := Ideal)))) (fun _ _ => 0) :=
  whole2 rfl rfl (by unfold k0_pay63; exact cast22 (bc_at Ideal.ofBits_zero_f32))

theorem h15 (c : Dev nD) (i : grid0.Coords) (arg4 : Memref sig .tc .vmem S4096x128 .f32) (harg4 : arg4.IsWhole) (arg15 : Memref sig .tc .vmem S4096x1 .f32)
    {x4 : Vec Ideal S4096x128 .f32} {FC : ℕ → ℝ} {FCM : ℕ → ℕ → ℝ} (H4 : At2 (m := 4096) (n := 128) x4 FCM) (hFC : ∀ q, q < 4096 → FC q = FCM q (i 0).val) :
    At2 (m := 4096) (n := 1) (arg15.view.read (Elt Ideal) (arg15.view.writes (Elt Ideal) arg15.view.junk (Run.kernelRun.sl.H15_1 (F := Ideal) c i arg4 harg4 x4))) (fun q _ => FC q) := by
  have e : At2 (m := 4096) (n := 128) (arg4.view.read (Elt Ideal) (harg4.unread x4)) FCM := by rw [harg4.read_unread]; exact H4
  exact (whole2 rfl rfl (lane ((ldf (m := 4096) (b := 0) rfl rfl e).congr fun _ _ _ _ => by rw [Nat.zero_add]))).congr fun q _ hq _ => (hFC q hq).symm

theorem h14 (c : Dev nD) (arg6 : Memref sig .tc .vmem S4096x128 .bf16) (harg6 : arg6.IsWhole) (arg7 : Memref sig .tc .vmem S4096x128 .bf16) (harg7 : arg7.IsWhole)
    (arg14 : Memref sig .tc .vmem S8x4096 .f32)
    {x6 x7 : Vec Ideal S4096x128 .bf16} {DR : ℕ → ℝ} {DO O : ℕ → ℕ → ℝ} (H6 : At2 (m := 4096) (n := 128) x6 O) (H7 : At2 (m := 4096) (n := 128) x7 DO)
    (hDR : ∀ q, q < 4096 → DR q = ∑ d ∈ Finset.range 128, DO q d * O q d) :
    At2 (m := 8) (n := 4096) (arg14.view.read (Elt Ideal) (arg14.view.writes (Elt Ideal) arg14.view.junk (Run.kernelRun.sl.H14_4 (F := Ideal) c arg6 harg6 arg7 harg7 x6 x7))) (fun _ q => DR q) := by
  have e6 : At2 (m := 4096) (n := 128) (arg6.view.read (Elt Ideal) (harg6.unread x6)) O := by rw [harg6.read_unread]; exact H6
  have e7 : At2 (m := 4096) (n := 128) (arg7.view.read (Elt Ideal) (harg7.unread x7)) DO := by rw [harg7.read_unread]; exact H7
  intro r q
  have cov : ∀ y : S8x4096.Idx, ∃ p ∈ Run.kernelRun.sl.H14_4 (F := Ideal) c arg6 harg6 arg7 harg7 x6 x7, y ∈ p.1.set :=
    View.cover_of_tiled _ S8x1024.size (by rfl)
  refine (congrFun (View.read_writes_eq_canon (Val := Elt Ideal) arg14.view _ _ cov) (ix2 r q)).trans ?_
  refine Eq.trans ?_ (congrArg (fun z : ℝ => (z : EReal)) (hDR _ q.isLt)).symm
  refine View.canon_eq_of_allAt _ (ix2 r q : S8x4096.Idx) ((((fun _ q => ∑ d ∈ Finset.range 128, DO q d * O q d : ℕ → ℕ → ℝ)) r.val q.val : ℝ) : EReal) (cov _) ?_
  unfold Run.kernelRun.sl.H14_4 Run.kernelRun.sl.r k0_pay70 k0_pay69 k0_pay68 k0_pay67 k0_pay66
  dsimp only
  refine View.allAt_cons_unit _ _ _ _ _ (tile2 (g := fun _ q => ∑ d ∈ Finset.range 128, DO q d * O q d) (drow (extf_at (φ := .bf16) (ld (b := 3072) rfl rfl e7)) (extf_at (φ := .bf16) (cast22 (φ := .bf16) (ld (b := 3072) rfl rfl e6)))) (fun _ _ _ _ => rfl) (ix2 r q)) ?_
  refine View.allAt_cons_unit _ _ _ _ _ (tile2 (g := fun _ q => ∑ d ∈ Finset.range 128, DO q d * O q d) (drow (extf_at (φ := .bf16) (ld (b := 2048) rfl rfl e7)) (extf_at (φ := .bf16) (cast22 (φ := .bf16) (ld (b := 2048) rfl rfl e6)))) (fun _ _ _ _ => rfl) (ix2 r q)) ?_
  refine View.allAt_cons_unit _ _ _ _ _ (tile2 (g := fun _ q => ∑ d ∈ Finset.range 128, DO q d * O q d) (drow (extf_at (φ := .bf16) (ld (b := 1024) rfl rfl e7)) (extf_at (φ := .bf16) (cast22 (φ := .bf16) (ld (b := 1024) rfl rfl e6)))) (fun _ _ _ _ => rfl) (ix2 r q)) ?_
  exact View.allAt_cons_unit _ _ _ _ _ (tile2 (g := fun _ q => ∑ d ∈ Finset.range 128, DO q d * O q d) (drow (extf_at (φ := .bf16) (ld (b := 0) rfl rfl e7)) (extf_at (φ := .bf16) (cast22 (φ := .bf16) (ld (b := 0) rfl rfl e6)))) (fun _ _ _ _ => rfl) (ix2 r q)) (View.allAt_nil _ _)

variable (c : Dev nD) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .f32) (harg4 : arg4.IsWhole)
  (arg5 : Memref sig .tc .vmem S1x1x4096 .f32) (harg5 : arg5.IsWhole)
  (arg6 : Memref sig .tc .vmem S4096x128 .bf16) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .bf16) (harg10 : arg10.IsWhole)
  (arg11 : Memref sig .tc .vmem S1x1x4096 .f32) (harg11 : arg11.IsWhole)
  (arg12 : Memref sig .tc .vmem S1x1x4096 .f32) (harg12 : arg12.IsWhole)
  (arg13 : Memref sig .tc .vmem S4096x128 .f32) (harg13 : arg13.IsWhole)
  (arg14 : Memref sig .tc .vmem S8x4096 .f32) (harg14 : arg14.IsWhole)
  (arg15 : Memref sig .tc .vmem S4096x1 .f32) (harg15 : arg15.IsWhole)
  (arg16 : Memref sig .tc .vmem S2x1024x128 .f32) (harg16 : arg16.IsWhole)
  (arg17 : Memref sig .tc .vmem S1024x1 .f32) (harg17 : arg17.IsWhole)
variable {x1 x2 x3 x6 x7 : Vec Ideal S4096x128 .bf16} {x4 : Vec Ideal S4096x128 .f32} {x5 : Vec Ideal S1x1x4096 .f32} {h : Hd} {O FCM : ℕ → ℕ → ℝ}
  (H1 : At2 (m := 4096) (n := 128) x1 h.Q) (H2 : At2 (m := 4096) (n := 128) x2 h.K) (H3 : At2 (m := 4096) (n := 128) x3 h.V) (H4 : At2 (m := 4096) (n := 128) x4 FCM)
  (H5 : At3 (l := 1) (m := 1) (n := 4096) x5 (fun _ _ q => h.LSE q)) (H6 : At2 (m := 4096) (n := 128) x6 O) (H7 : At2 (m := 4096) (n := 128) x7 h.DO)
  (hFC : ∀ q, q < 4096 → h.FC q = FCM q (i 0).val) (hDR : ∀ q, q < 4096 → h.DR q = ∑ d ∈ Finset.range 128, h.DO q d * O q d)
include H1 H2 H3 H4 H5 H6 H7 hFC hDR

/-- The gradient of the queries. -/
theorem dq_at : At2 (m := 4096) (n := 128) (Run.kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7).1 (fun q e => (∑ t ∈ Finset.range 4096, h.DS q t * h.K t e) * sg) := by
  have e1 : At2 (m := 4096) (n := 128) (arg1.view.read (Elt Ideal) (harg1.unread x1)) h.Q := by rw [harg1.read_unread]; exact H1
  have e2 : At2 (m := 4096) (n := 128) (arg2.view.read (Elt Ideal) (harg2.unread x2)) h.K := by rw [harg2.read_unread]; exact H2
  have e3 : At2 (m := 4096) (n := 128) (arg3.view.read (Elt Ideal) (harg3.unread x3)) h.V := by rw [harg3.read_unread]; exact H3
  have e5 : At3 (l := 1) (m := 1) (n := 4096) (arg5.view.read (Elt Ideal) (harg5.unread x5)) (fun _ _ q => h.LSE q) := by rw [harg5.read_unread]; exact H5
  have e7 : At2 (m := 4096) (n := 128) (arg7.view.read (Elt Ideal) (harg7.unread x7)) h.DO := by rw [harg7.read_unread]; exact H7
  unfold Run.kernelRun
  dsimp only
  have e13 := (loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay65 (Run.kernelRun.sl.r (F := Ideal) c arg7 harg7 x7) (harg1.unread x1) (harg2.unread x2) (harg3.unread x3) (harg5.unread x5) (harg7.unread x7) (arg14.view.writes (Elt Ideal) arg14.view.junk (Run.kernelRun.sl.H14_4 (F := Ideal) c arg6 harg6 arg7 harg7 x6 x7)) (arg15.view.writes (Elt Ideal) arg15.view.junk (Run.kernelRun.sl.H15_1 (F := Ideal) c i arg4 harg4 x4)) (arg11.view.writes (Elt Ideal) arg11.view.junk (Run.kernelRun.sl.H11_1 (F := Ideal))) (arg13.view.writes (Elt Ideal) arg13.view.junk (Run.kernelRun.sl.H13_1 (F := Ideal))) e1 e2 e3 e5 e7 (h14 c arg6 harg6 arg7 harg7 arg14 H6 H7 hDR) (h15 c i arg4 harg4 arg15 H4 hFC) (h11 arg11) (h13 arg13) k0_t1_loop.trips le_rfl).2.1
  rw [← View.writes_append] at e13
  intro r e
  refine View.canon_eq_of_allAt (Val := Elt Ideal) (e := .bf16) _ (ix2 r e : S4096x128.Idx) ((((fun q e => (∑ t ∈ Finset.range 4096, h.DS q t * h.K t e) * sg : ℕ → ℕ → ℝ)) r.val e.val : ℝ) : EReal) (Run.cover_8 _ _) ?_
  refine block2 (off := ![0, 0]) (b := 0) rfl rfl (f := fun q e => (∑ t ∈ Finset.range 4096, h.DS q t * h.K t e) * sg) ?_ (fun _ _ => by rw [Nat.zero_add]) (ix2 r e)
  unfold k0_pay1 k0_pay72
  refine truncf_at (mulf_at ?_ (bc_at sg_eq))
  unfold Run.kernelRun.sl.v60
  refine (ldf (m := 4096) (b := 0) rfl rfl e13).congr fun q e _ _ => ?_
  rw [Nat.zero_add, zero_add, trips_eq]

/-- The gradient of the keys. -/
theorem dk_at : At2 (m := 4096) (n := 128) (Run.kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7).2.1 (dk h) := by
  have e1 : At2 (m := 4096) (n := 128) (arg1.view.read (Elt Ideal) (harg1.unread x1)) h.Q := by rw [harg1.read_unread]; exact H1
  have e2 : At2 (m := 4096) (n := 128) (arg2.view.read (Elt Ideal) (harg2.unread x2)) h.K := by rw [harg2.read_unread]; exact H2
  have e3 : At2 (m := 4096) (n := 128) (arg3.view.read (Elt Ideal) (harg3.unread x3)) h.V := by rw [harg3.read_unread]; exact H3
  have e5 : At3 (l := 1) (m := 1) (n := 4096) (arg5.view.read (Elt Ideal) (harg5.unread x5)) (fun _ _ q => h.LSE q) := by rw [harg5.read_unread]; exact H5
  have e7 : At2 (m := 4096) (n := 128) (arg7.view.read (Elt Ideal) (harg7.unread x7)) h.DO := by rw [harg7.read_unread]; exact H7
  unfold Run.kernelRun
  exact out_dk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay65 (Run.kernelRun.sl.r (F := Ideal) c arg7 harg7 x7) (harg1.unread x1) (harg2.unread x2) (harg3.unread x3) (harg5.unread x5) (harg7.unread x7) (arg14.view.writes (Elt Ideal) arg14.view.junk (Run.kernelRun.sl.H14_4 (F := Ideal) c arg6 harg6 arg7 harg7 x6 x7)) (arg15.view.writes (Elt Ideal) arg15.view.junk (Run.kernelRun.sl.H15_1 (F := Ideal) c i arg4 harg4 x4)) (arg11.view.writes (Elt Ideal) arg11.view.junk (Run.kernelRun.sl.H11_1 (F := Ideal))) (arg13.view.writes (Elt Ideal) arg13.view.junk (Run.kernelRun.sl.H13_1 (F := Ideal))) e1 e2 e3 e5 e7 (h14 c arg6 harg6 arg7 harg7 arg14 H6 H7 hDR) (h15 c i arg4 harg4 arg15 H4 hFC) (h11 arg11) (h13 arg13)

/-- The gradient of the values. -/
theorem dv_at : At2 (m := 4096) (n := 128) (Run.kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7).2.2.1 (dv h) := by
  have e1 : At2 (m := 4096) (n := 128) (arg1.view.read (Elt Ideal) (harg1.unread x1)) h.Q := by rw [harg1.read_unread]; exact H1
  have e2 : At2 (m := 4096) (n := 128) (arg2.view.read (Elt Ideal) (harg2.unread x2)) h.K := by rw [harg2.read_unread]; exact H2
  have e3 : At2 (m := 4096) (n := 128) (arg3.view.read (Elt Ideal) (harg3.unread x3)) h.V := by rw [harg3.read_unread]; exact H3
  have e5 : At3 (l := 1) (m := 1) (n := 4096) (arg5.view.read (Elt Ideal) (harg5.unread x5)) (fun _ _ q => h.LSE q) := by rw [harg5.read_unread]; exact H5
  have e7 : At2 (m := 4096) (n := 128) (arg7.view.read (Elt Ideal) (harg7.unread x7)) h.DO := by rw [harg7.read_unread]; exact H7
  unfold Run.kernelRun
  exact out_dv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay65 (Run.kernelRun.sl.r (F := Ideal) c arg7 harg7 x7) (harg1.unread x1) (harg2.unread x2) (harg3.unread x3) (harg5.unread x5) (harg7.unread x7) (arg14.view.writes (Elt Ideal) arg14.view.junk (Run.kernelRun.sl.H14_4 (F := Ideal) c arg6 harg6 arg7 harg7 x6 x7)) (arg15.view.writes (Elt Ideal) arg15.view.junk (Run.kernelRun.sl.H15_1 (F := Ideal) c i arg4 harg4 x4)) (arg11.view.writes (Elt Ideal) arg11.view.junk (Run.kernelRun.sl.H11_1 (F := Ideal))) (arg13.view.writes (Elt Ideal) arg13.view.junk (Run.kernelRun.sl.H13_1 (F := Ideal))) e1 e2 e3 e5 e7 (h14 c arg6 harg6 arg7 harg7 arg14 H6 H7 hDR) (h15 c i arg4 harg4 arg15 H4 hFC) (h11 arg11) (h13 arg13)

/-- The row sums. -/
theorem rq_at : At3 (l := 1) (m := 1) (n := 4096) (Run.kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7).2.2.2.1 (fun _ _ q => ∑ t ∈ Finset.range 4096, h.DS q t) := by
  have e1 : At2 (m := 4096) (n := 128) (arg1.view.read (Elt Ideal) (harg1.unread x1)) h.Q := by rw [harg1.read_unread]; exact H1
  have e2 : At2 (m := 4096) (n := 128) (arg2.view.read (Elt Ideal) (harg2.unread x2)) h.K := by rw [harg2.read_unread]; exact H2
  have e3 : At2 (m := 4096) (n := 128) (arg3.view.read (Elt Ideal) (harg3.unread x3)) h.V := by rw [harg3.read_unread]; exact H3
  have e5 : At3 (l := 1) (m := 1) (n := 4096) (arg5.view.read (Elt Ideal) (harg5.unread x5)) (fun _ _ q => h.LSE q) := by rw [harg5.read_unread]; exact H5
  have e7 : At2 (m := 4096) (n := 128) (arg7.view.read (Elt Ideal) (harg7.unread x7)) h.DO := by rw [harg7.read_unread]; exact H7
  unfold Run.kernelRun
  dsimp only
  have e11 := (loop c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay65 (Run.kernelRun.sl.r (F := Ideal) c arg7 harg7 x7) (harg1.unread x1) (harg2.unread x2) (harg3.unread x3) (harg5.unread x5) (harg7.unread x7) (arg14.view.writes (Elt Ideal) arg14.view.junk (Run.kernelRun.sl.H14_4 (F := Ideal) c arg6 harg6 arg7 harg7 x6 x7)) (arg15.view.writes (Elt Ideal) arg15.view.junk (Run.kernelRun.sl.H15_1 (F := Ideal) c i arg4 harg4 x4)) (arg11.view.writes (Elt Ideal) arg11.view.junk (Run.kernelRun.sl.H11_1 (F := Ideal))) (arg13.view.writes (Elt Ideal) arg13.view.junk (Run.kernelRun.sl.H13_1 (F := Ideal))) e1 e2 e3 e5 e7 (h14 c arg6 harg6 arg7 harg7 arg14 H6 H7 hDR) (h15 c i arg4 harg4 arg15 H4 hFC) (h11 arg11) (h13 arg13) k0_t1_loop.trips le_rfl).1
  rw [← View.writes_append] at e11
  refine At3.congr e11 fun _ _ q _ _ _ => ?_
  rw [zero_add, trips_eq]

/-- The column sums. -/
theorem rk_at : At3 (l := 1) (m := 1) (n := 4096) (Run.kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7).2.2.2.2.1 (fun _ _ r => rk h r) := by
  have e1 : At2 (m := 4096) (n := 128) (arg1.view.read (Elt Ideal) (harg1.unread x1)) h.Q := by rw [harg1.read_unread]; exact H1
  have e2 : At2 (m := 4096) (n := 128) (arg2.view.read (Elt Ideal) (harg2.unread x2)) h.K := by rw [harg2.read_unread]; exact H2
  have e3 : At2 (m := 4096) (n := 128) (arg3.view.read (Elt Ideal) (harg3.unread x3)) h.V := by rw [harg3.read_unread]; exact H3
  have e5 : At3 (l := 1) (m := 1) (n := 4096) (arg5.view.read (Elt Ideal) (harg5.unread x5)) (fun _ _ q => h.LSE q) := by rw [harg5.read_unread]; exact H5
  have e7 : At2 (m := 4096) (n := 128) (arg7.view.read (Elt Ideal) (harg7.unread x7)) h.DO := by rw [harg7.read_unread]; exact H7
  unfold Run.kernelRun
  exact out_rk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay65 (Run.kernelRun.sl.r (F := Ideal) c arg7 harg7 x7) (harg1.unread x1) (harg2.unread x2) (harg3.unread x3) (harg5.unread x5) (harg7.unread x7) (arg14.view.writes (Elt Ideal) arg14.view.junk (Run.kernelRun.sl.H14_4 (F := Ideal) c arg6 harg6 arg7 harg7 x6 x7)) (arg15.view.writes (Elt Ideal) arg15.view.junk (Run.kernelRun.sl.H15_1 (F := Ideal) c i arg4 harg4 x4)) (arg11.view.writes (Elt Ideal) arg11.view.junk (Run.kernelRun.sl.H11_1 (F := Ideal))) (arg13.view.writes (Elt Ideal) arg13.view.junk (Run.kernelRun.sl.H13_1 (F := Ideal))) e1 e2 e3 e5 e7 (h14 c arg6 harg6 arg7 harg7 arg14 H6 H7 hDR) (h15 c i arg4 harg4 arg15 H4 hFC) (h11 arg11) (h13 arg13)

end Cert.FoxIdeal.Out

end
-- ==== Proof.FoxHost.lean ====
/- What the host hands the attention's gradient: the forward call's log-sum-exp and output, and the padded column of
   the decay sums, each as an expression of the two arguments it is computed from. -/
module

public import proofs.«01_k».proof.Proof.FoxFrame
public import Idealize.ShloMosaic.Lib.StableHlo.Run

@[expose] public section

set_option maxRecDepth 16384

noncomputable section

namespace Cert.FoxIdeal.Host

open Idealize.ShloMosaic Idealize.ShloMosaic.TcCoe Idealize.ShloMosaic.StableHlo
open Cert.FoxIdeal Cert.FoxIdeal.Gen

variable {F : FTy → Type} [FloatOps F]

/-- One of the three projections, by heads: the columns from `o` on. -/
def heads (z : FVec F S4096x6144 .bf16) (off : Fin 2 → ℕ) (h : S4096x6144.Slices off S4096x2048) : FVec F S16x4096x128 .f32 :=
  transpose S16x4096x128 [1, 0, 2] (shapeCast S4096x16x128 (extractStridedSlice S4096x2048 off (extf .f32 z bitsLt_bf16_f32) h) shapeCasts_S4096x2048_S4096x16x128) transposes_S4096x16x128_S16x4096x128_1_0_2

def qH (z : FVec F S4096x6144 .bf16) := heads z ![0, 0] slices_S4096x6144_S4096x2048_0_0
def kH (z : FVec F S4096x6144 .bf16) := heads z ![0, 2048] slices_S4096x6144_S4096x2048_0_2048
def vH (z : FVec F S4096x6144 .bf16) := heads z ![0, 4096] slices_S4096x6144_S4096x2048_0_4096

/-- The scores before the mask. -/
def sc (z : FVec F S4096x6144 .bf16) (fc : FVec F S4096x16 .f32) : FVec F S16x4096x4096 .f32 :=
  subf (mulf (Host.dotGeneral dot_S16x4096x128_S16x4096x128_S16x4096x4096_2_2_1_1_0_0 none (qH z) (kH z))
      (broadcastInDim S16x4096x4096 ![] bcast_S_S16x4096x4096 (constant S_ .f32 0x3DB504F3#32)))
    (broadcastInDim S16x4096x4096 ![0, 1, 2] bcast_S16x1x4096_S16x4096x4096_0_1_2
      (broadcastInDim S16x1x4096 ![0, 2] bcast_S16x4096_S16x1x4096_0_2 (transpose S16x4096 [1, 0] fc transposes_S4096x16_S16x4096_1_0)))

/-- Which key precedes which query. -/
def mask : IVec S16x4096x4096 1 :=
  broadcastInDim S16x4096x4096 ![1, 2] bcast_S4096x4096_S16x4096x4096_1_2
    (cmpi .sge (broadcastInDim S4096x4096 ![0, 1] bcast_S4096x1_S4096x4096_0_1 (broadcastInDim S4096x1 ![0] bcast_S4096_S4096x1_0 (iotaInDim S4096 32 0)))
      (broadcastInDim S4096x4096 ![0, 1] bcast_S1x4096_S4096x4096_0_1 (broadcastInDim S1x4096 ![1] bcast_S4096_S1x4096_1 (iotaInDim S4096 32 0))))

/-- The masked scores. -/
def ms (z : FVec F S4096x6144 .bf16) (fc : FVec F S4096x16 .f32) : FVec F S16x4096x4096 .f32 :=
  select mask (sc z fc) (broadcastInDim S16x4096x4096 ![] bcast_S_S16x4096x4096 (constant S_ .f32 0xFF800000#32))

/-- Each row's greatest score. -/
def mx (z : FVec F S4096x6144 .bf16) (fc : FVec F S4096x16 .f32) : FVec F S16x4096 .f32 :=
  Host.reduce FloatOps.maximumf (ms z fc) (constant S_ .f32 0xFF800000#32) reducesTo_S16x4096x4096_S16x4096_d2 h_S_

/-- The exponentials, and their sum over each row. -/
def ex (z : FVec F S4096x6144 .bf16) (fc : FVec F S4096x16 .f32) : FVec F S16x4096x4096 .f32 :=
  Host.exp (subf (ms z fc) (broadcastInDim S16x4096x4096 ![0, 1, 2] bcast_S16x4096x1_S16x4096x4096_0_1_2 (broadcastInDim S16x4096x1 ![0, 1] bcast_S16x4096_S16x4096x1_0_1 (mx z fc))))
def sm (z : FVec F S4096x6144 .bf16) (fc : FVec F S4096x16 .f32) : FVec F S16x4096 .f32 :=
  Host.reduceAdd (ex z fc) (constant S_ .f32 0x00000000#32) reducesTo_S16x4096x4096_S16x4096_d2 h_S_

/-- The log-sum-exp of each row. -/
def lse (z : FVec F S4096x6144 .bf16) (fc : FVec F S4096x16 .f32) : FVec F S16x1x4096 .f32 :=
  shapeCast S16x1x4096 (addf (broadcastInDim S16x4096x1 ![0, 1] bcast_S16x4096_S16x4096x1_0_1 (mx z fc))
    (Host.log (broadcastInDim S16x4096x1 ![0, 1] bcast_S16x4096_S16x4096x1_0_1 (sm z fc)))) shapeCasts_S16x4096x1_S16x1x4096

/-- The attention's output. -/
def ov (z : FVec F S4096x6144 .bf16) (fc : FVec F S4096x16 .f32) : FVec F S4096x2048 .bf16 :=
  truncf .bf16 (shapeCast S4096x2048 (transpose S4096x16x128 [1, 0, 2]
    (Host.dotGeneral dot_S16x4096x4096_S16x4096x128_S16x4096x128_2_1_1_2_0_0 none
      (Host.divf (ex z fc) (broadcastInDim S16x4096x4096 ![0, 1, 2] bcast_S16x4096x1_S16x4096x4096_0_1_2 (broadcastInDim S16x4096x1 ![0, 1] bcast_S16x4096_S16x4096x1_0_1 (sm z fc))))
      (vH z)) transposes_S16x4096x128_S4096x16x128_1_0_2) shapeCasts_S4096x16x128_S4096x2048) bitsLt_bf16_f32

/-- The decay sums, padded to whole lanes. -/
def fcol (fc : FVec F S4096x16 .f32) : FVec F S4096x128 .f32 :=
  pad S4096x128 ![0, 0] ![0, 112] ![0, 0] fc (sitofp .f32 (constantI S_ 32 0#32)) pads_S4096x16_S4096x128_000_01120 h_S_

variable (m : (ℓ : Loc nD τ sig) → Buf (Elt F) ℓ)

set_option maxHeartbeats 4000000 in
theorem V_fcol (c : Dev nD) : V m c main_v44 = fcol (m ((c : Thread nD τ).loc main_arg1)) := by
  unfold V
  simp only [hostOps0, hostOps0_1, hostOps0_2, hostOps0_3, List.flatten_cons, List.flatten_nil, List.append_nil, List.cons_append, List.nil_append, TRef.nullary, TRef.ternary, TRef.unary, TRef.binary, TRef.toBuf, TRef.ofBuf, cast_eq]
  after_results_simp <;> rfl

set_option maxHeartbeats 4000000 in
theorem V_lse (c : Dev nD) : V m c main_v34 = lse (m ((c : Thread nD τ).loc main_arg0)) (m ((c : Thread nD τ).loc main_arg1)) := by
  unfold V
  simp only [hostOps0, hostOps0_1, hostOps0_2, hostOps0_3, List.flatten_cons, List.flatten_nil, List.append_nil, List.cons_append, List.nil_append, TRef.nullary, TRef.ternary, TRef.unary, TRef.binary, TRef.toBuf, TRef.ofBuf, cast_eq]
  after_results_simp <;> rfl

set_option maxHeartbeats 4000000 in
theorem V_ov (c : Dev nD) : V m c main_v43 = ov (m ((c : Thread nD τ).loc main_arg0)) (m ((c : Thread nD τ).loc main_arg1)) := by
  unfold V
  simp only [hostOps0, hostOps0_1, hostOps0_2, hostOps0_3, List.flatten_cons, List.flatten_nil, List.append_nil, List.cons_append, List.nil_append, TRef.nullary, TRef.ternary, TRef.unary, TRef.binary, TRef.toBuf, TRef.ofBuf, cast_eq]
  after_results_simp <;> rfl

end Cert.FoxIdeal.Host
end
-- ==== Proof.FoxMath.lean ====
/- The causal attention of one head over the real numbers: the scores, the softmax sums and weights, and how a row of
   masked extended reals is read as them whatever real number is taken off first. -/
module

public import proofs.«01_k».proof.Proof.FoxPay

@[expose] public section

noncomputable section

namespace Cert.FoxMath

open Idealize.ShloMosaic Cert.FoxIdeal.Pay
open scoped BigOperators

/-- The sum of the exponentials of a row of scores up to the row's own position. -/
def Zr (s : ℕ → ℝ) (q : ℕ) : ℝ := ∑ k ∈ Finset.range 4096, if k ≤ q then Real.exp (s k) else 0
/-- The softmax weight. -/
def Wr (s : ℕ → ℝ) (q k : ℕ) : ℝ := (if k ≤ q then Real.exp (s k) else 0) / Zr s q

theorem Zr_pos (s : ℕ → ℝ) (q : ℕ) : 0 < Zr s q := by
  refine Finset.sum_pos' (fun k _ => ?_) ⟨0, Finset.mem_range.2 (by norm_num), ?_⟩
  · split
    · exact (Real.exp_pos _).le
    · exact le_refl _
  · rw [if_pos (Nat.zero_le q)]; exact Real.exp_pos _

theorem Zr_shift (s : ℕ → ℝ) (c : ℝ) (q : ℕ) : Zr (fun k => s k + c) q = Zr s q * Real.exp c := by
  unfold Zr; rw [Finset.sum_mul]
  refine Finset.sum_congr rfl fun k _ => ?_
  split
  · rw [Real.exp_add]
  · rw [zero_mul]

theorem Wr_shift (s : ℕ → ℝ) (c : ℝ) (q k : ℕ) : Wr (fun k => s k + c) q k = Wr s q k := by
  unfold Wr; rw [Zr_shift]
  have hz := (Zr_pos s q).ne'
  have he := (Real.exp_pos c).ne'
  split
  · rw [Real.exp_add]; field_simp
  · rw [zero_div, zero_div]

theorem Wr_log (s : ℕ → ℝ) (q k : ℕ) : (if k ≤ q then Real.exp (s k - Real.log (Zr s q)) else 0) = Wr s q k := by
  unfold Wr
  split
  · rw [Real.exp_sub, Real.exp_log (Zr_pos s q)]
  · rw [zero_div]

/-- The fold of `max` over values below `⊤`, one of them above `⊥`, is a real number. -/
theorem max_real {n : ℕ} (x : Fin n → EReal) (ht : ∀ k, x k < ⊤) (k0 : Fin n) (h0 : ⊥ < x k0) :
    ∃ M : ℝ, Finset.univ.fold max ⊥ x = (M : EReal) := by
  have h1 : Finset.univ.fold max ⊥ x < ⊤ := (Finset.fold_max_lt _).2 ⟨bot_lt_top, fun k _ => ht k⟩
  have h2 : ⊥ < Finset.univ.fold max ⊥ x := (Finset.lt_fold_max _).2 (Or.inr ⟨k0, Finset.mem_univ _, h0⟩)
  exact ⟨_, (EReal.coe_toReal h1.ne h2.ne').symm⟩

/-- A row of scores, those after the row's own position masked. -/
def Row (x : Fin 4096 → EReal) (s : ℕ → ℝ) (q : ℕ) : Prop := ∀ k, x k = if k.val ≤ q then ((s k.val : ℝ) : EReal) else ⊥

theorem Row.max {x : Fin 4096 → EReal} {s : ℕ → ℝ} {q : ℕ} (h : Row x s q) : ∃ M : ℝ, Finset.univ.fold max ⊥ x = (M : EReal) := by
  refine max_real x (fun k => ?_) ⟨0, by norm_num⟩ ?_
  · rw [h k]; split
    · exact EReal.coe_lt_top _
    · exact bot_lt_top
  · rw [h ⟨0, by norm_num⟩, if_pos (Nat.zero_le q)]; exact EReal.bot_lt_coe _

theorem Row.exp {x : Fin 4096 → EReal} {s : ℕ → ℝ} {q : ℕ} (h : Row x s q) (M : ℝ) (k : Fin 4096) :
    Ideal.exp (x k - (M : EReal)) = (((if k.val ≤ q then Real.exp (s k.val + -M) else 0 : ℝ)) : EReal) := by
  rw [h k]; split
  · rw [← EReal.coe_sub, Ideal.exp_coe, sub_eq_add_neg]
  · simp

theorem Row.sum {s : ℕ → ℝ} {q : ℕ} (M : ℝ) {y : Fin 4096 → EReal}
    (hy : ∀ k : Fin 4096, y k = (((if k.val ≤ q then Real.exp (s k.val + -M) else 0 : ℝ)) : EReal)) :
    ∑ k, y k = ((Zr (fun k => s k + -M) q : ℝ) : EReal) := by
  unfold Zr
  refine Eq.trans ?_ (Cert.FoxOps.coe_range 4096 _).symm
  exact Finset.sum_congr rfl fun k _ => hy k

/-- Selecting by "the key does not come after the query". -/
theorem sel_ge {α : Type} (q k : Fin 4096) (x y : α) :
    Scalar.select (IntOp.cmpi .sge (BitVec.ofNat 32 q.val) (BitVec.ofNat 32 k.val)) x y = if k.val ≤ q.val then x else y := by
  have hr := q.isLt
  have hc := k.isLt
  have e1 : (BitVec.ofNat 32 q.val).toInt = q.val := by rw [BitVec.toInt_eq_toNat_of_lt] <;> simp <;> omega
  have e2 : (BitVec.ofNat 32 k.val).toInt = k.val := by rw [BitVec.toInt_eq_toNat_of_lt] <;> simp <;> omega
  unfold Scalar.select
  have hc : IntOp.cmpi .sge (BitVec.ofNat 32 q.val) (BitVec.ofNat 32 k.val) = 1#1 ↔ k.val ≤ q.val := by
    simp only [IntOp.cmpi, BitVec.sle, e1, e2, Nat.cast_le]
    by_cases h : k.val ≤ q.val <;> simp [h]
  by_cases h : k.val ≤ q.val
  · rw [if_pos h]; exact if_pos (hc.2 h)
  · rw [if_neg h]; exact if_neg fun h' => h (hc.1 h')

/- The head `h` of the arrays: the projections `a`, the decay sums `g`, the output's cotangent `b`. -/
variable (a g b : ℕ → ℕ → ℝ) (h : ℕ)

/-- The score of a query and a key without the query's own decay. -/
def S (q k : ℕ) : ℝ := (∑ d ∈ Finset.range 128, a q (128 * h + d) * a k (2048 + (128 * h + d))) * sg - g k h
/-- The attention's output. -/
def O (q d : ℕ) : ℝ := ∑ k ∈ Finset.range 4096, Wr (S a g h q) q k * a k (4096 + (128 * h + d))

/-- What the head's gradient reads. -/
def hd : Hd where
  Q q d := a q (128 * h + d)
  K k d := a k (2048 + (128 * h + d))
  V k d := a k (4096 + (128 * h + d))
  DO q d := b q (128 * h + d)
  FC k := g k h
  LSE q := Real.log (Zr (S a g h q) q)
  DR q := ∑ d ∈ Finset.range 128, b q (128 * h + d) * O a g h q d

theorem hd_SC (q k : ℕ) : (hd a g b h).SC q k = S a g h q k := by
  unfold Hd.SC S hd
  exact congrArg (fun z => z * sg - g k h) (Finset.sum_congr rfl fun d _ => mul_comm _ _)

theorem hd_P (q k : ℕ) : (hd a g b h).P q k = Wr (S a g h q) q k := by
  unfold Hd.P; rw [hd_SC]; exact Wr_log _ q k

/-- The output's inner product with its cotangent is the weights' with theirs. -/
theorem hd_DR (q : ℕ) : (hd a g b h).DR q = ∑ k ∈ Finset.range 4096, Wr (S a g h q) q k * (hd a g b h).DP q k := by
  show ∑ d ∈ Finset.range 128, b q (128 * h + d) * O a g h q d = _
  unfold O Hd.DP
  simp only [Finset.mul_sum]
  rw [Finset.sum_comm]
  refine Finset.sum_congr rfl fun k _ => Finset.sum_congr rfl fun d _ => ?_
  show b q (128 * h + d) * (Wr (S a g h q) q k * a k (4096 + (128 * h + d))) = Wr (S a g h q) q k * (a k (4096 + (128 * h + d)) * b q (128 * h + d))
  ring

theorem hd_DS (q k : ℕ) : (hd a g b h).DS q k
    = Wr (S a g h q) q k * ((hd a g b h).DP q k - ∑ j ∈ Finset.range 4096, Wr (S a g h q) q j * (hd a g b h).DP q j) := by
  unfold Hd.DS; rw [hd_P, hd_DR]

end Cert.FoxMath
end
-- ==== Proof.FoxHostValue.lean ====
/- The arrays the host hands the attention's gradient, read as real numbers. -/
module

public import proofs.«01_k».proof.Proof.FoxHost
public import proofs.«01_k».proof.Proof.FoxMath
public import Idealize.ShloMosaic.Lib.Pointwise

@[expose] public section

set_option maxRecDepth 16384

noncomputable section

namespace Cert.FoxIdeal.Host

open Idealize.ShloMosaic
open Cert.FoxIdeal Cert.FoxIdeal.Gen Cert.FoxOps Cert.FoxIdeal.Pay Cert.FoxMath

variable {z : FVec Ideal S4096x6144 .bf16} {fc : FVec Ideal S4096x16 .f32} {a g : ℕ → ℕ → ℝ}

/-- An element of an array of reals, its coordinates given. -/
theorem at2 {m n : ℕ} {x : (⟨2, ![m, n]⟩ : Shape).Idx → EReal} {f : ℕ → ℕ → ℝ} (h : At2 x f) (r : Fin m) (c : Fin n) {p q : ℕ}
    (e0 : r.val = p) (e1 : c.val = q) : x (ix2 r c) = ((f p q : ℝ) : EReal) := by
  subst e0; subst e1; rw [ix2_eq_valueIdx]; exact h r c
theorem at3 {l m n : ℕ} {x : (⟨3, ![l, m, n]⟩ : Shape).Idx → EReal} {f : ℕ → ℕ → ℕ → ℝ} (h : At3 x f) (s : Fin l) (r : Fin m) (c : Fin n)
    {o p q : ℕ} (e : s.val = o) (e0 : r.val = p) (e1 : c.val = q) : x (ix3 s r c) = ((f o p q : ℝ) : EReal) := by
  subst e; subst e0; subst e1; rw [ix3_eq_valueIdx]; exact h s r c

theorem qH_at (hz : At2 z a) : At3 (qH z) fun h q d => a q (128 * h + d) := fun h q d => by
  pointwise [qH, heads]
  exact at2 hz _ _ rfl (by show h.val * 128 + d.val = _; omega)
theorem kH_at (hz : At2 z a) : At3 (kH z) fun h q d => a q (2048 + (128 * h + d)) := fun h q d => by
  pointwise [kH, heads]
  exact at2 hz _ _ rfl (by show 2048 + (h.val * 128 + d.val) = _; omega)
theorem vH_at (hz : At2 z a) : At3 (vH z) fun h q d => a q (4096 + (128 * h + d)) := fun h q d => by
  pointwise [vH, heads]
  exact at2 hz _ _ rfl (by show 4096 + (h.val * 128 + d.val) = _; omega)

theorem sc_at (hz : At2 z a) (hf : At2 fc g) : At3 (sc z fc) fun h q k => S a g h q k := fun h q k => by
  pointwise [sc]
  rw [at2 hf _ _ (p := k.val) (q := h.val) rfl rfl]
  have e : Ideal.ofBits FTy.f32 1035273459#32 = (sg : EReal) := sg_eq
  rw [e]
  have hs : (∑ d : Fin 128, qH z (ix3 h q d) * kH z (ix3 h k d)) = ((∑ d ∈ Finset.range 128, a q (128 * h + d) * a k (2048 + (128 * h + d)) : ℝ) : EReal) := by
    refine Eq.trans ?_ (coe_range 128 _).symm
    refine Finset.sum_congr rfl fun d _ => ?_
    rw [at3 (qH_at hz) h q d rfl rfl rfl, at3 (kH_at hz) h k d rfl rfl rfl, EReal.coe_mul]
  refine (congrArg (fun x : EReal => x * (sg : EReal) - (g k.val h.val : EReal)) hs).trans ?_
  unfold S
  rw [EReal.coe_sub, EReal.coe_mul]

theorem ms_row (hz : At2 z a) (hf : At2 fc g) (h : Fin 16) (q : Fin 4096) :
    Row (fun k => ms z fc (ix3 h q k)) (S a g h q) q := fun k => by
  pointwise [ms, mask]
  rw [Cert.Reals.ofBits_neg_inf_f32]
  refine (sel_ge q k _ _).trans ?_
  rw [at3 (sc_at hz hf) h q k rfl rfl rfl]

theorem mx_real (hz : At2 z a) (hf : At2 fc g) (h : Fin 16) (q : Fin 4096) : ∃ M : ℝ, mx z fc (ix2 h q) = (M : EReal) := by
  obtain ⟨M, hM⟩ := (ms_row hz hf h q).max
  refine ⟨M, ?_⟩
  pointwise [mx]
  rw [Cert.Reals.ofBits_neg_inf_f32]
  exact hM

theorem ex_at (hz : At2 z a) (hf : At2 fc g) (h : Fin 16) (q : Fin 4096) {M : ℝ} (hM : mx z fc (ix2 h q) = (M : EReal)) (k : Fin 4096) :
    ex z fc (ix3 h q k) = (((if k.val ≤ q.val then Real.exp (S a g h q k + -M) else 0 : ℝ)) : EReal) := by
  pointwise [ex]
  refine Eq.trans ?_ ((ms_row hz hf h q).exp M k)
  rw [← hM]

theorem sm_at (hz : At2 z a) (hf : At2 fc g) (h : Fin 16) (q : Fin 4096) {M : ℝ} (hM : mx z fc (ix2 h q) = (M : EReal)) :
    sm z fc (ix2 h q) = ((Zr (fun k => S a g h q k + -M) q : ℝ) : EReal) := by
  pointwise [sm]
  exact Row.sum (q := q) M fun k => ex_at hz hf h q hM k

theorem bc1 (y : FVec Ideal S16x4096 .f32) (h : Fin 16) (q : Fin 4096) (u : Fin 1) :
    broadcastInDim S16x4096x1 ![0, 1] bcast_S16x4096_S16x4096x1_0_1 y (ValueIdx.ix3 h q u) = y (ix2 h q) := by
  rw [ix2_eq_valueIdx]
  exact broadcastInDim_apply _ bcast_S16x4096_S16x4096x1_0_1 y _ (ValueIdx.ix2 h q) fun a => match a with
    | ⟨0, _⟩ => by show h.val = if (16 : Nat) = 1 then 0 else h.val; rw [if_neg (by decide)]
    | ⟨1, _⟩ => by show q.val = if (4096 : Nat) = 1 then 0 else q.val; rw [if_neg (by decide)]

theorem cast31 (y : FVec Ideal S16x4096x1 .f32) (h : Fin 16) (q : Fin 4096) (u : Fin 1) :
    shapeCast S16x1x4096 y shapeCasts_S16x4096x1_S16x1x4096 (ValueIdx.ix3 h u q) = y (ValueIdx.ix3 h q u) := by
  refine shapeCast_apply y shapeCasts_S16x4096x1_S16x1x4096 (ValueIdx.ix3 h u q) (ValueIdx.ix3 h q u) ?_
  rw [Shape.rowMajor_val_three, Shape.rowMajor_val_three]
  show (h.val * 4096 + q.val) * 1 + u.val = (h.val * 1 + u.val) * 4096 + q.val
  omega

theorem log_shift (s : ℕ → ℝ) (q : ℕ) (M : ℝ) : (M : EReal) + Ideal.log ((Zr (fun k => s k + -M) q : ℝ) : EReal) = ((Real.log (Zr s q) : ℝ) : EReal) := by
  have hp := Zr_pos (fun k => s k + -M) q
  rw [Ideal.log_coe, if_neg (not_le.2 hp), ← EReal.coe_add, Zr_shift, Real.log_mul (Zr_pos _ _).ne' (Real.exp_pos _).ne', Real.log_exp]
  have e3 : ∀ x : ℝ, M + (x + -M) = x := fun x => by ring
  rw [e3]

theorem add_log (x y : FVec Ideal S16x4096x1 .f32) (i : S16x4096x1.Idx) : addf x (Host.log y) i = x i + Ideal.log (y i) := rfl

theorem lse_at (hz : At2 z a) (hf : At2 fc g) : At3 (lse z fc) fun h _ q => Real.log (Zr (S a g h q) q) := fun h u q => by
  obtain ⟨M, hM⟩ := mx_real hz hf h q
  have hS := sm_at hz hf h q hM
  unfold lse
  generalize mx z fc = X at hM ⊢
  generalize sm z fc = Y at hS ⊢
  rw [cast31 _ h q u, add_log, bc1, bc1, hM, hS]
  exact log_shift _ _ _

theorem ov_at (hz : At2 z a) (hf : At2 fc g) : At2 (ov z fc) fun q e => O a g (e / 128) q (e % 128) := fun q e => by
  have he := e.isLt
  have hh : e.val / 128 < 16 := by omega
  obtain ⟨M, hM⟩ := mx_real hz hf ⟨e.val / 128, hh⟩ q
  pointwise [ov]
  unfold O
  refine Eq.trans ?_ (coe_range 4096 _).symm
  refine Finset.sum_congr rfl fun k _ => ?_
  have e1 := ex_at hz hf ⟨e.val / 128, hh⟩ q hM k
  have e2 := sm_at hz hf ⟨e.val / 128, hh⟩ q hM
  have e3 := at3 (vH_at hz) ⟨e.val / 128, hh⟩ k ⟨e.val % 128, Nat.mod_lt _ (by norm_num)⟩ rfl rfl rfl
  refine (congrArg₂ (fun x y : EReal => x * y) (congrArg₂ Ideal.div e1 e2) e3).trans ?_
  rw [Ideal.div_coe (Zr_pos _ _).ne', ← EReal.coe_mul, ← EReal.coe_mul, mul_one_div]
  exact congrArg (fun x : ℝ => ((x * a k.val (4096 + (128 * (e.val / 128) + e.val % 128)) : ℝ) : EReal)) (Wr_shift (S a g (e.val / 128) q) (-M) q k)

theorem fcol_at (hf : At2 fc g) : At2 (fcol fc) fun q j => if j < 16 then g q j else 0 := fun q j => by
  pointwise [fcol]
  split
  · rename_i h
    have h : j.val < 16 := h
    refine (at2 hf (p := q.val) (q := j.val) _ _ rfl rfl)
  · rename_i h
    have h : ¬ j.val < 16 := h
    rw [EReal.coe_zero]
    show (((0#32).toInt : ℝ) : EReal) = 0
    simp

end Cert.FoxIdeal.Host
end
-- ==== Proof.FoxValue.lean ====
/- The five results of the attention's gradient as arrays of real numbers: each grid point reads one head's columns and
   writes them, and the sixteen points cover every column. -/
module

public import proofs.«01_k».proof.Proof.FoxOut
public import proofs.«01_k».proof.Proof.FoxHostValue

@[expose] public section

set_option maxRecDepth 16384

noncomputable section

namespace Cert.FoxIdeal.Whole

open Idealize.ShloMosaic Idealize.ShloMosaic.TcCoe
open Idealize.SL.Sem
open Cert.FoxIdeal Cert.FoxIdeal.Gen Cert.FoxIdeal.Pay Cert.FoxOps Cert.FoxIdeal.Run Cert.FoxMath
open scoped BigOperators

/-! ## Where the blocks lie -/

/-- At point `t` a block of columns is the head's own, the decay sums are whole. -/
theorem idx_facts : ∀ t : Fin cfg0.N, ((grid0.coords t) 0).val = t.val
    ∧ (win0_0.index t 0 = 0 ∧ win0_0.index t 1 = t.val) ∧ (win0_1.index t 0 = 0 ∧ win0_1.index t 1 = 16 + t.val)
    ∧ (win0_2.index t 0 = 0 ∧ win0_2.index t 1 = 32 + t.val) ∧ (win0_3.index t 0 = 0 ∧ win0_3.index t 1 = 0)
    ∧ (win0_4.index t 0 = t.val ∧ win0_4.index t 1 = 0 ∧ win0_4.index t 2 = 0)
    ∧ (win0_5.index t 0 = 0 ∧ win0_5.index t 1 = t.val) ∧ (win0_6.index t 0 = 0 ∧ win0_6.index t 1 = t.val)
    ∧ (win0_7.index t 0 = 0 ∧ win0_7.index t 1 = t.val) ∧ (win0_8.index t 0 = 0 ∧ win0_8.index t 1 = t.val)
    ∧ (win0_9.index t 0 = 0 ∧ win0_9.index t 1 = t.val)
    ∧ (win0_10.index t 0 = t.val ∧ win0_10.index t 1 = 0 ∧ win0_10.index t 2 = 0)
    ∧ (win0_11.index t 0 = t.val ∧ win0_11.index t 1 = 0 ∧ win0_11.index t 2 = 0) :=
  (by decide +kernel : ∀ t : Fin grid0.N, ((grid0.coords t) 0).val = t.val
    ∧ (win0_0.index t 0 = 0 ∧ win0_0.index t 1 = t.val) ∧ (win0_1.index t 0 = 0 ∧ win0_1.index t 1 = 16 + t.val)
    ∧ (win0_2.index t 0 = 0 ∧ win0_2.index t 1 = 32 + t.val) ∧ (win0_3.index t 0 = 0 ∧ win0_3.index t 1 = 0)
    ∧ (win0_4.index t 0 = t.val ∧ win0_4.index t 1 = 0 ∧ win0_4.index t 2 = 0)
    ∧ (win0_5.index t 0 = 0 ∧ win0_5.index t 1 = t.val) ∧ (win0_6.index t 0 = 0 ∧ win0_6.index t 1 = t.val)
    ∧ (win0_7.index t 0 = 0 ∧ win0_7.index t 1 = t.val) ∧ (win0_8.index t 0 = 0 ∧ win0_8.index t 1 = t.val)
    ∧ (win0_9.index t 0 = 0 ∧ win0_9.index t 1 = t.val)
    ∧ (win0_10.index t 0 = t.val ∧ win0_10.index t 1 = 0 ∧ win0_10.index t 2 = 0)
    ∧ (win0_11.index t 0 = t.val ∧ win0_11.index t 1 = 0 ∧ win0_11.index t 2 = 0))

theorem lt16 (t : Fin cfg0.N) : t.val < 16 := lt_of_lt_of_eq t.isLt N_0

/-- Reading an array of reals of two axes through a map of indices that moves along the columns. -/
theorem col_at {N : ℕ} {x : (⟨2, ![4096, N]⟩ : Shape).Idx → EReal} {f : ℕ → ℕ → ℝ} (hx : At2 x f) {o : ℕ}
    {y : (⟨2, ![4096, 128]⟩ : Shape).Idx → EReal} (j : (⟨2, ![4096, 128]⟩ : Shape).Idx → (⟨2, ![4096, N]⟩ : Shape).Idx)
    (hy : ∀ i, y i = x (j i)) (h0 : ∀ i, (j i 0).val = (i 0).val) (h1 : ∀ i, (j i 1).val = o + (i 1).val) :
    At2 y (fun r c => f r (o + c)) := fun r c => by
  rw [hy, ValueIdx.eq_ix2 (j (ValueIdx.ix2 r c))]
  refine (hx _ _).trans ?_
  rw [h0, h1]

/-- The same of three axes, along the first. -/
theorem row_at {x : (⟨3, ![16, 1, 4096]⟩ : Shape).Idx → EReal} {f : ℕ → ℕ → ℕ → ℝ} (hx : At3 x f) {o : ℕ}
    {y : (⟨3, ![1, 1, 4096]⟩ : Shape).Idx → EReal} (j : (⟨3, ![1, 1, 4096]⟩ : Shape).Idx → (⟨3, ![16, 1, 4096]⟩ : Shape).Idx)
    (hy : ∀ i, y i = x (j i)) (h0 : ∀ i, (j i 0).val = o) (h1 : ∀ i, (j i 1).val = 0) (h2 : ∀ i, (j i 2).val = (i 2).val) :
    At3 y (fun _ _ c => f o 0 c) := fun s r c => by
  rw [hy, ValueIdx.eq_ix3 (j (ValueIdx.ix3 s r c))]
  refine (hx _ _ _).trans ?_
  rw [h0, h1, h2]

variable (m : (ℓ : Loc nD τ sig) → Buf (Elt Ideal) ℓ) (ρ : Dev nD → PrngReg) (c : Dev nD)
variable {a g b : ℕ → ℕ → ℝ}
  (hz : At2 (m := 4096) (n := 6144) (m ((c : Thread nD τ).loc main_arg0)) a)
  (hf : At2 (m := 4096) (n := 16) (m ((c : Thread nD τ).loc main_arg1)) g)
  (hb : At2 (m := 4096) (n := 2048) (m ((c : Thread nD τ).loc main_arg2)) b)

/-! ## What a grid point reads -/

section Inputs
variable (t : Fin cfg0.N)

include hz in
theorem iblk0_at : At2 (m := 4096) (n := 128) (iblk m c 0 t) (hd a g b t.val).Q := by
  have h := (idx_facts t).2.1
  refine (col_at (o := 128 * t.val) hz (fun i => (win0_0.blk t).view.emb i) (fun i => ?_) (fun i => ?_) (fun i => ?_))
  · unfold iblk; rw [View.read_apply]; show V m c main_arg0 _ = _; rw [V_main_arg0]
  · show win0_0.index t 0 * 4096 + 1 * (i 0).val = _; rw [h.1]; omega
  · show win0_0.index t 1 * 128 + 1 * (i 1).val = _; rw [h.2]; omega

include hz in
theorem iblk1_at : At2 (m := 4096) (n := 128) (iblk m c 1 t) (hd a g b t.val).K := by
  have h := (idx_facts t).2.2.1
  refine At2.congr (col_at (o := 2048 + 128 * t.val) hz (fun i => (win0_1.blk t).view.emb i) (fun i => ?_) (fun i => ?_) (fun i => ?_)) fun r e _ _ => ?_
  · unfold iblk; rw [View.read_apply]; show V m c main_arg0 _ = _; rw [V_main_arg0]
  · show win0_1.index t 0 * 4096 + 1 * (i 0).val = _; rw [h.1]; omega
  · show win0_1.index t 1 * 128 + 1 * (i 1).val = _; rw [h.2]; omega
  · show _ = a r (2048 + (128 * t.val + e)); rw [Nat.add_assoc]

include hz in
theorem iblk2_at : At2 (m := 4096) (n := 128) (iblk m c 2 t) (hd a g b t.val).V := by
  have h := (idx_facts t).2.2.2.1
  refine At2.congr (col_at (o := 4096 + 128 * t.val) hz (fun i => (win0_2.blk t).view.emb i) (fun i => ?_) (fun i => ?_) (fun i => ?_)) fun r e _ _ => ?_
  · unfold iblk; rw [View.read_apply]; show V m c main_arg0 _ = _; rw [V_main_arg0]
  · show win0_2.index t 0 * 4096 + 1 * (i 0).val = _; rw [h.1]; omega
  · show win0_2.index t 1 * 128 + 1 * (i 1).val = _; rw [h.2]; omega
  · show _ = a r (4096 + (128 * t.val + e)); rw [Nat.add_assoc]

include hf in
theorem iblk3_at : At2 (m := 4096) (n := 128) (iblk m c 3 t) (fun q j => if j < 16 then g q j else 0) := by
  have h := (idx_facts t).2.2.2.2.1
  refine At2.congr (col_at (o := 0) (Host.fcol_at hf) (fun i => (win0_3.blk t).view.emb i) (fun i => ?_) (fun i => ?_) (fun i => ?_)) fun r e _ _ => ?_
  · unfold iblk; rw [View.read_apply, cast_eq]; exact congrFun (Host.V_fcol m c) _
  · show win0_3.index t 0 * 4096 + 1 * (i 0).val = _; rw [h.1]; omega
  · show win0_3.index t 1 * 128 + 1 * (i 1).val = _; rw [h.2]; omega
  · rw [Nat.zero_add]

include hz hf in
theorem iblk4_at : At3 (l := 1) (m := 1) (n := 4096) (iblk m c 4 t) (fun _ _ q => (hd a g b t.val).LSE q) := by
  have h := (idx_facts t).2.2.2.2.2.1
  have hL : ∀ q, (hd a g b t.val).LSE q = Real.log (Zr (S a g t.val q) q) := fun q => rfl
  simp only [hL]
  refine (row_at (o := t.val) (f := fun h _ q => Real.log (Zr (S a g h q) q)) (Host.lse_at hz hf) (fun i => (win0_4.blk t).view.emb i) (fun i => ?_) (fun i => ?_) (fun i => ?_) (fun i => ?_))
  · unfold iblk; rw [View.read_apply, cast_eq]; exact congrFun (Host.V_lse m c) _
  · have h0 : (i 0).val < 1 := (i 0).isLt
    show win0_4.index t 0 * 1 + 1 * (i 0).val = _; rw [h.1]; omega
  · have h0 : (i 1).val < 1 := (i 1).isLt
    show win0_4.index t 1 * 1 + 1 * (i 1).val = _; rw [h.2.1]; omega
  · show win0_4.index t 2 * 4096 + 1 * (i 2).val = _; rw [h.2.2]; omega

include hz hf in
theorem iblk5_at : At2 (m := 4096) (n := 128) (iblk m c 5 t) (fun q e => O a g t.val q e) := by
  have h := (idx_facts t).2.2.2.2.2.2.1
  refine At2.congr (col_at (o := 128 * t.val) (Host.ov_at hz hf) (fun i => (win0_5.blk t).view.emb i) (fun i => ?_) (fun i => ?_) (fun i => ?_)) fun r e _ he => ?_
  · unfold iblk; rw [View.read_apply, cast_eq]; exact congrFun (Host.V_ov m c) _
  · show win0_5.index t 0 * 4096 + 1 * (i 0).val = _; rw [h.1]; omega
  · show win0_5.index t 1 * 128 + 1 * (i 1).val = _; rw [h.2]; omega
  · show O a g ((128 * t.val + e) / 128) r ((128 * t.val + e) % 128) = _
    rw [show (128 * t.val + e) / 128 = t.val by omega, show (128 * t.val + e) % 128 = e by omega]

include hb in
theorem iblk6_at : At2 (m := 4096) (n := 128) (iblk m c 6 t) (hd a g b t.val).DO := by
  have h := (idx_facts t).2.2.2.2.2.2.2.1
  refine (col_at (o := 128 * t.val) hb (fun i => (win0_6.blk t).view.emb i) (fun i => ?_) (fun i => ?_) (fun i => ?_))
  · unfold iblk; rw [View.read_apply]; show V m c main_arg2 _ = _; rw [V_main_arg2]
  · show win0_6.index t 0 * 4096 + 1 * (i 0).val = _; rw [h.1]; omega
  · show win0_6.index t 1 * 128 + 1 * (i 1).val = _; rw [h.2]; omega

theorem fc_eq (q : ℕ) (hq : q < 4096) : (hd a g b t.val).FC q = if ((grid0.coords t) 0).val < 16 then g q ((grid0.coords t) 0).val else 0 := by
  rw [(idx_facts t).1, if_pos (lt16 t)]; rfl
theorem dr_eq (q : ℕ) (hq : q < 4096) : (hd a g b t.val).DR q = ∑ d ∈ Finset.range 128, (hd a g b t.val).DO q d * O a g t.val q d := rfl

include hz hf hb

theorem out7_at : At2 (m := 4096) (n := 128) (out7 m c t) (fun q e => (∑ k ∈ Finset.range 4096, (hd a g b t.val).DS q k * (hd a g b t.val).K k e) * sg) := by
  unfold out7 runAt; intro r e
  exact Out.dq_at (h := hd a g b t.val) (H1 := iblk0_at m c hz t) (H2 := iblk1_at m c hz t) (H3 := iblk2_at m c hz t) (H4 := iblk3_at m c hf t)
    (H5 := iblk4_at m c hz hf t) (H6 := iblk5_at m c hz hf t) (H7 := iblk6_at m c hb t) (hFC := fc_eq t) (hDR := dr_eq t) ..
theorem out8_at : At2 (m := 4096) (n := 128) (out8 m c t) (Loop.dk (hd a g b t.val)) := by
  unfold out8 runAt; intro r e
  exact Out.dk_at (h := hd a g b t.val) (H1 := iblk0_at m c hz t) (H2 := iblk1_at m c hz t) (H3 := iblk2_at m c hz t) (H4 := iblk3_at m c hf t)
    (H5 := iblk4_at m c hz hf t) (H6 := iblk5_at m c hz hf t) (H7 := iblk6_at m c hb t) (hFC := fc_eq t) (hDR := dr_eq t) ..
theorem out9_at : At2 (m := 4096) (n := 128) (out9 m c t) (Loop.dv (hd a g b t.val)) := by
  unfold out9 runAt; intro r e
  exact Out.dv_at (h := hd a g b t.val) (H1 := iblk0_at m c hz t) (H2 := iblk1_at m c hz t) (H3 := iblk2_at m c hz t) (H4 := iblk3_at m c hf t)
    (H5 := iblk4_at m c hz hf t) (H6 := iblk5_at m c hz hf t) (H7 := iblk6_at m c hb t) (hFC := fc_eq t) (hDR := dr_eq t) ..
theorem out10_at : At3 (l := 1) (m := 1) (n := 4096) (out10 m c t) (fun _ _ q => ∑ k ∈ Finset.range 4096, (hd a g b t.val).DS q k) := by
  unfold out10 runAt; intro s r e
  exact Out.rq_at (h := hd a g b t.val) (H1 := iblk0_at m c hz t) (H2 := iblk1_at m c hz t) (H3 := iblk2_at m c hz t) (H4 := iblk3_at m c hf t)
    (H5 := iblk4_at m c hz hf t) (H6 := iblk5_at m c hz hf t) (H7 := iblk6_at m c hb t) (hFC := fc_eq t) (hDR := dr_eq t) ..
theorem out11_at : At3 (l := 1) (m := 1) (n := 4096) (out11 m c t) (fun _ _ r => Loop.rk (hd a g b t.val) r) := by
  unfold out11 runAt; intro s r e
  exact Out.rk_at (h := hd a g b t.val) (H1 := iblk0_at m c hz t) (H2 := iblk1_at m c hz t) (H3 := iblk2_at m c hz t) (H4 := iblk3_at m c hf t)
    (H5 := iblk4_at m c hz hf t) (H6 := iblk5_at m c hz hf t) (H7 := iblk6_at m c hb t) (hFC := fc_eq t) (hDR := dr_eq t) ..

end Inputs

/-! ## The arrays -/

/-- An array of two axes of the values of `f`, one head after another along the columns. -/
def G2 (f : ℕ → ℕ → ℕ → ℝ) : S4096x2048.Idx → EReal := fun i => ((f ((i 1).val / 128) (i 0).val ((i 1).val % 128) : ℝ) : EReal)
/-- An array of three axes of the values of `f`, one head after another along the first. -/
def G3 (f : ℕ → ℕ → ℝ) : S16x1x4096.Idx → EReal := fun i => ((f (i 0).val (i 2).val : ℝ) : EReal)

theorem G2_blk {t : Fin cfg0.N} {f : ℕ → ℕ → ℕ → ℝ} {y : (⟨2, ![4096, 128]⟩ : Shape).Idx → EReal} (hy : At2 y (f t.val))
    (j : (⟨2, ![4096, 128]⟩ : Shape).Idx → S4096x2048.Idx) (h0 : ∀ i, (j i 0).val = (i 0).val) (h1 : ∀ i, (j i 1).val = 128 * t.val + (i 1).val)
    (i : (⟨2, ![4096, 128]⟩ : Shape).Idx) : y i = G2 f (j i) := by
  have h2 : (i 1).val < 128 := (i 1).isLt
  unfold G2
  rw [h0, h1, show (128 * t.val + (i 1).val) / 128 = t.val by omega, show (128 * t.val + (i 1).val) % 128 = (i 1).val by omega]
  rw [ValueIdx.eq_ix2 i]; exact hy _ _

theorem G3_blk {t : Fin cfg0.N} {f : ℕ → ℕ → ℝ} {y : (⟨3, ![1, 1, 4096]⟩ : Shape).Idx → EReal} (hy : At3 y (fun _ _ q => f t.val q))
    (j : (⟨3, ![1, 1, 4096]⟩ : Shape).Idx → S16x1x4096.Idx) (h0 : ∀ i, (j i 0).val = t.val) (h2 : ∀ i, (j i 2).val = (i 2).val)
    (i : (⟨3, ![1, 1, 4096]⟩ : Shape).Idx) : y i = G3 f (j i) := by
  unfold G3
  rw [h0, h2]
  conv_lhs => rw [ValueIdx.eq_ix3 i]
  exact hy _ _ _

/-- Every column of an array lies in the block of its head. -/
theorem cov2 (i : S4096x2048.Idx) : ∃ (t : Fin cfg0.N) (y : (⟨2, ![4096, 128]⟩ : Shape).Idx), (i 0).val = (y 0).val ∧ (i 1).val = 128 * t.val + (y 1).val := by
  have h1 : (i 1).val < 2048 := (i 1).isLt
  have hN : cfg0.N = 16 := N_0
  exact ⟨⟨(i 1).val / 128, by omega⟩, ValueIdx.ix2 (i 0) ⟨(i 1).val % 128, by omega⟩, rfl, by show (i 1).val = 128 * ((i 1).val / 128) + (i 1).val % 128; omega⟩
theorem cov3 (i : S16x1x4096.Idx) : ∃ (t : Fin cfg0.N) (y : (⟨3, ![1, 1, 4096]⟩ : Shape).Idx), (i 0).val = t.val ∧ (i 1).val = (y 1).val ∧ (i 2).val = (y 2).val := by
  have h0 : (i 0).val < 16 := (i 0).isLt
  have hN : cfg0.N = 16 := N_0
  exact ⟨⟨(i 0).val, by omega⟩, ValueIdx.ix3 0 (i 1) (i 2), rfl, rfl, rfl⟩

section Emb
variable (t : Fin cfg0.N)

theorem emb7 (i : (⟨2, ![4096, 128]⟩ : Shape).Idx) : ((win0_7.blk t).view.emb i 0).val = (i 0).val ∧ ((win0_7.blk t).view.emb i 1).val = 128 * t.val + (i 1).val := by
  have h := (idx_facts t).2.2.2.2.2.2.2.2.1
  constructor
  · show win0_7.index t 0 * 4096 + 1 * (i 0).val = _; rw [h.1]; omega
  · show win0_7.index t 1 * 128 + 1 * (i 1).val = _; rw [h.2]; omega
theorem emb8 (i : (⟨2, ![4096, 128]⟩ : Shape).Idx) : ((win0_8.blk t).view.emb i 0).val = (i 0).val ∧ ((win0_8.blk t).view.emb i 1).val = 128 * t.val + (i 1).val := by
  have h := (idx_facts t).2.2.2.2.2.2.2.2.2.1
  constructor
  · show win0_8.index t 0 * 4096 + 1 * (i 0).val = _; rw [h.1]; omega
  · show win0_8.index t 1 * 128 + 1 * (i 1).val = _; rw [h.2]; omega
theorem emb9 (i : (⟨2, ![4096, 128]⟩ : Shape).Idx) : ((win0_9.blk t).view.emb i 0).val = (i 0).val ∧ ((win0_9.blk t).view.emb i 1).val = 128 * t.val + (i 1).val := by
  have h := (idx_facts t).2.2.2.2.2.2.2.2.2.2.1
  constructor
  · show win0_9.index t 0 * 4096 + 1 * (i 0).val = _; rw [h.1]; omega
  · show win0_9.index t 1 * 128 + 1 * (i 1).val = _; rw [h.2]; omega
theorem emb10 (i : (⟨3, ![1, 1, 4096]⟩ : Shape).Idx) : ((win0_10.blk t).view.emb i 0).val = t.val ∧ ((win0_10.blk t).view.emb i 1).val = (i 1).val ∧ ((win0_10.blk t).view.emb i 2).val = (i 2).val := by
  have h := (idx_facts t).2.2.2.2.2.2.2.2.2.2.2.1
  have h0 : (i 0).val < 1 := (i 0).isLt
  refine ⟨?_, ?_, ?_⟩
  · show win0_10.index t 0 * 1 + 1 * (i 0).val = _; rw [h.1]; omega
  · show win0_10.index t 1 * 1 + 1 * (i 1).val = _; rw [h.2.1]; omega
  · show win0_10.index t 2 * 4096 + 1 * (i 2).val = _; rw [h.2.2]; omega
theorem emb11 (i : (⟨3, ![1, 1, 4096]⟩ : Shape).Idx) : ((win0_11.blk t).view.emb i 0).val = t.val ∧ ((win0_11.blk t).view.emb i 1).val = (i 1).val ∧ ((win0_11.blk t).view.emb i 2).val = (i 2).val := by
  have h := (idx_facts t).2.2.2.2.2.2.2.2.2.2.2.2
  have h0 : (i 0).val < 1 := (i 0).isLt
  refine ⟨?_, ?_, ?_⟩
  · show win0_11.index t 0 * 1 + 1 * (i 0).val = _; rw [h.1]; omega
  · show win0_11.index t 1 * 1 + 1 * (i 1).val = _; rw [h.2.1]; omega
  · show win0_11.index t 2 * 4096 + 1 * (i 2).val = _; rw [h.2.2]; omega
end Emb

theorem ext2 {x y : S4096x2048.Idx} (h0 : (x 0).val = (y 0).val) (h1 : (x 1).val = (y 1).val) : x = y := by
  funext k; apply Fin.ext; match k with | ⟨0, _⟩ => exact h0 | ⟨1, _⟩ => exact h1
theorem ext3 {x y : S16x1x4096.Idx} (h0 : (x 0).val = (y 0).val) (h1 : (x 1).val = (y 1).val) (h2 : (x 2).val = (y 2).val) : x = y := by
  funext k; apply Fin.ext; match k with | ⟨0, _⟩ => exact h0 | ⟨1, _⟩ => exact h1 | ⟨2, _⟩ => exact h2

/-- The five results by head. -/
def rdq (a g b : ℕ → ℕ → ℝ) (h q e : ℕ) : ℝ := (∑ k ∈ Finset.range 4096, (hd a g b h).DS q k * (hd a g b h).K k e) * sg
def rdk (a g b : ℕ → ℕ → ℝ) (h r e : ℕ) : ℝ := Loop.dk (hd a g b h) r e
def rdv (a g b : ℕ → ℕ → ℝ) (h r e : ℕ) : ℝ := Loop.dv (hd a g b h) r e
def rrq (a g b : ℕ → ℕ → ℝ) (h q : ℕ) : ℝ := ∑ k ∈ Finset.range 4096, (hd a g b h).DS q k
def rrk (a g b : ℕ → ℕ → ℝ) (h r : ℕ) : ℝ := Loop.rk (hd a g b h) r

include hz hf hb

theorem final7 : (dats m 0 c).arrAt 7 cfg0.N = G2 (rdq a g b) := by
  refine (dats m 0 c).arrAt_eq_of_cover 7 (G2 (rdq a g b)) (fun t _ => ?_) fun i => ?_
  · show (cfg0.win 7).cut (grid0.coords t) ((dats m 0 c).after 7 t) = _
    rw [after0_7]; funext y; rw [View.read_apply]
    exact G2_blk (out7_at m c hz hf hb t) (fun i => (win0_7.blk t).view.emb i) (fun i => (emb7 t i).1) (fun i => (emb7 t i).2) y
  · obtain ⟨t, y, h0, h1⟩ := cov2 i
    exact ⟨t, flush0_7 t, Finset.mem_map.2 ⟨y, Finset.mem_univ _, ext2 ((emb7 t y).1.trans h0.symm) ((emb7 t y).2.trans h1.symm)⟩⟩
theorem final8 : (dats m 0 c).arrAt 8 cfg0.N = G2 (rdk a g b) := by
  refine (dats m 0 c).arrAt_eq_of_cover 8 (G2 (rdk a g b)) (fun t _ => ?_) fun i => ?_
  · show (cfg0.win 8).cut (grid0.coords t) ((dats m 0 c).after 8 t) = _
    rw [after0_8]; funext y; rw [View.read_apply]
    exact G2_blk (out8_at m c hz hf hb t) (fun i => (win0_8.blk t).view.emb i) (fun i => (emb8 t i).1) (fun i => (emb8 t i).2) y
  · obtain ⟨t, y, h0, h1⟩ := cov2 i
    exact ⟨t, flush0_8 t, Finset.mem_map.2 ⟨y, Finset.mem_univ _, ext2 ((emb8 t y).1.trans h0.symm) ((emb8 t y).2.trans h1.symm)⟩⟩
theorem final9 : (dats m 0 c).arrAt 9 cfg0.N = G2 (rdv a g b) := by
  refine (dats m 0 c).arrAt_eq_of_cover 9 (G2 (rdv a g b)) (fun t _ => ?_) fun i => ?_
  · show (cfg0.win 9).cut (grid0.coords t) ((dats m 0 c).after 9 t) = _
    rw [after0_9]; funext y; rw [View.read_apply]
    exact G2_blk (out9_at m c hz hf hb t) (fun i => (win0_9.blk t).view.emb i) (fun i => (emb9 t i).1) (fun i => (emb9 t i).2) y
  · obtain ⟨t, y, h0, h1⟩ := cov2 i
    exact ⟨t, flush0_9 t, Finset.mem_map.2 ⟨y, Finset.mem_univ _, ext2 ((emb9 t y).1.trans h0.symm) ((emb9 t y).2.trans h1.symm)⟩⟩
theorem final10 : (dats m 0 c).arrAt 10 cfg0.N = G3 (rrq a g b) := by
  refine (dats m 0 c).arrAt_eq_of_cover 10 (G3 (rrq a g b)) (fun t _ => ?_) fun i => ?_
  · show (cfg0.win 10).cut (grid0.coords t) ((dats m 0 c).after 10 t) = _
    rw [after0_10]; funext y; rw [View.read_apply]
    exact G3_blk (out10_at m c hz hf hb t) (fun i => (win0_10.blk t).view.emb i) (fun i => (emb10 t i).1) (fun i => (emb10 t i).2.2) y
  · obtain ⟨t, y, h0, h1, h2⟩ := cov3 i
    exact ⟨t, flush0_10 t, Finset.mem_map.2 ⟨y, Finset.mem_univ _, ext3 ((emb10 t y).1.trans h0.symm) ((emb10 t y).2.1.trans h1.symm) ((emb10 t y).2.2.trans h2.symm)⟩⟩
theorem final11 : (dats m 0 c).arrAt 11 cfg0.N = G3 (rrk a g b) := by
  refine (dats m 0 c).arrAt_eq_of_cover 11 (G3 (rrk a g b)) (fun t _ => ?_) fun i => ?_
  · show (cfg0.win 11).cut (grid0.coords t) ((dats m 0 c).after 11 t) = _
    rw [after0_11]; funext y; rw [View.read_apply]
    exact G3_blk (out11_at m c hz hf hb t) (fun i => (win0_11.blk t).view.emb i) (fun i => (emb11 t i).1) (fun i => (emb11 t i).2.2) y
  · obtain ⟨t, y, h0, h1, h2⟩ := cov3 i
    exact ⟨t, flush0_11 t, Finset.mem_map.2 ⟨y, Finset.mem_univ _, ext3 ((emb11 t y).1.trans h0.symm) ((emb11 t y).2.1.trans h1.symm) ((emb11 t y).2.2.trans h2.symm)⟩⟩

end Cert.FoxIdeal.Whole
end
-- ==== Proof.FoxRefValue.lean ====
/- The reference's gradient of the attention as real numbers: the softmax whatever real number is taken off the scores
   first, the gradient by the scores, and the five results. -/
module

public import proofs.«01_k».proof.Proof.FoxHostValue
public import proofs.«01_k».proof.Proof.FoxLoop
public import proofs.«01_k».proof.Proof.Gen.FoxRefIdeal.Read

@[expose] public section

set_option maxRecDepth 16384

noncomputable section

namespace Cert.FoxRefIdeal.Whole

open Idealize.ShloMosaic
open Cert.FoxRefIdeal Cert.FoxRefIdeal.Gen Cert.FoxRefIdeal.Read Cert.FoxOps Cert.FoxIdeal.Pay Cert.FoxMath
open Cert.FoxIdeal.Host (at2 at3)
open scoped BigOperators

variable {z : FVec Ideal S4096x6144 .bf16} {fc : FVec Ideal S4096x16 .f32} {w : FVec Ideal S4096x2048 .bf16} {a g b : ℕ → ℕ → ℝ}

/-! ## The gradient by the scores, over the real numbers -/

/-- The gradient through a softmax written with its sum of exponentials and the square of that sum. -/
theorem ds_real (s dp : ℕ → ℝ) (q k : ℕ) :
    (if k ≤ q then (dp k * (1 / Zr s q) + -(∑ j ∈ Finset.range 4096, dp j * (1 / (Zr s q * Zr s q)) * (if j ≤ q then Real.exp (s j) else 0)))
      * (if k ≤ q then Real.exp (s k) else 0) else 0)
      = Wr s q k * (dp k - ∑ j ∈ Finset.range 4096, Wr s q j * dp j) := by
  have hz := (Zr_pos s q).ne'
  have e : ∑ j ∈ Finset.range 4096, dp j * (1 / (Zr s q * Zr s q)) * (if j ≤ q then Real.exp (s j) else 0)
      = 1 / Zr s q * ∑ j ∈ Finset.range 4096, Wr s q j * dp j := by
    rw [Finset.mul_sum]
    refine Finset.sum_congr rfl fun j _ => ?_
    unfold Wr
    field_simp
  rw [e]
  generalize ∑ j ∈ Finset.range 4096, Wr s q j * dp j = X
  unfold Wr
  split
  · field_simp; ring
  · rw [zero_div, zero_mul]

theorem zero_bits : (FloatOps.ofBits .f32 0x00000000#32 : Ideal .f32) = (0 : EReal) := by
  show Ideal.ofBits .f32 0x00000000#32 = 0
  simp [Ideal.ofBits, Ideal.ieee]

/-! ## The operands by head -/

theorem v2_at (hz : At2 z a) : At3 (val_main_v2 (F := Ideal) z) fun q h d => a q (128 * h + d) := fun q h d => by
  pointwise [val_main_v2, val_main_v1, val_main_v0]
  exact at2 hz _ _ rfl (by show h.val * 128 + d.val = _; omega)
theorem v4_at (hz : At2 z a) : At3 (val_main_v4 (F := Ideal) z) fun q h d => a q (2048 + (128 * h + d)) := fun q h d => by
  pointwise [val_main_v4, val_main_v3, val_main_v0]
  exact at2 hz _ _ rfl (by show 2048 + (h.val * 128 + d.val) = _; omega)
theorem v6_at (hz : At2 z a) : At3 (val_main_v6 (F := Ideal) z) fun q h d => a q (4096 + (128 * h + d)) := fun q h d => by
  pointwise [val_main_v6, val_main_v5, val_main_v0]
  exact at2 hz _ _ rfl (by show 4096 + (h.val * 128 + d.val) = _; omega)

/-! ## The scores and the softmax -/

theorem v17_at (hz : At2 z a) (hf : At2 fc g) (h : Fin 16) (q k : Fin 4096) :
    val_main_v17 (F := Ideal) z fc (ix3 h q k) = ((S a g h q k + g q h : ℝ) : EReal) := by
  pointwise [val_main_v17, val_main_v16, val_main_v15, val_main_v14, val_main_v13, val_main_v12, val_main_v11, val_main_v10, val_main_v9, val_main_v8, val_main_v7, val_main_cst]
  rw [at2 hf _ _ (p := q.val) (q := h.val) rfl rfl, at2 hf _ _ (p := k.val) (q := h.val) rfl rfl]
  have e : Ideal.ofBits FTy.f32 1035273459#32 = (sg : EReal) := sg_eq
  rw [e]
  have hs : (∑ d : Fin 128, val_main_v2 (F := Ideal) z (ix3 q h d) * val_main_v4 (F := Ideal) z (ix3 k h d))
      = ((∑ d ∈ Finset.range 128, a q (128 * h + d) * a k (2048 + (128 * h + d)) : ℝ) : EReal) := by
    refine Eq.trans ?_ (coe_range 128 _).symm
    refine Finset.sum_congr rfl fun d _ => ?_
    rw [at3 (v2_at hz) q h d rfl rfl rfl, at3 (v4_at hz) k h d rfl rfl rfl, EReal.coe_mul]
  refine (congrArg (fun x : EReal => x * (sg : EReal) + ((g q.val h.val : EReal) - (g k.val h.val : EReal))) hs).trans ?_
  unfold S
  rw [← EReal.coe_sub, ← EReal.coe_mul, ← EReal.coe_add]
  have e3 : ∀ x y v : ℝ, x + (y - v) = x - v + y := fun x y v => by ring
  rw [e3]

theorem row_at (hz : At2 z a) (hf : At2 fc g) (h : Fin 16) (q : Fin 4096) :
    Row (fun k => val_main_v25_0 (F := Ideal) z fc (ix3 h q k)) (fun k => S a g h q k + g q h) q := fun k => by
  pointwise [val_main_v25_0, val_main_v25_1, val_main_v24, val_main_v23, val_main_v22, val_main_v21, val_main_v20, val_main_v19, val_main_v18, val_main_call0_v2, val_main_call0_v0, val_main_cst_0]
  refine (sel_ge q k _ _).trans ?_
  rw [v17_at hz hf]
  show (if _ then _ else Ideal.ofBits .f32 0xFF800000#32) = _
  rw [Cert.Reals.ofBits_neg_inf_f32]

theorem mx_real (hz : At2 z a) (hf : At2 fc g) (h : Fin 16) (q : Fin 4096) : ∃ M : ℝ, val_main_v33 (F := Ideal) z fc (ix2 h q) = (M : EReal) := by
  obtain ⟨M, hM⟩ := (row_at hz hf h q).max
  refine ⟨M, ?_⟩
  have e : val_main_v26 (F := Ideal) z fc (ix2 h q) = (M : EReal) := by
    pointwise [val_main_v26, val_main_cst_1]
    rw [Cert.Reals.ofBits_neg_inf_f32]
    exact hM
  rw [val_main_v33_apply, e, val_main_v32_apply, val_main_cst_3_apply]
  show max (Ideal.ofBits .f32 0xFF800000#32) (M : EReal) = (M : EReal)
  rw [Cert.Reals.ofBits_neg_inf_f32]
  exact max_eq_right bot_le

theorem v43_at (h : Fin 16) (q : Fin 4096) (u : Fin 1) : val_main_v43 (F := Ideal) z fc (ix3 h q u) = val_main_v33 (F := Ideal) z fc (ix2 h q) := by
  rw [val_main_v43_apply]
  exact congrArg _ (funext fun x => match x with | ⟨0, _⟩ => rfl | ⟨1, _⟩ => rfl)
theorem v48_at (h : Fin 16) (q : Fin 4096) (u : Fin 1) : val_main_v48 (F := Ideal) z fc (ix3 h q u) = val_main_v47 (F := Ideal) z fc (ix2 h q) := by
  rw [val_main_v48_apply]
  exact congrArg _ (funext fun x => match x with | ⟨0, _⟩ => rfl | ⟨1, _⟩ => rfl)

theorem v46_at (hz : At2 z a) (hf : At2 fc g) (h : Fin 16) (q : Fin 4096) {M : ℝ} (hM : val_main_v33 (F := Ideal) z fc (ix2 h q) = (M : EReal)) (k : Fin 4096) :
    val_main_v46 (F := Ideal) z fc (ix3 h q k) = (((if k.val ≤ q.val then Real.exp (S a g h q k + g q h + -M) else 0 : ℝ)) : EReal) := by
  pointwise [val_main_v46, val_main_v45, val_main_v44]
  refine Eq.trans ?_ ((row_at hz hf h q).exp M k)
  rw [v43_at, hM]

theorem v47_at (hz : At2 z a) (hf : At2 fc g) (h : Fin 16) (q : Fin 4096) {M : ℝ} (hM : val_main_v33 (F := Ideal) z fc (ix2 h q) = (M : EReal)) :
    val_main_v47 (F := Ideal) z fc (ix2 h q) = ((Zr (fun k => S a g h q k + g q h + -M) q : ℝ) : EReal) := by
  pointwise [val_main_v47, val_main_cst_9]
  exact Row.sum (q := q) M fun k => v46_at hz hf h q hM k

/-- Taking the query's own decay and a maximum off the scores leaves the weights. -/
theorem W_shift (h q k : ℕ) (M : ℝ) : Wr (fun k => S a g h q k + g q h + -M) q k = Wr (S a g h q) q k :=
  (Wr_shift (fun k => S a g h q k + g q h) (-M) q k).trans (Wr_shift (S a g h q) (g q h) q k)

theorem v50_at (hz : At2 z a) (hf : At2 fc g) (h : Fin 16) (q k : Fin 4096) :
    val_main_v50 (F := Ideal) z fc (ix3 h q k) = ((Wr (S a g h q) q k : ℝ) : EReal) := by
  obtain ⟨M, hM⟩ := mx_real hz hf h q
  pointwise [val_main_v50, val_main_v49]
  rw [v48_at, v47_at hz hf h q hM, v46_at hz hf h q hM, Ideal.div_coe (Zr_pos _ _).ne', ← EReal.coe_mul, mul_one_div]
  exact congrArg (fun x : ℝ => (x : EReal)) (W_shift h q k M)

/-! ## The gradient by the scores -/

theorem v60_at (hz : At2 z a) (hb : At2 w b) (h : Fin 16) (q k : Fin 4096) :
    val_main_v60 (F := Ideal) z w (ix3 h q k) = (((hd a g b h).DP q k : ℝ) : EReal) := by
  pointwise [val_main_v60, val_main_v59, val_main_v58, val_main_v57]
  unfold Hd.DP
  refine Eq.trans ?_ (coe_range 128 _).symm
  refine Finset.sum_congr rfl fun d _ => ?_
  rw [at2 hb _ _ (p := q.val) (q := 128 * h.val + d.val) rfl (by show h.val * 128 + d.val = _; omega), at3 (v6_at hz) k h d rfl rfl rfl, ← EReal.coe_mul, mul_comm]
  rfl

theorem v66_at (hz : At2 z a) (hf : At2 fc g) (hb : At2 w b) (h : Fin 16) (q : Fin 4096) {M : ℝ} (hM : val_main_v33 (F := Ideal) z fc (ix2 h q) = (M : EReal)) :
    val_main_v66 (F := Ideal) z fc w (ix2 h q) = ((∑ j ∈ Finset.range 4096, (hd a g b h).DP q j
      * (1 / (Zr (fun k => S a g h q k + g q h + -M) q * Zr (fun k => S a g h q k + g q h + -M) q))
      * (if j ≤ q.val then Real.exp (S a g h q j + g q h + -M) else 0) : ℝ) : EReal) := by
  pointwise [val_main_v66, val_main_v65, val_main_v64, val_main_v63, val_main_v53, val_main_v52, val_main_v51, val_main_cst_10, val_main_cst_11]
  refine Eq.trans ?_ (coe_range 4096 _).symm
  refine Finset.sum_congr rfl fun k _ => ?_
  have hp := (mul_pos (Zr_pos (fun k => S a g h q k + g q h + -M) q) (Zr_pos (fun k => S a g h q k + g q h + -M) q)).ne'
  rw [v60_at (g := g) hz hb, v48_at, v47_at hz hf h q hM, v46_at hz hf h q hM, ← EReal.coe_one, ← EReal.coe_mul, Ideal.div_coe hp, ← EReal.coe_mul, ← EReal.coe_mul, ← EReal.coe_mul, one_mul]

theorem v71_at (h : Fin 16) (q : Fin 4096) : val_main_v71 (F := Ideal) z fc w (ix2 h q) = -(val_main_v66 (F := Ideal) z fc w (ix2 h q)) := by
  have hh := h.isLt
  have hq := q.isLt
  rw [val_main_v71_apply, Fin.sum_univ_one, val_main_v68_apply, val_main_v67_apply, val_main_cst_12_apply, zero_bits, zero_add]
  refine congrArg (fun i => -(val_main_v66 (F := Ideal) z fc w i)) (funext fun x => Fin.ext ?_)
  match x with
  | ⟨0, _⟩ => show ((h.val * 4096 + q.val) * 1 + 0) / 4096 = h.val; omega
  | ⟨1, _⟩ => show ((h.val * 4096 + q.val) * 1 + 0) % 4096 = q.val; omega

theorem v75_at (hz : At2 z a) (hf : At2 fc g) (hb : At2 w b) (h : Fin 16) (q k : Fin 4096) :
    val_main_v75 (F := Ideal) z fc w (ix3 h q k) = (((hd a g b h).DS q k : ℝ) : EReal) := by
  obtain ⟨M, hM⟩ := mx_real hz hf h q
  pointwise [val_main_v75, val_main_v25_1, val_main_v24, val_main_v23, val_main_v22, val_main_v21, val_main_v20, val_main_v19, val_main_v18, val_main_call1_v0, val_main_call1_cst, val_main_v74, val_main_v73, val_main_v72, val_main_v70, val_main_v69]
  refine (sel_ge q k _ _).trans ?_
  rw [v71_at, v66_at hz hf hb h q hM, v60_at (g := g) hz hb, v48_at, v47_at hz hf h q hM, v46_at hz hf h q hM, Ideal.div_coe (Zr_pos _ _).ne', ← EReal.coe_mul, ← EReal.coe_neg, ← EReal.coe_add, ← EReal.coe_mul, ← EReal.coe_zero, hd_DS]
  have e := ds_real (fun k => S a g h q k + g q h + -M) ((hd a g b h).DP q) q k
  simp only [W_shift] at e
  rw [← e]
  split <;> rfl

/-! ## The results by head -/

theorem v89_at (hz : At2 z a) (hf : At2 fc g) (hb : At2 w b) (h : Fin 16) (q : Fin 4096) (d : Fin 128) :
    val_main_v89 (F := Ideal) z fc w (ix3 h q d) = (((∑ k ∈ Finset.range 4096, (hd a g b h).DS q k * (hd a g b h).K k d) * sg : ℝ) : EReal) := by
  pointwise [val_main_v89, val_main_v86, val_main_v85, val_main_cst_17]
  rw [Finset.sum_mul]
  refine Eq.trans ?_ (coe_range 4096 _).symm
  refine Finset.sum_congr rfl fun k _ => ?_
  have e : Ideal.ofBits FTy.f32 1035273459#32 = (sg : EReal) := sg_eq
  rw [e, v75_at hz hf hb, at3 (v4_at hz) k h d rfl rfl rfl, ← EReal.coe_mul, ← EReal.coe_mul, mul_right_comm]
  rfl

theorem v87_at (hz : At2 z a) (hf : At2 fc g) (hb : At2 w b) (h : Fin 16) (r : Fin 4096) (d : Fin 128) :
    val_main_v87 (F := Ideal) z fc w (ix3 h r d) = ((Cert.FoxIdeal.Loop.dk (hd a g b h) r d : ℝ) : EReal) := by
  pointwise [val_main_v87, val_main_v86, val_main_v85, val_main_cst_17]
  unfold Cert.FoxIdeal.Loop.dk
  rw [Finset.sum_mul]
  refine Eq.trans ?_ (coe_range 4096 _).symm
  refine Finset.sum_congr rfl fun k _ => ?_
  have e : Ideal.ofBits FTy.f32 1035273459#32 = (sg : EReal) := sg_eq
  rw [e, v75_at hz hf hb, at3 (v2_at hz) k h d rfl rfl rfl, ← EReal.coe_mul, ← EReal.coe_mul, mul_right_comm]
  rfl

theorem v61_at (hz : At2 z a) (hf : At2 fc g) (hb : At2 w b) (h : Fin 16) (r : Fin 4096) (d : Fin 128) :
    val_main_v61 (F := Ideal) z fc w (ix3 h d r) = ((Cert.FoxIdeal.Loop.dv (hd a g b h) r d : ℝ) : EReal) := by
  pointwise [val_main_v61, val_main_v59, val_main_v58, val_main_v57]
  unfold Cert.FoxIdeal.Loop.dv
  refine Eq.trans ?_ (coe_range 4096 _).symm
  refine Finset.sum_congr rfl fun k _ => ?_
  rw [v50_at hz hf, at2 hb _ _ (p := k.val) (q := 128 * h.val + d.val) rfl (by show h.val * 128 + d.val = _; omega), ← EReal.coe_mul, hd_P, mul_comm]
  rfl

/-- The three parts of the projections' gradient lie side by side. -/
theorem v92_at (q : Fin 4096) (e : Fin 6144) : val_main_v92 (F := Ideal) z fc w (ix2 q e)
    = if h : 4096 ≤ e.val ∧ e.val - 4096 < 2048 then val_main_v91 (F := Ideal) z fc w (ix2 q ⟨e.val - 4096, by omega⟩) else 0 := by
  pointwise [val_main_v92, val_main_cst_18]
theorem v91_at (q : Fin 4096) (e : Fin 2048) : val_main_v91 (F := Ideal) z fc w (ix2 q e)
    = val_main_v61 (F := Ideal) z fc w (ix3 ⟨e.val / 128, by omega⟩ ⟨e.val % 128, by omega⟩ q) := by
  pointwise [val_main_v91, val_main_v62]
theorem v94_at (q : Fin 4096) (e : Fin 6144) : val_main_v94 (F := Ideal) z fc w (ix2 q e)
    = if h : 2048 ≤ e.val ∧ e.val - 2048 < 2048 then val_main_v87 (F := Ideal) z fc w (ix3 ⟨(e.val - 2048) / 128, by omega⟩ q ⟨(e.val - 2048) % 128, by omega⟩) else 0 := by
  pointwise [val_main_v94, val_main_v93, val_main_v88, val_main_cst_19]
theorem v97_at (q : Fin 4096) (e : Fin 6144) : val_main_v97 (F := Ideal) z fc w (ix2 q e)
    = if h : e.val < 2048 then val_main_v89 (F := Ideal) z fc w (ix3 ⟨e.val / 128, by omega⟩ q ⟨e.val % 128, by omega⟩) else 0 := by
  pointwise [val_main_v97, val_main_v96, val_main_v90, val_main_cst_20]

theorem v98_at (q : Fin 4096) (e : Fin 6144) : val_main_v98 (F := Ideal) z fc w (ix2 q e)
    = val_main_v92 (F := Ideal) z fc w (ix2 q e) + val_main_v94 (F := Ideal) z fc w (ix2 q e) + val_main_v97 (F := Ideal) z fc w (ix2 q e) := rfl

theorem v100_at (hz : At2 z a) (hf : At2 fc g) (hb : At2 w b) (q : Fin 4096) (e : Fin 2048) : val_main_v100 (F := Ideal) z fc w (ix2 q e)
    = (((∑ k ∈ Finset.range 4096, (hd a g b (e.val / 128)).DS q k * (hd a g b (e.val / 128)).K k (e.val % 128)) * sg : ℝ) : EReal) := by
  have he := e.isLt
  have e0 : val_main_v100 (F := Ideal) z fc w (ix2 q e) = val_main_v98 (F := Ideal) z fc w (ix2 q ⟨e.val, by omega⟩) := by
    rw [val_main_v100_apply, val_main_v99_apply]
    exact congrArg (val_main_v98 (F := Ideal) z fc w) (funext fun x => match x with | ⟨0, _⟩ => rfl | ⟨1, _⟩ => rfl)
  rw [e0, v98_at, v92_at, v94_at, v97_at, dif_neg (by show ¬(4096 ≤ e.val ∧ _); omega), dif_neg (by show ¬(2048 ≤ e.val ∧ _); omega), dif_pos (show e.val < 2048 from he), zero_add, zero_add]
  exact v89_at hz hf hb ⟨e.val / 128, by omega⟩ q ⟨e.val % 128, by omega⟩

theorem v102_at (hz : At2 z a) (hf : At2 fc g) (hb : At2 w b) (r : Fin 4096) (e : Fin 2048) : val_main_v102 (F := Ideal) z fc w (ix2 r e)
    = ((Cert.FoxIdeal.Loop.dk (hd a g b (e.val / 128)) r (e.val % 128) : ℝ) : EReal) := by
  have he := e.isLt
  have e0 : val_main_v102 (F := Ideal) z fc w (ix2 r e) = val_main_v98 (F := Ideal) z fc w (ix2 r ⟨2048 + e.val, by omega⟩) := by
    rw [val_main_v102_apply, val_main_v101_apply]
    exact congrArg (val_main_v98 (F := Ideal) z fc w) (funext fun x => match x with | ⟨0, _⟩ => rfl | ⟨1, _⟩ => rfl)
  rw [e0, v98_at, v92_at, v94_at, v97_at, dif_neg (by show ¬(4096 ≤ 2048 + e.val ∧ _); omega),
    dif_pos (show 2048 ≤ 2048 + e.val ∧ 2048 + e.val - 2048 < 2048 by omega), dif_neg (show ¬2048 + e.val < 2048 by omega), zero_add, add_zero]
  have e1 : 2048 + e.val - 2048 = e.val := by omega
  simp only [e1]
  exact v87_at hz hf hb ⟨e.val / 128, by omega⟩ r ⟨e.val % 128, by omega⟩

theorem v104_at (hz : At2 z a) (hf : At2 fc g) (hb : At2 w b) (r : Fin 4096) (e : Fin 2048) : val_main_v104 (F := Ideal) z fc w (ix2 r e)
    = ((Cert.FoxIdeal.Loop.dv (hd a g b (e.val / 128)) r (e.val % 128) : ℝ) : EReal) := by
  have he := e.isLt
  have e0 : val_main_v104 (F := Ideal) z fc w (ix2 r e) = val_main_v98 (F := Ideal) z fc w (ix2 r ⟨4096 + e.val, by omega⟩) := by
    rw [val_main_v104_apply, val_main_v103_apply]
    exact congrArg (val_main_v98 (F := Ideal) z fc w) (funext fun x => match x with | ⟨0, _⟩ => rfl | ⟨1, _⟩ => rfl)
  rw [e0, v98_at, v92_at, v94_at, v97_at, dif_pos (show 4096 ≤ 4096 + e.val ∧ 4096 + e.val - 4096 < 2048 by omega),
    dif_neg (show ¬(2048 ≤ 4096 + e.val ∧ 4096 + e.val - 2048 < 2048) by omega), dif_neg (show ¬4096 + e.val < 2048 by omega), add_zero, add_zero, v91_at]
  have e1 : 4096 + e.val - 4096 = e.val := by omega
  simp only [e1]
  exact v61_at hz hf hb ⟨e.val / 128, by omega⟩ r ⟨e.val % 128, by omega⟩

theorem v106_at (hz : At2 z a) (hf : At2 fc g) (hb : At2 w b) (h : Fin 16) (u : Fin 1) (q : Fin 4096) :
    val_main_v106 (F := Ideal) z fc w (ix3 h u q) = ((∑ k ∈ Finset.range 4096, (hd a g b h).DS q k : ℝ) : EReal) := by
  have hh := h.isLt
  have hq := q.isLt
  have e : val_main_v76 (F := Ideal) z fc w (ix2 h q) = ((∑ k ∈ Finset.range 4096, (hd a g b h).DS q k : ℝ) : EReal) := by
    pointwise [val_main_v76, val_main_cst_13]
    refine Eq.trans ?_ (coe_range 4096 _).symm
    exact Finset.sum_congr rfl fun k _ => v75_at hz hf hb h q k
  rw [val_main_v106_apply, ← e, val_main_v105_apply, val_main_v84_apply, val_main_v83_apply, Fin.sum_univ_one, val_main_v77_apply, val_main_cst_16_apply, zero_bits, zero_add]
  refine congrArg (val_main_v76 (F := Ideal) z fc w) (funext fun x => Fin.ext ?_)
  match x with
  | ⟨0, _⟩ => show ((h.val * 4096 + q.val) * 1 + 0) / 4096 = h.val; omega
  | ⟨1, _⟩ => show ((h.val * 4096 + q.val) * 1 + 0) % 4096 = q.val; omega

theorem v109_at (hz : At2 z a) (hf : At2 fc g) (hb : At2 w b) (h : Fin 16) (u : Fin 1) (r : Fin 4096) :
    val_main_v109 (F := Ideal) z fc w (ix3 h u r) = ((Cert.FoxIdeal.Loop.rk (hd a g b h) r : ℝ) : EReal) := by
  have hh := h.isLt
  have hq := r.isLt
  have e : val_main_v79 (F := Ideal) z fc w (ix2 h r) = ((-Cert.FoxIdeal.Loop.rk (hd a g b h) r : ℝ) : EReal) := by
    unfold Cert.FoxIdeal.Loop.rk
    rw [← Finset.sum_neg_distrib]
    pointwise [val_main_v79, val_main_v78, val_main_cst_14]
    refine Eq.trans ?_ (coe_range 4096 _).symm
    refine Finset.sum_congr rfl fun k _ => ?_
    rw [v75_at hz hf hb, EReal.coe_neg]
  rw [val_main_v109_apply, val_main_v108_apply, val_main_v107_apply, val_main_v82_apply, val_main_v81_apply, Fin.sum_univ_one, val_main_v80_apply, val_main_cst_15_apply, zero_bits, zero_add]
  refine (congrArg (fun i => -(val_main_v79 (F := Ideal) z fc w i)) (funext fun x => Fin.ext ?_)).trans (by show -(val_main_v79 (F := Ideal) z fc w (ix2 h r)) = _; rw [e, ← EReal.coe_neg, neg_neg])
  match x with
  | ⟨0, _⟩ => show ((h.val * 1 + 0) * 4096 + r.val) / 4096 = h.val; omega
  | ⟨1, _⟩ => show ((h.val * 1 + 0) * 4096 + r.val) % 4096 = r.val; omega

end Cert.FoxRefIdeal.Whole
end
-- ==== Proof.FoxAlgebraic.lean ====
/- The attention's gradient: the version's program and the reference leave the same five arrays. -/
module

public import proofs.«01_k».proof.Defs
public import proofs.«01_k».proof.Proof.FoxValue
public import proofs.«01_k».proof.Proof.FoxRefValue
public import proofs.«01_k».proof.Proof.Gen.FoxRefIdeal.Run
public import proofs.«01_k».proof.Proof.Gen.Pre_finite_fox
public import Idealize.ShloMosaic.Lib.Quiescent

@[expose] public section

set_option maxRecDepth 16384

noncomputable section

namespace Cert.FoxIdeal.Whole

open Idealize.ShloMosaic Idealize.ShloMosaic.TcCoe
open Idealize.SL.Sem
open Cert.FoxIdeal Cert.FoxIdeal.Gen Cert.FoxIdeal.Run Cert.FoxOps Cert.FoxMath

/-- An array of real numbers as a function of its coordinates. -/
theorem at2_of_real {p q : ℕ} {x : (⟨2, ![p, q]⟩ : Shape).Idx → EReal} (h : ∃ r : (⟨2, ![p, q]⟩ : Shape).Idx → ℝ, x = fun i => (r i : EReal)) :
    ∃ f : ℕ → ℕ → ℝ, At2 x f := by
  obtain ⟨r, rfl⟩ := h
  refine ⟨fun i j => if h : i < p ∧ j < q then r (ValueIdx.ix2 ⟨i, h.1⟩ ⟨j, h.2⟩) else 0, fun i j => ?_⟩
  show ((r (ValueIdx.ix2 i j) : ℝ) : EReal) = ((if h : i.val < p ∧ j.val < q then r (ValueIdx.ix2 ⟨i.val, h.1⟩ ⟨j.val, h.2⟩) else 0 : ℝ) : EReal)
  rw [dif_pos ⟨i.isLt, j.isLt⟩]

variable (m : (ℓ : Loc nD τ sig) → Buf (Elt Ideal) ℓ) (ρ : Dev nD → PrngReg)

/-- Under the precondition the three arguments are arrays of real numbers. -/
theorem reals (h : Pre_FoxIdeal_finite_fox m) (c : Dev nD) : ∃ a g b : ℕ → ℕ → ℝ,
    At2 (m := 4096) (n := 6144) (m ((c : Thread nD τ).loc main_arg0)) a ∧ At2 (m := 4096) (n := 16) (m ((c : Thread nD τ).loc main_arg1)) g
    ∧ At2 (m := 4096) (n := 2048) (m ((c : Thread nD τ).loc main_arg2)) b := by
  obtain ⟨h0, h1, h2⟩ := h c
  obtain ⟨a, ha⟩ := at2_of_real (p := 4096) (q := 6144) (x := m ((c : Thread nD τ).loc main_arg0))
    (Cert.Reals.real_array fun i => by rw [← Cert.Reals.ofBits_inf_bf16]; exact congrFun h0 i)
  obtain ⟨g, hg⟩ := at2_of_real (p := 4096) (q := 16) (x := m ((c : Thread nD τ).loc main_arg1))
    (Cert.Reals.real_array fun i => by rw [← Cert.Reals.ofBits_inf_f32]; exact congrFun h1 i)
  obtain ⟨b, hb⟩ := at2_of_real (p := 4096) (q := 2048) (x := m ((c : Thread nD τ).loc main_arg2))
    (Cert.Reals.real_array fun i => by rw [← Cert.Reals.ofBits_inf_bf16]; exact congrFun h2 i)
  exact ⟨a, g, b, ha, hg, hb⟩

/-- The kernel's run with its five results named. -/
theorem run {a g b : Dev nD → ℕ → ℕ → ℝ} (hz : ∀ c : Dev nD, At2 (m := 4096) (n := 6144) (m ((c : Thread nD τ).loc main_arg0)) (a c))
    (hf : ∀ c : Dev nD, At2 (m := 4096) (n := 16) (m ((c : Thread nD τ).loc main_arg1)) (g c))
    (hb : ∀ c : Dev nD, At2 (m := 4096) (n := 2048) (m ((c : Thread nD τ).loc main_arg2)) (b c)) :
    θ_run defs (onTc (τ := τ) (main (F := Ideal))) ⟨m, fun _ => 0, ρ⟩ fun r => ∀ c : Dev nD,
      r.2.mem ((c : Thread nD τ).loc main_v45_0) = G2 (rdq (a c) (g c) (b c))
      ∧ r.2.mem ((c : Thread nD τ).loc main_v45_1) = G2 (rdk (a c) (g c) (b c))
      ∧ r.2.mem ((c : Thread nD τ).loc main_v45_2) = G2 (rdv (a c) (g c) (b c))
      ∧ r.2.mem ((c : Thread nD τ).loc main_v45_3) = G3 (rrq (a c) (g c) (b c))
      ∧ r.2.mem ((c : Thread nD τ).loc main_v45_4) = G3 (rrk (a c) (g c) (b c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 7).trans (final7 m c (hz c) (hf c) (hb c)), ((h.1 c).1 8).trans (final8 m c (hz c) (hf c) (hb c)),
      ((h.1 c).1 9).trans (final9 m c (hz c) (hf c) (hb c)), ((h.1 c).1 10).trans (final10 m c (hz c) (hf c) (hb c)),
      ((h.1 c).1 11).trans (final11 m c (hz c) (hf c) (hb c)),
      ((h.1 c).1 2).trans (((dats m 0 c).arrAt_in 2 rfl _).trans ((A_eq m c 2).trans (V_main_arg0 m c))),
      ((h.1 c).2 main_arg1 (Pipeline.mem_restRefs_of main_arg1 (by decide) (by decide))).trans (V_main_arg1 m c),
      ((h.1 c).1 6).trans (((dats m 0 c).arrAt_in 6 rfl _).trans ((A_eq m c 6).trans (V_main_arg2 m c)))⟩)
    (run_main m ρ)

section Ref
variable {z : FVec Ideal S4096x6144 .bf16} {fc : FVec Ideal S4096x16 .f32} {w : FVec Ideal S4096x2048 .bf16} {a g b : ℕ → ℕ → ℝ}
  (hz : At2 z a) (hf : At2 fc g) (hb : At2 w b)
include hz hf hb
open Cert.FoxRefIdeal.Read Cert.FoxRefIdeal.Whole

theorem ref_dq : val_main_v100 (F := Ideal) z fc w = G2 (rdq a g b) := funext fun i => by rw [eq_ix2 i]; exact v100_at hz hf hb (i 0) (i 1)
theorem ref_dk : val_main_v102 (F := Ideal) z fc w = G2 (rdk a g b) := funext fun i => by rw [eq_ix2 i]; exact v102_at hz hf hb (i 0) (i 1)
theorem ref_dv : val_main_v104 (F := Ideal) z fc w = G2 (rdv a g b) := funext fun i => by rw [eq_ix2 i]; exact v104_at hz hf hb (i 0) (i 1)
theorem ref_rq : val_main_v106 (F := Ideal) z fc w = G3 (rrq a g b) := funext fun i => by rw [eq_ix3 i]; exact v106_at hz hf hb (i 0) (i 1) (i 2)
theorem ref_rk : val_main_v109 (F := Ideal) z fc w = G3 (rrk a g b) := funext fun i => by rw [eq_ix3 i]; exact v109_at hz hf hb (i 0) (i 1) (i 2)
end Ref

theorem algebraic : Cert.algebraic_FoxIdeal_FoxRefIdeal_pre_finite_fox := by
  intro m ρ m' ρ' hpre hargs
  choose a g b hz hf hb using reals m hpre
  refine ⟨fun c => G2 (rdq (a c) (g c) (b c)), fun c => G2 (rdk (a c) (g c) (b c)), fun c => G2 (rdv (a c) (g c) (b c)),
    fun c => G3 (rrq (a c) (g c) (b c)), fun c => G3 (rrk (a c) (g c) (b c)), run m ρ hz hf hb, ?_⟩
  refine (θ_run Cert.FoxRefIdeal.defs _ _).mono (fun r h c => ?_) (Cert.FoxRefIdeal.Value.run (F := Ideal) m' ρ')
  obtain ⟨e0, e1, e2⟩ := hargs c
  refine ⟨(h c).1.trans ?_, (h c).2.1.trans ?_, (h c).2.2.1.trans ?_, (h c).2.2.2.1.trans ?_, (h c).2.2.2.2.1.trans ?_, (h c).2.2.2.2.2⟩
  · rw [Cert.FoxRefIdeal.Read.val_main_v100_eq, e0, e1, e2]; exact ref_dq (hz c) (hf c) (hb c)
  · rw [Cert.FoxRefIdeal.Read.val_main_v102_eq, e0, e1, e2]; exact ref_dk (hz c) (hf c) (hb c)
  · rw [Cert.FoxRefIdeal.Read.val_main_v104_eq, e0, e1, e2]; exact ref_dv (hz c) (hf c) (hb c)
  · rw [Cert.FoxRefIdeal.Read.val_main_v106_eq, e0, e1, e2]; exact ref_rq (hz c) (hf c) (hb c)
  · rw [Cert.FoxRefIdeal.Read.val_main_v109_eq, e0, e1, e2]; exact ref_rk (hz c) (hf c) (hb c)

theorem frame_ref : Cert.quiescent_FoxRefIdeal := fun m ρ _ =>
  (θ_run Cert.FoxRefIdeal.defs _ _).mono (fun r h => ⟨fun c => (h c).2.2.2.2.2, sem_eq_zero_of_no_sems (by decide) r.2⟩)
    (Cert.FoxRefIdeal.Value.run (F := Ideal) m ρ)

theorem frame_ref_pre : Cert.quiescent_FoxRefIdeal_pre_finite_fox := fun m ρ _ => frame_ref m ρ trivial

end Cert.FoxIdeal.Whole
end
-- ==== Proof.DwValue.lean ====
/- The feed-forward weights' gradient: the kernel's result as a whole array, and its equality with both references. -/
module

public import proofs.«01_k».proof.Defs
public import proofs.«01_k».proof.Proof.Gen.DwIdeal.Value
public import proofs.«01_k».proof.Proof.Gen.DwRefIdeal.Read
public import proofs.«01_k».proof.Proof.Gen.DwGateRefIdeal.Read
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.DwIdeal.Whole

open Cert.DwIdeal Cert.DwIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl

abbrev AA (c : Dev nD) : S8x4096x704.Idx → EReal := m ((c : Thread nD τ).loc main_arg0)
abbrev BB (c : Dev nD) : S4096x2048.Idx → EReal := m ((c : Thread nD τ).loc main_arg1)

/-- The gradient of the weight of shard `s`, inner column `f`, outer column `d`: over all rows. -/
def dw (c : Dev nD) (s : Fin 8) (f : Fin 704) (d : Fin 2048) : EReal := ∑ t : Fin 4096, AA m c (ix3 s t f) * BB m c (ix2 t d)

def G (c : Dev nD) : Buf (Elt Ideal) ((c : Thread nD τ).loc main_v1) := fun i : S8x704x2048.Idx => dw m c (i 0) (i 1) (i 2)

/-- Which block of each window grid point `t` works on. -/
theorem idx_facts : ∀ t : Fin cfg0.N, (win0_0.index t (0 : Fin 3) = t.val / 2 ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = t.val % 2)
    ∧ (win0_2.index t (0 : Fin 3) = t.val / 2 ∧ win0_2.index t (1 : Fin 3) = 0 ∧ win0_2.index t (2 : Fin 3) = t.val % 2) :=
  (by decide +kernel : ∀ t : Fin grid0.N, _)

/-- The product over the rows of one block. -/
theorem pay_apply (P0 : Vec Ideal S1x4096x704 .bf16) (P1 : Vec Ideal S1x4096x1024 .bf16) (f : Fin 704) (d : Fin 1024) :
    k0_pay1 P0 P1 (ix3 0 f d) = (∑ t : Fin 4096, P0 (ix3 0 t f) * P1 (ix3 0 t d) : EReal) := by
  pointwise [k0_pay1]

/-- Where an index of grid point `t`'s result block lies in the whole array. -/
def gix (t : Fin cfg0.N) (y : S1x704x1024.Idx) : S8x704x2048.Idx :=
  ix3 ⟨t.val / 2, by
    have hN : cfg0.N = 16 := N_0
    have := t.isLt
    omega⟩ (y 1) ⟨t.val % 2 * 1024 + (y 2).val, by
    have h : (y 2).val < 1024 := (y 2).isLt
    omega⟩

theorem iblk0_apply (c : Dev nD) (t : Fin cfg0.N) (k : Fin 4096) (y : S1x704x1024.Idx) :
    iblk m c 0 t (ix3 0 k (y 1) : S1x4096x704.Idx) = AA m c (ix3 ((gix t y) 0) k ((gix t y) 1)) := by
  have h := (idx_facts t).1
  unfold iblk; rw [View.read_apply]; show V m c main_arg0 _ = m ((c : Thread nD τ).loc main_arg0) _
  rw [V_main_arg0]
  congr 1; funext a; apply Fin.ext
  match a with
  | ⟨0, _⟩ => show win0_0.index t 0 * 1 + 1 * 0 = t.val / 2; rw [h.1]; omega
  | ⟨1, _⟩ => show win0_0.index t 1 * 4096 + 1 * k.val = k.val; rw [h.2.1]; omega
  | ⟨2, _⟩ => show win0_0.index t 2 * 704 + 1 * (y 1).val = (y 1).val; rw [h.2.2]; omega

/-- The host lays the second argument out with a leading axis of extent one. -/
theorem V_lead (c : Dev nD) : V m c main_v0 = broadcastInDim S1x4096x2048 ![1, 2] bcast_S4096x2048_S1x4096x2048_1_2 (BB m c) := by
  unfold V
  simp only [hostOps0, StableHlo.TRef.unary, StableHlo.TRef.toBuf, StableHlo.TRef.ofBuf, cast_eq]
  after_results_simp <;> rfl

theorem lead_apply (b : S4096x2048.Idx → EReal) (i : S1x4096x2048.Idx) :
    broadcastInDim (α := EReal) S1x4096x2048 ![1, 2] bcast_S4096x2048_S1x4096x2048_1_2 b i = b (ix2 (i 1) (i 2)) :=
  broadcastInDim_apply _ bcast_S4096x2048_S1x4096x2048_1_2 b i (ix2 (i 1) (i 2)) (fun a => match a with
    | ⟨0, _⟩ => rfl
    | ⟨1, _⟩ => rfl)

theorem iblk1_apply (c : Dev nD) (t : Fin cfg0.N) (k : Fin 4096) (y : S1x704x1024.Idx) :
    iblk m c 1 t (ix3 0 k (y 2) : S1x4096x1024.Idx) = BB m c (ix2 k ((gix t y) 2)) := by
  have h := (idx_facts t).2.1
  unfold iblk; rw [View.read_apply, cast_eq]
  refine (congrFun (V_lead m c) _).trans ((lead_apply _ _).trans ?_)
  congr 1; funext a; apply Fin.ext
  match a with
  | ⟨0, _⟩ => show win0_1.index t 1 * 4096 + 1 * k.val = k.val; rw [h.2.1]; omega
  | ⟨1, _⟩ => show win0_1.index t 2 * 1024 + 1 * (y 2).val = t.val % 2 * 1024 + (y 2).val; rw [h.2.2]; omega

theorem emb2 (t : Fin cfg0.N) (y : S1x704x1024.Idx) : (win0_2.blk t).view.emb y = gix t y := by
  have h := (idx_facts t).2.2
  have h0 : (y 0).val < 1 := (y 0).isLt
  funext a; apply Fin.ext
  match a with
  | ⟨0, _⟩ => show win0_2.index t 0 * 1 + 1 * (y 0).val = t.val / 2; rw [h.1]; omega
  | ⟨1, _⟩ => show win0_2.index t 1 * 704 + 1 * (y 1).val = (y 1).val; rw [h.2.1]; omega
  | ⟨2, _⟩ => show win0_2.index t 2 * 1024 + 1 * (y 2).val = t.val % 2 * 1024 + (y 2).val; rw [h.2.2]; omega

theorem lead_eq (y : S1x704x1024.Idx) : y = ix3 0 (y 1) (y 2) := by
  have h0 : (y 0).val < 1 := (y 0).isLt
  funext a; apply Fin.ext
  match a with
  | ⟨0, _⟩ => show (y 0).val = 0; omega
  | ⟨1, _⟩ => rfl
  | ⟨2, _⟩ => rfl

theorem block_eq (c : Dev nD) (t : Fin cfg0.N) (y : S1x704x1024.Idx) :
    k0_pay1 (F := Ideal) (iblk m c 0 t) (iblk m c 1 t) y = G m c (gix t y) := by
  refine (congrArg (k0_pay1 (F := Ideal) (iblk m c 0 t) (iblk m c 1 t)) (lead_eq y)).trans ((pay_apply _ _ (y 1) (y 2)).trans ?_)
  unfold G dw
  refine Finset.sum_congr rfl fun k _ => ?_
  rw [iblk0_apply m c t k y, iblk1_apply m c t k y]

theorem flushed_eq (c : Dev nD) (t : Fin cfg0.N) :
    (dats m 0 c).flushed 2 t = (win0_2.blk t).view.read (Elt Ideal) (G m c) := by
  rw [Cert.DwIdeal.Value.flushed2]
  unfold out0_2
  rw [View.ld_unit_zero hz3, View.ld_unit_zero hz3]
  funext y
  rw [View.read_apply]
  refine (congrFun (View.canon_cons_unit_zero hz3 _ _ _) y).trans ?_
  refine (block_eq m c t y).trans (congrArg (G m c) (emb2 t y)).symm

/-- Every index of the result lies in the block of the grid point of its shard and column block. -/
theorem cover (i : S8x704x2048.Idx) : ∃ t : Fin cfg0.N, (cfg0.win 2).flush t = true ∧ i ∈ ((cfg0.win 2).blk t).view.set := by
  have h0 : (i 0).val < 8 := (i 0).isLt
  have h2 : (i 2).val < 2048 := (i 2).isLt
  have hN : cfg0.N = 16 := N_0
  refine ⟨⟨(i 0).val * 2 + (i 2).val / 1024, by omega⟩, flush0_2 _, ?_⟩
  refine Finset.mem_map.2 ⟨(ix3 0 (i 1) ⟨(i 2).val % 1024, by omega⟩ : S1x704x1024.Idx), Finset.mem_univ _, ?_⟩
  refine (emb2 _ _).trans ?_
  funext a; apply Fin.ext
  match a with
  | ⟨0, _⟩ => show ((i 0).val * 2 + (i 2).val / 1024) / 2 = (i 0).val; omega
  | ⟨1, _⟩ => rfl
  | ⟨2, _⟩ => show ((i 0).val * 2 + (i 2).val / 1024) % 2 * 1024 + (i 2).val % 1024 = (i 2).val; omega

theorem final (c : Dev nD) : (dats m 0 c).arrAt 2 cfg0.N = G m c :=
  (dats m 0 c).arrAt_eq_of_cover 2 (G m c) (fun t _ => flushed_eq m c t) cover

/-- The kernel's run with its result named. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.DwIdeal.Value.run_blocks (F := Ideal) m ρ)

/-! ## The references -/

section
open Cert.DwRefIdeal.Read

/-- The gradient of the down projection's weights. -/
theorem ref_down (c : Dev nD) : val_main_v6 (F := Ideal) (AA m c) (BB m c) = G m c := by
  funext i
  rw [val_main_v6_apply]
  show val_main_v5 (F := Ideal) (AA m c) (BB m c) i = _
  rw [val_main_v5_apply, val_main_v4_apply]
  unfold G dw
  refine Finset.sum_congr rfl fun k _ => ?_
  rw [val_main_v3_apply, val_main_v1_apply]
  show BB m c _ * AA m c _ = _
  rw [mul_comm]
  congr 2
  · funext a; match a with
    | ⟨0, _⟩ => rfl
    | ⟨1, _⟩ => rfl
    | ⟨2, _⟩ => rfl
  · funext a; match a with
    | ⟨0, _⟩ => rfl
    | ⟨1, _⟩ => rfl
end

section
open Cert.DwGateRefIdeal.Read

/-- The gradient of the gate's and the up projection's weights. -/
theorem ref_gate (c : Dev nD) : val_main_v7 (F := Ideal) (AA m c) (BB m c) = G m c := by
  funext i
  rw [val_main_v7_apply]
  show val_main_v6 (F := Ideal) (AA m c) (BB m c) i = _
  rw [val_main_v6_apply]
  unfold G dw
  refine Finset.sum_congr rfl fun k _ => ?_
  rw [val_main_v5_apply, val_main_v4_apply, val_main_v1_apply]
  show AA m c _ * BB m c _ = _
  congr 2
  · funext a; match a with
    | ⟨0, _⟩ => rfl
    | ⟨1, _⟩ => rfl
    | ⟨2, _⟩ => rfl
  · funext a; match a with
    | ⟨0, _⟩ => rfl
    | ⟨1, _⟩ => rfl
end

theorem algebraic_down : Cert.algebraic_DwIdeal_DwRefIdeal := by
  intro m g m' g' hpre hargs
  refine ⟨fun c => G m c, run m g, ?_⟩
  refine (θ_run Cert.DwRefIdeal.defs _ _).mono (fun r h c => ?_) (Cert.DwRefIdeal.Value.run (F := Ideal) m' g')
  obtain ⟨e0, e1⟩ := hargs c
  refine ⟨(h c).1.trans ?_, (h c).2⟩
  refine (Cert.DwRefIdeal.Read.val_main_v6_eq _ _).trans ?_
  rw [e0, e1]
  exact ref_down m c

theorem algebraic_gate : Cert.algebraic_DwIdeal_DwGateRefIdeal := by
  intro m g m' g' hpre hargs
  refine ⟨fun c => G m c, run m g, ?_⟩
  refine (θ_run Cert.DwGateRefIdeal.defs _ _).mono (fun r h c => ?_) (Cert.DwGateRefIdeal.Value.run (F := Ideal) m' g')
  obtain ⟨e0, e1⟩ := hargs c
  refine ⟨(h c).1.trans ?_, (h c).2⟩
  refine (Cert.DwGateRefIdeal.Read.val_main_v7_eq _ _).trans ?_
  rw [e0, e1]
  exact ref_gate m c

theorem frame_ref_down : Cert.quiescent_DwRefIdeal := fun m ρ _ =>
  (θ_run Cert.DwRefIdeal.defs _ _).mono (fun r h => ⟨fun c => (h c).2, sem_eq_zero_of_no_sems (by decide) r.2⟩)
    (Cert.DwRefIdeal.Value.run (F := Ideal) m ρ)

theorem frame_ref_gate : Cert.quiescent_DwGateRefIdeal := fun m ρ _ =>
  (θ_run Cert.DwGateRefIdeal.defs _ _).mono (fun r h => ⟨fun c => (h c).2, sem_eq_zero_of_no_sems (by decide) r.2⟩)
    (Cert.DwGateRefIdeal.Value.run (F := Ideal) m ρ)

end Cert.DwIdeal.Whole

end
-- ==== Proof.DhValue.lean ====
/- The feed-forward input's gradient: the kernel's result as a whole array, and its equality with the reference. -/
module

public import proofs.«01_k».proof.Defs
public import proofs.«01_k».proof.Proof.Gen.DhIdeal.Value
public import proofs.«01_k».proof.Proof.Gen.DhRefIdeal.Read
public import Idealize.ShloMosaic.Lib.Pointwise
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.DhIdeal.Whole

open Cert.DhIdeal Cert.DhIdeal.Gen

variable (m : (ℓ : Loc nD τ sig) → Buf (Elt Ideal) ℓ) (ρ : Dev nD → PrngReg)

abbrev DG (c : Dev nD) : S8x4096x704.Idx → EReal := m ((c : Thread nD τ).loc main_arg0)
abbrev DU (c : Dev nD) : S8x4096x704.Idx → EReal := m ((c : Thread nD τ).loc main_arg1)
abbrev WG (c : Dev nD) : S8x704x2048.Idx → EReal := m ((c : Thread nD τ).loc main_arg2)
abbrev WU (c : Dev nD) : S8x704x2048.Idx → EReal := m ((c : Thread nD τ).loc main_arg3)

/-- What shard `s` adds to the gradient at row `r`, column `d`: through the gate and through the up projection. -/
def shard (c : Dev nD) (r : Fin 4096) (d : Fin 2048) (s : Fin 8) : EReal :=
  (∑ f : Fin 704, DG m c (ix3 s r f) * WG m c (ix3 s f d)) + ∑ f : Fin 704, DU m c (ix3 s r f) * WU m c (ix3 s f d)

def G (c : Dev nD) : Buf (Elt Ideal) ((c : Thread nD τ).loc main_v0) := fun i : S4096x2048.Idx =>
  (∑ s : Fin 8, shard m c (i 0) (i 1) s : EReal)

/-- Which block of each window grid point `t` works on. -/
theorem idx_facts : ∀ t : Fin cfg0.N, (win0_0.index t (0 : Fin 3) = t.val % 4 ∧ win0_0.index t (1 : Fin 3) = t.val / 4 ∧ win0_0.index t (2 : Fin 3) = 0)
    ∧ (win0_1.index t (0 : Fin 3) = t.val % 4 ∧ win0_1.index t (1 : Fin 3) = t.val / 4 ∧ win0_1.index t (2 : Fin 3) = 0)
    ∧ (win0_2.index t (0 : Fin 3) = t.val % 4 ∧ win0_2.index t (1 : Fin 3) = 0 ∧ win0_2.index t (2 : Fin 3) = 0)
    ∧ (win0_3.index t (0 : Fin 3) = t.val % 4 ∧ win0_3.index t (1 : Fin 3) = 0 ∧ win0_3.index t (2 : Fin 3) = 0)
    ∧ (win0_4.index t (0 : Fin 2) = t.val / 4 ∧ win0_4.index t (1 : Fin 2) = 0) :=
  (by decide +kernel : ∀ t : Fin grid0.N, _)

/-! ## One grid point's part -/

/-- One shard's product. -/
def term (P0 : Vec Ideal S1x512x704 .bf16) (P1 : Vec Ideal S1x704x2048 .bf16) : FVec Ideal S512x2048 .f32 :=
  matmul dot_S512x704_S704x2048_S512x2048_1_0_0_1_n_n none (shapeCast S512x704 P0 shapeCasts_S1x512x704_S512x704 : FVec Ideal S512x704 .bf16)
    (shapeCast S704x2048 P1 shapeCasts_S1x704x2048_S704x2048 : FVec Ideal S704x2048 .bf16) (constant S512x2048 .f32 0x00000000#32)

theorem term_apply (P0 : Vec Ideal S1x512x704 .bf16) (P1 : Vec Ideal S1x704x2048 .bf16) (r : Fin 512) (d : Fin 2048) :
    term P0 P1 (ix2 r d) = (∑ f : Fin 704, P0 (ix3 0 r f) * P1 (ix3 0 f d) : EReal) := by
  pointwise [term]

theorem pay_terms (a0 a1 a2 a3 : Vec Ideal S1x512x704 .bf16) (b0 b1 b2 b3 : Vec Ideal S1x704x2048 .bf16) (i : S512x2048.Idx) :
    (k0_pay2 (F := Ideal) a0 b0 a1 b1 a2 b2 a3 b3 i : EReal) = term a0 b0 i + term a1 b1 i + term a2 b2 i + term a3 b3 i := rfl

/-- One of the two shards of a pair's block of rows, and of weights. -/
def row (n : Nat) (i0 : ∀ a, (![n, 0, 0] : Fin 3 → Nat) a + S1x512x704.size a ≤ S2x512x704.size a) (x : Vec Ideal S2x512x704 .bf16) : Vec Ideal S1x512x704 .bf16 :=
  View.ld x (Rect.unit (s := S2x512x704) ![n, 0, 0] S1x512x704.size i0)
def wgt (n : Nat) (i0 : ∀ a, (![n, 0, 0] : Fin 3 → Nat) a + S1x704x2048.size a ≤ S2x704x2048.size a) (x : Vec Ideal S2x704x2048 .bf16) : Vec Ideal S1x704x2048 .bf16 :=
  View.ld x (Rect.unit (s := S2x704x2048) ![n, 0, 0] S1x704x2048.size i0)

/-- What a grid point adds, from its four blocks. -/
def part (x0 x1 : Vec Ideal S2x512x704 .bf16) (x2 x3 : Vec Ideal S2x704x2048 .bf16) : FVec Ideal S512x2048 .f32 :=
  k0_pay2 (row 0 inb_S2x512x704_S1x512x704_0_0_0 x0) (wgt 0 inb_S2x704x2048_S1x704x2048_0_0_0 x2)
    (row 0 inb_S2x512x704_S1x512x704_0_0_0 x1) (wgt 0 inb_S2x704x2048_S1x704x2048_0_0_0 x3)
    (row 1 inb_S2x512x704_S1x512x704_1_0_0 x0) (wgt 1 inb_S2x704x2048_S1x704x2048_1_0_0 x2)
    (row 1 inb_S2x512x704_S1x512x704_1_0_0 x1) (wgt 1 inb_S2x704x2048_S1x704x2048_1_0_0 x3)

theorem term_pair (n : Nat) (hn : n < 2) (i0 i1) (x : Vec Ideal S2x512x704 .bf16) (w : Vec Ideal S2x704x2048 .bf16) (r : Fin 512) (d : Fin 2048) :
    term (row n i0 x) (wgt n i1 w) (ix2 r d) = (∑ f : Fin 704, x (ix3 ⟨n, hn⟩ r f) * w (ix3 ⟨n, hn⟩ f d) : EReal) := by
  refine (term_apply _ _ r d).trans (Finset.sum_congr rfl fun f _ => ?_)
  refine congrArg₂ (fun u v : EReal => u * v) ?_ ?_
  · refine View.ld_unit_apply_of (Val := Elt Ideal) x _ _ i0 _ (ix3 ⟨n, hn⟩ r f) fun a => ?_
    match a with
    | ⟨0, _⟩ => show n = n + 0; omega
    | ⟨1, _⟩ => show r.val = 0 + r.val; omega
    | ⟨2, _⟩ => show f.val = 0 + f.val; omega
  · refine View.ld_unit_apply_of (Val := Elt Ideal) w _ _ i1 _ (ix3 ⟨n, hn⟩ f d) fun a => ?_
    match a with
    | ⟨0, _⟩ => show n = n + 0; omega
    | ⟨1, _⟩ => show f.val = 0 + f.val; omega
    | ⟨2, _⟩ => show d.val = 0 + d.val; omega

/-- A cast to the same shape reads the same element. -/
theorem cast_same (x : FVec Ideal S512x2048 .f32) (h) (i : S512x2048.Idx) : (shapeCast S512x2048 x h i : EReal) = x i :=
  shapeCast_apply x h i i rfl

/-! ## The accumulator -/

/-- The accumulator after grid point `t`: the point's part at the first of its four points, -/
theorem acc_first (c : Dev nD) (t : Fin cfg0.N) (h0 : t.val % 4 = 0) (i : S512x2048.Idx) :
    ((outsAt0 m c t.val t.isLt).2 i : EReal) = part (iblk m c 0 t) (iblk m c 1 t) (iblk m c 2 t) (iblk m c 3 t) i := by
  rw [outsAt0_A m c t h0 (by omega) (by omega)]
  frame_out [k0_pay3]
  exact cast_same _ _ i

/-- and what it held before plus the part at the three others; -/
theorem acc_next (c : Dev nD) (t : Fin cfg0.N) (h0 : ¬t.val % 4 = 0) (i : S512x2048.Idx) :
    ((outsAt0 m c t.val t.isLt).2 i : EReal)
      = (outsAt0 m c (t.val - 1) (Nat.lt_of_le_of_lt (Nat.sub_le _ _) t.isLt)).2 i + part (iblk m c 0 t) (iblk m c 1 t) (iblk m c 2 t) (iblk m c 3 t) i := by
  by_cases h2 : t.val % 4 = 3
  · rw [outsAt0_C m c t h0 (by omega) h2]
    frame_out [k0_pay1]
    refine (cast_same _ _ i).trans (congrArg (fun u : EReal => u + _) ?_)
    exact congrFun (Memref.IsWhole.read_unread (Memref.isWhole_whole cc0_scratch0) _) i
  · rw [outsAt0_B m c t h0 (by omega) h2]
    frame_out [k0_pay1]
    refine (cast_same _ _ i).trans (congrArg (fun u : EReal => u + _) ?_)
    exact congrFun (Memref.IsWhole.read_unread (Memref.isWhole_whole cc0_scratch0) _) i

/-- the last writes it out. -/
theorem out_last (c : Dev nD) (t : Fin cfg0.N) (h2 : t.val % 4 = 3) : (outsAt0 m c t.val t.isLt).1 = (outsAt0 m c t.val t.isLt).2 := by
  rw [outsAt0_C m c t (by omega) (by omega) h2]
  frame_out

/-- Where row `r` of the blocks of grid point `n` lies in the whole array. -/
def place (n : Nat) (r : Fin 512) : Fin 4096 := ⟨n / 4 % 8 * 512 + r.val, by omega⟩

/-- The shard that is number `q` of the pair at grid point `n`. -/
def sh (n : Nat) (q : Fin 2) : Fin 8 := ⟨n % 4 * 2 + q.val, by omega⟩

theorem iblk0_apply (c : Dev nD) (t : Fin cfg0.N) (q : Fin 2) (r : Fin 512) (f : Fin 704) :
    iblk m c 0 t (ix3 q r f : S2x512x704.Idx) = DG m c (ix3 (sh t q) (place t r) f) := by
  have h := (idx_facts t).1
  have hN : cfg0.N = 32 := N_0
  have ht := t.isLt
  unfold iblk; rw [View.read_apply]; show V m c main_arg0 _ = m ((c : Thread nD τ).loc main_arg0) _
  rw [V_main_arg0]
  congr 1; funext a; apply Fin.ext
  match a with
  | ⟨0, _⟩ => show win0_0.index t 0 * 2 + 1 * q.val = t.val % 4 * 2 + q.val; rw [h.1]; omega
  | ⟨1, _⟩ => show win0_0.index t 1 * 512 + 1 * r.val = t.val / 4 % 8 * 512 + r.val; rw [h.2.1]; omega
  | ⟨2, _⟩ => show win0_0.index t 2 * 704 + 1 * f.val = f.val; rw [h.2.2]; omega

theorem iblk1_apply (c : Dev nD) (t : Fin cfg0.N) (q : Fin 2) (r : Fin 512) (f : Fin 704) :
    iblk m c 1 t (ix3 q r f : S2x512x704.Idx) = DU m c (ix3 (sh t q) (place t r) f) := by
  have h := (idx_facts t).2.1
  have hN : cfg0.N = 32 := N_0
  have ht := t.isLt
  unfold iblk; rw [View.read_apply]; show V m c main_arg1 _ = m ((c : Thread nD τ).loc main_arg1) _
  rw [V_main_arg1]
  congr 1; funext a; apply Fin.ext
  match a with
  | ⟨0, _⟩ => show win0_1.index t 0 * 2 + 1 * q.val = t.val % 4 * 2 + q.val; rw [h.1]; omega
  | ⟨1, _⟩ => show win0_1.index t 1 * 512 + 1 * r.val = t.val / 4 % 8 * 512 + r.val; rw [h.2.1]; omega
  | ⟨2, _⟩ => show win0_1.index t 2 * 704 + 1 * f.val = f.val; rw [h.2.2]; omega

theorem iblk2_apply (c : Dev nD) (t : Fin cfg0.N) (q : Fin 2) (f : Fin 704) (d : Fin 2048) :
    iblk m c 2 t (ix3 q f d : S2x704x2048.Idx) = WG m c (ix3 (sh t q) f d) := by
  have h := (idx_facts t).2.2.1
  unfold iblk; rw [View.read_apply]; show V m c main_arg2 _ = m ((c : Thread nD τ).loc main_arg2) _
  rw [V_main_arg2]
  congr 1; funext a; apply Fin.ext
  match a with
  | ⟨0, _⟩ => show win0_2.index t 0 * 2 + 1 * q.val = t.val % 4 * 2 + q.val; rw [h.1]; omega
  | ⟨1, _⟩ => show win0_2.index t 1 * 704 + 1 * f.val = f.val; rw [h.2.1]; omega
  | ⟨2, _⟩ => show win0_2.index t 2 * 2048 + 1 * d.val = d.val; rw [h.2.2]; omega

theorem iblk3_apply (c : Dev nD) (t : Fin cfg0.N) (q : Fin 2) (f : Fin 704) (d : Fin 2048) :
    iblk m c 3 t (ix3 q f d : S2x704x2048.Idx) = WU m c (ix3 (sh t q) f d) := by
  have h := (idx_facts t).2.2.2.1
  unfold iblk; rw [View.read_apply]; show V m c main_arg3 _ = m ((c : Thread nD τ).loc main_arg3) _
  rw [V_main_arg3]
  congr 1; funext a; apply Fin.ext
  match a with
  | ⟨0, _⟩ => show win0_3.index t 0 * 2 + 1 * q.val = t.val % 4 * 2 + q.val; rw [h.1]; omega
  | ⟨1, _⟩ => show win0_3.index t 1 * 704 + 1 * f.val = f.val; rw [h.2.1]; omega
  | ⟨2, _⟩ => show win0_3.index t 2 * 2048 + 1 * d.val = d.val; rw [h.2.2]; omega

theorem emb4 (t : Fin cfg0.N) (y : S512x2048.Idx) : (win0_4.blk t).view.emb y = ix2 (place t (y 0)) (y 1) := by
  have h := (idx_facts t).2.2.2.2
  have hN : cfg0.N = 32 := N_0
  have ht := t.isLt
  funext a; apply Fin.ext
  match a with
  | ⟨0, _⟩ => show win0_4.index t 0 * 512 + 1 * (y 0).val = t.val / 4 % 8 * 512 + (y 0).val; rw [h.1]; omega
  | ⟨1, _⟩ => show win0_4.index t 1 * 2048 + 1 * (y 1).val = (y 1).val; rw [h.2]; omega

theorem pair_eq (y : S512x2048.Idx) : y = ix2 (y 0) (y 1) := by
  funext a; match a with
  | ⟨0, _⟩ => rfl
  | ⟨1, _⟩ => rfl

/-- What grid point `n` adds at row `r`, column `d` of its block: the two shards of its pair. -/
def both (c : Dev nD) (r : Fin 512) (d : Fin 2048) (n : Nat) : EReal :=
  shard m c (place n r) d (sh n 0) + shard m c (place n r) d (sh n 1)

/-- The two products of one shard of the pair, through the gate and through the up projection. -/
theorem gate_term (c : Dev nD) (t : Fin cfg0.N) (r : Fin 512) (d : Fin 2048) (n : Nat) (hn : n < 2) (i0 i1) :
    (term (row n i0 (iblk m c 0 t)) (wgt n i1 (iblk m c 2 t)) (ix2 r d) : EReal)
      = ∑ f : Fin 704, DG m c (ix3 (sh t ⟨n, hn⟩) (place t r) f) * WG m c (ix3 (sh t ⟨n, hn⟩) f d) :=
  (term_pair n hn i0 i1 _ _ r d).trans (Finset.sum_congr rfl fun f _ =>
    congrArg₂ (fun u v : EReal => u * v) (iblk0_apply m c t ⟨n, hn⟩ r f) (iblk2_apply m c t ⟨n, hn⟩ f d))

theorem up_term (c : Dev nD) (t : Fin cfg0.N) (r : Fin 512) (d : Fin 2048) (n : Nat) (hn : n < 2) (i0 i1) :
    (term (row n i0 (iblk m c 1 t)) (wgt n i1 (iblk m c 3 t)) (ix2 r d) : EReal)
      = ∑ f : Fin 704, DU m c (ix3 (sh t ⟨n, hn⟩) (place t r) f) * WU m c (ix3 (sh t ⟨n, hn⟩) f d) :=
  (term_pair n hn i0 i1 _ _ r d).trans (Finset.sum_congr rfl fun f _ =>
    congrArg₂ (fun u v : EReal => u * v) (iblk1_apply m c t ⟨n, hn⟩ r f) (iblk3_apply m c t ⟨n, hn⟩ f d))

theorem part_terms (x0 x1 : Vec Ideal S2x512x704 .bf16) (x2 x3 : Vec Ideal S2x704x2048 .bf16) (i : S512x2048.Idx) :
    (part x0 x1 x2 x3 i : EReal)
      = term (row 0 inb_S2x512x704_S1x512x704_0_0_0 x0) (wgt 0 inb_S2x704x2048_S1x704x2048_0_0_0 x2) i
        + term (row 0 inb_S2x512x704_S1x512x704_0_0_0 x1) (wgt 0 inb_S2x704x2048_S1x704x2048_0_0_0 x3) i
        + term (row 1 inb_S2x512x704_S1x512x704_1_0_0 x0) (wgt 1 inb_S2x704x2048_S1x704x2048_1_0_0 x2) i
        + term (row 1 inb_S2x512x704_S1x512x704_1_0_0 x1) (wgt 1 inb_S2x704x2048_S1x704x2048_1_0_0 x3) i :=
  pay_terms _ _ _ _ _ _ _ _ i

theorem part_eq (c : Dev nD) (t : Fin cfg0.N) (r : Fin 512) (d : Fin 2048) :
    (part (iblk m c 0 t) (iblk m c 1 t) (iblk m c 2 t) (iblk m c 3 t) (ix2 r d) : EReal) = both m c r d t.val := by
  rw [part_terms, gate_term m c t r d 0 (by decide), up_term m c t r d 0 (by decide), gate_term m c t r d 1 (by decide),
    up_term m c t r d 1 (by decide)]
  exact add_assoc (G := EReal) _ _ _

/-- The accumulator at one place of its block, after grid point `n`. -/
def acc (c : Dev nD) (r : Fin 512) (d : Fin 2048) (n : Nat) (hn : n < cfg0.N) : EReal := (outsAt0 m c n hn).2 (ix2 r d)

theorem acc_reset (c : Dev nD) (r : Fin 512) (d : Fin 2048) (t : Fin cfg0.N) (h0 : t.val % 4 = 0) :
    acc m c r d t.val t.isLt = 0 + both m c r d t.val :=
  (acc_first m c t h0 (ix2 r d)).trans ((part_eq m c t r d).trans (zero_add (both m c r d t.val)).symm)

theorem acc_step (c : Dev nD) (r : Fin 512) (d : Fin 2048) (t : Fin cfg0.N) (h0 : ¬t.val % 4 = 0) :
    acc m c r d t.val t.isLt = acc m c r d (t.val - 1) (Nat.lt_of_le_of_lt (Nat.sub_le _ _) t.isLt) + both m c r d t.val := by
  rw [← part_eq m c t r d]
  exact acc_next m c t h0 (ix2 r d)

/-- The four points of a row block, each with its pair of shards. -/
theorem both_at (c : Dev nD) (r : Fin 512) (d : Fin 2048) (n k : Nat) (hk : k < 4) :
    both m c r d (4 * (n / 4) + k) = shard m c (place n r) d (sh k 0) + shard m c (place n r) d (sh k 1) := by
  have e0 : place (4 * (n / 4) + k) r = place n r := by
    apply Fin.ext; show (4 * (n / 4) + k) / 4 % 8 * 512 + r.val = n / 4 % 8 * 512 + r.val; omega
  have e1 : ∀ q, sh (4 * (n / 4) + k) q = sh k q := fun q => by
    apply Fin.ext; show (4 * (n / 4) + k) % 4 * 2 + q.val = k % 4 * 2 + q.val; omega
  unfold both; rw [e0, e1, e1]

/-- The accumulator at the last point of a row block holds the sum over the shards. -/
theorem acc_last (c : Dev nD) (r : Fin 512) (d : Fin 2048) (t : Fin cfg0.N) (h3 : t.val % 4 = 3) :
    acc m c r d t.val t.isLt = ∑ s : Fin 8, shard m c (place t r) d s := by
  have h := Pipeline.eq_sum_of_reset_step_of_mod (acc m c r d) 4 0 (both m c r d) (acc_reset m c r d) (acc_step m c r d) t h3
  refine h.trans ?_
  rw [zero_add, Finset.sum_congr rfl fun k hk => both_at m c r d t.val k (Finset.mem_range.1 hk), Fin.sum_univ_eight]
  simp only [Finset.sum_range_succ, Finset.sum_range_zero, zero_add, ← add_assoc]
  rfl

theorem flushed_eq (c : Dev nD) (t : Fin cfg0.N) (hf : (cfg0.win 4).flush t = true) :
    (dats m 0 c).flushed 4 t = (win0_4.blk t).view.read (Elt Ideal) (G m c) := by
  have h3 : t.val % 4 = 3 := (flush0_4 t).mp hf
  rw [Cert.DhIdeal.Value.flushed4, out_last m c t h3]
  funext y
  rw [View.read_apply]
  refine (congrArg (outsAt0 m c t.val t.isLt).2 (pair_eq y)).trans ?_
  exact (acc_last m c (y 0) (y 1) t h3).trans (congrArg (G m c) (emb4 t y)).symm

/-- Every index of the result lies in the block written at the last point of its rows. -/
theorem cover (i : S4096x2048.Idx) : ∃ t : Fin cfg0.N, (cfg0.win 4).flush t = true ∧ i ∈ ((cfg0.win 4).blk t).view.set := by
  have h0 : (i 0).val < 4096 := (i 0).isLt
  have hN : cfg0.N = 32 := N_0
  refine ⟨⟨(i 0).val / 512 * 4 + 3, by omega⟩, (flush0_4 _).mpr (by show ((i 0).val / 512 * 4 + 3) % 4 = 3; omega), ?_⟩
  refine Finset.mem_map.2 ⟨(ix2 ⟨(i 0).val % 512, by omega⟩ (i 1) : S512x2048.Idx), Finset.mem_univ _, ?_⟩
  refine (emb4 _ _).trans ?_
  funext a; apply Fin.ext
  match a with
  | ⟨0, _⟩ => show ((i 0).val / 512 * 4 + 3) / 4 % 8 * 512 + (i 0).val % 512 = (i 0).val; omega
  | ⟨1, _⟩ => rfl

theorem final (c : Dev nD) : (dats m 0 c).arrAt 4 cfg0.N = G m c :=
  (dats m 0 c).arrAt_eq_of_cover 4 (G m c) (fun t hf => flushed_eq m c t hf) cover

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.DhIdeal.Value.run_blocks (F := Ideal) m ρ)

/-! ## The reference -/

section
open Cert.DhRefIdeal.Read

theorem ref_up (a : Vec Ideal Cert.DhRefIdeal.S8x4096x704 .bf16) (w : Vec Ideal Cert.DhRefIdeal.S8x704x2048 .bf16) (r : Fin 4096) (d : Fin 2048) :
    val_main_v10 (F := Ideal) a w (ix2 r d) = (∑ s : Fin 8, ∑ f : Fin 704, a (ix3 s r f) * w (ix3 s f d) : EReal) := by
  pointwise [val_main_v10, val_main_v9, val_main_v8, val_main_v4]

theorem ref_gate (a : Vec Ideal Cert.DhRefIdeal.S8x4096x704 .bf16) (w : Vec Ideal Cert.DhRefIdeal.S8x704x2048 .bf16) (r : Fin 4096) (d : Fin 2048) :
    val_main_v12 (F := Ideal) a w (ix2 r d) = (∑ s : Fin 8, ∑ f : Fin 704, a (ix3 s r f) * w (ix3 s f d) : EReal) := by
  pointwise [val_main_v12, val_main_v11, val_main_v7, val_main_v1]

theorem ref (c : Dev nD) : val_main_v13 (F := Ideal) (DG m c) (DU m c) (WG m c) (WU m c) = G m c := by
  funext i
  have hi : i = ix2 (i 0) (i 1) := by
    funext a; match a with
    | ⟨0, _⟩ => rfl
    | ⟨1, _⟩ => rfl
  rw [val_main_v13_apply]
  refine (congrArg₂ (fun u v : EReal => u + v) ((congrArg _ hi).trans (ref_up (DU m c) (WU m c) (i 0) (i 1)))
    ((congrArg _ hi).trans (ref_gate (DG m c) (WG m c) (i 0) (i 1)))).trans ?_
  exact (add_comm (G := EReal) _ _).trans Finset.sum_add_distrib.symm

end

theorem algebraic : Cert.algebraic_DhIdeal_DhRefIdeal := by
  intro m g m' g' hpre hargs
  refine ⟨fun c => G m c, run m g, ?_⟩
  refine (θ_run Cert.DhRefIdeal.defs _ _).mono (fun r h c => ?_) (Cert.DhRefIdeal.Value.run (F := Ideal) m' g')
  obtain ⟨e0, e1, e2, e3⟩ := hargs c
  refine ⟨(h c).1.trans ?_, (h c).2⟩
  refine (Cert.DhRefIdeal.Read.val_main_v13_eq _ _ _ _).trans ?_
  rw [e0, e1, e2, e3]
  exact ref m c

theorem frame_ref : Cert.quiescent_DhRefIdeal := fun m ρ _ =>
  (θ_run Cert.DhRefIdeal.defs _ _).mono (fun r h => ⟨fun c => (h c).2, sem_eq_zero_of_no_sems (by decide) r.2⟩)
    (Cert.DhRefIdeal.Value.run (F := Ideal) m ρ)

end Cert.DhIdeal.Whole

end
-- ==== Proof.UpValue.lean ====
/- The feed-forward's two up projections: the kernel's three results as whole arrays, and their equality with the reference. -/
module

public import proofs.«01_k».proof.Defs
public import proofs.«01_k».proof.Proof.Gen.UpIdeal.Value
public import proofs.«01_k».proof.Proof.Gen.UpRefIdeal.Read
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.UpIdeal.Whole

open Cert.UpIdeal Cert.UpIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

abbrev HH (c : Dev nD) : S4096x2048.Idx → EReal := m ((c : Thread nD τ).loc main_arg0)
abbrev WG (c : Dev nD) : S8x704x2048.Idx → EReal := m ((c : Thread nD τ).loc main_arg1)
abbrev WU (c : Dev nD) : S8x704x2048.Idx → EReal := m ((c : Thread nD τ).loc main_arg2)

/-- A projection of the rows `h` by the weights `w`: row `r`, shard `s`, column `f`. -/
def proj (h : S4096x2048.Idx → EReal) (w : S8x704x2048.Idx → EReal) (i : S8x4096x704.Idx) : EReal :=
  ∑ k : Fin 2048, h (ix2 (i 1) k) * w (ix3 (i 0) (i 2) k)

def G3 (c : Dev nD) : Buf (Elt Ideal) ((c : Thread nD τ).loc main_v0_0) := fun i : S8x4096x704.Idx => proj (HH m c) (WG m c) i
def G4 (c : Dev nD) : Buf (Elt Ideal) ((c : Thread nD τ).loc main_v0_1) := fun i : S8x4096x704.Idx => proj (HH m c) (WU m c) i
def G5 (c : Dev nD) : Buf (Elt Ideal) ((c : Thread nD τ).loc main_v0_2) := fun i : S8x4096x704.Idx =>
  proj (HH m c) (WG m c) i * Ideal.logistic (proj (HH m c) (WG m c) i) * proj (HH m c) (WU m c) i

/-- Which block of each window grid point `t` works on. -/
theorem idx_facts : ∀ t : Fin cfg0.N, (win0_0.index t (0 : Fin 2) = t.val % 4 ∧ win0_0.index t (1 : Fin 2) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0) :=
  (by decide +kernel : ∀ t : Fin grid0.N, _)

/-- The three result windows move alike. -/
theorem out_facts : ∀ t : Fin cfg0.N,
    (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = t.val % 4 ∧ win0_4.index t (2 : Fin 3) = 0)
    ∧ (win0_5.index t (0 : Fin 3) = t.val / 4 ∧ win0_5.index t (1 : Fin 3) = t.val % 4 ∧ win0_5.index t (2 : Fin 3) = 0) :=
  (by decide +kernel : ∀ t : Fin grid0.N, _)

/-- The product of a block of rows with a block of the weights. -/
theorem dot_apply (P0 : Vec Ideal S1024x2048 .bf16) (P1 : Vec Ideal S1x704x2048 .bf16) (r : Fin 1024) (f : Fin 704) :
    k0_pay1 P0 P1 (ix2 r f) = (∑ k : Fin 2048, P0 (ix2 r k) * P1 (ix3 0 f k) : EReal) := by
  pointwise [k0_pay1]

/-- The second projection is computed as the first. -/
theorem dot_same (P0 : Vec Ideal S1024x2048 .bf16) (P1 : Vec Ideal S1x704x2048 .bf16) : k0_pay2 (F := Ideal) P0 P1 = k0_pay1 P0 P1 := rfl

/-- Where an index of grid point `t`'s result block lies in the whole array. -/
def gix (t : Fin cfg0.N) (y : S1x1024x704.Idx) : S8x4096x704.Idx :=
  ix3 ⟨t.val / 4, by
    have hN : cfg0.N = 32 := N_0
    have := t.isLt
    omega⟩ ⟨t.val % 4 * 1024 + (y 1).val, by
    have h : (y 1).val < 1024 := (y 1).isLt
    omega⟩ (y 2)

theorem iblk0_apply (c : Dev nD) (t : Fin cfg0.N) (k : Fin 2048) (y : S1x1024x704.Idx) :
    iblk m c 0 t (ix2 (y 1) k : S1024x2048.Idx) = HH m c (ix2 ((gix t y) 1) k) := by
  have h := (idx_facts t).1
  unfold iblk; rw [View.read_apply]; show V m c main_arg0 _ = m ((c : Thread nD τ).loc main_arg0) _
  rw [V_main_arg0]
  congr 1; funext a; apply Fin.ext
  match a with
  | ⟨0, _⟩ => show win0_0.index t 0 * 1024 + 1 * (y 1).val = t.val % 4 * 1024 + (y 1).val; rw [h.1]; omega
  | ⟨1, _⟩ => show win0_0.index t 1 * 2048 + 1 * k.val = k.val; rw [h.2]; omega

theorem iblk1_apply (c : Dev nD) (t : Fin cfg0.N) (k : Fin 2048) (y : S1x1024x704.Idx) :
    iblk m c 1 t (ix3 0 (y 2) k : S1x704x2048.Idx) = WG m c (ix3 ((gix t y) 0) ((gix t y) 2) k) := by
  have h := (idx_facts t).2.1
  unfold iblk; rw [View.read_apply]; show V m c main_arg1 _ = m ((c : Thread nD τ).loc main_arg1) _
  rw [V_main_arg1]
  congr 1; funext a; apply Fin.ext
  match a with
  | ⟨0, _⟩ => show win0_1.index t 0 * 1 + 1 * 0 = t.val / 4; rw [h.1]; omega
  | ⟨1, _⟩ => show win0_1.index t 1 * 704 + 1 * (y 2).val = (y 2).val; rw [h.2.1]; omega
  | ⟨2, _⟩ => show win0_1.index t 2 * 2048 + 1 * k.val = k.val; rw [h.2.2]; omega

theorem iblk2_apply (c : Dev nD) (t : Fin cfg0.N) (k : Fin 2048) (y : S1x1024x704.Idx) :
    iblk m c 2 t (ix3 0 (y 2) k : S1x704x2048.Idx) = WU m c (ix3 ((gix t y) 0) ((gix t y) 2) k) := by
  have h := (idx_facts t).2.2
  unfold iblk; rw [View.read_apply]; show V m c main_arg2 _ = m ((c : Thread nD τ).loc main_arg2) _
  rw [V_main_arg2]
  congr 1; funext a; apply Fin.ext
  match a with
  | ⟨0, _⟩ => show win0_2.index t 0 * 1 + 1 * 0 = t.val / 4; rw [h.1]; omega
  | ⟨1, _⟩ => show win0_2.index t 1 * 704 + 1 * (y 2).val = (y 2).val; rw [h.2.1]; omega
  | ⟨2, _⟩ => show win0_2.index t 2 * 2048 + 1 * k.val = k.val; rw [h.2.2]; omega

theorem gate_block (c : Dev nD) (t : Fin cfg0.N) (y : S1x1024x704.Idx) :
    k0_pay1 (F := Ideal) (iblk m c 0 t) (iblk m c 1 t) (ix2 (y 1) (y 2)) = proj (HH m c) (WG m c) (gix t y) := by
  refine (dot_apply _ _ (y 1) (y 2)).trans ?_
  unfold proj
  refine Finset.sum_congr rfl fun k _ => ?_
  rw [iblk0_apply m c t k y, iblk1_apply m c t k y]

theorem up_block (c : Dev nD) (t : Fin cfg0.N) (y : S1x1024x704.Idx) :
    k0_pay1 (F := Ideal) (iblk m c 0 t) (iblk m c 2 t) (ix2 (y 1) (y 2)) = proj (HH m c) (WU m c) (gix t y) := by
  refine (dot_apply _ _ (y 1) (y 2)).trans ?_
  unfold proj
  refine Finset.sum_congr rfl fun k _ => ?_
  rw [iblk0_apply m c t k y, iblk2_apply m c t k y]

/-- A window that moves as the result windows do places an index of its block so. -/
theorem place (t : Fin cfg0.N) (y : S1x1024x704.Idx) (b : Fin 3 → Nat) (i : S8x4096x704.Idx) (h : b 0 = t.val / 4 ∧ b 1 = t.val % 4 ∧ b 2 = 0)
    (h0 : (i 0).val = b 0 * 1 + 1 * (y 0).val) (h1 : (i 1).val = b 1 * 1024 + 1 * (y 1).val) (h2 : (i 2).val = b 2 * 704 + 1 * (y 2).val) :
    i = gix t y := by
  have hy : (y 0).val < 1 := (y 0).isLt
  funext a; apply Fin.ext
  match a with
  | ⟨0, _⟩ => show (i 0).val = t.val / 4; rw [h0, h.1]; omega
  | ⟨1, _⟩ => show (i 1).val = t.val % 4 * 1024 + (y 1).val; rw [h1, h.2.1]; omega
  | ⟨2, _⟩ => show (i 2).val = (y 2).val; rw [h2, h.2.2]; omega

theorem emb3 (t : Fin cfg0.N) (y : S1x1024x704.Idx) : (win0_3.blk t).view.emb y = gix t y :=
  place t y (win0_3.index t) _ (out_facts t).1 rfl rfl rfl
theorem emb4 (t : Fin cfg0.N) (y : S1x1024x704.Idx) : (win0_4.blk t).view.emb y = gix t y :=
  place t y (win0_4.index t) _ (out_facts t).2.1 rfl rfl rfl
theorem emb5 (t : Fin cfg0.N) (y : S1x1024x704.Idx) : (win0_5.blk t).view.emb y = gix t y :=
  place t y (win0_5.index t) _ (out_facts t).2.2 rfl rfl rfl

theorem mid3 (y : S1x1024x704.Idx) : Cert.UpIdeal.Value.ix3_0 y = ix2 (y 1) (y 2) := by
  funext a; match a with
  | ⟨0, _⟩ => rfl
  | ⟨1, _⟩ => rfl

/-- What the body leaves in each result's block, read at an index. -/
theorem left3 (P0 : Vec Ideal S1024x2048 .bf16) (P1 : Vec Ideal S1x704x2048 .bf16) (y : S1x1024x704.Idx) :
    (View.canon (Val := Elt Ideal) (s := S1x1024x704) (e := .bf16) [⟨r0_2, k0_pay3 P0 P1⟩] y : EReal) = k0_pay1 P0 P1 (ix2 (y 1) (y 2)) :=
  (Cert.UpIdeal.Value.canon3_eq (F := Ideal) _ _ y).trans (congrArg (k0_pay1 (F := Ideal) P0 P1) (mid3 y))
theorem left4 (P0 : Vec Ideal S1024x2048 .bf16) (P2 : Vec Ideal S1x704x2048 .bf16) (y : S1x1024x704.Idx) :
    (View.canon (Val := Elt Ideal) (s := S1x1024x704) (e := .bf16) [⟨r0_2, k0_pay4 P0 P2⟩] y : EReal) = k0_pay1 P0 P2 (ix2 (y 1) (y 2)) :=
  (Cert.UpIdeal.Value.canon4_eq (F := Ideal) _ _ y).trans (congrArg (k0_pay1 (F := Ideal) P0 P2) (mid3 y))
theorem left5 (P0 : Vec Ideal S1024x2048 .bf16) (P1 P2 : Vec Ideal S1x704x2048 .bf16) (y : S1x1024x704.Idx) :
    (View.canon (Val := Elt Ideal) (s := S1x1024x704) (e := .bf16) [⟨r0_2, k0_pay5 P0 P1 P2⟩] y : EReal)
      = k0_pay1 P0 P1 (ix2 (y 1) (y 2)) * Ideal.logistic (k0_pay1 P0 P1 (ix2 (y 1) (y 2))) * k0_pay1 P0 P2 (ix2 (y 1) (y 2)) := by
  refine (Cert.UpIdeal.Value.canon5_eq (F := Ideal) _ _ _ y).trans ?_
  show (k0_pay1 P0 P1 (Cert.UpIdeal.Value.ix3_0 y) * Ideal.logistic (k0_pay1 P0 P1 (Cert.UpIdeal.Value.ix3_0 y))
    * k0_pay1 P0 P2 (Cert.UpIdeal.Value.ix3_0 y) : EReal) = _
  rw [mid3]; rfl

theorem flushed_eq3 (c : Dev nD) (t : Fin cfg0.N) :
    (dats m 0 c).flushed 3 t = (win0_3.blk t).view.read (Elt Ideal) (G3 m c) := by
  rw [Cert.UpIdeal.Value.flushed3]
  unfold out0_3
  rw [View.ld_unit_zero hz2, View.ld_unit_zero hz3]
  funext y
  rw [View.read_apply]
  refine (left3 _ _ y).trans ?_
  rw [gate_block]
  exact (congrArg (G3 m c) (emb3 t y)).symm

theorem flushed_eq4 (c : Dev nD) (t : Fin cfg0.N) :
    (dats m 0 c).flushed 4 t = (win0_4.blk t).view.read (Elt Ideal) (G4 m c) := by
  rw [Cert.UpIdeal.Value.flushed4]
  unfold out0_4
  rw [View.ld_unit_zero hz2, View.ld_unit_zero hz3]
  funext y
  rw [View.read_apply]
  refine (left4 _ _ y).trans ?_
  rw [up_block]
  exact (congrArg (G4 m c) (emb4 t y)).symm

theorem flushed_eq5 (c : Dev nD) (t : Fin cfg0.N) :
    (dats m 0 c).flushed 5 t = (win0_5.blk t).view.read (Elt Ideal) (G5 m c) := by
  rw [Cert.UpIdeal.Value.flushed5]
  unfold out0_5
  rw [View.ld_unit_zero hz2, View.ld_unit_zero hz3, View.ld_unit_zero hz3]
  funext y
  rw [View.read_apply]
  refine (left5 _ _ _ y).trans ?_
  rw [gate_block, up_block]
  exact (congrArg (G5 m c) (emb5 t y)).symm

/-- The grid point whose result blocks hold an index, and the index in its blocks. -/
def owner (i : S8x4096x704.Idx) : Fin cfg0.N := ⟨(i 0).val * 4 + (i 1).val / 1024, by
  have h0 : (i 0).val < 8 := (i 0).isLt
  have h1 : (i 1).val < 4096 := (i 1).isLt
  have hN : cfg0.N = 32 := N_0
  omega⟩
def inner (i : S8x4096x704.Idx) : S1x1024x704.Idx := ix3 0 ⟨(i 1).val % 1024, by omega⟩ (i 2)

theorem gix_owner (i : S8x4096x704.Idx) : gix (owner i) (inner i) = i := by
  have h1 : (i 1).val < 4096 := (i 1).isLt
  funext a; apply Fin.ext
  match a with
  | ⟨0, _⟩ => show ((i 0).val * 4 + (i 1).val / 1024) / 4 = (i 0).val; omega
  | ⟨1, _⟩ => show ((i 0).val * 4 + (i 1).val / 1024) % 4 * 1024 + (i 1).val % 1024 = (i 1).val; omega
  | ⟨2, _⟩ => rfl

theorem final3 (c : Dev nD) : (dats m 0 c).arrAt 3 cfg0.N = G3 m c :=
  (dats m 0 c).arrAt_eq_of_cover 3 (G3 m c) (fun t _ => flushed_eq3 m c t) fun i =>
    ⟨owner i, flush0_3 _, Finset.mem_map.2 ⟨inner i, Finset.mem_univ _, (emb3 _ _).trans (gix_owner i)⟩⟩
theorem final4 (c : Dev nD) : (dats m 0 c).arrAt 4 cfg0.N = G4 m c :=
  (dats m 0 c).arrAt_eq_of_cover 4 (G4 m c) (fun t _ => flushed_eq4 m c t) fun i =>
    ⟨owner i, flush0_4 _, Finset.mem_map.2 ⟨inner i, Finset.mem_univ _, (emb4 _ _).trans (gix_owner i)⟩⟩
theorem final5 (c : Dev nD) : (dats m 0 c).arrAt 5 cfg0.N = G5 m c :=
  (dats m 0 c).arrAt_eq_of_cover 5 (G5 m c) (fun t _ => flushed_eq5 m c t) fun i =>
    ⟨owner i, flush0_5 _, Finset.mem_map.2 ⟨inner i, Finset.mem_univ _, (emb5 _ _).trans (gix_owner i)⟩⟩

/-- The kernel's run with its three results named. -/
theorem run : θ_run defs (onTc (τ := τ) (main (F := Ideal))) ⟨m, fun _ => 0, ρ⟩ fun r => ∀ c : Dev nD,
      r.2.mem ((c : Thread nD τ).loc main_v0_0) = G3 m c
      ∧ r.2.mem ((c : Thread nD τ).loc main_v0_1) = G4 m c
      ∧ r.2.mem ((c : Thread nD τ).loc main_v0_2) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2.1.trans (final5 m c), (h c).2.2.2⟩)
    (Cert.UpIdeal.Value.run_blocks (F := Ideal) m ρ)

/-! ## The reference -/

section
open Cert.UpRefIdeal.Read

theorem ref_gate (h : S4096x2048.Idx → EReal) (w : S8x704x2048.Idx → EReal) (i : S8x4096x704.Idx) :
    val_main_v3 (F := Ideal) h w i = proj h w i := by
  rw [val_main_v3_apply, val_main_v2_apply]
  unfold proj
  refine Finset.sum_congr rfl fun k _ => ?_
  rw [val_main_v1_apply, val_main_v0_apply]
  show w _ * h _ = _
  rw [mul_comm]
  congr 2
  · funext a; match a with
    | ⟨0, _⟩ => rfl
    | ⟨1, _⟩ => rfl
  · funext a; match a with
    | ⟨0, _⟩ => rfl
    | ⟨1, _⟩ => rfl
    | ⟨2, _⟩ => rfl

/-- The reference computes its second projection as its first. -/
theorem ref_up (h : S4096x2048.Idx → EReal) (w : S8x704x2048.Idx → EReal) (i : S8x4096x704.Idx) :
    val_main_v6 (F := Ideal) h w i = proj h w i := ref_gate h w i

theorem ref_sig (h : S4096x2048.Idx → EReal) (w : S8x704x2048.Idx → EReal) (i : S8x4096x704.Idx) :
    val_main_call0_v5 (F := Ideal) h w i = Ideal.logistic (proj h w i) := by
  rw [val_main_call0_v5_apply, val_main_call0_v4_apply, val_main_call0_cst_0_apply, val_main_call0_v3_apply, val_main_call0_v2_apply,
    val_main_call0_cst_apply, val_main_call0_v1_apply, val_main_call0_v0_apply, ref_gate]
  show Ideal.div (Ideal.ofBits .f32 0x3F800000#32) (Ideal.ofBits .f32 0x3F800000#32 + Ideal.exp (-(proj h w i))) = _
  rw [Ideal.ofBits_one_f32]; rfl

theorem ref3 (c : Dev nD) : val_main_v9 (F := Ideal) (HH m c) (WG m c) = G3 m c := by
  funext i
  rw [val_main_v9_apply, ref_gate]; rfl
theorem ref4 (c : Dev nD) : val_main_v10 (F := Ideal) (HH m c) (WU m c) = G4 m c := by
  funext i
  rw [val_main_v10_apply, ref_up]; rfl
theorem ref5 (c : Dev nD) : val_main_v11 (F := Ideal) (HH m c) (WG m c) (WU m c) = G5 m c := by
  funext i
  rw [val_main_v11_apply, val_main_v8_apply, val_main_v7_apply, ref_sig, ref_gate, ref_up]; rfl
end

theorem algebraic : Cert.algebraic_UpIdeal_UpRefIdeal := by
  intro m g m' g' hpre hargs
  refine ⟨fun c => G3 m c, fun c => G4 m c, fun c => G5 m c, run m g, ?_⟩
  refine (θ_run Cert.UpRefIdeal.defs _ _).mono (fun r h c => ?_) (Cert.UpRefIdeal.Value.run (F := Ideal) m' g')
  obtain ⟨e0, e1, e2⟩ := hargs c
  refine ⟨(h c).1.trans ?_, (h c).2.1.trans ?_, (h c).2.2.1.trans ?_, (h c).2.2.2⟩
  · refine (Cert.UpRefIdeal.Read.val_main_v9_eq _ _).trans ?_
    rw [e0, e1]
    exact ref3 m c
  · refine (Cert.UpRefIdeal.Read.val_main_v10_eq _ _).trans ?_
    rw [e0, e2]
    exact ref4 m c
  · refine (Cert.UpRefIdeal.Read.val_main_v11_eq _ _ _).trans ?_
    rw [e0, e1, e2]
    exact ref5 m c

theorem frame_ref : Cert.quiescent_UpRefIdeal := fun m ρ _ =>
  (θ_run Cert.UpRefIdeal.defs _ _).mono (fun r h => ⟨fun c => (h c).2.2.2, sem_eq_zero_of_no_sems (by decide) r.2⟩)
    (Cert.UpRefIdeal.Value.run (F := Ideal) m ρ)

end Cert.UpIdeal.Whole

end
-- ==== Proof.DownValue.lean ====
/- The feed-forward's down projection: the kernel's result as a whole array, and its equality with the reference. -/
module

public import proofs.«01_k».proof.Defs
public import proofs.«01_k».proof.Proof.Gen.DownIdeal.Value
public import proofs.«01_k».proof.Proof.Gen.DownRefIdeal.Read
public import Idealize.ShloMosaic.Lib.Pointwise
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.DownIdeal.Whole

open Cert.DownIdeal Cert.DownIdeal.Gen

variable (m : (ℓ : Loc nD τ sig) → Buf (Elt Ideal) ℓ) (ρ : Dev nD → PrngReg)

theorem hz2 : (![0, 0] : Fin 2 → Nat) = fun _ => 0 := funext fun a => by fin_cases a <;> rfl

abbrev AC (c : Dev nD) : S8x4096x704.Idx → EReal := m ((c : Thread nD τ).loc main_arg0)
abbrev WD (c : Dev nD) : S8x704x2048.Idx → EReal := m ((c : Thread nD τ).loc main_arg1)
abbrev XX (c : Dev nD) : S4096x2048.Idx → EReal := m ((c : Thread nD τ).loc main_arg2)

/-- The rows plus the projection, summed over the shards and their inner columns. -/
def G (c : Dev nD) : Buf (Elt Ideal) ((c : Thread nD τ).loc main_v0) := fun i : S4096x2048.Idx =>
  (XX m c i + ∑ s : Fin 8, ∑ f : Fin 704, AC m c (ix3 s (i 0) f) * WD m c (ix3 s f (i 1)) : EReal)

/-- Which block of each window grid point `t` works on. -/
theorem idx_facts : ∀ t : Fin cfg0.N, (win0_0.index t (0 : Fin 3) = 0 ∧ win0_0.index t (1 : Fin 3) = t.val % 8 ∧ win0_0.index t (2 : Fin 3) = 0)
    ∧ (win0_1.index t (0 : Fin 3) = 0 ∧ win0_1.index t (1 : Fin 3) = 0 ∧ win0_1.index t (2 : Fin 3) = t.val / 8)
    ∧ (win0_2.index t (0 : Fin 2) = t.val % 8 ∧ win0_2.index t (1 : Fin 2) = t.val / 8)
    ∧ (win0_3.index t (0 : Fin 2) = t.val % 8 ∧ win0_3.index t (1 : Fin 2) = t.val / 8) :=
  (by decide +kernel : ∀ t : Fin grid0.N, _)

/-- One shard's product. -/
def term (P0 : Vec Ideal S1x512x704 .bf16) (P1 : Vec Ideal S1x704x1024 .bf16) : FVec Ideal S512x1024 .f32 :=
  matmul dot_S512x704_S704x1024_S512x1024_1_0_0_1_n_n none (shapeCast S512x704 P0 shapeCasts_S1x512x704_S512x704 : FVec Ideal S512x704 .bf16)
    (shapeCast S704x1024 P1 shapeCasts_S1x704x1024_S704x1024 : FVec Ideal S704x1024 .bf16) (constant S512x1024 .f32 0x00000000#32)

theorem term_apply (P0 : Vec Ideal S1x512x704 .bf16) (P1 : Vec Ideal S1x704x1024 .bf16) (r : Fin 512) (d : Fin 1024) :
    term P0 P1 (ix2 r d) = (∑ f : Fin 704, P0 (ix3 0 r f) * P1 (ix3 0 f d) : EReal) := by
  pointwise [term]

/-- The body adds the eight products one after the other. -/
theorem pay_terms (X : Vec Ideal S512x1024 .f32) (a0 a1 a2 a3 a4 a5 a6 a7 : Vec Ideal S1x512x704 .bf16) (b0 b1 b2 b3 b4 b5 b6 b7 : Vec Ideal S1x704x1024 .bf16)
    (i : S512x1024.Idx) : (k0_pay1 (F := Ideal) (k0_pay2 X a0 b0 a1 b1 a2 b2 a3 b3) a4 b4 a5 b5 a6 b6 a7 b7 i : EReal)
      = X i + term a0 b0 i + term a1 b1 i + term a2 b2 i + term a3 b3 i + term a4 b4 i + term a5 b5 i + term a6 b6 i + term a7 b7 i := rfl

/-- The product of the `n`th shards of two blocks. -/
theorem term_ld (x0 : Vec Ideal S8x512x704 .bf16) (x1 : Vec Ideal S8x704x1024 .bf16) (n : Nat) (hn : n < 8)
    (i0 : ∀ a, (![n, 0, 0] : Fin 3 → Nat) a + S1x512x704.size a ≤ S8x512x704.size a)
    (i1 : ∀ a, (![n, 0, 0] : Fin 3 → Nat) a + S1x704x1024.size a ≤ S8x704x1024.size a) (r : Fin 512) (d : Fin 1024) :
    term (View.ld (Val := Elt Ideal) x0 (Rect.unit (s := S8x512x704) ![n, 0, 0] S1x512x704.size i0))
      (View.ld (Val := Elt Ideal) x1 (Rect.unit (s := S8x704x1024) ![n, 0, 0] S1x704x1024.size i1)) (ix2 r d)
      = (∑ f : Fin 704, x0 (ix3 ⟨n, hn⟩ r f) * x1 (ix3 ⟨n, hn⟩ f d) : EReal) := by
  refine (term_apply _ _ r d).trans (Finset.sum_congr rfl fun f _ => ?_)
  refine congrArg₂ (fun u v : EReal => u * v) ?_ ?_
  · refine View.ld_unit_apply_of (Val := Elt Ideal) x0 _ _ i0 _ (ix3 ⟨n, hn⟩ r f) fun a => ?_
    match a with
    | ⟨0, _⟩ => show n = n + 0; omega
    | ⟨1, _⟩ => show r.val = 0 + r.val; omega
    | ⟨2, _⟩ => show f.val = 0 + f.val; omega
  · refine View.ld_unit_apply_of (Val := Elt Ideal) x1 _ _ i1 _ (ix3 ⟨n, hn⟩ f d) fun a => ?_
    match a with
    | ⟨0, _⟩ => show n = n + 0; omega
    | ⟨1, _⟩ => show f.val = 0 + f.val; omega
    | ⟨2, _⟩ => show d.val = 0 + d.val; omega

/-- What the body leaves in the result's block. -/
theorem left (x0 : Vec Ideal S8x512x704 .bf16) (x1 : Vec Ideal S8x704x1024 .bf16) (x2 : Vec Ideal S512x1024 .f32) (r : Fin 512) (d : Fin 1024) :
    (out0_3 x0 x1 x2 (ix2 r d) : EReal) = x2 (ix2 r d) + ∑ s : Fin 8, ∑ f : Fin 704, x0 (ix3 s r f) * x1 (ix3 s f d) := by
  unfold out0_3
  refine (congrFun (View.canon_cons_unit_zero hz2 _ _ _) _).trans ?_
  rw [View.ld_unit_zero hz2]
  refine (pay_terms _ _ _ _ _ _ _ _ _ _ _ _ _ _ _ _ _ _).trans ?_
  rw [term_ld x0 x1 0 (by decide), term_ld x0 x1 1 (by decide), term_ld x0 x1 2 (by decide), term_ld x0 x1 3 (by decide),
    term_ld x0 x1 4 (by decide), term_ld x0 x1 5 (by decide), term_ld x0 x1 6 (by decide), term_ld x0 x1 7 (by decide), Fin.sum_univ_eight]
  simp only [add_assoc]
  rfl

/-- Where an index of grid point `t`'s result block lies in the whole array. -/
def gix (t : Fin cfg0.N) (y : S512x1024.Idx) : S4096x2048.Idx :=
  ix2 ⟨t.val % 8 * 512 + (y 0).val, by
    have h : (y 0).val < 512 := (y 0).isLt
    omega⟩ ⟨t.val / 8 * 1024 + (y 1).val, by
    have hN : cfg0.N = 16 := N_0
    have h : (y 1).val < 1024 := (y 1).isLt
    have := t.isLt
    omega⟩

theorem iblk0_apply (c : Dev nD) (t : Fin cfg0.N) (s : Fin 8) (f : Fin 704) (y : S512x1024.Idx) :
    iblk m c 0 t (ix3 s (y 0) f : S8x512x704.Idx) = AC m c (ix3 s ((gix t y) 0) f) := by
  have h := (idx_facts t).1
  unfold iblk; rw [View.read_apply]; show V m c main_arg0 _ = m ((c : Thread nD τ).loc main_arg0) _
  rw [V_main_arg0]
  congr 1; funext a; apply Fin.ext
  match a with
  | ⟨0, _⟩ => show win0_0.index t 0 * 8 + 1 * s.val = s.val; rw [h.1]; omega
  | ⟨1, _⟩ => show win0_0.index t 1 * 512 + 1 * (y 0).val = t.val % 8 * 512 + (y 0).val; rw [h.2.1]; omega
  | ⟨2, _⟩ => show win0_0.index t 2 * 704 + 1 * f.val = f.val; rw [h.2.2]; omega

theorem iblk1_apply (c : Dev nD) (t : Fin cfg0.N) (s : Fin 8) (f : Fin 704) (y : S512x1024.Idx) :
    iblk m c 1 t (ix3 s f (y 1) : S8x704x1024.Idx) = WD m c (ix3 s f ((gix t y) 1)) := by
  have h := (idx_facts t).2.1
  unfold iblk; rw [View.read_apply]; show V m c main_arg1 _ = m ((c : Thread nD τ).loc main_arg1) _
  rw [V_main_arg1]
  congr 1; funext a; apply Fin.ext
  match a with
  | ⟨0, _⟩ => show win0_1.index t 0 * 8 + 1 * s.val = s.val; rw [h.1]; omega
  | ⟨1, _⟩ => show win0_1.index t 1 * 704 + 1 * f.val = f.val; rw [h.2.1]; omega
  | ⟨2, _⟩ => show win0_1.index t 2 * 1024 + 1 * (y 1).val = t.val / 8 * 1024 + (y 1).val; rw [h.2.2]; omega

theorem iblk2_apply (c : Dev nD) (t : Fin cfg0.N) (y : S512x1024.Idx) : iblk m c 2 t (y : S512x1024.Idx) = XX m c (gix t y) := by
  have h := (idx_facts t).2.2.1
  unfold iblk; rw [View.read_apply]; show V m c main_arg2 _ = m ((c : Thread nD τ).loc main_arg2) _
  rw [V_main_arg2]
  congr 1; funext a; apply Fin.ext
  match a with
  | ⟨0, _⟩ => show win0_2.index t 0 * 512 + 1 * (y 0).val = t.val % 8 * 512 + (y 0).val; rw [h.1]; omega
  | ⟨1, _⟩ => show win0_2.index t 1 * 1024 + 1 * (y 1).val = t.val / 8 * 1024 + (y 1).val; rw [h.2]; omega

theorem emb3 (t : Fin cfg0.N) (y : S512x1024.Idx) : (win0_3.blk t).view.emb y = gix t y := by
  have h := (idx_facts t).2.2.2
  funext a; apply Fin.ext
  match a with
  | ⟨0, _⟩ => show win0_3.index t 0 * 512 + 1 * (y 0).val = t.val % 8 * 512 + (y 0).val; rw [h.1]; omega
  | ⟨1, _⟩ => show win0_3.index t 1 * 1024 + 1 * (y 1).val = t.val / 8 * 1024 + (y 1).val; rw [h.2]; omega

theorem pair_eq (y : S512x1024.Idx) : y = ix2 (y 0) (y 1) := by
  funext a; match a with
  | ⟨0, _⟩ => rfl
  | ⟨1, _⟩ => rfl

theorem block_eq (c : Dev nD) (t : Fin cfg0.N) (y : S512x1024.Idx) :
    out0_3 (F := Ideal) (iblk m c 0 t) (iblk m c 1 t) (iblk m c 2 t) y = G m c (gix t y) := by
  refine (congrArg (out0_3 (F := Ideal) (iblk m c 0 t) (iblk m c 1 t) (iblk m c 2 t)) (pair_eq y)).trans ((left _ _ _ (y 0) (y 1)).trans ?_)
  unfold G
  refine congrArg₂ (fun u v : EReal => u + v) ((congrArg (iblk m c 2 t) (pair_eq y).symm).trans (iblk2_apply m c t y)) ?_
  refine Finset.sum_congr rfl fun s _ => Finset.sum_congr rfl fun f _ => ?_
  rw [iblk0_apply m c t s f y, iblk1_apply m c t s f y]

theorem flushed_eq (c : Dev nD) (t : Fin cfg0.N) :
    (dats m 0 c).flushed 3 t = (win0_3.blk t).view.read (Elt Ideal) (G m c) := by
  rw [Cert.DownIdeal.Value.flushed3]
  funext y
  rw [View.read_apply]
  exact (block_eq m c t y).trans (congrArg (G m c) (emb3 t y)).symm

/-- Every index of the result lies in the block of the grid point of its rows and columns. -/
theorem cover (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have hN : cfg0.N = 16 := N_0
  refine ⟨⟨(i 1).val / 1024 * 8 + (i 0).val / 512, by omega⟩, flush0_3 _, ?_⟩
  refine Finset.mem_map.2 ⟨(ix2 ⟨(i 0).val % 512, by omega⟩ ⟨(i 1).val % 1024, by omega⟩ : S512x1024.Idx), Finset.mem_univ _, ?_⟩
  refine (emb3 _ _).trans ?_
  funext a; apply Fin.ext
  match a with
  | ⟨0, _⟩ => show ((i 1).val / 1024 * 8 + (i 0).val / 512) % 8 * 512 + (i 0).val % 512 = (i 0).val; omega
  | ⟨1, _⟩ => show ((i 1).val / 1024 * 8 + (i 0).val / 512) / 8 * 1024 + (i 1).val % 1024 = (i 1).val; omega

theorem final (c : Dev nD) : (dats m 0 c).arrAt 3 cfg0.N = G m c :=
  (dats m 0 c).arrAt_eq_of_cover 3 (G m c) (fun t _ => flushed_eq m c t) cover

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.DownIdeal.Value.run_blocks (F := Ideal) m ρ)

/-! ## The reference -/

section
open Cert.DownRefIdeal.Read

theorem ref_dot (a : Vec Ideal Cert.DownRefIdeal.S8x4096x704 .bf16) (w : Vec Ideal Cert.DownRefIdeal.S8x704x2048 .bf16) (r : Fin 4096) (d : Fin 2048) :
    val_main_v2 (F := Ideal) a w (ix2 r d) = (∑ f : Fin 704, ∑ s : Fin 8, a (ix3 s r f) * w (ix3 s f d) : EReal) := by
  pointwise [val_main_v2, val_main_v0, val_main_v1]

theorem ref (c : Dev nD) : val_main_v3 (F := Ideal) (AC m c) (WD m c) (XX m c) = G m c := by
  funext i
  have hi : i = ix2 (i 0) (i 1) := by
    funext a; match a with
    | ⟨0, _⟩ => rfl
    | ⟨1, _⟩ => rfl
  rw [val_main_v3_apply]
  unfold G
  refine congrArg (fun v : EReal => XX m c i + v) ?_
  refine (congrArg (val_main_v2 (F := Ideal) (AC m c) (WD m c)) hi).trans ((ref_dot _ _ (i 0) (i 1)).trans ?_)
  exact Finset.sum_comm
end

theorem algebraic : Cert.algebraic_DownIdeal_DownRefIdeal := by
  intro m g m' g' hpre hargs
  refine ⟨fun c => G m c, run m g, ?_⟩
  refine (θ_run Cert.DownRefIdeal.defs _ _).mono (fun r h c => ?_) (Cert.DownRefIdeal.Value.run (F := Ideal) m' g')
  obtain ⟨e0, e1, e2⟩ := hargs c
  refine ⟨(h c).1.trans ?_, (h c).2⟩
  refine (Cert.DownRefIdeal.Read.val_main_v3_eq _ _ _).trans ?_
  rw [e0, e1, e2]
  exact ref m c

theorem frame_ref : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

end Cert.DownIdeal.Whole

end
-- ==== Proof.Products.lean ====
/- Facts shared by the programs whose result is one product of matrices with a leading axis of extent one. -/
module

public import Idealize.ShloMosaic.Lib.Pointwise

@[expose] public section

noncomputable section

open Idealize.ShloMosaic

namespace Cert.Products

theorem hz3 : (![0, 0, 0] : Fin 3 → Nat) = fun _ => 0 := funext fun a => by fin_cases a <;> rfl

/-- An index whose leading axis has extent one is named by the other two. -/
theorem lead_eq {p q : Nat} (y : (⟨3, ![1, p, q]⟩ : Shape).Idx) : y = ix3 0 (y 1) (y 2) := by
  have h0 : (y 0).val < 1 := (y 0).isLt
  funext a; apply Fin.ext
  match a with
  | ⟨0, _⟩ => show (y 0).val = 0; omega
  | ⟨1, _⟩ => rfl
  | ⟨2, _⟩ => rfl

theorem triple_eq {o p q : Nat} (y : (⟨3, ![o, p, q]⟩ : Shape).Idx) : y = ix3 (y 0) (y 1) (y 2) := by
  funext a
  match a with
  | ⟨0, _⟩ => rfl
  | ⟨1, _⟩ => rfl
  | ⟨2, _⟩ => rfl

/-- An index of three axes is the one whose places are its own. -/
theorem at3 {o p q : Nat} {x : (⟨3, ![o, p, q]⟩ : Shape).Idx} {a : Fin o} {b : Fin p} {c : Fin q}
    (h0 : (x 0).val = a.val) (h1 : (x 1).val = b.val) (h2 : (x 2).val = c.val) : x = ix3 a b c := by
  funext s; apply Fin.ext
  match s with
  | ⟨0, _⟩ => exact h0
  | ⟨1, _⟩ => exact h1
  | ⟨2, _⟩ => exact h2

/-- Place `y` of the block numbered `i`, of blocks of `n`: of a block whose number is known, and of the first. -/
theorem off {i q n y : Nat} (h : i = q) : i * n + 1 * y = q * n + y := by rw [h, Nat.one_mul]
theorem off0 {i n y : Nat} (h : i = 0) : i * n + 1 * y = y := by rw [h, Nat.zero_mul, Nat.zero_add, Nat.one_mul]
theorem off1 {i q : Nat} (h : i = q) : i * 1 + 1 * 0 = q := by rw [h, Nat.mul_one, Nat.add_zero]

/-- A place in an array of blocks of `n` is the place of its remainder in the block of its quotient. -/
theorem div_mod {b n v : Nat} (h : b = v / n) : b * n + v % n = v := by rw [h]; exact Nat.div_add_mod' v n

/-- Row (or column) `y` of block `b` of blocks of `n`, in an array of at least `k` of them. -/
def at_ (n k : Nat) {l : Nat} (hl : k * n ≤ l) (b : Nat) (hb : b < k) (y : Fin n) : Fin l :=
  ⟨b * n + y.val, by
    have h := Nat.mul_le_mul_right n (Nat.succ_le_of_lt hb)
    have hy := y.isLt
    rw [Nat.succ_mul] at h
    omega⟩

/-- A sum over `k` blocks of `n` taken block by block. -/
theorem sum_blocks {k n : Nat} (f : Fin (k * n) → EReal) : ∑ i, f i = ∑ b : Fin k, ∑ y : Fin n, f (at_ n k le_rfl b.val b.isLt y) := by
  rw [← (finProdFinEquiv (m := k) (n := n)).sum_comp f, Fintype.sum_prod_type]
  refine Finset.sum_congr rfl fun b _ => Finset.sum_congr rfl fun y _ => congrArg f (Fin.ext ?_)
  show y.val + n * b.val = b.val * n + y.val
  rw [Nat.mul_comm, Nat.add_comm]

end Cert.Products

end
-- ==== Proof.BackValue.lean ====
/- The gradient through a square projection (its result in bfloat16): the kernel's result as a whole array, and its
   equality with the reference. -/
module

public import proofs.«01_k».proof.Defs
public import proofs.«01_k».proof.Proof.Products
public import proofs.«01_k».proof.Proof.Gen.BackIdeal.Value
public import proofs.«01_k».proof.Proof.Gen.BackRefIdeal.Read
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.BackIdeal.Whole

open Cert.BackIdeal Cert.BackIdeal.Gen Cert.Products

variable (m : (ℓ : Loc nD τ sig) → Buf (Elt Ideal) ℓ) (ρ : Dev nD → PrngReg)

abbrev AA (c : Dev nD) : S1x4096x2048.Idx → EReal := m ((c : Thread nD τ).loc main_arg0)
abbrev BB (c : Dev nD) : S1x2048x2048.Idx → EReal := m ((c : Thread nD τ).loc main_arg1)

/-- Row `r` of the first argument against row `d` of the second. -/
def G (c : Dev nD) : Buf (Elt Ideal) ((c : Thread nD τ).loc main_v0) := fun i : S1x4096x2048.Idx =>
  (∑ k : Fin 2048, AA m c (ix3 0 (i 1) k) * BB m c (ix3 0 (i 2) k) : EReal)

/-- Which block of each window grid point `t` works on. -/
theorem idx_facts : ∀ t : Fin cfg0.N, (win0_0.index t (0 : Fin 3) = 0 ∧ win0_0.index t (1 : Fin 3) = t.val / 2 ∧ win0_0.index t (2 : Fin 3) = 0)
    ∧ (win0_1.index t (0 : Fin 3) = 0 ∧ win0_1.index t (1 : Fin 3) = t.val % 2 ∧ win0_1.index t (2 : Fin 3) = 0)
    ∧ (win0_2.index t (0 : Fin 3) = 0 ∧ win0_2.index t (1 : Fin 3) = t.val / 2 ∧ win0_2.index t (2 : Fin 3) = t.val % 2) :=
  (by decide +kernel : ∀ t : Fin grid0.N, _)

theorem pay_apply (P0 : Vec Ideal S1x1024x2048 .bf16) (P1 : Vec Ideal S1x1024x2048 .bf16) (r : Fin 1024) (d : Fin 1024) :
    k0_pay1 P0 P1 (ix3 0 r d) = (∑ k : Fin 2048, P0 (ix3 0 r k) * P1 (ix3 0 d k) : EReal) := by
  pointwise [k0_pay1]

/-- Where row `r`, column `d` of grid point `t`'s result block lies in the whole array. -/
def row (t : Fin cfg0.N) (r : Fin 1024) : Fin 4096 := at_ 1024 4 (by decide) (t.val / 2) (by have := t.isLt; have : cfg0.N = 8 := N_0; omega) r
def col (t : Fin cfg0.N) (d : Fin 1024) : Fin 2048 := at_ 1024 2 (by decide) (t.val % 2) (by omega) d

theorem iblk0_apply (c : Dev nD) (t : Fin cfg0.N) (r : Fin 1024) (k : Fin 2048) :
    iblk m c 0 t (ix3 0 r k : S1x1024x2048.Idx) = AA m c (ix3 0 (row t r) k) := by
  have h := (idx_facts t).1
  unfold iblk; rw [View.read_apply]; show V m c main_arg0 _ = m ((c : Thread nD τ).loc main_arg0) _
  rw [V_main_arg0]
  congr 1; funext a; apply Fin.ext
  match a with
  | ⟨0, _⟩ => show win0_0.index t 0 * 1 + 1 * 0 = 0; rw [h.1]
  | ⟨1, _⟩ => show win0_0.index t 1 * 1024 + 1 * r.val = t.val / 2 * 1024 + r.val; rw [h.2.1]; omega
  | ⟨2, _⟩ => show win0_0.index t 2 * 2048 + 1 * k.val = k.val; rw [h.2.2]; omega

theorem iblk1_apply (c : Dev nD) (t : Fin cfg0.N) (d : Fin 1024) (k : Fin 2048) :
    iblk m c 1 t (ix3 0 d k : S1x1024x2048.Idx) = BB m c (ix3 0 (col t d) k) := by
  have h := (idx_facts t).2.1
  unfold iblk; rw [View.read_apply]; show V m c main_arg1 _ = m ((c : Thread nD τ).loc main_arg1) _
  rw [V_main_arg1]
  congr 1; funext a; apply Fin.ext
  match a with
  | ⟨0, _⟩ => show win0_1.index t 0 * 1 + 1 * 0 = 0; rw [h.1]
  | ⟨1, _⟩ => show win0_1.index t 1 * 1024 + 1 * d.val = t.val % 2 * 1024 + d.val; rw [h.2.1]; omega
  | ⟨2, _⟩ => show win0_1.index t 2 * 2048 + 1 * k.val = k.val; rw [h.2.2]; omega

theorem emb (t : Fin cfg0.N) (r : Fin 1024) (d : Fin 1024) :
    (win0_2.blk t).view.emb (ix3 0 r d : S1x1024x1024.Idx) = (ix3 0 (row t r) (col t d) : S1x4096x2048.Idx) := by
  have h := (idx_facts t).2.2
  funext a; apply Fin.ext
  match a with
  | ⟨0, _⟩ => show win0_2.index t 0 * 1 + 1 * 0 = 0; rw [h.1]
  | ⟨1, _⟩ => show win0_2.index t 1 * 1024 + 1 * r.val = t.val / 2 * 1024 + r.val; rw [h.2.1]; omega
  | ⟨2, _⟩ => show win0_2.index t 2 * 1024 + 1 * d.val = t.val % 2 * 1024 + d.val; rw [h.2.2]; omega

theorem block_eq (c : Dev nD) (t : Fin cfg0.N) (y : S1x1024x1024.Idx) :
    k0_pay1 (F := Ideal) (iblk m c 0 t) (iblk m c 1 t) y = G m c ((win0_2.blk t).view.emb y) := by
  rw [lead_eq y]
  refine (pay_apply _ _ (y 1) (y 2)).trans (Eq.trans ?_ (congrArg (G m c) (emb t (y 1) (y 2)).symm))
  exact Finset.sum_congr rfl fun k _ => congrArg₂ (fun u v : EReal => u * v) (iblk0_apply m c t (y 1) k) (iblk1_apply m c t (y 2) k)

theorem flushed_eq (c : Dev nD) (t : Fin cfg0.N) : (dats m 0 c).flushed 2 t = (win0_2.blk t).view.read (Elt Ideal) (G m c) := by
  rw [Cert.BackIdeal.Value.flushed2]
  unfold out0_2
  rw [View.ld_unit_zero hz3, View.ld_unit_zero hz3]
  funext y
  rw [View.read_apply]
  exact (congrFun (View.canon_cons_unit_zero hz3 _ _ _) y).trans (block_eq m c t y)

/-- Every index of the result lies in the block of the grid point of its rows and columns. -/
theorem cover (i : S1x4096x2048.Idx) : ∃ t : Fin cfg0.N, (cfg0.win 2).flush t = true ∧ i ∈ ((cfg0.win 2).blk t).view.set := by
  have h1 : (i 1).val < 4096 := (i 1).isLt
  have h2 : (i 2).val < 2048 := (i 2).isLt
  have hN : cfg0.N = 8 := N_0
  refine ⟨⟨(i 1).val / 1024 * 2 + (i 2).val / 1024, by omega⟩, flush0_2 _, ?_⟩
  refine Finset.mem_map.2 ⟨(ix3 0 ⟨(i 1).val % 1024, by omega⟩ ⟨(i 2).val % 1024, by omega⟩ : S1x1024x1024.Idx), Finset.mem_univ _, ?_⟩
  refine (emb _ _ _).trans (Eq.trans ?_ (lead_eq i).symm)
  refine congrArg₂ (fun u v => (ix3 0 u v : S1x4096x2048.Idx)) (Fin.ext ?_) (Fin.ext ?_)
  · show ((i 1).val / 1024 * 2 + (i 2).val / 1024) / 2 * 1024 + (i 1).val % 1024 = (i 1).val; omega
  · show ((i 1).val / 1024 * 2 + (i 2).val / 1024) % 2 * 1024 + (i 2).val % 1024 = (i 2).val; omega

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed_eq m c t) cover), (h c).2⟩)
    (Cert.BackIdeal.Value.run_blocks (F := Ideal) m ρ)

/-! ## The reference -/

open Cert.BackRefIdeal.Read in
theorem ref_apply (a : Vec Ideal Cert.BackRefIdeal.S1x4096x2048 .bf16) (w : Vec Ideal Cert.BackRefIdeal.S1x2048x2048 .bf16) (r : Fin 4096) (d : Fin 2048) :
    val_main_v6 (F := Ideal) a w (ix3 0 r d) = (∑ k : Fin 2048, a (ix3 0 r k) * w (ix3 0 d k) : EReal) := by
  pointwise [val_main_v6, val_main_v5, val_main_v4, val_main_v2, val_main_v1]

theorem algebraic : Cert.algebraic_BackIdeal_BackRefIdeal := by
  intro m g m' g' hpre hargs
  refine ⟨fun c => G m c, run m g, ?_⟩
  refine (θ_run Cert.BackRefIdeal.defs _ _).mono (fun r h c => ?_) (Cert.BackRefIdeal.Value.run (F := Ideal) m' g')
  obtain ⟨e0, e1⟩ := hargs c
  refine ⟨(h c).1.trans ?_, (h c).2⟩
  refine (Cert.BackRefIdeal.Read.val_main_v6_eq _ _).trans ?_
  rw [e0, e1]
  funext i
  exact (congrArg _ (lead_eq i)).trans (ref_apply (AA m c) (BB m c) (i 1) (i 2))

theorem frame_ref : Cert.quiescent_BackRefIdeal := fun m ρ _ =>
  (θ_run Cert.BackRefIdeal.defs _ _).mono (fun r h => ⟨fun c => (h c).2, sem_eq_zero_of_no_sems (by decide) r.2⟩)
    (Cert.BackRefIdeal.Value.run (F := Ideal) m ρ)

end Cert.BackIdeal.Whole

end
-- ==== Proof.BackFullValue.lean ====
/- The gradient through a square projection (its result in float32): the kernel's result as a whole array, and its
   equality with the reference. -/
module

public import proofs.«01_k».proof.Defs
public import proofs.«01_k».proof.Proof.Products
public import proofs.«01_k».proof.Proof.Gen.BackFullIdeal.Value
public import proofs.«01_k».proof.Proof.Gen.BackFullRefIdeal.Read
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.BackFullIdeal.Whole

open Cert.BackFullIdeal Cert.BackFullIdeal.Gen Cert.Products

variable (m : (ℓ : Loc nD τ sig) → Buf (Elt Ideal) ℓ) (ρ : Dev nD → PrngReg)

abbrev AA (c : Dev nD) : S1x4096x2048.Idx → EReal := m ((c : Thread nD τ).loc main_arg0)
abbrev BB (c : Dev nD) : S1x2048x2048.Idx → EReal := m ((c : Thread nD τ).loc main_arg1)

/-- Row `r` of the first argument against row `d` of the second. -/
def G (c : Dev nD) : Buf (Elt Ideal) ((c : Thread nD τ).loc main_v0) := fun i : S1x4096x2048.Idx =>
  (∑ k : Fin 2048, AA m c (ix3 0 (i 1) k) * BB m c (ix3 0 (i 2) k) : EReal)

/-- Which block of each window grid point `t` works on. -/
theorem idx_facts : ∀ t : Fin cfg0.N, (win0_0.index t (0 : Fin 3) = 0 ∧ win0_0.index t (1 : Fin 3) = t.val / 2 ∧ win0_0.index t (2 : Fin 3) = 0)
    ∧ (win0_1.index t (0 : Fin 3) = 0 ∧ win0_1.index t (1 : Fin 3) = t.val % 2 ∧ win0_1.index t (2 : Fin 3) = 0)
    ∧ (win0_2.index t (0 : Fin 3) = 0 ∧ win0_2.index t (1 : Fin 3) = t.val / 2 ∧ win0_2.index t (2 : Fin 3) = t.val % 2) :=
  (by decide +kernel : ∀ t : Fin grid0.N, _)

theorem pay_apply (P0 : Vec Ideal S1x1024x2048 .bf16) (P1 : Vec Ideal S1x1024x2048 .bf16) (r : Fin 1024) (d : Fin 1024) :
    k0_pay1 P0 P1 (ix3 0 r d) = (∑ k : Fin 2048, P0 (ix3 0 r k) * P1 (ix3 0 d k) : EReal) := by
  pointwise [k0_pay1]

/-- Where row `r`, column `d` of grid point `t`'s result block lies in the whole array. -/
def row (t : Fin cfg0.N) (r : Fin 1024) : Fin 4096 := at_ 1024 4 (by decide) (t.val / 2) (by have := t.isLt; have : cfg0.N = 8 := N_0; omega) r
def col (t : Fin cfg0.N) (d : Fin 1024) : Fin 2048 := at_ 1024 2 (by decide) (t.val % 2) (by omega) d

theorem iblk0_apply (c : Dev nD) (t : Fin cfg0.N) (r : Fin 1024) (k : Fin 2048) :
    iblk m c 0 t (ix3 0 r k : S1x1024x2048.Idx) = AA m c (ix3 0 (row t r) k) := by
  have h := (idx_facts t).1
  unfold iblk; rw [View.read_apply]; show V m c main_arg0 _ = m ((c : Thread nD τ).loc main_arg0) _
  rw [V_main_arg0]
  congr 1; funext a; apply Fin.ext
  match a with
  | ⟨0, _⟩ => show win0_0.index t 0 * 1 + 1 * 0 = 0; rw [h.1]
  | ⟨1, _⟩ => show win0_0.index t 1 * 1024 + 1 * r.val = t.val / 2 * 1024 + r.val; rw [h.2.1]; omega
  | ⟨2, _⟩ => show win0_0.index t 2 * 2048 + 1 * k.val = k.val; rw [h.2.2]; omega

theorem iblk1_apply (c : Dev nD) (t : Fin cfg0.N) (d : Fin 1024) (k : Fin 2048) :
    iblk m c 1 t (ix3 0 d k : S1x1024x2048.Idx) = BB m c (ix3 0 (col t d) k) := by
  have h := (idx_facts t).2.1
  unfold iblk; rw [View.read_apply]; show V m c main_arg1 _ = m ((c : Thread nD τ).loc main_arg1) _
  rw [V_main_arg1]
  congr 1; funext a; apply Fin.ext
  match a with
  | ⟨0, _⟩ => show win0_1.index t 0 * 1 + 1 * 0 = 0; rw [h.1]
  | ⟨1, _⟩ => show win0_1.index t 1 * 1024 + 1 * d.val = t.val % 2 * 1024 + d.val; rw [h.2.1]; omega
  | ⟨2, _⟩ => show win0_1.index t 2 * 2048 + 1 * k.val = k.val; rw [h.2.2]; omega

theorem emb (t : Fin cfg0.N) (r : Fin 1024) (d : Fin 1024) :
    (win0_2.blk t).view.emb (ix3 0 r d : S1x1024x1024.Idx) = (ix3 0 (row t r) (col t d) : S1x4096x2048.Idx) := by
  have h := (idx_facts t).2.2
  funext a; apply Fin.ext
  match a with
  | ⟨0, _⟩ => show win0_2.index t 0 * 1 + 1 * 0 = 0; rw [h.1]
  | ⟨1, _⟩ => show win0_2.index t 1 * 1024 + 1 * r.val = t.val / 2 * 1024 + r.val; rw [h.2.1]; omega
  | ⟨2, _⟩ => show win0_2.index t 2 * 1024 + 1 * d.val = t.val % 2 * 1024 + d.val; rw [h.2.2]; omega

theorem block_eq (c : Dev nD) (t : Fin cfg0.N) (y : S1x1024x1024.Idx) :
    k0_pay1 (F := Ideal) (iblk m c 0 t) (iblk m c 1 t) y = G m c ((win0_2.blk t).view.emb y) := by
  rw [lead_eq y]
  refine (pay_apply _ _ (y 1) (y 2)).trans (Eq.trans ?_ (congrArg (G m c) (emb t (y 1) (y 2)).symm))
  exact Finset.sum_congr rfl fun k _ => congrArg₂ (fun u v : EReal => u * v) (iblk0_apply m c t (y 1) k) (iblk1_apply m c t (y 2) k)

theorem flushed_eq (c : Dev nD) (t : Fin cfg0.N) : (dats m 0 c).flushed 2 t = (win0_2.blk t).view.read (Elt Ideal) (G m c) := by
  rw [Cert.BackFullIdeal.Value.flushed2]
  unfold out0_2
  rw [View.ld_unit_zero hz3, View.ld_unit_zero hz3]
  funext y
  rw [View.read_apply]
  exact (congrFun (View.canon_cons_unit_zero hz3 _ _ _) y).trans (block_eq m c t y)

/-- Every index of the result lies in the block of the grid point of its rows and columns. -/
theorem cover (i : S1x4096x2048.Idx) : ∃ t : Fin cfg0.N, (cfg0.win 2).flush t = true ∧ i ∈ ((cfg0.win 2).blk t).view.set := by
  have h1 : (i 1).val < 4096 := (i 1).isLt
  have h2 : (i 2).val < 2048 := (i 2).isLt
  have hN : cfg0.N = 8 := N_0
  refine ⟨⟨(i 1).val / 1024 * 2 + (i 2).val / 1024, by omega⟩, flush0_2 _, ?_⟩
  refine Finset.mem_map.2 ⟨(ix3 0 ⟨(i 1).val % 1024, by omega⟩ ⟨(i 2).val % 1024, by omega⟩ : S1x1024x1024.Idx), Finset.mem_univ _, ?_⟩
  refine (emb _ _ _).trans (Eq.trans ?_ (lead_eq i).symm)
  refine congrArg₂ (fun u v => (ix3 0 u v : S1x4096x2048.Idx)) (Fin.ext ?_) (Fin.ext ?_)
  · show ((i 1).val / 1024 * 2 + (i 2).val / 1024) / 2 * 1024 + (i 1).val % 1024 = (i 1).val; omega
  · show ((i 1).val / 1024 * 2 + (i 2).val / 1024) % 2 * 1024 + (i 2).val % 1024 = (i 2).val; omega

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed_eq m c t) cover), (h c).2⟩)
    (Cert.BackFullIdeal.Value.run_blocks (F := Ideal) m ρ)

/-! ## The reference -/

open Cert.BackFullRefIdeal.Read in
theorem ref_apply (a : Vec Ideal Cert.BackFullRefIdeal.S1x4096x2048 .bf16) (w : Vec Ideal Cert.BackFullRefIdeal.S1x2048x2048 .bf16) (r : Fin 4096) (d : Fin 2048) :
    val_main_v5 (F := Ideal) a w (ix3 0 r d) = (∑ k : Fin 2048, a (ix3 0 r k) * w (ix3 0 d k) : EReal) := by
  pointwise [val_main_v5, val_main_v4, val_main_v2, val_main_v1]

theorem algebraic : Cert.algebraic_BackFullIdeal_BackFullRefIdeal := by
  intro m g m' g' hpre hargs
  refine ⟨fun c => G m c, run m g, ?_⟩
  refine (θ_run Cert.BackFullRefIdeal.defs _ _).mono (fun r h c => ?_) (Cert.BackFullRefIdeal.Value.run (F := Ideal) m' g')
  obtain ⟨e0, e1⟩ := hargs c
  refine ⟨(h c).1.trans ?_, (h c).2⟩
  refine (Cert.BackFullRefIdeal.Read.val_main_v5_eq _ _).trans ?_
  rw [e0, e1]
  funext i
  exact (congrArg _ (lead_eq i)).trans (ref_apply (AA m c) (BB m c) (i 1) (i 2))

theorem frame_ref : Cert.quiescent_BackFullRefIdeal := fun m ρ _ =>
  (θ_run Cert.BackFullRefIdeal.defs _ _).mono (fun r h => ⟨fun c => (h c).2, sem_eq_zero_of_no_sems (by decide) r.2⟩)
    (Cert.BackFullRefIdeal.Value.run (F := Ideal) m ρ)

end Cert.BackFullIdeal.Whole

end
-- ==== Proof.WgradValue.lean ====
/- The gradient of a square projection's weight: the kernel's result as a whole array, and its
   equality with the reference. -/
module

public import proofs.«01_k».proof.Defs
public import proofs.«01_k».proof.Proof.Products
public import proofs.«01_k».proof.Proof.Gen.WgradIdeal.Value
public import proofs.«01_k».proof.Proof.Gen.WgradRefIdeal.Read
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.WgradIdeal.Whole

open Cert.WgradIdeal Cert.WgradIdeal.Gen Cert.Products

variable (m : (ℓ : Loc nD τ sig) → Buf (Elt Ideal) ℓ) (ρ : Dev nD → PrngReg)

abbrev AA (c : Dev nD) : S1x4096x2048.Idx → EReal := m ((c : Thread nD τ).loc main_arg0)
abbrev BB (c : Dev nD) : S1x4096x2048.Idx → EReal := m ((c : Thread nD τ).loc main_arg1)

/-- Column `r` of the first argument against column `d` of the second, over all tokens. -/
def G (c : Dev nD) : Buf (Elt Ideal) ((c : Thread nD τ).loc main_v0) := fun i : S1x2048x2048.Idx =>
  (∑ k : Fin 4096, AA m c (ix3 0 k (i 1)) * BB m c (ix3 0 k (i 2)) : EReal)

/-- Which block of each window grid point `t` works on. -/
theorem idx_facts : ∀ t : Fin cfg0.N, (win0_0.index t (0 : Fin 3) = 0 ∧ win0_0.index t (1 : Fin 3) = 0 ∧ win0_0.index t (2 : Fin 3) = t.val / 2)
    ∧ (win0_1.index t (0 : Fin 3) = 0 ∧ win0_1.index t (1 : Fin 3) = 0 ∧ win0_1.index t (2 : Fin 3) = t.val % 2)
    ∧ (win0_2.index t (0 : Fin 3) = 0 ∧ win0_2.index t (1 : Fin 3) = t.val / 2 ∧ win0_2.index t (2 : Fin 3) = t.val % 2) :=
  (by decide +kernel : ∀ t : Fin grid0.N, _)

theorem pay_apply (P0 : Vec Ideal S1x4096x1024 .bf16) (P1 : Vec Ideal S1x4096x1024 .bf16) (r : Fin 1024) (d : Fin 1024) :
    k0_pay1 P0 P1 (ix3 0 r d) = (∑ k : Fin 4096, P0 (ix3 0 k r) * P1 (ix3 0 k d) : EReal) := by
  pointwise [k0_pay1]

/-- Where row `r`, column `d` of grid point `t`'s result block lies in the whole array. -/
def row (t : Fin cfg0.N) (r : Fin 1024) : Fin 2048 := at_ 1024 2 (by decide) (t.val / 2) (by have := t.isLt; have : cfg0.N = 4 := N_0; omega) r
def col (t : Fin cfg0.N) (d : Fin 1024) : Fin 2048 := at_ 1024 2 (by decide) (t.val % 2) (by omega) d

theorem iblk0_apply (c : Dev nD) (t : Fin cfg0.N) (r : Fin 1024) (k : Fin 4096) :
    iblk m c 0 t (ix3 0 k r : S1x4096x1024.Idx) = AA m c (ix3 0 k (row t r)) := by
  have h := (idx_facts t).1
  unfold iblk; rw [View.read_apply]; show V m c main_arg0 _ = m ((c : Thread nD τ).loc main_arg0) _
  rw [V_main_arg0]
  congr 1; funext a; apply Fin.ext
  match a with
  | ⟨0, _⟩ => show win0_0.index t 0 * 1 + 1 * 0 = 0; rw [h.1]
  | ⟨1, _⟩ => show win0_0.index t 1 * 4096 + 1 * k.val = k.val; rw [h.2.1]; omega
  | ⟨2, _⟩ => show win0_0.index t 2 * 1024 + 1 * r.val = t.val / 2 * 1024 + r.val; rw [h.2.2]; omega

theorem iblk1_apply (c : Dev nD) (t : Fin cfg0.N) (d : Fin 1024) (k : Fin 4096) :
    iblk m c 1 t (ix3 0 k d : S1x4096x1024.Idx) = BB m c (ix3 0 k (col t d)) := by
  have h := (idx_facts t).2.1
  unfold iblk; rw [View.read_apply]; show V m c main_arg1 _ = m ((c : Thread nD τ).loc main_arg1) _
  rw [V_main_arg1]
  congr 1; funext a; apply Fin.ext
  match a with
  | ⟨0, _⟩ => show win0_1.index t 0 * 1 + 1 * 0 = 0; rw [h.1]
  | ⟨1, _⟩ => show win0_1.index t 1 * 4096 + 1 * k.val = k.val; rw [h.2.1]; omega
  | ⟨2, _⟩ => show win0_1.index t 2 * 1024 + 1 * d.val = t.val % 2 * 1024 + d.val; rw [h.2.2]; omega

theorem emb (t : Fin cfg0.N) (r : Fin 1024) (d : Fin 1024) :
    (win0_2.blk t).view.emb (ix3 0 r d : S1x1024x1024.Idx) = (ix3 0 (row t r) (col t d) : S1x2048x2048.Idx) := by
  have h := (idx_facts t).2.2
  funext a; apply Fin.ext
  match a with
  | ⟨0, _⟩ => show win0_2.index t 0 * 1 + 1 * 0 = 0; rw [h.1]
  | ⟨1, _⟩ => show win0_2.index t 1 * 1024 + 1 * r.val = t.val / 2 * 1024 + r.val; rw [h.2.1]; omega
  | ⟨2, _⟩ => show win0_2.index t 2 * 1024 + 1 * d.val = t.val % 2 * 1024 + d.val; rw [h.2.2]; omega

theorem block_eq (c : Dev nD) (t : Fin cfg0.N) (y : S1x1024x1024.Idx) :
    k0_pay1 (F := Ideal) (iblk m c 0 t) (iblk m c 1 t) y = G m c ((win0_2.blk t).view.emb y) := by
  rw [lead_eq y]
  refine (pay_apply _ _ (y 1) (y 2)).trans (Eq.trans ?_ (congrArg (G m c) (emb t (y 1) (y 2)).symm))
  exact Finset.sum_congr rfl fun k _ => congrArg₂ (fun u v : EReal => u * v) (iblk0_apply m c t (y 1) k) (iblk1_apply m c t (y 2) k)

theorem flushed_eq (c : Dev nD) (t : Fin cfg0.N) : (dats m 0 c).flushed 2 t = (win0_2.blk t).view.read (Elt Ideal) (G m c) := by
  rw [Cert.WgradIdeal.Value.flushed2]
  unfold out0_2
  rw [View.ld_unit_zero hz3, View.ld_unit_zero hz3]
  funext y
  rw [View.read_apply]
  exact (congrFun (View.canon_cons_unit_zero hz3 _ _ _) y).trans (block_eq m c t y)

/-- Every index of the result lies in the block of the grid point of its rows and columns. -/
theorem cover (i : S1x2048x2048.Idx) : ∃ t : Fin cfg0.N, (cfg0.win 2).flush t = true ∧ i ∈ ((cfg0.win 2).blk t).view.set := by
  have h1 : (i 1).val < 2048 := (i 1).isLt
  have h2 : (i 2).val < 2048 := (i 2).isLt
  have hN : cfg0.N = 4 := N_0
  refine ⟨⟨(i 1).val / 1024 * 2 + (i 2).val / 1024, by omega⟩, flush0_2 _, ?_⟩
  refine Finset.mem_map.2 ⟨(ix3 0 ⟨(i 1).val % 1024, by omega⟩ ⟨(i 2).val % 1024, by omega⟩ : S1x1024x1024.Idx), Finset.mem_univ _, ?_⟩
  refine (emb _ _ _).trans (Eq.trans ?_ (lead_eq i).symm)
  refine congrArg₂ (fun u v => (ix3 0 u v : S1x2048x2048.Idx)) (Fin.ext ?_) (Fin.ext ?_)
  · show ((i 1).val / 1024 * 2 + (i 2).val / 1024) / 2 * 1024 + (i 1).val % 1024 = (i 1).val; omega
  · show ((i 1).val / 1024 * 2 + (i 2).val / 1024) % 2 * 1024 + (i 2).val % 1024 = (i 2).val; omega

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed_eq m c t) cover), (h c).2⟩)
    (Cert.WgradIdeal.Value.run_blocks (F := Ideal) m ρ)

/-! ## The reference -/

open Cert.WgradRefIdeal.Read in
theorem ref_apply (a : Vec Ideal Cert.WgradRefIdeal.S1x4096x2048 .bf16) (b : Vec Ideal Cert.WgradRefIdeal.S1x4096x2048 .bf16) (r : Fin 2048) (d : Fin 2048) :
    val_main_v8 (F := Ideal) a b (ix3 0 r d) = (∑ u : Fin 1, ∑ k : Fin 4096, b (ix3 u k d) * a (ix3 u k r) : EReal) := by
  pointwise [val_main_v8, val_main_v7, val_main_v6, val_main_v5, val_main_v4, val_main_v1]

theorem algebraic : Cert.algebraic_WgradIdeal_WgradRefIdeal := by
  intro m g m' g' hpre hargs
  refine ⟨fun c => G m c, run m g, ?_⟩
  refine (θ_run Cert.WgradRefIdeal.defs _ _).mono (fun r h c => ?_) (Cert.WgradRefIdeal.Value.run (F := Ideal) m' g')
  obtain ⟨e0, e1⟩ := hargs c
  refine ⟨(h c).1.trans ?_, (h c).2⟩
  refine (Cert.WgradRefIdeal.Read.val_main_v8_eq _ _).trans ?_
  rw [e0, e1]
  funext i
  refine (congrArg _ (lead_eq i)).trans ((ref_apply (AA m c) (BB m c) (i 1) (i 2)).trans ((Fin.sum_univ_one _).trans ?_))
  exact Finset.sum_congr rfl fun k _ => mul_comm (G := EReal) _ _

theorem frame_ref : Cert.quiescent_WgradRefIdeal := fun m ρ _ =>
  (θ_run Cert.WgradRefIdeal.defs _ _).mono (fun r h => ⟨fun c => (h c).2, sem_eq_zero_of_no_sems (by decide) r.2⟩)
    (Cert.WgradRefIdeal.Value.run (F := Ideal) m ρ)

end Cert.WgradIdeal.Whole

end
-- ==== Proof.ProjValue.lean ====
/- An output projection added to the residual: the kernel's result as a whole array, and its
   equality with the reference. -/
module

public import proofs.«01_k».proof.Defs
public import proofs.«01_k».proof.Proof.Products
public import proofs.«01_k».proof.Proof.Gen.ProjIdeal.Value
public import proofs.«01_k».proof.Proof.Gen.ProjRefIdeal.Read
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.ProjIdeal.Whole

open Cert.ProjIdeal Cert.ProjIdeal.Gen Cert.Products

variable (m : (ℓ : Loc nD τ sig) → Buf (Elt Ideal) ℓ) (ρ : Dev nD → PrngReg)

abbrev AA (c : Dev nD) : S1x4096x2048.Idx → EReal := m ((c : Thread nD τ).loc main_arg0)
abbrev XX (c : Dev nD) : S1x4096x2048.Idx → EReal := m ((c : Thread nD τ).loc main_arg2)
abbrev BB (c : Dev nD) : S1x2048x2048.Idx → EReal := m ((c : Thread nD τ).loc main_arg1)

/-- The residual plus the rows times the weight. -/
def G (c : Dev nD) : Buf (Elt Ideal) ((c : Thread nD τ).loc main_v0) := fun i : S1x4096x2048.Idx =>
  (XX m c i + ∑ k : Fin 2048, AA m c (ix3 0 (i 1) k) * BB m c (ix3 0 k (i 2)) : EReal)

/-- Which block of each window grid point `t` works on. -/
theorem idx_facts : ∀ t : Fin cfg0.N, (win0_0.index t (0 : Fin 3) = 0 ∧ win0_0.index t (1 : Fin 3) = t.val / 2 ∧ win0_0.index t (2 : Fin 3) = 0)
    ∧ (win0_1.index t (0 : Fin 3) = 0 ∧ win0_1.index t (1 : Fin 3) = 0 ∧ win0_1.index t (2 : Fin 3) = t.val % 2)
    ∧ (win0_2.index t (0 : Fin 3) = 0 ∧ win0_2.index t (1 : Fin 3) = t.val / 2 ∧ win0_2.index t (2 : Fin 3) = t.val % 2)
    ∧ (win0_3.index t (0 : Fin 3) = 0 ∧ win0_3.index t (1 : Fin 3) = t.val / 2 ∧ win0_3.index t (2 : Fin 3) = t.val % 2) :=
  (by decide +kernel : ∀ t : Fin grid0.N, _)

theorem pay_apply (P0 : Vec Ideal S1x1024x2048 .bf16) (P1 : Vec Ideal S1x2048x1024 .bf16) (P2 : Vec Ideal S1x1024x1024 .f32) (r : Fin 1024) (d : Fin 1024) :
    k0_pay1 P0 P1 P2 (ix3 0 r d) = ((∑ k : Fin 2048, P0 (ix3 0 r k) * P1 (ix3 0 k d)) + P2 (ix3 0 r d) : EReal) := by
  pointwise [k0_pay1]

/-- Where row `r`, column `d` of grid point `t`'s result block lies in the whole array. -/
def row (t : Fin cfg0.N) (r : Fin 1024) : Fin 4096 := at_ 1024 4 (by decide) (t.val / 2) (by have := t.isLt; have : cfg0.N = 8 := N_0; omega) r
def col (t : Fin cfg0.N) (d : Fin 1024) : Fin 2048 := at_ 1024 2 (by decide) (t.val % 2) (by omega) d

theorem iblk0_apply (c : Dev nD) (t : Fin cfg0.N) (r : Fin 1024) (k : Fin 2048) :
    iblk m c 0 t (ix3 0 r k : S1x1024x2048.Idx) = AA m c (ix3 0 (row t r) k) := by
  have h := (idx_facts t).1
  unfold iblk; rw [View.read_apply]; show V m c main_arg0 _ = m ((c : Thread nD τ).loc main_arg0) _
  rw [V_main_arg0]
  congr 1; funext a; apply Fin.ext
  match a with
  | ⟨0, _⟩ => show win0_0.index t 0 * 1 + 1 * 0 = 0; rw [h.1]
  | ⟨1, _⟩ => show win0_0.index t 1 * 1024 + 1 * r.val = t.val / 2 * 1024 + r.val; rw [h.2.1]; omega
  | ⟨2, _⟩ => show win0_0.index t 2 * 2048 + 1 * k.val = k.val; rw [h.2.2]; omega

theorem iblk1_apply (c : Dev nD) (t : Fin cfg0.N) (d : Fin 1024) (k : Fin 2048) :
    iblk m c 1 t (ix3 0 k d : S1x2048x1024.Idx) = BB m c (ix3 0 k (col t d)) := by
  have h := (idx_facts t).2.1
  unfold iblk; rw [View.read_apply]; show V m c main_arg1 _ = m ((c : Thread nD τ).loc main_arg1) _
  rw [V_main_arg1]
  congr 1; funext a; apply Fin.ext
  match a with
  | ⟨0, _⟩ => show win0_1.index t 0 * 1 + 1 * 0 = 0; rw [h.1]
  | ⟨1, _⟩ => show win0_1.index t 1 * 2048 + 1 * k.val = k.val; rw [h.2.1]; omega
  | ⟨2, _⟩ => show win0_1.index t 2 * 1024 + 1 * d.val = t.val % 2 * 1024 + d.val; rw [h.2.2]; omega

theorem iblk2_apply (c : Dev nD) (t : Fin cfg0.N) (r d : Fin 1024) :
    iblk m c 2 t (ix3 0 r d : S1x1024x1024.Idx) = XX m c (ix3 0 (row t r) (col t d)) := by
  have h := (idx_facts t).2.2.1
  unfold iblk; rw [View.read_apply]; show V m c main_arg2 _ = m ((c : Thread nD τ).loc main_arg2) _
  rw [V_main_arg2]
  congr 1; funext a; apply Fin.ext
  match a with
  | ⟨0, _⟩ => show win0_2.index t 0 * 1 + 1 * 0 = 0; rw [h.1]
  | ⟨1, _⟩ => show win0_2.index t 1 * 1024 + 1 * r.val = t.val / 2 * 1024 + r.val; rw [h.2.1]; omega
  | ⟨2, _⟩ => show win0_2.index t 2 * 1024 + 1 * d.val = t.val % 2 * 1024 + d.val; rw [h.2.2]; omega

theorem emb (t : Fin cfg0.N) (r : Fin 1024) (d : Fin 1024) :
    (win0_3.blk t).view.emb (ix3 0 r d : S1x1024x1024.Idx) = (ix3 0 (row t r) (col t d) : S1x4096x2048.Idx) := by
  have h := (idx_facts t).2.2.2
  funext a; apply Fin.ext
  match a with
  | ⟨0, _⟩ => show win0_3.index t 0 * 1 + 1 * 0 = 0; rw [h.1]
  | ⟨1, _⟩ => show win0_3.index t 1 * 1024 + 1 * r.val = t.val / 2 * 1024 + r.val; rw [h.2.1]; omega
  | ⟨2, _⟩ => show win0_3.index t 2 * 1024 + 1 * d.val = t.val % 2 * 1024 + d.val; rw [h.2.2]; omega

theorem block_eq (c : Dev nD) (t : Fin cfg0.N) (y : S1x1024x1024.Idx) :
    k0_pay1 (F := Ideal) (iblk m c 0 t) (iblk m c 1 t) (iblk m c 2 t) y = G m c ((win0_3.blk t).view.emb y) := by
  rw [lead_eq y]
  refine (pay_apply _ _ _ (y 1) (y 2)).trans (Eq.trans ?_ (congrArg (G m c) (emb t (y 1) (y 2)).symm))
  refine (add_comm (G := EReal) _ _).trans (congrArg₂ (fun u v : EReal => u + v) (iblk2_apply m c t (y 1) (y 2)) ?_)
  exact Finset.sum_congr rfl fun k _ => congrArg₂ (fun u v : EReal => u * v) (iblk0_apply m c t (y 1) k) (iblk1_apply m c t (y 2) k)

theorem flushed_eq (c : Dev nD) (t : Fin cfg0.N) : (dats m 0 c).flushed 3 t = (win0_3.blk t).view.read (Elt Ideal) (G m c) := by
  rw [Cert.ProjIdeal.Value.flushed3]
  unfold out0_3
  rw [View.ld_unit_zero hz3, View.ld_unit_zero hz3, View.ld_unit_zero hz3]
  funext y
  rw [View.read_apply]
  exact (congrFun (View.canon_cons_unit_zero hz3 _ _ _) y).trans (block_eq m c t y)

/-- Every index of the result lies in the block of the grid point of its rows and columns. -/
theorem cover (i : S1x4096x2048.Idx) : ∃ t : Fin cfg0.N, (cfg0.win 3).flush t = true ∧ i ∈ ((cfg0.win 3).blk t).view.set := by
  have h1 : (i 1).val < 4096 := (i 1).isLt
  have h2 : (i 2).val < 2048 := (i 2).isLt
  have hN : cfg0.N = 8 := N_0
  refine ⟨⟨(i 1).val / 1024 * 2 + (i 2).val / 1024, by omega⟩, flush0_3 _, ?_⟩
  refine Finset.mem_map.2 ⟨(ix3 0 ⟨(i 1).val % 1024, by omega⟩ ⟨(i 2).val % 1024, by omega⟩ : S1x1024x1024.Idx), Finset.mem_univ _, ?_⟩
  refine (emb _ _ _).trans (Eq.trans ?_ (lead_eq i).symm)
  refine congrArg₂ (fun u v => (ix3 0 u v : S1x4096x2048.Idx)) (Fin.ext ?_) (Fin.ext ?_)
  · show ((i 1).val / 1024 * 2 + (i 2).val / 1024) / 2 * 1024 + (i 1).val % 1024 = (i 1).val; omega
  · show ((i 1).val / 1024 * 2 + (i 2).val / 1024) % 2 * 1024 + (i 2).val % 1024 = (i 2).val; omega

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 (G m c) (fun t _ => flushed_eq m c t) cover), (h c).2⟩)
    (Cert.ProjIdeal.Value.run_blocks (F := Ideal) m ρ)

/-! ## The reference -/

open Cert.ProjRefIdeal.Read in
theorem ref_apply (a : Vec Ideal Cert.ProjRefIdeal.S1x4096x2048 .bf16) (w : Vec Ideal Cert.ProjRefIdeal.S1x2048x2048 .bf16) (x : Vec Ideal Cert.ProjRefIdeal.S1x4096x2048 .f32) (r : Fin 4096) (d : Fin 2048) :
    val_main_v4 (F := Ideal) a w x (ix3 0 r d) = (x (ix3 0 r d) + ∑ k : Fin 2048, a (ix3 0 r k) * w (ix3 0 k d) : EReal) := by
  pointwise [val_main_v4, val_main_v3, val_main_v2, val_main_v1, val_main_v0]

theorem algebraic : Cert.algebraic_ProjIdeal_ProjRefIdeal := by
  intro m g m' g' hpre hargs
  refine ⟨fun c => G m c, run m g, ?_⟩
  refine (θ_run Cert.ProjRefIdeal.defs _ _).mono (fun r h c => ?_) (Cert.ProjRefIdeal.Value.run (F := Ideal) m' g')
  obtain ⟨e0, e1, e2⟩ := hargs c
  refine ⟨(h c).1.trans ?_, (h c).2⟩
  refine (Cert.ProjRefIdeal.Read.val_main_v4_eq _ _ _).trans ?_
  rw [e0, e1, e2]
  funext i
  exact (congrArg _ (lead_eq i)).trans ((ref_apply (AA m c) (BB m c) (XX m c) (i 1) (i 2)).trans
    (congrArg (fun u : EReal => u + _) (congrArg (XX m c) (lead_eq i).symm)))

theorem frame_ref : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

end Cert.ProjIdeal.Whole

end
-- ==== Proof.QueryValue.lean ====
/- The query projection: the kernel's result as a whole array, and its
   equality with the reference. -/
module

public import proofs.«01_k».proof.Defs
public import proofs.«01_k».proof.Proof.Products
public import proofs.«01_k».proof.Proof.Gen.QueryIdeal.Value
public import proofs.«01_k».proof.Proof.Gen.QueryRefIdeal.Read
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.QueryIdeal.Whole

open Cert.QueryIdeal Cert.QueryIdeal.Gen Cert.Products

variable (m : (ℓ : Loc nD τ sig) → Buf (Elt Ideal) ℓ) (ρ : Dev nD → PrngReg)

abbrev AA (c : Dev nD) : S1x4096x2048.Idx → EReal := m ((c : Thread nD τ).loc main_arg0)
abbrev BB (c : Dev nD) : S1x2048x2048.Idx → EReal := m ((c : Thread nD τ).loc main_arg1)

/-- The rows times the weight. -/
def G (c : Dev nD) : Buf (Elt Ideal) ((c : Thread nD τ).loc main_v0) := fun i : S1x4096x2048.Idx =>
  (∑ k : Fin 2048, AA m c (ix3 0 (i 1) k) * BB m c (ix3 0 k (i 2)) : EReal)

/-- Which block of each window grid point `t` works on. -/
theorem idx_facts : ∀ t : Fin cfg0.N, (win0_0.index t (0 : Fin 3) = 0 ∧ win0_0.index t (1 : Fin 3) = t.val / 2 ∧ win0_0.index t (2 : Fin 3) = 0)
    ∧ (win0_1.index t (0 : Fin 3) = 0 ∧ win0_1.index t (1 : Fin 3) = 0 ∧ win0_1.index t (2 : Fin 3) = t.val % 2)
    ∧ (win0_2.index t (0 : Fin 3) = 0 ∧ win0_2.index t (1 : Fin 3) = t.val / 2 ∧ win0_2.index t (2 : Fin 3) = t.val % 2) :=
  (by decide +kernel : ∀ t : Fin grid0.N, _)

theorem pay_apply (P0 : Vec Ideal S1x2048x2048 .bf16) (P1 : Vec Ideal S1x2048x1024 .bf16) (r : Fin 2048) (d : Fin 1024) :
    k0_pay1 P0 P1 (ix3 0 r d) = (∑ k : Fin 2048, P0 (ix3 0 r k) * P1 (ix3 0 k d) : EReal) := by
  pointwise [k0_pay1]

/-- Where row `r`, column `d` of grid point `t`'s result block lies in the whole array. -/
def row (t : Fin cfg0.N) (r : Fin 2048) : Fin 4096 := at_ 2048 2 (by decide) (t.val / 2) (by have := t.isLt; have : cfg0.N = 4 := N_0; omega) r
def col (t : Fin cfg0.N) (d : Fin 1024) : Fin 2048 := at_ 1024 2 (by decide) (t.val % 2) (by omega) d

theorem iblk0_apply (c : Dev nD) (t : Fin cfg0.N) (r : Fin 2048) (k : Fin 2048) :
    iblk m c 0 t (ix3 0 r k : S1x2048x2048.Idx) = AA m c (ix3 0 (row t r) k) := by
  have h := (idx_facts t).1
  unfold iblk; rw [View.read_apply]; show V m c main_arg0 _ = m ((c : Thread nD τ).loc main_arg0) _
  rw [V_main_arg0]
  congr 1; funext a; apply Fin.ext
  match a with
  | ⟨0, _⟩ => show win0_0.index t 0 * 1 + 1 * 0 = 0; rw [h.1]
  | ⟨1, _⟩ => show win0_0.index t 1 * 2048 + 1 * r.val = t.val / 2 * 2048 + r.val; rw [h.2.1]; omega
  | ⟨2, _⟩ => show win0_0.index t 2 * 2048 + 1 * k.val = k.val; rw [h.2.2]; omega

theorem iblk1_apply (c : Dev nD) (t : Fin cfg0.N) (d : Fin 1024) (k : Fin 2048) :
    iblk m c 1 t (ix3 0 k d : S1x2048x1024.Idx) = BB m c (ix3 0 k (col t d)) := by
  have h := (idx_facts t).2.1
  unfold iblk; rw [View.read_apply]; show V m c main_arg1 _ = m ((c : Thread nD τ).loc main_arg1) _
  rw [V_main_arg1]
  congr 1; funext a; apply Fin.ext
  match a with
  | ⟨0, _⟩ => show win0_1.index t 0 * 1 + 1 * 0 = 0; rw [h.1]
  | ⟨1, _⟩ => show win0_1.index t 1 * 2048 + 1 * k.val = k.val; rw [h.2.1]; omega
  | ⟨2, _⟩ => show win0_1.index t 2 * 1024 + 1 * d.val = t.val % 2 * 1024 + d.val; rw [h.2.2]; omega

theorem emb (t : Fin cfg0.N) (r : Fin 2048) (d : Fin 1024) :
    (win0_2.blk t).view.emb (ix3 0 r d : S1x2048x1024.Idx) = (ix3 0 (row t r) (col t d) : S1x4096x2048.Idx) := by
  have h := (idx_facts t).2.2
  funext a; apply Fin.ext
  match a with
  | ⟨0, _⟩ => show win0_2.index t 0 * 1 + 1 * 0 = 0; rw [h.1]
  | ⟨1, _⟩ => show win0_2.index t 1 * 2048 + 1 * r.val = t.val / 2 * 2048 + r.val; rw [h.2.1]; omega
  | ⟨2, _⟩ => show win0_2.index t 2 * 1024 + 1 * d.val = t.val % 2 * 1024 + d.val; rw [h.2.2]; omega

theorem block_eq (c : Dev nD) (t : Fin cfg0.N) (y : S1x2048x1024.Idx) :
    k0_pay1 (F := Ideal) (iblk m c 0 t) (iblk m c 1 t) y = G m c ((win0_2.blk t).view.emb y) := by
  rw [lead_eq y]
  refine (pay_apply _ _ (y 1) (y 2)).trans (Eq.trans ?_ (congrArg (G m c) (emb t (y 1) (y 2)).symm))
  exact Finset.sum_congr rfl fun k _ => congrArg₂ (fun u v : EReal => u * v) (iblk0_apply m c t (y 1) k) (iblk1_apply m c t (y 2) k)

theorem flushed_eq (c : Dev nD) (t : Fin cfg0.N) : (dats m 0 c).flushed 2 t = (win0_2.blk t).view.read (Elt Ideal) (G m c) := by
  rw [Cert.QueryIdeal.Value.flushed2]
  unfold out0_2
  rw [View.ld_unit_zero hz3, View.ld_unit_zero hz3]
  funext y
  rw [View.read_apply]
  exact (congrFun (View.canon_cons_unit_zero hz3 _ _ _) y).trans (block_eq m c t y)

/-- Every index of the result lies in the block of the grid point of its rows and columns. -/
theorem cover (i : S1x4096x2048.Idx) : ∃ t : Fin cfg0.N, (cfg0.win 2).flush t = true ∧ i ∈ ((cfg0.win 2).blk t).view.set := by
  have h1 : (i 1).val < 4096 := (i 1).isLt
  have h2 : (i 2).val < 2048 := (i 2).isLt
  have hN : cfg0.N = 4 := N_0
  refine ⟨⟨(i 1).val / 2048 * 2 + (i 2).val / 1024, by omega⟩, flush0_2 _, ?_⟩
  refine Finset.mem_map.2 ⟨(ix3 0 ⟨(i 1).val % 2048, by omega⟩ ⟨(i 2).val % 1024, by omega⟩ : S1x2048x1024.Idx), Finset.mem_univ _, ?_⟩
  refine (emb _ _ _).trans (Eq.trans ?_ (lead_eq i).symm)
  refine congrArg₂ (fun u v => (ix3 0 u v : S1x4096x2048.Idx)) (Fin.ext ?_) (Fin.ext ?_)
  · show ((i 1).val / 2048 * 2 + (i 2).val / 1024) / 2 * 2048 + (i 1).val % 2048 = (i 1).val; omega
  · show ((i 1).val / 2048 * 2 + (i 2).val / 1024) % 2 * 1024 + (i 2).val % 1024 = (i 2).val; omega

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed_eq m c t) cover), (h c).2⟩)
    (Cert.QueryIdeal.Value.run_blocks (F := Ideal) m ρ)

/-! ## The reference -/

open Cert.QueryRefIdeal.Read in
theorem ref_apply (a : Vec Ideal Cert.QueryRefIdeal.S1x4096x2048 .bf16) (w : Vec Ideal Cert.QueryRefIdeal.S1x2048x2048 .bf16) (r : Fin 4096) (d : Fin 2048) :
    val_main_v4 (F := Ideal) a w (ix3 0 r d) = (∑ k : Fin 2048, a (ix3 0 r k) * w (ix3 0 k d) : EReal) := by
  pointwise [val_main_v4, val_main_v3, val_main_v2, val_main_v1, val_main_v0]

theorem algebraic : Cert.algebraic_QueryIdeal_QueryRefIdeal := by
  intro m g m' g' hpre hargs
  refine ⟨fun c => G m c, run m g, ?_⟩
  refine (θ_run Cert.QueryRefIdeal.defs _ _).mono (fun r h c => ?_) (Cert.QueryRefIdeal.Value.run (F := Ideal) m' g')
  obtain ⟨e0, e1⟩ := hargs c
  refine ⟨(h c).1.trans ?_, (h c).2⟩
  refine (Cert.QueryRefIdeal.Read.val_main_v4_eq _ _).trans ?_
  rw [e0, e1]
  funext i
  exact (congrArg _ (lead_eq i)).trans (ref_apply (AA m c) (BB m c) (i 1) (i 2))

theorem frame_ref : Cert.quiescent_QueryRefIdeal := fun m ρ _ =>
  (θ_run Cert.QueryRefIdeal.defs _ _).mono (fun r h => ⟨fun c => (h c).2, sem_eq_zero_of_no_sems (by decide) r.2⟩)
    (Cert.QueryRefIdeal.Value.run (F := Ideal) m ρ)

end Cert.QueryIdeal.Whole

end
-- ==== Proof.QkvValue.lean ====
/- The odd layer's joint query, key and value projection: the kernel's result as a whole array, and its
   equality with the reference. -/
module

public import proofs.«01_k».proof.Defs
public import proofs.«01_k».proof.Proof.Products
public import proofs.«01_k».proof.Proof.Gen.QkvIdeal.Value
public import proofs.«01_k».proof.Proof.Gen.QkvRefIdeal.Read
public import Idealize.ShloMosaic.Lib.Pointwise
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.QkvIdeal.Whole

open Cert.QkvIdeal Cert.QkvIdeal.Gen Cert.Products

variable (m : (ℓ : Loc nD τ sig) → Buf (Elt Ideal) ℓ) (ρ : Dev nD → PrngReg)

abbrev AA (c : Dev nD) : S1x4096x2048.Idx → EReal := m ((c : Thread nD τ).loc main_arg0)
abbrev BB (c : Dev nD) : S1x6160x2048.Idx → EReal := m ((c : Thread nD τ).loc main_arg1)

/-- The row of the weight, which holds more, that column `d` of the result takes. -/
def wrow (d : Fin 6144) : Fin 6160 := ⟨d.val, by have := d.isLt; omega⟩

/-- Row `r` of the first argument against row `d` of the second. -/
def G (c : Dev nD) : Buf (Elt Ideal) ((c : Thread nD τ).loc main_v0) := fun i : S1x4096x6144.Idx =>
  (∑ k : Fin 2048, AA m c (ix3 0 (i 1) k) * BB m c (ix3 0 (wrow (i 2)) k) : EReal)

/-- Which block of each window grid point `t` works on. -/
theorem idx_facts : ∀ t : Fin cfg0.N, (win0_0.index t (0 : Fin 3) = 0 ∧ win0_0.index t (1 : Fin 3) = t.val / 6 ∧ win0_0.index t (2 : Fin 3) = 0)
    ∧ (win0_1.index t (0 : Fin 3) = 0 ∧ win0_1.index t (1 : Fin 3) = t.val % 6 ∧ win0_1.index t (2 : Fin 3) = 0)
    ∧ (win0_2.index t (0 : Fin 3) = 0 ∧ win0_2.index t (1 : Fin 3) = t.val / 6 ∧ win0_2.index t (2 : Fin 3) = t.val % 6) :=
  (by decide +kernel : ∀ t : Fin grid0.N, _)

theorem pay_apply (P0 : Vec Ideal S1x1024x2048 .bf16) (P1 : Vec Ideal S1x1024x2048 .bf16) (r : Fin 1024) (d : Fin 1024) :
    k0_pay1 P0 P1 (ix3 0 r d) = (∑ k : Fin 2048, P0 (ix3 0 r k) * P1 (ix3 0 d k) : EReal) := by
  pointwise [k0_pay1]

/-- Where row `r`, column `d` of grid point `t`'s result block lies in the whole array. -/
def row (t : Fin cfg0.N) (r : Fin 1024) : Fin 4096 := at_ 1024 4 (by decide) (t.val / 6) (by have := t.isLt; have : cfg0.N = 24 := N_0; omega) r
def col (t : Fin cfg0.N) (d : Fin 1024) : Fin 6144 := at_ 1024 6 (by decide) (t.val % 6) (by omega) d

theorem iblk0_apply (c : Dev nD) (t : Fin cfg0.N) (r : Fin 1024) (k : Fin 2048) :
    iblk m c 0 t (ix3 0 r k : S1x1024x2048.Idx) = AA m c (ix3 0 (row t r) k) := by
  have h := (idx_facts t).1
  unfold iblk; rw [View.read_apply]; show V m c main_arg0 _ = m ((c : Thread nD τ).loc main_arg0) _
  rw [V_main_arg0]
  congr 1; funext a; apply Fin.ext
  match a with
  | ⟨0, _⟩ => show win0_0.index t 0 * 1 + 1 * 0 = 0; rw [h.1]
  | ⟨1, _⟩ => show win0_0.index t 1 * 1024 + 1 * r.val = t.val / 6 * 1024 + r.val; rw [h.2.1]; omega
  | ⟨2, _⟩ => show win0_0.index t 2 * 2048 + 1 * k.val = k.val; rw [h.2.2]; omega

/-- The weight's window reaches past no row of the array at any grid point: its buffer is the block. -/
theorem iblk1_apply (c : Dev nD) (t : Fin cfg0.N) (d : Fin 1024) (k : Fin 2048) :
    X0_1 m c t (ix3 0 d k : S1x1024x2048.Idx) = BB m c (ix3 0 (wrow (col t d)) k) := by
  have h := (idx_facts t).2.1
  unfold X0_1 Pipeline.Window.fill
  rw [dif_pos (moved0_1 t _)]
  unfold iblk; rw [View.read_apply]; show V m c main_arg1 _ = m ((c : Thread nD τ).loc main_arg1) _
  rw [V_main_arg1]
  congr 1; funext a; apply Fin.ext
  match a with
  | ⟨0, _⟩ => show win0_1.index t 0 * 1 + 1 * 0 = 0; rw [h.1]
  | ⟨1, _⟩ => show win0_1.index t 1 * 1024 + 1 * d.val = t.val % 6 * 1024 + d.val; rw [h.2.1]; omega
  | ⟨2, _⟩ => show win0_1.index t 2 * 2048 + 1 * k.val = k.val; rw [h.2.2]; omega

theorem emb (t : Fin cfg0.N) (r : Fin 1024) (d : Fin 1024) :
    (win0_2.blk t).view.emb (ix3 0 r d : S1x1024x1024.Idx) = (ix3 0 (row t r) (col t d) : S1x4096x6144.Idx) := by
  have h := (idx_facts t).2.2
  funext a; apply Fin.ext
  match a with
  | ⟨0, _⟩ => show win0_2.index t 0 * 1 + 1 * 0 = 0; rw [h.1]
  | ⟨1, _⟩ => show win0_2.index t 1 * 1024 + 1 * r.val = t.val / 6 * 1024 + r.val; rw [h.2.1]; omega
  | ⟨2, _⟩ => show win0_2.index t 2 * 1024 + 1 * d.val = t.val % 6 * 1024 + d.val; rw [h.2.2]; omega

theorem block_eq (c : Dev nD) (t : Fin cfg0.N) (y : S1x1024x1024.Idx) :
    k0_pay1 (F := Ideal) (iblk m c 0 t) (X0_1 m c t) y = G m c ((win0_2.blk t).view.emb y) := by
  rw [lead_eq y]
  refine (pay_apply _ _ (y 1) (y 2)).trans (Eq.trans ?_ (congrArg (G m c) (emb t (y 1) (y 2)).symm))
  exact Finset.sum_congr rfl fun k _ => congrArg₂ (fun u v : EReal => u * v) (iblk0_apply m c t (y 1) k) (iblk1_apply m c t (y 2) k)

/-- What the body leaves in the result's block. -/
theorem left (c : Dev nD) (t : Fin cfg0.N) : outsAt0 m c t = k0_pay1 (F := Ideal) (iblk m c 0 t) (X0_1 m c t) := by
  unfold outsAt0
  frame_out

theorem flushed_eq (c : Dev nD) (t : Fin cfg0.N) : (dats m 0 c).flushed 2 t = (win0_2.blk t).view.read (Elt Ideal) (G m c) := by
  rw [Cert.QkvIdeal.Value.flushed2, left]
  funext y
  rw [View.read_apply]
  exact block_eq m c t y

/-- Every index of the result lies in the block of the grid point of its rows and columns. -/
theorem cover (i : S1x4096x6144.Idx) : ∃ t : Fin cfg0.N, (cfg0.win 2).flush t = true ∧ i ∈ ((cfg0.win 2).blk t).view.set := by
  have h1 : (i 1).val < 4096 := (i 1).isLt
  have h2 : (i 2).val < 6144 := (i 2).isLt
  have hN : cfg0.N = 24 := N_0
  refine ⟨⟨(i 1).val / 1024 * 6 + (i 2).val / 1024, by omega⟩, flush0_2 _, ?_⟩
  refine Finset.mem_map.2 ⟨(ix3 0 ⟨(i 1).val % 1024, by omega⟩ ⟨(i 2).val % 1024, by omega⟩ : S1x1024x1024.Idx), Finset.mem_univ _, ?_⟩
  refine (emb _ _ _).trans (Eq.trans ?_ (lead_eq i).symm)
  refine congrArg₂ (fun u v => (ix3 0 u v : S1x4096x6144.Idx)) (Fin.ext ?_) (Fin.ext ?_)
  · show ((i 1).val / 1024 * 6 + (i 2).val / 1024) / 6 * 1024 + (i 1).val % 1024 = (i 1).val; omega
  · show ((i 1).val / 1024 * 6 + (i 2).val / 1024) % 6 * 1024 + (i 2).val % 1024 = (i 2).val; omega

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed_eq m c t) cover), (h c).2⟩)
    (Cert.QkvIdeal.Value.run_blocks (F := Ideal) m ρ)

/-! ## The reference -/

open Cert.QkvRefIdeal.Read in
theorem ref_apply (a : Vec Ideal Cert.QkvRefIdeal.S1x4096x2048 .bf16) (w : Vec Ideal Cert.QkvRefIdeal.S1x6160x2048 .bf16) (r : Fin 4096) (d : Fin 6144) :
    val_main_v6 (F := Ideal) a w (ix3 0 r d) = (∑ k : Fin 2048, a (ix3 0 r k) * val_main_v3 (F := Ideal) w (ix2 d k) : EReal) := by
  pointwise [val_main_v6, val_main_v5, val_main_v4, val_main_v0]

open Cert.QkvRefIdeal.Read in
theorem ref_weight (w : Vec Ideal Cert.QkvRefIdeal.S1x6160x2048 .bf16) (d : Fin 6144) (k : Fin 2048) :
    (val_main_v3 (F := Ideal) w (ix2 d k) : EReal) = w (ix3 0 (wrow d) k) := by
  refine (val_main_v3_apply w _).trans ((val_main_v2_apply w _).trans ?_)
  show w _ = w _
  congr 1; funext a; apply Fin.ext
  have hk := k.isLt
  have hd := d.isLt
  match a with
  | ⟨0, _⟩ => rfl
  | ⟨1, _⟩ => show (d.val * 2048 + k.val) / 2048 % 6160 = d.val; omega
  | ⟨2, _⟩ => show (d.val * 2048 + k.val) % 2048 = k.val; omega

theorem algebraic : Cert.algebraic_QkvIdeal_QkvRefIdeal := by
  intro m g m' g' hpre hargs
  refine ⟨fun c => G m c, run m g, ?_⟩
  refine (θ_run Cert.QkvRefIdeal.defs _ _).mono (fun r h c => ?_) (Cert.QkvRefIdeal.Value.run (F := Ideal) m' g')
  obtain ⟨e0, e1⟩ := hargs c
  refine ⟨(h c).1.trans ?_, (h c).2⟩
  refine (Cert.QkvRefIdeal.Read.val_main_v6_eq _ _).trans ?_
  rw [e0, e1]
  funext i
  exact (congrArg _ (lead_eq i)).trans ((ref_apply (AA m c) (BB m c) (i 1) (i 2)).trans
    (Finset.sum_congr rfl fun k _ => congrArg (fun u : EReal => AA m c (ix3 0 (i 1) k) * u) (ref_weight (BB m c) (i 2) k)))

theorem frame_ref : Cert.quiescent_QkvRefIdeal := fun m ρ _ =>
  (θ_run Cert.QkvRefIdeal.defs _ _).mono (fun r h => ⟨fun c => (h c).2, sem_eq_zero_of_no_sems (by decide) r.2⟩)
    (Cert.QkvRefIdeal.Value.run (F := Ideal) m ρ)

end Cert.QkvIdeal.Whole

end
-- ==== Proof.QkvWgradValue.lean ====
/- The gradient of the joint query, key and value projection's weight: the kernel's result as a whole array, and its
   equality with the reference. -/
module

public import proofs.«01_k».proof.Defs
public import proofs.«01_k».proof.Proof.Products
public import proofs.«01_k».proof.Proof.Gen.QkvWgradIdeal.Value
public import proofs.«01_k».proof.Proof.Gen.QkvWgradRefIdeal.Read
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.QkvWgradIdeal.Whole

open Cert.QkvWgradIdeal Cert.QkvWgradIdeal.Gen Cert.Products

variable (m : (ℓ : Loc nD τ sig) → Buf (Elt Ideal) ℓ) (ρ : Dev nD → PrngReg)

abbrev AA (c : Dev nD) : S1x4096x6144.Idx → EReal := m ((c : Thread nD τ).loc main_arg0)
abbrev BB (c : Dev nD) : S1x4096x2048.Idx → EReal := m ((c : Thread nD τ).loc main_arg1)

/-- Column `r` of the first argument against column `d` of the second, over all tokens. -/
def G (c : Dev nD) : Buf (Elt Ideal) ((c : Thread nD τ).loc main_v0) := fun i : S1x6144x2048.Idx =>
  (∑ k : Fin 4096, AA m c (ix3 0 k (i 1)) * BB m c (ix3 0 k (i 2)) : EReal)

/-- Which block of each window grid point `t` works on. -/
theorem idx_facts : ∀ t : Fin cfg0.N, (win0_0.index t (0 : Fin 3) = 0 ∧ win0_0.index t (1 : Fin 3) = 0 ∧ win0_0.index t (2 : Fin 3) = t.val / 2)
    ∧ (win0_1.index t (0 : Fin 3) = 0 ∧ win0_1.index t (1 : Fin 3) = 0 ∧ win0_1.index t (2 : Fin 3) = t.val % 2)
    ∧ (win0_2.index t (0 : Fin 3) = 0 ∧ win0_2.index t (1 : Fin 3) = t.val / 2 ∧ win0_2.index t (2 : Fin 3) = t.val % 2) :=
  (by decide +kernel : ∀ t : Fin grid0.N, _)

theorem pay_apply (P0 : Vec Ideal S1x4096x1024 .bf16) (P1 : Vec Ideal S1x4096x1024 .bf16) (r : Fin 1024) (d : Fin 1024) :
    k0_pay1 P0 P1 (ix3 0 r d) = (∑ k : Fin 4096, P0 (ix3 0 k r) * P1 (ix3 0 k d) : EReal) := by
  pointwise [k0_pay1]

/-- Where row `r`, column `d` of grid point `t`'s result block lies in the whole array. -/
def row (t : Fin cfg0.N) (r : Fin 1024) : Fin 6144 := at_ 1024 6 (by decide) (t.val / 2) (by have := t.isLt; have : cfg0.N = 12 := N_0; omega) r
def col (t : Fin cfg0.N) (d : Fin 1024) : Fin 2048 := at_ 1024 2 (by decide) (t.val % 2) (by omega) d

theorem iblk0_apply (c : Dev nD) (t : Fin cfg0.N) (r : Fin 1024) (k : Fin 4096) :
    iblk m c 0 t (ix3 0 k r : S1x4096x1024.Idx) = AA m c (ix3 0 k (row t r)) := by
  have h := (idx_facts t).1
  unfold iblk; rw [View.read_apply]; show V m c main_arg0 _ = m ((c : Thread nD τ).loc main_arg0) _
  rw [V_main_arg0]
  congr 1; funext a; apply Fin.ext
  match a with
  | ⟨0, _⟩ => show win0_0.index t 0 * 1 + 1 * 0 = 0; rw [h.1]
  | ⟨1, _⟩ => show win0_0.index t 1 * 4096 + 1 * k.val = k.val; rw [h.2.1]; omega
  | ⟨2, _⟩ => show win0_0.index t 2 * 1024 + 1 * r.val = t.val / 2 * 1024 + r.val; rw [h.2.2]; omega

theorem iblk1_apply (c : Dev nD) (t : Fin cfg0.N) (d : Fin 1024) (k : Fin 4096) :
    iblk m c 1 t (ix3 0 k d : S1x4096x1024.Idx) = BB m c (ix3 0 k (col t d)) := by
  have h := (idx_facts t).2.1
  unfold iblk; rw [View.read_apply]; show V m c main_arg1 _ = m ((c : Thread nD τ).loc main_arg1) _
  rw [V_main_arg1]
  congr 1; funext a; apply Fin.ext
  match a with
  | ⟨0, _⟩ => show win0_1.index t 0 * 1 + 1 * 0 = 0; rw [h.1]
  | ⟨1, _⟩ => show win0_1.index t 1 * 4096 + 1 * k.val = k.val; rw [h.2.1]; omega
  | ⟨2, _⟩ => show win0_1.index t 2 * 1024 + 1 * d.val = t.val % 2 * 1024 + d.val; rw [h.2.2]; omega

theorem emb (t : Fin cfg0.N) (r : Fin 1024) (d : Fin 1024) :
    (win0_2.blk t).view.emb (ix3 0 r d : S1x1024x1024.Idx) = (ix3 0 (row t r) (col t d) : S1x6144x2048.Idx) := by
  have h := (idx_facts t).2.2
  funext a; apply Fin.ext
  match a with
  | ⟨0, _⟩ => show win0_2.index t 0 * 1 + 1 * 0 = 0; rw [h.1]
  | ⟨1, _⟩ => show win0_2.index t 1 * 1024 + 1 * r.val = t.val / 2 * 1024 + r.val; rw [h.2.1]; omega
  | ⟨2, _⟩ => show win0_2.index t 2 * 1024 + 1 * d.val = t.val % 2 * 1024 + d.val; rw [h.2.2]; omega

theorem block_eq (c : Dev nD) (t : Fin cfg0.N) (y : S1x1024x1024.Idx) :
    k0_pay1 (F := Ideal) (iblk m c 0 t) (iblk m c 1 t) y = G m c ((win0_2.blk t).view.emb y) := by
  rw [lead_eq y]
  refine (pay_apply _ _ (y 1) (y 2)).trans (Eq.trans ?_ (congrArg (G m c) (emb t (y 1) (y 2)).symm))
  exact Finset.sum_congr rfl fun k _ => congrArg₂ (fun u v : EReal => u * v) (iblk0_apply m c t (y 1) k) (iblk1_apply m c t (y 2) k)

theorem flushed_eq (c : Dev nD) (t : Fin cfg0.N) : (dats m 0 c).flushed 2 t = (win0_2.blk t).view.read (Elt Ideal) (G m c) := by
  rw [Cert.QkvWgradIdeal.Value.flushed2]
  unfold out0_2
  rw [View.ld_unit_zero hz3, View.ld_unit_zero hz3]
  funext y
  rw [View.read_apply]
  exact (congrFun (View.canon_cons_unit_zero hz3 _ _ _) y).trans (block_eq m c t y)

/-- Every index of the result lies in the block of the grid point of its rows and columns. -/
theorem cover (i : S1x6144x2048.Idx) : ∃ t : Fin cfg0.N, (cfg0.win 2).flush t = true ∧ i ∈ ((cfg0.win 2).blk t).view.set := by
  have h1 : (i 1).val < 6144 := (i 1).isLt
  have h2 : (i 2).val < 2048 := (i 2).isLt
  have hN : cfg0.N = 12 := N_0
  refine ⟨⟨(i 1).val / 1024 * 2 + (i 2).val / 1024, by omega⟩, flush0_2 _, ?_⟩
  refine Finset.mem_map.2 ⟨(ix3 0 ⟨(i 1).val % 1024, by omega⟩ ⟨(i 2).val % 1024, by omega⟩ : S1x1024x1024.Idx), Finset.mem_univ _, ?_⟩
  refine (emb _ _ _).trans (Eq.trans ?_ (lead_eq i).symm)
  refine congrArg₂ (fun u v => (ix3 0 u v : S1x6144x2048.Idx)) (Fin.ext ?_) (Fin.ext ?_)
  · show ((i 1).val / 1024 * 2 + (i 2).val / 1024) / 2 * 1024 + (i 1).val % 1024 = (i 1).val; omega
  · show ((i 1).val / 1024 * 2 + (i 2).val / 1024) % 2 * 1024 + (i 2).val % 1024 = (i 2).val; omega

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed_eq m c t) cover), (h c).2⟩)
    (Cert.QkvWgradIdeal.Value.run_blocks (F := Ideal) m ρ)

/-! ## The reference -/

open Cert.QkvWgradRefIdeal.Read in
theorem ref_apply (a : Vec Ideal Cert.QkvWgradRefIdeal.S1x4096x6144 .bf16) (b : Vec Ideal Cert.QkvWgradRefIdeal.S1x4096x2048 .bf16) (r : Fin 6144) (d : Fin 2048) :
    val_main_v10 (F := Ideal) a b (ix3 0 r d) = (∑ u : Fin 1, ∑ k : Fin 4096, a (ix3 u k r) * b (ix3 u k d) : EReal) := by
  pointwise [val_main_v10, val_main_v9, val_main_v8, val_main_v7, val_main_v6, val_main_v5, val_main_v1]

theorem algebraic : Cert.algebraic_QkvWgradIdeal_QkvWgradRefIdeal := by
  intro m g m' g' hpre hargs
  refine ⟨fun c => G m c, run m g, ?_⟩
  refine (θ_run Cert.QkvWgradRefIdeal.defs _ _).mono (fun r h c => ?_) (Cert.QkvWgradRefIdeal.Value.run (F := Ideal) m' g')
  obtain ⟨e0, e1⟩ := hargs c
  refine ⟨(h c).1.trans ?_, (h c).2⟩
  refine (Cert.QkvWgradRefIdeal.Read.val_main_v10_eq _ _).trans ?_
  rw [e0, e1]
  funext i
  refine (congrArg _ (lead_eq i)).trans ((ref_apply (AA m c) (BB m c) (i 1) (i 2)).trans ((Fin.sum_univ_one _).trans ?_))
  exact rfl

theorem frame_ref : Cert.quiescent_QkvWgradRefIdeal := fun m ρ _ =>
  (θ_run Cert.QkvWgradRefIdeal.defs _ _).mono (fun r h => ⟨fun c => (h c).2, sem_eq_zero_of_no_sems (by decide) r.2⟩)
    (Cert.QkvWgradRefIdeal.Value.run (F := Ideal) m ρ)

end Cert.QkvWgradIdeal.Whole

end
-- ==== Proof.QkvBackValue.lean ====
/- The gradient through the odd layer's joint query, key and value projection: the kernel's result as a whole array, and its
   equality with the reference. -/
module

public import proofs.«01_k».proof.Defs
public import proofs.«01_k».proof.Proof.Products
public import proofs.«01_k».proof.Proof.Gen.QkvBackIdeal.Value
public import proofs.«01_k».proof.Proof.Gen.QkvBackRefIdeal.Read
public import Idealize.ShloMosaic.Lib.Pointwise
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.QkvBackIdeal.Whole

open Cert.QkvBackIdeal Cert.QkvBackIdeal.Gen Cert.Products

variable (m : (ℓ : Loc nD τ sig) → Buf (Elt Ideal) ℓ) (ρ : Dev nD → PrngReg)

abbrev AA (c : Dev nD) : S1x4096x6144.Idx → EReal := m ((c : Thread nD τ).loc main_arg0)
abbrev BB (c : Dev nD) : S1x6160x2048.Idx → EReal := m ((c : Thread nD τ).loc main_arg1)

/-- The row of the weight, which holds more, that column `k` of the gradient meets. -/
def wrow (k : Fin 6144) : Fin 6160 := ⟨k.val, by have := k.isLt; omega⟩

/-- The rows times the weight. -/
def G (c : Dev nD) : Buf (Elt Ideal) ((c : Thread nD τ).loc main_v0) := fun i : S1x4096x2048.Idx =>
  (∑ k : Fin 6144, AA m c (ix3 0 (i 1) k) * BB m c (ix3 0 (wrow k) (i 2)) : EReal)

/-- Which block of each window grid point `t` works on. -/
theorem idx_facts : ∀ t : Fin cfg0.N, (win0_0.index t (0 : Fin 3) = 0 ∧ win0_0.index t (1 : Fin 3) = t.val / 6 ∧ win0_0.index t (2 : Fin 3) = t.val % 3)
    ∧ (win0_1.index t (0 : Fin 3) = 0 ∧ win0_1.index t (1 : Fin 3) = t.val % 3 ∧ win0_1.index t (2 : Fin 3) = t.val / 3 % 2)
    ∧ (win0_2.index t (0 : Fin 3) = 0 ∧ win0_2.index t (1 : Fin 3) = t.val / 6 ∧ win0_2.index t (2 : Fin 3) = t.val / 3 % 2) :=
  (by decide +kernel : ∀ t : Fin grid0.N, _)

theorem pay_apply (P0 : Vec Ideal S1x1024x2048 .bf16) (P1 : Vec Ideal S1x2048x1024 .bf16) (r : Fin 1024) (d : Fin 1024) :
    k0_pay1 P0 P1 (ix2 r d) = (∑ k : Fin 2048, P0 (ix3 0 r k) * P1 (ix3 0 k d) : EReal) := by
  unfold k0_pay1
  refine (shapeCast_apply _ _ _ (ix2 r d) rfl).trans ?_
  pointwise

/-- Which block of the contracted columns grid point `n` works on, and where its column `k` lies. -/
def third (n : Nat) : Fin 3 := ⟨n % 3, by omega⟩
def inner (q : Fin 3) (k : Fin 2048) : Fin 6144 := at_ 2048 3 (by decide) q.val q.isLt k

/-- Where row `r`, column `d` of grid point `n`'s result block lies in the whole array. -/
def row (n : Nat) (r : Fin 1024) : Fin 4096 := at_ 1024 4 (by decide) (n / 6 % 4) (by omega) r
def col (n : Nat) (d : Fin 1024) : Fin 2048 := at_ 1024 2 (by decide) (n / 3 % 2) (by omega) d

theorem iblk0_apply (c : Dev nD) (t : Fin cfg0.N) (r : Fin 1024) (k : Fin 2048) :
    iblk m c 0 t (ix3 0 r k : S1x1024x2048.Idx) = AA m c (ix3 0 (row t r) (inner (third t) k)) := by
  have h := (idx_facts t).1
  unfold iblk; rw [View.read_apply]; show V m c main_arg0 _ = m ((c : Thread nD τ).loc main_arg0) _
  rw [V_main_arg0]
  congr 1; funext a; apply Fin.ext
  match a with
  | ⟨0, _⟩ => show win0_0.index t 0 * 1 + 1 * 0 = 0; rw [h.1]
  | ⟨1, _⟩ => show win0_0.index t 1 * 1024 + 1 * r.val = t.val / 6 % 4 * 1024 + r.val; rw [h.2.1]; have := t.isLt; have : cfg0.N = 24 := N_0; omega
  | ⟨2, _⟩ => show win0_0.index t 2 * 2048 + 1 * k.val = t.val % 3 * 2048 + k.val; rw [h.2.2]; omega

/-- The weight's window reaches past no row of the array at any grid point: its buffer is the block. -/
theorem iblk1_apply (c : Dev nD) (t : Fin cfg0.N) (d : Fin 1024) (k : Fin 2048) :
    X0_1 m c t (ix3 0 k d : S1x2048x1024.Idx) = BB m c (ix3 0 (wrow (inner (third t) k)) (col t d)) := by
  have h := (idx_facts t).2.1
  unfold X0_1 Pipeline.Window.fill
  rw [dif_pos (moved0_1 t _)]
  unfold iblk; rw [View.read_apply]; show V m c main_arg1 _ = m ((c : Thread nD τ).loc main_arg1) _
  rw [V_main_arg1]
  congr 1; funext a; apply Fin.ext
  match a with
  | ⟨0, _⟩ => show win0_1.index t 0 * 1 + 1 * 0 = 0; rw [h.1]
  | ⟨1, _⟩ => show win0_1.index t 1 * 2048 + 1 * k.val = t.val % 3 * 2048 + k.val; rw [h.2.1]; omega
  | ⟨2, _⟩ => show win0_1.index t 2 * 1024 + 1 * d.val = t.val / 3 % 2 * 1024 + d.val; rw [h.2.2]; omega

theorem emb (t : Fin cfg0.N) (r : Fin 1024) (d : Fin 1024) :
    (win0_2.blk t).view.emb (ix3 0 r d : S1x1024x1024.Idx) = (ix3 0 (row t r) (col t d) : S1x4096x2048.Idx) := by
  have h := (idx_facts t).2.2
  funext a; apply Fin.ext
  match a with
  | ⟨0, _⟩ => show win0_2.index t 0 * 1 + 1 * 0 = 0; rw [h.1]
  | ⟨1, _⟩ => show win0_2.index t 1 * 1024 + 1 * r.val = t.val / 6 % 4 * 1024 + r.val; rw [h.2.1]; have := t.isLt; have : cfg0.N = 24 := N_0; omega
  | ⟨2, _⟩ => show win0_2.index t 2 * 1024 + 1 * d.val = t.val / 3 % 2 * 1024 + d.val; rw [h.2.2]; omega

/-- The product of grid point `t`'s blocks. -/
def part (c : Dev nD) (t : Fin cfg0.N) : S1024x1024.Idx → EReal := k0_pay1 (F := Ideal) (iblk m c 0 t) (X0_1 m c t)

/-- A cast to the same shape reads the same element. -/
theorem cast_same (x : FVec Ideal S1024x1024 .f32) (h) (i : S1024x1024.Idx) : (shapeCast S1024x1024 x h i : EReal) = x i :=
  shapeCast_apply x h i i rfl

/-- Adding a point's product to what the accumulator holds. -/
theorem pay2_apply (P : Vec Ideal S1024x1024 .f32) (P0 : Vec Ideal S1x1024x2048 .bf16) (P1 : Vec Ideal S1x2048x1024 .bf16) (i : S1024x1024.Idx) :
    (k0_pay2 (F := Ideal) P P0 P1 i : EReal) = P i + k0_pay1 (F := Ideal) P0 P1 i := by
  unfold k0_pay2 k0_pay1
  refine (cast_same _ _ i).trans (congrArg (fun u : EReal => P i + u) (cast_same _ _ i).symm)

theorem pay3_apply (P : Vec Ideal S1024x1024 .f32) (r d : Fin 1024) : (k0_pay3 (F := Ideal) P (ix3 0 r d) : EReal) = P (ix2 r d) := by
  pointwise [k0_pay3]

/-! ## The accumulator -/

/-- The accumulator after grid point `t`: the point's product at the first of its three points, -/
theorem acc_first (c : Dev nD) (t : Fin cfg0.N) (h0 : t.val % 3 = 0) (i : S1024x1024.Idx) :
    ((outsAt0 m c t.val t.isLt).2 i : EReal) = part m c t i := by
  rw [outsAt0_A m c t h0 (by omega) (by omega)]
  frame_out
  rfl

/-- and what it held before plus the product at the two others; -/
theorem acc_next (c : Dev nD) (t : Fin cfg0.N) (h0 : ¬t.val % 3 = 0) (i : S1024x1024.Idx) :
    ((outsAt0 m c t.val t.isLt).2 i : EReal)
      = (outsAt0 m c (t.val - 1) (Nat.lt_of_le_of_lt (Nat.sub_le _ _) t.isLt)).2 i + part m c t i := by
  by_cases h2 : t.val % 3 = 2
  · rw [outsAt0_C m c t h0 (by omega) h2]
    frame_out
    refine (pay2_apply _ _ _ i).trans (congrArg (fun u : EReal => u + _) ?_)
    exact congrFun (Memref.IsWhole.read_unread (Memref.isWhole_whole cc0_scratch0) _) i
  · rw [outsAt0_B m c t h0 (by omega) h2]
    frame_out
    refine (pay2_apply _ _ _ i).trans (congrArg (fun u : EReal => u + _) ?_)
    exact congrFun (Memref.IsWhole.read_unread (Memref.isWhole_whole cc0_scratch0) _) i

/-- the last writes it out. -/
theorem out_last (c : Dev nD) (t : Fin cfg0.N) (h2 : t.val % 3 = 2) : (outsAt0 m c t.val t.isLt).1 = k0_pay3 (F := Ideal) (outsAt0 m c t.val t.isLt).2 := by
  rw [outsAt0_C m c t (by omega) (by omega) h2]
  frame_out

/-- The product of row `r` and column `d` over block `q` of the contracted columns. -/
def over (c : Dev nD) (r : Fin 4096) (d : Fin 2048) (q : Fin 3) : EReal :=
  ∑ k : Fin 2048, AA m c (ix3 0 r (inner q k)) * BB m c (ix3 0 (wrow (inner q k)) d)

theorem G_blocks (c : Dev nD) (r : Fin 4096) (d : Fin 2048) : G m c (ix3 0 r d : S1x4096x2048.Idx) = ∑ q : Fin 3, over m c r d q :=
  sum_blocks (k := 3) (n := 2048) fun k => (AA m c (ix3 0 r k) * BB m c (ix3 0 (wrow k) d) : EReal)

/-- What grid point `n` adds. -/
def added (c : Dev nD) (r d : Fin 1024) (n : Nat) : EReal := over m c (row n r) (col n d) (third n)

theorem part_eq (c : Dev nD) (t : Fin cfg0.N) (r d : Fin 1024) : part m c t (ix2 r d) = added m c r d t.val := by
  refine (pay_apply _ _ r d).trans ?_
  exact Finset.sum_congr rfl fun k _ => congrArg₂ (fun u v : EReal => u * v) (iblk0_apply m c t r k) (iblk1_apply m c t d k)

/-- The accumulator at one place of its block, after grid point `n`. -/
def acc (c : Dev nD) (r d : Fin 1024) (n : Nat) (hn : n < cfg0.N) : EReal := (outsAt0 m c n hn).2 (ix2 r d)

theorem acc_reset (c : Dev nD) (r d : Fin 1024) (t : Fin cfg0.N) (h0 : t.val % 3 = 0) :
    acc m c r d t.val t.isLt = 0 + added m c r d t.val :=
  (acc_first m c t h0 (ix2 r d)).trans ((part_eq m c t r d).trans (zero_add (added m c r d t.val)).symm)

theorem acc_step (c : Dev nD) (r d : Fin 1024) (t : Fin cfg0.N) (h0 : ¬t.val % 3 = 0) :
    acc m c r d t.val t.isLt = acc m c r d (t.val - 1) (Nat.lt_of_le_of_lt (Nat.sub_le _ _) t.isLt) + added m c r d t.val := by
  rw [← part_eq m c t r d]
  exact acc_next m c t h0 (ix2 r d)

/-- The three points of a block of the result, each with its block of the contracted columns. -/
theorem added_at (c : Dev nD) (r d : Fin 1024) (n k : Nat) (hk : k < 3) :
    added m c r d (3 * (n / 3) + k) = over m c (row n r) (col n d) (third k) := by
  have e0 : row (3 * (n / 3) + k) r = row n r := by
    apply Fin.ext; show (3 * (n / 3) + k) / 6 % 4 * 1024 + r.val = n / 6 % 4 * 1024 + r.val; omega
  have e1 : col (3 * (n / 3) + k) d = col n d := by
    apply Fin.ext; show (3 * (n / 3) + k) / 3 % 2 * 1024 + d.val = n / 3 % 2 * 1024 + d.val; omega
  have e2 : third (3 * (n / 3) + k) = third k := by
    apply Fin.ext; show (3 * (n / 3) + k) % 3 = k % 3; omega
  unfold added; rw [e0, e1, e2]

/-- The accumulator at the last point of a block holds the sum over the three blocks of columns. -/
theorem acc_last (c : Dev nD) (r d : Fin 1024) (t : Fin cfg0.N) (h2 : t.val % 3 = 2) :
    acc m c r d t.val t.isLt = ∑ q : Fin 3, over m c (row t r) (col t d) q := by
  have h := Pipeline.eq_sum_of_reset_step_of_mod (acc m c r d) 3 0 (added m c r d) (acc_reset m c r d) (acc_step m c r d) t h2
  refine h.trans ?_
  rw [zero_add, Finset.sum_congr rfl fun k hk => added_at m c r d t.val k (Finset.mem_range.1 hk), Fin.sum_univ_three]
  simp only [Finset.sum_range_succ, Finset.sum_range_zero, zero_add]
  rfl

theorem acc_G (c : Dev nD) (t : Fin cfg0.N) (r d : Fin 1024) (h2 : t.val % 3 = 2) :
    (outsAt0 m c t.val t.isLt).2 (ix2 r d) = G m c (ix3 0 (row t r) (col t d) : S1x4096x2048.Idx) :=
  (acc_last m c r d t h2).trans (G_blocks m c (row t r) (col t d)).symm

theorem block_eq (c : Dev nD) (t : Fin cfg0.N) (h2 : t.val % 3 = 2) (y : S1x1024x1024.Idx) :
    k0_pay3 (F := Ideal) (outsAt0 m c t.val t.isLt).2 y = G m c ((win0_2.blk t).view.emb y) := by
  rw [lead_eq y]
  refine (pay3_apply _ (y 1) (y 2)).trans (Eq.trans ?_ (congrArg (G m c) (emb t (y 1) (y 2)).symm))
  exact acc_G m c t (y 1) (y 2) h2

theorem flushed_eq (c : Dev nD) (t : Fin cfg0.N) (hf : (cfg0.win 2).flush t = true) :
    (dats m 0 c).flushed 2 t = (win0_2.blk t).view.read (Elt Ideal) (G m c) := by
  have h2 : t.val % 3 = 2 := (flush0_2 t).mp hf
  have e := block_eq m c t h2
  rw [Cert.QkvBackIdeal.Value.flushed2, out_last m c t h2]
  generalize k0_pay3 (F := Ideal) (outsAt0 m c t.val t.isLt).2 = X at e ⊢
  generalize G m c = g at e ⊢
  exact funext e

/-- Every index of the result lies in the block written at the last grid point of its rows and columns. -/
theorem cover (i : S1x4096x2048.Idx) : ∃ t : Fin cfg0.N, (cfg0.win 2).flush t = true ∧ i ∈ ((cfg0.win 2).blk t).view.set := by
  have h1 : (i 1).val < 4096 := (i 1).isLt
  have h2 : (i 2).val < 2048 := (i 2).isLt
  have hN : cfg0.N = 24 := N_0
  refine ⟨⟨((i 1).val / 1024 * 2 + (i 2).val / 1024) * 3 + 2, by omega⟩, (flush0_2 _).mpr (by show (((i 1).val / 1024 * 2 + (i 2).val / 1024) * 3 + 2) % 3 = 2; omega), ?_⟩
  refine Finset.mem_map.2 ⟨(ix3 0 ⟨(i 1).val % 1024, by omega⟩ ⟨(i 2).val % 1024, by omega⟩ : S1x1024x1024.Idx), Finset.mem_univ _, ?_⟩
  refine (emb _ _ _).trans (Eq.trans ?_ (lead_eq i).symm)
  refine congrArg₂ (fun u v => (ix3 0 u v : S1x4096x2048.Idx)) (Fin.ext ?_) (Fin.ext ?_)
  · show (((i 1).val / 1024 * 2 + (i 2).val / 1024) * 3 + 2) / 6 % 4 * 1024 + (i 1).val % 1024 = (i 1).val; omega
  · show (((i 1).val / 1024 * 2 + (i 2).val / 1024) * 3 + 2) / 3 % 2 * 1024 + (i 2).val % 1024 = (i 2).val; omega

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t hf => flushed_eq m c t hf) cover), (h c).2⟩)
    (Cert.QkvBackIdeal.Value.run_blocks (F := Ideal) m ρ)

/-! ## The reference -/

open Cert.QkvBackRefIdeal.Read in
theorem ref_apply (a : Vec Ideal Cert.QkvBackRefIdeal.S1x4096x6144 .bf16) (w : Vec Ideal Cert.QkvBackRefIdeal.S1x6160x2048 .bf16) (r : Fin 4096) (d : Fin 2048) :
    val_main_v7 (F := Ideal) a w (ix3 0 r d) = (∑ k : Fin 6144, a (ix3 0 r k) * val_main_v3 (F := Ideal) w (ix2 k d) : EReal) := by
  pointwise [val_main_v7, val_main_v6, val_main_v4]

open Cert.QkvBackRefIdeal.Read in
theorem ref_weight (w : Vec Ideal Cert.QkvBackRefIdeal.S1x6160x2048 .bf16) (k : Fin 6144) (d : Fin 2048) :
    (val_main_v3 (F := Ideal) w (ix2 k d) : EReal) = w (ix3 0 (wrow k) d) := by
  refine (val_main_v3_apply w _).trans ((val_main_v2_apply w _).trans ?_)
  show w _ = w _
  congr 1; funext a; apply Fin.ext
  have hk := k.isLt
  have hd := d.isLt
  match a with
  | ⟨0, _⟩ => rfl
  | ⟨1, _⟩ => show (k.val * 2048 + d.val) / 2048 % 6160 = k.val; omega
  | ⟨2, _⟩ => show (k.val * 2048 + d.val) % 2048 = d.val; omega

theorem algebraic : Cert.algebraic_QkvBackIdeal_QkvBackRefIdeal := by
  intro m g m' g' hpre hargs
  refine ⟨fun c => G m c, run m g, ?_⟩
  refine (θ_run Cert.QkvBackRefIdeal.defs _ _).mono (fun r h c => ?_) (Cert.QkvBackRefIdeal.Value.run (F := Ideal) m' g')
  obtain ⟨e0, e1⟩ := hargs c
  refine ⟨(h c).1.trans ?_, (h c).2⟩
  refine (Cert.QkvBackRefIdeal.Read.val_main_v7_eq _ _).trans ?_
  rw [e0, e1]
  funext i
  exact (congrArg _ (lead_eq i)).trans ((ref_apply (AA m c) (BB m c) (i 1) (i 2)).trans
    (Finset.sum_congr rfl fun k _ => congrArg (fun u : EReal => AA m c (ix3 0 (i 1) k) * u) (ref_weight (BB m c) k (i 2))))

theorem frame_ref : Cert.quiescent_QkvBackRefIdeal := fun m ρ _ =>
  (θ_run Cert.QkvBackRefIdeal.defs _ _).mono (fun r h => ⟨fun c => (h c).2, sem_eq_zero_of_no_sems (by decide) r.2⟩)
    (Cert.QkvBackRefIdeal.Value.run (F := Ideal) m ρ)

end Cert.QkvBackIdeal.Whole

end
-- ==== Proof.EvenValue.lean ====
/- The even layer's input projection: the kernel's result as a whole array, and its
   equality with the reference. -/
module

public import proofs.«01_k».proof.Defs
public import proofs.«01_k».proof.Proof.Products
public import proofs.«01_k».proof.Proof.Gen.EvenIdeal.Value
public import proofs.«01_k».proof.Proof.Gen.EvenRefIdeal.Read
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.EvenIdeal.Whole

open Cert.EvenIdeal Cert.EvenIdeal.Gen Cert.Products

variable (m : (ℓ : Loc nD τ sig) → Buf (Elt Ideal) ℓ) (ρ : Dev nD → PrngReg)

abbrev AA (c : Dev nD) : S1x4096x2048.Idx → EReal := m ((c : Thread nD τ).loc main_arg0)
abbrev BB (c : Dev nD) : S8x2048x640.Idx → EReal := m ((c : Thread nD τ).loc main_arg1)

/-- The shard column `d` lies in, and its place there. -/
def shard (d : Fin 5120) : Fin 8 := ⟨d.val / 640, by have := d.isLt; omega⟩
def lane (d : Fin 5120) : Fin 640 := ⟨d.val % 640, by omega⟩

/-- The rows times the weight, whose columns lie in shards of 640. -/
def G (c : Dev nD) : Buf (Elt Ideal) ((c : Thread nD τ).loc main_v0) := fun i : S1x4096x5120.Idx =>
  (∑ k : Fin 2048, AA m c (ix3 0 (i 1) k) * BB m c (ix3 (shard (i 2)) k (lane (i 2))) : EReal)

/-- Which block of each window grid point `t` works on. -/
theorem idx_facts : ∀ t : Fin cfg0.N, (win0_0.index t (0 : Fin 3) = 0 ∧ win0_0.index t (1 : Fin 3) = t.val / 8 ∧ win0_0.index t (2 : Fin 3) = 0)
    ∧ (win0_1.index t (0 : Fin 3) = t.val % 8 ∧ win0_1.index t (1 : Fin 3) = 0 ∧ win0_1.index t (2 : Fin 3) = 0)
    ∧ (win0_2.index t (0 : Fin 3) = 0 ∧ win0_2.index t (1 : Fin 3) = t.val / 8 ∧ win0_2.index t (2 : Fin 3) = t.val % 8) :=
  (by decide +kernel : ∀ t : Fin grid0.N, _)

theorem pay_apply (P0 : Vec Ideal S1x1024x2048 .bf16) (P1 : Vec Ideal S1x2048x640 .bf16) (r : Fin 1024) (d : Fin 640) :
    k0_pay1 P0 P1 (ix3 0 r d) = (∑ k : Fin 2048, P0 (ix3 0 r k) * P1 (ix3 0 k d) : EReal) := by
  pointwise [k0_pay1]

/-- Where row `r`, column `d` of grid point `t`'s result block lies in the whole array. -/
def row (t : Fin cfg0.N) (r : Fin 1024) : Fin 4096 := at_ 1024 4 (by decide) (t.val / 8) (by have := t.isLt; have : cfg0.N = 32 := N_0; omega) r
def col (t : Fin cfg0.N) (d : Fin 640) : Fin 5120 := at_ 640 8 (by decide) (t.val % 8) (by omega) d

theorem iblk0_apply (c : Dev nD) (t : Fin cfg0.N) (r : Fin 1024) (k : Fin 2048) :
    iblk m c 0 t (ix3 0 r k : S1x1024x2048.Idx) = AA m c (ix3 0 (row t r) k) := by
  have h := (idx_facts t).1
  unfold iblk; rw [View.read_apply]; show V m c main_arg0 _ = m ((c : Thread nD τ).loc main_arg0) _
  rw [V_main_arg0]
  congr 1; funext a; apply Fin.ext
  match a with
  | ⟨0, _⟩ => show win0_0.index t 0 * 1 + 1 * 0 = 0; rw [h.1]
  | ⟨1, _⟩ => show win0_0.index t 1 * 1024 + 1 * r.val = t.val / 8 * 1024 + r.val; rw [h.2.1]; omega
  | ⟨2, _⟩ => show win0_0.index t 2 * 2048 + 1 * k.val = k.val; rw [h.2.2]; omega

theorem iblk1_apply (c : Dev nD) (t : Fin cfg0.N) (d : Fin 640) (k : Fin 2048) :
    iblk m c 1 t (ix3 0 k d : S1x2048x640.Idx) = BB m c (ix3 (shard (col t d)) k (lane (col t d))) := by
  have h := (idx_facts t).2.1
  unfold iblk; rw [View.read_apply]; show V m c main_arg1 _ = m ((c : Thread nD τ).loc main_arg1) _
  rw [V_main_arg1]
  congr 1; funext a; apply Fin.ext
  match a with
  | ⟨0, _⟩ => show win0_1.index t 0 * 1 + 1 * 0 = (t.val % 8 * 640 + d.val) / 640; rw [h.1]; have := d.isLt; omega
  | ⟨1, _⟩ => show win0_1.index t 1 * 2048 + 1 * k.val = k.val; rw [h.2.1]; omega
  | ⟨2, _⟩ => show win0_1.index t 2 * 640 + 1 * d.val = (t.val % 8 * 640 + d.val) % 640; rw [h.2.2]; have := d.isLt; omega

theorem emb (t : Fin cfg0.N) (r : Fin 1024) (d : Fin 640) :
    (win0_2.blk t).view.emb (ix3 0 r d : S1x1024x640.Idx) = (ix3 0 (row t r) (col t d) : S1x4096x5120.Idx) := by
  have h := (idx_facts t).2.2
  funext a; apply Fin.ext
  match a with
  | ⟨0, _⟩ => show win0_2.index t 0 * 1 + 1 * 0 = 0; rw [h.1]
  | ⟨1, _⟩ => show win0_2.index t 1 * 1024 + 1 * r.val = t.val / 8 * 1024 + r.val; rw [h.2.1]; omega
  | ⟨2, _⟩ => show win0_2.index t 2 * 640 + 1 * d.val = t.val % 8 * 640 + d.val; rw [h.2.2]; omega

theorem block_eq (c : Dev nD) (t : Fin cfg0.N) (y : S1x1024x640.Idx) :
    k0_pay1 (F := Ideal) (iblk m c 0 t) (iblk m c 1 t) y = G m c ((win0_2.blk t).view.emb y) := by
  rw [lead_eq y]
  refine (pay_apply _ _ (y 1) (y 2)).trans (Eq.trans ?_ (congrArg (G m c) (emb t (y 1) (y 2)).symm))
  exact Finset.sum_congr rfl fun k _ => congrArg₂ (fun u v : EReal => u * v) (iblk0_apply m c t (y 1) k) (iblk1_apply m c t (y 2) k)

theorem flushed_eq (c : Dev nD) (t : Fin cfg0.N) : (dats m 0 c).flushed 2 t = (win0_2.blk t).view.read (Elt Ideal) (G m c) := by
  rw [Cert.EvenIdeal.Value.flushed2]
  unfold out0_2
  rw [View.ld_unit_zero hz3, View.ld_unit_zero hz3]
  funext y
  rw [View.read_apply]
  exact (congrFun (View.canon_cons_unit_zero hz3 _ _ _) y).trans (block_eq m c t y)

/-- Every index of the result lies in the block of the grid point of its rows and columns. -/
theorem cover (i : S1x4096x5120.Idx) : ∃ t : Fin cfg0.N, (cfg0.win 2).flush t = true ∧ i ∈ ((cfg0.win 2).blk t).view.set := by
  have h1 : (i 1).val < 4096 := (i 1).isLt
  have h2 : (i 2).val < 5120 := (i 2).isLt
  have hN : cfg0.N = 32 := N_0
  refine ⟨⟨(i 1).val / 1024 * 8 + (i 2).val / 640, by omega⟩, flush0_2 _, ?_⟩
  refine Finset.mem_map.2 ⟨(ix3 0 ⟨(i 1).val % 1024, by omega⟩ ⟨(i 2).val % 640, by omega⟩ : S1x1024x640.Idx), Finset.mem_univ _, ?_⟩
  refine (emb _ _ _).trans (Eq.trans ?_ (lead_eq i).symm)
  refine congrArg₂ (fun u v => (ix3 0 u v : S1x4096x5120.Idx)) (Fin.ext ?_) (Fin.ext ?_)
  · show ((i 1).val / 1024 * 8 + (i 2).val / 640) / 8 * 1024 + (i 1).val % 1024 = (i 1).val; omega
  · show ((i 1).val / 1024 * 8 + (i 2).val / 640) % 8 * 640 + (i 2).val % 640 = (i 2).val; omega

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed_eq m c t) cover), (h c).2⟩)
    (Cert.EvenIdeal.Value.run_blocks (F := Ideal) m ρ)

/-! ## The reference -/

open Cert.EvenRefIdeal.Read in
theorem ref_apply (a : Vec Ideal Cert.EvenRefIdeal.S1x4096x2048 .bf16) (w : Vec Ideal Cert.EvenRefIdeal.S8x2048x640 .bf16) (r : Fin 4096) (d : Fin 5120) :
    val_main_v4 (F := Ideal) a w (ix3 0 r d) = (∑ k : Fin 2048, a (ix3 0 r k) * val_main_v3 (F := Ideal) w (ix2 k d) : EReal) := by
  pointwise [val_main_v4, val_main_v0]

open Cert.EvenRefIdeal.Read in
theorem ref_weight (w : Vec Ideal Cert.EvenRefIdeal.S8x2048x640 .bf16) (k : Fin 2048) (d : Fin 5120) :
    (val_main_v3 (F := Ideal) w (ix2 k d) : EReal) = w (ix3 (shard d) k (lane d)) := by
  refine (val_main_v3_apply w _).trans ((val_main_v2_apply w _).trans ?_)
  show w _ = w _
  congr 1; funext a; apply Fin.ext
  have hk := k.isLt
  have hd := d.isLt
  match a with
  | ⟨0, _⟩ => show (k.val * 5120 + d.val) / 640 % 8 = d.val / 640; omega
  | ⟨1, _⟩ => show (k.val * 5120 + d.val) / 5120 = k.val; omega
  | ⟨2, _⟩ => show (k.val * 5120 + d.val) % 640 = d.val % 640; omega

theorem algebraic : Cert.algebraic_EvenIdeal_EvenRefIdeal := by
  intro m g m' g' hpre hargs
  refine ⟨fun c => G m c, run m g, ?_⟩
  refine (θ_run Cert.EvenRefIdeal.defs _ _).mono (fun r h c => ?_) (Cert.EvenRefIdeal.Value.run (F := Ideal) m' g')
  obtain ⟨e0, e1⟩ := hargs c
  refine ⟨(h c).1.trans ?_, (h c).2⟩
  refine (Cert.EvenRefIdeal.Read.val_main_v4_eq _ _).trans ?_
  rw [e0, e1]
  funext i
  exact (congrArg _ (lead_eq i)).trans ((ref_apply (AA m c) (BB m c) (i 1) (i 2)).trans
    (Finset.sum_congr rfl fun k _ => congrArg (fun u : EReal => AA m c (ix3 0 (i 1) k) * u) (ref_weight (BB m c) k (i 2))))

theorem frame_ref : Cert.quiescent_EvenRefIdeal := fun m ρ _ =>
  (θ_run Cert.EvenRefIdeal.defs _ _).mono (fun r h => ⟨fun c => (h c).2, sem_eq_zero_of_no_sems (by decide) r.2⟩)
    (Cert.EvenRefIdeal.Value.run (F := Ideal) m ρ)

end Cert.EvenIdeal.Whole

end
-- ==== Proof.EvenWgradValue.lean ====
/- The gradient of the even layer's input projection's weight: the kernel's result as a whole array, and its
   equality with the reference. -/
module

public import proofs.«01_k».proof.Defs
public import proofs.«01_k».proof.Proof.Products
public import proofs.«01_k».proof.Proof.Gen.EvenWgradIdeal.Value
public import proofs.«01_k».proof.Proof.Gen.EvenWgradRefIdeal.Read
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.EvenWgradIdeal.Whole

open Cert.EvenWgradIdeal Cert.EvenWgradIdeal.Gen Cert.Products

variable (m : (ℓ : Loc nD τ sig) → Buf (Elt Ideal) ℓ) (ρ : Dev nD → PrngReg)

abbrev AA (c : Dev nD) : S1x4096x2048.Idx → EReal := m ((c : Thread nD τ).loc main_arg0)
abbrev BB (c : Dev nD) : S1x4096x5120.Idx → EReal := m ((c : Thread nD τ).loc main_arg1)

/-- Column `e` of shard `s`. -/
def wide (s : Fin 8) (e : Fin 640) : Fin 5120 := at_ 640 8 (by decide) s.val s.isLt e

/-- Column `r` of the first argument against column `d` of the second, over all tokens: the second's columns in shards of 640. -/
def G (c : Dev nD) : Buf (Elt Ideal) ((c : Thread nD τ).loc main_v0) := fun i : S8x2048x640.Idx =>
  (∑ k : Fin 4096, AA m c (ix3 0 k (i 1)) * BB m c (ix3 0 k (wide (i 0) (i 2))) : EReal)

/-- Which block of each window grid point `t` works on. -/
theorem idx_facts : ∀ t : Fin cfg0.N, (win0_0.index t (0 : Fin 3) = 0 ∧ win0_0.index t (1 : Fin 3) = 0 ∧ win0_0.index t (2 : Fin 3) = t.val / 8)
    ∧ (win0_1.index t (0 : Fin 3) = 0 ∧ win0_1.index t (1 : Fin 3) = 0 ∧ win0_1.index t (2 : Fin 3) = t.val % 8)
    ∧ (win0_2.index t (0 : Fin 3) = t.val % 8 ∧ win0_2.index t (1 : Fin 3) = t.val / 8 ∧ win0_2.index t (2 : Fin 3) = 0) :=
  (by decide +kernel : ∀ t : Fin grid0.N, _)

theorem pay_apply (P0 : Vec Ideal S1x4096x1024 .bf16) (P1 : Vec Ideal S1x4096x640 .bf16) (r : Fin 1024) (d : Fin 640) :
    k0_pay1 P0 P1 (ix3 0 r d) = (∑ k : Fin 4096, P0 (ix3 0 k r) * P1 (ix3 0 k d) : EReal) := by
  pointwise [k0_pay1]

/-- Where row `r`, column `d` of grid point `t`'s result block lies in the whole array. -/
def row (t : Fin cfg0.N) (r : Fin 1024) : Fin 2048 := at_ 1024 2 (by decide) (t.val / 8) (by have := t.isLt; have : cfg0.N = 16 := N_0; omega) r
def sh (t : Fin cfg0.N) : Fin 8 := ⟨t.val % 8, by omega⟩

theorem iblk0_apply (c : Dev nD) (t : Fin cfg0.N) (r : Fin 1024) (k : Fin 4096) :
    iblk m c 0 t (ix3 0 k r : S1x4096x1024.Idx) = AA m c (ix3 0 k (row t r)) := by
  have h := (idx_facts t).1
  unfold iblk; rw [View.read_apply]; show V m c main_arg0 _ = m ((c : Thread nD τ).loc main_arg0) _
  rw [V_main_arg0]
  congr 1; funext a; apply Fin.ext
  match a with
  | ⟨0, _⟩ => show win0_0.index t 0 * 1 + 1 * 0 = 0; rw [h.1]
  | ⟨1, _⟩ => show win0_0.index t 1 * 4096 + 1 * k.val = k.val; rw [h.2.1]; omega
  | ⟨2, _⟩ => show win0_0.index t 2 * 1024 + 1 * r.val = t.val / 8 * 1024 + r.val; rw [h.2.2]; omega

theorem iblk1_apply (c : Dev nD) (t : Fin cfg0.N) (d : Fin 640) (k : Fin 4096) :
    iblk m c 1 t (ix3 0 k d : S1x4096x640.Idx) = BB m c (ix3 0 k (wide (sh t) d)) := by
  have h := (idx_facts t).2.1
  unfold iblk; rw [View.read_apply]; show V m c main_arg1 _ = m ((c : Thread nD τ).loc main_arg1) _
  rw [V_main_arg1]
  congr 1; funext a; apply Fin.ext
  match a with
  | ⟨0, _⟩ => show win0_1.index t 0 * 1 + 1 * 0 = 0; rw [h.1]
  | ⟨1, _⟩ => show win0_1.index t 1 * 4096 + 1 * k.val = k.val; rw [h.2.1]; omega
  | ⟨2, _⟩ => show win0_1.index t 2 * 640 + 1 * d.val = t.val % 8 * 640 + d.val; rw [h.2.2]; omega

theorem emb (t : Fin cfg0.N) (r : Fin 1024) (d : Fin 640) :
    (win0_2.blk t).view.emb (ix3 0 r d : S1x1024x640.Idx) = (ix3 (sh t) (row t r) d : S8x2048x640.Idx) := by
  have h := (idx_facts t).2.2
  funext a; apply Fin.ext
  match a with
  | ⟨0, _⟩ => show win0_2.index t 0 * 1 + 1 * 0 = t.val % 8; rw [h.1]; omega
  | ⟨1, _⟩ => show win0_2.index t 1 * 1024 + 1 * r.val = t.val / 8 * 1024 + r.val; rw [h.2.1]; omega
  | ⟨2, _⟩ => show win0_2.index t 2 * 640 + 1 * d.val = d.val; rw [h.2.2]; omega

theorem block_eq (c : Dev nD) (t : Fin cfg0.N) (y : S1x1024x640.Idx) :
    k0_pay1 (F := Ideal) (iblk m c 0 t) (iblk m c 1 t) y = G m c ((win0_2.blk t).view.emb y) := by
  rw [lead_eq y]
  refine (pay_apply _ _ (y 1) (y 2)).trans (Eq.trans ?_ (congrArg (G m c) (emb t (y 1) (y 2)).symm))
  exact Finset.sum_congr rfl fun k _ => congrArg₂ (fun u v : EReal => u * v) (iblk0_apply m c t (y 1) k) (iblk1_apply m c t (y 2) k)

theorem flushed_eq (c : Dev nD) (t : Fin cfg0.N) : (dats m 0 c).flushed 2 t = (win0_2.blk t).view.read (Elt Ideal) (G m c) := by
  rw [Cert.EvenWgradIdeal.Value.flushed2]
  unfold out0_2
  rw [View.ld_unit_zero hz3, View.ld_unit_zero hz3]
  funext y
  rw [View.read_apply]
  exact (congrFun (View.canon_cons_unit_zero hz3 _ _ _) y).trans (block_eq m c t y)

/-- Every index of the result lies in the block of the grid point of its rows and columns. -/
theorem cover (i : S8x2048x640.Idx) : ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 640 := (i 2).isLt
  have hN : cfg0.N = 16 := N_0
  refine ⟨⟨(i 1).val / 1024 * 8 + (i 0).val, by omega⟩, flush0_2 _, ?_⟩
  refine Finset.mem_map.2 ⟨(ix3 0 ⟨(i 1).val % 1024, by omega⟩ (i 2) : S1x1024x640.Idx), Finset.mem_univ _, ?_⟩
  refine (emb _ _ _).trans (Eq.trans ?_ (triple_eq i).symm)
  refine congrArg₂ (fun u v => (ix3 u v (i 2) : S8x2048x640.Idx)) (Fin.ext ?_) (Fin.ext ?_)
  · show ((i 1).val / 1024 * 8 + (i 0).val) % 8 = (i 0).val; omega
  · show ((i 1).val / 1024 * 8 + (i 0).val) / 8 * 1024 + (i 1).val % 1024 = (i 1).val; omega

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed_eq m c t) cover), (h c).2⟩)
    (Cert.EvenWgradIdeal.Value.run_blocks (F := Ideal) m ρ)

/-! ## The reference -/

open Cert.EvenWgradRefIdeal.Read in
theorem ref_apply (a : Vec Ideal Cert.EvenWgradRefIdeal.S1x4096x2048 .bf16) (b : Vec Ideal Cert.EvenWgradRefIdeal.S1x4096x5120 .bf16) (r : Fin 2048) (d : Fin 5120) :
    val_main_v7 (F := Ideal) a b (ix2 r d) = (∑ u : Fin 1, ∑ k : Fin 4096, b (ix3 u k d) * a (ix3 u k r) : EReal) := by
  pointwise [val_main_v7, val_main_v6, val_main_v5, val_main_v1]

open Cert.EvenWgradRefIdeal.Read in
theorem ref_shards (a : Vec Ideal Cert.EvenWgradRefIdeal.S1x4096x2048 .bf16) (b : Vec Ideal Cert.EvenWgradRefIdeal.S1x4096x5120 .bf16)
    (s : Fin 8) (r : Fin 2048) (e : Fin 640) :
    (val_main_v10 (F := Ideal) a b (ix3 s r e) : EReal) = val_main_v7 (F := Ideal) a b (ix2 r (wide s e)) := by
  show val_main_v9 (F := Ideal) a b (ix3 s r e) = _
  refine (val_main_v9_apply a b _).trans ((val_main_v8_apply a b _).trans ?_)
  congr 1; funext x; apply Fin.ext
  have hs := s.isLt
  have he := e.isLt
  match x with
  | ⟨0, _⟩ => show ((r.val * 8 + s.val) * 640 + e.val) / 5120 = r.val; omega
  | ⟨1, _⟩ => show ((r.val * 8 + s.val) * 640 + e.val) % 5120 = s.val * 640 + e.val; omega

theorem algebraic : Cert.algebraic_EvenWgradIdeal_EvenWgradRefIdeal := by
  intro m g m' g' hpre hargs
  refine ⟨fun c => G m c, run m g, ?_⟩
  refine (θ_run Cert.EvenWgradRefIdeal.defs _ _).mono (fun r h c => ?_) (Cert.EvenWgradRefIdeal.Value.run (F := Ideal) m' g')
  obtain ⟨e0, e1⟩ := hargs c
  refine ⟨(h c).1.trans ?_, (h c).2⟩
  refine (Cert.EvenWgradRefIdeal.Read.val_main_v10_eq _ _).trans ?_
  rw [e0, e1]
  funext i
  refine (congrArg _ (triple_eq i)).trans ((ref_shards (AA m c) (BB m c) (i 0) (i 1) (i 2)).trans
    ((ref_apply (AA m c) (BB m c) (i 1) (wide (i 0) (i 2))).trans ((Fin.sum_univ_one _).trans ?_)))
  exact Finset.sum_congr rfl fun k _ => mul_comm (G := EReal) _ _

theorem frame_ref : Cert.quiescent_EvenWgradRefIdeal := fun m ρ _ =>
  (θ_run Cert.EvenWgradRefIdeal.defs _ _).mono (fun r h => ⟨fun c => (h c).2, sem_eq_zero_of_no_sems (by decide) r.2⟩)
    (Cert.EvenWgradRefIdeal.Value.run (F := Ideal) m ρ)

end Cert.EvenWgradIdeal.Whole

end
-- ==== Proof.EvenBackValue.lean ====
/- The gradient through the even layer's input projection: the kernel's result as a whole array, and its equality with the reference. -/
module

public import proofs.«01_k».proof.Defs
public import proofs.«01_k».proof.Proof.Products
public import proofs.«01_k».proof.Proof.Gen.EvenBackIdeal.Value
public import proofs.«01_k».proof.Proof.Gen.EvenBackRefIdeal.Read
public import Idealize.ShloMosaic.Lib.Pointwise
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.EvenBackIdeal.Whole

open Cert.EvenBackIdeal Cert.EvenBackIdeal.Gen Cert.Products

variable (m : (ℓ : Loc nD τ sig) → Buf (Elt Ideal) ℓ) (ρ : Dev nD → PrngReg)

theorem hz2 : (![0, 0] : Fin 2 → Nat) = fun _ => 0 := funext fun a => by fin_cases a <;> rfl

abbrev DZ (c : Dev nD) : S4096x5120.Idx → EReal := m ((c : Thread nD τ).loc main_arg0)
abbrev WW (c : Dev nD) : S8x2048x640.Idx → EReal := m ((c : Thread nD τ).loc main_arg1)

/-- Column `e` of shard `s`. -/
def wide (s : Fin 8) (e : Fin 640) : Fin 5120 := at_ 640 8 (by decide) s.val s.isLt e

/-- The rows against the weight's rows, summed over the shards and their columns. -/
def G (c : Dev nD) : Buf (Elt Ideal) ((c : Thread nD τ).loc main_v0) := fun i : S4096x2048.Idx =>
  (∑ s : Fin 8, ∑ e : Fin 640, DZ m c (ix2 (i 0) (wide s e)) * WW m c (ix3 s (i 1) e) : EReal)

/-- Which block of each window grid point `t` works on. -/
theorem idx_facts : ∀ t : Fin cfg0.N, (win0_0.index t (0 : Fin 2) = t.val % 8 ∧ win0_0.index t (1 : Fin 2) = 0)
    ∧ (win0_1.index t (0 : Fin 3) = 0 ∧ win0_1.index t (1 : Fin 3) = t.val / 8 ∧ win0_1.index t (2 : Fin 3) = 0)
    ∧ (win0_2.index t (0 : Fin 2) = t.val % 8 ∧ win0_2.index t (1 : Fin 2) = t.val / 8) :=
  (by decide +kernel : ∀ t : Fin grid0.N, _)

/-- One shard's product. -/
def term (P0 : Vec Ideal S512x640 .bf16) (P1 : Vec Ideal S1x1024x640 .bf16) : FVec Ideal S512x1024 .f32 :=
  matmul dot_S512x640_S1024x640_S512x1024_1_1_0_0_n_n (φ₁ := .bf16) none (P0 : FVec Ideal S512x640 .bf16)
    (shapeCast S1024x640 P1 shapeCasts_S1x1024x640_S1024x640 : FVec Ideal S1024x640 .bf16) (constant S512x1024 .f32 0x00000000#32)

theorem term_apply (P0 : Vec Ideal S512x640 .bf16) (P1 : Vec Ideal S1x1024x640 .bf16) (r : Fin 512) (d : Fin 1024) :
    term P0 P1 (ix2 r d) = (∑ e : Fin 640, P0 (ix2 r e) * P1 (ix3 0 d e) : EReal) := by
  pointwise [term]

/-- The body adds the eight products one after the other. -/
theorem pay_terms (a0 a1 a2 a3 a4 a5 a6 a7 : Vec Ideal S512x640 .bf16) (b0 b1 b2 b3 b4 b5 b6 b7 : Vec Ideal S1x1024x640 .bf16)
    (i : S512x1024.Idx) : (k0_pay1 (F := Ideal) (k0_pay2 a0 b0 a1 b1 a2 b2 a3 b3 a4 b4) a5 b5 a6 b6 a7 b7 i : EReal)
      = term a0 b0 i + term a1 b1 i + term a2 b2 i + term a3 b3 i + term a4 b4 i + term a5 b5 i + term a6 b6 i + term a7 b7 i := rfl

/-- The product of the `n`th shards of two blocks, the first's shard starting at column `q`. -/
theorem term_ld (x0 : Vec Ideal S512x5120 .bf16) (x1 : Vec Ideal S8x1024x640 .bf16) (n q : Nat) (hn : n < 8) (hq : q = n * 640)
    (i0 : ∀ a, (![0, q] : Fin 2 → Nat) a + S512x640.size a ≤ S512x5120.size a)
    (i1 : ∀ a, (![n, 0, 0] : Fin 3 → Nat) a + S1x1024x640.size a ≤ S8x1024x640.size a) (r : Fin 512) (d : Fin 1024) :
    term (View.ld (Val := Elt Ideal) x0 (Rect.unit (s := S512x5120) ![0, q] S512x640.size i0))
      (View.ld (Val := Elt Ideal) x1 (Rect.unit (s := S8x1024x640) ![n, 0, 0] S1x1024x640.size i1)) (ix2 r d)
      = (∑ e : Fin 640, x0 (ix2 r (wide ⟨n, hn⟩ e)) * x1 (ix3 ⟨n, hn⟩ d e) : EReal) := by
  refine (term_apply _ _ r d).trans (Finset.sum_congr rfl fun e _ => ?_)
  refine congrArg₂ (fun u v : EReal => u * v) ?_ ?_
  · refine View.ld_unit_apply_of (Val := Elt Ideal) x0 _ _ i0 _ (ix2 r (wide ⟨n, hn⟩ e)) fun a => ?_
    match a with
    | ⟨0, _⟩ => show r.val = 0 + r.val; omega
    | ⟨1, _⟩ => show n * 640 + e.val = q + e.val; rw [hq]
  · refine View.ld_unit_apply_of (Val := Elt Ideal) x1 _ _ i1 _ (ix3 ⟨n, hn⟩ d e) fun a => ?_
    match a with
    | ⟨0, _⟩ => show n = n + 0; omega
    | ⟨1, _⟩ => show d.val = 0 + d.val; omega
    | ⟨2, _⟩ => show e.val = 0 + e.val; omega

/-- What the body leaves in the result's block. -/
theorem left (x0 : Vec Ideal S512x5120 .bf16) (x1 : Vec Ideal S8x1024x640 .bf16) (r : Fin 512) (d : Fin 1024) :
    (out0_2 x0 x1 (ix2 r d) : EReal) = ∑ s : Fin 8, ∑ e : Fin 640, x0 (ix2 r (wide s e)) * x1 (ix3 s d e) := by
  unfold out0_2
  refine (congrFun (View.canon_cons_unit_zero hz2 _ _ _) _).trans ?_
  refine (pay_terms _ _ _ _ _ _ _ _ _ _ _ _ _ _ _ _ _).trans ?_
  rw [term_ld x0 x1 0 0 (by decide) (by decide), term_ld x0 x1 1 640 (by decide) (by decide), term_ld x0 x1 2 1280 (by decide) (by decide),
    term_ld x0 x1 3 1920 (by decide) (by decide), term_ld x0 x1 4 2560 (by decide) (by decide), term_ld x0 x1 5 3200 (by decide) (by decide),
    term_ld x0 x1 6 3840 (by decide) (by decide), term_ld x0 x1 7 4480 (by decide) (by decide), Fin.sum_univ_eight]
  rfl

/-- Where an index of grid point `t`'s result block lies in the whole array. -/
def gix (t : Fin cfg0.N) (y : S512x1024.Idx) : S4096x2048.Idx :=
  ix2 ⟨t.val % 8 * 512 + (y 0).val, by
    have h : (y 0).val < 512 := (y 0).isLt
    omega⟩ ⟨t.val / 8 * 1024 + (y 1).val, by
    have hN : cfg0.N = 16 := N_0
    have h : (y 1).val < 1024 := (y 1).isLt
    have := t.isLt
    omega⟩

theorem iblk0_apply (c : Dev nD) (t : Fin cfg0.N) (k : Fin 5120) (y : S512x1024.Idx) :
    iblk m c 0 t (ix2 (y 0) k : S512x5120.Idx) = DZ m c (ix2 ((gix t y) 0) k) := by
  have h := (idx_facts t).1
  unfold iblk; rw [View.read_apply]; show V m c main_arg0 _ = m ((c : Thread nD τ).loc main_arg0) _
  rw [V_main_arg0]
  congr 1; funext a; apply Fin.ext
  match a with
  | ⟨0, _⟩ => show win0_0.index t 0 * 512 + 1 * (y 0).val = t.val % 8 * 512 + (y 0).val; rw [h.1]; omega
  | ⟨1, _⟩ => show win0_0.index t 1 * 5120 + 1 * k.val = k.val; rw [h.2]; omega

theorem iblk1_apply (c : Dev nD) (t : Fin cfg0.N) (s : Fin 8) (e : Fin 640) (y : S512x1024.Idx) :
    iblk m c 1 t (ix3 s (y 1) e : S8x1024x640.Idx) = WW m c (ix3 s ((gix t y) 1) e) := by
  have h := (idx_facts t).2.1
  unfold iblk; rw [View.read_apply]; show V m c main_arg1 _ = m ((c : Thread nD τ).loc main_arg1) _
  rw [V_main_arg1]
  congr 1; funext a; apply Fin.ext
  match a with
  | ⟨0, _⟩ => show win0_1.index t 0 * 8 + 1 * s.val = s.val; rw [h.1]; omega
  | ⟨1, _⟩ => show win0_1.index t 1 * 1024 + 1 * (y 1).val = t.val / 8 * 1024 + (y 1).val; rw [h.2.1]; omega
  | ⟨2, _⟩ => show win0_1.index t 2 * 640 + 1 * e.val = e.val; rw [h.2.2]; omega

theorem emb2 (t : Fin cfg0.N) (y : S512x1024.Idx) : (win0_2.blk t).view.emb y = gix t y := by
  have h := (idx_facts t).2.2
  funext a; apply Fin.ext
  match a with
  | ⟨0, _⟩ => show win0_2.index t 0 * 512 + 1 * (y 0).val = t.val % 8 * 512 + (y 0).val; rw [h.1]; omega
  | ⟨1, _⟩ => show win0_2.index t 1 * 1024 + 1 * (y 1).val = t.val / 8 * 1024 + (y 1).val; rw [h.2]; omega

theorem pair_eq (y : S512x1024.Idx) : y = ix2 (y 0) (y 1) := by
  funext a; match a with
  | ⟨0, _⟩ => rfl
  | ⟨1, _⟩ => rfl

theorem block_eq (c : Dev nD) (t : Fin cfg0.N) (y : S512x1024.Idx) :
    out0_2 (F := Ideal) (iblk m c 0 t) (iblk m c 1 t) y = G m c (gix t y) := by
  refine (congrArg (out0_2 (F := Ideal) (iblk m c 0 t) (iblk m c 1 t)) (pair_eq y)).trans ((left _ _ (y 0) (y 1)).trans ?_)
  unfold G
  refine Finset.sum_congr rfl fun s _ => Finset.sum_congr rfl fun e _ => ?_
  rw [iblk0_apply m c t (wide s e) y, iblk1_apply m c t s e y]

theorem flushed_eq (c : Dev nD) (t : Fin cfg0.N) :
    (dats m 0 c).flushed 2 t = (win0_2.blk t).view.read (Elt Ideal) (G m c) := by
  rw [Cert.EvenBackIdeal.Value.flushed2]
  funext y
  rw [View.read_apply]
  exact (block_eq m c t y).trans (congrArg (G m c) (emb2 t y)).symm

/-- Every index of the result lies in the block of the grid point of its rows and columns. -/
theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN : cfg0.N = 16 := N_0
  refine ⟨⟨(i 1).val / 1024 * 8 + (i 0).val / 512, by omega⟩, flush0_2 _, ?_⟩
  refine Finset.mem_map.2 ⟨(ix2 ⟨(i 0).val % 512, by omega⟩ ⟨(i 1).val % 1024, by omega⟩ : S512x1024.Idx), Finset.mem_univ _, ?_⟩
  refine (emb2 _ _).trans ?_
  funext a; apply Fin.ext
  match a with
  | ⟨0, _⟩ => show ((i 1).val / 1024 * 8 + (i 0).val / 512) % 8 * 512 + (i 0).val % 512 = (i 0).val; omega
  | ⟨1, _⟩ => show ((i 1).val / 1024 * 8 + (i 0).val / 512) / 8 * 1024 + (i 1).val % 1024 = (i 1).val; omega

theorem final (c : Dev nD) : (dats m 0 c).arrAt 2 cfg0.N = G m c :=
  (dats m 0 c).arrAt_eq_of_cover 2 (G m c) (fun t _ => flushed_eq m c t) cover

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.EvenBackIdeal.Value.run_blocks (F := Ideal) m ρ)

/-! ## The reference -/

section
open Cert.EvenBackRefIdeal.Read

theorem ref_dot (a : Vec Ideal Cert.EvenBackRefIdeal.S4096x5120 .bf16) (w : Vec Ideal Cert.EvenBackRefIdeal.S8x2048x640 .bf16) (r : Fin 4096) (d : Fin 2048) :
    val_main_v6 (F := Ideal) a w (ix2 r d) = (∑ k : Fin 5120, a (ix2 r k) * val_main_v3 (F := Ideal) w (ix2 d k) : EReal) := by
  pointwise [val_main_v6, val_main_v5]

theorem ref_weight (w : Vec Ideal Cert.EvenBackRefIdeal.S8x2048x640 .bf16) (d : Fin 2048) (s : Fin 8) (e : Fin 640) :
    (val_main_v3 (F := Ideal) w (ix2 d (wide s e)) : EReal) = w (ix3 s d e) := by
  refine (val_main_v3_apply w _).trans ((val_main_v2_apply w _).trans ?_)
  show w _ = w _
  congr 1; funext a; apply Fin.ext
  have hs := s.isLt
  have he := e.isLt
  have hd := d.isLt
  match a with
  | ⟨0, _⟩ => show (d.val * 5120 + (s.val * 640 + e.val)) / 640 % 8 = s.val; omega
  | ⟨1, _⟩ => show (d.val * 5120 + (s.val * 640 + e.val)) / 5120 = d.val; omega
  | ⟨2, _⟩ => show (d.val * 5120 + (s.val * 640 + e.val)) % 640 = e.val; omega

theorem ref (c : Dev nD) : val_main_v6 (F := Ideal) (DZ m c) (WW m c) = G m c := by
  funext i
  have hi : i = ix2 (i 0) (i 1) := by
    funext a; match a with
    | ⟨0, _⟩ => rfl
    | ⟨1, _⟩ => rfl
  refine (congrArg (val_main_v6 (F := Ideal) (DZ m c) (WW m c)) hi).trans ((ref_dot _ _ (i 0) (i 1)).trans ((sum_blocks (k := 8) (n := 640) _).trans ?_))
  unfold G
  exact Finset.sum_congr rfl fun s _ => Finset.sum_congr rfl fun e _ =>
    congrArg (fun u : EReal => DZ m c (ix2 (i 0) (wide s e)) * u) (ref_weight (WW m c) (i 1) s e)
end

theorem algebraic : Cert.algebraic_EvenBackIdeal_EvenBackRefIdeal := by
  intro m g m' g' hpre hargs
  refine ⟨fun c => G m c, run m g, ?_⟩
  refine (θ_run Cert.EvenBackRefIdeal.defs _ _).mono (fun r h c => ?_) (Cert.EvenBackRefIdeal.Value.run (F := Ideal) m' g')
  obtain ⟨e0, e1⟩ := hargs c
  refine ⟨(h c).1.trans ?_, (h c).2⟩
  refine (Cert.EvenBackRefIdeal.Read.val_main_v6_eq _ _).trans ?_
  rw [e0, e1]
  exact ref m c

theorem frame_ref : Cert.quiescent_EvenBackRefIdeal := fun m ρ _ =>
  (θ_run Cert.EvenBackRefIdeal.defs _ _).mono (fun r h => ⟨fun c => (h c).2, sem_eq_zero_of_no_sems (by decide) r.2⟩)
    (Cert.EvenBackRefIdeal.Value.run (F := Ideal) m ρ)

end Cert.EvenBackIdeal.Whole

end
-- ==== Proof.MemoryValue.lean ====
/- The memory's projection to keys and values: the kernel's result as a whole array, and its
   equality with the reference. -/
module

public import proofs.«01_k».proof.Defs
public import proofs.«01_k».proof.Proof.Products
public import proofs.«01_k».proof.Proof.Gen.MemoryIdeal.Value
public import proofs.«01_k».proof.Proof.Gen.MemoryRefIdeal.Read
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.MemoryIdeal.Whole

open Cert.MemoryIdeal Cert.MemoryIdeal.Gen Cert.Products

variable (m : (ℓ : Loc nD τ sig) → Buf (Elt Ideal) ℓ) (ρ : Dev nD → PrngReg)

abbrev AA (c : Dev nD) : S1x256x2048.Idx → EReal := m ((c : Thread nD τ).loc main_arg0)
abbrev BB (c : Dev nD) : S8x2048x512.Idx → EReal := m ((c : Thread nD τ).loc main_arg1)

/-- The shard column `d` lies in, and its place there. -/
def shard (d : Fin 4096) : Fin 8 := ⟨d.val / 512, by have := d.isLt; omega⟩
def lane (d : Fin 4096) : Fin 512 := ⟨d.val % 512, by omega⟩

/-- The memory's rows times the weight, whose columns lie in shards of 512. -/
def G (c : Dev nD) : Buf (Elt Ideal) ((c : Thread nD τ).loc main_v0) := fun i : S1x256x4096.Idx =>
  (∑ k : Fin 2048, AA m c (ix3 0 (i 1) k) * BB m c (ix3 (shard (i 2)) k (lane (i 2))) : EReal)

/-- Grid point `t` works on all rows and on shard `t`. -/
theorem idx_facts : ∀ t : Fin cfg0.N, (win0_0.index t (0 : Fin 3) = 0 ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = t.val) :=
  (by decide +kernel : ∀ t : Fin grid0.N, _)

theorem pay_apply (P0 : Vec Ideal S1x256x2048 .bf16) (P1 : Vec Ideal S1x2048x512 .bf16) (r : Fin 256) (d : Fin 512) :
    k0_pay1 P0 P1 (ix3 0 r d) = (∑ k : Fin 2048, P0 (ix3 0 r k) * P1 (ix3 0 k d) : EReal) := by
  pointwise [k0_pay1]

/-- Where column `d` of grid point `t`'s result block lies in the whole array. -/
def col (t : Fin cfg0.N) (d : Fin 512) : Fin 4096 := at_ 512 8 (by decide) t.val (lt_of_lt_of_eq t.isLt N_0) d

theorem iblk0_apply (c : Dev nD) (t : Fin cfg0.N) (r : Fin 256) (k : Fin 2048) :
    iblk m c 0 t (ix3 0 r k : S1x256x2048.Idx) = AA m c (ix3 0 r k) := by
  have h := (idx_facts t).1
  unfold iblk; rw [View.read_apply]; show V m c main_arg0 _ = AA m c _
  rw [V_main_arg0]
  exact congrArg (AA m c) (at3 (off1 h.1) (off0 h.2.1) (off0 h.2.2))

theorem iblk1_apply (c : Dev nD) (t : Fin cfg0.N) (d : Fin 512) (k : Fin 2048) :
    iblk m c 1 t (ix3 0 k d : S1x2048x512.Idx) = BB m c (ix3 (shard (col t d)) k (lane (col t d))) := by
  have h := (idx_facts t).2.1
  have hd := d.isLt
  unfold iblk; rw [View.read_apply]; show V m c main_arg1 _ = BB m c _
  rw [V_main_arg1]
  refine congrArg (BB m c) (at3 ((off1 h.1).trans ?_) (off0 h.2.1) ((off0 h.2.2).trans ?_))
  · show t.val = (t.val * 512 + d.val) / 512; omega
  · show d.val = (t.val * 512 + d.val) % 512; omega

theorem emb (t : Fin cfg0.N) (r : Fin 256) (d : Fin 512) :
    (win0_2.blk t).view.emb (ix3 0 r d : S1x256x512.Idx) = (ix3 0 r (col t d) : S1x256x4096.Idx) :=
  have h := (idx_facts t).2.2
  at3 (off1 h.1) (off0 h.2.1) (off h.2.2)

theorem block_eq (c : Dev nD) (t : Fin cfg0.N) (y : S1x256x512.Idx) :
    k0_pay1 (F := Ideal) (iblk m c 0 t) (iblk m c 1 t) y = G m c ((win0_2.blk t).view.emb y) := by
  rw [lead_eq y]
  refine (pay_apply _ _ (y 1) (y 2)).trans (Eq.trans ?_ (congrArg (G m c) (emb t (y 1) (y 2)).symm))
  exact Finset.sum_congr rfl fun k _ => congrArg₂ (fun u v : EReal => u * v) (iblk0_apply m c t (y 1) k) (iblk1_apply m c t (y 2) k)

theorem flushed_eq (c : Dev nD) (t : Fin cfg0.N) : (dats m 0 c).flushed 2 t = (win0_2.blk t).view.read (Elt Ideal) (G m c) := by
  rw [Cert.MemoryIdeal.Value.flushed2]
  unfold out0_2
  rw [View.ld_unit_zero hz3, View.ld_unit_zero hz3]
  funext y
  rw [View.read_apply]
  exact (congrFun (View.canon_cons_unit_zero hz3 _ _ _) y).trans (block_eq m c t y)

/-- Every index of the result lies in the block of its shard's grid point. -/
theorem cover (i : S1x256x4096.Idx) : ∃ t : Fin cfg0.N, (cfg0.win 2).flush t = true ∧ i ∈ ((cfg0.win 2).blk t).view.set := by
  have h2 : (i 2).val < 4096 := (i 2).isLt
  have hN : cfg0.N = 8 := N_0
  refine ⟨⟨(i 2).val / 512, by omega⟩, flush0_2 _, ?_⟩
  refine Finset.mem_map.2 ⟨(ix3 0 (i 1) ⟨(i 2).val % 512, by omega⟩ : S1x256x512.Idx), Finset.mem_univ _, ?_⟩
  refine (emb _ _ _).trans (Eq.trans ?_ (lead_eq i).symm)
  exact congrArg (fun v => (ix3 0 (i 1) v : S1x256x4096.Idx)) (Fin.ext (div_mod rfl))

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed_eq m c t) cover), (h c).2⟩)
    (Cert.MemoryIdeal.Value.run_blocks (F := Ideal) m ρ)

/-! ## The reference -/

open Cert.MemoryRefIdeal.Read in
theorem ref_apply (a : Vec Ideal Cert.MemoryRefIdeal.S1x256x2048 .bf16) (w : Vec Ideal Cert.MemoryRefIdeal.S8x2048x512 .bf16) (r : Fin 256) (d : Fin 4096) :
    val_main_v5 (F := Ideal) a w (ix3 0 r d) = (∑ k : Fin 2048, a (ix3 0 r k) * val_main_v3 (F := Ideal) w (ix2 k d) : EReal) := by
  pointwise [val_main_v5, val_main_v4, val_main_v0]

open Cert.MemoryRefIdeal.Read in
theorem ref_weight (w : Vec Ideal Cert.MemoryRefIdeal.S8x2048x512 .bf16) (k : Fin 2048) (d : Fin 4096) :
    (val_main_v3 (F := Ideal) w (ix2 k d) : EReal) = w (ix3 (shard d) k (lane d)) := by
  refine (val_main_v3_apply w _).trans ((val_main_v2_apply w _).trans ?_)
  have hk := k.isLt
  have hd := d.isLt
  refine congrArg w (at3 ?_ ?_ ?_)
  · show (k.val * 4096 + d.val) / 512 % 8 = d.val / 512; omega
  · show (k.val * 4096 + d.val) / 4096 = k.val; omega
  · show (k.val * 4096 + d.val) % 512 = d.val % 512; omega

theorem algebraic : Cert.algebraic_MemoryIdeal_MemoryRefIdeal := by
  intro m g m' g' hpre hargs
  refine ⟨fun c => G m c, run m g, ?_⟩
  refine (θ_run Cert.MemoryRefIdeal.defs _ _).mono (fun r h c => ?_) (Cert.MemoryRefIdeal.Value.run (F := Ideal) m' g')
  obtain ⟨e0, e1⟩ := hargs c
  refine ⟨(h c).1.trans ?_, (h c).2⟩
  refine (Cert.MemoryRefIdeal.Read.val_main_v5_eq _ _).trans ?_
  rw [e0, e1]
  funext i
  exact (congrArg _ (lead_eq i)).trans ((ref_apply (AA m c) (BB m c) (i 1) (i 2)).trans
    (Finset.sum_congr rfl fun k _ => congrArg (fun u : EReal => AA m c (ix3 0 (i 1) k) * u) (ref_weight (BB m c) k (i 2))))

theorem frame_ref : Cert.quiescent_MemoryRefIdeal := fun m ρ _ =>
  (θ_run Cert.MemoryRefIdeal.defs _ _).mono (fun r h => ⟨fun c => (h c).2, sem_eq_zero_of_no_sems (by decide) r.2⟩)
    (Cert.MemoryRefIdeal.Value.run (F := Ideal) m ρ)

end Cert.MemoryIdeal.Whole

end
-- ==== Proof.MemoryWgradValue.lean ====
/- The gradient at the weight of the memory's projection: the kernel's result as a whole array, and its
   equality with the reference. -/
module

public import proofs.«01_k».proof.Defs
public import proofs.«01_k».proof.Proof.Products
public import proofs.«01_k».proof.Proof.Gen.MemoryWgradIdeal.Value
public import proofs.«01_k».proof.Proof.Gen.MemoryWgradRefIdeal.Read
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.MemoryWgradIdeal.Whole

open Cert.MemoryWgradIdeal Cert.MemoryWgradIdeal.Gen Cert.Products

variable (m : (ℓ : Loc nD τ sig) → Buf (Elt Ideal) ℓ) (ρ : Dev nD → PrngReg)

abbrev AA (c : Dev nD) : S1x256x2048.Idx → EReal := m ((c : Thread nD τ).loc main_arg0)
abbrev BB (c : Dev nD) : S1x256x4096.Idx → EReal := m ((c : Thread nD τ).loc main_arg1)

/-- Column `e` of shard `s`. -/
def wide (s : Fin 8) (e : Fin 512) : Fin 4096 := at_ 512 8 (by decide) s.val s.isLt e

/-- Column `r` of the memory against column `d` of the cotangent, whose columns go to shards of 512. -/
def G (c : Dev nD) : Buf (Elt Ideal) ((c : Thread nD τ).loc main_v0) := fun i : S8x2048x512.Idx =>
  (∑ k : Fin 256, AA m c (ix3 0 k (i 1)) * BB m c (ix3 0 k (wide (i 0) (i 2))) : EReal)

/-- Which block of each window grid point `t` works on. -/
theorem idx_facts : ∀ t : Fin cfg0.N, (win0_0.index t (0 : Fin 3) = 0 ∧ win0_0.index t (1 : Fin 3) = 0 ∧ win0_0.index t (2 : Fin 3) = t.val / 8)
    ∧ (win0_1.index t (0 : Fin 3) = 0 ∧ win0_1.index t (1 : Fin 3) = 0 ∧ win0_1.index t (2 : Fin 3) = t.val % 8)
    ∧ (win0_2.index t (0 : Fin 3) = t.val % 8 ∧ win0_2.index t (1 : Fin 3) = t.val / 8 ∧ win0_2.index t (2 : Fin 3) = 0) :=
  (by decide +kernel : ∀ t : Fin grid0.N, _)

theorem pay_apply (P0 : Vec Ideal S1x256x1024 .bf16) (P1 : Vec Ideal S1x256x512 .bf16) (r : Fin 1024) (d : Fin 512) :
    k0_pay1 P0 P1 (ix3 0 r d) = (∑ k : Fin 256, P0 (ix3 0 k r) * P1 (ix3 0 k d) : EReal) := by
  pointwise [k0_pay1]

/-- Where row `r` of grid point `t`'s result block lies in the whole array, and in which shard. -/
def row (t : Fin cfg0.N) (r : Fin 1024) : Fin 2048 := at_ 1024 2 (by decide) (t.val / 8) (by have := t.isLt; have : cfg0.N = 16 := N_0; omega) r
def sh (t : Fin cfg0.N) : Fin 8 := ⟨t.val % 8, by omega⟩

theorem iblk0_apply (c : Dev nD) (t : Fin cfg0.N) (r : Fin 1024) (k : Fin 256) :
    iblk m c 0 t (ix3 0 k r : S1x256x1024.Idx) = AA m c (ix3 0 k (row t r)) := by
  have h := (idx_facts t).1
  unfold iblk; rw [View.read_apply]; show V m c main_arg0 _ = AA m c _
  rw [V_main_arg0]
  exact congrArg (AA m c) (at3 (off1 h.1) (off0 h.2.1) (off h.2.2))

theorem iblk1_apply (c : Dev nD) (t : Fin cfg0.N) (d : Fin 512) (k : Fin 256) :
    iblk m c 1 t (ix3 0 k d : S1x256x512.Idx) = BB m c (ix3 0 k (wide (sh t) d)) := by
  have h := (idx_facts t).2.1
  unfold iblk; rw [View.read_apply]; show V m c main_arg1 _ = BB m c _
  rw [V_main_arg1]
  exact congrArg (BB m c) (at3 (off1 h.1) (off0 h.2.1) (off h.2.2))

theorem emb (t : Fin cfg0.N) (r : Fin 1024) (d : Fin 512) :
    (win0_2.blk t).view.emb (ix3 0 r d : S1x1024x512.Idx) = (ix3 (sh t) (row t r) d : S8x2048x512.Idx) :=
  have h := (idx_facts t).2.2
  at3 (off1 h.1) (off h.2.1) (off0 h.2.2)

theorem block_eq (c : Dev nD) (t : Fin cfg0.N) (y : S1x1024x512.Idx) :
    k0_pay1 (F := Ideal) (iblk m c 0 t) (iblk m c 1 t) y = G m c ((win0_2.blk t).view.emb y) := by
  rw [lead_eq y]
  refine (pay_apply _ _ (y 1) (y 2)).trans (Eq.trans ?_ (congrArg (G m c) (emb t (y 1) (y 2)).symm))
  exact Finset.sum_congr rfl fun k _ => congrArg₂ (fun u v : EReal => u * v) (iblk0_apply m c t (y 1) k) (iblk1_apply m c t (y 2) k)

theorem flushed_eq (c : Dev nD) (t : Fin cfg0.N) : (dats m 0 c).flushed 2 t = (win0_2.blk t).view.read (Elt Ideal) (G m c) := by
  rw [Cert.MemoryWgradIdeal.Value.flushed2]
  unfold out0_2
  rw [View.ld_unit_zero hz3, View.ld_unit_zero hz3]
  funext y
  rw [View.read_apply]
  exact (congrFun (View.canon_cons_unit_zero hz3 _ _ _) y).trans (block_eq m c t y)

/-- Every index of the result lies in the block of the grid point of its half of the rows and its shard. -/
theorem cover (i : S8x2048x512.Idx) : ∃ t : Fin cfg0.N, (cfg0.win 2).flush t = true ∧ i ∈ ((cfg0.win 2).blk t).view.set := by
  have h0 : (i 0).val < 8 := (i 0).isLt
  have h1 : (i 1).val < 2048 := (i 1).isLt
  have hN : cfg0.N = 16 := N_0
  refine ⟨⟨(i 1).val / 1024 * 8 + (i 0).val, by omega⟩, flush0_2 _, ?_⟩
  refine Finset.mem_map.2 ⟨(ix3 0 ⟨(i 1).val % 1024, by omega⟩ (i 2) : S1x1024x512.Idx), Finset.mem_univ _, ?_⟩
  refine (emb _ _ _).trans (Eq.trans ?_ (triple_eq i).symm)
  refine congrArg₂ (fun u v => (ix3 u v (i 2) : S8x2048x512.Idx)) (Fin.ext ?_) (Fin.ext (div_mod ?_))
  · show ((i 1).val / 1024 * 8 + (i 0).val) % 8 = (i 0).val; omega
  · show ((i 1).val / 1024 * 8 + (i 0).val) / 8 = (i 1).val / 1024; omega

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed_eq m c t) cover), (h c).2⟩)
    (Cert.MemoryWgradIdeal.Value.run_blocks (F := Ideal) m ρ)

/-! ## The reference -/

open Cert.MemoryWgradRefIdeal.Read in
theorem ref_apply (a : Vec Ideal Cert.MemoryWgradRefIdeal.S1x256x2048 .bf16) (b : Vec Ideal Cert.MemoryWgradRefIdeal.S1x256x4096 .bf16) (r : Fin 2048) (d : Fin 4096) :
    val_main_v7 (F := Ideal) a b (ix2 r d) = (∑ u : Fin 1, ∑ k : Fin 256, b (ix3 u k d) * a (ix3 u k r) : EReal) := by
  pointwise [val_main_v7, val_main_v6, val_main_v5, val_main_v1]

open Cert.MemoryWgradRefIdeal.Read in
theorem ref_shards (a : Vec Ideal Cert.MemoryWgradRefIdeal.S1x256x2048 .bf16) (b : Vec Ideal Cert.MemoryWgradRefIdeal.S1x256x4096 .bf16)
    (s : Fin 8) (r : Fin 2048) (e : Fin 512) :
    (val_main_v10 (F := Ideal) a b (ix3 s r e) : EReal) = val_main_v7 (F := Ideal) a b (ix2 r (wide s e)) := by
  show val_main_v9 (F := Ideal) a b (ix3 s r e) = _
  refine (val_main_v9_apply a b _).trans ((val_main_v8_apply a b _).trans ?_)
  congr 1; funext x; apply Fin.ext
  have hs := s.isLt
  have he := e.isLt
  match x with
  | ⟨0, _⟩ => show ((r.val * 8 + s.val) * 512 + e.val) / 4096 = r.val; omega
  | ⟨1, _⟩ => show ((r.val * 8 + s.val) * 512 + e.val) % 4096 = s.val * 512 + e.val; omega

theorem algebraic : Cert.algebraic_MemoryWgradIdeal_MemoryWgradRefIdeal := by
  intro m g m' g' hpre hargs
  refine ⟨fun c => G m c, run m g, ?_⟩
  refine (θ_run Cert.MemoryWgradRefIdeal.defs _ _).mono (fun r h c => ?_) (Cert.MemoryWgradRefIdeal.Value.run (F := Ideal) m' g')
  obtain ⟨e0, e1⟩ := hargs c
  refine ⟨(h c).1.trans ?_, (h c).2⟩
  refine (Cert.MemoryWgradRefIdeal.Read.val_main_v10_eq _ _).trans ?_
  rw [e0, e1]
  funext i
  refine (congrArg _ (triple_eq i)).trans ((ref_shards (AA m c) (BB m c) (i 0) (i 1) (i 2)).trans
    ((ref_apply (AA m c) (BB m c) (i 1) (wide (i 0) (i 2))).trans ((Fin.sum_univ_one _).trans ?_)))
  exact Finset.sum_congr rfl fun k _ => mul_comm (G := EReal) _ _

theorem frame_ref : Cert.quiescent_MemoryWgradRefIdeal := fun m ρ _ =>
  (θ_run Cert.MemoryWgradRefIdeal.defs _ _).mono (fun r h => ⟨fun c => (h c).2, sem_eq_zero_of_no_sems (by decide) r.2⟩)
    (Cert.MemoryWgradRefIdeal.Value.run (F := Ideal) m ρ)

end Cert.MemoryWgradIdeal.Whole

end
-- ==== Proof.MemoryBackValue.lean ====
/- The gradient through the memory's projection to keys and values: the kernel's result as a whole array, and its
   equality with the reference. -/
module

public import proofs.«01_k».proof.Defs
public import proofs.«01_k».proof.Proof.Products
public import proofs.«01_k».proof.Proof.Gen.MemoryBackIdeal.Value
public import proofs.«01_k».proof.Proof.Gen.MemoryBackRefIdeal.Read
public import Idealize.ShloMosaic.Lib.Pointwise
public import Idealize.ShloMosaic.Lib.Pipeline.ValueKit
public import Idealize.ShloMosaic.Lib.Quiescent

@[expose] public section

noncomputable section

open Idealize.ShloMosaic Idealize.ShloMosaic.TcCoe Idealize.SL.Sem
open Idealize.ShloMosaic.Pipeline (Dat)

namespace Cert.MemoryBackIdeal.Whole

open Cert.MemoryBackIdeal Cert.MemoryBackIdeal.Gen Cert.Products

variable (m : (ℓ : Loc nD τ sig) → Buf (Elt Ideal) ℓ) (ρ : Dev nD → PrngReg)

abbrev AA (c : Dev nD) : S1x256x4096.Idx → EReal := m ((c : Thread nD τ).loc main_arg0)
abbrev BB (c : Dev nD) : S8x2048x512.Idx → EReal := m ((c : Thread nD τ).loc main_arg1)

/-- The shard column `k` lies in, its place there, and the column of a place in a shard. -/
def shard (k : Fin 4096) : Fin 8 := ⟨k.val / 512, by have := k.isLt; omega⟩
def lane (k : Fin 4096) : Fin 512 := ⟨k.val % 512, by omega⟩
def wide (s : Fin 8) (e : Fin 512) : Fin 4096 := at_ 512 8 (by decide) s.val s.isLt e

theorem shard_wide (s : Fin 8) (e : Fin 512) : shard (wide s e) = s :=
  Fin.ext (by have := e.isLt; show (s.val * 512 + e.val) / 512 = s.val; omega)

theorem lane_wide (s : Fin 8) (e : Fin 512) : lane (wide s e) = e :=
  Fin.ext (by have := e.isLt; show (s.val * 512 + e.val) % 512 = e.val; omega)

/-- The cotangent's rows against the weight's, whose columns lie in shards of 512. -/
def G (c : Dev nD) : Buf (Elt Ideal) ((c : Thread nD τ).loc main_v0) := fun i : S1x256x2048.Idx =>
  (∑ k : Fin 4096, AA m c (ix3 0 (i 1) k) * BB m c (ix3 (shard k) (i 2) (lane k)) : EReal)

/-- Grid point `t` works on shard `t % 8` and on half `t / 8` of the result's columns. -/
theorem idx_facts : ∀ t : Fin cfg0.N, (win0_0.index t (0 : Fin 3) = 0 ∧ win0_0.index t (1 : Fin 3) = 0 ∧ win0_0.index t (2 : Fin 3) = t.val % 8)
    ∧ (win0_1.index t (0 : Fin 3) = t.val % 8 ∧ win0_1.index t (1 : Fin 3) = t.val / 8 % 2 ∧ win0_1.index t (2 : Fin 3) = 0)
    ∧ (win0_2.index t (0 : Fin 3) = 0 ∧ win0_2.index t (1 : Fin 3) = 0 ∧ win0_2.index t (2 : Fin 3) = t.val / 8 % 2) :=
  (by decide +kernel : ∀ t : Fin grid0.N, _)

theorem pay_apply (P0 : Vec Ideal S1x256x512 .bf16) (P1 : Vec Ideal S1x1024x512 .bf16) (r : Fin 256) (d : Fin 1024) :
    k0_pay1 P0 P1 (ix2 r d) = (∑ k : Fin 512, P0 (ix3 0 r k) * P1 (ix3 0 d k) : EReal) := by
  unfold k0_pay1
  refine (shapeCast_apply _ _ _ (ix2 r d) rfl).trans ?_
  pointwise

/-- The shard grid point `n` works on, and where column `d` of its result block lies in the whole array. -/
def sh (n : Nat) : Fin 8 := ⟨n % 8, by omega⟩
def col (n : Nat) (d : Fin 1024) : Fin 2048 := at_ 1024 2 (by decide) (n / 8 % 2) (by omega) d

theorem iblk0_apply (c : Dev nD) (t : Fin cfg0.N) (r : Fin 256) (k : Fin 512) :
    iblk m c 0 t (ix3 0 r k : S1x256x512.Idx) = AA m c (ix3 0 r (wide (sh t) k)) := by
  have h := (idx_facts t).1
  unfold iblk; rw [View.read_apply]; show V m c main_arg0 _ = AA m c _
  rw [V_main_arg0]
  exact congrArg (AA m c) (at3 (off1 h.1) (off0 h.2.1) (off h.2.2))

theorem iblk1_apply (c : Dev nD) (t : Fin cfg0.N) (d : Fin 1024) (k : Fin 512) :
    iblk m c 1 t (ix3 0 d k : S1x1024x512.Idx) = BB m c (ix3 (sh t) (col t d) k) := by
  have h := (idx_facts t).2.1
  unfold iblk; rw [View.read_apply]; show V m c main_arg1 _ = BB m c _
  rw [V_main_arg1]
  exact congrArg (BB m c) (at3 (off1 h.1) (off h.2.1) (off0 h.2.2))

theorem emb (t : Fin cfg0.N) (r : Fin 256) (d : Fin 1024) :
    (win0_2.blk t).view.emb (ix3 0 r d : S1x256x1024.Idx) = (ix3 0 r (col t d) : S1x256x2048.Idx) :=
  have h := (idx_facts t).2.2
  at3 (off1 h.1) (off0 h.2.1) (off h.2.2)

/-- The product of grid point `t`'s blocks. -/
def part (c : Dev nD) (t : Fin cfg0.N) : S256x1024.Idx → EReal := k0_pay1 (F := Ideal) (iblk m c 0 t) (iblk m c 1 t)

/-- A cast to the same shape reads the same element. -/
theorem cast_same (x : FVec Ideal S256x1024 .f32) (h) (i : S256x1024.Idx) : (shapeCast S256x1024 x h i : EReal) = x i :=
  shapeCast_apply x h i i rfl

/-- Adding a point's product to what the accumulator holds. -/
theorem pay2_apply (P : Vec Ideal S256x1024 .f32) (P0 : Vec Ideal S1x256x512 .bf16) (P1 : Vec Ideal S1x1024x512 .bf16) (i : S256x1024.Idx) :
    (k0_pay2 (F := Ideal) P P0 P1 i : EReal) = P i + k0_pay1 (F := Ideal) P0 P1 i := by
  unfold k0_pay2 k0_pay1
  refine (cast_same _ _ i).trans (congrArg (fun u : EReal => P i + u) (cast_same _ _ i).symm)

theorem pay3_apply (P : Vec Ideal S256x1024 .f32) (r : Fin 256) (d : Fin 1024) : (k0_pay3 (F := Ideal) P (ix3 0 r d) : EReal) = P (ix2 r d) := by
  pointwise [k0_pay3]

/-! ## The accumulator -/

/-- The accumulator after grid point `t`: the point's product at the first of its eight points, -/
theorem acc_first (c : Dev nD) (t : Fin cfg0.N) (h0 : t.val % 8 = 0) (i : S256x1024.Idx) :
    ((outsAt0 m c t.val t.isLt).2 i : EReal) = part m c t i := by
  rw [outsAt0_A m c t h0 (by omega) (by omega)]
  frame_out
  rfl

/-- and what it held before plus the product at the others; -/
theorem acc_next (c : Dev nD) (t : Fin cfg0.N) (h0 : ¬t.val % 8 = 0) (i : S256x1024.Idx) :
    ((outsAt0 m c t.val t.isLt).2 i : EReal)
      = (outsAt0 m c (t.val - 1) (Nat.lt_of_le_of_lt (Nat.sub_le _ _) t.isLt)).2 i + part m c t i := by
  by_cases h2 : t.val % 8 = 7
  · rw [outsAt0_C m c t h0 (by omega) h2]
    frame_out
    refine (pay2_apply _ _ _ i).trans (congrArg (fun u : EReal => u + _) ?_)
    exact congrFun (Memref.IsWhole.read_unread (Memref.isWhole_whole cc0_scratch0) _) i
  · rw [outsAt0_B m c t h0 (by omega) h2]
    frame_out
    refine (pay2_apply _ _ _ i).trans (congrArg (fun u : EReal => u + _) ?_)
    exact congrFun (Memref.IsWhole.read_unread (Memref.isWhole_whole cc0_scratch0) _) i

/-- the last writes it out. -/
theorem out_last (c : Dev nD) (t : Fin cfg0.N) (h2 : t.val % 8 = 7) : (outsAt0 m c t.val t.isLt).1 = k0_pay3 (F := Ideal) (outsAt0 m c t.val t.isLt).2 := by
  rw [outsAt0_C m c t (by omega) (by omega) h2]
  frame_out

/-- The product of row `r` of the cotangent and row `d` of the weight over shard `s`. -/
def over (c : Dev nD) (r : Fin 256) (d : Fin 2048) (s : Fin 8) : EReal :=
  ∑ k : Fin 512, AA m c (ix3 0 r (wide s k)) * BB m c (ix3 s d k)

theorem G_blocks (c : Dev nD) (r : Fin 256) (d : Fin 2048) : G m c (ix3 0 r d : S1x256x2048.Idx) = ∑ s : Fin 8, over m c r d s := by
  refine (sum_blocks (k := 8) (n := 512) fun k => (AA m c (ix3 0 r k) * BB m c (ix3 (shard k) d (lane k)) : EReal)).trans ?_
  refine Finset.sum_congr rfl fun s _ => Finset.sum_congr rfl fun k _ => congrArg (fun u : EReal => AA m c (ix3 0 r (wide s k)) * u) ?_
  exact congrArg₂ (fun u v => BB m c (ix3 u d v)) (shard_wide s k) (lane_wide s k)

/-- What grid point `n` adds. -/
def added (c : Dev nD) (r : Fin 256) (d : Fin 1024) (n : Nat) : EReal := over m c r (col n d) (sh n)

theorem part_eq (c : Dev nD) (t : Fin cfg0.N) (r : Fin 256) (d : Fin 1024) : part m c t (ix2 r d) = added m c r d t.val := by
  refine (pay_apply _ _ r d).trans ?_
  exact Finset.sum_congr rfl fun k _ => congrArg₂ (fun u v : EReal => u * v) (iblk0_apply m c t r k) (iblk1_apply m c t d k)

/-- The accumulator at one place of its block, after grid point `n`. -/
def acc (c : Dev nD) (r : Fin 256) (d : Fin 1024) (n : Nat) (hn : n < cfg0.N) : EReal := (outsAt0 m c n hn).2 (ix2 r d)

theorem acc_reset (c : Dev nD) (r : Fin 256) (d : Fin 1024) (t : Fin cfg0.N) (h0 : t.val % 8 = 0) :
    acc m c r d t.val t.isLt = 0 + added m c r d t.val :=
  (acc_first m c t h0 (ix2 r d)).trans ((part_eq m c t r d).trans (zero_add (added m c r d t.val)).symm)

theorem acc_step (c : Dev nD) (r : Fin 256) (d : Fin 1024) (t : Fin cfg0.N) (h0 : ¬t.val % 8 = 0) :
    acc m c r d t.val t.isLt = acc m c r d (t.val - 1) (Nat.lt_of_le_of_lt (Nat.sub_le _ _) t.isLt) + added m c r d t.val := by
  rw [← part_eq m c t r d]
  exact acc_next m c t h0 (ix2 r d)

/-- The eight points of a half of the result's columns, each with its shard. -/
theorem added_at (c : Dev nD) (r : Fin 256) (d : Fin 1024) (n k : Nat) (hk : k < 8) :
    added m c r d (8 * (n / 8) + k) = over m c r (col n d) (sh k) := by
  have e1 : col (8 * (n / 8) + k) d = col n d := by
    apply Fin.ext; show (8 * (n / 8) + k) / 8 % 2 * 1024 + d.val = n / 8 % 2 * 1024 + d.val; omega
  have e2 : sh (8 * (n / 8) + k) = sh k := by
    apply Fin.ext; show (8 * (n / 8) + k) % 8 = k % 8; omega
  unfold added; rw [e1, e2]

/-- The accumulator at the last point of a half holds the sum over the eight shards. -/
theorem acc_last (c : Dev nD) (r : Fin 256) (d : Fin 1024) (t : Fin cfg0.N) (h2 : t.val % 8 = 7) :
    acc m c r d t.val t.isLt = ∑ s : Fin 8, over m c r (col t d) s := by
  have h := Pipeline.eq_sum_of_reset_step_of_mod (acc m c r d) 8 0 (added m c r d) (acc_reset m c r d) (acc_step m c r d) t h2
  refine h.trans ?_
  rw [zero_add, Finset.sum_congr rfl fun k hk => added_at m c r d t.val k (Finset.mem_range.1 hk)]
  refine (Finset.sum_range fun k => over m c r (col t d) (sh k)).trans (Finset.sum_congr rfl fun s _ => ?_)
  exact congrArg (over m c r (col t d)) (Fin.ext (Nat.mod_eq_of_lt s.isLt))

theorem acc_G (c : Dev nD) (t : Fin cfg0.N) (r : Fin 256) (d : Fin 1024) (h2 : t.val % 8 = 7) :
    (outsAt0 m c t.val t.isLt).2 (ix2 r d) = G m c (ix3 0 r (col t d) : S1x256x2048.Idx) :=
  (acc_last m c r d t h2).trans (G_blocks m c r (col t d)).symm

theorem block_eq (c : Dev nD) (t : Fin cfg0.N) (h2 : t.val % 8 = 7) (y : S1x256x1024.Idx) :
    k0_pay3 (F := Ideal) (outsAt0 m c t.val t.isLt).2 y = G m c ((win0_2.blk t).view.emb y) := by
  rw [lead_eq y]
  refine (pay3_apply _ (y 1) (y 2)).trans (Eq.trans ?_ (congrArg (G m c) (emb t (y 1) (y 2)).symm))
  exact acc_G m c t (y 1) (y 2) h2

theorem flushed_eq (c : Dev nD) (t : Fin cfg0.N) (hf : (cfg0.win 2).flush t = true) :
    (dats m 0 c).flushed 2 t = (win0_2.blk t).view.read (Elt Ideal) (G m c) := by
  have h2 : t.val % 8 = 7 := (flush0_2 t).mp hf
  have e := block_eq m c t h2
  rw [Cert.MemoryBackIdeal.Value.flushed2, out_last m c t h2]
  generalize k0_pay3 (F := Ideal) (outsAt0 m c t.val t.isLt).2 = X at e ⊢
  generalize G m c = g at e ⊢
  exact funext e

/-- Every index of the result lies in the block written at the last grid point of its columns. -/
theorem cover (i : S1x256x2048.Idx) : ∃ t : Fin cfg0.N, (cfg0.win 2).flush t = true ∧ i ∈ ((cfg0.win 2).blk t).view.set := by
  have h2 : (i 2).val < 2048 := (i 2).isLt
  have hN : cfg0.N = 16 := N_0
  refine ⟨⟨(i 2).val / 1024 * 8 + 7, by omega⟩, (flush0_2 _).mpr (by show ((i 2).val / 1024 * 8 + 7) % 8 = 7; omega), ?_⟩
  refine Finset.mem_map.2 ⟨(ix3 0 (i 1) ⟨(i 2).val % 1024, by omega⟩ : S1x256x1024.Idx), Finset.mem_univ _, ?_⟩
  refine (emb _ _ _).trans (Eq.trans ?_ (lead_eq i).symm)
  refine congrArg (fun v => (ix3 0 (i 1) v : S1x256x2048.Idx)) (Fin.ext (div_mod ?_))
  show ((i 2).val / 1024 * 8 + 7) / 8 % 2 = (i 2).val / 1024; omega

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t hf => flushed_eq m c t hf) cover), (h c).2⟩)
    (Cert.MemoryBackIdeal.Value.run_blocks (F := Ideal) m ρ)

/-! ## The reference -/

open Cert.MemoryBackRefIdeal.Read in
theorem ref_apply (a : Vec Ideal Cert.MemoryBackRefIdeal.S1x256x4096 .bf16) (w : Vec Ideal Cert.MemoryBackRefIdeal.S8x2048x512 .bf16) (r : Fin 256) (d : Fin 2048) :
    val_main_v6 (F := Ideal) a w (ix3 0 r d) = (∑ k : Fin 4096, a (ix3 0 r k) * val_main_v3 (F := Ideal) w (ix2 d k) : EReal) := by
  pointwise [val_main_v6, val_main_v5]

open Cert.MemoryBackRefIdeal.Read in
theorem ref_weight (w : Vec Ideal Cert.MemoryBackRefIdeal.S8x2048x512 .bf16) (d : Fin 2048) (k : Fin 4096) :
    (val_main_v3 (F := Ideal) w (ix2 d k) : EReal) = w (ix3 (shard k) d (lane k)) := by
  refine (val_main_v3_apply w _).trans ((val_main_v2_apply w _).trans ?_)
  have hk := k.isLt
  have hd := d.isLt
  refine congrArg w (at3 ?_ ?_ ?_)
  · show (d.val * 4096 + k.val) / 512 % 8 = k.val / 512; omega
  · show (d.val * 4096 + k.val) / 4096 = d.val; omega
  · show (d.val * 4096 + k.val) % 512 = k.val % 512; omega

theorem algebraic : Cert.algebraic_MemoryBackIdeal_MemoryBackRefIdeal := by
  intro m g m' g' hpre hargs
  refine ⟨fun c => G m c, run m g, ?_⟩
  refine (θ_run Cert.MemoryBackRefIdeal.defs _ _).mono (fun r h c => ?_) (Cert.MemoryBackRefIdeal.Value.run (F := Ideal) m' g')
  obtain ⟨e0, e1⟩ := hargs c
  refine ⟨(h c).1.trans ?_, (h c).2⟩
  refine (Cert.MemoryBackRefIdeal.Read.val_main_v6_eq _ _).trans ?_
  rw [e0, e1]
  funext i
  exact (congrArg _ (lead_eq i)).trans ((ref_apply (AA m c) (BB m c) (i 1) (i 2)).trans
    (Finset.sum_congr rfl fun k _ => congrArg (fun u : EReal => AA m c (ix3 0 (i 1) k) * u) (ref_weight (BB m c) (i 2) k)))

theorem frame_ref : Cert.quiescent_MemoryBackRefIdeal := fun m ρ _ =>
  (θ_run Cert.MemoryBackRefIdeal.defs _ _).mono (fun r h => ⟨fun c => (h c).2, sem_eq_zero_of_no_sems (by decide) r.2⟩)
    (Cert.MemoryBackRefIdeal.Value.run (F := Ideal) m ρ)

end Cert.MemoryBackIdeal.Whole

end
-- ==== Proof.DecayValue.lean ====
/- The decay gate's projection: the kernel's result as a whole array, and its equality with the reference. -/
module

public import proofs.«01_k».proof.Defs
public import proofs.«01_k».proof.Proof.Products
public import proofs.«01_k».proof.Proof.Gen.DecayIdeal.Value
public import proofs.«01_k».proof.Proof.Gen.DecayRefIdeal.Read
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.DecayIdeal.Whole

open Cert.DecayIdeal Cert.DecayIdeal.Gen Cert.Products

variable (m : (ℓ : Loc nD τ sig) → Buf (Elt Ideal) ℓ) (ρ : Dev nD → PrngReg)

abbrev AA (c : Dev nD) : S1x4096x2048.Idx → EReal := m ((c : Thread nD τ).loc main_arg0)
abbrev BB (c : Dev nD) : S1x128x2048.Idx → EReal := m ((c : Thread nD τ).loc main_arg1)

/-- The rows against the weight's rows. -/
def G (c : Dev nD) : Buf (Elt Ideal) ((c : Thread nD τ).loc main_v0) := fun i : S1x4096x128.Idx =>
  (∑ k : Fin 2048, AA m c (ix3 0 (i 1) k) * BB m c (ix3 0 (i 2) k) : EReal)

/-- Grid point `t` works on block `t` of the rows and on the whole weight. -/
theorem idx_facts : ∀ t : Fin cfg0.N, (win0_0.index t (0 : Fin 3) = 0 ∧ win0_0.index t (1 : Fin 3) = t.val ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = t.val ∧ win0_2.index t (2 : Fin 3) = 0) :=
  (by decide +kernel : ∀ t : Fin grid0.N, _)

theorem pay_apply (P0 : Vec Ideal S1x1024x2048 .bf16) (P1 : Vec Ideal S1x128x2048 .bf16) (r : Fin 1024) (d : Fin 128) :
    k0_pay1 P0 P1 (ix3 0 r d) = (∑ k : Fin 2048, P0 (ix3 0 r k) * P1 (ix3 0 d k) : EReal) := by
  pointwise [k0_pay1]

/-- Where row `r` of grid point `t`'s result block lies in the whole array. -/
def row (t : Fin cfg0.N) (r : Fin 1024) : Fin 4096 := at_ 1024 4 (by decide) t.val (lt_of_lt_of_eq t.isLt N_0) r

theorem iblk0_apply (c : Dev nD) (t : Fin cfg0.N) (r : Fin 1024) (k : Fin 2048) :
    iblk m c 0 t (ix3 0 r k : S1x1024x2048.Idx) = AA m c (ix3 0 (row t r) k) := by
  have h := (idx_facts t).1
  unfold iblk; rw [View.read_apply]; show V m c main_arg0 _ = AA m c _
  rw [V_main_arg0]
  exact congrArg (AA m c) (at3 (off1 h.1) (off h.2.1) (off0 h.2.2))

theorem iblk1_apply (c : Dev nD) (t : Fin cfg0.N) (d : Fin 128) (k : Fin 2048) :
    iblk m c 1 t (ix3 0 d k : S1x128x2048.Idx) = BB m c (ix3 0 d k) := by
  have h := (idx_facts t).2.1
  unfold iblk; rw [View.read_apply]; show V m c main_arg1 _ = BB m c _
  rw [V_main_arg1]
  exact congrArg (BB m c) (at3 (off1 h.1) (off0 h.2.1) (off0 h.2.2))

theorem emb (t : Fin cfg0.N) (r : Fin 1024) (d : Fin 128) :
    (win0_2.blk t).view.emb (ix3 0 r d : S1x1024x128.Idx) = (ix3 0 (row t r) d : S1x4096x128.Idx) :=
  have h := (idx_facts t).2.2
  at3 (off1 h.1) (off h.2.1) (off0 h.2.2)

theorem block_eq (c : Dev nD) (t : Fin cfg0.N) (y : S1x1024x128.Idx) :
    k0_pay1 (F := Ideal) (iblk m c 0 t) (iblk m c 1 t) y = G m c ((win0_2.blk t).view.emb y) := by
  rw [lead_eq y]
  refine (pay_apply _ _ (y 1) (y 2)).trans (Eq.trans ?_ (congrArg (G m c) (emb t (y 1) (y 2)).symm))
  exact Finset.sum_congr rfl fun k _ => congrArg₂ (fun u v : EReal => u * v) (iblk0_apply m c t (y 1) k) (iblk1_apply m c t (y 2) k)

theorem flushed_eq (c : Dev nD) (t : Fin cfg0.N) : (dats m 0 c).flushed 2 t = (win0_2.blk t).view.read (Elt Ideal) (G m c) := by
  rw [Cert.DecayIdeal.Value.flushed2]
  unfold out0_2
  rw [View.ld_unit_zero hz3, View.ld_unit_zero hz3]
  funext y
  rw [View.read_apply]
  exact (congrFun (View.canon_cons_unit_zero hz3 _ _ _) y).trans (block_eq m c t y)

/-- Every index of the result lies in the block of the grid point of its rows. -/
theorem cover (i : S1x4096x128.Idx) : ∃ t : Fin cfg0.N, (cfg0.win 2).flush t = true ∧ i ∈ ((cfg0.win 2).blk t).view.set := by
  have h1 : (i 1).val < 4096 := (i 1).isLt
  have hN : cfg0.N = 4 := N_0
  refine ⟨⟨(i 1).val / 1024, by omega⟩, flush0_2 _, ?_⟩
  refine Finset.mem_map.2 ⟨(ix3 0 ⟨(i 1).val % 1024, by omega⟩ (i 2) : S1x1024x128.Idx), Finset.mem_univ _, ?_⟩
  refine (emb _ _ _).trans (Eq.trans ?_ (lead_eq i).symm)
  exact congrArg (fun u => (ix3 0 u (i 2) : S1x4096x128.Idx)) (Fin.ext (div_mod rfl))

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed_eq m c t) cover), (h c).2⟩)
    (Cert.DecayIdeal.Value.run_blocks (F := Ideal) m ρ)

/-! ## The reference -/

open Cert.DecayRefIdeal.Read in
theorem ref_apply (a : Vec Ideal Cert.DecayRefIdeal.S1x4096x2048 .bf16) (w : Vec Ideal Cert.DecayRefIdeal.S1x128x2048 .bf16) (r : Fin 4096) (d : Fin 128) :
    val_main_v4 (F := Ideal) a w (ix3 0 r d) = (∑ k : Fin 2048, a (ix3 0 r k) * w (ix3 0 d k) : EReal) := by
  pointwise [val_main_v4, val_main_v3, val_main_v2, val_main_v1, val_main_v0]

theorem algebraic : Cert.algebraic_DecayIdeal_DecayRefIdeal := by
  intro m g m' g' hpre hargs
  refine ⟨fun c => G m c, run m g, ?_⟩
  refine (θ_run Cert.DecayRefIdeal.defs _ _).mono (fun r h c => ?_) (Cert.DecayRefIdeal.Value.run (F := Ideal) m' g')
  obtain ⟨e0, e1⟩ := hargs c
  refine ⟨(h c).1.trans ?_, (h c).2⟩
  refine (Cert.DecayRefIdeal.Read.val_main_v4_eq _ _).trans ?_
  rw [e0, e1]
  funext i
  exact (congrArg _ (lead_eq i)).trans (ref_apply (AA m c) (BB m c) (i 1) (i 2))

theorem frame_ref : Cert.quiescent_DecayRefIdeal := fun m ρ _ =>
  (θ_run Cert.DecayRefIdeal.defs _ _).mono (fun r h => ⟨fun c => (h c).2, sem_eq_zero_of_no_sems (by decide) r.2⟩)
    (Cert.DecayRefIdeal.Value.run (F := Ideal) m ρ)

end Cert.DecayIdeal.Whole

end
-- ==== Proof.DecayWgradValue.lean ====
/- The gradient at the weight of the decay gate's projection: the kernel's result as a whole array, and its
   equality with the reference. -/
module

public import proofs.«01_k».proof.Defs
public import proofs.«01_k».proof.Proof.Products
public import proofs.«01_k».proof.Proof.Gen.DecayWgradIdeal.Value
public import proofs.«01_k».proof.Proof.Gen.DecayWgradRefIdeal.Read
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.DecayWgradIdeal.Whole

open Cert.DecayWgradIdeal Cert.DecayWgradIdeal.Gen Cert.Products

variable (m : (ℓ : Loc nD τ sig) → Buf (Elt Ideal) ℓ) (ρ : Dev nD → PrngReg)

abbrev AA (c : Dev nD) : S1x4096x128.Idx → EReal := m ((c : Thread nD τ).loc main_arg0)
abbrev BB (c : Dev nD) : S1x4096x2048.Idx → EReal := m ((c : Thread nD τ).loc main_arg1)

/-- Column `r` of the cotangent against column `d` of the input, over all tokens. -/
def G (c : Dev nD) : Buf (Elt Ideal) ((c : Thread nD τ).loc main_v0) := fun i : S1x128x2048.Idx =>
  (∑ k : Fin 4096, AA m c (ix3 0 k (i 1)) * BB m c (ix3 0 k (i 2)) : EReal)

/-- Grid point `t` works on the whole cotangent and on block `t` of the input's columns. -/
theorem idx_facts : ∀ t : Fin cfg0.N, (win0_0.index t (0 : Fin 3) = 0 ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = t.val)
    ∧ (win0_2.index t (0 : Fin 3) = 0 ∧ win0_2.index t (1 : Fin 3) = 0 ∧ win0_2.index t (2 : Fin 3) = t.val) :=
  (by decide +kernel : ∀ t : Fin grid0.N, _)

theorem pay_apply (P0 : Vec Ideal S1x4096x128 .bf16) (P1 : Vec Ideal S1x4096x1024 .bf16) (r : Fin 128) (d : Fin 1024) :
    k0_pay1 P0 P1 (ix3 0 r d) = (∑ k : Fin 4096, P0 (ix3 0 k r) * P1 (ix3 0 k d) : EReal) := by
  pointwise [k0_pay1]

/-- Where column `d` of grid point `t`'s result block lies in the whole array. -/
def col (t : Fin cfg0.N) (d : Fin 1024) : Fin 2048 := at_ 1024 2 (by decide) t.val (lt_of_lt_of_eq t.isLt N_0) d

theorem iblk0_apply (c : Dev nD) (t : Fin cfg0.N) (r : Fin 128) (k : Fin 4096) :
    iblk m c 0 t (ix3 0 k r : S1x4096x128.Idx) = AA m c (ix3 0 k r) := by
  have h := (idx_facts t).1
  unfold iblk; rw [View.read_apply]; show V m c main_arg0 _ = AA m c _
  rw [V_main_arg0]
  exact congrArg (AA m c) (at3 (off1 h.1) (off0 h.2.1) (off0 h.2.2))

theorem iblk1_apply (c : Dev nD) (t : Fin cfg0.N) (d : Fin 1024) (k : Fin 4096) :
    iblk m c 1 t (ix3 0 k d : S1x4096x1024.Idx) = BB m c (ix3 0 k (col t d)) := by
  have h := (idx_facts t).2.1
  unfold iblk; rw [View.read_apply]; show V m c main_arg1 _ = BB m c _
  rw [V_main_arg1]
  exact congrArg (BB m c) (at3 (off1 h.1) (off0 h.2.1) (off h.2.2))

theorem emb (t : Fin cfg0.N) (r : Fin 128) (d : Fin 1024) :
    (win0_2.blk t).view.emb (ix3 0 r d : S1x128x1024.Idx) = (ix3 0 r (col t d) : S1x128x2048.Idx) :=
  have h := (idx_facts t).2.2
  at3 (off1 h.1) (off0 h.2.1) (off h.2.2)

theorem block_eq (c : Dev nD) (t : Fin cfg0.N) (y : S1x128x1024.Idx) :
    k0_pay1 (F := Ideal) (iblk m c 0 t) (iblk m c 1 t) y = G m c ((win0_2.blk t).view.emb y) := by
  rw [lead_eq y]
  refine (pay_apply _ _ (y 1) (y 2)).trans (Eq.trans ?_ (congrArg (G m c) (emb t (y 1) (y 2)).symm))
  exact Finset.sum_congr rfl fun k _ => congrArg₂ (fun u v : EReal => u * v) (iblk0_apply m c t (y 1) k) (iblk1_apply m c t (y 2) k)

theorem flushed_eq (c : Dev nD) (t : Fin cfg0.N) : (dats m 0 c).flushed 2 t = (win0_2.blk t).view.read (Elt Ideal) (G m c) := by
  rw [Cert.DecayWgradIdeal.Value.flushed2]
  unfold out0_2
  rw [View.ld_unit_zero hz3, View.ld_unit_zero hz3]
  funext y
  rw [View.read_apply]
  exact (congrFun (View.canon_cons_unit_zero hz3 _ _ _) y).trans (block_eq m c t y)

/-- Every index of the result lies in the block of the grid point of its columns. -/
theorem cover (i : S1x128x2048.Idx) : ∃ t : Fin cfg0.N, (cfg0.win 2).flush t = true ∧ i ∈ ((cfg0.win 2).blk t).view.set := by
  have h2 : (i 2).val < 2048 := (i 2).isLt
  have hN : cfg0.N = 2 := N_0
  refine ⟨⟨(i 2).val / 1024, by omega⟩, flush0_2 _, ?_⟩
  refine Finset.mem_map.2 ⟨(ix3 0 (i 1) ⟨(i 2).val % 1024, by omega⟩ : S1x128x1024.Idx), Finset.mem_univ _, ?_⟩
  refine (emb _ _ _).trans (Eq.trans ?_ (lead_eq i).symm)
  exact congrArg (fun v => (ix3 0 (i 1) v : S1x128x2048.Idx)) (Fin.ext (div_mod rfl))

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 (G m c) (fun t _ => flushed_eq m c t) cover), (h c).2⟩)
    (Cert.DecayWgradIdeal.Value.run_blocks (F := Ideal) m ρ)

/-! ## The reference -/

open Cert.DecayWgradRefIdeal.Read in
theorem ref_apply (a : Vec Ideal Cert.DecayWgradRefIdeal.S1x4096x128 .bf16) (b : Vec Ideal Cert.DecayWgradRefIdeal.S1x4096x2048 .bf16) (r : Fin 128) (d : Fin 2048) :
    val_main_v10 (F := Ideal) a b (ix3 0 r d) = (∑ u : Fin 1, ∑ k : Fin 4096, a (ix3 u k r) * b (ix3 u k d) : EReal) := by
  pointwise [val_main_v10, val_main_v9, val_main_v8, val_main_v7, val_main_v6, val_main_v5, val_main_v1]

theorem algebraic : Cert.algebraic_DecayWgradIdeal_DecayWgradRefIdeal := by
  intro m g m' g' hpre hargs
  refine ⟨fun c => G m c, run m g, ?_⟩
  refine (θ_run Cert.DecayWgradRefIdeal.defs _ _).mono (fun r h c => ?_) (Cert.DecayWgradRefIdeal.Value.run (F := Ideal) m' g')
  obtain ⟨e0, e1⟩ := hargs c
  refine ⟨(h c).1.trans ?_, (h c).2⟩
  refine (Cert.DecayWgradRefIdeal.Read.val_main_v10_eq _ _).trans ?_
  rw [e0, e1]
  funext i
  exact (congrArg _ (lead_eq i)).trans ((ref_apply (AA m c) (BB m c) (i 1) (i 2)).trans (Fin.sum_univ_one _))

theorem frame_ref : Cert.quiescent_DecayWgradRefIdeal := fun m ρ _ =>
  (θ_run Cert.DecayWgradRefIdeal.defs _ _).mono (fun r h => ⟨fun c => (h c).2, sem_eq_zero_of_no_sems (by decide) r.2⟩)
    (Cert.DecayWgradRefIdeal.Value.run (F := Ideal) m ρ)

end Cert.DecayWgradIdeal.Whole

end
-- ==== Proof.DecayBackValue.lean ====
/- The gradient through the decay gate's projection, added to the rest of the gradient: the kernel's result as a whole array,
   and its equality with the reference. -/
module

public import proofs.«01_k».proof.Defs
public import proofs.«01_k».proof.Proof.Products
public import proofs.«01_k».proof.Proof.Gen.DecayBackIdeal.Value
public import proofs.«01_k».proof.Proof.Gen.DecayBackRefIdeal.Read
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.DecayBackIdeal.Whole

open Cert.DecayBackIdeal Cert.DecayBackIdeal.Gen Cert.Products

variable (m : (ℓ : Loc nD τ sig) → Buf (Elt Ideal) ℓ) (ρ : Dev nD → PrngReg)

abbrev AA (c : Dev nD) : S1x4096x128.Idx → EReal := m ((c : Thread nD τ).loc main_arg0)
abbrev BB (c : Dev nD) : S1x128x2048.Idx → EReal := m ((c : Thread nD τ).loc main_arg1)
abbrev XX (c : Dev nD) : S1x4096x2048.Idx → EReal := m ((c : Thread nD τ).loc main_arg2)

/-- The rest of the gradient plus the rows times the weight. -/
def G (c : Dev nD) : Buf (Elt Ideal) ((c : Thread nD τ).loc main_v0) := fun i : S1x4096x2048.Idx =>
  (XX m c i + ∑ k : Fin 128, AA m c (ix3 0 (i 1) k) * BB m c (ix3 0 k (i 2)) : EReal)

/-- Which block of each window grid point `t` works on. -/
theorem idx_facts : ∀ t : Fin cfg0.N, (win0_0.index t (0 : Fin 3) = 0 ∧ win0_0.index t (1 : Fin 3) = t.val / 2 ∧ win0_0.index t (2 : Fin 3) = 0)
    ∧ (win0_1.index t (0 : Fin 3) = 0 ∧ win0_1.index t (1 : Fin 3) = 0 ∧ win0_1.index t (2 : Fin 3) = t.val % 2)
    ∧ (win0_2.index t (0 : Fin 3) = 0 ∧ win0_2.index t (1 : Fin 3) = t.val / 2 ∧ win0_2.index t (2 : Fin 3) = t.val % 2)
    ∧ (win0_3.index t (0 : Fin 3) = 0 ∧ win0_3.index t (1 : Fin 3) = t.val / 2 ∧ win0_3.index t (2 : Fin 3) = t.val % 2) :=
  (by decide +kernel : ∀ t : Fin grid0.N, _)

theorem pay_apply (P0 : Vec Ideal S1x1024x128 .bf16) (P1 : Vec Ideal S1x128x1024 .bf16) (P2 : Vec Ideal S1x1024x1024 .f32) (r : Fin 1024) (d : Fin 1024) :
    k0_pay1 P0 P1 P2 (ix3 0 r d) = ((∑ k : Fin 128, P0 (ix3 0 r k) * P1 (ix3 0 k d)) + P2 (ix3 0 r d) : EReal) := by
  pointwise [k0_pay1]

/-- Where row `r`, column `d` of grid point `t`'s result block lies in the whole array. -/
def row (t : Fin cfg0.N) (r : Fin 1024) : Fin 4096 := at_ 1024 4 (by decide) (t.val / 2) (by have := t.isLt; have : cfg0.N = 8 := N_0; omega) r
def col (t : Fin cfg0.N) (d : Fin 1024) : Fin 2048 := at_ 1024 2 (by decide) (t.val % 2) (by omega) d

theorem iblk0_apply (c : Dev nD) (t : Fin cfg0.N) (r : Fin 1024) (k : Fin 128) :
    iblk m c 0 t (ix3 0 r k : S1x1024x128.Idx) = AA m c (ix3 0 (row t r) k) := by
  have h := (idx_facts t).1
  unfold iblk; rw [View.read_apply]; show V m c main_arg0 _ = AA m c _
  rw [V_main_arg0]
  exact congrArg (AA m c) (at3 (off1 h.1) (off h.2.1) (off0 h.2.2))

theorem iblk1_apply (c : Dev nD) (t : Fin cfg0.N) (d : Fin 1024) (k : Fin 128) :
    iblk m c 1 t (ix3 0 k d : S1x128x1024.Idx) = BB m c (ix3 0 k (col t d)) := by
  have h := (idx_facts t).2.1
  unfold iblk; rw [View.read_apply]; show V m c main_arg1 _ = BB m c _
  rw [V_main_arg1]
  exact congrArg (BB m c) (at3 (off1 h.1) (off0 h.2.1) (off h.2.2))

theorem iblk2_apply (c : Dev nD) (t : Fin cfg0.N) (r d : Fin 1024) :
    iblk m c 2 t (ix3 0 r d : S1x1024x1024.Idx) = XX m c (ix3 0 (row t r) (col t d)) := by
  have h := (idx_facts t).2.2.1
  unfold iblk; rw [View.read_apply]; show V m c main_arg2 _ = XX m c _
  rw [V_main_arg2]
  exact congrArg (XX m c) (at3 (off1 h.1) (off h.2.1) (off h.2.2))

theorem emb (t : Fin cfg0.N) (r : Fin 1024) (d : Fin 1024) :
    (win0_3.blk t).view.emb (ix3 0 r d : S1x1024x1024.Idx) = (ix3 0 (row t r) (col t d) : S1x4096x2048.Idx) :=
  have h := (idx_facts t).2.2.2
  at3 (off1 h.1) (off h.2.1) (off h.2.2)

theorem block_eq (c : Dev nD) (t : Fin cfg0.N) (y : S1x1024x1024.Idx) :
    k0_pay1 (F := Ideal) (iblk m c 0 t) (iblk m c 1 t) (iblk m c 2 t) y = G m c ((win0_3.blk t).view.emb y) := by
  rw [lead_eq y]
  refine (pay_apply _ _ _ (y 1) (y 2)).trans (Eq.trans ?_ (congrArg (G m c) (emb t (y 1) (y 2)).symm))
  refine (add_comm (G := EReal) _ _).trans (congrArg₂ (fun u v : EReal => u + v) (iblk2_apply m c t (y 1) (y 2)) ?_)
  exact Finset.sum_congr rfl fun k _ => congrArg₂ (fun u v : EReal => u * v) (iblk0_apply m c t (y 1) k) (iblk1_apply m c t (y 2) k)

theorem flushed_eq (c : Dev nD) (t : Fin cfg0.N) : (dats m 0 c).flushed 3 t = (win0_3.blk t).view.read (Elt Ideal) (G m c) := by
  rw [Cert.DecayBackIdeal.Value.flushed3]
  unfold out0_3
  rw [View.ld_unit_zero hz3, View.ld_unit_zero hz3, View.ld_unit_zero hz3]
  funext y
  rw [View.read_apply]
  exact (congrFun (View.canon_cons_unit_zero hz3 _ _ _) y).trans (block_eq m c t y)

/-- Every index of the result lies in the block of the grid point of its rows and columns. -/
theorem cover (i : S1x4096x2048.Idx) : ∃ t : Fin cfg0.N, (cfg0.win 3).flush t = true ∧ i ∈ ((cfg0.win 3).blk t).view.set := by
  have h1 : (i 1).val < 4096 := (i 1).isLt
  have h2 : (i 2).val < 2048 := (i 2).isLt
  have hN : cfg0.N = 8 := N_0
  refine ⟨⟨(i 1).val / 1024 * 2 + (i 2).val / 1024, by omega⟩, flush0_3 _, ?_⟩
  refine Finset.mem_map.2 ⟨(ix3 0 ⟨(i 1).val % 1024, by omega⟩ ⟨(i 2).val % 1024, by omega⟩ : S1x1024x1024.Idx), Finset.mem_univ _, ?_⟩
  refine (emb _ _ _).trans (Eq.trans ?_ (lead_eq i).symm)
  refine congrArg₂ (fun u v => (ix3 0 u v : S1x4096x2048.Idx)) (Fin.ext (div_mod ?_)) (Fin.ext (div_mod ?_))
  · show ((i 1).val / 1024 * 2 + (i 2).val / 1024) / 2 = (i 1).val / 1024; omega
  · show ((i 1).val / 1024 * 2 + (i 2).val / 1024) % 2 = (i 2).val / 1024; omega

/-- The kernel's run with its result named. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 (G m c) (fun t _ => flushed_eq m c t) cover), (h c).2⟩)
    (Cert.DecayBackIdeal.Value.run_blocks (F := Ideal) m ρ)

/-! ## The reference -/

open Cert.DecayBackRefIdeal.Read in
theorem ref_apply (a : Vec Ideal Cert.DecayBackRefIdeal.S1x4096x128 .bf16) (w : Vec Ideal Cert.DecayBackRefIdeal.S1x128x2048 .bf16)
    (x : Vec Ideal Cert.DecayBackRefIdeal.S1x4096x2048 .f32) (r : Fin 4096) (d : Fin 2048) :
    val_main_v7 (F := Ideal) a w x (ix3 0 r d) = (x (ix3 0 r d) + ∑ k : Fin 128, a (ix3 0 r k) * w (ix3 0 k d) : EReal) := by
  pointwise [val_main_v7, val_main_v6, val_main_v5, val_main_v3, val_main_v2, val_main_v1]

theorem algebraic : Cert.algebraic_DecayBackIdeal_DecayBackRefIdeal := by
  intro m g m' g' hpre hargs
  refine ⟨fun c => G m c, run m g, ?_⟩
  refine (θ_run Cert.DecayBackRefIdeal.defs _ _).mono (fun r h c => ?_) (Cert.DecayBackRefIdeal.Value.run (F := Ideal) m' g')
  obtain ⟨e0, e1, e2⟩ := hargs c
  refine ⟨(h c).1.trans ?_, (h c).2⟩
  refine (Cert.DecayBackRefIdeal.Read.val_main_v7_eq _ _ _).trans ?_
  rw [e0, e1, e2]
  funext i
  exact (congrArg _ (lead_eq i)).trans ((ref_apply (AA m c) (BB m c) (XX m c) (i 1) (i 2)).trans
    (congrArg (fun u : EReal => u + _) (congrArg (XX m c) (lead_eq i).symm)))

theorem frame_ref : Cert.quiescent_DecayBackRefIdeal := fun m ρ _ =>
  (θ_run Cert.DecayBackRefIdeal.defs _ _).mono (fun r h => ⟨fun c => (h c).2, sem_eq_zero_of_no_sems (by decide) r.2⟩)
    (Cert.DecayBackRefIdeal.Value.run (F := Ideal) m ρ)

end Cert.DecayBackIdeal.Whole

end
-- ==== Proof.lean ====
module

public import proofs.«01_k».proof.Defs
public import proofs.«01_k».proof.Proof.DactValue
public import proofs.«01_k».proof.Proof.FoxClaims
public import proofs.«01_k».proof.Proof.FoxAlgebraic
public import proofs.«01_k».proof.Proof.Gen.Fox.Frame
public import proofs.«01_k».proof.Proof.Gen.Dact.Frame
public import proofs.«01_k».proof.Proof.Gen.Pre_finite_fox
public import proofs.«01_k».proof.Proof.Gen.Pre_finite_dact
public import proofs.«01_k».proof.Proof.DwValue
public import proofs.«01_k».proof.Proof.DhValue
public import proofs.«01_k».proof.Proof.UpValue
public import proofs.«01_k».proof.Proof.DownValue
public import proofs.«01_k».proof.Proof.Gen.Dw.Frame
public import proofs.«01_k».proof.Proof.Gen.Dh.Frame
public import proofs.«01_k».proof.Proof.Gen.Up.Frame
public import proofs.«01_k».proof.Proof.Gen.Down.Frame
public import proofs.«01_k».proof.Proof.BackValue
public import proofs.«01_k».proof.Proof.Gen.Back.Frame
public import proofs.«01_k».proof.Proof.BackFullValue
public import proofs.«01_k».proof.Proof.Gen.BackFull.Frame
public import proofs.«01_k».proof.Proof.WgradValue
public import proofs.«01_k».proof.Proof.Gen.Wgrad.Frame
public import proofs.«01_k».proof.Proof.ProjValue
public import proofs.«01_k».proof.Proof.Gen.Proj.Frame
public import proofs.«01_k».proof.Proof.QueryValue
public import proofs.«01_k».proof.Proof.Gen.Query.Frame
public import proofs.«01_k».proof.Proof.QkvValue
public import proofs.«01_k».proof.Proof.Gen.Qkv.Frame
public import proofs.«01_k».proof.Proof.QkvWgradValue
public import proofs.«01_k».proof.Proof.Gen.QkvWgrad.Frame
public import proofs.«01_k».proof.Proof.QkvBackValue
public import proofs.«01_k».proof.Proof.Gen.QkvBack.Frame
public import proofs.«01_k».proof.Proof.EvenValue
public import proofs.«01_k».proof.Proof.Gen.Even.Frame
public import proofs.«01_k».proof.Proof.EvenWgradValue
public import proofs.«01_k».proof.Proof.Gen.EvenWgrad.Frame
public import proofs.«01_k».proof.Proof.EvenBackValue
public import proofs.«01_k».proof.Proof.Gen.EvenBack.Frame
public import proofs.«01_k».proof.Proof.MemoryValue
public import proofs.«01_k».proof.Proof.Gen.Memory.Frame
public import proofs.«01_k».proof.Proof.MemoryWgradValue
public import proofs.«01_k».proof.Proof.Gen.MemoryWgrad.Frame
public import proofs.«01_k».proof.Proof.MemoryBackValue
public import proofs.«01_k».proof.Proof.Gen.MemoryBack.Frame
public import proofs.«01_k».proof.Proof.DecayValue
public import proofs.«01_k».proof.Proof.Gen.Decay.Frame
public import proofs.«01_k».proof.Proof.DecayWgradValue
public import proofs.«01_k».proof.Proof.Gen.DecayWgrad.Frame
public import proofs.«01_k».proof.Proof.DecayBackValue
public import proofs.«01_k».proof.Proof.Gen.DecayBack.Frame

@[expose] public section

noncomputable section

namespace Cert.Proof

open Idealize.ShloMosaic Idealize.SL.Sem

theorem claim : Cert.Claim :=
  ⟨Cert.Fox.Gen.facts, Cert.FoxIdeal.Gen.facts, Cert.FoxRefIdeal.Gen.facts,
    Cert.Dact.Gen.facts, Cert.DactIdeal.Gen.facts, Cert.DactRefIdeal.Gen.facts,
    Cert.Dw.Gen.facts, Cert.DwIdeal.Gen.facts, Cert.DwRefIdeal.Gen.facts, Cert.DwGateRefIdeal.Gen.facts,
    Cert.Dh.Gen.facts, Cert.DhIdeal.Gen.facts, Cert.DhRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Back.Gen.facts, Cert.BackIdeal.Gen.facts, Cert.BackRefIdeal.Gen.facts,
    Cert.BackFull.Gen.facts, Cert.BackFullIdeal.Gen.facts, Cert.BackFullRefIdeal.Gen.facts,
    Cert.Wgrad.Gen.facts, Cert.WgradIdeal.Gen.facts, Cert.WgradRefIdeal.Gen.facts,
    Cert.Proj.Gen.facts, Cert.ProjIdeal.Gen.facts, Cert.ProjRefIdeal.Gen.facts,
    Cert.Query.Gen.facts, Cert.QueryIdeal.Gen.facts, Cert.QueryRefIdeal.Gen.facts,
    Cert.Qkv.Gen.facts, Cert.QkvIdeal.Gen.facts, Cert.QkvRefIdeal.Gen.facts,
    Cert.QkvWgrad.Gen.facts, Cert.QkvWgradIdeal.Gen.facts, Cert.QkvWgradRefIdeal.Gen.facts,
    Cert.QkvBack.Gen.facts, Cert.QkvBackIdeal.Gen.facts, Cert.QkvBackRefIdeal.Gen.facts,
    Cert.Even.Gen.facts, Cert.EvenIdeal.Gen.facts, Cert.EvenRefIdeal.Gen.facts,
    Cert.EvenWgrad.Gen.facts, Cert.EvenWgradIdeal.Gen.facts, Cert.EvenWgradRefIdeal.Gen.facts,
    Cert.EvenBack.Gen.facts, Cert.EvenBackIdeal.Gen.facts, Cert.EvenBackRefIdeal.Gen.facts,
    Cert.Memory.Gen.facts, Cert.MemoryIdeal.Gen.facts, Cert.MemoryRefIdeal.Gen.facts,
    Cert.MemoryWgrad.Gen.facts, Cert.MemoryWgradIdeal.Gen.facts, Cert.MemoryWgradRefIdeal.Gen.facts,
    Cert.MemoryBack.Gen.facts, Cert.MemoryBackIdeal.Gen.facts, Cert.MemoryBackRefIdeal.Gen.facts,
    Cert.Decay.Gen.facts, Cert.DecayIdeal.Gen.facts, Cert.DecayRefIdeal.Gen.facts,
    Cert.DecayWgrad.Gen.facts, Cert.DecayWgradIdeal.Gen.facts, Cert.DecayWgradRefIdeal.Gen.facts,
    Cert.DecayBack.Gen.facts, Cert.DecayBackIdeal.Gen.facts, Cert.DecayBackRefIdeal.Gen.facts,
    Cert.Pre_finite_fox.Gen.facts, Cert.Pre_finite_dact.Gen.facts,
    Cert.FoxIdeal.Whole.frame_kernel, Cert.FoxIdeal.Whole.frame_ideal, Cert.FoxIdeal.Whole.frame_ideal_pre,
    Cert.FoxIdeal.Whole.frame_ref, Cert.FoxIdeal.Whole.frame_ref_pre,
    fun m ρ _ => Cert.Dact.Gen.frame m ρ, fun m ρ _ => Cert.DactIdeal.Gen.frame m ρ, fun m ρ _ => Cert.DactIdeal.Gen.frame m ρ,
    Cert.DactIdeal.Whole.frame_ref, Cert.DactIdeal.Whole.frame_ref_pre,
    fun m ρ _ => Cert.Dw.Gen.frame m ρ, fun m ρ _ => Cert.DwIdeal.Gen.frame m ρ, Cert.DwIdeal.Whole.frame_ref_down, Cert.DwIdeal.Whole.frame_ref_gate,
    fun m ρ _ => Cert.Dh.Gen.frame m ρ, fun m ρ _ => Cert.DhIdeal.Gen.frame m ρ, Cert.DhIdeal.Whole.frame_ref,
    fun m ρ _ => Cert.Up.Gen.frame m ρ, fun m ρ _ => Cert.UpIdeal.Gen.frame m ρ, Cert.UpIdeal.Whole.frame_ref,
    fun m ρ _ => Cert.Down.Gen.frame m ρ, fun m ρ _ => Cert.DownIdeal.Gen.frame m ρ, Cert.DownIdeal.Whole.frame_ref,
    fun m ρ _ => Cert.Back.Gen.frame m ρ, fun m ρ _ => Cert.BackIdeal.Gen.frame m ρ, Cert.BackIdeal.Whole.frame_ref,
    fun m ρ _ => Cert.BackFull.Gen.frame m ρ, fun m ρ _ => Cert.BackFullIdeal.Gen.frame m ρ, Cert.BackFullIdeal.Whole.frame_ref,
    fun m ρ _ => Cert.Wgrad.Gen.frame m ρ, fun m ρ _ => Cert.WgradIdeal.Gen.frame m ρ, Cert.WgradIdeal.Whole.frame_ref,
    fun m ρ _ => Cert.Proj.Gen.frame m ρ, fun m ρ _ => Cert.ProjIdeal.Gen.frame m ρ, Cert.ProjIdeal.Whole.frame_ref,
    fun m ρ _ => Cert.Query.Gen.frame m ρ, fun m ρ _ => Cert.QueryIdeal.Gen.frame m ρ, Cert.QueryIdeal.Whole.frame_ref,
    fun m ρ _ => Cert.Qkv.Gen.frame m ρ, fun m ρ _ => Cert.QkvIdeal.Gen.frame m ρ, Cert.QkvIdeal.Whole.frame_ref,
    fun m ρ _ => Cert.QkvWgrad.Gen.frame m ρ, fun m ρ _ => Cert.QkvWgradIdeal.Gen.frame m ρ, Cert.QkvWgradIdeal.Whole.frame_ref,
    fun m ρ _ => Cert.QkvBack.Gen.frame m ρ, fun m ρ _ => Cert.QkvBackIdeal.Gen.frame m ρ, Cert.QkvBackIdeal.Whole.frame_ref,
    fun m ρ _ => Cert.Even.Gen.frame m ρ, fun m ρ _ => Cert.EvenIdeal.Gen.frame m ρ, Cert.EvenIdeal.Whole.frame_ref,
    fun m ρ _ => Cert.EvenWgrad.Gen.frame m ρ, fun m ρ _ => Cert.EvenWgradIdeal.Gen.frame m ρ, Cert.EvenWgradIdeal.Whole.frame_ref,
    fun m ρ _ => Cert.EvenBack.Gen.frame m ρ, fun m ρ _ => Cert.EvenBackIdeal.Gen.frame m ρ, Cert.EvenBackIdeal.Whole.frame_ref,
    fun m ρ _ => Cert.Memory.Gen.frame m ρ, fun m ρ _ => Cert.MemoryIdeal.Gen.frame m ρ, Cert.MemoryIdeal.Whole.frame_ref,
    fun m ρ _ => Cert.MemoryWgrad.Gen.frame m ρ, fun m ρ _ => Cert.MemoryWgradIdeal.Gen.frame m ρ, Cert.MemoryWgradIdeal.Whole.frame_ref,
    fun m ρ _ => Cert.MemoryBack.Gen.frame m ρ, fun m ρ _ => Cert.MemoryBackIdeal.Gen.frame m ρ, Cert.MemoryBackIdeal.Whole.frame_ref,
    fun m ρ _ => Cert.Decay.Gen.frame m ρ, fun m ρ _ => Cert.DecayIdeal.Gen.frame m ρ, Cert.DecayIdeal.Whole.frame_ref,
    fun m ρ _ => Cert.DecayWgrad.Gen.frame m ρ, fun m ρ _ => Cert.DecayWgradIdeal.Gen.frame m ρ, Cert.DecayWgradIdeal.Whole.frame_ref,
    fun m ρ _ => Cert.DecayBack.Gen.frame m ρ, fun m ρ _ => Cert.DecayBackIdeal.Gen.frame m ρ, Cert.DecayBackIdeal.Whole.frame_ref,
    trivial, Cert.FoxIdeal.Whole.algebraic, trivial, Cert.DactIdeal.Whole.algebraic,
    trivial, Cert.DwIdeal.Whole.algebraic_down, Cert.DwIdeal.Whole.algebraic_gate, trivial, Cert.DhIdeal.Whole.algebraic,
    trivial, Cert.UpIdeal.Whole.algebraic, trivial, Cert.DownIdeal.Whole.algebraic,
    trivial, Cert.BackIdeal.Whole.algebraic, trivial, Cert.BackFullIdeal.Whole.algebraic,
    trivial, Cert.WgradIdeal.Whole.algebraic, trivial, Cert.ProjIdeal.Whole.algebraic,
    trivial, Cert.QueryIdeal.Whole.algebraic, trivial, Cert.QkvIdeal.Whole.algebraic,
    trivial, Cert.QkvWgradIdeal.Whole.algebraic, trivial, Cert.QkvBackIdeal.Whole.algebraic,
    trivial, Cert.EvenIdeal.Whole.algebraic, trivial, Cert.EvenWgradIdeal.Whole.algebraic,
    trivial, Cert.EvenBackIdeal.Whole.algebraic, trivial, Cert.MemoryIdeal.Whole.algebraic,
    trivial, Cert.MemoryWgradIdeal.Whole.algebraic, trivial, Cert.MemoryBackIdeal.Whole.algebraic,
    trivial, Cert.DecayIdeal.Whole.algebraic, trivial, Cert.DecayWgradIdeal.Whole.algebraic,
    trivial, Cert.DecayBackIdeal.Whole.algebraic⟩

end Cert.Proof

end
